-- ==== Defs.lean ====
def Pre_DownLoss (m : (ℓ : Loc Cert.DownLoss.nD Cert.DownLoss.τ Cert.DownLoss.sig) → Buf (Elt Bits) ℓ) : Prop :=
  True

def Pre_DownLossIdeal (m : (ℓ : Loc Cert.DownLossIdeal.nD Cert.DownLossIdeal.τ Cert.DownLossIdeal.sig) → Buf (Elt Ideal) ℓ) : Prop :=
  True

def Pre_DownLossIdeal_down_finite [hPre_down_finite : Cert.Pre_down_finite.Facts] (m : (ℓ : Loc Cert.DownLossIdeal.nD Cert.DownLossIdeal.τ Cert.DownLossIdeal.sig) → Buf (Elt Ideal) ℓ) : Prop :=
  ∀ c : Dev Cert.DownLossIdeal.nD,
    (Cert.Pre_down_finite.fn (F := Ideal) (m ((c.tc : Thread Cert.DownLossIdeal.nD Cert.DownLossIdeal.τ).loc Cert.DownLossIdeal.main_arg0)) (m ((c.tc : Thread Cert.DownLossIdeal.nD Cert.DownLossIdeal.τ).loc Cert.DownLossIdeal.main_arg1)) (m ((c.tc : Thread Cert.DownLossIdeal.nD Cert.DownLossIdeal.τ).loc Cert.DownLossIdeal.main_arg2)) (m ((c.tc : Thread Cert.DownLossIdeal.nD Cert.DownLossIdeal.τ).loc Cert.DownLossIdeal.main_arg3)) (m ((c.tc : Thread Cert.DownLossIdeal.nD Cert.DownLossIdeal.τ).loc Cert.DownLossIdeal.main_arg4))).1 = (fun _ => 1#1)
    ∧ (Cert.Pre_down_finite.fn (F := Ideal) (m ((c.tc : Thread Cert.DownLossIdeal.nD Cert.DownLossIdeal.τ).loc Cert.DownLossIdeal.main_arg0)) (m ((c.tc : Thread Cert.DownLossIdeal.nD Cert.DownLossIdeal.τ).loc Cert.DownLossIdeal.main_arg1)) (m ((c.tc : Thread Cert.DownLossIdeal.nD Cert.DownLossIdeal.τ).loc Cert.DownLossIdeal.main_arg2)) (m ((c.tc : Thread Cert.DownLossIdeal.nD Cert.DownLossIdeal.τ).loc Cert.DownLossIdeal.main_arg3)) (m ((c.tc : Thread Cert.DownLossIdeal.nD Cert.DownLossIdeal.τ).loc Cert.DownLossIdeal.main_arg4))).2.1 = (fun _ => 1#1)
    ∧ (Cert.Pre_down_finite.fn (F := Ideal) (m ((c.tc : Thread Cert.DownLossIdeal.nD Cert.DownLossIdeal.τ).loc Cert.DownLossIdeal.main_arg0)) (m ((c.tc : Thread Cert.DownLossIdeal.nD Cert.DownLossIdeal.τ).loc Cert.DownLossIdeal.main_arg1)) (m ((c.tc : Thread Cert.DownLossIdeal.nD Cert.DownLossIdeal.τ).loc Cert.DownLossIdeal.main_arg2)) (m ((c.tc : Thread Cert.DownLossIdeal.nD Cert.DownLossIdeal.τ).loc Cert.DownLossIdeal.main_arg3)) (m ((c.tc : Thread Cert.DownLossIdeal.nD Cert.DownLossIdeal.τ).loc Cert.DownLossIdeal.main_arg4))).2.2.1 = (fun _ => 1#1)
    ∧ (Cert.Pre_down_finite.fn (F := Ideal) (m ((c.tc : Thread Cert.DownLossIdeal.nD Cert.DownLossIdeal.τ).loc Cert.DownLossIdeal.main_arg0)) (m ((c.tc : Thread Cert.DownLossIdeal.nD Cert.DownLossIdeal.τ).loc Cert.DownLossIdeal.main_arg1)) (m ((c.tc : Thread Cert.DownLossIdeal.nD Cert.DownLossIdeal.τ).loc Cert.DownLossIdeal.main_arg2)) (m ((c.tc : Thread Cert.DownLossIdeal.nD Cert.DownLossIdeal.τ).loc Cert.DownLossIdeal.main_arg3)) (m ((c.tc : Thread Cert.DownLossIdeal.nD Cert.DownLossIdeal.τ).loc Cert.DownLossIdeal.main_arg4))).2.2.2.1 = (fun _ => 1#1)
    ∧ (Cert.Pre_down_finite.fn (F := Ideal) (m ((c.tc : Thread Cert.DownLossIdeal.nD Cert.DownLossIdeal.τ).loc Cert.DownLossIdeal.main_arg0)) (m ((c.tc : Thread Cert.DownLossIdeal.nD Cert.DownLossIdeal.τ).loc Cert.DownLossIdeal.main_arg1)) (m ((c.tc : Thread Cert.DownLossIdeal.nD Cert.DownLossIdeal.τ).loc Cert.DownLossIdeal.main_arg2)) (m ((c.tc : Thread Cert.DownLossIdeal.nD Cert.DownLossIdeal.τ).loc Cert.DownLossIdeal.main_arg3)) (m ((c.tc : Thread Cert.DownLossIdeal.nD Cert.DownLossIdeal.τ).loc Cert.DownLossIdeal.main_arg4))).2.2.2.2 = (fun _ => 1#1)

def Pre_DownLossRefIdeal (m : (ℓ : Loc Cert.DownLossRefIdeal.nD Cert.DownLossRefIdeal.τ Cert.DownLossRefIdeal.sig) → Buf (Elt Ideal) ℓ) : Prop :=
  True

def Pre_DownLossRefIdeal_down_finite [hPre_down_finite : Cert.Pre_down_finite.Facts] (m : (ℓ : Loc Cert.DownLossRefIdeal.nD Cert.DownLossRefIdeal.τ Cert.DownLossRefIdeal.sig) → Buf (Elt Ideal) ℓ) : Prop :=
  ∀ c : Dev Cert.DownLossRefIdeal.nD,
    (Cert.Pre_down_finite.fn (F := Ideal) (m ((c.tc : Thread Cert.DownLossRefIdeal.nD Cert.DownLossRefIdeal.τ).loc Cert.DownLossRefIdeal.main_arg0)) (m ((c.tc : Thread Cert.DownLossRefIdeal.nD Cert.DownLossRefIdeal.τ).loc Cert.DownLossRefIdeal.main_arg1)) (m ((c.tc : Thread Cert.DownLossRefIdeal.nD Cert.DownLossRefIdeal.τ).loc Cert.DownLossRefIdeal.main_arg2)) (m ((c.tc : Thread Cert.DownLossRefIdeal.nD Cert.DownLossRefIdeal.τ).loc Cert.DownLossRefIdeal.main_arg3)) (m ((c.tc : Thread Cert.DownLossRefIdeal.nD Cert.DownLossRefIdeal.τ).loc Cert.DownLossRefIdeal.main_arg4))).1 = (fun _ => 1#1)
    ∧ (Cert.Pre_down_finite.fn (F := Ideal) (m ((c.tc : Thread Cert.DownLossRefIdeal.nD Cert.DownLossRefIdeal.τ).loc Cert.DownLossRefIdeal.main_arg0)) (m ((c.tc : Thread Cert.DownLossRefIdeal.nD Cert.DownLossRefIdeal.τ).loc Cert.DownLossRefIdeal.main_arg1)) (m ((c.tc : Thread Cert.DownLossRefIdeal.nD Cert.DownLossRefIdeal.τ).loc Cert.DownLossRefIdeal.main_arg2)) (m ((c.tc : Thread Cert.DownLossRefIdeal.nD Cert.DownLossRefIdeal.τ).loc Cert.DownLossRefIdeal.main_arg3)) (m ((c.tc : Thread Cert.DownLossRefIdeal.nD Cert.DownLossRefIdeal.τ).loc Cert.DownLossRefIdeal.main_arg4))).2.1 = (fun _ => 1#1)
    ∧ (Cert.Pre_down_finite.fn (F := Ideal) (m ((c.tc : Thread Cert.DownLossRefIdeal.nD Cert.DownLossRefIdeal.τ).loc Cert.DownLossRefIdeal.main_arg0)) (m ((c.tc : Thread Cert.DownLossRefIdeal.nD Cert.DownLossRefIdeal.τ).loc Cert.DownLossRefIdeal.main_arg1)) (m ((c.tc : Thread Cert.DownLossRefIdeal.nD Cert.DownLossRefIdeal.τ).loc Cert.DownLossRefIdeal.main_arg2)) (m ((c.tc : Thread Cert.DownLossRefIdeal.nD Cert.DownLossRefIdeal.τ).loc Cert.DownLossRefIdeal.main_arg3)) (m ((c.tc : Thread Cert.DownLossRefIdeal.nD Cert.DownLossRefIdeal.τ).loc Cert.DownLossRefIdeal.main_arg4))).2.2.1 = (fun _ => 1#1)
    ∧ (Cert.Pre_down_finite.fn (F := Ideal) (m ((c.tc : Thread Cert.DownLossRefIdeal.nD Cert.DownLossRefIdeal.τ).loc Cert.DownLossRefIdeal.main_arg0)) (m ((c.tc : Thread Cert.DownLossRefIdeal.nD Cert.DownLossRefIdeal.τ).loc Cert.DownLossRefIdeal.main_arg1)) (m ((c.tc : Thread Cert.DownLossRefIdeal.nD Cert.DownLossRefIdeal.τ).loc Cert.DownLossRefIdeal.main_arg2)) (m ((c.tc : Thread Cert.DownLossRefIdeal.nD Cert.DownLossRefIdeal.τ).loc Cert.DownLossRefIdeal.main_arg3)) (m ((c.tc : Thread Cert.DownLossRefIdeal.nD Cert.DownLossRefIdeal.τ).loc Cert.DownLossRefIdeal.main_arg4))).2.2.2.1 = (fun _ => 1#1)
    ∧ (Cert.Pre_down_finite.fn (F := Ideal) (m ((c.tc : Thread Cert.DownLossRefIdeal.nD Cert.DownLossRefIdeal.τ).loc Cert.DownLossRefIdeal.main_arg0)) (m ((c.tc : Thread Cert.DownLossRefIdeal.nD Cert.DownLossRefIdeal.τ).loc Cert.DownLossRefIdeal.main_arg1)) (m ((c.tc : Thread Cert.DownLossRefIdeal.nD Cert.DownLossRefIdeal.τ).loc Cert.DownLossRefIdeal.main_arg2)) (m ((c.tc : Thread Cert.DownLossRefIdeal.nD Cert.DownLossRefIdeal.τ).loc Cert.DownLossRefIdeal.main_arg3)) (m ((c.tc : Thread Cert.DownLossRefIdeal.nD Cert.DownLossRefIdeal.τ).loc Cert.DownLossRefIdeal.main_arg4))).2.2.2.2 = (fun _ => 1#1)

def Pre_UpProj (m : (ℓ : Loc Cert.UpProj.nD Cert.UpProj.τ Cert.UpProj.sig) → Buf (Elt Bits) ℓ) : Prop :=
  True

def Pre_UpProjIdeal (m : (ℓ : Loc Cert.UpProjIdeal.nD Cert.UpProjIdeal.τ Cert.UpProjIdeal.sig) → Buf (Elt Ideal) ℓ) : Prop :=
  True

def Pre_UpProjIdeal_up_finite [hPre_up_finite : Cert.Pre_up_finite.Facts] (m : (ℓ : Loc Cert.UpProjIdeal.nD Cert.UpProjIdeal.τ Cert.UpProjIdeal.sig) → Buf (Elt Ideal) ℓ) : Prop :=
  ∀ c : Dev Cert.UpProjIdeal.nD,
    (Cert.Pre_up_finite.fn (F := Ideal) (m ((c.tc : Thread Cert.UpProjIdeal.nD Cert.UpProjIdeal.τ).loc Cert.UpProjIdeal.main_arg0)) (m ((c.tc : Thread Cert.UpProjIdeal.nD Cert.UpProjIdeal.τ).loc Cert.UpProjIdeal.main_arg1)) (m ((c.tc : Thread Cert.UpProjIdeal.nD Cert.UpProjIdeal.τ).loc Cert.UpProjIdeal.main_arg2)) (m ((c.tc : Thread Cert.UpProjIdeal.nD Cert.UpProjIdeal.τ).loc Cert.UpProjIdeal.main_arg3)) (m ((c.tc : Thread Cert.UpProjIdeal.nD Cert.UpProjIdeal.τ).loc Cert.UpProjIdeal.main_arg4)) (m ((c.tc : Thread Cert.UpProjIdeal.nD Cert.UpProjIdeal.τ).loc Cert.UpProjIdeal.main_arg5)) (m ((c.tc : Thread Cert.UpProjIdeal.nD Cert.UpProjIdeal.τ).loc Cert.UpProjIdeal.main_arg6))).1 = (fun _ => 1#1)
    ∧ (Cert.Pre_up_finite.fn (F := Ideal) (m ((c.tc : Thread Cert.UpProjIdeal.nD Cert.UpProjIdeal.τ).loc Cert.UpProjIdeal.main_arg0)) (m ((c.tc : Thread Cert.UpProjIdeal.nD Cert.UpProjIdeal.τ).loc Cert.UpProjIdeal.main_arg1)) (m ((c.tc : Thread Cert.UpProjIdeal.nD Cert.UpProjIdeal.τ).loc Cert.UpProjIdeal.main_arg2)) (m ((c.tc : Thread Cert.UpProjIdeal.nD Cert.UpProjIdeal.τ).loc Cert.UpProjIdeal.main_arg3)) (m ((c.tc : Thread Cert.UpProjIdeal.nD Cert.UpProjIdeal.τ).loc Cert.UpProjIdeal.main_arg4)) (m ((c.tc : Thread Cert.UpProjIdeal.nD Cert.UpProjIdeal.τ).loc Cert.UpProjIdeal.main_arg5)) (m ((c.tc : Thread Cert.UpProjIdeal.nD Cert.UpProjIdeal.τ).loc Cert.UpProjIdeal.main_arg6))).2.1 = (fun _ => 1#1)
    ∧ (Cert.Pre_up_finite.fn (F := Ideal) (m ((c.tc : Thread Cert.UpProjIdeal.nD Cert.UpProjIdeal.τ).loc Cert.UpProjIdeal.main_arg0)) (m ((c.tc : Thread Cert.UpProjIdeal.nD Cert.UpProjIdeal.τ).loc Cert.UpProjIdeal.main_arg1)) (m ((c.tc : Thread Cert.UpProjIdeal.nD Cert.UpProjIdeal.τ).loc Cert.UpProjIdeal.main_arg2)) (m ((c.tc : Thread Cert.UpProjIdeal.nD Cert.UpProjIdeal.τ).loc Cert.UpProjIdeal.main_arg3)) (m ((c.tc : Thread Cert.UpProjIdeal.nD Cert.UpProjIdeal.τ).loc Cert.UpProjIdeal.main_arg4)) (m ((c.tc : Thread Cert.UpProjIdeal.nD Cert.UpProjIdeal.τ).loc Cert.UpProjIdeal.main_arg5)) (m ((c.tc : Thread Cert.UpProjIdeal.nD Cert.UpProjIdeal.τ).loc Cert.UpProjIdeal.main_arg6))).2.2.1 = (fun _ => 1#1)
    ∧ (Cert.Pre_up_finite.fn (F := Ideal) (m ((c.tc : Thread Cert.UpProjIdeal.nD Cert.UpProjIdeal.τ).loc Cert.UpProjIdeal.main_arg0)) (m ((c.tc : Thread Cert.UpProjIdeal.nD Cert.UpProjIdeal.τ).loc Cert.UpProjIdeal.main_arg1)) (m ((c.tc : Thread Cert.UpProjIdeal.nD Cert.UpProjIdeal.τ).loc Cert.UpProjIdeal.main_arg2)) (m ((c.tc : Thread Cert.UpProjIdeal.nD Cert.UpProjIdeal.τ).loc Cert.UpProjIdeal.main_arg3)) (m ((c.tc : Thread Cert.UpProjIdeal.nD Cert.UpProjIdeal.τ).loc Cert.UpProjIdeal.main_arg4)) (m ((c.tc : Thread Cert.UpProjIdeal.nD Cert.UpProjIdeal.τ).loc Cert.UpProjIdeal.main_arg5)) (m ((c.tc : Thread Cert.UpProjIdeal.nD Cert.UpProjIdeal.τ).loc Cert.UpProjIdeal.main_arg6))).2.2.2.1 = (fun _ => 1#1)
    ∧ (Cert.Pre_up_finite.fn (F := Ideal) (m ((c.tc : Thread Cert.UpProjIdeal.nD Cert.UpProjIdeal.τ).loc Cert.UpProjIdeal.main_arg0)) (m ((c.tc : Thread Cert.UpProjIdeal.nD Cert.UpProjIdeal.τ).loc Cert.UpProjIdeal.main_arg1)) (m ((c.tc : Thread Cert.UpProjIdeal.nD Cert.UpProjIdeal.τ).loc Cert.UpProjIdeal.main_arg2)) (m ((c.tc : Thread Cert.UpProjIdeal.nD Cert.UpProjIdeal.τ).loc Cert.UpProjIdeal.main_arg3)) (m ((c.tc : Thread Cert.UpProjIdeal.nD Cert.UpProjIdeal.τ).loc Cert.UpProjIdeal.main_arg4)) (m ((c.tc : Thread Cert.UpProjIdeal.nD Cert.UpProjIdeal.τ).loc Cert.UpProjIdeal.main_arg5)) (m ((c.tc : Thread Cert.UpProjIdeal.nD Cert.UpProjIdeal.τ).loc Cert.UpProjIdeal.main_arg6))).2.2.2.2.1 = (fun _ => 1#1)
    ∧ (Cert.Pre_up_finite.fn (F := Ideal) (m ((c.tc : Thread Cert.UpProjIdeal.nD Cert.UpProjIdeal.τ).loc Cert.UpProjIdeal.main_arg0)) (m ((c.tc : Thread Cert.UpProjIdeal.nD Cert.UpProjIdeal.τ).loc Cert.UpProjIdeal.main_arg1)) (m ((c.tc : Thread Cert.UpProjIdeal.nD Cert.UpProjIdeal.τ).loc Cert.UpProjIdeal.main_arg2)) (m ((c.tc : Thread Cert.UpProjIdeal.nD Cert.UpProjIdeal.τ).loc Cert.UpProjIdeal.main_arg3)) (m ((c.tc : Thread Cert.UpProjIdeal.nD Cert.UpProjIdeal.τ).loc Cert.UpProjIdeal.main_arg4)) (m ((c.tc : Thread Cert.UpProjIdeal.nD Cert.UpProjIdeal.τ).loc Cert.UpProjIdeal.main_arg5)) (m ((c.tc : Thread Cert.UpProjIdeal.nD Cert.UpProjIdeal.τ).loc Cert.UpProjIdeal.main_arg6))).2.2.2.2.2.1 = (fun _ => 1#1)
    ∧ (Cert.Pre_up_finite.fn (F := Ideal) (m ((c.tc : Thread Cert.UpProjIdeal.nD Cert.UpProjIdeal.τ).loc Cert.UpProjIdeal.main_arg0)) (m ((c.tc : Thread Cert.UpProjIdeal.nD Cert.UpProjIdeal.τ).loc Cert.UpProjIdeal.main_arg1)) (m ((c.tc : Thread Cert.UpProjIdeal.nD Cert.UpProjIdeal.τ).loc Cert.UpProjIdeal.main_arg2)) (m ((c.tc : Thread Cert.UpProjIdeal.nD Cert.UpProjIdeal.τ).loc Cert.UpProjIdeal.main_arg3)) (m ((c.tc : Thread Cert.UpProjIdeal.nD Cert.UpProjIdeal.τ).loc Cert.UpProjIdeal.main_arg4)) (m ((c.tc : Thread Cert.UpProjIdeal.nD Cert.UpProjIdeal.τ).loc Cert.UpProjIdeal.main_arg5)) (m ((c.tc : Thread Cert.UpProjIdeal.nD Cert.UpProjIdeal.τ).loc Cert.UpProjIdeal.main_arg6))).2.2.2.2.2.2 = (fun _ => 1#1)

def Pre_UpProjRefIdeal (m : (ℓ : Loc Cert.UpProjRefIdeal.nD Cert.UpProjRefIdeal.τ Cert.UpProjRefIdeal.sig) → Buf (Elt Ideal) ℓ) : Prop :=
  True

def Pre_UpProjRefIdeal_up_finite [hPre_up_finite : Cert.Pre_up_finite.Facts] (m : (ℓ : Loc Cert.UpProjRefIdeal.nD Cert.UpProjRefIdeal.τ Cert.UpProjRefIdeal.sig) → Buf (Elt Ideal) ℓ) : Prop :=
  ∀ c : Dev Cert.UpProjRefIdeal.nD,
    (Cert.Pre_up_finite.fn (F := Ideal) (m ((c.tc : Thread Cert.UpProjRefIdeal.nD Cert.UpProjRefIdeal.τ).loc Cert.UpProjRefIdeal.main_arg0)) (m ((c.tc : Thread Cert.UpProjRefIdeal.nD Cert.UpProjRefIdeal.τ).loc Cert.UpProjRefIdeal.main_arg1)) (m ((c.tc : Thread Cert.UpProjRefIdeal.nD Cert.UpProjRefIdeal.τ).loc Cert.UpProjRefIdeal.main_arg2)) (m ((c.tc : Thread Cert.UpProjRefIdeal.nD Cert.UpProjRefIdeal.τ).loc Cert.UpProjRefIdeal.main_arg3)) (m ((c.tc : Thread Cert.UpProjRefIdeal.nD Cert.UpProjRefIdeal.τ).loc Cert.UpProjRefIdeal.main_arg4)) (m ((c.tc : Thread Cert.UpProjRefIdeal.nD Cert.UpProjRefIdeal.τ).loc Cert.UpProjRefIdeal.main_arg5)) (m ((c.tc : Thread Cert.UpProjRefIdeal.nD Cert.UpProjRefIdeal.τ).loc Cert.UpProjRefIdeal.main_arg6))).1 = (fun _ => 1#1)
    ∧ (Cert.Pre_up_finite.fn (F := Ideal) (m ((c.tc : Thread Cert.UpProjRefIdeal.nD Cert.UpProjRefIdeal.τ).loc Cert.UpProjRefIdeal.main_arg0)) (m ((c.tc : Thread Cert.UpProjRefIdeal.nD Cert.UpProjRefIdeal.τ).loc Cert.UpProjRefIdeal.main_arg1)) (m ((c.tc : Thread Cert.UpProjRefIdeal.nD Cert.UpProjRefIdeal.τ).loc Cert.UpProjRefIdeal.main_arg2)) (m ((c.tc : Thread Cert.UpProjRefIdeal.nD Cert.UpProjRefIdeal.τ).loc Cert.UpProjRefIdeal.main_arg3)) (m ((c.tc : Thread Cert.UpProjRefIdeal.nD Cert.UpProjRefIdeal.τ).loc Cert.UpProjRefIdeal.main_arg4)) (m ((c.tc : Thread Cert.UpProjRefIdeal.nD Cert.UpProjRefIdeal.τ).loc Cert.UpProjRefIdeal.main_arg5)) (m ((c.tc : Thread Cert.UpProjRefIdeal.nD Cert.UpProjRefIdeal.τ).loc Cert.UpProjRefIdeal.main_arg6))).2.1 = (fun _ => 1#1)
    ∧ (Cert.Pre_up_finite.fn (F := Ideal) (m ((c.tc : Thread Cert.UpProjRefIdeal.nD Cert.UpProjRefIdeal.τ).loc Cert.UpProjRefIdeal.main_arg0)) (m ((c.tc : Thread Cert.UpProjRefIdeal.nD Cert.UpProjRefIdeal.τ).loc Cert.UpProjRefIdeal.main_arg1)) (m ((c.tc : Thread Cert.UpProjRefIdeal.nD Cert.UpProjRefIdeal.τ).loc Cert.UpProjRefIdeal.main_arg2)) (m ((c.tc : Thread Cert.UpProjRefIdeal.nD Cert.UpProjRefIdeal.τ).loc Cert.UpProjRefIdeal.main_arg3)) (m ((c.tc : Thread Cert.UpProjRefIdeal.nD Cert.UpProjRefIdeal.τ).loc Cert.UpProjRefIdeal.main_arg4)) (m ((c.tc : Thread Cert.UpProjRefIdeal.nD Cert.UpProjRefIdeal.τ).loc Cert.UpProjRefIdeal.main_arg5)) (m ((c.tc : Thread Cert.UpProjRefIdeal.nD Cert.UpProjRefIdeal.τ).loc Cert.UpProjRefIdeal.main_arg6))).2.2.1 = (fun _ => 1#1)
    ∧ (Cert.Pre_up_finite.fn (F := Ideal) (m ((c.tc : Thread Cert.UpProjRefIdeal.nD Cert.UpProjRefIdeal.τ).loc Cert.UpProjRefIdeal.main_arg0)) (m ((c.tc : Thread Cert.UpProjRefIdeal.nD Cert.UpProjRefIdeal.τ).loc Cert.UpProjRefIdeal.main_arg1)) (m ((c.tc : Thread Cert.UpProjRefIdeal.nD Cert.UpProjRefIdeal.τ).loc Cert.UpProjRefIdeal.main_arg2)) (m ((c.tc : Thread Cert.UpProjRefIdeal.nD Cert.UpProjRefIdeal.τ).loc Cert.UpProjRefIdeal.main_arg3)) (m ((c.tc : Thread Cert.UpProjRefIdeal.nD Cert.UpProjRefIdeal.τ).loc Cert.UpProjRefIdeal.main_arg4)) (m ((c.tc : Thread Cert.UpProjRefIdeal.nD Cert.UpProjRefIdeal.τ).loc Cert.UpProjRefIdeal.main_arg5)) (m ((c.tc : Thread Cert.UpProjRefIdeal.nD Cert.UpProjRefIdeal.τ).loc Cert.UpProjRefIdeal.main_arg6))).2.2.2.1 = (fun _ => 1#1)
    ∧ (Cert.Pre_up_finite.fn (F := Ideal) (m ((c.tc : Thread Cert.UpProjRefIdeal.nD Cert.UpProjRefIdeal.τ).loc Cert.UpProjRefIdeal.main_arg0)) (m ((c.tc : Thread Cert.UpProjRefIdeal.nD Cert.UpProjRefIdeal.τ).loc Cert.UpProjRefIdeal.main_arg1)) (m ((c.tc : Thread Cert.UpProjRefIdeal.nD Cert.UpProjRefIdeal.τ).loc Cert.UpProjRefIdeal.main_arg2)) (m ((c.tc : Thread Cert.UpProjRefIdeal.nD Cert.UpProjRefIdeal.τ).loc Cert.UpProjRefIdeal.main_arg3)) (m ((c.tc : Thread Cert.UpProjRefIdeal.nD Cert.UpProjRefIdeal.τ).loc Cert.UpProjRefIdeal.main_arg4)) (m ((c.tc : Thread Cert.UpProjRefIdeal.nD Cert.UpProjRefIdeal.τ).loc Cert.UpProjRefIdeal.main_arg5)) (m ((c.tc : Thread Cert.UpProjRefIdeal.nD Cert.UpProjRefIdeal.τ).loc Cert.UpProjRefIdeal.main_arg6))).2.2.2.2.1 = (fun _ => 1#1)
    ∧ (Cert.Pre_up_finite.fn (F := Ideal) (m ((c.tc : Thread Cert.UpProjRefIdeal.nD Cert.UpProjRefIdeal.τ).loc Cert.UpProjRefIdeal.main_arg0)) (m ((c.tc : Thread Cert.UpProjRefIdeal.nD Cert.UpProjRefIdeal.τ).loc Cert.UpProjRefIdeal.main_arg1)) (m ((c.tc : Thread Cert.UpProjRefIdeal.nD Cert.UpProjRefIdeal.τ).loc Cert.UpProjRefIdeal.main_arg2)) (m ((c.tc : Thread Cert.UpProjRefIdeal.nD Cert.UpProjRefIdeal.τ).loc Cert.UpProjRefIdeal.main_arg3)) (m ((c.tc : Thread Cert.UpProjRefIdeal.nD Cert.UpProjRefIdeal.τ).loc Cert.UpProjRefIdeal.main_arg4)) (m ((c.tc : Thread Cert.UpProjRefIdeal.nD Cert.UpProjRefIdeal.τ).loc Cert.UpProjRefIdeal.main_arg5)) (m ((c.tc : Thread Cert.UpProjRefIdeal.nD Cert.UpProjRefIdeal.τ).loc Cert.UpProjRefIdeal.main_arg6))).2.2.2.2.2.1 = (fun _ => 1#1)
    ∧ (Cert.Pre_up_finite.fn (F := Ideal) (m ((c.tc : Thread Cert.UpProjRefIdeal.nD Cert.UpProjRefIdeal.τ).loc Cert.UpProjRefIdeal.main_arg0)) (m ((c.tc : Thread Cert.UpProjRefIdeal.nD Cert.UpProjRefIdeal.τ).loc Cert.UpProjRefIdeal.main_arg1)) (m ((c.tc : Thread Cert.UpProjRefIdeal.nD Cert.UpProjRefIdeal.τ).loc Cert.UpProjRefIdeal.main_arg2)) (m ((c.tc : Thread Cert.UpProjRefIdeal.nD Cert.UpProjRefIdeal.τ).loc Cert.UpProjRefIdeal.main_arg3)) (m ((c.tc : Thread Cert.UpProjRefIdeal.nD Cert.UpProjRefIdeal.τ).loc Cert.UpProjRefIdeal.main_arg4)) (m ((c.tc : Thread Cert.UpProjRefIdeal.nD Cert.UpProjRefIdeal.τ).loc Cert.UpProjRefIdeal.main_arg5)) (m ((c.tc : Thread Cert.UpProjRefIdeal.nD Cert.UpProjRefIdeal.τ).loc Cert.UpProjRefIdeal.main_arg6))).2.2.2.2.2.2 = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjIdeal_in_finite [hPre_in_finite : Cert.Pre_in_finite.Facts] (m : (ℓ : Loc Cert.InProjIdeal.nD Cert.InProjIdeal.τ Cert.InProjIdeal.sig) → Buf (Elt Ideal) ℓ) : Prop :=
  ∀ c : Dev Cert.InProjIdeal.nD,
    (Cert.Pre_in_finite.fn (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (m ((c.tc : Thread Cert.InProjIdeal.nD Cert.InProjIdeal.τ).loc Cert.InProjIdeal.main_arg3)) (m ((c.tc : Thread Cert.InProjIdeal.nD Cert.InProjIdeal.τ).loc Cert.InProjIdeal.main_arg4))).1 = (fun _ => 1#1)
    ∧ (Cert.Pre_in_finite.fn (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (m ((c.tc : Thread Cert.InProjIdeal.nD Cert.InProjIdeal.τ).loc Cert.InProjIdeal.main_arg3)) (m ((c.tc : Thread Cert.InProjIdeal.nD Cert.InProjIdeal.τ).loc Cert.InProjIdeal.main_arg4))).2.1 = (fun _ => 1#1)
    ∧ (Cert.Pre_in_finite.fn (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (m ((c.tc : Thread Cert.InProjIdeal.nD Cert.InProjIdeal.τ).loc Cert.InProjIdeal.main_arg3)) (m ((c.tc : Thread Cert.InProjIdeal.nD Cert.InProjIdeal.τ).loc Cert.InProjIdeal.main_arg4))).2.2.1 = (fun _ => 1#1)
    ∧ (Cert.Pre_in_finite.fn (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (m ((c.tc : Thread Cert.InProjIdeal.nD Cert.InProjIdeal.τ).loc Cert.InProjIdeal.main_arg3)) (m ((c.tc : Thread Cert.InProjIdeal.nD Cert.InProjIdeal.τ).loc Cert.InProjIdeal.main_arg4))).2.2.2.1 = (fun _ => 1#1)
    ∧ (Cert.Pre_in_finite.fn (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (m ((c.tc : Thread Cert.InProjIdeal.nD Cert.InProjIdeal.τ).loc Cert.InProjIdeal.main_arg3)) (m ((c.tc : Thread Cert.InProjIdeal.nD Cert.InProjIdeal.τ).loc Cert.InProjIdeal.main_arg4))).2.2.2.2 = (fun _ => 1#1)

def Pre_InProjRefIdeal (m : (ℓ : Loc Cert.InProjRefIdeal.nD Cert.InProjRefIdeal.τ Cert.InProjRefIdeal.sig) → Buf (Elt Ideal) ℓ) : Prop :=
  True

def Pre_InProjRefIdeal_in_finite [hPre_in_finite : Cert.Pre_in_finite.Facts] (m : (ℓ : Loc Cert.InProjRefIdeal.nD Cert.InProjRefIdeal.τ Cert.InProjRefIdeal.sig) → Buf (Elt Ideal) ℓ) : Prop :=
  ∀ c : Dev Cert.InProjRefIdeal.nD,
    (Cert.Pre_in_finite.fn (F := Ideal) (m ((c.tc : Thread Cert.InProjRefIdeal.nD Cert.InProjRefIdeal.τ).loc Cert.InProjRefIdeal.main_arg0)) (m ((c.tc : Thread Cert.InProjRefIdeal.nD Cert.InProjRefIdeal.τ).loc Cert.InProjRefIdeal.main_arg1)) (m ((c.tc : Thread Cert.InProjRefIdeal.nD Cert.InProjRefIdeal.τ).loc Cert.InProjRefIdeal.main_arg2)) (m ((c.tc : Thread Cert.InProjRefIdeal.nD Cert.InProjRefIdeal.τ).loc Cert.InProjRefIdeal.main_arg3)) (m ((c.tc : Thread Cert.InProjRefIdeal.nD Cert.InProjRefIdeal.τ).loc Cert.InProjRefIdeal.main_arg4))).1 = (fun _ => 1#1)
    ∧ (Cert.Pre_in_finite.fn (F := Ideal) (m ((c.tc : Thread Cert.InProjRefIdeal.nD Cert.InProjRefIdeal.τ).loc Cert.InProjRefIdeal.main_arg0)) (m ((c.tc : Thread Cert.InProjRefIdeal.nD Cert.InProjRefIdeal.τ).loc Cert.InProjRefIdeal.main_arg1)) (m ((c.tc : Thread Cert.InProjRefIdeal.nD Cert.InProjRefIdeal.τ).loc Cert.InProjRefIdeal.main_arg2)) (m ((c.tc : Thread Cert.InProjRefIdeal.nD Cert.InProjRefIdeal.τ).loc Cert.InProjRefIdeal.main_arg3)) (m ((c.tc : Thread Cert.InProjRefIdeal.nD Cert.InProjRefIdeal.τ).loc Cert.InProjRefIdeal.main_arg4))).2.1 = (fun _ => 1#1)
    ∧ (Cert.Pre_in_finite.fn (F := Ideal) (m ((c.tc : Thread Cert.InProjRefIdeal.nD Cert.InProjRefIdeal.τ).loc Cert.InProjRefIdeal.main_arg0)) (m ((c.tc : Thread Cert.InProjRefIdeal.nD Cert.InProjRefIdeal.τ).loc Cert.InProjRefIdeal.main_arg1)) (m ((c.tc : Thread Cert.InProjRefIdeal.nD Cert.InProjRefIdeal.τ).loc Cert.InProjRefIdeal.main_arg2)) (m ((c.tc : Thread Cert.InProjRefIdeal.nD Cert.InProjRefIdeal.τ).loc Cert.InProjRefIdeal.main_arg3)) (m ((c.tc : Thread Cert.InProjRefIdeal.nD Cert.InProjRefIdeal.τ).loc Cert.InProjRefIdeal.main_arg4))).2.2.1 = (fun _ => 1#1)
    ∧ (Cert.Pre_in_finite.fn (F := Ideal) (m ((c.tc : Thread Cert.InProjRefIdeal.nD Cert.InProjRefIdeal.τ).loc Cert.InProjRefIdeal.main_arg0)) (m ((c.tc : Thread Cert.InProjRefIdeal.nD Cert.InProjRefIdeal.τ).loc Cert.InProjRefIdeal.main_arg1)) (m ((c.tc : Thread Cert.InProjRefIdeal.nD Cert.InProjRefIdeal.τ).loc Cert.InProjRefIdeal.main_arg2)) (m ((c.tc : Thread Cert.InProjRefIdeal.nD Cert.InProjRefIdeal.τ).loc Cert.InProjRefIdeal.main_arg3)) (m ((c.tc : Thread Cert.InProjRefIdeal.nD Cert.InProjRefIdeal.τ).loc Cert.InProjRefIdeal.main_arg4))).2.2.2.1 = (fun _ => 1#1)
    ∧ (Cert.Pre_in_finite.fn (F := Ideal) (m ((c.tc : Thread Cert.InProjRefIdeal.nD Cert.InProjRefIdeal.τ).loc Cert.InProjRefIdeal.main_arg0)) (m ((c.tc : Thread Cert.InProjRefIdeal.nD Cert.InProjRefIdeal.τ).loc Cert.InProjRefIdeal.main_arg1)) (m ((c.tc : Thread Cert.InProjRefIdeal.nD Cert.InProjRefIdeal.τ).loc Cert.InProjRefIdeal.main_arg2)) (m ((c.tc : Thread Cert.InProjRefIdeal.nD Cert.InProjRefIdeal.τ).loc Cert.InProjRefIdeal.main_arg3)) (m ((c.tc : Thread Cert.InProjRefIdeal.nD Cert.InProjRefIdeal.τ).loc Cert.InProjRefIdeal.main_arg4))).2.2.2.2 = (fun _ => 1#1)

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_attn_finite [hPre_attn_finite : Cert.Pre_attn_finite.Facts] (m : (ℓ : Loc Cert.AttnIdeal.nD Cert.AttnIdeal.τ Cert.AttnIdeal.sig) → Buf (Elt Ideal) ℓ) : Prop :=
  ∀ c : Dev Cert.AttnIdeal.nD,
    (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).1 = (fun _ => 1#1)
    ∧ (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.1 = (fun _ => 1#1)
    ∧ (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.2.1 = (fun _ => 1#1)
    ∧ (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_attn_finite [hPre_attn_finite : Cert.Pre_attn_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.2.1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.2.2 = (fun _ => 1#1)

def Pre_Mixer (m : (ℓ : Loc Cert.Mixer.nD Cert.Mixer.τ Cert.Mixer.sig) → Buf (Elt Bits) ℓ) : Prop :=
  True

def Pre_MixerIdeal (m : (ℓ : Loc Cert.MixerIdeal.nD Cert.MixerIdeal.τ Cert.MixerIdeal.sig) → Buf (Elt Ideal) ℓ) : Prop :=
  True

def Pre_MixerIdeal_mix_finite [hPre_mix_finite : Cert.Pre_mix_finite.Facts] (m : (ℓ : Loc Cert.MixerIdeal.nD Cert.MixerIdeal.τ Cert.MixerIdeal.sig) → Buf (Elt Ideal) ℓ) : Prop :=
  ∀ c : Dev Cert.MixerIdeal.nD,
    (Cert.Pre_mix_finite.fn (F := Ideal) (m ((c.tc : Thread Cert.MixerIdeal.nD Cert.MixerIdeal.τ).loc Cert.MixerIdeal.main_arg0)) (m ((c.tc : Thread Cert.MixerIdeal.nD Cert.MixerIdeal.τ).loc Cert.MixerIdeal.main_arg1)) (m ((c.tc : Thread Cert.MixerIdeal.nD Cert.MixerIdeal.τ).loc Cert.MixerIdeal.main_arg2)) (m ((c.tc : Thread Cert.MixerIdeal.nD Cert.MixerIdeal.τ).loc Cert.MixerIdeal.main_arg3)) (m ((c.tc : Thread Cert.MixerIdeal.nD Cert.MixerIdeal.τ).loc Cert.MixerIdeal.main_arg4)) (m ((c.tc : Thread Cert.MixerIdeal.nD Cert.MixerIdeal.τ).loc Cert.MixerIdeal.main_arg5)) (m ((c.tc : Thread Cert.MixerIdeal.nD Cert.MixerIdeal.τ).loc Cert.MixerIdeal.main_arg6)) (m ((c.tc : Thread Cert.MixerIdeal.nD Cert.MixerIdeal.τ).loc Cert.MixerIdeal.main_arg7)) (m ((c.tc : Thread Cert.MixerIdeal.nD Cert.MixerIdeal.τ).loc Cert.MixerIdeal.main_arg8)) (m ((c.tc : Thread Cert.MixerIdeal.nD Cert.MixerIdeal.τ).loc Cert.MixerIdeal.main_arg9))).1 = (fun _ => 1#1)
    ∧ (Cert.Pre_mix_finite.fn (F := Ideal) (m ((c.tc : Thread Cert.MixerIdeal.nD Cert.MixerIdeal.τ).loc Cert.MixerIdeal.main_arg0)) (m ((c.tc : Thread Cert.MixerIdeal.nD Cert.MixerIdeal.τ).loc Cert.MixerIdeal.main_arg1)) (m ((c.tc : Thread Cert.MixerIdeal.nD Cert.MixerIdeal.τ).loc Cert.MixerIdeal.main_arg2)) (m ((c.tc : Thread Cert.MixerIdeal.nD Cert.MixerIdeal.τ).loc Cert.MixerIdeal.main_arg3)) (m ((c.tc : Thread Cert.MixerIdeal.nD Cert.MixerIdeal.τ).loc Cert.MixerIdeal.main_arg4)) (m ((c.tc : Thread Cert.MixerIdeal.nD Cert.MixerIdeal.τ).loc Cert.MixerIdeal.main_arg5)) (m ((c.tc : Thread Cert.MixerIdeal.nD Cert.MixerIdeal.τ).loc Cert.MixerIdeal.main_arg6)) (m ((c.tc : Thread Cert.MixerIdeal.nD Cert.MixerIdeal.τ).loc Cert.MixerIdeal.main_arg7)) (m ((c.tc : Thread Cert.MixerIdeal.nD Cert.MixerIdeal.τ).loc Cert.MixerIdeal.main_arg8)) (m ((c.tc : Thread Cert.MixerIdeal.nD Cert.MixerIdeal.τ).loc Cert.MixerIdeal.main_arg9))).2.1 = (fun _ => 1#1)
    ∧ (Cert.Pre_mix_finite.fn (F := Ideal) (m ((c.tc : Thread Cert.MixerIdeal.nD Cert.MixerIdeal.τ).loc Cert.MixerIdeal.main_arg0)) (m ((c.tc : Thread Cert.MixerIdeal.nD Cert.MixerIdeal.τ).loc Cert.MixerIdeal.main_arg1)) (m ((c.tc : Thread Cert.MixerIdeal.nD Cert.MixerIdeal.τ).loc Cert.MixerIdeal.main_arg2)) (m ((c.tc : Thread Cert.MixerIdeal.nD Cert.MixerIdeal.τ).loc Cert.MixerIdeal.main_arg3)) (m ((c.tc : Thread Cert.MixerIdeal.nD Cert.MixerIdeal.τ).loc Cert.MixerIdeal.main_arg4)) (m ((c.tc : Thread Cert.MixerIdeal.nD Cert.MixerIdeal.τ).loc Cert.MixerIdeal.main_arg5)) (m ((c.tc : Thread Cert.MixerIdeal.nD Cert.MixerIdeal.τ).loc Cert.MixerIdeal.main_arg6)) (m ((c.tc : Thread Cert.MixerIdeal.nD Cert.MixerIdeal.τ).loc Cert.MixerIdeal.main_arg7)) (m ((c.tc : Thread Cert.MixerIdeal.nD Cert.MixerIdeal.τ).loc Cert.MixerIdeal.main_arg8)) (m ((c.tc : Thread Cert.MixerIdeal.nD Cert.MixerIdeal.τ).loc Cert.MixerIdeal.main_arg9))).2.2.1 = (fun _ => 1#1)
    ∧ (Cert.Pre_mix_finite.fn (F := Ideal) (m ((c.tc : Thread Cert.MixerIdeal.nD Cert.MixerIdeal.τ).loc Cert.MixerIdeal.main_arg0)) (m ((c.tc : Thread Cert.MixerIdeal.nD Cert.MixerIdeal.τ).loc Cert.MixerIdeal.main_arg1)) (m ((c.tc : Thread Cert.MixerIdeal.nD Cert.MixerIdeal.τ).loc Cert.MixerIdeal.main_arg2)) (m ((c.tc : Thread Cert.MixerIdeal.nD Cert.MixerIdeal.τ).loc Cert.MixerIdeal.main_arg3)) (m ((c.tc : Thread Cert.MixerIdeal.nD Cert.MixerIdeal.τ).loc Cert.MixerIdeal.main_arg4)) (m ((c.tc : Thread Cert.MixerIdeal.nD Cert.MixerIdeal.τ).loc Cert.MixerIdeal.main_arg5)) (m ((c.tc : Thread Cert.MixerIdeal.nD Cert.MixerIdeal.τ).loc Cert.MixerIdeal.main_arg6)) (m ((c.tc : Thread Cert.MixerIdeal.nD Cert.MixerIdeal.τ).loc Cert.MixerIdeal.main_arg7)) (m ((c.tc : Thread Cert.MixerIdeal.nD Cert.MixerIdeal.τ).loc Cert.MixerIdeal.main_arg8)) (m ((c.tc : Thread Cert.MixerIdeal.nD Cert.MixerIdeal.τ).loc Cert.MixerIdeal.main_arg9))).2.2.2.1 = (fun _ => 1#1)
    ∧ (Cert.Pre_mix_finite.fn (F := Ideal) (m ((c.tc : Thread Cert.MixerIdeal.nD Cert.MixerIdeal.τ).loc Cert.MixerIdeal.main_arg0)) (m ((c.tc : Thread Cert.MixerIdeal.nD Cert.MixerIdeal.τ).loc Cert.MixerIdeal.main_arg1)) (m ((c.tc : Thread Cert.MixerIdeal.nD Cert.MixerIdeal.τ).loc Cert.MixerIdeal.main_arg2)) (m ((c.tc : Thread Cert.MixerIdeal.nD Cert.MixerIdeal.τ).loc Cert.MixerIdeal.main_arg3)) (m ((c.tc : Thread Cert.MixerIdeal.nD Cert.MixerIdeal.τ).loc Cert.MixerIdeal.main_arg4)) (m ((c.tc : Thread Cert.MixerIdeal.nD Cert.MixerIdeal.τ).loc Cert.MixerIdeal.main_arg5)) (m ((c.tc : Thread Cert.MixerIdeal.nD Cert.MixerIdeal.τ).loc Cert.MixerIdeal.main_arg6)) (m ((c.tc : Thread Cert.MixerIdeal.nD Cert.MixerIdeal.τ).loc Cert.MixerIdeal.main_arg7)) (m ((c.tc : Thread Cert.MixerIdeal.nD Cert.MixerIdeal.τ).loc Cert.MixerIdeal.main_arg8)) (m ((c.tc : Thread Cert.MixerIdeal.nD Cert.MixerIdeal.τ).loc Cert.MixerIdeal.main_arg9))).2.2.2.2.1 = (fun _ => 1#1)
    ∧ (Cert.Pre_mix_finite.fn (F := Ideal) (m ((c.tc : Thread Cert.MixerIdeal.nD Cert.MixerIdeal.τ).loc Cert.MixerIdeal.main_arg0)) (m ((c.tc : Thread Cert.MixerIdeal.nD Cert.MixerIdeal.τ).loc Cert.MixerIdeal.main_arg1)) (m ((c.tc : Thread Cert.MixerIdeal.nD Cert.MixerIdeal.τ).loc Cert.MixerIdeal.main_arg2)) (m ((c.tc : Thread Cert.MixerIdeal.nD Cert.MixerIdeal.τ).loc Cert.MixerIdeal.main_arg3)) (m ((c.tc : Thread Cert.MixerIdeal.nD Cert.MixerIdeal.τ).loc Cert.MixerIdeal.main_arg4)) (m ((c.tc : Thread Cert.MixerIdeal.nD Cert.MixerIdeal.τ).loc Cert.MixerIdeal.main_arg5)) (m ((c.tc : Thread Cert.MixerIdeal.nD Cert.MixerIdeal.τ).loc Cert.MixerIdeal.main_arg6)) (m ((c.tc : Thread Cert.MixerIdeal.nD Cert.MixerIdeal.τ).loc Cert.MixerIdeal.main_arg7)) (m ((c.tc : Thread Cert.MixerIdeal.nD Cert.MixerIdeal.τ).loc Cert.MixerIdeal.main_arg8)) (m ((c.tc : Thread Cert.MixerIdeal.nD Cert.MixerIdeal.τ).loc Cert.MixerIdeal.main_arg9))).2.2.2.2.2.1 = (fun _ => 1#1)
    ∧ (Cert.Pre_mix_finite.fn (F := Ideal) (m ((c.tc : Thread Cert.MixerIdeal.nD Cert.MixerIdeal.τ).loc Cert.MixerIdeal.main_arg0)) (m ((c.tc : Thread Cert.MixerIdeal.nD Cert.MixerIdeal.τ).loc Cert.MixerIdeal.main_arg1)) (m ((c.tc : Thread Cert.MixerIdeal.nD Cert.MixerIdeal.τ).loc Cert.MixerIdeal.main_arg2)) (m ((c.tc : Thread Cert.MixerIdeal.nD Cert.MixerIdeal.τ).loc Cert.MixerIdeal.main_arg3)) (m ((c.tc : Thread Cert.MixerIdeal.nD Cert.MixerIdeal.τ).loc Cert.MixerIdeal.main_arg4)) (m ((c.tc : Thread Cert.MixerIdeal.nD Cert.MixerIdeal.τ).loc Cert.MixerIdeal.main_arg5)) (m ((c.tc : Thread Cert.MixerIdeal.nD Cert.MixerIdeal.τ).loc Cert.MixerIdeal.main_arg6)) (m ((c.tc : Thread Cert.MixerIdeal.nD Cert.MixerIdeal.τ).loc Cert.MixerIdeal.main_arg7)) (m ((c.tc : Thread Cert.MixerIdeal.nD Cert.MixerIdeal.τ).loc Cert.MixerIdeal.main_arg8)) (m ((c.tc : Thread Cert.MixerIdeal.nD Cert.MixerIdeal.τ).loc Cert.MixerIdeal.main_arg9))).2.2.2.2.2.2.1 = (fun _ => 1#1)
    ∧ (Cert.Pre_mix_finite.fn (F := Ideal) (m ((c.tc : Thread Cert.MixerIdeal.nD Cert.MixerIdeal.τ).loc Cert.MixerIdeal.main_arg0)) (m ((c.tc : Thread Cert.MixerIdeal.nD Cert.MixerIdeal.τ).loc Cert.MixerIdeal.main_arg1)) (m ((c.tc : Thread Cert.MixerIdeal.nD Cert.MixerIdeal.τ).loc Cert.MixerIdeal.main_arg2)) (m ((c.tc : Thread Cert.MixerIdeal.nD Cert.MixerIdeal.τ).loc Cert.MixerIdeal.main_arg3)) (m ((c.tc : Thread Cert.MixerIdeal.nD Cert.MixerIdeal.τ).loc Cert.MixerIdeal.main_arg4)) (m ((c.tc : Thread Cert.MixerIdeal.nD Cert.MixerIdeal.τ).loc Cert.MixerIdeal.main_arg5)) (m ((c.tc : Thread Cert.MixerIdeal.nD Cert.MixerIdeal.τ).loc Cert.MixerIdeal.main_arg6)) (m ((c.tc : Thread Cert.MixerIdeal.nD Cert.MixerIdeal.τ).loc Cert.MixerIdeal.main_arg7)) (m ((c.tc : Thread Cert.MixerIdeal.nD Cert.MixerIdeal.τ).loc Cert.MixerIdeal.main_arg8)) (m ((c.tc : Thread Cert.MixerIdeal.nD Cert.MixerIdeal.τ).loc Cert.MixerIdeal.main_arg9))).2.2.2.2.2.2.2.1 = (fun _ => 1#1)
    ∧ (Cert.Pre_mix_finite.fn (F := Ideal) (m ((c.tc : Thread Cert.MixerIdeal.nD Cert.MixerIdeal.τ).loc Cert.MixerIdeal.main_arg0)) (m ((c.tc : Thread Cert.MixerIdeal.nD Cert.MixerIdeal.τ).loc Cert.MixerIdeal.main_arg1)) (m ((c.tc : Thread Cert.MixerIdeal.nD Cert.MixerIdeal.τ).loc Cert.MixerIdeal.main_arg2)) (m ((c.tc : Thread Cert.MixerIdeal.nD Cert.MixerIdeal.τ).loc Cert.MixerIdeal.main_arg3)) (m ((c.tc : Thread Cert.MixerIdeal.nD Cert.MixerIdeal.τ).loc Cert.MixerIdeal.main_arg4)) (m ((c.tc : Thread Cert.MixerIdeal.nD Cert.MixerIdeal.τ).loc Cert.MixerIdeal.main_arg5)) (m ((c.tc : Thread Cert.MixerIdeal.nD Cert.MixerIdeal.τ).loc Cert.MixerIdeal.main_arg6)) (m ((c.tc : Thread Cert.MixerIdeal.nD Cert.MixerIdeal.τ).loc Cert.MixerIdeal.main_arg7)) (m ((c.tc : Thread Cert.MixerIdeal.nD Cert.MixerIdeal.τ).loc Cert.MixerIdeal.main_arg8)) (m ((c.tc : Thread Cert.MixerIdeal.nD Cert.MixerIdeal.τ).loc Cert.MixerIdeal.main_arg9))).2.2.2.2.2.2.2.2.1 = (fun _ => 1#1)
    ∧ (Cert.Pre_mix_finite.fn (F := Ideal) (m ((c.tc : Thread Cert.MixerIdeal.nD Cert.MixerIdeal.τ).loc Cert.MixerIdeal.main_arg0)) (m ((c.tc : Thread Cert.MixerIdeal.nD Cert.MixerIdeal.τ).loc Cert.MixerIdeal.main_arg1)) (m ((c.tc : Thread Cert.MixerIdeal.nD Cert.MixerIdeal.τ).loc Cert.MixerIdeal.main_arg2)) (m ((c.tc : Thread Cert.MixerIdeal.nD Cert.MixerIdeal.τ).loc Cert.MixerIdeal.main_arg3)) (m ((c.tc : Thread Cert.MixerIdeal.nD Cert.MixerIdeal.τ).loc Cert.MixerIdeal.main_arg4)) (m ((c.tc : Thread Cert.MixerIdeal.nD Cert.MixerIdeal.τ).loc Cert.MixerIdeal.main_arg5)) (m ((c.tc : Thread Cert.MixerIdeal.nD Cert.MixerIdeal.τ).loc Cert.MixerIdeal.main_arg6)) (m ((c.tc : Thread Cert.MixerIdeal.nD Cert.MixerIdeal.τ).loc Cert.MixerIdeal.main_arg7)) (m ((c.tc : Thread Cert.MixerIdeal.nD Cert.MixerIdeal.τ).loc Cert.MixerIdeal.main_arg8)) (m ((c.tc : Thread Cert.MixerIdeal.nD Cert.MixerIdeal.τ).loc Cert.MixerIdeal.main_arg9))).2.2.2.2.2.2.2.2.2 = (fun _ => 1#1)

def Pre_MixerRefIdeal (m : (ℓ : Loc Cert.MixerRefIdeal.nD Cert.MixerRefIdeal.τ Cert.MixerRefIdeal.sig) → Buf (Elt Ideal) ℓ) : Prop :=
  True

def Pre_MixerRefIdeal_mix_finite [hPre_mix_finite : Cert.Pre_mix_finite.Facts] (m : (ℓ : Loc Cert.MixerRefIdeal.nD Cert.MixerRefIdeal.τ Cert.MixerRefIdeal.sig) → Buf (Elt Ideal) ℓ) : Prop :=
  ∀ c : Dev Cert.MixerRefIdeal.nD,
    (Cert.Pre_mix_finite.fn (F := Ideal) (m ((c.tc : Thread Cert.MixerRefIdeal.nD Cert.MixerRefIdeal.τ).loc Cert.MixerRefIdeal.main_arg0)) (m ((c.tc : Thread Cert.MixerRefIdeal.nD Cert.MixerRefIdeal.τ).loc Cert.MixerRefIdeal.main_arg1)) (m ((c.tc : Thread Cert.MixerRefIdeal.nD Cert.MixerRefIdeal.τ).loc Cert.MixerRefIdeal.main_arg2)) (m ((c.tc : Thread Cert.MixerRefIdeal.nD Cert.MixerRefIdeal.τ).loc Cert.MixerRefIdeal.main_arg3)) (m ((c.tc : Thread Cert.MixerRefIdeal.nD Cert.MixerRefIdeal.τ).loc Cert.MixerRefIdeal.main_arg4)) (m ((c.tc : Thread Cert.MixerRefIdeal.nD Cert.MixerRefIdeal.τ).loc Cert.MixerRefIdeal.main_arg5)) (m ((c.tc : Thread Cert.MixerRefIdeal.nD Cert.MixerRefIdeal.τ).loc Cert.MixerRefIdeal.main_arg6)) (m ((c.tc : Thread Cert.MixerRefIdeal.nD Cert.MixerRefIdeal.τ).loc Cert.MixerRefIdeal.main_arg7)) (m ((c.tc : Thread Cert.MixerRefIdeal.nD Cert.MixerRefIdeal.τ).loc Cert.MixerRefIdeal.main_arg8)) (m ((c.tc : Thread Cert.MixerRefIdeal.nD Cert.MixerRefIdeal.τ).loc Cert.MixerRefIdeal.main_arg9))).1 = (fun _ => 1#1)
    ∧ (Cert.Pre_mix_finite.fn (F := Ideal) (m ((c.tc : Thread Cert.MixerRefIdeal.nD Cert.MixerRefIdeal.τ).loc Cert.MixerRefIdeal.main_arg0)) (m ((c.tc : Thread Cert.MixerRefIdeal.nD Cert.MixerRefIdeal.τ).loc Cert.MixerRefIdeal.main_arg1)) (m ((c.tc : Thread Cert.MixerRefIdeal.nD Cert.MixerRefIdeal.τ).loc Cert.MixerRefIdeal.main_arg2)) (m ((c.tc : Thread Cert.MixerRefIdeal.nD Cert.MixerRefIdeal.τ).loc Cert.MixerRefIdeal.main_arg3)) (m ((c.tc : Thread Cert.MixerRefIdeal.nD Cert.MixerRefIdeal.τ).loc Cert.MixerRefIdeal.main_arg4)) (m ((c.tc : Thread Cert.MixerRefIdeal.nD Cert.MixerRefIdeal.τ).loc Cert.MixerRefIdeal.main_arg5)) (m ((c.tc : Thread Cert.MixerRefIdeal.nD Cert.MixerRefIdeal.τ).loc Cert.MixerRefIdeal.main_arg6)) (m ((c.tc : Thread Cert.MixerRefIdeal.nD Cert.MixerRefIdeal.τ).loc Cert.MixerRefIdeal.main_arg7)) (m ((c.tc : Thread Cert.MixerRefIdeal.nD Cert.MixerRefIdeal.τ).loc Cert.MixerRefIdeal.main_arg8)) (m ((c.tc : Thread Cert.MixerRefIdeal.nD Cert.MixerRefIdeal.τ).loc Cert.MixerRefIdeal.main_arg9))).2.1 = (fun _ => 1#1)
    ∧ (Cert.Pre_mix_finite.fn (F := Ideal) (m ((c.tc : Thread Cert.MixerRefIdeal.nD Cert.MixerRefIdeal.τ).loc Cert.MixerRefIdeal.main_arg0)) (m ((c.tc : Thread Cert.MixerRefIdeal.nD Cert.MixerRefIdeal.τ).loc Cert.MixerRefIdeal.main_arg1)) (m ((c.tc : Thread Cert.MixerRefIdeal.nD Cert.MixerRefIdeal.τ).loc Cert.MixerRefIdeal.main_arg2)) (m ((c.tc : Thread Cert.MixerRefIdeal.nD Cert.MixerRefIdeal.τ).loc Cert.MixerRefIdeal.main_arg3)) (m ((c.tc : Thread Cert.MixerRefIdeal.nD Cert.MixerRefIdeal.τ).loc Cert.MixerRefIdeal.main_arg4)) (m ((c.tc : Thread Cert.MixerRefIdeal.nD Cert.MixerRefIdeal.τ).loc Cert.MixerRefIdeal.main_arg5)) (m ((c.tc : Thread Cert.MixerRefIdeal.nD Cert.MixerRefIdeal.τ).loc Cert.MixerRefIdeal.main_arg6)) (m ((c.tc : Thread Cert.MixerRefIdeal.nD Cert.MixerRefIdeal.τ).loc Cert.MixerRefIdeal.main_arg7)) (m ((c.tc : Thread Cert.MixerRefIdeal.nD Cert.MixerRefIdeal.τ).loc Cert.MixerRefIdeal.main_arg8)) (m ((c.tc : Thread Cert.MixerRefIdeal.nD Cert.MixerRefIdeal.τ).loc Cert.MixerRefIdeal.main_arg9))).2.2.1 = (fun _ => 1#1)
    ∧ (Cert.Pre_mix_finite.fn (F := Ideal) (m ((c.tc : Thread Cert.MixerRefIdeal.nD Cert.MixerRefIdeal.τ).loc Cert.MixerRefIdeal.main_arg0)) (m ((c.tc : Thread Cert.MixerRefIdeal.nD Cert.MixerRefIdeal.τ).loc Cert.MixerRefIdeal.main_arg1)) (m ((c.tc : Thread Cert.MixerRefIdeal.nD Cert.MixerRefIdeal.τ).loc Cert.MixerRefIdeal.main_arg2)) (m ((c.tc : Thread Cert.MixerRefIdeal.nD Cert.MixerRefIdeal.τ).loc Cert.MixerRefIdeal.main_arg3)) (m ((c.tc : Thread Cert.MixerRefIdeal.nD Cert.MixerRefIdeal.τ).loc Cert.MixerRefIdeal.main_arg4)) (m ((c.tc : Thread Cert.MixerRefIdeal.nD Cert.MixerRefIdeal.τ).loc Cert.MixerRefIdeal.main_arg5)) (m ((c.tc : Thread Cert.MixerRefIdeal.nD Cert.MixerRefIdeal.τ).loc Cert.MixerRefIdeal.main_arg6)) (m ((c.tc : Thread Cert.MixerRefIdeal.nD Cert.MixerRefIdeal.τ).loc Cert.MixerRefIdeal.main_arg7)) (m ((c.tc : Thread Cert.MixerRefIdeal.nD Cert.MixerRefIdeal.τ).loc Cert.MixerRefIdeal.main_arg8)) (m ((c.tc : Thread Cert.MixerRefIdeal.nD Cert.MixerRefIdeal.τ).loc Cert.MixerRefIdeal.main_arg9))).2.2.2.1 = (fun _ => 1#1)
    ∧ (Cert.Pre_mix_finite.fn (F := Ideal) (m ((c.tc : Thread Cert.MixerRefIdeal.nD Cert.MixerRefIdeal.τ).loc Cert.MixerRefIdeal.main_arg0)) (m ((c.tc : Thread Cert.MixerRefIdeal.nD Cert.MixerRefIdeal.τ).loc Cert.MixerRefIdeal.main_arg1)) (m ((c.tc : Thread Cert.MixerRefIdeal.nD Cert.MixerRefIdeal.τ).loc Cert.MixerRefIdeal.main_arg2)) (m ((c.tc : Thread Cert.MixerRefIdeal.nD Cert.MixerRefIdeal.τ).loc Cert.MixerRefIdeal.main_arg3)) (m ((c.tc : Thread Cert.MixerRefIdeal.nD Cert.MixerRefIdeal.τ).loc Cert.MixerRefIdeal.main_arg4)) (m ((c.tc : Thread Cert.MixerRefIdeal.nD Cert.MixerRefIdeal.τ).loc Cert.MixerRefIdeal.main_arg5)) (m ((c.tc : Thread Cert.MixerRefIdeal.nD Cert.MixerRefIdeal.τ).loc Cert.MixerRefIdeal.main_arg6)) (m ((c.tc : Thread Cert.MixerRefIdeal.nD Cert.MixerRefIdeal.τ).loc Cert.MixerRefIdeal.main_arg7)) (m ((c.tc : Thread Cert.MixerRefIdeal.nD Cert.MixerRefIdeal.τ).loc Cert.MixerRefIdeal.main_arg8)) (m ((c.tc : Thread Cert.MixerRefIdeal.nD Cert.MixerRefIdeal.τ).loc Cert.MixerRefIdeal.main_arg9))).2.2.2.2.1 = (fun _ => 1#1)
    ∧ (Cert.Pre_mix_finite.fn (F := Ideal) (m ((c.tc : Thread Cert.MixerRefIdeal.nD Cert.MixerRefIdeal.τ).loc Cert.MixerRefIdeal.main_arg0)) (m ((c.tc : Thread Cert.MixerRefIdeal.nD Cert.MixerRefIdeal.τ).loc Cert.MixerRefIdeal.main_arg1)) (m ((c.tc : Thread Cert.MixerRefIdeal.nD Cert.MixerRefIdeal.τ).loc Cert.MixerRefIdeal.main_arg2)) (m ((c.tc : Thread Cert.MixerRefIdeal.nD Cert.MixerRefIdeal.τ).loc Cert.MixerRefIdeal.main_arg3)) (m ((c.tc : Thread Cert.MixerRefIdeal.nD Cert.MixerRefIdeal.τ).loc Cert.MixerRefIdeal.main_arg4)) (m ((c.tc : Thread Cert.MixerRefIdeal.nD Cert.MixerRefIdeal.τ).loc Cert.MixerRefIdeal.main_arg5)) (m ((c.tc : Thread Cert.MixerRefIdeal.nD Cert.MixerRefIdeal.τ).loc Cert.MixerRefIdeal.main_arg6)) (m ((c.tc : Thread Cert.MixerRefIdeal.nD Cert.MixerRefIdeal.τ).loc Cert.MixerRefIdeal.main_arg7)) (m ((c.tc : Thread Cert.MixerRefIdeal.nD Cert.MixerRefIdeal.τ).loc Cert.MixerRefIdeal.main_arg8)) (m ((c.tc : Thread Cert.MixerRefIdeal.nD Cert.MixerRefIdeal.τ).loc Cert.MixerRefIdeal.main_arg9))).2.2.2.2.2.1 = (fun _ => 1#1)
    ∧ (Cert.Pre_mix_finite.fn (F := Ideal) (m ((c.tc : Thread Cert.MixerRefIdeal.nD Cert.MixerRefIdeal.τ).loc Cert.MixerRefIdeal.main_arg0)) (m ((c.tc : Thread Cert.MixerRefIdeal.nD Cert.MixerRefIdeal.τ).loc Cert.MixerRefIdeal.main_arg1)) (m ((c.tc : Thread Cert.MixerRefIdeal.nD Cert.MixerRefIdeal.τ).loc Cert.MixerRefIdeal.main_arg2)) (m ((c.tc : Thread Cert.MixerRefIdeal.nD Cert.MixerRefIdeal.τ).loc Cert.MixerRefIdeal.main_arg3)) (m ((c.tc : Thread Cert.MixerRefIdeal.nD Cert.MixerRefIdeal.τ).loc Cert.MixerRefIdeal.main_arg4)) (m ((c.tc : Thread Cert.MixerRefIdeal.nD Cert.MixerRefIdeal.τ).loc Cert.MixerRefIdeal.main_arg5)) (m ((c.tc : Thread Cert.MixerRefIdeal.nD Cert.MixerRefIdeal.τ).loc Cert.MixerRefIdeal.main_arg6)) (m ((c.tc : Thread Cert.MixerRefIdeal.nD Cert.MixerRefIdeal.τ).loc Cert.MixerRefIdeal.main_arg7)) (m ((c.tc : Thread Cert.MixerRefIdeal.nD Cert.MixerRefIdeal.τ).loc Cert.MixerRefIdeal.main_arg8)) (m ((c.tc : Thread Cert.MixerRefIdeal.nD Cert.MixerRefIdeal.τ).loc Cert.MixerRefIdeal.main_arg9))).2.2.2.2.2.2.1 = (fun _ => 1#1)
    ∧ (Cert.Pre_mix_finite.fn (F := Ideal) (m ((c.tc : Thread Cert.MixerRefIdeal.nD Cert.MixerRefIdeal.τ).loc Cert.MixerRefIdeal.main_arg0)) (m ((c.tc : Thread Cert.MixerRefIdeal.nD Cert.MixerRefIdeal.τ).loc Cert.MixerRefIdeal.main_arg1)) (m ((c.tc : Thread Cert.MixerRefIdeal.nD Cert.MixerRefIdeal.τ).loc Cert.MixerRefIdeal.main_arg2)) (m ((c.tc : Thread Cert.MixerRefIdeal.nD Cert.MixerRefIdeal.τ).loc Cert.MixerRefIdeal.main_arg3)) (m ((c.tc : Thread Cert.MixerRefIdeal.nD Cert.MixerRefIdeal.τ).loc Cert.MixerRefIdeal.main_arg4)) (m ((c.tc : Thread Cert.MixerRefIdeal.nD Cert.MixerRefIdeal.τ).loc Cert.MixerRefIdeal.main_arg5)) (m ((c.tc : Thread Cert.MixerRefIdeal.nD Cert.MixerRefIdeal.τ).loc Cert.MixerRefIdeal.main_arg6)) (m ((c.tc : Thread Cert.MixerRefIdeal.nD Cert.MixerRefIdeal.τ).loc Cert.MixerRefIdeal.main_arg7)) (m ((c.tc : Thread Cert.MixerRefIdeal.nD Cert.MixerRefIdeal.τ).loc Cert.MixerRefIdeal.main_arg8)) (m ((c.tc : Thread Cert.MixerRefIdeal.nD Cert.MixerRefIdeal.τ).loc Cert.MixerRefIdeal.main_arg9))).2.2.2.2.2.2.2.1 = (fun _ => 1#1)
    ∧ (Cert.Pre_mix_finite.fn (F := Ideal) (m ((c.tc : Thread Cert.MixerRefIdeal.nD Cert.MixerRefIdeal.τ).loc Cert.MixerRefIdeal.main_arg0)) (m ((c.tc : Thread Cert.MixerRefIdeal.nD Cert.MixerRefIdeal.τ).loc Cert.MixerRefIdeal.main_arg1)) (m ((c.tc : Thread Cert.MixerRefIdeal.nD Cert.MixerRefIdeal.τ).loc Cert.MixerRefIdeal.main_arg2)) (m ((c.tc : Thread Cert.MixerRefIdeal.nD Cert.MixerRefIdeal.τ).loc Cert.MixerRefIdeal.main_arg3)) (m ((c.tc : Thread Cert.MixerRefIdeal.nD Cert.MixerRefIdeal.τ).loc Cert.MixerRefIdeal.main_arg4)) (m ((c.tc : Thread Cert.MixerRefIdeal.nD Cert.MixerRefIdeal.τ).loc Cert.MixerRefIdeal.main_arg5)) (m ((c.tc : Thread Cert.MixerRefIdeal.nD Cert.MixerRefIdeal.τ).loc Cert.MixerRefIdeal.main_arg6)) (m ((c.tc : Thread Cert.MixerRefIdeal.nD Cert.MixerRefIdeal.τ).loc Cert.MixerRefIdeal.main_arg7)) (m ((c.tc : Thread Cert.MixerRefIdeal.nD Cert.MixerRefIdeal.τ).loc Cert.MixerRefIdeal.main_arg8)) (m ((c.tc : Thread Cert.MixerRefIdeal.nD Cert.MixerRefIdeal.τ).loc Cert.MixerRefIdeal.main_arg9))).2.2.2.2.2.2.2.2.1 = (fun _ => 1#1)
    ∧ (Cert.Pre_mix_finite.fn (F := Ideal) (m ((c.tc : Thread Cert.MixerRefIdeal.nD Cert.MixerRefIdeal.τ).loc Cert.MixerRefIdeal.main_arg0)) (m ((c.tc : Thread Cert.MixerRefIdeal.nD Cert.MixerRefIdeal.τ).loc Cert.MixerRefIdeal.main_arg1)) (m ((c.tc : Thread Cert.MixerRefIdeal.nD Cert.MixerRefIdeal.τ).loc Cert.MixerRefIdeal.main_arg2)) (m ((c.tc : Thread Cert.MixerRefIdeal.nD Cert.MixerRefIdeal.τ).loc Cert.MixerRefIdeal.main_arg3)) (m ((c.tc : Thread Cert.MixerRefIdeal.nD Cert.MixerRefIdeal.τ).loc Cert.MixerRefIdeal.main_arg4)) (m ((c.tc : Thread Cert.MixerRefIdeal.nD Cert.MixerRefIdeal.τ).loc Cert.MixerRefIdeal.main_arg5)) (m ((c.tc : Thread Cert.MixerRefIdeal.nD Cert.MixerRefIdeal.τ).loc Cert.MixerRefIdeal.main_arg6)) (m ((c.tc : Thread Cert.MixerRefIdeal.nD Cert.MixerRefIdeal.τ).loc Cert.MixerRefIdeal.main_arg7)) (m ((c.tc : Thread Cert.MixerRefIdeal.nD Cert.MixerRefIdeal.τ).loc Cert.MixerRefIdeal.main_arg8)) (m ((c.tc : Thread Cert.MixerRefIdeal.nD Cert.MixerRefIdeal.τ).loc Cert.MixerRefIdeal.main_arg9))).2.2.2.2.2.2.2.2.2 = (fun _ => 1#1)

def Pre_MlaPrep (m : (ℓ : Loc Cert.MlaPrep.nD Cert.MlaPrep.τ Cert.MlaPrep.sig) → Buf (Elt Bits) ℓ) : Prop :=
  True

def Pre_MlaPrepIdeal (m : (ℓ : Loc Cert.MlaPrepIdeal.nD Cert.MlaPrepIdeal.τ Cert.MlaPrepIdeal.sig) → Buf (Elt Ideal) ℓ) : Prop :=
  True

def Pre_MlaPrepIdeal_mla_finite [hPre_mla_finite : Cert.Pre_mla_finite.Facts] (m : (ℓ : Loc Cert.MlaPrepIdeal.nD Cert.MlaPrepIdeal.τ Cert.MlaPrepIdeal.sig) → Buf (Elt Ideal) ℓ) : Prop :=
  ∀ c : Dev Cert.MlaPrepIdeal.nD,
    (Cert.Pre_mla_finite.fn (F := Ideal) (m ((c.tc : Thread Cert.MlaPrepIdeal.nD Cert.MlaPrepIdeal.τ).loc Cert.MlaPrepIdeal.main_arg0)) (m ((c.tc : Thread Cert.MlaPrepIdeal.nD Cert.MlaPrepIdeal.τ).loc Cert.MlaPrepIdeal.main_arg1)) (m ((c.tc : Thread Cert.MlaPrepIdeal.nD Cert.MlaPrepIdeal.τ).loc Cert.MlaPrepIdeal.main_arg2)) (m ((c.tc : Thread Cert.MlaPrepIdeal.nD Cert.MlaPrepIdeal.τ).loc Cert.MlaPrepIdeal.main_arg3)) (m ((c.tc : Thread Cert.MlaPrepIdeal.nD Cert.MlaPrepIdeal.τ).loc Cert.MlaPrepIdeal.main_arg4)) (m ((c.tc : Thread Cert.MlaPrepIdeal.nD Cert.MlaPrepIdeal.τ).loc Cert.MlaPrepIdeal.main_arg5)) (m ((c.tc : Thread Cert.MlaPrepIdeal.nD Cert.MlaPrepIdeal.τ).loc Cert.MlaPrepIdeal.main_arg6)) (m ((c.tc : Thread Cert.MlaPrepIdeal.nD Cert.MlaPrepIdeal.τ).loc Cert.MlaPrepIdeal.main_arg7)) (m ((c.tc : Thread Cert.MlaPrepIdeal.nD Cert.MlaPrepIdeal.τ).loc Cert.MlaPrepIdeal.main_arg8)) (m ((c.tc : Thread Cert.MlaPrepIdeal.nD Cert.MlaPrepIdeal.τ).loc Cert.MlaPrepIdeal.main_arg9)) (m ((c.tc : Thread Cert.MlaPrepIdeal.nD Cert.MlaPrepIdeal.τ).loc Cert.MlaPrepIdeal.main_arg10))).1 = (fun _ => 1#1)
    ∧ (Cert.Pre_mla_finite.fn (F := Ideal) (m ((c.tc : Thread Cert.MlaPrepIdeal.nD Cert.MlaPrepIdeal.τ).loc Cert.MlaPrepIdeal.main_arg0)) (m ((c.tc : Thread Cert.MlaPrepIdeal.nD Cert.MlaPrepIdeal.τ).loc Cert.MlaPrepIdeal.main_arg1)) (m ((c.tc : Thread Cert.MlaPrepIdeal.nD Cert.MlaPrepIdeal.τ).loc Cert.MlaPrepIdeal.main_arg2)) (m ((c.tc : Thread Cert.MlaPrepIdeal.nD Cert.MlaPrepIdeal.τ).loc Cert.MlaPrepIdeal.main_arg3)) (m ((c.tc : Thread Cert.MlaPrepIdeal.nD Cert.MlaPrepIdeal.τ).loc Cert.MlaPrepIdeal.main_arg4)) (m ((c.tc : Thread Cert.MlaPrepIdeal.nD Cert.MlaPrepIdeal.τ).loc Cert.MlaPrepIdeal.main_arg5)) (m ((c.tc : Thread Cert.MlaPrepIdeal.nD Cert.MlaPrepIdeal.τ).loc Cert.MlaPrepIdeal.main_arg6)) (m ((c.tc : Thread Cert.MlaPrepIdeal.nD Cert.MlaPrepIdeal.τ).loc Cert.MlaPrepIdeal.main_arg7)) (m ((c.tc : Thread Cert.MlaPrepIdeal.nD Cert.MlaPrepIdeal.τ).loc Cert.MlaPrepIdeal.main_arg8)) (m ((c.tc : Thread Cert.MlaPrepIdeal.nD Cert.MlaPrepIdeal.τ).loc Cert.MlaPrepIdeal.main_arg9)) (m ((c.tc : Thread Cert.MlaPrepIdeal.nD Cert.MlaPrepIdeal.τ).loc Cert.MlaPrepIdeal.main_arg10))).2.1 = (fun _ => 1#1)
    ∧ (Cert.Pre_mla_finite.fn (F := Ideal) (m ((c.tc : Thread Cert.MlaPrepIdeal.nD Cert.MlaPrepIdeal.τ).loc Cert.MlaPrepIdeal.main_arg0)) (m ((c.tc : Thread Cert.MlaPrepIdeal.nD Cert.MlaPrepIdeal.τ).loc Cert.MlaPrepIdeal.main_arg1)) (m ((c.tc : Thread Cert.MlaPrepIdeal.nD Cert.MlaPrepIdeal.τ).loc Cert.MlaPrepIdeal.main_arg2)) (m ((c.tc : Thread Cert.MlaPrepIdeal.nD Cert.MlaPrepIdeal.τ).loc Cert.MlaPrepIdeal.main_arg3)) (m ((c.tc : Thread Cert.MlaPrepIdeal.nD Cert.MlaPrepIdeal.τ).loc Cert.MlaPrepIdeal.main_arg4)) (m ((c.tc : Thread Cert.MlaPrepIdeal.nD Cert.MlaPrepIdeal.τ).loc Cert.MlaPrepIdeal.main_arg5)) (m ((c.tc : Thread Cert.MlaPrepIdeal.nD Cert.MlaPrepIdeal.τ).loc Cert.MlaPrepIdeal.main_arg6)) (m ((c.tc : Thread Cert.MlaPrepIdeal.nD Cert.MlaPrepIdeal.τ).loc Cert.MlaPrepIdeal.main_arg7)) (m ((c.tc : Thread Cert.MlaPrepIdeal.nD Cert.MlaPrepIdeal.τ).loc Cert.MlaPrepIdeal.main_arg8)) (m ((c.tc : Thread Cert.MlaPrepIdeal.nD Cert.MlaPrepIdeal.τ).loc Cert.MlaPrepIdeal.main_arg9)) (m ((c.tc : Thread Cert.MlaPrepIdeal.nD Cert.MlaPrepIdeal.τ).loc Cert.MlaPrepIdeal.main_arg10))).2.2.1 = (fun _ => 1#1)
    ∧ (Cert.Pre_mla_finite.fn (F := Ideal) (m ((c.tc : Thread Cert.MlaPrepIdeal.nD Cert.MlaPrepIdeal.τ).loc Cert.MlaPrepIdeal.main_arg0)) (m ((c.tc : Thread Cert.MlaPrepIdeal.nD Cert.MlaPrepIdeal.τ).loc Cert.MlaPrepIdeal.main_arg1)) (m ((c.tc : Thread Cert.MlaPrepIdeal.nD Cert.MlaPrepIdeal.τ).loc Cert.MlaPrepIdeal.main_arg2)) (m ((c.tc : Thread Cert.MlaPrepIdeal.nD Cert.MlaPrepIdeal.τ).loc Cert.MlaPrepIdeal.main_arg3)) (m ((c.tc : Thread Cert.MlaPrepIdeal.nD Cert.MlaPrepIdeal.τ).loc Cert.MlaPrepIdeal.main_arg4)) (m ((c.tc : Thread Cert.MlaPrepIdeal.nD Cert.MlaPrepIdeal.τ).loc Cert.MlaPrepIdeal.main_arg5)) (m ((c.tc : Thread Cert.MlaPrepIdeal.nD Cert.MlaPrepIdeal.τ).loc Cert.MlaPrepIdeal.main_arg6)) (m ((c.tc : Thread Cert.MlaPrepIdeal.nD Cert.MlaPrepIdeal.τ).loc Cert.MlaPrepIdeal.main_arg7)) (m ((c.tc : Thread Cert.MlaPrepIdeal.nD Cert.MlaPrepIdeal.τ).loc Cert.MlaPrepIdeal.main_arg8)) (m ((c.tc : Thread Cert.MlaPrepIdeal.nD Cert.MlaPrepIdeal.τ).loc Cert.MlaPrepIdeal.main_arg9)) (m ((c.tc : Thread Cert.MlaPrepIdeal.nD Cert.MlaPrepIdeal.τ).loc Cert.MlaPrepIdeal.main_arg10))).2.2.2.1 = (fun _ => 1#1)
    ∧ (Cert.Pre_mla_finite.fn (F := Ideal) (m ((c.tc : Thread Cert.MlaPrepIdeal.nD Cert.MlaPrepIdeal.τ).loc Cert.MlaPrepIdeal.main_arg0)) (m ((c.tc : Thread Cert.MlaPrepIdeal.nD Cert.MlaPrepIdeal.τ).loc Cert.MlaPrepIdeal.main_arg1)) (m ((c.tc : Thread Cert.MlaPrepIdeal.nD Cert.MlaPrepIdeal.τ).loc Cert.MlaPrepIdeal.main_arg2)) (m ((c.tc : Thread Cert.MlaPrepIdeal.nD Cert.MlaPrepIdeal.τ).loc Cert.MlaPrepIdeal.main_arg3)) (m ((c.tc : Thread Cert.MlaPrepIdeal.nD Cert.MlaPrepIdeal.τ).loc Cert.MlaPrepIdeal.main_arg4)) (m ((c.tc : Thread Cert.MlaPrepIdeal.nD Cert.MlaPrepIdeal.τ).loc Cert.MlaPrepIdeal.main_arg5)) (m ((c.tc : Thread Cert.MlaPrepIdeal.nD Cert.MlaPrepIdeal.τ).loc Cert.MlaPrepIdeal.main_arg6)) (m ((c.tc : Thread Cert.MlaPrepIdeal.nD Cert.MlaPrepIdeal.τ).loc Cert.MlaPrepIdeal.main_arg7)) (m ((c.tc : Thread Cert.MlaPrepIdeal.nD Cert.MlaPrepIdeal.τ).loc Cert.MlaPrepIdeal.main_arg8)) (m ((c.tc : Thread Cert.MlaPrepIdeal.nD Cert.MlaPrepIdeal.τ).loc Cert.MlaPrepIdeal.main_arg9)) (m ((c.tc : Thread Cert.MlaPrepIdeal.nD Cert.MlaPrepIdeal.τ).loc Cert.MlaPrepIdeal.main_arg10))).2.2.2.2.1 = (fun _ => 1#1)
    ∧ (Cert.Pre_mla_finite.fn (F := Ideal) (m ((c.tc : Thread Cert.MlaPrepIdeal.nD Cert.MlaPrepIdeal.τ).loc Cert.MlaPrepIdeal.main_arg0)) (m ((c.tc : Thread Cert.MlaPrepIdeal.nD Cert.MlaPrepIdeal.τ).loc Cert.MlaPrepIdeal.main_arg1)) (m ((c.tc : Thread Cert.MlaPrepIdeal.nD Cert.MlaPrepIdeal.τ).loc Cert.MlaPrepIdeal.main_arg2)) (m ((c.tc : Thread Cert.MlaPrepIdeal.nD Cert.MlaPrepIdeal.τ).loc Cert.MlaPrepIdeal.main_arg3)) (m ((c.tc : Thread Cert.MlaPrepIdeal.nD Cert.MlaPrepIdeal.τ).loc Cert.MlaPrepIdeal.main_arg4)) (m ((c.tc : Thread Cert.MlaPrepIdeal.nD Cert.MlaPrepIdeal.τ).loc Cert.MlaPrepIdeal.main_arg5)) (m ((c.tc : Thread Cert.MlaPrepIdeal.nD Cert.MlaPrepIdeal.τ).loc Cert.MlaPrepIdeal.main_arg6)) (m ((c.tc : Thread Cert.MlaPrepIdeal.nD Cert.MlaPrepIdeal.τ).loc Cert.MlaPrepIdeal.main_arg7)) (m ((c.tc : Thread Cert.MlaPrepIdeal.nD Cert.MlaPrepIdeal.τ).loc Cert.MlaPrepIdeal.main_arg8)) (m ((c.tc : Thread Cert.MlaPrepIdeal.nD Cert.MlaPrepIdeal.τ).loc Cert.MlaPrepIdeal.main_arg9)) (m ((c.tc : Thread Cert.MlaPrepIdeal.nD Cert.MlaPrepIdeal.τ).loc Cert.MlaPrepIdeal.main_arg10))).2.2.2.2.2.1 = (fun _ => 1#1)
    ∧ (Cert.Pre_mla_finite.fn (F := Ideal) (m ((c.tc : Thread Cert.MlaPrepIdeal.nD Cert.MlaPrepIdeal.τ).loc Cert.MlaPrepIdeal.main_arg0)) (m ((c.tc : Thread Cert.MlaPrepIdeal.nD Cert.MlaPrepIdeal.τ).loc Cert.MlaPrepIdeal.main_arg1)) (m ((c.tc : Thread Cert.MlaPrepIdeal.nD Cert.MlaPrepIdeal.τ).loc Cert.MlaPrepIdeal.main_arg2)) (m ((c.tc : Thread Cert.MlaPrepIdeal.nD Cert.MlaPrepIdeal.τ).loc Cert.MlaPrepIdeal.main_arg3)) (m ((c.tc : Thread Cert.MlaPrepIdeal.nD Cert.MlaPrepIdeal.τ).loc Cert.MlaPrepIdeal.main_arg4)) (m ((c.tc : Thread Cert.MlaPrepIdeal.nD Cert.MlaPrepIdeal.τ).loc Cert.MlaPrepIdeal.main_arg5)) (m ((c.tc : Thread Cert.MlaPrepIdeal.nD Cert.MlaPrepIdeal.τ).loc Cert.MlaPrepIdeal.main_arg6)) (m ((c.tc : Thread Cert.MlaPrepIdeal.nD Cert.MlaPrepIdeal.τ).loc Cert.MlaPrepIdeal.main_arg7)) (m ((c.tc : Thread Cert.MlaPrepIdeal.nD Cert.MlaPrepIdeal.τ).loc Cert.MlaPrepIdeal.main_arg8)) (m ((c.tc : Thread Cert.MlaPrepIdeal.nD Cert.MlaPrepIdeal.τ).loc Cert.MlaPrepIdeal.main_arg9)) (m ((c.tc : Thread Cert.MlaPrepIdeal.nD Cert.MlaPrepIdeal.τ).loc Cert.MlaPrepIdeal.main_arg10))).2.2.2.2.2.2.1 = (fun _ => 1#1)
    ∧ (Cert.Pre_mla_finite.fn (F := Ideal) (m ((c.tc : Thread Cert.MlaPrepIdeal.nD Cert.MlaPrepIdeal.τ).loc Cert.MlaPrepIdeal.main_arg0)) (m ((c.tc : Thread Cert.MlaPrepIdeal.nD Cert.MlaPrepIdeal.τ).loc Cert.MlaPrepIdeal.main_arg1)) (m ((c.tc : Thread Cert.MlaPrepIdeal.nD Cert.MlaPrepIdeal.τ).loc Cert.MlaPrepIdeal.main_arg2)) (m ((c.tc : Thread Cert.MlaPrepIdeal.nD Cert.MlaPrepIdeal.τ).loc Cert.MlaPrepIdeal.main_arg3)) (m ((c.tc : Thread Cert.MlaPrepIdeal.nD Cert.MlaPrepIdeal.τ).loc Cert.MlaPrepIdeal.main_arg4)) (m ((c.tc : Thread Cert.MlaPrepIdeal.nD Cert.MlaPrepIdeal.τ).loc Cert.MlaPrepIdeal.main_arg5)) (m ((c.tc : Thread Cert.MlaPrepIdeal.nD Cert.MlaPrepIdeal.τ).loc Cert.MlaPrepIdeal.main_arg6)) (m ((c.tc : Thread Cert.MlaPrepIdeal.nD Cert.MlaPrepIdeal.τ).loc Cert.MlaPrepIdeal.main_arg7)) (m ((c.tc : Thread Cert.MlaPrepIdeal.nD Cert.MlaPrepIdeal.τ).loc Cert.MlaPrepIdeal.main_arg8)) (m ((c.tc : Thread Cert.MlaPrepIdeal.nD Cert.MlaPrepIdeal.τ).loc Cert.MlaPrepIdeal.main_arg9)) (m ((c.tc : Thread Cert.MlaPrepIdeal.nD Cert.MlaPrepIdeal.τ).loc Cert.MlaPrepIdeal.main_arg10))).2.2.2.2.2.2.2.1 = (fun _ => 1#1)
    ∧ (Cert.Pre_mla_finite.fn (F := Ideal) (m ((c.tc : Thread Cert.MlaPrepIdeal.nD Cert.MlaPrepIdeal.τ).loc Cert.MlaPrepIdeal.main_arg0)) (m ((c.tc : Thread Cert.MlaPrepIdeal.nD Cert.MlaPrepIdeal.τ).loc Cert.MlaPrepIdeal.main_arg1)) (m ((c.tc : Thread Cert.MlaPrepIdeal.nD Cert.MlaPrepIdeal.τ).loc Cert.MlaPrepIdeal.main_arg2)) (m ((c.tc : Thread Cert.MlaPrepIdeal.nD Cert.MlaPrepIdeal.τ).loc Cert.MlaPrepIdeal.main_arg3)) (m ((c.tc : Thread Cert.MlaPrepIdeal.nD Cert.MlaPrepIdeal.τ).loc Cert.MlaPrepIdeal.main_arg4)) (m ((c.tc : Thread Cert.MlaPrepIdeal.nD Cert.MlaPrepIdeal.τ).loc Cert.MlaPrepIdeal.main_arg5)) (m ((c.tc : Thread Cert.MlaPrepIdeal.nD Cert.MlaPrepIdeal.τ).loc Cert.MlaPrepIdeal.main_arg6)) (m ((c.tc : Thread Cert.MlaPrepIdeal.nD Cert.MlaPrepIdeal.τ).loc Cert.MlaPrepIdeal.main_arg7)) (m ((c.tc : Thread Cert.MlaPrepIdeal.nD Cert.MlaPrepIdeal.τ).loc Cert.MlaPrepIdeal.main_arg8)) (m ((c.tc : Thread Cert.MlaPrepIdeal.nD Cert.MlaPrepIdeal.τ).loc Cert.MlaPrepIdeal.main_arg9)) (m ((c.tc : Thread Cert.MlaPrepIdeal.nD Cert.MlaPrepIdeal.τ).loc Cert.MlaPrepIdeal.main_arg10))).2.2.2.2.2.2.2.2.1 = (fun _ => 1#1)
    ∧ (Cert.Pre_mla_finite.fn (F := Ideal) (m ((c.tc : Thread Cert.MlaPrepIdeal.nD Cert.MlaPrepIdeal.τ).loc Cert.MlaPrepIdeal.main_arg0)) (m ((c.tc : Thread Cert.MlaPrepIdeal.nD Cert.MlaPrepIdeal.τ).loc Cert.MlaPrepIdeal.main_arg1)) (m ((c.tc : Thread Cert.MlaPrepIdeal.nD Cert.MlaPrepIdeal.τ).loc Cert.MlaPrepIdeal.main_arg2)) (m ((c.tc : Thread Cert.MlaPrepIdeal.nD Cert.MlaPrepIdeal.τ).loc Cert.MlaPrepIdeal.main_arg3)) (m ((c.tc : Thread Cert.MlaPrepIdeal.nD Cert.MlaPrepIdeal.τ).loc Cert.MlaPrepIdeal.main_arg4)) (m ((c.tc : Thread Cert.MlaPrepIdeal.nD Cert.MlaPrepIdeal.τ).loc Cert.MlaPrepIdeal.main_arg5)) (m ((c.tc : Thread Cert.MlaPrepIdeal.nD Cert.MlaPrepIdeal.τ).loc Cert.MlaPrepIdeal.main_arg6)) (m ((c.tc : Thread Cert.MlaPrepIdeal.nD Cert.MlaPrepIdeal.τ).loc Cert.MlaPrepIdeal.main_arg7)) (m ((c.tc : Thread Cert.MlaPrepIdeal.nD Cert.MlaPrepIdeal.τ).loc Cert.MlaPrepIdeal.main_arg8)) (m ((c.tc : Thread Cert.MlaPrepIdeal.nD Cert.MlaPrepIdeal.τ).loc Cert.MlaPrepIdeal.main_arg9)) (m ((c.tc : Thread Cert.MlaPrepIdeal.nD Cert.MlaPrepIdeal.τ).loc Cert.MlaPrepIdeal.main_arg10))).2.2.2.2.2.2.2.2.2 = (fun _ => 1#1)

def Pre_MlaPrepRefIdeal (m : (ℓ : Loc Cert.MlaPrepRefIdeal.nD Cert.MlaPrepRefIdeal.τ Cert.MlaPrepRefIdeal.sig) → Buf (Elt Ideal) ℓ) : Prop :=
  True

def Pre_MlaPrepRefIdeal_mla_finite [hPre_mla_finite : Cert.Pre_mla_finite.Facts] (m : (ℓ : Loc Cert.MlaPrepRefIdeal.nD Cert.MlaPrepRefIdeal.τ Cert.MlaPrepRefIdeal.sig) → Buf (Elt Ideal) ℓ) : Prop :=
  ∀ c : Dev Cert.MlaPrepRefIdeal.nD,
    (Cert.Pre_mla_finite.fn (F := Ideal) (m ((c.tc : Thread Cert.MlaPrepRefIdeal.nD Cert.MlaPrepRefIdeal.τ).loc Cert.MlaPrepRefIdeal.main_arg0)) (m ((c.tc : Thread Cert.MlaPrepRefIdeal.nD Cert.MlaPrepRefIdeal.τ).loc Cert.MlaPrepRefIdeal.main_arg1)) (m ((c.tc : Thread Cert.MlaPrepRefIdeal.nD Cert.MlaPrepRefIdeal.τ).loc Cert.MlaPrepRefIdeal.main_arg2)) (m ((c.tc : Thread Cert.MlaPrepRefIdeal.nD Cert.MlaPrepRefIdeal.τ).loc Cert.MlaPrepRefIdeal.main_arg3)) (m ((c.tc : Thread Cert.MlaPrepRefIdeal.nD Cert.MlaPrepRefIdeal.τ).loc Cert.MlaPrepRefIdeal.main_arg4)) (m ((c.tc : Thread Cert.MlaPrepRefIdeal.nD Cert.MlaPrepRefIdeal.τ).loc Cert.MlaPrepRefIdeal.main_arg5)) (m ((c.tc : Thread Cert.MlaPrepRefIdeal.nD Cert.MlaPrepRefIdeal.τ).loc Cert.MlaPrepRefIdeal.main_arg6)) (m ((c.tc : Thread Cert.MlaPrepRefIdeal.nD Cert.MlaPrepRefIdeal.τ).loc Cert.MlaPrepRefIdeal.main_arg7)) (m ((c.tc : Thread Cert.MlaPrepRefIdeal.nD Cert.MlaPrepRefIdeal.τ).loc Cert.MlaPrepRefIdeal.main_arg8)) (m ((c.tc : Thread Cert.MlaPrepRefIdeal.nD Cert.MlaPrepRefIdeal.τ).loc Cert.MlaPrepRefIdeal.main_arg9)) (m ((c.tc : Thread Cert.MlaPrepRefIdeal.nD Cert.MlaPrepRefIdeal.τ).loc Cert.MlaPrepRefIdeal.main_arg10))).1 = (fun _ => 1#1)
    ∧ (Cert.Pre_mla_finite.fn (F := Ideal) (m ((c.tc : Thread Cert.MlaPrepRefIdeal.nD Cert.MlaPrepRefIdeal.τ).loc Cert.MlaPrepRefIdeal.main_arg0)) (m ((c.tc : Thread Cert.MlaPrepRefIdeal.nD Cert.MlaPrepRefIdeal.τ).loc Cert.MlaPrepRefIdeal.main_arg1)) (m ((c.tc : Thread Cert.MlaPrepRefIdeal.nD Cert.MlaPrepRefIdeal.τ).loc Cert.MlaPrepRefIdeal.main_arg2)) (m ((c.tc : Thread Cert.MlaPrepRefIdeal.nD Cert.MlaPrepRefIdeal.τ).loc Cert.MlaPrepRefIdeal.main_arg3)) (m ((c.tc : Thread Cert.MlaPrepRefIdeal.nD Cert.MlaPrepRefIdeal.τ).loc Cert.MlaPrepRefIdeal.main_arg4)) (m ((c.tc : Thread Cert.MlaPrepRefIdeal.nD Cert.MlaPrepRefIdeal.τ).loc Cert.MlaPrepRefIdeal.main_arg5)) (m ((c.tc : Thread Cert.MlaPrepRefIdeal.nD Cert.MlaPrepRefIdeal.τ).loc Cert.MlaPrepRefIdeal.main_arg6)) (m ((c.tc : Thread Cert.MlaPrepRefIdeal.nD Cert.MlaPrepRefIdeal.τ).loc Cert.MlaPrepRefIdeal.main_arg7)) (m ((c.tc : Thread Cert.MlaPrepRefIdeal.nD Cert.MlaPrepRefIdeal.τ).loc Cert.MlaPrepRefIdeal.main_arg8)) (m ((c.tc : Thread Cert.MlaPrepRefIdeal.nD Cert.MlaPrepRefIdeal.τ).loc Cert.MlaPrepRefIdeal.main_arg9)) (m ((c.tc : Thread Cert.MlaPrepRefIdeal.nD Cert.MlaPrepRefIdeal.τ).loc Cert.MlaPrepRefIdeal.main_arg10))).2.1 = (fun _ => 1#1)
    ∧ (Cert.Pre_mla_finite.fn (F := Ideal) (m ((c.tc : Thread Cert.MlaPrepRefIdeal.nD Cert.MlaPrepRefIdeal.τ).loc Cert.MlaPrepRefIdeal.main_arg0)) (m ((c.tc : Thread Cert.MlaPrepRefIdeal.nD Cert.MlaPrepRefIdeal.τ).loc Cert.MlaPrepRefIdeal.main_arg1)) (m ((c.tc : Thread Cert.MlaPrepRefIdeal.nD Cert.MlaPrepRefIdeal.τ).loc Cert.MlaPrepRefIdeal.main_arg2)) (m ((c.tc : Thread Cert.MlaPrepRefIdeal.nD Cert.MlaPrepRefIdeal.τ).loc Cert.MlaPrepRefIdeal.main_arg3)) (m ((c.tc : Thread Cert.MlaPrepRefIdeal.nD Cert.MlaPrepRefIdeal.τ).loc Cert.MlaPrepRefIdeal.main_arg4)) (m ((c.tc : Thread Cert.MlaPrepRefIdeal.nD Cert.MlaPrepRefIdeal.τ).loc Cert.MlaPrepRefIdeal.main_arg5)) (m ((c.tc : Thread Cert.MlaPrepRefIdeal.nD Cert.MlaPrepRefIdeal.τ).loc Cert.MlaPrepRefIdeal.main_arg6)) (m ((c.tc : Thread Cert.MlaPrepRefIdeal.nD Cert.MlaPrepRefIdeal.τ).loc Cert.MlaPrepRefIdeal.main_arg7)) (m ((c.tc : Thread Cert.MlaPrepRefIdeal.nD Cert.MlaPrepRefIdeal.τ).loc Cert.MlaPrepRefIdeal.main_arg8)) (m ((c.tc : Thread Cert.MlaPrepRefIdeal.nD Cert.MlaPrepRefIdeal.τ).loc Cert.MlaPrepRefIdeal.main_arg9)) (m ((c.tc : Thread Cert.MlaPrepRefIdeal.nD Cert.MlaPrepRefIdeal.τ).loc Cert.MlaPrepRefIdeal.main_arg10))).2.2.1 = (fun _ => 1#1)
    ∧ (Cert.Pre_mla_finite.fn (F := Ideal) (m ((c.tc : Thread Cert.MlaPrepRefIdeal.nD Cert.MlaPrepRefIdeal.τ).loc Cert.MlaPrepRefIdeal.main_arg0)) (m ((c.tc : Thread Cert.MlaPrepRefIdeal.nD Cert.MlaPrepRefIdeal.τ).loc Cert.MlaPrepRefIdeal.main_arg1)) (m ((c.tc : Thread Cert.MlaPrepRefIdeal.nD Cert.MlaPrepRefIdeal.τ).loc Cert.MlaPrepRefIdeal.main_arg2)) (m ((c.tc : Thread Cert.MlaPrepRefIdeal.nD Cert.MlaPrepRefIdeal.τ).loc Cert.MlaPrepRefIdeal.main_arg3)) (m ((c.tc : Thread Cert.MlaPrepRefIdeal.nD Cert.MlaPrepRefIdeal.τ).loc Cert.MlaPrepRefIdeal.main_arg4)) (m ((c.tc : Thread Cert.MlaPrepRefIdeal.nD Cert.MlaPrepRefIdeal.τ).loc Cert.MlaPrepRefIdeal.main_arg5)) (m ((c.tc : Thread Cert.MlaPrepRefIdeal.nD Cert.MlaPrepRefIdeal.τ).loc Cert.MlaPrepRefIdeal.main_arg6)) (m ((c.tc : Thread Cert.MlaPrepRefIdeal.nD Cert.MlaPrepRefIdeal.τ).loc Cert.MlaPrepRefIdeal.main_arg7)) (m ((c.tc : Thread Cert.MlaPrepRefIdeal.nD Cert.MlaPrepRefIdeal.τ).loc Cert.MlaPrepRefIdeal.main_arg8)) (m ((c.tc : Thread Cert.MlaPrepRefIdeal.nD Cert.MlaPrepRefIdeal.τ).loc Cert.MlaPrepRefIdeal.main_arg9)) (m ((c.tc : Thread Cert.MlaPrepRefIdeal.nD Cert.MlaPrepRefIdeal.τ).loc Cert.MlaPrepRefIdeal.main_arg10))).2.2.2.1 = (fun _ => 1#1)
    ∧ (Cert.Pre_mla_finite.fn (F := Ideal) (m ((c.tc : Thread Cert.MlaPrepRefIdeal.nD Cert.MlaPrepRefIdeal.τ).loc Cert.MlaPrepRefIdeal.main_arg0)) (m ((c.tc : Thread Cert.MlaPrepRefIdeal.nD Cert.MlaPrepRefIdeal.τ).loc Cert.MlaPrepRefIdeal.main_arg1)) (m ((c.tc : Thread Cert.MlaPrepRefIdeal.nD Cert.MlaPrepRefIdeal.τ).loc Cert.MlaPrepRefIdeal.main_arg2)) (m ((c.tc : Thread Cert.MlaPrepRefIdeal.nD Cert.MlaPrepRefIdeal.τ).loc Cert.MlaPrepRefIdeal.main_arg3)) (m ((c.tc : Thread Cert.MlaPrepRefIdeal.nD Cert.MlaPrepRefIdeal.τ).loc Cert.MlaPrepRefIdeal.main_arg4)) (m ((c.tc : Thread Cert.MlaPrepRefIdeal.nD Cert.MlaPrepRefIdeal.τ).loc Cert.MlaPrepRefIdeal.main_arg5)) (m ((c.tc : Thread Cert.MlaPrepRefIdeal.nD Cert.MlaPrepRefIdeal.τ).loc Cert.MlaPrepRefIdeal.main_arg6)) (m ((c.tc : Thread Cert.MlaPrepRefIdeal.nD Cert.MlaPrepRefIdeal.τ).loc Cert.MlaPrepRefIdeal.main_arg7)) (m ((c.tc : Thread Cert.MlaPrepRefIdeal.nD Cert.MlaPrepRefIdeal.τ).loc Cert.MlaPrepRefIdeal.main_arg8)) (m ((c.tc : Thread Cert.MlaPrepRefIdeal.nD Cert.MlaPrepRefIdeal.τ).loc Cert.MlaPrepRefIdeal.main_arg9)) (m ((c.tc : Thread Cert.MlaPrepRefIdeal.nD Cert.MlaPrepRefIdeal.τ).loc Cert.MlaPrepRefIdeal.main_arg10))).2.2.2.2.1 = (fun _ => 1#1)
    ∧ (Cert.Pre_mla_finite.fn (F := Ideal) (m ((c.tc : Thread Cert.MlaPrepRefIdeal.nD Cert.MlaPrepRefIdeal.τ).loc Cert.MlaPrepRefIdeal.main_arg0)) (m ((c.tc : Thread Cert.MlaPrepRefIdeal.nD Cert.MlaPrepRefIdeal.τ).loc Cert.MlaPrepRefIdeal.main_arg1)) (m ((c.tc : Thread Cert.MlaPrepRefIdeal.nD Cert.MlaPrepRefIdeal.τ).loc Cert.MlaPrepRefIdeal.main_arg2)) (m ((c.tc : Thread Cert.MlaPrepRefIdeal.nD Cert.MlaPrepRefIdeal.τ).loc Cert.MlaPrepRefIdeal.main_arg3)) (m ((c.tc : Thread Cert.MlaPrepRefIdeal.nD Cert.MlaPrepRefIdeal.τ).loc Cert.MlaPrepRefIdeal.main_arg4)) (m ((c.tc : Thread Cert.MlaPrepRefIdeal.nD Cert.MlaPrepRefIdeal.τ).loc Cert.MlaPrepRefIdeal.main_arg5)) (m ((c.tc : Thread Cert.MlaPrepRefIdeal.nD Cert.MlaPrepRefIdeal.τ).loc Cert.MlaPrepRefIdeal.main_arg6)) (m ((c.tc : Thread Cert.MlaPrepRefIdeal.nD Cert.MlaPrepRefIdeal.τ).loc Cert.MlaPrepRefIdeal.main_arg7)) (m ((c.tc : Thread Cert.MlaPrepRefIdeal.nD Cert.MlaPrepRefIdeal.τ).loc Cert.MlaPrepRefIdeal.main_arg8)) (m ((c.tc : Thread Cert.MlaPrepRefIdeal.nD Cert.MlaPrepRefIdeal.τ).loc Cert.MlaPrepRefIdeal.main_arg9)) (m ((c.tc : Thread Cert.MlaPrepRefIdeal.nD Cert.MlaPrepRefIdeal.τ).loc Cert.MlaPrepRefIdeal.main_arg10))).2.2.2.2.2.1 = (fun _ => 1#1)
    ∧ (Cert.Pre_mla_finite.fn (F := Ideal) (m ((c.tc : Thread Cert.MlaPrepRefIdeal.nD Cert.MlaPrepRefIdeal.τ).loc Cert.MlaPrepRefIdeal.main_arg0)) (m ((c.tc : Thread Cert.MlaPrepRefIdeal.nD Cert.MlaPrepRefIdeal.τ).loc Cert.MlaPrepRefIdeal.main_arg1)) (m ((c.tc : Thread Cert.MlaPrepRefIdeal.nD Cert.MlaPrepRefIdeal.τ).loc Cert.MlaPrepRefIdeal.main_arg2)) (m ((c.tc : Thread Cert.MlaPrepRefIdeal.nD Cert.MlaPrepRefIdeal.τ).loc Cert.MlaPrepRefIdeal.main_arg3)) (m ((c.tc : Thread Cert.MlaPrepRefIdeal.nD Cert.MlaPrepRefIdeal.τ).loc Cert.MlaPrepRefIdeal.main_arg4)) (m ((c.tc : Thread Cert.MlaPrepRefIdeal.nD Cert.MlaPrepRefIdeal.τ).loc Cert.MlaPrepRefIdeal.main_arg5)) (m ((c.tc : Thread Cert.MlaPrepRefIdeal.nD Cert.MlaPrepRefIdeal.τ).loc Cert.MlaPrepRefIdeal.main_arg6)) (m ((c.tc : Thread Cert.MlaPrepRefIdeal.nD Cert.MlaPrepRefIdeal.τ).loc Cert.MlaPrepRefIdeal.main_arg7)) (m ((c.tc : Thread Cert.MlaPrepRefIdeal.nD Cert.MlaPrepRefIdeal.τ).loc Cert.MlaPrepRefIdeal.main_arg8)) (m ((c.tc : Thread Cert.MlaPrepRefIdeal.nD Cert.MlaPrepRefIdeal.τ).loc Cert.MlaPrepRefIdeal.main_arg9)) (m ((c.tc : Thread Cert.MlaPrepRefIdeal.nD Cert.MlaPrepRefIdeal.τ).loc Cert.MlaPrepRefIdeal.main_arg10))).2.2.2.2.2.2.1 = (fun _ => 1#1)
    ∧ (Cert.Pre_mla_finite.fn (F := Ideal) (m ((c.tc : Thread Cert.MlaPrepRefIdeal.nD Cert.MlaPrepRefIdeal.τ).loc Cert.MlaPrepRefIdeal.main_arg0)) (m ((c.tc : Thread Cert.MlaPrepRefIdeal.nD Cert.MlaPrepRefIdeal.τ).loc Cert.MlaPrepRefIdeal.main_arg1)) (m ((c.tc : Thread Cert.MlaPrepRefIdeal.nD Cert.MlaPrepRefIdeal.τ).loc Cert.MlaPrepRefIdeal.main_arg2)) (m ((c.tc : Thread Cert.MlaPrepRefIdeal.nD Cert.MlaPrepRefIdeal.τ).loc Cert.MlaPrepRefIdeal.main_arg3)) (m ((c.tc : Thread Cert.MlaPrepRefIdeal.nD Cert.MlaPrepRefIdeal.τ).loc Cert.MlaPrepRefIdeal.main_arg4)) (m ((c.tc : Thread Cert.MlaPrepRefIdeal.nD Cert.MlaPrepRefIdeal.τ).loc Cert.MlaPrepRefIdeal.main_arg5)) (m ((c.tc : Thread Cert.MlaPrepRefIdeal.nD Cert.MlaPrepRefIdeal.τ).loc Cert.MlaPrepRefIdeal.main_arg6)) (m ((c.tc : Thread Cert.MlaPrepRefIdeal.nD Cert.MlaPrepRefIdeal.τ).loc Cert.MlaPrepRefIdeal.main_arg7)) (m ((c.tc : Thread Cert.MlaPrepRefIdeal.nD Cert.MlaPrepRefIdeal.τ).loc Cert.MlaPrepRefIdeal.main_arg8)) (m ((c.tc : Thread Cert.MlaPrepRefIdeal.nD Cert.MlaPrepRefIdeal.τ).loc Cert.MlaPrepRefIdeal.main_arg9)) (m ((c.tc : Thread Cert.MlaPrepRefIdeal.nD Cert.MlaPrepRefIdeal.τ).loc Cert.MlaPrepRefIdeal.main_arg10))).2.2.2.2.2.2.2.1 = (fun _ => 1#1)
    ∧ (Cert.Pre_mla_finite.fn (F := Ideal) (m ((c.tc : Thread Cert.MlaPrepRefIdeal.nD Cert.MlaPrepRefIdeal.τ).loc Cert.MlaPrepRefIdeal.main_arg0)) (m ((c.tc : Thread Cert.MlaPrepRefIdeal.nD Cert.MlaPrepRefIdeal.τ).loc Cert.MlaPrepRefIdeal.main_arg1)) (m ((c.tc : Thread Cert.MlaPrepRefIdeal.nD Cert.MlaPrepRefIdeal.τ).loc Cert.MlaPrepRefIdeal.main_arg2)) (m ((c.tc : Thread Cert.MlaPrepRefIdeal.nD Cert.MlaPrepRefIdeal.τ).loc Cert.MlaPrepRefIdeal.main_arg3)) (m ((c.tc : Thread Cert.MlaPrepRefIdeal.nD Cert.MlaPrepRefIdeal.τ).loc Cert.MlaPrepRefIdeal.main_arg4)) (m ((c.tc : Thread Cert.MlaPrepRefIdeal.nD Cert.MlaPrepRefIdeal.τ).loc Cert.MlaPrepRefIdeal.main_arg5)) (m ((c.tc : Thread Cert.MlaPrepRefIdeal.nD Cert.MlaPrepRefIdeal.τ).loc Cert.MlaPrepRefIdeal.main_arg6)) (m ((c.tc : Thread Cert.MlaPrepRefIdeal.nD Cert.MlaPrepRefIdeal.τ).loc Cert.MlaPrepRefIdeal.main_arg7)) (m ((c.tc : Thread Cert.MlaPrepRefIdeal.nD Cert.MlaPrepRefIdeal.τ).loc Cert.MlaPrepRefIdeal.main_arg8)) (m ((c.tc : Thread Cert.MlaPrepRefIdeal.nD Cert.MlaPrepRefIdeal.τ).loc Cert.MlaPrepRefIdeal.main_arg9)) (m ((c.tc : Thread Cert.MlaPrepRefIdeal.nD Cert.MlaPrepRefIdeal.τ).loc Cert.MlaPrepRefIdeal.main_arg10))).2.2.2.2.2.2.2.2.1 = (fun _ => 1#1)
    ∧ (Cert.Pre_mla_finite.fn (F := Ideal) (m ((c.tc : Thread Cert.MlaPrepRefIdeal.nD Cert.MlaPrepRefIdeal.τ).loc Cert.MlaPrepRefIdeal.main_arg0)) (m ((c.tc : Thread Cert.MlaPrepRefIdeal.nD Cert.MlaPrepRefIdeal.τ).loc Cert.MlaPrepRefIdeal.main_arg1)) (m ((c.tc : Thread Cert.MlaPrepRefIdeal.nD Cert.MlaPrepRefIdeal.τ).loc Cert.MlaPrepRefIdeal.main_arg2)) (m ((c.tc : Thread Cert.MlaPrepRefIdeal.nD Cert.MlaPrepRefIdeal.τ).loc Cert.MlaPrepRefIdeal.main_arg3)) (m ((c.tc : Thread Cert.MlaPrepRefIdeal.nD Cert.MlaPrepRefIdeal.τ).loc Cert.MlaPrepRefIdeal.main_arg4)) (m ((c.tc : Thread Cert.MlaPrepRefIdeal.nD Cert.MlaPrepRefIdeal.τ).loc Cert.MlaPrepRefIdeal.main_arg5)) (m ((c.tc : Thread Cert.MlaPrepRefIdeal.nD Cert.MlaPrepRefIdeal.τ).loc Cert.MlaPrepRefIdeal.main_arg6)) (m ((c.tc : Thread Cert.MlaPrepRefIdeal.nD Cert.MlaPrepRefIdeal.τ).loc Cert.MlaPrepRefIdeal.main_arg7)) (m ((c.tc : Thread Cert.MlaPrepRefIdeal.nD Cert.MlaPrepRefIdeal.τ).loc Cert.MlaPrepRefIdeal.main_arg8)) (m ((c.tc : Thread Cert.MlaPrepRefIdeal.nD Cert.MlaPrepRefIdeal.τ).loc Cert.MlaPrepRefIdeal.main_arg9)) (m ((c.tc : Thread Cert.MlaPrepRefIdeal.nD Cert.MlaPrepRefIdeal.τ).loc Cert.MlaPrepRefIdeal.main_arg10))).2.2.2.2.2.2.2.2.2 = (fun _ => 1#1)

def quiescent_DownLoss [hDownLoss : Cert.DownLoss.Facts] : Prop :=
  ∀ (m : (ℓ : Loc Cert.DownLoss.nD Cert.DownLoss.τ Cert.DownLoss.sig) → Buf (Elt Bits) ℓ) (g : Dev Cert.DownLoss.nD → PrngReg), Pre_DownLoss m →
    θ_run (Cert.DownLoss.defs (F := Bits)) (onTc (τ := Cert.DownLoss.τ) (Cert.DownLoss.main (F := Bits))) ⟨m, fun _ => 0, g⟩ (fun r => (∀ c : Dev Cert.DownLoss.nD,
      r.2.mem ((c.tc : Thread Cert.DownLoss.nD Cert.DownLoss.τ).loc Cert.DownLoss.main_arg0) = m ((c.tc : Thread Cert.DownLoss.nD Cert.DownLoss.τ).loc Cert.DownLoss.main_arg0)
      ∧ r.2.mem ((c.tc : Thread Cert.DownLoss.nD Cert.DownLoss.τ).loc Cert.DownLoss.main_arg1) = m ((c.tc : Thread Cert.DownLoss.nD Cert.DownLoss.τ).loc Cert.DownLoss.main_arg1)
      ∧ r.2.mem ((c.tc : Thread Cert.DownLoss.nD Cert.DownLoss.τ).loc Cert.DownLoss.main_arg2) = m ((c.tc : Thread Cert.DownLoss.nD Cert.DownLoss.τ).loc Cert.DownLoss.main_arg2)
      ∧ r.2.mem ((c.tc : Thread Cert.DownLoss.nD Cert.DownLoss.τ).loc Cert.DownLoss.main_arg3) = m ((c.tc : Thread Cert.DownLoss.nD Cert.DownLoss.τ).loc Cert.DownLoss.main_arg3)
      ∧ r.2.mem ((c.tc : Thread Cert.DownLoss.nD Cert.DownLoss.τ).loc Cert.DownLoss.main_arg4) = m ((c.tc : Thread Cert.DownLoss.nD Cert.DownLoss.τ).loc Cert.DownLoss.main_arg4))
      ∧ r.2.sem = fun _ => 0)

def quiescent_DownLossIdeal [hDownLossIdeal : Cert.DownLossIdeal.Facts] : Prop :=
  ∀ (m : (ℓ : Loc Cert.DownLossIdeal.nD Cert.DownLossIdeal.τ Cert.DownLossIdeal.sig) → Buf (Elt Ideal) ℓ) (g : Dev Cert.DownLossIdeal.nD → PrngReg), Pre_DownLossIdeal m →
    θ_run (Cert.DownLossIdeal.defs (F := Ideal)) (onTc (τ := Cert.DownLossIdeal.τ) (Cert.DownLossIdeal.main (F := Ideal))) ⟨m, fun _ => 0, g⟩ (fun r => (∀ c : Dev Cert.DownLossIdeal.nD,
      r.2.mem ((c.tc : Thread Cert.DownLossIdeal.nD Cert.DownLossIdeal.τ).loc Cert.DownLossIdeal.main_arg0) = m ((c.tc : Thread Cert.DownLossIdeal.nD Cert.DownLossIdeal.τ).loc Cert.DownLossIdeal.main_arg0)
      ∧ r.2.mem ((c.tc : Thread Cert.DownLossIdeal.nD Cert.DownLossIdeal.τ).loc Cert.DownLossIdeal.main_arg1) = m ((c.tc : Thread Cert.DownLossIdeal.nD Cert.DownLossIdeal.τ).loc Cert.DownLossIdeal.main_arg1)
      ∧ r.2.mem ((c.tc : Thread Cert.DownLossIdeal.nD Cert.DownLossIdeal.τ).loc Cert.DownLossIdeal.main_arg2) = m ((c.tc : Thread Cert.DownLossIdeal.nD Cert.DownLossIdeal.τ).loc Cert.DownLossIdeal.main_arg2)
      ∧ r.2.mem ((c.tc : Thread Cert.DownLossIdeal.nD Cert.DownLossIdeal.τ).loc Cert.DownLossIdeal.main_arg3) = m ((c.tc : Thread Cert.DownLossIdeal.nD Cert.DownLossIdeal.τ).loc Cert.DownLossIdeal.main_arg3)
      ∧ r.2.mem ((c.tc : Thread Cert.DownLossIdeal.nD Cert.DownLossIdeal.τ).loc Cert.DownLossIdeal.main_arg4) = m ((c.tc : Thread Cert.DownLossIdeal.nD Cert.DownLossIdeal.τ).loc Cert.DownLossIdeal.main_arg4))
      ∧ r.2.sem = fun _ => 0)

def quiescent_DownLossIdeal_pre_down_finite [hDownLossIdeal : Cert.DownLossIdeal.Facts] [hPre_down_finite : Cert.Pre_down_finite.Facts] : Prop :=
  ∀ (m : (ℓ : Loc Cert.DownLossIdeal.nD Cert.DownLossIdeal.τ Cert.DownLossIdeal.sig) → Buf (Elt Ideal) ℓ) (g : Dev Cert.DownLossIdeal.nD → PrngReg), Pre_DownLossIdeal_down_finite m →
    θ_run (Cert.DownLossIdeal.defs (F := Ideal)) (onTc (τ := Cert.DownLossIdeal.τ) (Cert.DownLossIdeal.main (F := Ideal))) ⟨m, fun _ => 0, g⟩ (fun r => (∀ c : Dev Cert.DownLossIdeal.nD,
      r.2.mem ((c.tc : Thread Cert.DownLossIdeal.nD Cert.DownLossIdeal.τ).loc Cert.DownLossIdeal.main_arg0) = m ((c.tc : Thread Cert.DownLossIdeal.nD Cert.DownLossIdeal.τ).loc Cert.DownLossIdeal.main_arg0)
      ∧ r.2.mem ((c.tc : Thread Cert.DownLossIdeal.nD Cert.DownLossIdeal.τ).loc Cert.DownLossIdeal.main_arg1) = m ((c.tc : Thread Cert.DownLossIdeal.nD Cert.DownLossIdeal.τ).loc Cert.DownLossIdeal.main_arg1)
      ∧ r.2.mem ((c.tc : Thread Cert.DownLossIdeal.nD Cert.DownLossIdeal.τ).loc Cert.DownLossIdeal.main_arg2) = m ((c.tc : Thread Cert.DownLossIdeal.nD Cert.DownLossIdeal.τ).loc Cert.DownLossIdeal.main_arg2)
      ∧ r.2.mem ((c.tc : Thread Cert.DownLossIdeal.nD Cert.DownLossIdeal.τ).loc Cert.DownLossIdeal.main_arg3) = m ((c.tc : Thread Cert.DownLossIdeal.nD Cert.DownLossIdeal.τ).loc Cert.DownLossIdeal.main_arg3)
      ∧ r.2.mem ((c.tc : Thread Cert.DownLossIdeal.nD Cert.DownLossIdeal.τ).loc Cert.DownLossIdeal.main_arg4) = m ((c.tc : Thread Cert.DownLossIdeal.nD Cert.DownLossIdeal.τ).loc Cert.DownLossIdeal.main_arg4))
      ∧ r.2.sem = fun _ => 0)

def quiescent_DownLossRefIdeal [hDownLossRefIdeal : Cert.DownLossRefIdeal.Facts] : Prop :=
  ∀ (m : (ℓ : Loc Cert.DownLossRefIdeal.nD Cert.DownLossRefIdeal.τ Cert.DownLossRefIdeal.sig) → Buf (Elt Ideal) ℓ) (g : Dev Cert.DownLossRefIdeal.nD → PrngReg), Pre_DownLossRefIdeal m →
    θ_run (Cert.DownLossRefIdeal.defs (F := Ideal)) (onTc (τ := Cert.DownLossRefIdeal.τ) (Cert.DownLossRefIdeal.main (F := Ideal))) ⟨m, fun _ => 0, g⟩ (fun r => (∀ c : Dev Cert.DownLossRefIdeal.nD,
      r.2.mem ((c.tc : Thread Cert.DownLossRefIdeal.nD Cert.DownLossRefIdeal.τ).loc Cert.DownLossRefIdeal.main_arg0) = m ((c.tc : Thread Cert.DownLossRefIdeal.nD Cert.DownLossRefIdeal.τ).loc Cert.DownLossRefIdeal.main_arg0)
      ∧ r.2.mem ((c.tc : Thread Cert.DownLossRefIdeal.nD Cert.DownLossRefIdeal.τ).loc Cert.DownLossRefIdeal.main_arg1) = m ((c.tc : Thread Cert.DownLossRefIdeal.nD Cert.DownLossRefIdeal.τ).loc Cert.DownLossRefIdeal.main_arg1)
      ∧ r.2.mem ((c.tc : Thread Cert.DownLossRefIdeal.nD Cert.DownLossRefIdeal.τ).loc Cert.DownLossRefIdeal.main_arg2) = m ((c.tc : Thread Cert.DownLossRefIdeal.nD Cert.DownLossRefIdeal.τ).loc Cert.DownLossRefIdeal.main_arg2)
      ∧ r.2.mem ((c.tc : Thread Cert.DownLossRefIdeal.nD Cert.DownLossRefIdeal.τ).loc Cert.DownLossRefIdeal.main_arg3) = m ((c.tc : Thread Cert.DownLossRefIdeal.nD Cert.DownLossRefIdeal.τ).loc Cert.DownLossRefIdeal.main_arg3)
      ∧ r.2.mem ((c.tc : Thread Cert.DownLossRefIdeal.nD Cert.DownLossRefIdeal.τ).loc Cert.DownLossRefIdeal.main_arg4) = m ((c.tc : Thread Cert.DownLossRefIdeal.nD Cert.DownLossRefIdeal.τ).loc Cert.DownLossRefIdeal.main_arg4))
      ∧ r.2.sem = fun _ => 0)

def quiescent_DownLossRefIdeal_pre_down_finite [hDownLossRefIdeal : Cert.DownLossRefIdeal.Facts] [hPre_down_finite : Cert.Pre_down_finite.Facts] : Prop :=
  ∀ (m : (ℓ : Loc Cert.DownLossRefIdeal.nD Cert.DownLossRefIdeal.τ Cert.DownLossRefIdeal.sig) → Buf (Elt Ideal) ℓ) (g : Dev Cert.DownLossRefIdeal.nD → PrngReg), Pre_DownLossRefIdeal_down_finite m →
    θ_run (Cert.DownLossRefIdeal.defs (F := Ideal)) (onTc (τ := Cert.DownLossRefIdeal.τ) (Cert.DownLossRefIdeal.main (F := Ideal))) ⟨m, fun _ => 0, g⟩ (fun r => (∀ c : Dev Cert.DownLossRefIdeal.nD,
      r.2.mem ((c.tc : Thread Cert.DownLossRefIdeal.nD Cert.DownLossRefIdeal.τ).loc Cert.DownLossRefIdeal.main_arg0) = m ((c.tc : Thread Cert.DownLossRefIdeal.nD Cert.DownLossRefIdeal.τ).loc Cert.DownLossRefIdeal.main_arg0)
      ∧ r.2.mem ((c.tc : Thread Cert.DownLossRefIdeal.nD Cert.DownLossRefIdeal.τ).loc Cert.DownLossRefIdeal.main_arg1) = m ((c.tc : Thread Cert.DownLossRefIdeal.nD Cert.DownLossRefIdeal.τ).loc Cert.DownLossRefIdeal.main_arg1)
      ∧ r.2.mem ((c.tc : Thread Cert.DownLossRefIdeal.nD Cert.DownLossRefIdeal.τ).loc Cert.DownLossRefIdeal.main_arg2) = m ((c.tc : Thread Cert.DownLossRefIdeal.nD Cert.DownLossRefIdeal.τ).loc Cert.DownLossRefIdeal.main_arg2)
      ∧ r.2.mem ((c.tc : Thread Cert.DownLossRefIdeal.nD Cert.DownLossRefIdeal.τ).loc Cert.DownLossRefIdeal.main_arg3) = m ((c.tc : Thread Cert.DownLossRefIdeal.nD Cert.DownLossRefIdeal.τ).loc Cert.DownLossRefIdeal.main_arg3)
      ∧ r.2.mem ((c.tc : Thread Cert.DownLossRefIdeal.nD Cert.DownLossRefIdeal.τ).loc Cert.DownLossRefIdeal.main_arg4) = m ((c.tc : Thread Cert.DownLossRefIdeal.nD Cert.DownLossRefIdeal.τ).loc Cert.DownLossRefIdeal.main_arg4))
      ∧ r.2.sem = fun _ => 0)

def quiescent_UpProj [hUpProj : Cert.UpProj.Facts] : Prop :=
  ∀ (m : (ℓ : Loc Cert.UpProj.nD Cert.UpProj.τ Cert.UpProj.sig) → Buf (Elt Bits) ℓ) (g : Dev Cert.UpProj.nD → PrngReg), Pre_UpProj m →
    θ_run (Cert.UpProj.defs (F := Bits)) (onTc (τ := Cert.UpProj.τ) (Cert.UpProj.main (F := Bits))) ⟨m, fun _ => 0, g⟩ (fun r => (∀ c : Dev Cert.UpProj.nD,
      r.2.mem ((c.tc : Thread Cert.UpProj.nD Cert.UpProj.τ).loc Cert.UpProj.main_arg0) = m ((c.tc : Thread Cert.UpProj.nD Cert.UpProj.τ).loc Cert.UpProj.main_arg0)
      ∧ r.2.mem ((c.tc : Thread Cert.UpProj.nD Cert.UpProj.τ).loc Cert.UpProj.main_arg1) = m ((c.tc : Thread Cert.UpProj.nD Cert.UpProj.τ).loc Cert.UpProj.main_arg1)
      ∧ r.2.mem ((c.tc : Thread Cert.UpProj.nD Cert.UpProj.τ).loc Cert.UpProj.main_arg2) = m ((c.tc : Thread Cert.UpProj.nD Cert.UpProj.τ).loc Cert.UpProj.main_arg2)
      ∧ r.2.mem ((c.tc : Thread Cert.UpProj.nD Cert.UpProj.τ).loc Cert.UpProj.main_arg3) = m ((c.tc : Thread Cert.UpProj.nD Cert.UpProj.τ).loc Cert.UpProj.main_arg3)
      ∧ r.2.mem ((c.tc : Thread Cert.UpProj.nD Cert.UpProj.τ).loc Cert.UpProj.main_arg4) = m ((c.tc : Thread Cert.UpProj.nD Cert.UpProj.τ).loc Cert.UpProj.main_arg4)
      ∧ r.2.mem ((c.tc : Thread Cert.UpProj.nD Cert.UpProj.τ).loc Cert.UpProj.main_arg5) = m ((c.tc : Thread Cert.UpProj.nD Cert.UpProj.τ).loc Cert.UpProj.main_arg5)
      ∧ r.2.mem ((c.tc : Thread Cert.UpProj.nD Cert.UpProj.τ).loc Cert.UpProj.main_arg6) = m ((c.tc : Thread Cert.UpProj.nD Cert.UpProj.τ).loc Cert.UpProj.main_arg6))
      ∧ r.2.sem = fun _ => 0)

def quiescent_UpProjIdeal [hUpProjIdeal : Cert.UpProjIdeal.Facts] : Prop :=
  ∀ (m : (ℓ : Loc Cert.UpProjIdeal.nD Cert.UpProjIdeal.τ Cert.UpProjIdeal.sig) → Buf (Elt Ideal) ℓ) (g : Dev Cert.UpProjIdeal.nD → PrngReg), Pre_UpProjIdeal m →
    θ_run (Cert.UpProjIdeal.defs (F := Ideal)) (onTc (τ := Cert.UpProjIdeal.τ) (Cert.UpProjIdeal.main (F := Ideal))) ⟨m, fun _ => 0, g⟩ (fun r => (∀ c : Dev Cert.UpProjIdeal.nD,
      r.2.mem ((c.tc : Thread Cert.UpProjIdeal.nD Cert.UpProjIdeal.τ).loc Cert.UpProjIdeal.main_arg0) = m ((c.tc : Thread Cert.UpProjIdeal.nD Cert.UpProjIdeal.τ).loc Cert.UpProjIdeal.main_arg0)
      ∧ r.2.mem ((c.tc : Thread Cert.UpProjIdeal.nD Cert.UpProjIdeal.τ).loc Cert.UpProjIdeal.main_arg1) = m ((c.tc : Thread Cert.UpProjIdeal.nD Cert.UpProjIdeal.τ).loc Cert.UpProjIdeal.main_arg1)
      ∧ r.2.mem ((c.tc : Thread Cert.UpProjIdeal.nD Cert.UpProjIdeal.τ).loc Cert.UpProjIdeal.main_arg2) = m ((c.tc : Thread Cert.UpProjIdeal.nD Cert.UpProjIdeal.τ).loc Cert.UpProjIdeal.main_arg2)
      ∧ r.2.mem ((c.tc : Thread Cert.UpProjIdeal.nD Cert.UpProjIdeal.τ).loc Cert.UpProjIdeal.main_arg3) = m ((c.tc : Thread Cert.UpProjIdeal.nD Cert.UpProjIdeal.τ).loc Cert.UpProjIdeal.main_arg3)
      ∧ r.2.mem ((c.tc : Thread Cert.UpProjIdeal.nD Cert.UpProjIdeal.τ).loc Cert.UpProjIdeal.main_arg4) = m ((c.tc : Thread Cert.UpProjIdeal.nD Cert.UpProjIdeal.τ).loc Cert.UpProjIdeal.main_arg4)
      ∧ r.2.mem ((c.tc : Thread Cert.UpProjIdeal.nD Cert.UpProjIdeal.τ).loc Cert.UpProjIdeal.main_arg5) = m ((c.tc : Thread Cert.UpProjIdeal.nD Cert.UpProjIdeal.τ).loc Cert.UpProjIdeal.main_arg5)
      ∧ r.2.mem ((c.tc : Thread Cert.UpProjIdeal.nD Cert.UpProjIdeal.τ).loc Cert.UpProjIdeal.main_arg6) = m ((c.tc : Thread Cert.UpProjIdeal.nD Cert.UpProjIdeal.τ).loc Cert.UpProjIdeal.main_arg6))
      ∧ r.2.sem = fun _ => 0)

def quiescent_UpProjIdeal_pre_up_finite [hUpProjIdeal : Cert.UpProjIdeal.Facts] [hPre_up_finite : Cert.Pre_up_finite.Facts] : Prop :=
  ∀ (m : (ℓ : Loc Cert.UpProjIdeal.nD Cert.UpProjIdeal.τ Cert.UpProjIdeal.sig) → Buf (Elt Ideal) ℓ) (g : Dev Cert.UpProjIdeal.nD → PrngReg), Pre_UpProjIdeal_up_finite m →
    θ_run (Cert.UpProjIdeal.defs (F := Ideal)) (onTc (τ := Cert.UpProjIdeal.τ) (Cert.UpProjIdeal.main (F := Ideal))) ⟨m, fun _ => 0, g⟩ (fun r => (∀ c : Dev Cert.UpProjIdeal.nD,
      r.2.mem ((c.tc : Thread Cert.UpProjIdeal.nD Cert.UpProjIdeal.τ).loc Cert.UpProjIdeal.main_arg0) = m ((c.tc : Thread Cert.UpProjIdeal.nD Cert.UpProjIdeal.τ).loc Cert.UpProjIdeal.main_arg0)
      ∧ r.2.mem ((c.tc : Thread Cert.UpProjIdeal.nD Cert.UpProjIdeal.τ).loc Cert.UpProjIdeal.main_arg1) = m ((c.tc : Thread Cert.UpProjIdeal.nD Cert.UpProjIdeal.τ).loc Cert.UpProjIdeal.main_arg1)
      ∧ r.2.mem ((c.tc : Thread Cert.UpProjIdeal.nD Cert.UpProjIdeal.τ).loc Cert.UpProjIdeal.main_arg2) = m ((c.tc : Thread Cert.UpProjIdeal.nD Cert.UpProjIdeal.τ).loc Cert.UpProjIdeal.main_arg2)
      ∧ r.2.mem ((c.tc : Thread Cert.UpProjIdeal.nD Cert.UpProjIdeal.τ).loc Cert.UpProjIdeal.main_arg3) = m ((c.tc : Thread Cert.UpProjIdeal.nD Cert.UpProjIdeal.τ).loc Cert.UpProjIdeal.main_arg3)
      ∧ r.2.mem ((c.tc : Thread Cert.UpProjIdeal.nD Cert.UpProjIdeal.τ).loc Cert.UpProjIdeal.main_arg4) = m ((c.tc : Thread Cert.UpProjIdeal.nD Cert.UpProjIdeal.τ).loc Cert.UpProjIdeal.main_arg4)
      ∧ r.2.mem ((c.tc : Thread Cert.UpProjIdeal.nD Cert.UpProjIdeal.τ).loc Cert.UpProjIdeal.main_arg5) = m ((c.tc : Thread Cert.UpProjIdeal.nD Cert.UpProjIdeal.τ).loc Cert.UpProjIdeal.main_arg5)
      ∧ r.2.mem ((c.tc : Thread Cert.UpProjIdeal.nD Cert.UpProjIdeal.τ).loc Cert.UpProjIdeal.main_arg6) = m ((c.tc : Thread Cert.UpProjIdeal.nD Cert.UpProjIdeal.τ).loc Cert.UpProjIdeal.main_arg6))
      ∧ r.2.sem = fun _ => 0)

def quiescent_UpProjRefIdeal [hUpProjRefIdeal : Cert.UpProjRefIdeal.Facts] : Prop :=
  ∀ (m : (ℓ : Loc Cert.UpProjRefIdeal.nD Cert.UpProjRefIdeal.τ Cert.UpProjRefIdeal.sig) → Buf (Elt Ideal) ℓ) (g : Dev Cert.UpProjRefIdeal.nD → PrngReg), Pre_UpProjRefIdeal m →
    θ_run (Cert.UpProjRefIdeal.defs (F := Ideal)) (onTc (τ := Cert.UpProjRefIdeal.τ) (Cert.UpProjRefIdeal.main (F := Ideal))) ⟨m, fun _ => 0, g⟩ (fun r => (∀ c : Dev Cert.UpProjRefIdeal.nD,
      r.2.mem ((c.tc : Thread Cert.UpProjRefIdeal.nD Cert.UpProjRefIdeal.τ).loc Cert.UpProjRefIdeal.main_arg0) = m ((c.tc : Thread Cert.UpProjRefIdeal.nD Cert.UpProjRefIdeal.τ).loc Cert.UpProjRefIdeal.main_arg0)
      ∧ r.2.mem ((c.tc : Thread Cert.UpProjRefIdeal.nD Cert.UpProjRefIdeal.τ).loc Cert.UpProjRefIdeal.main_arg1) = m ((c.tc : Thread Cert.UpProjRefIdeal.nD Cert.UpProjRefIdeal.τ).loc Cert.UpProjRefIdeal.main_arg1)
      ∧ r.2.mem ((c.tc : Thread Cert.UpProjRefIdeal.nD Cert.UpProjRefIdeal.τ).loc Cert.UpProjRefIdeal.main_arg2) = m ((c.tc : Thread Cert.UpProjRefIdeal.nD Cert.UpProjRefIdeal.τ).loc Cert.UpProjRefIdeal.main_arg2)
      ∧ r.2.mem ((c.tc : Thread Cert.UpProjRefIdeal.nD Cert.UpProjRefIdeal.τ).loc Cert.UpProjRefIdeal.main_arg3) = m ((c.tc : Thread Cert.UpProjRefIdeal.nD Cert.UpProjRefIdeal.τ).loc Cert.UpProjRefIdeal.main_arg3)
      ∧ r.2.mem ((c.tc : Thread Cert.UpProjRefIdeal.nD Cert.UpProjRefIdeal.τ).loc Cert.UpProjRefIdeal.main_arg4) = m ((c.tc : Thread Cert.UpProjRefIdeal.nD Cert.UpProjRefIdeal.τ).loc Cert.UpProjRefIdeal.main_arg4)
      ∧ r.2.mem ((c.tc : Thread Cert.UpProjRefIdeal.nD Cert.UpProjRefIdeal.τ).loc Cert.UpProjRefIdeal.main_arg5) = m ((c.tc : Thread Cert.UpProjRefIdeal.nD Cert.UpProjRefIdeal.τ).loc Cert.UpProjRefIdeal.main_arg5)
      ∧ r.2.mem ((c.tc : Thread Cert.UpProjRefIdeal.nD Cert.UpProjRefIdeal.τ).loc Cert.UpProjRefIdeal.main_arg6) = m ((c.tc : Thread Cert.UpProjRefIdeal.nD Cert.UpProjRefIdeal.τ).loc Cert.UpProjRefIdeal.main_arg6))
      ∧ r.2.sem = fun _ => 0)

def quiescent_UpProjRefIdeal_pre_up_finite [hUpProjRefIdeal : Cert.UpProjRefIdeal.Facts] [hPre_up_finite : Cert.Pre_up_finite.Facts] : Prop :=
  ∀ (m : (ℓ : Loc Cert.UpProjRefIdeal.nD Cert.UpProjRefIdeal.τ Cert.UpProjRefIdeal.sig) → Buf (Elt Ideal) ℓ) (g : Dev Cert.UpProjRefIdeal.nD → PrngReg), Pre_UpProjRefIdeal_up_finite m →
    θ_run (Cert.UpProjRefIdeal.defs (F := Ideal)) (onTc (τ := Cert.UpProjRefIdeal.τ) (Cert.UpProjRefIdeal.main (F := Ideal))) ⟨m, fun _ => 0, g⟩ (fun r => (∀ c : Dev Cert.UpProjRefIdeal.nD,
      r.2.mem ((c.tc : Thread Cert.UpProjRefIdeal.nD Cert.UpProjRefIdeal.τ).loc Cert.UpProjRefIdeal.main_arg0) = m ((c.tc : Thread Cert.UpProjRefIdeal.nD Cert.UpProjRefIdeal.τ).loc Cert.UpProjRefIdeal.main_arg0)
      ∧ r.2.mem ((c.tc : Thread Cert.UpProjRefIdeal.nD Cert.UpProjRefIdeal.τ).loc Cert.UpProjRefIdeal.main_arg1) = m ((c.tc : Thread Cert.UpProjRefIdeal.nD Cert.UpProjRefIdeal.τ).loc Cert.UpProjRefIdeal.main_arg1)
      ∧ r.2.mem ((c.tc : Thread Cert.UpProjRefIdeal.nD Cert.UpProjRefIdeal.τ).loc Cert.UpProjRefIdeal.main_arg2) = m ((c.tc : Thread Cert.UpProjRefIdeal.nD Cert.UpProjRefIdeal.τ).loc Cert.UpProjRefIdeal.main_arg2)
      ∧ r.2.mem ((c.tc : Thread Cert.UpProjRefIdeal.nD Cert.UpProjRefIdeal.τ).loc Cert.UpProjRefIdeal.main_arg3) = m ((c.tc : Thread Cert.UpProjRefIdeal.nD Cert.UpProjRefIdeal.τ).loc Cert.UpProjRefIdeal.main_arg3)
      ∧ r.2.mem ((c.tc : Thread Cert.UpProjRefIdeal.nD Cert.UpProjRefIdeal.τ).loc Cert.UpProjRefIdeal.main_arg4) = m ((c.tc : Thread Cert.UpProjRefIdeal.nD Cert.UpProjRefIdeal.τ).loc Cert.UpProjRefIdeal.main_arg4)
      ∧ r.2.mem ((c.tc : Thread Cert.UpProjRefIdeal.nD Cert.UpProjRefIdeal.τ).loc Cert.UpProjRefIdeal.main_arg5) = m ((c.tc : Thread Cert.UpProjRefIdeal.nD Cert.UpProjRefIdeal.τ).loc Cert.UpProjRefIdeal.main_arg5)
      ∧ r.2.mem ((c.tc : Thread Cert.UpProjRefIdeal.nD Cert.UpProjRefIdeal.τ).loc Cert.UpProjRefIdeal.main_arg6) = m ((c.tc : Thread Cert.UpProjRefIdeal.nD Cert.UpProjRefIdeal.τ).loc Cert.UpProjRefIdeal.main_arg6))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4))
      ∧ r.2.sem = fun _ => 0)

def quiescent_InProjIdeal_pre_in_finite [hInProjIdeal : Cert.InProjIdeal.Facts] [hPre_in_finite : Cert.Pre_in_finite.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal_in_finite m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4))
      ∧ r.2.sem = fun _ => 0)

def quiescent_InProjRefIdeal_pre_in_finite [hInProjRefIdeal : Cert.InProjRefIdeal.Facts] [hPre_in_finite : Cert.Pre_in_finite.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal_in_finite m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnIdeal_pre_attn_finite [hAttnIdeal : Cert.AttnIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_attn_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_AttnRefIdeal_pre_attn_finite [hAttnRefIdeal : Cert.AttnRefIdeal.Facts] [hPre_attn_finite : Cert.Pre_attn_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_attn_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_Mixer [hMixer : Cert.Mixer.Facts] : Prop :=
  ∀ (m : (ℓ : Loc Cert.Mixer.nD Cert.Mixer.τ Cert.Mixer.sig) → Buf (Elt Bits) ℓ) (g : Dev Cert.Mixer.nD → PrngReg), Pre_Mixer m →
    θ_run (Cert.Mixer.defs (F := Bits)) (onTc (τ := Cert.Mixer.τ) (Cert.Mixer.main (F := Bits))) ⟨m, fun _ => 0, g⟩ (fun r => (∀ c : Dev Cert.Mixer.nD,
      r.2.mem ((c.tc : Thread Cert.Mixer.nD Cert.Mixer.τ).loc Cert.Mixer.main_arg0) = m ((c.tc : Thread Cert.Mixer.nD Cert.Mixer.τ).loc Cert.Mixer.main_arg0)
      ∧ r.2.mem ((c.tc : Thread Cert.Mixer.nD Cert.Mixer.τ).loc Cert.Mixer.main_arg1) = m ((c.tc : Thread Cert.Mixer.nD Cert.Mixer.τ).loc Cert.Mixer.main_arg1)
      ∧ r.2.mem ((c.tc : Thread Cert.Mixer.nD Cert.Mixer.τ).loc Cert.Mixer.main_arg2) = m ((c.tc : Thread Cert.Mixer.nD Cert.Mixer.τ).loc Cert.Mixer.main_arg2)
      ∧ r.2.mem ((c.tc : Thread Cert.Mixer.nD Cert.Mixer.τ).loc Cert.Mixer.main_arg3) = m ((c.tc : Thread Cert.Mixer.nD Cert.Mixer.τ).loc Cert.Mixer.main_arg3)
      ∧ r.2.mem ((c.tc : Thread Cert.Mixer.nD Cert.Mixer.τ).loc Cert.Mixer.main_arg4) = m ((c.tc : Thread Cert.Mixer.nD Cert.Mixer.τ).loc Cert.Mixer.main_arg4)
      ∧ r.2.mem ((c.tc : Thread Cert.Mixer.nD Cert.Mixer.τ).loc Cert.Mixer.main_arg5) = m ((c.tc : Thread Cert.Mixer.nD Cert.Mixer.τ).loc Cert.Mixer.main_arg5)
      ∧ r.2.mem ((c.tc : Thread Cert.Mixer.nD Cert.Mixer.τ).loc Cert.Mixer.main_arg6) = m ((c.tc : Thread Cert.Mixer.nD Cert.Mixer.τ).loc Cert.Mixer.main_arg6)
      ∧ r.2.mem ((c.tc : Thread Cert.Mixer.nD Cert.Mixer.τ).loc Cert.Mixer.main_arg7) = m ((c.tc : Thread Cert.Mixer.nD Cert.Mixer.τ).loc Cert.Mixer.main_arg7)
      ∧ r.2.mem ((c.tc : Thread Cert.Mixer.nD Cert.Mixer.τ).loc Cert.Mixer.main_arg8) = m ((c.tc : Thread Cert.Mixer.nD Cert.Mixer.τ).loc Cert.Mixer.main_arg8)
      ∧ r.2.mem ((c.tc : Thread Cert.Mixer.nD Cert.Mixer.τ).loc Cert.Mixer.main_arg9) = m ((c.tc : Thread Cert.Mixer.nD Cert.Mixer.τ).loc Cert.Mixer.main_arg9))
      ∧ r.2.sem = fun _ => 0)

def quiescent_MixerIdeal [hMixerIdeal : Cert.MixerIdeal.Facts] : Prop :=
  ∀ (m : (ℓ : Loc Cert.MixerIdeal.nD Cert.MixerIdeal.τ Cert.MixerIdeal.sig) → Buf (Elt Ideal) ℓ) (g : Dev Cert.MixerIdeal.nD → PrngReg), Pre_MixerIdeal m →
    θ_run (Cert.MixerIdeal.defs (F := Ideal)) (onTc (τ := Cert.MixerIdeal.τ) (Cert.MixerIdeal.main (F := Ideal))) ⟨m, fun _ => 0, g⟩ (fun r => (∀ c : Dev Cert.MixerIdeal.nD,
      r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
      ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
      ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
      ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
      ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
      ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
      ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6)
      ∧ r.2.mem ((c.tc : Thread Cert.MixerIdeal.nD Cert.MixerIdeal.τ).loc Cert.MixerIdeal.main_arg7) = m ((c.tc : Thread Cert.MixerIdeal.nD Cert.MixerIdeal.τ).loc Cert.MixerIdeal.main_arg7)
      ∧ r.2.mem ((c.tc : Thread Cert.MixerIdeal.nD Cert.MixerIdeal.τ).loc Cert.MixerIdeal.main_arg8) = m ((c.tc : Thread Cert.MixerIdeal.nD Cert.MixerIdeal.τ).loc Cert.MixerIdeal.main_arg8)
      ∧ r.2.mem ((c.tc : Thread Cert.MixerIdeal.nD Cert.MixerIdeal.τ).loc Cert.MixerIdeal.main_arg9) = m ((c.tc : Thread Cert.MixerIdeal.nD Cert.MixerIdeal.τ).loc Cert.MixerIdeal.main_arg9))
      ∧ r.2.sem = fun _ => 0)

def quiescent_MixerIdeal_pre_mix_finite [hMixerIdeal : Cert.MixerIdeal.Facts] [hPre_mix_finite : Cert.Pre_mix_finite.Facts] : Prop :=
  ∀ (m : (ℓ : Loc Cert.MixerIdeal.nD Cert.MixerIdeal.τ Cert.MixerIdeal.sig) → Buf (Elt Ideal) ℓ) (g : Dev Cert.MixerIdeal.nD → PrngReg), Pre_MixerIdeal_mix_finite m →
    θ_run (Cert.MixerIdeal.defs (F := Ideal)) (onTc (τ := Cert.MixerIdeal.τ) (Cert.MixerIdeal.main (F := Ideal))) ⟨m, fun _ => 0, g⟩ (fun r => (∀ c : Dev Cert.MixerIdeal.nD,
      r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
      ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
      ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
      ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
      ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
      ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
      ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6)
      ∧ r.2.mem ((c.tc : Thread Cert.MixerIdeal.nD Cert.MixerIdeal.τ).loc Cert.MixerIdeal.main_arg7) = m ((c.tc : Thread Cert.MixerIdeal.nD Cert.MixerIdeal.τ).loc Cert.MixerIdeal.main_arg7)
      ∧ r.2.mem ((c.tc : Thread Cert.MixerIdeal.nD Cert.MixerIdeal.τ).loc Cert.MixerIdeal.main_arg8) = m ((c.tc : Thread Cert.MixerIdeal.nD Cert.MixerIdeal.τ).loc Cert.MixerIdeal.main_arg8)
      ∧ r.2.mem ((c.tc : Thread Cert.MixerIdeal.nD Cert.MixerIdeal.τ).loc Cert.MixerIdeal.main_arg9) = m ((c.tc : Thread Cert.MixerIdeal.nD Cert.MixerIdeal.τ).loc Cert.MixerIdeal.main_arg9))
      ∧ r.2.sem = fun _ => 0)

def quiescent_MixerRefIdeal [hMixerRefIdeal : Cert.MixerRefIdeal.Facts] : Prop :=
  ∀ (m : (ℓ : Loc Cert.MixerRefIdeal.nD Cert.MixerRefIdeal.τ Cert.MixerRefIdeal.sig) → Buf (Elt Ideal) ℓ) (g : Dev Cert.MixerRefIdeal.nD → PrngReg), Pre_MixerRefIdeal m →
    θ_run (Cert.MixerRefIdeal.defs (F := Ideal)) (onTc (τ := Cert.MixerRefIdeal.τ) (Cert.MixerRefIdeal.main (F := Ideal))) ⟨m, fun _ => 0, g⟩ (fun r => (∀ c : Dev Cert.MixerRefIdeal.nD,
      r.2.mem ((c.tc : Thread Cert.MixerRefIdeal.nD Cert.MixerRefIdeal.τ).loc Cert.MixerRefIdeal.main_arg0) = m ((c.tc : Thread Cert.MixerRefIdeal.nD Cert.MixerRefIdeal.τ).loc Cert.MixerRefIdeal.main_arg0)
      ∧ r.2.mem ((c.tc : Thread Cert.MixerRefIdeal.nD Cert.MixerRefIdeal.τ).loc Cert.MixerRefIdeal.main_arg1) = m ((c.tc : Thread Cert.MixerRefIdeal.nD Cert.MixerRefIdeal.τ).loc Cert.MixerRefIdeal.main_arg1)
      ∧ r.2.mem ((c.tc : Thread Cert.MixerRefIdeal.nD Cert.MixerRefIdeal.τ).loc Cert.MixerRefIdeal.main_arg2) = m ((c.tc : Thread Cert.MixerRefIdeal.nD Cert.MixerRefIdeal.τ).loc Cert.MixerRefIdeal.main_arg2)
      ∧ r.2.mem ((c.tc : Thread Cert.MixerRefIdeal.nD Cert.MixerRefIdeal.τ).loc Cert.MixerRefIdeal.main_arg3) = m ((c.tc : Thread Cert.MixerRefIdeal.nD Cert.MixerRefIdeal.τ).loc Cert.MixerRefIdeal.main_arg3)
      ∧ r.2.mem ((c.tc : Thread Cert.MixerRefIdeal.nD Cert.MixerRefIdeal.τ).loc Cert.MixerRefIdeal.main_arg4) = m ((c.tc : Thread Cert.MixerRefIdeal.nD Cert.MixerRefIdeal.τ).loc Cert.MixerRefIdeal.main_arg4)
      ∧ r.2.mem ((c.tc : Thread Cert.MixerRefIdeal.nD Cert.MixerRefIdeal.τ).loc Cert.MixerRefIdeal.main_arg5) = m ((c.tc : Thread Cert.MixerRefIdeal.nD Cert.MixerRefIdeal.τ).loc Cert.MixerRefIdeal.main_arg5)
      ∧ r.2.mem ((c.tc : Thread Cert.MixerRefIdeal.nD Cert.MixerRefIdeal.τ).loc Cert.MixerRefIdeal.main_arg6) = m ((c.tc : Thread Cert.MixerRefIdeal.nD Cert.MixerRefIdeal.τ).loc Cert.MixerRefIdeal.main_arg6)
      ∧ r.2.mem ((c.tc : Thread Cert.MixerRefIdeal.nD Cert.MixerRefIdeal.τ).loc Cert.MixerRefIdeal.main_arg7) = m ((c.tc : Thread Cert.MixerRefIdeal.nD Cert.MixerRefIdeal.τ).loc Cert.MixerRefIdeal.main_arg7)
      ∧ r.2.mem ((c.tc : Thread Cert.MixerRefIdeal.nD Cert.MixerRefIdeal.τ).loc Cert.MixerRefIdeal.main_arg8) = m ((c.tc : Thread Cert.MixerRefIdeal.nD Cert.MixerRefIdeal.τ).loc Cert.MixerRefIdeal.main_arg8)
      ∧ r.2.mem ((c.tc : Thread Cert.MixerRefIdeal.nD Cert.MixerRefIdeal.τ).loc Cert.MixerRefIdeal.main_arg9) = m ((c.tc : Thread Cert.MixerRefIdeal.nD Cert.MixerRefIdeal.τ).loc Cert.MixerRefIdeal.main_arg9))
      ∧ r.2.sem = fun _ => 0)

def quiescent_MixerRefIdeal_pre_mix_finite [hMixerRefIdeal : Cert.MixerRefIdeal.Facts] [hPre_mix_finite : Cert.Pre_mix_finite.Facts] : Prop :=
  ∀ (m : (ℓ : Loc Cert.MixerRefIdeal.nD Cert.MixerRefIdeal.τ Cert.MixerRefIdeal.sig) → Buf (Elt Ideal) ℓ) (g : Dev Cert.MixerRefIdeal.nD → PrngReg), Pre_MixerRefIdeal_mix_finite m →
    θ_run (Cert.MixerRefIdeal.defs (F := Ideal)) (onTc (τ := Cert.MixerRefIdeal.τ) (Cert.MixerRefIdeal.main (F := Ideal))) ⟨m, fun _ => 0, g⟩ (fun r => (∀ c : Dev Cert.MixerRefIdeal.nD,
      r.2.mem ((c.tc : Thread Cert.MixerRefIdeal.nD Cert.MixerRefIdeal.τ).loc Cert.MixerRefIdeal.main_arg0) = m ((c.tc : Thread Cert.MixerRefIdeal.nD Cert.MixerRefIdeal.τ).loc Cert.MixerRefIdeal.main_arg0)
      ∧ r.2.mem ((c.tc : Thread Cert.MixerRefIdeal.nD Cert.MixerRefIdeal.τ).loc Cert.MixerRefIdeal.main_arg1) = m ((c.tc : Thread Cert.MixerRefIdeal.nD Cert.MixerRefIdeal.τ).loc Cert.MixerRefIdeal.main_arg1)
      ∧ r.2.mem ((c.tc : Thread Cert.MixerRefIdeal.nD Cert.MixerRefIdeal.τ).loc Cert.MixerRefIdeal.main_arg2) = m ((c.tc : Thread Cert.MixerRefIdeal.nD Cert.MixerRefIdeal.τ).loc Cert.MixerRefIdeal.main_arg2)
      ∧ r.2.mem ((c.tc : Thread Cert.MixerRefIdeal.nD Cert.MixerRefIdeal.τ).loc Cert.MixerRefIdeal.main_arg3) = m ((c.tc : Thread Cert.MixerRefIdeal.nD Cert.MixerRefIdeal.τ).loc Cert.MixerRefIdeal.main_arg3)
      ∧ r.2.mem ((c.tc : Thread Cert.MixerRefIdeal.nD Cert.MixerRefIdeal.τ).loc Cert.MixerRefIdeal.main_arg4) = m ((c.tc : Thread Cert.MixerRefIdeal.nD Cert.MixerRefIdeal.τ).loc Cert.MixerRefIdeal.main_arg4)
      ∧ r.2.mem ((c.tc : Thread Cert.MixerRefIdeal.nD Cert.MixerRefIdeal.τ).loc Cert.MixerRefIdeal.main_arg5) = m ((c.tc : Thread Cert.MixerRefIdeal.nD Cert.MixerRefIdeal.τ).loc Cert.MixerRefIdeal.main_arg5)
      ∧ r.2.mem ((c.tc : Thread Cert.MixerRefIdeal.nD Cert.MixerRefIdeal.τ).loc Cert.MixerRefIdeal.main_arg6) = m ((c.tc : Thread Cert.MixerRefIdeal.nD Cert.MixerRefIdeal.τ).loc Cert.MixerRefIdeal.main_arg6)
      ∧ r.2.mem ((c.tc : Thread Cert.MixerRefIdeal.nD Cert.MixerRefIdeal.τ).loc Cert.MixerRefIdeal.main_arg7) = m ((c.tc : Thread Cert.MixerRefIdeal.nD Cert.MixerRefIdeal.τ).loc Cert.MixerRefIdeal.main_arg7)
      ∧ r.2.mem ((c.tc : Thread Cert.MixerRefIdeal.nD Cert.MixerRefIdeal.τ).loc Cert.MixerRefIdeal.main_arg8) = m ((c.tc : Thread Cert.MixerRefIdeal.nD Cert.MixerRefIdeal.τ).loc Cert.MixerRefIdeal.main_arg8)
      ∧ r.2.mem ((c.tc : Thread Cert.MixerRefIdeal.nD Cert.MixerRefIdeal.τ).loc Cert.MixerRefIdeal.main_arg9) = m ((c.tc : Thread Cert.MixerRefIdeal.nD Cert.MixerRefIdeal.τ).loc Cert.MixerRefIdeal.main_arg9))
      ∧ r.2.sem = fun _ => 0)

def quiescent_MlaPrep [hMlaPrep : Cert.MlaPrep.Facts] : Prop :=
  ∀ (m : (ℓ : Loc Cert.MlaPrep.nD Cert.MlaPrep.τ Cert.MlaPrep.sig) → Buf (Elt Bits) ℓ) (g : Dev Cert.MlaPrep.nD → PrngReg), Pre_MlaPrep m →
    θ_run (Cert.MlaPrep.defs (F := Bits)) (onTc (τ := Cert.MlaPrep.τ) (Cert.MlaPrep.main (F := Bits))) ⟨m, fun _ => 0, g⟩ (fun r => (∀ c : Dev Cert.MlaPrep.nD,
      r.2.mem ((c.tc : Thread Cert.MlaPrep.nD Cert.MlaPrep.τ).loc Cert.MlaPrep.main_arg0) = m ((c.tc : Thread Cert.MlaPrep.nD Cert.MlaPrep.τ).loc Cert.MlaPrep.main_arg0)
      ∧ r.2.mem ((c.tc : Thread Cert.MlaPrep.nD Cert.MlaPrep.τ).loc Cert.MlaPrep.main_arg1) = m ((c.tc : Thread Cert.MlaPrep.nD Cert.MlaPrep.τ).loc Cert.MlaPrep.main_arg1)
      ∧ r.2.mem ((c.tc : Thread Cert.MlaPrep.nD Cert.MlaPrep.τ).loc Cert.MlaPrep.main_arg2) = m ((c.tc : Thread Cert.MlaPrep.nD Cert.MlaPrep.τ).loc Cert.MlaPrep.main_arg2)
      ∧ r.2.mem ((c.tc : Thread Cert.MlaPrep.nD Cert.MlaPrep.τ).loc Cert.MlaPrep.main_arg3) = m ((c.tc : Thread Cert.MlaPrep.nD Cert.MlaPrep.τ).loc Cert.MlaPrep.main_arg3)
      ∧ r.2.mem ((c.tc : Thread Cert.MlaPrep.nD Cert.MlaPrep.τ).loc Cert.MlaPrep.main_arg4) = m ((c.tc : Thread Cert.MlaPrep.nD Cert.MlaPrep.τ).loc Cert.MlaPrep.main_arg4)
      ∧ r.2.mem ((c.tc : Thread Cert.MlaPrep.nD Cert.MlaPrep.τ).loc Cert.MlaPrep.main_arg5) = m ((c.tc : Thread Cert.MlaPrep.nD Cert.MlaPrep.τ).loc Cert.MlaPrep.main_arg5)
      ∧ r.2.mem ((c.tc : Thread Cert.MlaPrep.nD Cert.MlaPrep.τ).loc Cert.MlaPrep.main_arg6) = m ((c.tc : Thread Cert.MlaPrep.nD Cert.MlaPrep.τ).loc Cert.MlaPrep.main_arg6)
      ∧ r.2.mem ((c.tc : Thread Cert.MlaPrep.nD Cert.MlaPrep.τ).loc Cert.MlaPrep.main_arg7) = m ((c.tc : Thread Cert.MlaPrep.nD Cert.MlaPrep.τ).loc Cert.MlaPrep.main_arg7)
      ∧ r.2.mem ((c.tc : Thread Cert.MlaPrep.nD Cert.MlaPrep.τ).loc Cert.MlaPrep.main_arg8) = m ((c.tc : Thread Cert.MlaPrep.nD Cert.MlaPrep.τ).loc Cert.MlaPrep.main_arg8)
      ∧ r.2.mem ((c.tc : Thread Cert.MlaPrep.nD Cert.MlaPrep.τ).loc Cert.MlaPrep.main_arg9) = m ((c.tc : Thread Cert.MlaPrep.nD Cert.MlaPrep.τ).loc Cert.MlaPrep.main_arg9)
      ∧ r.2.mem ((c.tc : Thread Cert.MlaPrep.nD Cert.MlaPrep.τ).loc Cert.MlaPrep.main_arg10) = m ((c.tc : Thread Cert.MlaPrep.nD Cert.MlaPrep.τ).loc Cert.MlaPrep.main_arg10))
      ∧ r.2.sem = fun _ => 0)

def quiescent_MlaPrepIdeal [hMlaPrepIdeal : Cert.MlaPrepIdeal.Facts] : Prop :=
  ∀ (m : (ℓ : Loc Cert.MlaPrepIdeal.nD Cert.MlaPrepIdeal.τ Cert.MlaPrepIdeal.sig) → Buf (Elt Ideal) ℓ) (g : Dev Cert.MlaPrepIdeal.nD → PrngReg), Pre_MlaPrepIdeal m →
    θ_run (Cert.MlaPrepIdeal.defs (F := Ideal)) (onTc (τ := Cert.MlaPrepIdeal.τ) (Cert.MlaPrepIdeal.main (F := Ideal))) ⟨m, fun _ => 0, g⟩ (fun r => (∀ c : Dev Cert.MlaPrepIdeal.nD,
      r.2.mem ((c.tc : Thread Cert.MlaPrepIdeal.nD Cert.MlaPrepIdeal.τ).loc Cert.MlaPrepIdeal.main_arg0) = m ((c.tc : Thread Cert.MlaPrepIdeal.nD Cert.MlaPrepIdeal.τ).loc Cert.MlaPrepIdeal.main_arg0)
      ∧ r.2.mem ((c.tc : Thread Cert.MlaPrepIdeal.nD Cert.MlaPrepIdeal.τ).loc Cert.MlaPrepIdeal.main_arg1) = m ((c.tc : Thread Cert.MlaPrepIdeal.nD Cert.MlaPrepIdeal.τ).loc Cert.MlaPrepIdeal.main_arg1)
      ∧ r.2.mem ((c.tc : Thread Cert.MlaPrepIdeal.nD Cert.MlaPrepIdeal.τ).loc Cert.MlaPrepIdeal.main_arg2) = m ((c.tc : Thread Cert.MlaPrepIdeal.nD Cert.MlaPrepIdeal.τ).loc Cert.MlaPrepIdeal.main_arg2)
      ∧ r.2.mem ((c.tc : Thread Cert.MlaPrepIdeal.nD Cert.MlaPrepIdeal.τ).loc Cert.MlaPrepIdeal.main_arg3) = m ((c.tc : Thread Cert.MlaPrepIdeal.nD Cert.MlaPrepIdeal.τ).loc Cert.MlaPrepIdeal.main_arg3)
      ∧ r.2.mem ((c.tc : Thread Cert.MlaPrepIdeal.nD Cert.MlaPrepIdeal.τ).loc Cert.MlaPrepIdeal.main_arg4) = m ((c.tc : Thread Cert.MlaPrepIdeal.nD Cert.MlaPrepIdeal.τ).loc Cert.MlaPrepIdeal.main_arg4)
      ∧ r.2.mem ((c.tc : Thread Cert.MlaPrepIdeal.nD Cert.MlaPrepIdeal.τ).loc Cert.MlaPrepIdeal.main_arg5) = m ((c.tc : Thread Cert.MlaPrepIdeal.nD Cert.MlaPrepIdeal.τ).loc Cert.MlaPrepIdeal.main_arg5)
      ∧ r.2.mem ((c.tc : Thread Cert.MlaPrepIdeal.nD Cert.MlaPrepIdeal.τ).loc Cert.MlaPrepIdeal.main_arg6) = m ((c.tc : Thread Cert.MlaPrepIdeal.nD Cert.MlaPrepIdeal.τ).loc Cert.MlaPrepIdeal.main_arg6)
      ∧ r.2.mem ((c.tc : Thread Cert.MlaPrepIdeal.nD Cert.MlaPrepIdeal.τ).loc Cert.MlaPrepIdeal.main_arg7) = m ((c.tc : Thread Cert.MlaPrepIdeal.nD Cert.MlaPrepIdeal.τ).loc Cert.MlaPrepIdeal.main_arg7)
      ∧ r.2.mem ((c.tc : Thread Cert.MlaPrepIdeal.nD Cert.MlaPrepIdeal.τ).loc Cert.MlaPrepIdeal.main_arg8) = m ((c.tc : Thread Cert.MlaPrepIdeal.nD Cert.MlaPrepIdeal.τ).loc Cert.MlaPrepIdeal.main_arg8)
      ∧ r.2.mem ((c.tc : Thread Cert.MlaPrepIdeal.nD Cert.MlaPrepIdeal.τ).loc Cert.MlaPrepIdeal.main_arg9) = m ((c.tc : Thread Cert.MlaPrepIdeal.nD Cert.MlaPrepIdeal.τ).loc Cert.MlaPrepIdeal.main_arg9)
      ∧ r.2.mem ((c.tc : Thread Cert.MlaPrepIdeal.nD Cert.MlaPrepIdeal.τ).loc Cert.MlaPrepIdeal.main_arg10) = m ((c.tc : Thread Cert.MlaPrepIdeal.nD Cert.MlaPrepIdeal.τ).loc Cert.MlaPrepIdeal.main_arg10))
      ∧ r.2.sem = fun _ => 0)

def quiescent_MlaPrepIdeal_pre_mla_finite [hMlaPrepIdeal : Cert.MlaPrepIdeal.Facts] [hPre_mla_finite : Cert.Pre_mla_finite.Facts] : Prop :=
  ∀ (m : (ℓ : Loc Cert.MlaPrepIdeal.nD Cert.MlaPrepIdeal.τ Cert.MlaPrepIdeal.sig) → Buf (Elt Ideal) ℓ) (g : Dev Cert.MlaPrepIdeal.nD → PrngReg), Pre_MlaPrepIdeal_mla_finite m →
    θ_run (Cert.MlaPrepIdeal.defs (F := Ideal)) (onTc (τ := Cert.MlaPrepIdeal.τ) (Cert.MlaPrepIdeal.main (F := Ideal))) ⟨m, fun _ => 0, g⟩ (fun r => (∀ c : Dev Cert.MlaPrepIdeal.nD,
      r.2.mem ((c.tc : Thread Cert.MlaPrepIdeal.nD Cert.MlaPrepIdeal.τ).loc Cert.MlaPrepIdeal.main_arg0) = m ((c.tc : Thread Cert.MlaPrepIdeal.nD Cert.MlaPrepIdeal.τ).loc Cert.MlaPrepIdeal.main_arg0)
      ∧ r.2.mem ((c.tc : Thread Cert.MlaPrepIdeal.nD Cert.MlaPrepIdeal.τ).loc Cert.MlaPrepIdeal.main_arg1) = m ((c.tc : Thread Cert.MlaPrepIdeal.nD Cert.MlaPrepIdeal.τ).loc Cert.MlaPrepIdeal.main_arg1)
      ∧ r.2.mem ((c.tc : Thread Cert.MlaPrepIdeal.nD Cert.MlaPrepIdeal.τ).loc Cert.MlaPrepIdeal.main_arg2) = m ((c.tc : Thread Cert.MlaPrepIdeal.nD Cert.MlaPrepIdeal.τ).loc Cert.MlaPrepIdeal.main_arg2)
      ∧ r.2.mem ((c.tc : Thread Cert.MlaPrepIdeal.nD Cert.MlaPrepIdeal.τ).loc Cert.MlaPrepIdeal.main_arg3) = m ((c.tc : Thread Cert.MlaPrepIdeal.nD Cert.MlaPrepIdeal.τ).loc Cert.MlaPrepIdeal.main_arg3)
      ∧ r.2.mem ((c.tc : Thread Cert.MlaPrepIdeal.nD Cert.MlaPrepIdeal.τ).loc Cert.MlaPrepIdeal.main_arg4) = m ((c.tc : Thread Cert.MlaPrepIdeal.nD Cert.MlaPrepIdeal.τ).loc Cert.MlaPrepIdeal.main_arg4)
      ∧ r.2.mem ((c.tc : Thread Cert.MlaPrepIdeal.nD Cert.MlaPrepIdeal.τ).loc Cert.MlaPrepIdeal.main_arg5) = m ((c.tc : Thread Cert.MlaPrepIdeal.nD Cert.MlaPrepIdeal.τ).loc Cert.MlaPrepIdeal.main_arg5)
      ∧ r.2.mem ((c.tc : Thread Cert.MlaPrepIdeal.nD Cert.MlaPrepIdeal.τ).loc Cert.MlaPrepIdeal.main_arg6) = m ((c.tc : Thread Cert.MlaPrepIdeal.nD Cert.MlaPrepIdeal.τ).loc Cert.MlaPrepIdeal.main_arg6)
      ∧ r.2.mem ((c.tc : Thread Cert.MlaPrepIdeal.nD Cert.MlaPrepIdeal.τ).loc Cert.MlaPrepIdeal.main_arg7) = m ((c.tc : Thread Cert.MlaPrepIdeal.nD Cert.MlaPrepIdeal.τ).loc Cert.MlaPrepIdeal.main_arg7)
      ∧ r.2.mem ((c.tc : Thread Cert.MlaPrepIdeal.nD Cert.MlaPrepIdeal.τ).loc Cert.MlaPrepIdeal.main_arg8) = m ((c.tc : Thread Cert.MlaPrepIdeal.nD Cert.MlaPrepIdeal.τ).loc Cert.MlaPrepIdeal.main_arg8)
      ∧ r.2.mem ((c.tc : Thread Cert.MlaPrepIdeal.nD Cert.MlaPrepIdeal.τ).loc Cert.MlaPrepIdeal.main_arg9) = m ((c.tc : Thread Cert.MlaPrepIdeal.nD Cert.MlaPrepIdeal.τ).loc Cert.MlaPrepIdeal.main_arg9)
      ∧ r.2.mem ((c.tc : Thread Cert.MlaPrepIdeal.nD Cert.MlaPrepIdeal.τ).loc Cert.MlaPrepIdeal.main_arg10) = m ((c.tc : Thread Cert.MlaPrepIdeal.nD Cert.MlaPrepIdeal.τ).loc Cert.MlaPrepIdeal.main_arg10))
      ∧ r.2.sem = fun _ => 0)

def quiescent_MlaPrepRefIdeal [hMlaPrepRefIdeal : Cert.MlaPrepRefIdeal.Facts] : Prop :=
  ∀ (m : (ℓ : Loc Cert.MlaPrepRefIdeal.nD Cert.MlaPrepRefIdeal.τ Cert.MlaPrepRefIdeal.sig) → Buf (Elt Ideal) ℓ) (g : Dev Cert.MlaPrepRefIdeal.nD → PrngReg), Pre_MlaPrepRefIdeal m →
    θ_run (Cert.MlaPrepRefIdeal.defs (F := Ideal)) (onTc (τ := Cert.MlaPrepRefIdeal.τ) (Cert.MlaPrepRefIdeal.main (F := Ideal))) ⟨m, fun _ => 0, g⟩ (fun r => (∀ c : Dev Cert.MlaPrepRefIdeal.nD,
      r.2.mem ((c.tc : Thread Cert.MlaPrepRefIdeal.nD Cert.MlaPrepRefIdeal.τ).loc Cert.MlaPrepRefIdeal.main_arg0) = m ((c.tc : Thread Cert.MlaPrepRefIdeal.nD Cert.MlaPrepRefIdeal.τ).loc Cert.MlaPrepRefIdeal.main_arg0)
      ∧ r.2.mem ((c.tc : Thread Cert.MlaPrepRefIdeal.nD Cert.MlaPrepRefIdeal.τ).loc Cert.MlaPrepRefIdeal.main_arg1) = m ((c.tc : Thread Cert.MlaPrepRefIdeal.nD Cert.MlaPrepRefIdeal.τ).loc Cert.MlaPrepRefIdeal.main_arg1)
      ∧ r.2.mem ((c.tc : Thread Cert.MlaPrepRefIdeal.nD Cert.MlaPrepRefIdeal.τ).loc Cert.MlaPrepRefIdeal.main_arg2) = m ((c.tc : Thread Cert.MlaPrepRefIdeal.nD Cert.MlaPrepRefIdeal.τ).loc Cert.MlaPrepRefIdeal.main_arg2)
      ∧ r.2.mem ((c.tc : Thread Cert.MlaPrepRefIdeal.nD Cert.MlaPrepRefIdeal.τ).loc Cert.MlaPrepRefIdeal.main_arg3) = m ((c.tc : Thread Cert.MlaPrepRefIdeal.nD Cert.MlaPrepRefIdeal.τ).loc Cert.MlaPrepRefIdeal.main_arg3)
      ∧ r.2.mem ((c.tc : Thread Cert.MlaPrepRefIdeal.nD Cert.MlaPrepRefIdeal.τ).loc Cert.MlaPrepRefIdeal.main_arg4) = m ((c.tc : Thread Cert.MlaPrepRefIdeal.nD Cert.MlaPrepRefIdeal.τ).loc Cert.MlaPrepRefIdeal.main_arg4)
      ∧ r.2.mem ((c.tc : Thread Cert.MlaPrepRefIdeal.nD Cert.MlaPrepRefIdeal.τ).loc Cert.MlaPrepRefIdeal.main_arg5) = m ((c.tc : Thread Cert.MlaPrepRefIdeal.nD Cert.MlaPrepRefIdeal.τ).loc Cert.MlaPrepRefIdeal.main_arg5)
      ∧ r.2.mem ((c.tc : Thread Cert.MlaPrepRefIdeal.nD Cert.MlaPrepRefIdeal.τ).loc Cert.MlaPrepRefIdeal.main_arg6) = m ((c.tc : Thread Cert.MlaPrepRefIdeal.nD Cert.MlaPrepRefIdeal.τ).loc Cert.MlaPrepRefIdeal.main_arg6)
      ∧ r.2.mem ((c.tc : Thread Cert.MlaPrepRefIdeal.nD Cert.MlaPrepRefIdeal.τ).loc Cert.MlaPrepRefIdeal.main_arg7) = m ((c.tc : Thread Cert.MlaPrepRefIdeal.nD Cert.MlaPrepRefIdeal.τ).loc Cert.MlaPrepRefIdeal.main_arg7)
      ∧ r.2.mem ((c.tc : Thread Cert.MlaPrepRefIdeal.nD Cert.MlaPrepRefIdeal.τ).loc Cert.MlaPrepRefIdeal.main_arg8) = m ((c.tc : Thread Cert.MlaPrepRefIdeal.nD Cert.MlaPrepRefIdeal.τ).loc Cert.MlaPrepRefIdeal.main_arg8)
      ∧ r.2.mem ((c.tc : Thread Cert.MlaPrepRefIdeal.nD Cert.MlaPrepRefIdeal.τ).loc Cert.MlaPrepRefIdeal.main_arg9) = m ((c.tc : Thread Cert.MlaPrepRefIdeal.nD Cert.MlaPrepRefIdeal.τ).loc Cert.MlaPrepRefIdeal.main_arg9)
      ∧ r.2.mem ((c.tc : Thread Cert.MlaPrepRefIdeal.nD Cert.MlaPrepRefIdeal.τ).loc Cert.MlaPrepRefIdeal.main_arg10) = m ((c.tc : Thread Cert.MlaPrepRefIdeal.nD Cert.MlaPrepRefIdeal.τ).loc Cert.MlaPrepRefIdeal.main_arg10))
      ∧ r.2.sem = fun _ => 0)

def quiescent_MlaPrepRefIdeal_pre_mla_finite [hMlaPrepRefIdeal : Cert.MlaPrepRefIdeal.Facts] [hPre_mla_finite : Cert.Pre_mla_finite.Facts] : Prop :=
  ∀ (m : (ℓ : Loc Cert.MlaPrepRefIdeal.nD Cert.MlaPrepRefIdeal.τ Cert.MlaPrepRefIdeal.sig) → Buf (Elt Ideal) ℓ) (g : Dev Cert.MlaPrepRefIdeal.nD → PrngReg), Pre_MlaPrepRefIdeal_mla_finite m →
    θ_run (Cert.MlaPrepRefIdeal.defs (F := Ideal)) (onTc (τ := Cert.MlaPrepRefIdeal.τ) (Cert.MlaPrepRefIdeal.main (F := Ideal))) ⟨m, fun _ => 0, g⟩ (fun r => (∀ c : Dev Cert.MlaPrepRefIdeal.nD,
      r.2.mem ((c.tc : Thread Cert.MlaPrepRefIdeal.nD Cert.MlaPrepRefIdeal.τ).loc Cert.MlaPrepRefIdeal.main_arg0) = m ((c.tc : Thread Cert.MlaPrepRefIdeal.nD Cert.MlaPrepRefIdeal.τ).loc Cert.MlaPrepRefIdeal.main_arg0)
      ∧ r.2.mem ((c.tc : Thread Cert.MlaPrepRefIdeal.nD Cert.MlaPrepRefIdeal.τ).loc Cert.MlaPrepRefIdeal.main_arg1) = m ((c.tc : Thread Cert.MlaPrepRefIdeal.nD Cert.MlaPrepRefIdeal.τ).loc Cert.MlaPrepRefIdeal.main_arg1)
      ∧ r.2.mem ((c.tc : Thread Cert.MlaPrepRefIdeal.nD Cert.MlaPrepRefIdeal.τ).loc Cert.MlaPrepRefIdeal.main_arg2) = m ((c.tc : Thread Cert.MlaPrepRefIdeal.nD Cert.MlaPrepRefIdeal.τ).loc Cert.MlaPrepRefIdeal.main_arg2)
      ∧ r.2.mem ((c.tc : Thread Cert.MlaPrepRefIdeal.nD Cert.MlaPrepRefIdeal.τ).loc Cert.MlaPrepRefIdeal.main_arg3) = m ((c.tc : Thread Cert.MlaPrepRefIdeal.nD Cert.MlaPrepRefIdeal.τ).loc Cert.MlaPrepRefIdeal.main_arg3)
      ∧ r.2.mem ((c.tc : Thread Cert.MlaPrepRefIdeal.nD Cert.MlaPrepRefIdeal.τ).loc Cert.MlaPrepRefIdeal.main_arg4) = m ((c.tc : Thread Cert.MlaPrepRefIdeal.nD Cert.MlaPrepRefIdeal.τ).loc Cert.MlaPrepRefIdeal.main_arg4)
      ∧ r.2.mem ((c.tc : Thread Cert.MlaPrepRefIdeal.nD Cert.MlaPrepRefIdeal.τ).loc Cert.MlaPrepRefIdeal.main_arg5) = m ((c.tc : Thread Cert.MlaPrepRefIdeal.nD Cert.MlaPrepRefIdeal.τ).loc Cert.MlaPrepRefIdeal.main_arg5)
      ∧ r.2.mem ((c.tc : Thread Cert.MlaPrepRefIdeal.nD Cert.MlaPrepRefIdeal.τ).loc Cert.MlaPrepRefIdeal.main_arg6) = m ((c.tc : Thread Cert.MlaPrepRefIdeal.nD Cert.MlaPrepRefIdeal.τ).loc Cert.MlaPrepRefIdeal.main_arg6)
      ∧ r.2.mem ((c.tc : Thread Cert.MlaPrepRefIdeal.nD Cert.MlaPrepRefIdeal.τ).loc Cert.MlaPrepRefIdeal.main_arg7) = m ((c.tc : Thread Cert.MlaPrepRefIdeal.nD Cert.MlaPrepRefIdeal.τ).loc Cert.MlaPrepRefIdeal.main_arg7)
      ∧ r.2.mem ((c.tc : Thread Cert.MlaPrepRefIdeal.nD Cert.MlaPrepRefIdeal.τ).loc Cert.MlaPrepRefIdeal.main_arg8) = m ((c.tc : Thread Cert.MlaPrepRefIdeal.nD Cert.MlaPrepRefIdeal.τ).loc Cert.MlaPrepRefIdeal.main_arg8)
      ∧ r.2.mem ((c.tc : Thread Cert.MlaPrepRefIdeal.nD Cert.MlaPrepRefIdeal.τ).loc Cert.MlaPrepRefIdeal.main_arg9) = m ((c.tc : Thread Cert.MlaPrepRefIdeal.nD Cert.MlaPrepRefIdeal.τ).loc Cert.MlaPrepRefIdeal.main_arg9)
      ∧ r.2.mem ((c.tc : Thread Cert.MlaPrepRefIdeal.nD Cert.MlaPrepRefIdeal.τ).loc Cert.MlaPrepRefIdeal.main_arg10) = m ((c.tc : Thread Cert.MlaPrepRefIdeal.nD Cert.MlaPrepRefIdeal.τ).loc Cert.MlaPrepRefIdeal.main_arg10))
      ∧ r.2.sem = fun _ => 0)

def preserves_DownLoss_DownLossIdeal : Prop :=
  True

def algebraic_DownLossIdeal_DownLossRefIdeal_pre_down_finite [hDownLossIdeal : Cert.DownLossIdeal.Facts] [hDownLossRefIdeal : Cert.DownLossRefIdeal.Facts] [hPre_down_finite : Cert.Pre_down_finite.Facts] : Prop :=
  ∀ (m : (ℓ : Loc Cert.DownLossIdeal.nD Cert.DownLossIdeal.τ Cert.DownLossIdeal.sig) → Buf (Elt Ideal) ℓ) (g : Dev Cert.DownLossIdeal.nD → PrngReg)
    (m' : (ℓ : Loc Cert.DownLossRefIdeal.nD Cert.DownLossRefIdeal.τ Cert.DownLossRefIdeal.sig) → Buf (Elt Ideal) ℓ) (g' : Dev Cert.DownLossRefIdeal.nD → PrngReg), Pre_DownLossIdeal_down_finite m →
    (∀ c : Dev Cert.DownLossIdeal.nD,
      m' ((c.tc : Thread Cert.DownLossRefIdeal.nD Cert.DownLossRefIdeal.τ).loc Cert.DownLossRefIdeal.main_arg0) = m ((c.tc : Thread Cert.DownLossIdeal.nD Cert.DownLossIdeal.τ).loc Cert.DownLossIdeal.main_arg0)
      ∧ m' ((c.tc : Thread Cert.DownLossRefIdeal.nD Cert.DownLossRefIdeal.τ).loc Cert.DownLossRefIdeal.main_arg1) = m ((c.tc : Thread Cert.DownLossIdeal.nD Cert.DownLossIdeal.τ).loc Cert.DownLossIdeal.main_arg1)
      ∧ m' ((c.tc : Thread Cert.DownLossRefIdeal.nD Cert.DownLossRefIdeal.τ).loc Cert.DownLossRefIdeal.main_arg2) = m ((c.tc : Thread Cert.DownLossIdeal.nD Cert.DownLossIdeal.τ).loc Cert.DownLossIdeal.main_arg2)
      ∧ m' ((c.tc : Thread Cert.DownLossRefIdeal.nD Cert.DownLossRefIdeal.τ).loc Cert.DownLossRefIdeal.main_arg3) = m ((c.tc : Thread Cert.DownLossIdeal.nD Cert.DownLossIdeal.τ).loc Cert.DownLossIdeal.main_arg3)
      ∧ m' ((c.tc : Thread Cert.DownLossRefIdeal.nD Cert.DownLossRefIdeal.τ).loc Cert.DownLossRefIdeal.main_arg4) = m ((c.tc : Thread Cert.DownLossIdeal.nD Cert.DownLossIdeal.τ).loc Cert.DownLossIdeal.main_arg4)) →
    ∃ (v0 : (c : Dev Cert.DownLossIdeal.nD) → Buf (Elt Ideal) ((c.tc : Thread Cert.DownLossIdeal.nD Cert.DownLossIdeal.τ).loc Cert.DownLossIdeal.main_v7_0)) (v1 : (c : Dev Cert.DownLossIdeal.nD) → Buf (Elt Ideal) ((c.tc : Thread Cert.DownLossIdeal.nD Cert.DownLossIdeal.τ).loc Cert.DownLossIdeal.main_v7_1)) (v2 : (c : Dev Cert.DownLossIdeal.nD) → Buf (Elt Ideal) ((c.tc : Thread Cert.DownLossIdeal.nD Cert.DownLossIdeal.τ).loc Cert.DownLossIdeal.main_v7_2)) (v3 : (c : Dev Cert.DownLossIdeal.nD) → Buf (Elt Ideal) ((c.tc : Thread Cert.DownLossIdeal.nD Cert.DownLossIdeal.τ).loc Cert.DownLossIdeal.main_v7_3)),
      θ_run (Cert.DownLossIdeal.defs (F := Ideal)) (onTc (τ := Cert.DownLossIdeal.τ) (Cert.DownLossIdeal.main (F := Ideal))) ⟨m, fun _ => 0, g⟩ (fun r => ∀ c : Dev Cert.DownLossIdeal.nD,
          r.2.mem ((c.tc : Thread Cert.DownLossIdeal.nD Cert.DownLossIdeal.τ).loc Cert.DownLossIdeal.main_v7_0) = v0 c
          ∧ r.2.mem ((c.tc : Thread Cert.DownLossIdeal.nD Cert.DownLossIdeal.τ).loc Cert.DownLossIdeal.main_v7_1) = v1 c
          ∧ r.2.mem ((c.tc : Thread Cert.DownLossIdeal.nD Cert.DownLossIdeal.τ).loc Cert.DownLossIdeal.main_v7_2) = v2 c
          ∧ r.2.mem ((c.tc : Thread Cert.DownLossIdeal.nD Cert.DownLossIdeal.τ).loc Cert.DownLossIdeal.main_v7_3) = v3 c
          ∧ r.2.mem ((c.tc : Thread Cert.DownLossIdeal.nD Cert.DownLossIdeal.τ).loc Cert.DownLossIdeal.main_arg0) = m ((c.tc : Thread Cert.DownLossIdeal.nD Cert.DownLossIdeal.τ).loc Cert.DownLossIdeal.main_arg0)
          ∧ r.2.mem ((c.tc : Thread Cert.DownLossIdeal.nD Cert.DownLossIdeal.τ).loc Cert.DownLossIdeal.main_arg1) = m ((c.tc : Thread Cert.DownLossIdeal.nD Cert.DownLossIdeal.τ).loc Cert.DownLossIdeal.main_arg1)
          ∧ r.2.mem ((c.tc : Thread Cert.DownLossIdeal.nD Cert.DownLossIdeal.τ).loc Cert.DownLossIdeal.main_arg2) = m ((c.tc : Thread Cert.DownLossIdeal.nD Cert.DownLossIdeal.τ).loc Cert.DownLossIdeal.main_arg2)
          ∧ r.2.mem ((c.tc : Thread Cert.DownLossIdeal.nD Cert.DownLossIdeal.τ).loc Cert.DownLossIdeal.main_arg3) = m ((c.tc : Thread Cert.DownLossIdeal.nD Cert.DownLossIdeal.τ).loc Cert.DownLossIdeal.main_arg3)
          ∧ r.2.mem ((c.tc : Thread Cert.DownLossIdeal.nD Cert.DownLossIdeal.τ).loc Cert.DownLossIdeal.main_arg4) = m ((c.tc : Thread Cert.DownLossIdeal.nD Cert.DownLossIdeal.τ).loc Cert.DownLossIdeal.main_arg4))
      ∧ θ_run (Cert.DownLossRefIdeal.defs (F := Ideal)) (onTc (τ := Cert.DownLossRefIdeal.τ) (Cert.DownLossRefIdeal.main (F := Ideal))) ⟨m', fun _ => 0, g'⟩ (fun r => ∀ c : Dev Cert.DownLossRefIdeal.nD,
          r.2.mem ((c.tc : Thread Cert.DownLossRefIdeal.nD Cert.DownLossRefIdeal.τ).loc Cert.DownLossRefIdeal.main_v54) = v0 c
          ∧ r.2.mem ((c.tc : Thread Cert.DownLossRefIdeal.nD Cert.DownLossRefIdeal.τ).loc Cert.DownLossRefIdeal.main_v55) = v1 c
          ∧ r.2.mem ((c.tc : Thread Cert.DownLossRefIdeal.nD Cert.DownLossRefIdeal.τ).loc Cert.DownLossRefIdeal.main_v56) = v2 c
          ∧ r.2.mem ((c.tc : Thread Cert.DownLossRefIdeal.nD Cert.DownLossRefIdeal.τ).loc Cert.DownLossRefIdeal.main_v57) = v3 c
          ∧ r.2.mem ((c.tc : Thread Cert.DownLossRefIdeal.nD Cert.DownLossRefIdeal.τ).loc Cert.DownLossRefIdeal.main_arg0) = m' ((c.tc : Thread Cert.DownLossRefIdeal.nD Cert.DownLossRefIdeal.τ).loc Cert.DownLossRefIdeal.main_arg0)
          ∧ r.2.mem ((c.tc : Thread Cert.DownLossRefIdeal.nD Cert.DownLossRefIdeal.τ).loc Cert.DownLossRefIdeal.main_arg1) = m' ((c.tc : Thread Cert.DownLossRefIdeal.nD Cert.DownLossRefIdeal.τ).loc Cert.DownLossRefIdeal.main_arg1)
          ∧ r.2.mem ((c.tc : Thread Cert.DownLossRefIdeal.nD Cert.DownLossRefIdeal.τ).loc Cert.DownLossRefIdeal.main_arg2) = m' ((c.tc : Thread Cert.DownLossRefIdeal.nD Cert.DownLossRefIdeal.τ).loc Cert.DownLossRefIdeal.main_arg2)
          ∧ r.2.mem ((c.tc : Thread Cert.DownLossRefIdeal.nD Cert.DownLossRefIdeal.τ).loc Cert.DownLossRefIdeal.main_arg3) = m' ((c.tc : Thread Cert.DownLossRefIdeal.nD Cert.DownLossRefIdeal.τ).loc Cert.DownLossRefIdeal.main_arg3)
          ∧ r.2.mem ((c.tc : Thread Cert.DownLossRefIdeal.nD Cert.DownLossRefIdeal.τ).loc Cert.DownLossRefIdeal.main_arg4) = m' ((c.tc : Thread Cert.DownLossRefIdeal.nD Cert.DownLossRefIdeal.τ).loc Cert.DownLossRefIdeal.main_arg4))

def preserves_UpProj_UpProjIdeal : Prop :=
  True

def algebraic_UpProjIdeal_UpProjRefIdeal_pre_up_finite [hUpProjIdeal : Cert.UpProjIdeal.Facts] [hUpProjRefIdeal : Cert.UpProjRefIdeal.Facts] [hPre_up_finite : Cert.Pre_up_finite.Facts] : Prop :=
  ∀ (m : (ℓ : Loc Cert.UpProjIdeal.nD Cert.UpProjIdeal.τ Cert.UpProjIdeal.sig) → Buf (Elt Ideal) ℓ) (g : Dev Cert.UpProjIdeal.nD → PrngReg)
    (m' : (ℓ : Loc Cert.UpProjRefIdeal.nD Cert.UpProjRefIdeal.τ Cert.UpProjRefIdeal.sig) → Buf (Elt Ideal) ℓ) (g' : Dev Cert.UpProjRefIdeal.nD → PrngReg), Pre_UpProjIdeal_up_finite m →
    (∀ c : Dev Cert.UpProjIdeal.nD,
      m' ((c.tc : Thread Cert.UpProjRefIdeal.nD Cert.UpProjRefIdeal.τ).loc Cert.UpProjRefIdeal.main_arg0) = m ((c.tc : Thread Cert.UpProjIdeal.nD Cert.UpProjIdeal.τ).loc Cert.UpProjIdeal.main_arg0)
      ∧ m' ((c.tc : Thread Cert.UpProjRefIdeal.nD Cert.UpProjRefIdeal.τ).loc Cert.UpProjRefIdeal.main_arg1) = m ((c.tc : Thread Cert.UpProjIdeal.nD Cert.UpProjIdeal.τ).loc Cert.UpProjIdeal.main_arg1)
      ∧ m' ((c.tc : Thread Cert.UpProjRefIdeal.nD Cert.UpProjRefIdeal.τ).loc Cert.UpProjRefIdeal.main_arg2) = m ((c.tc : Thread Cert.UpProjIdeal.nD Cert.UpProjIdeal.τ).loc Cert.UpProjIdeal.main_arg2)
      ∧ m' ((c.tc : Thread Cert.UpProjRefIdeal.nD Cert.UpProjRefIdeal.τ).loc Cert.UpProjRefIdeal.main_arg3) = m ((c.tc : Thread Cert.UpProjIdeal.nD Cert.UpProjIdeal.τ).loc Cert.UpProjIdeal.main_arg3)
      ∧ m' ((c.tc : Thread Cert.UpProjRefIdeal.nD Cert.UpProjRefIdeal.τ).loc Cert.UpProjRefIdeal.main_arg4) = m ((c.tc : Thread Cert.UpProjIdeal.nD Cert.UpProjIdeal.τ).loc Cert.UpProjIdeal.main_arg4)
      ∧ m' ((c.tc : Thread Cert.UpProjRefIdeal.nD Cert.UpProjRefIdeal.τ).loc Cert.UpProjRefIdeal.main_arg5) = m ((c.tc : Thread Cert.UpProjIdeal.nD Cert.UpProjIdeal.τ).loc Cert.UpProjIdeal.main_arg5)
      ∧ m' ((c.tc : Thread Cert.UpProjRefIdeal.nD Cert.UpProjRefIdeal.τ).loc Cert.UpProjRefIdeal.main_arg6) = m ((c.tc : Thread Cert.UpProjIdeal.nD Cert.UpProjIdeal.τ).loc Cert.UpProjIdeal.main_arg6)) →
    ∃ (v0 : (c : Dev Cert.UpProjIdeal.nD) → Buf (Elt Ideal) ((c.tc : Thread Cert.UpProjIdeal.nD Cert.UpProjIdeal.τ).loc Cert.UpProjIdeal.main_v16_0)) (v1 : (c : Dev Cert.UpProjIdeal.nD) → Buf (Elt Ideal) ((c.tc : Thread Cert.UpProjIdeal.nD Cert.UpProjIdeal.τ).loc Cert.UpProjIdeal.main_v16_1)) (v2 : (c : Dev Cert.UpProjIdeal.nD) → Buf (Elt Ideal) ((c.tc : Thread Cert.UpProjIdeal.nD Cert.UpProjIdeal.τ).loc Cert.UpProjIdeal.main_v16_2)),
      θ_run (Cert.UpProjIdeal.defs (F := Ideal)) (onTc (τ := Cert.UpProjIdeal.τ) (Cert.UpProjIdeal.main (F := Ideal))) ⟨m, fun _ => 0, g⟩ (fun r => ∀ c : Dev Cert.UpProjIdeal.nD,
          r.2.mem ((c.tc : Thread Cert.UpProjIdeal.nD Cert.UpProjIdeal.τ).loc Cert.UpProjIdeal.main_v16_0) = v0 c
          ∧ r.2.mem ((c.tc : Thread Cert.UpProjIdeal.nD Cert.UpProjIdeal.τ).loc Cert.UpProjIdeal.main_v16_1) = v1 c
          ∧ r.2.mem ((c.tc : Thread Cert.UpProjIdeal.nD Cert.UpProjIdeal.τ).loc Cert.UpProjIdeal.main_v16_2) = v2 c
          ∧ r.2.mem ((c.tc : Thread Cert.UpProjIdeal.nD Cert.UpProjIdeal.τ).loc Cert.UpProjIdeal.main_arg0) = m ((c.tc : Thread Cert.UpProjIdeal.nD Cert.UpProjIdeal.τ).loc Cert.UpProjIdeal.main_arg0)
          ∧ r.2.mem ((c.tc : Thread Cert.UpProjIdeal.nD Cert.UpProjIdeal.τ).loc Cert.UpProjIdeal.main_arg1) = m ((c.tc : Thread Cert.UpProjIdeal.nD Cert.UpProjIdeal.τ).loc Cert.UpProjIdeal.main_arg1)
          ∧ r.2.mem ((c.tc : Thread Cert.UpProjIdeal.nD Cert.UpProjIdeal.τ).loc Cert.UpProjIdeal.main_arg2) = m ((c.tc : Thread Cert.UpProjIdeal.nD Cert.UpProjIdeal.τ).loc Cert.UpProjIdeal.main_arg2)
          ∧ r.2.mem ((c.tc : Thread Cert.UpProjIdeal.nD Cert.UpProjIdeal.τ).loc Cert.UpProjIdeal.main_arg3) = m ((c.tc : Thread Cert.UpProjIdeal.nD Cert.UpProjIdeal.τ).loc Cert.UpProjIdeal.main_arg3)
          ∧ r.2.mem ((c.tc : Thread Cert.UpProjIdeal.nD Cert.UpProjIdeal.τ).loc Cert.UpProjIdeal.main_arg4) = m ((c.tc : Thread Cert.UpProjIdeal.nD Cert.UpProjIdeal.τ).loc Cert.UpProjIdeal.main_arg4)
          ∧ r.2.mem ((c.tc : Thread Cert.UpProjIdeal.nD Cert.UpProjIdeal.τ).loc Cert.UpProjIdeal.main_arg5) = m ((c.tc : Thread Cert.UpProjIdeal.nD Cert.UpProjIdeal.τ).loc Cert.UpProjIdeal.main_arg5)
          ∧ r.2.mem ((c.tc : Thread Cert.UpProjIdeal.nD Cert.UpProjIdeal.τ).loc Cert.UpProjIdeal.main_arg6) = m ((c.tc : Thread Cert.UpProjIdeal.nD Cert.UpProjIdeal.τ).loc Cert.UpProjIdeal.main_arg6))
      ∧ θ_run (Cert.UpProjRefIdeal.defs (F := Ideal)) (onTc (τ := Cert.UpProjRefIdeal.τ) (Cert.UpProjRefIdeal.main (F := Ideal))) ⟨m', fun _ => 0, g'⟩ (fun r => ∀ c : Dev Cert.UpProjRefIdeal.nD,
          r.2.mem ((c.tc : Thread Cert.UpProjRefIdeal.nD Cert.UpProjRefIdeal.τ).loc Cert.UpProjRefIdeal.main_v46) = v0 c
          ∧ r.2.mem ((c.tc : Thread Cert.UpProjRefIdeal.nD Cert.UpProjRefIdeal.τ).loc Cert.UpProjRefIdeal.main_v47) = v1 c
          ∧ r.2.mem ((c.tc : Thread Cert.UpProjRefIdeal.nD Cert.UpProjRefIdeal.τ).loc Cert.UpProjRefIdeal.main_v49) = v2 c
          ∧ r.2.mem ((c.tc : Thread Cert.UpProjRefIdeal.nD Cert.UpProjRefIdeal.τ).loc Cert.UpProjRefIdeal.main_arg0) = m' ((c.tc : Thread Cert.UpProjRefIdeal.nD Cert.UpProjRefIdeal.τ).loc Cert.UpProjRefIdeal.main_arg0)
          ∧ r.2.mem ((c.tc : Thread Cert.UpProjRefIdeal.nD Cert.UpProjRefIdeal.τ).loc Cert.UpProjRefIdeal.main_arg1) = m' ((c.tc : Thread Cert.UpProjRefIdeal.nD Cert.UpProjRefIdeal.τ).loc Cert.UpProjRefIdeal.main_arg1)
          ∧ r.2.mem ((c.tc : Thread Cert.UpProjRefIdeal.nD Cert.UpProjRefIdeal.τ).loc Cert.UpProjRefIdeal.main_arg2) = m' ((c.tc : Thread Cert.UpProjRefIdeal.nD Cert.UpProjRefIdeal.τ).loc Cert.UpProjRefIdeal.main_arg2)
          ∧ r.2.mem ((c.tc : Thread Cert.UpProjRefIdeal.nD Cert.UpProjRefIdeal.τ).loc Cert.UpProjRefIdeal.main_arg3) = m' ((c.tc : Thread Cert.UpProjRefIdeal.nD Cert.UpProjRefIdeal.τ).loc Cert.UpProjRefIdeal.main_arg3)
          ∧ r.2.mem ((c.tc : Thread Cert.UpProjRefIdeal.nD Cert.UpProjRefIdeal.τ).loc Cert.UpProjRefIdeal.main_arg4) = m' ((c.tc : Thread Cert.UpProjRefIdeal.nD Cert.UpProjRefIdeal.τ).loc Cert.UpProjRefIdeal.main_arg4)
          ∧ r.2.mem ((c.tc : Thread Cert.UpProjRefIdeal.nD Cert.UpProjRefIdeal.τ).loc Cert.UpProjRefIdeal.main_arg5) = m' ((c.tc : Thread Cert.UpProjRefIdeal.nD Cert.UpProjRefIdeal.τ).loc Cert.UpProjRefIdeal.main_arg5)
          ∧ r.2.mem ((c.tc : Thread Cert.UpProjRefIdeal.nD Cert.UpProjRefIdeal.τ).loc Cert.UpProjRefIdeal.main_arg6) = m' ((c.tc : Thread Cert.UpProjRefIdeal.nD Cert.UpProjRefIdeal.τ).loc Cert.UpProjRefIdeal.main_arg6))

def preserves_InProj_InProjIdeal : Prop :=
  True

def algebraic_InProjIdeal_InProjRefIdeal_pre_in_finite [hInProjIdeal : Cert.InProjIdeal.Facts] [hInProjRefIdeal : Cert.InProjRefIdeal.Facts] [hPre_in_finite : Cert.Pre_in_finite.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal_in_finite m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)
      ∧ m' ((c.tc : Thread Cert.InProjRefIdeal.nD Cert.InProjRefIdeal.τ).loc Cert.InProjRefIdeal.main_arg4) = m ((c.tc : Thread Cert.InProjIdeal.nD Cert.InProjIdeal.τ).loc Cert.InProjIdeal.main_arg4)) →
    ∃ (v0 : (c : Dev Cert.InProjIdeal.nD) → Buf (Elt Ideal) ((c.tc : Thread Cert.InProjIdeal.nD Cert.InProjIdeal.τ).loc Cert.InProjIdeal.main_v14_0)) (v1 : (c : Dev Cert.InProjIdeal.nD) → Buf (Elt Ideal) ((c.tc : Thread Cert.InProjIdeal.nD Cert.InProjIdeal.τ).loc Cert.InProjIdeal.main_v14_1)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v14_0) = v0 c
          ∧ r.2.mem ((c.tc : Thread Cert.InProjIdeal.nD Cert.InProjIdeal.τ).loc Cert.InProjIdeal.main_v14_1) = v1 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v41) = v0 c
          ∧ r.2.mem ((c.tc : Thread Cert.InProjRefIdeal.nD Cert.InProjRefIdeal.τ).loc Cert.InProjRefIdeal.main_v42) = v1 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3)
          ∧ r.2.mem ((c.tc : Thread Cert.InProjRefIdeal.nD Cert.InProjRefIdeal.τ).loc Cert.InProjRefIdeal.main_arg4) = m' ((c.tc : Thread Cert.InProjRefIdeal.nD Cert.InProjRefIdeal.τ).loc Cert.InProjRefIdeal.main_arg4))

def preserves_Attn_AttnIdeal : Prop :=
  IdealRules.named_const.Statement Cert.AttnIdeal.κ "mask" .f32 0xF149F2CA#32 ⊥

def algebraic_AttnIdeal_AttnRefIdeal_pre_attn_finite [hAttnIdeal : Cert.AttnIdeal.Facts] [hAttnRefIdeal : Cert.AttnRefIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_attn_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)) →
    ∃ (v0 : (c : Dev Cert.AttnIdeal.nD) → Buf (Elt Ideal) ((c.tc : Thread Cert.AttnIdeal.nD Cert.AttnIdeal.τ).loc Cert.AttnIdeal.main_v14_0)) (v1 : (c : Dev Cert.AttnIdeal.nD) → Buf (Elt Ideal) ((c.tc : Thread Cert.AttnIdeal.nD Cert.AttnIdeal.τ).loc Cert.AttnIdeal.main_v16_0)) (v2 : (c : Dev Cert.AttnIdeal.nD) → Buf (Elt Ideal) ((c.tc : Thread Cert.AttnIdeal.nD Cert.AttnIdeal.τ).loc Cert.AttnIdeal.main_v16_1)) (v3 : (c : Dev Cert.AttnIdeal.nD) → Buf (Elt Ideal) ((c.tc : Thread Cert.AttnIdeal.nD Cert.AttnIdeal.τ).loc Cert.AttnIdeal.main_v16_2)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v14_0) = v0 c
          ∧ r.2.mem ((c.tc : Thread Cert.AttnIdeal.nD Cert.AttnIdeal.τ).loc Cert.AttnIdeal.main_v16_0) = v1 c
          ∧ r.2.mem ((c.tc : Thread Cert.AttnIdeal.nD Cert.AttnIdeal.τ).loc Cert.AttnIdeal.main_v16_1) = v2 c
          ∧ r.2.mem ((c.tc : Thread Cert.AttnIdeal.nD Cert.AttnIdeal.τ).loc Cert.AttnIdeal.main_v16_2) = v3 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v64) = v0 c
          ∧ r.2.mem ((c.tc : Thread Cert.AttnRefIdeal.nD Cert.AttnRefIdeal.τ).loc Cert.AttnRefIdeal.main_v68) = v1 c
          ∧ r.2.mem ((c.tc : Thread Cert.AttnRefIdeal.nD Cert.AttnRefIdeal.τ).loc Cert.AttnRefIdeal.main_v72) = v2 c
          ∧ r.2.mem ((c.tc : Thread Cert.AttnRefIdeal.nD Cert.AttnRefIdeal.τ).loc Cert.AttnRefIdeal.main_v74) = v3 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3))

def preserves_Mixer_MixerIdeal : Prop :=
  IdealRules.named_const.Statement Cert.MixerIdeal.κ "gelu_c" .f32 0x3D372713#32 ((8943 / 200000 : ℝ) : EReal)
  ∧ IdealRules.named_const.Statement Cert.MixerIdeal.κ "gelu_3c" .f32 0x3E095D4F#32 ((26829 / 200000 : ℝ) : EReal)

def algebraic_MixerIdeal_MixerRefIdeal_pre_mix_finite [hMixerIdeal : Cert.MixerIdeal.Facts] [hMixerRefIdeal : Cert.MixerRefIdeal.Facts] [hPre_mix_finite : Cert.Pre_mix_finite.Facts] : Prop :=
  ∀ (m : (ℓ : Loc Cert.MixerIdeal.nD Cert.MixerIdeal.τ Cert.MixerIdeal.sig) → Buf (Elt Ideal) ℓ) (g : Dev Cert.MixerIdeal.nD → PrngReg)
    (m' : (ℓ : Loc Cert.MixerRefIdeal.nD Cert.MixerRefIdeal.τ Cert.MixerRefIdeal.sig) → Buf (Elt Ideal) ℓ) (g' : Dev Cert.MixerRefIdeal.nD → PrngReg), Pre_MixerIdeal_mix_finite m →
    (∀ c : Dev Cert.MixerIdeal.nD,
      m' ((c.tc : Thread Cert.MixerRefIdeal.nD Cert.MixerRefIdeal.τ).loc Cert.MixerRefIdeal.main_arg0) = m ((c.tc : Thread Cert.MixerIdeal.nD Cert.MixerIdeal.τ).loc Cert.MixerIdeal.main_arg0)
      ∧ m' ((c.tc : Thread Cert.MixerRefIdeal.nD Cert.MixerRefIdeal.τ).loc Cert.MixerRefIdeal.main_arg1) = m ((c.tc : Thread Cert.MixerIdeal.nD Cert.MixerIdeal.τ).loc Cert.MixerIdeal.main_arg1)
      ∧ m' ((c.tc : Thread Cert.MixerRefIdeal.nD Cert.MixerRefIdeal.τ).loc Cert.MixerRefIdeal.main_arg2) = m ((c.tc : Thread Cert.MixerIdeal.nD Cert.MixerIdeal.τ).loc Cert.MixerIdeal.main_arg2)
      ∧ m' ((c.tc : Thread Cert.MixerRefIdeal.nD Cert.MixerRefIdeal.τ).loc Cert.MixerRefIdeal.main_arg3) = m ((c.tc : Thread Cert.MixerIdeal.nD Cert.MixerIdeal.τ).loc Cert.MixerIdeal.main_arg3)
      ∧ m' ((c.tc : Thread Cert.MixerRefIdeal.nD Cert.MixerRefIdeal.τ).loc Cert.MixerRefIdeal.main_arg4) = m ((c.tc : Thread Cert.MixerIdeal.nD Cert.MixerIdeal.τ).loc Cert.MixerIdeal.main_arg4)
      ∧ m' ((c.tc : Thread Cert.MixerRefIdeal.nD Cert.MixerRefIdeal.τ).loc Cert.MixerRefIdeal.main_arg5) = m ((c.tc : Thread Cert.MixerIdeal.nD Cert.MixerIdeal.τ).loc Cert.MixerIdeal.main_arg5)
      ∧ m' ((c.tc : Thread Cert.MixerRefIdeal.nD Cert.MixerRefIdeal.τ).loc Cert.MixerRefIdeal.main_arg6) = m ((c.tc : Thread Cert.MixerIdeal.nD Cert.MixerIdeal.τ).loc Cert.MixerIdeal.main_arg6)
      ∧ m' ((c.tc : Thread Cert.MixerRefIdeal.nD Cert.MixerRefIdeal.τ).loc Cert.MixerRefIdeal.main_arg7) = m ((c.tc : Thread Cert.MixerIdeal.nD Cert.MixerIdeal.τ).loc Cert.MixerIdeal.main_arg7)
      ∧ m' ((c.tc : Thread Cert.MixerRefIdeal.nD Cert.MixerRefIdeal.τ).loc Cert.MixerRefIdeal.main_arg8) = m ((c.tc : Thread Cert.MixerIdeal.nD Cert.MixerIdeal.τ).loc Cert.MixerIdeal.main_arg8)
      ∧ m' ((c.tc : Thread Cert.MixerRefIdeal.nD Cert.MixerRefIdeal.τ).loc Cert.MixerRefIdeal.main_arg9) = m ((c.tc : Thread Cert.MixerIdeal.nD Cert.MixerIdeal.τ).loc Cert.MixerIdeal.main_arg9)) →
    ∃ (v0 : (c : Dev Cert.MixerIdeal.nD) → Buf (Elt Ideal) ((c.tc : Thread Cert.MixerIdeal.nD Cert.MixerIdeal.τ).loc Cert.MixerIdeal.main_v12_0)) (v1 : (c : Dev Cert.MixerIdeal.nD) → Buf (Elt Ideal) ((c.tc : Thread Cert.MixerIdeal.nD Cert.MixerIdeal.τ).loc Cert.MixerIdeal.main_v12_1)) (v2 : (c : Dev Cert.MixerIdeal.nD) → Buf (Elt Ideal) ((c.tc : Thread Cert.MixerIdeal.nD Cert.MixerIdeal.τ).loc Cert.MixerIdeal.main_v12_2)) (v3 : (c : Dev Cert.MixerIdeal.nD) → Buf (Elt Ideal) ((c.tc : Thread Cert.MixerIdeal.nD Cert.MixerIdeal.τ).loc Cert.MixerIdeal.main_v12_3)) (v4 : (c : Dev Cert.MixerIdeal.nD) → Buf (Elt Ideal) ((c.tc : Thread Cert.MixerIdeal.nD Cert.MixerIdeal.τ).loc Cert.MixerIdeal.main_v12_4)) (v5 : (c : Dev Cert.MixerIdeal.nD) → Buf (Elt Ideal) ((c.tc : Thread Cert.MixerIdeal.nD Cert.MixerIdeal.τ).loc Cert.MixerIdeal.main_v12_5)),
      θ_run (Cert.MixerIdeal.defs (F := Ideal)) (onTc (τ := Cert.MixerIdeal.τ) (Cert.MixerIdeal.main (F := Ideal))) ⟨m, fun _ => 0, g⟩ (fun r => ∀ c : Dev Cert.MixerIdeal.nD,
          r.2.mem ((c.tc : Thread Cert.MixerIdeal.nD Cert.MixerIdeal.τ).loc Cert.MixerIdeal.main_v12_0) = v0 c
          ∧ r.2.mem ((c.tc : Thread Cert.MixerIdeal.nD Cert.MixerIdeal.τ).loc Cert.MixerIdeal.main_v12_1) = v1 c
          ∧ r.2.mem ((c.tc : Thread Cert.MixerIdeal.nD Cert.MixerIdeal.τ).loc Cert.MixerIdeal.main_v12_2) = v2 c
          ∧ r.2.mem ((c.tc : Thread Cert.MixerIdeal.nD Cert.MixerIdeal.τ).loc Cert.MixerIdeal.main_v12_3) = v3 c
          ∧ r.2.mem ((c.tc : Thread Cert.MixerIdeal.nD Cert.MixerIdeal.τ).loc Cert.MixerIdeal.main_v12_4) = v4 c
          ∧ r.2.mem ((c.tc : Thread Cert.MixerIdeal.nD Cert.MixerIdeal.τ).loc Cert.MixerIdeal.main_v12_5) = v5 c
          ∧ r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
          ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
          ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
          ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
          ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
          ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
          ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6)
          ∧ r.2.mem ((c.tc : Thread Cert.MixerIdeal.nD Cert.MixerIdeal.τ).loc Cert.MixerIdeal.main_arg7) = m ((c.tc : Thread Cert.MixerIdeal.nD Cert.MixerIdeal.τ).loc Cert.MixerIdeal.main_arg7)
          ∧ r.2.mem ((c.tc : Thread Cert.MixerIdeal.nD Cert.MixerIdeal.τ).loc Cert.MixerIdeal.main_arg8) = m ((c.tc : Thread Cert.MixerIdeal.nD Cert.MixerIdeal.τ).loc Cert.MixerIdeal.main_arg8)
          ∧ r.2.mem ((c.tc : Thread Cert.MixerIdeal.nD Cert.MixerIdeal.τ).loc Cert.MixerIdeal.main_arg9) = m ((c.tc : Thread Cert.MixerIdeal.nD Cert.MixerIdeal.τ).loc Cert.MixerIdeal.main_arg9))
      ∧ θ_run (Cert.MixerRefIdeal.defs (F := Ideal)) (onTc (τ := Cert.MixerRefIdeal.τ) (Cert.MixerRefIdeal.main (F := Ideal))) ⟨m', fun _ => 0, g'⟩ (fun r => ∀ c : Dev Cert.MixerRefIdeal.nD,
          r.2.mem ((c.tc : Thread Cert.MixerRefIdeal.nD Cert.MixerRefIdeal.τ).loc Cert.MixerRefIdeal.main_v193) = v0 c
          ∧ r.2.mem ((c.tc : Thread Cert.MixerRefIdeal.nD Cert.MixerRefIdeal.τ).loc Cert.MixerRefIdeal.main_v195) = v1 c
          ∧ r.2.mem ((c.tc : Thread Cert.MixerRefIdeal.nD Cert.MixerRefIdeal.τ).loc Cert.MixerRefIdeal.main_v196) = v2 c
          ∧ r.2.mem ((c.tc : Thread Cert.MixerRefIdeal.nD Cert.MixerRefIdeal.τ).loc Cert.MixerRefIdeal.main_v197) = v3 c
          ∧ r.2.mem ((c.tc : Thread Cert.MixerRefIdeal.nD Cert.MixerRefIdeal.τ).loc Cert.MixerRefIdeal.main_v132) = v4 c
          ∧ r.2.mem ((c.tc : Thread Cert.MixerRefIdeal.nD Cert.MixerRefIdeal.τ).loc Cert.MixerRefIdeal.main_v198) = v5 c
          ∧ r.2.mem ((c.tc : Thread Cert.MixerRefIdeal.nD Cert.MixerRefIdeal.τ).loc Cert.MixerRefIdeal.main_arg0) = m' ((c.tc : Thread Cert.MixerRefIdeal.nD Cert.MixerRefIdeal.τ).loc Cert.MixerRefIdeal.main_arg0)
          ∧ r.2.mem ((c.tc : Thread Cert.MixerRefIdeal.nD Cert.MixerRefIdeal.τ).loc Cert.MixerRefIdeal.main_arg1) = m' ((c.tc : Thread Cert.MixerRefIdeal.nD Cert.MixerRefIdeal.τ).loc Cert.MixerRefIdeal.main_arg1)
          ∧ r.2.mem ((c.tc : Thread Cert.MixerRefIdeal.nD Cert.MixerRefIdeal.τ).loc Cert.MixerRefIdeal.main_arg2) = m' ((c.tc : Thread Cert.MixerRefIdeal.nD Cert.MixerRefIdeal.τ).loc Cert.MixerRefIdeal.main_arg2)
          ∧ r.2.mem ((c.tc : Thread Cert.MixerRefIdeal.nD Cert.MixerRefIdeal.τ).loc Cert.MixerRefIdeal.main_arg3) = m' ((c.tc : Thread Cert.MixerRefIdeal.nD Cert.MixerRefIdeal.τ).loc Cert.MixerRefIdeal.main_arg3)
          ∧ r.2.mem ((c.tc : Thread Cert.MixerRefIdeal.nD Cert.MixerRefIdeal.τ).loc Cert.MixerRefIdeal.main_arg4) = m' ((c.tc : Thread Cert.MixerRefIdeal.nD Cert.MixerRefIdeal.τ).loc Cert.MixerRefIdeal.main_arg4)
          ∧ r.2.mem ((c.tc : Thread Cert.MixerRefIdeal.nD Cert.MixerRefIdeal.τ).loc Cert.MixerRefIdeal.main_arg5) = m' ((c.tc : Thread Cert.MixerRefIdeal.nD Cert.MixerRefIdeal.τ).loc Cert.MixerRefIdeal.main_arg5)
          ∧ r.2.mem ((c.tc : Thread Cert.MixerRefIdeal.nD Cert.MixerRefIdeal.τ).loc Cert.MixerRefIdeal.main_arg6) = m' ((c.tc : Thread Cert.MixerRefIdeal.nD Cert.MixerRefIdeal.τ).loc Cert.MixerRefIdeal.main_arg6)
          ∧ r.2.mem ((c.tc : Thread Cert.MixerRefIdeal.nD Cert.MixerRefIdeal.τ).loc Cert.MixerRefIdeal.main_arg7) = m' ((c.tc : Thread Cert.MixerRefIdeal.nD Cert.MixerRefIdeal.τ).loc Cert.MixerRefIdeal.main_arg7)
          ∧ r.2.mem ((c.tc : Thread Cert.MixerRefIdeal.nD Cert.MixerRefIdeal.τ).loc Cert.MixerRefIdeal.main_arg8) = m' ((c.tc : Thread Cert.MixerRefIdeal.nD Cert.MixerRefIdeal.τ).loc Cert.MixerRefIdeal.main_arg8)
          ∧ r.2.mem ((c.tc : Thread Cert.MixerRefIdeal.nD Cert.MixerRefIdeal.τ).loc Cert.MixerRefIdeal.main_arg9) = m' ((c.tc : Thread Cert.MixerRefIdeal.nD Cert.MixerRefIdeal.τ).loc Cert.MixerRefIdeal.main_arg9))

def preserves_MlaPrep_MlaPrepIdeal : Prop :=
  True

def algebraic_MlaPrepIdeal_MlaPrepRefIdeal_pre_mla_finite [hMlaPrepIdeal : Cert.MlaPrepIdeal.Facts] [hMlaPrepRefIdeal : Cert.MlaPrepRefIdeal.Facts] [hPre_mla_finite : Cert.Pre_mla_finite.Facts] : Prop :=
  ∀ (m : (ℓ : Loc Cert.MlaPrepIdeal.nD Cert.MlaPrepIdeal.τ Cert.MlaPrepIdeal.sig) → Buf (Elt Ideal) ℓ) (g : Dev Cert.MlaPrepIdeal.nD → PrngReg)
    (m' : (ℓ : Loc Cert.MlaPrepRefIdeal.nD Cert.MlaPrepRefIdeal.τ Cert.MlaPrepRefIdeal.sig) → Buf (Elt Ideal) ℓ) (g' : Dev Cert.MlaPrepRefIdeal.nD → PrngReg), Pre_MlaPrepIdeal_mla_finite m →
    (∀ c : Dev Cert.MlaPrepIdeal.nD,
      m' ((c.tc : Thread Cert.MlaPrepRefIdeal.nD Cert.MlaPrepRefIdeal.τ).loc Cert.MlaPrepRefIdeal.main_arg0) = m ((c.tc : Thread Cert.MlaPrepIdeal.nD Cert.MlaPrepIdeal.τ).loc Cert.MlaPrepIdeal.main_arg0)
      ∧ m' ((c.tc : Thread Cert.MlaPrepRefIdeal.nD Cert.MlaPrepRefIdeal.τ).loc Cert.MlaPrepRefIdeal.main_arg1) = m ((c.tc : Thread Cert.MlaPrepIdeal.nD Cert.MlaPrepIdeal.τ).loc Cert.MlaPrepIdeal.main_arg1)
      ∧ m' ((c.tc : Thread Cert.MlaPrepRefIdeal.nD Cert.MlaPrepRefIdeal.τ).loc Cert.MlaPrepRefIdeal.main_arg2) = m ((c.tc : Thread Cert.MlaPrepIdeal.nD Cert.MlaPrepIdeal.τ).loc Cert.MlaPrepIdeal.main_arg2)
      ∧ m' ((c.tc : Thread Cert.MlaPrepRefIdeal.nD Cert.MlaPrepRefIdeal.τ).loc Cert.MlaPrepRefIdeal.main_arg3) = m ((c.tc : Thread Cert.MlaPrepIdeal.nD Cert.MlaPrepIdeal.τ).loc Cert.MlaPrepIdeal.main_arg3)
      ∧ m' ((c.tc : Thread Cert.MlaPrepRefIdeal.nD Cert.MlaPrepRefIdeal.τ).loc Cert.MlaPrepRefIdeal.main_arg4) = m ((c.tc : Thread Cert.MlaPrepIdeal.nD Cert.MlaPrepIdeal.τ).loc Cert.MlaPrepIdeal.main_arg4)
      ∧ m' ((c.tc : Thread Cert.MlaPrepRefIdeal.nD Cert.MlaPrepRefIdeal.τ).loc Cert.MlaPrepRefIdeal.main_arg5) = m ((c.tc : Thread Cert.MlaPrepIdeal.nD Cert.MlaPrepIdeal.τ).loc Cert.MlaPrepIdeal.main_arg5)
      ∧ m' ((c.tc : Thread Cert.MlaPrepRefIdeal.nD Cert.MlaPrepRefIdeal.τ).loc Cert.MlaPrepRefIdeal.main_arg6) = m ((c.tc : Thread Cert.MlaPrepIdeal.nD Cert.MlaPrepIdeal.τ).loc Cert.MlaPrepIdeal.main_arg6)
      ∧ m' ((c.tc : Thread Cert.MlaPrepRefIdeal.nD Cert.MlaPrepRefIdeal.τ).loc Cert.MlaPrepRefIdeal.main_arg7) = m ((c.tc : Thread Cert.MlaPrepIdeal.nD Cert.MlaPrepIdeal.τ).loc Cert.MlaPrepIdeal.main_arg7)
      ∧ m' ((c.tc : Thread Cert.MlaPrepRefIdeal.nD Cert.MlaPrepRefIdeal.τ).loc Cert.MlaPrepRefIdeal.main_arg8) = m ((c.tc : Thread Cert.MlaPrepIdeal.nD Cert.MlaPrepIdeal.τ).loc Cert.MlaPrepIdeal.main_arg8)
      ∧ m' ((c.tc : Thread Cert.MlaPrepRefIdeal.nD Cert.MlaPrepRefIdeal.τ).loc Cert.MlaPrepRefIdeal.main_arg9) = m ((c.tc : Thread Cert.MlaPrepIdeal.nD Cert.MlaPrepIdeal.τ).loc Cert.MlaPrepIdeal.main_arg9)
      ∧ m' ((c.tc : Thread Cert.MlaPrepRefIdeal.nD Cert.MlaPrepRefIdeal.τ).loc Cert.MlaPrepRefIdeal.main_arg10) = m ((c.tc : Thread Cert.MlaPrepIdeal.nD Cert.MlaPrepIdeal.τ).loc Cert.MlaPrepIdeal.main_arg10)) →
    ∃ (v0 : (c : Dev Cert.MlaPrepIdeal.nD) → Buf (Elt Ideal) ((c.tc : Thread Cert.MlaPrepIdeal.nD Cert.MlaPrepIdeal.τ).loc Cert.MlaPrepIdeal.main_v34_0)) (v1 : (c : Dev Cert.MlaPrepIdeal.nD) → Buf (Elt Ideal) ((c.tc : Thread Cert.MlaPrepIdeal.nD Cert.MlaPrepIdeal.τ).loc Cert.MlaPrepIdeal.main_v34_1)) (v2 : (c : Dev Cert.MlaPrepIdeal.nD) → Buf (Elt Ideal) ((c.tc : Thread Cert.MlaPrepIdeal.nD Cert.MlaPrepIdeal.τ).loc Cert.MlaPrepIdeal.main_v34_2)) (v3 : (c : Dev Cert.MlaPrepIdeal.nD) → Buf (Elt Ideal) ((c.tc : Thread Cert.MlaPrepIdeal.nD Cert.MlaPrepIdeal.τ).loc Cert.MlaPrepIdeal.main_v34_3)) (v4 : (c : Dev Cert.MlaPrepIdeal.nD) → Buf (Elt Ideal) ((c.tc : Thread Cert.MlaPrepIdeal.nD Cert.MlaPrepIdeal.τ).loc Cert.MlaPrepIdeal.main_v34_4)),
      θ_run (Cert.MlaPrepIdeal.defs (F := Ideal)) (onTc (τ := Cert.MlaPrepIdeal.τ) (Cert.MlaPrepIdeal.main (F := Ideal))) ⟨m, fun _ => 0, g⟩ (fun r => ∀ c : Dev Cert.MlaPrepIdeal.nD,
          r.2.mem ((c.tc : Thread Cert.MlaPrepIdeal.nD Cert.MlaPrepIdeal.τ).loc Cert.MlaPrepIdeal.main_v34_0) = v0 c
          ∧ r.2.mem ((c.tc : Thread Cert.MlaPrepIdeal.nD Cert.MlaPrepIdeal.τ).loc Cert.MlaPrepIdeal.main_v34_1) = v1 c
          ∧ r.2.mem ((c.tc : Thread Cert.MlaPrepIdeal.nD Cert.MlaPrepIdeal.τ).loc Cert.MlaPrepIdeal.main_v34_2) = v2 c
          ∧ r.2.mem ((c.tc : Thread Cert.MlaPrepIdeal.nD Cert.MlaPrepIdeal.τ).loc Cert.MlaPrepIdeal.main_v34_3) = v3 c
          ∧ r.2.mem ((c.tc : Thread Cert.MlaPrepIdeal.nD Cert.MlaPrepIdeal.τ).loc Cert.MlaPrepIdeal.main_v34_4) = v4 c
          ∧ r.2.mem ((c.tc : Thread Cert.MlaPrepIdeal.nD Cert.MlaPrepIdeal.τ).loc Cert.MlaPrepIdeal.main_arg0) = m ((c.tc : Thread Cert.MlaPrepIdeal.nD Cert.MlaPrepIdeal.τ).loc Cert.MlaPrepIdeal.main_arg0)
          ∧ r.2.mem ((c.tc : Thread Cert.MlaPrepIdeal.nD Cert.MlaPrepIdeal.τ).loc Cert.MlaPrepIdeal.main_arg1) = m ((c.tc : Thread Cert.MlaPrepIdeal.nD Cert.MlaPrepIdeal.τ).loc Cert.MlaPrepIdeal.main_arg1)
          ∧ r.2.mem ((c.tc : Thread Cert.MlaPrepIdeal.nD Cert.MlaPrepIdeal.τ).loc Cert.MlaPrepIdeal.main_arg2) = m ((c.tc : Thread Cert.MlaPrepIdeal.nD Cert.MlaPrepIdeal.τ).loc Cert.MlaPrepIdeal.main_arg2)
          ∧ r.2.mem ((c.tc : Thread Cert.MlaPrepIdeal.nD Cert.MlaPrepIdeal.τ).loc Cert.MlaPrepIdeal.main_arg3) = m ((c.tc : Thread Cert.MlaPrepIdeal.nD Cert.MlaPrepIdeal.τ).loc Cert.MlaPrepIdeal.main_arg3)
          ∧ r.2.mem ((c.tc : Thread Cert.MlaPrepIdeal.nD Cert.MlaPrepIdeal.τ).loc Cert.MlaPrepIdeal.main_arg4) = m ((c.tc : Thread Cert.MlaPrepIdeal.nD Cert.MlaPrepIdeal.τ).loc Cert.MlaPrepIdeal.main_arg4)
          ∧ r.2.mem ((c.tc : Thread Cert.MlaPrepIdeal.nD Cert.MlaPrepIdeal.τ).loc Cert.MlaPrepIdeal.main_arg5) = m ((c.tc : Thread Cert.MlaPrepIdeal.nD Cert.MlaPrepIdeal.τ).loc Cert.MlaPrepIdeal.main_arg5)
          ∧ r.2.mem ((c.tc : Thread Cert.MlaPrepIdeal.nD Cert.MlaPrepIdeal.τ).loc Cert.MlaPrepIdeal.main_arg6) = m ((c.tc : Thread Cert.MlaPrepIdeal.nD Cert.MlaPrepIdeal.τ).loc Cert.MlaPrepIdeal.main_arg6)
          ∧ r.2.mem ((c.tc : Thread Cert.MlaPrepIdeal.nD Cert.MlaPrepIdeal.τ).loc Cert.MlaPrepIdeal.main_arg7) = m ((c.tc : Thread Cert.MlaPrepIdeal.nD Cert.MlaPrepIdeal.τ).loc Cert.MlaPrepIdeal.main_arg7)
          ∧ r.2.mem ((c.tc : Thread Cert.MlaPrepIdeal.nD Cert.MlaPrepIdeal.τ).loc Cert.MlaPrepIdeal.main_arg8) = m ((c.tc : Thread Cert.MlaPrepIdeal.nD Cert.MlaPrepIdeal.τ).loc Cert.MlaPrepIdeal.main_arg8)
          ∧ r.2.mem ((c.tc : Thread Cert.MlaPrepIdeal.nD Cert.MlaPrepIdeal.τ).loc Cert.MlaPrepIdeal.main_arg9) = m ((c.tc : Thread Cert.MlaPrepIdeal.nD Cert.MlaPrepIdeal.τ).loc Cert.MlaPrepIdeal.main_arg9)
          ∧ r.2.mem ((c.tc : Thread Cert.MlaPrepIdeal.nD Cert.MlaPrepIdeal.τ).loc Cert.MlaPrepIdeal.main_arg10) = m ((c.tc : Thread Cert.MlaPrepIdeal.nD Cert.MlaPrepIdeal.τ).loc Cert.MlaPrepIdeal.main_arg10))
      ∧ θ_run (Cert.MlaPrepRefIdeal.defs (F := Ideal)) (onTc (τ := Cert.MlaPrepRefIdeal.τ) (Cert.MlaPrepRefIdeal.main (F := Ideal))) ⟨m', fun _ => 0, g'⟩ (fun r => ∀ c : Dev Cert.MlaPrepRefIdeal.nD,
          r.2.mem ((c.tc : Thread Cert.MlaPrepRefIdeal.nD Cert.MlaPrepRefIdeal.τ).loc Cert.MlaPrepRefIdeal.main_v178) = v0 c
          ∧ r.2.mem ((c.tc : Thread Cert.MlaPrepRefIdeal.nD Cert.MlaPrepRefIdeal.τ).loc Cert.MlaPrepRefIdeal.main_v180) = v1 c
          ∧ r.2.mem ((c.tc : Thread Cert.MlaPrepRefIdeal.nD Cert.MlaPrepRefIdeal.τ).loc Cert.MlaPrepRefIdeal.main_v181) = v2 c
          ∧ r.2.mem ((c.tc : Thread Cert.MlaPrepRefIdeal.nD Cert.MlaPrepRefIdeal.τ).loc Cert.MlaPrepRefIdeal.main_v182) = v3 c
          ∧ r.2.mem ((c.tc : Thread Cert.MlaPrepRefIdeal.nD Cert.MlaPrepRefIdeal.τ).loc Cert.MlaPrepRefIdeal.main_v183) = v4 c
          ∧ r.2.mem ((c.tc : Thread Cert.MlaPrepRefIdeal.nD Cert.MlaPrepRefIdeal.τ).loc Cert.MlaPrepRefIdeal.main_arg0) = m' ((c.tc : Thread Cert.MlaPrepRefIdeal.nD Cert.MlaPrepRefIdeal.τ).loc Cert.MlaPrepRefIdeal.main_arg0)
          ∧ r.2.mem ((c.tc : Thread Cert.MlaPrepRefIdeal.nD Cert.MlaPrepRefIdeal.τ).loc Cert.MlaPrepRefIdeal.main_arg1) = m' ((c.tc : Thread Cert.MlaPrepRefIdeal.nD Cert.MlaPrepRefIdeal.τ).loc Cert.MlaPrepRefIdeal.main_arg1)
          ∧ r.2.mem ((c.tc : Thread Cert.MlaPrepRefIdeal.nD Cert.MlaPrepRefIdeal.τ).loc Cert.MlaPrepRefIdeal.main_arg2) = m' ((c.tc : Thread Cert.MlaPrepRefIdeal.nD Cert.MlaPrepRefIdeal.τ).loc Cert.MlaPrepRefIdeal.main_arg2)
          ∧ r.2.mem ((c.tc : Thread Cert.MlaPrepRefIdeal.nD Cert.MlaPrepRefIdeal.τ).loc Cert.MlaPrepRefIdeal.main_arg3) = m' ((c.tc : Thread Cert.MlaPrepRefIdeal.nD Cert.MlaPrepRefIdeal.τ).loc Cert.MlaPrepRefIdeal.main_arg3)
          ∧ r.2.mem ((c.tc : Thread Cert.MlaPrepRefIdeal.nD Cert.MlaPrepRefIdeal.τ).loc Cert.MlaPrepRefIdeal.main_arg4) = m' ((c.tc : Thread Cert.MlaPrepRefIdeal.nD Cert.MlaPrepRefIdeal.τ).loc Cert.MlaPrepRefIdeal.main_arg4)
          ∧ r.2.mem ((c.tc : Thread Cert.MlaPrepRefIdeal.nD Cert.MlaPrepRefIdeal.τ).loc Cert.MlaPrepRefIdeal.main_arg5) = m' ((c.tc : Thread Cert.MlaPrepRefIdeal.nD Cert.MlaPrepRefIdeal.τ).loc Cert.MlaPrepRefIdeal.main_arg5)
          ∧ r.2.mem ((c.tc : Thread Cert.MlaPrepRefIdeal.nD Cert.MlaPrepRefIdeal.τ).loc Cert.MlaPrepRefIdeal.main_arg6) = m' ((c.tc : Thread Cert.MlaPrepRefIdeal.nD Cert.MlaPrepRefIdeal.τ).loc Cert.MlaPrepRefIdeal.main_arg6)
          ∧ r.2.mem ((c.tc : Thread Cert.MlaPrepRefIdeal.nD Cert.MlaPrepRefIdeal.τ).loc Cert.MlaPrepRefIdeal.main_arg7) = m' ((c.tc : Thread Cert.MlaPrepRefIdeal.nD Cert.MlaPrepRefIdeal.τ).loc Cert.MlaPrepRefIdeal.main_arg7)
          ∧ r.2.mem ((c.tc : Thread Cert.MlaPrepRefIdeal.nD Cert.MlaPrepRefIdeal.τ).loc Cert.MlaPrepRefIdeal.main_arg8) = m' ((c.tc : Thread Cert.MlaPrepRefIdeal.nD Cert.MlaPrepRefIdeal.τ).loc Cert.MlaPrepRefIdeal.main_arg8)
          ∧ r.2.mem ((c.tc : Thread Cert.MlaPrepRefIdeal.nD Cert.MlaPrepRefIdeal.τ).loc Cert.MlaPrepRefIdeal.main_arg9) = m' ((c.tc : Thread Cert.MlaPrepRefIdeal.nD Cert.MlaPrepRefIdeal.τ).loc Cert.MlaPrepRefIdeal.main_arg9)
          ∧ r.2.mem ((c.tc : Thread Cert.MlaPrepRefIdeal.nD Cert.MlaPrepRefIdeal.τ).loc Cert.MlaPrepRefIdeal.main_arg10) = m' ((c.tc : Thread Cert.MlaPrepRefIdeal.nD Cert.MlaPrepRefIdeal.τ).loc Cert.MlaPrepRefIdeal.main_arg10))

def Claim : Prop :=
  ∃ (hDownLoss : Cert.DownLoss.Facts) (hDownLossIdeal : Cert.DownLossIdeal.Facts) (hDownLossRefIdeal : Cert.DownLossRefIdeal.Facts) (hUpProj : Cert.UpProj.Facts) (hUpProjIdeal : Cert.UpProjIdeal.Facts) (hUpProjRefIdeal : Cert.UpProjRefIdeal.Facts) (hInProj : Cert.InProj.Facts) (hInProjIdeal : Cert.InProjIdeal.Facts) (hInProjRefIdeal : Cert.InProjRefIdeal.Facts) (hAttn : Cert.Attn.Facts) (hAttnIdeal : Cert.AttnIdeal.Facts) (hAttnRefIdeal : Cert.AttnRefIdeal.Facts) (hMixer : Cert.Mixer.Facts) (hMixerIdeal : Cert.MixerIdeal.Facts) (hMixerRefIdeal : Cert.MixerRefIdeal.Facts) (hMlaPrep : Cert.MlaPrep.Facts) (hMlaPrepIdeal : Cert.MlaPrepIdeal.Facts) (hMlaPrepRefIdeal : Cert.MlaPrepRefIdeal.Facts) (hPre_down_finite : Cert.Pre_down_finite.Facts) (hPre_up_finite : Cert.Pre_up_finite.Facts) (hPre_in_finite : Cert.Pre_in_finite.Facts) (hPre_attn_finite : Cert.Pre_attn_finite.Facts) (hPre_mix_finite : Cert.Pre_mix_finite.Facts) (hPre_mla_finite : Cert.Pre_mla_finite.Facts),
    quiescent_DownLoss (hDownLoss := hDownLoss)
    ∧ quiescent_DownLossIdeal (hDownLossIdeal := hDownLossIdeal)
    ∧ quiescent_DownLossIdeal_pre_down_finite (hDownLossIdeal := hDownLossIdeal) (hPre_down_finite := hPre_down_finite)
    ∧ quiescent_DownLossRefIdeal (hDownLossRefIdeal := hDownLossRefIdeal)
    ∧ quiescent_DownLossRefIdeal_pre_down_finite (hDownLossRefIdeal := hDownLossRefIdeal) (hPre_down_finite := hPre_down_finite)
    ∧ quiescent_UpProj (hUpProj := hUpProj)
    ∧ quiescent_UpProjIdeal (hUpProjIdeal := hUpProjIdeal)
    ∧ quiescent_UpProjIdeal_pre_up_finite (hUpProjIdeal := hUpProjIdeal) (hPre_up_finite := hPre_up_finite)
    ∧ quiescent_UpProjRefIdeal (hUpProjRefIdeal := hUpProjRefIdeal)
    ∧ quiescent_UpProjRefIdeal_pre_up_finite (hUpProjRefIdeal := hUpProjRefIdeal) (hPre_up_finite := hPre_up_finite)
    ∧ quiescent_InProj (hInProj := hInProj)
    ∧ quiescent_InProjIdeal (hInProjIdeal := hInProjIdeal)
    ∧ quiescent_InProjIdeal_pre_in_finite (hInProjIdeal := hInProjIdeal) (hPre_in_finite := hPre_in_finite)
    ∧ quiescent_InProjRefIdeal (hInProjRefIdeal := hInProjRefIdeal)
    ∧ quiescent_InProjRefIdeal_pre_in_finite (hInProjRefIdeal := hInProjRefIdeal) (hPre_in_finite := hPre_in_finite)
    ∧ quiescent_Attn (hAttn := hAttn)
    ∧ quiescent_AttnIdeal (hAttnIdeal := hAttnIdeal)
    ∧ quiescent_AttnIdeal_pre_attn_finite (hAttnIdeal := hAttnIdeal) (hPre_attn_finite := hPre_attn_finite)
    ∧ quiescent_AttnRefIdeal (hAttnRefIdeal := hAttnRefIdeal)
    ∧ quiescent_AttnRefIdeal_pre_attn_finite (hAttnRefIdeal := hAttnRefIdeal) (hPre_attn_finite := hPre_attn_finite)
    ∧ quiescent_Mixer (hMixer := hMixer)
    ∧ quiescent_MixerIdeal (hMixerIdeal := hMixerIdeal)
    ∧ quiescent_MixerIdeal_pre_mix_finite (hMixerIdeal := hMixerIdeal) (hPre_mix_finite := hPre_mix_finite)
    ∧ quiescent_MixerRefIdeal (hMixerRefIdeal := hMixerRefIdeal)
    ∧ quiescent_MixerRefIdeal_pre_mix_finite (hMixerRefIdeal := hMixerRefIdeal) (hPre_mix_finite := hPre_mix_finite)
    ∧ quiescent_MlaPrep (hMlaPrep := hMlaPrep)
    ∧ quiescent_MlaPrepIdeal (hMlaPrepIdeal := hMlaPrepIdeal)
    ∧ quiescent_MlaPrepIdeal_pre_mla_finite (hMlaPrepIdeal := hMlaPrepIdeal) (hPre_mla_finite := hPre_mla_finite)
    ∧ quiescent_MlaPrepRefIdeal (hMlaPrepRefIdeal := hMlaPrepRefIdeal)
    ∧ quiescent_MlaPrepRefIdeal_pre_mla_finite (hMlaPrepRefIdeal := hMlaPrepRefIdeal) (hPre_mla_finite := hPre_mla_finite)
    ∧ preserves_DownLoss_DownLossIdeal
    ∧ algebraic_DownLossIdeal_DownLossRefIdeal_pre_down_finite (hDownLossIdeal := hDownLossIdeal) (hDownLossRefIdeal := hDownLossRefIdeal) (hPre_down_finite := hPre_down_finite)
    ∧ preserves_UpProj_UpProjIdeal
    ∧ algebraic_UpProjIdeal_UpProjRefIdeal_pre_up_finite (hUpProjIdeal := hUpProjIdeal) (hUpProjRefIdeal := hUpProjRefIdeal) (hPre_up_finite := hPre_up_finite)
    ∧ preserves_InProj_InProjIdeal
    ∧ algebraic_InProjIdeal_InProjRefIdeal_pre_in_finite (hInProjIdeal := hInProjIdeal) (hInProjRefIdeal := hInProjRefIdeal) (hPre_in_finite := hPre_in_finite)
    ∧ preserves_Attn_AttnIdeal
    ∧ algebraic_AttnIdeal_AttnRefIdeal_pre_attn_finite (hAttnIdeal := hAttnIdeal) (hAttnRefIdeal := hAttnRefIdeal) (hPre_attn_finite := hPre_attn_finite)
    ∧ preserves_Mixer_MixerIdeal
    ∧ algebraic_MixerIdeal_MixerRefIdeal_pre_mix_finite (hMixerIdeal := hMixerIdeal) (hMixerRefIdeal := hMixerRefIdeal) (hPre_mix_finite := hPre_mix_finite)
    ∧ preserves_MlaPrep_MlaPrepIdeal
    ∧ algebraic_MlaPrepIdeal_MlaPrepRefIdeal_pre_mla_finite (hMlaPrepIdeal := hMlaPrepIdeal) (hMlaPrepRefIdeal := hMlaPrepRefIdeal) (hPre_mla_finite := hPre_mla_finite)
-- ==== Pre_attn_finite.lean ====
abbrev S2x2048x8x192 : Shape := ⟨4, ![2, 2048, 8, 192]⟩
abbrev S2x2048x8x128 : Shape := ⟨4, ![2, 2048, 8, 128]⟩
abbrev S_ : Shape := ⟨0, ![]⟩

class Facts : Prop where
  bcast_S_S2x2048x8x192 : S_.BroadcastsInDim S2x2048x8x192 (![] : Fin 0 → Fin S2x2048x8x192.rank)
  bcast_S_S2x2048x8x128 : S_.BroadcastsInDim S2x2048x8x128 (![] : Fin 0 → Fin S2x2048x8x128.rank)

variable [Facts]

def fn {F : FTy → Type} [FloatOps F] (main_arg0 : FVec F S2x2048x8x192 .f32) (main_arg1 : FVec F S2x2048x8x192 .f32) (main_arg2 : FVec F S2x2048x8x128 .f32) (main_arg3 : FVec F S2x2048x8x128 .f32) : IVec S2x2048x8x192 1 × IVec S2x2048x8x192 1 × IVec S2x2048x8x128 1 × IVec S2x2048x8x128 1 :=
  let main_v0 : FVec F S2x2048x8x192 .f32 := Host.absf main_arg0
  let main_cst : FVec F S_ .f32 := constant S_ .f32 0x7F800000#32
  let main_v1 : FVec F S2x2048x8x192 .f32 := broadcastInDim S2x2048x8x192 ![] bcast_S_S2x2048x8x192 main_cst
  let main_v2 : IVec S2x2048x8x192 1 := cmpf .olt main_v0 main_v1
  let main_v3 : FVec F S2x2048x8x192 .f32 := Host.absf main_arg1
  let main_cst_0 : FVec F S_ .f32 := constant S_ .f32 0x7F800000#32
  let main_v4 : FVec F S2x2048x8x192 .f32 := broadcastInDim S2x2048x8x192 ![] bcast_S_S2x2048x8x192 main_cst_0
  let main_v5 : IVec S2x2048x8x192 1 := cmpf .olt main_v3 main_v4
  let main_v6 : FVec F S2x2048x8x128 .f32 := Host.absf main_arg2
  let main_cst_1 : FVec F S_ .f32 := constant S_ .f32 0x7F800000#32
  let main_v7 : FVec F S2x2048x8x128 .f32 := broadcastInDim S2x2048x8x128 ![] bcast_S_S2x2048x8x128 main_cst_1
  let main_v8 : IVec S2x2048x8x128 1 := cmpf .olt main_v6 main_v7
  let main_v9 : FVec F S2x2048x8x128 .f32 := Host.absf main_arg3
  let main_cst_2 : FVec F S_ .f32 := constant S_ .f32 0x7F800000#32
  let main_v10 : FVec F S2x2048x8x128 .f32 := broadcastInDim S2x2048x8x128 ![] bcast_S_S2x2048x8x128 main_cst_2
  let main_v11 : IVec S2x2048x8x128 1 := cmpf .olt main_v9 main_v10
  (main_v2, main_v5, main_v8, main_v11)
-- ==== Pre_down_finite.lean ====
abbrev S2x2048x2816 : Shape := ⟨3, ![2, 2048, 2816]⟩
abbrev S1x2816x1024 : Shape := ⟨3, ![1, 2816, 1024]⟩
abbrev S2x2048x1024 : Shape := ⟨3, ![2, 2048, 1024]⟩
abbrev S1024 : Shape := ⟨1, ![1024]⟩
abbrev S_ : Shape := ⟨0, ![]⟩

class Facts : Prop where
  bcast_S_S2x2048x2816 : S_.BroadcastsInDim S2x2048x2816 (![] : Fin 0 → Fin S2x2048x2816.rank)
  bcast_S_S1x2816x1024 : S_.BroadcastsInDim S1x2816x1024 (![] : Fin 0 → Fin S1x2816x1024.rank)
  bcast_S_S2x2048x1024 : S_.BroadcastsInDim S2x2048x1024 (![] : Fin 0 → Fin S2x2048x1024.rank)
  bcast_S_S1024 : S_.BroadcastsInDim S1024 (![] : Fin 0 → Fin S1024.rank)

variable [Facts]

def fn {F : FTy → Type} [FloatOps F] (main_arg0 : FVec F S2x2048x2816 .f32) (main_arg1 : FVec F S1x2816x1024 .f32) (main_arg2 : FVec F S2x2048x1024 .f32) (main_arg3 : FVec F S2x2048x1024 .f32) (main_arg4 : FVec F S1024 .f32) : IVec S2x2048x2816 1 × IVec S1x2816x1024 1 × IVec S2x2048x1024 1 × IVec S2x2048x1024 1 × IVec S1024 1 :=
  let main_v0 : FVec F S2x2048x2816 .f32 := Host.absf main_arg0
  let main_cst : FVec F S_ .f32 := constant S_ .f32 0x7F800000#32
  let main_v1 : FVec F S2x2048x2816 .f32 := broadcastInDim S2x2048x2816 ![] bcast_S_S2x2048x2816 main_cst
  let main_v2 : IVec S2x2048x2816 1 := cmpf .olt main_v0 main_v1
  let main_v3 : FVec F S1x2816x1024 .f32 := Host.absf main_arg1
  let main_cst_0 : FVec F S_ .f32 := constant S_ .f32 0x7F800000#32
  let main_v4 : FVec F S1x2816x1024 .f32 := broadcastInDim S1x2816x1024 ![] bcast_S_S1x2816x1024 main_cst_0
  let main_v5 : IVec S1x2816x1024 1 := cmpf .olt main_v3 main_v4
  let main_v6 : FVec F S2x2048x1024 .f32 := Host.absf main_arg2
  let main_cst_1 : FVec F S_ .f32 := constant S_ .f32 0x7F800000#32
  let main_v7 : FVec F S2x2048x1024 .f32 := broadcastInDim S2x2048x1024 ![] bcast_S_S2x2048x1024 main_cst_1
  let main_v8 : IVec S2x2048x1024 1 := cmpf .olt main_v6 main_v7
  let main_v9 : FVec F S2x2048x1024 .f32 := Host.absf main_arg3
  let main_cst_2 : FVec F S_ .f32 := constant S_ .f32 0x7F800000#32
  let main_v10 : FVec F S2x2048x1024 .f32 := broadcastInDim S2x2048x1024 ![] bcast_S_S2x2048x1024 main_cst_2
  let main_v11 : IVec S2x2048x1024 1 := cmpf .olt main_v9 main_v10
  let main_v12 : FVec F S1024 .f32 := Host.absf main_arg4
  let main_cst_3 : FVec F S_ .f32 := constant S_ .f32 0x7F800000#32
  let main_v13 : FVec F S1024 .f32 := broadcastInDim S1024 ![] bcast_S_S1024 main_cst_3
  let main_v14 : IVec S1024 1 := cmpf .olt main_v12 main_v13
  (main_v2, main_v5, main_v8, main_v11, main_v14)
-- ==== Pre_in_finite.lean ====
abbrev S2x2048x1024 : Shape := ⟨3, ![2, 2048, 1024]⟩
abbrev S1x1024 : Shape := ⟨2, ![1, 1024]⟩
abbrev S1x1024x4544 : Shape := ⟨3, ![1, 1024, 4544]⟩
abbrev S2x2048x4544 : Shape := ⟨3, ![2, 2048, 4544]⟩
abbrev S_ : Shape := ⟨0, ![]⟩

class Facts : Prop where
  bcast_S_S2x2048x1024 : S_.BroadcastsInDim S2x2048x1024 (![] : Fin 0 → Fin S2x2048x1024.rank)
  bcast_S_S1x1024 : S_.BroadcastsInDim S1x1024 (![] : Fin 0 → Fin S1x1024.rank)
  bcast_S_S1x1024x4544 : S_.BroadcastsInDim S1x1024x4544 (![] : Fin 0 → Fin S1x1024x4544.rank)
  bcast_S_S2x2048x4544 : S_.BroadcastsInDim S2x2048x4544 (![] : Fin 0 → Fin S2x2048x4544.rank)

variable [Facts]

def fn {F : FTy → Type} [FloatOps F] (main_arg0 : FVec F S2x2048x1024 .f32) (main_arg1 : FVec F S1x1024 .f32) (main_arg2 : FVec F S1x1024x4544 .f32) (main_arg3 : FVec F S2x2048x4544 .f32) (main_arg4 : FVec F S2x2048x1024 .f32) : IVec S2x2048x1024 1 × IVec S1x1024 1 × IVec S1x1024x4544 1 × IVec S2x2048x4544 1 × IVec S2x2048x1024 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1x1024x4544 .f32 := Host.absf main_arg2
  let main_cst_1 : FVec F S_ .f32 := constant S_ .f32 0x7F800000#32
  let main_v7 : FVec F S1x1024x4544 .f32 := broadcastInDim S1x1024x4544 ![] bcast_S_S1x1024x4544 main_cst_1
  let main_v8 : IVec S1x1024x4544 1 := cmpf .olt main_v6 main_v7
  let main_v9 : FVec F S2x2048x4544 .f32 := Host.absf main_arg3
  let main_cst_2 : FVec F S_ .f32 := constant S_ .f32 0x7F800000#32
  let main_v10 : FVec F S2x2048x4544 .f32 := broadcastInDim S2x2048x4544 ![] bcast_S_S2x2048x4544 main_cst_2
  let main_v11 : IVec S2x2048x4544 1 := cmpf .olt main_v9 main_v10
  let main_v12 : FVec F S2x2048x1024 .f32 := Host.absf main_arg4
  let main_cst_3 : FVec F S_ .f32 := constant S_ .f32 0x7F800000#32
  let main_v13 : FVec F S2x2048x1024 .f32 := broadcastInDim S2x2048x1024 ![] bcast_S_S2x2048x1024 main_cst_3
  let main_v14 : IVec S2x2048x1024 1 := cmpf .olt main_v12 main_v13
  (main_v2, main_v5, main_v8, main_v11, main_v14)
-- ==== Pre_mix_finite.lean ====
abbrev S2x2048x1024 : Shape := ⟨3, ![2, 2048, 1024]⟩
abbrev S1x1024 : Shape := ⟨2, ![1, 1024]⟩
abbrev S1x8x128x128 : Shape := ⟨4, ![1, 8, 128, 128]⟩
abbrev S1x8x128 : Shape := ⟨3, ![1, 8, 128]⟩
abbrev S_ : Shape := ⟨0, ![]⟩

class Facts : Prop where
  bcast_S_S2x2048x1024 : S_.BroadcastsInDim S2x2048x1024 (![] : Fin 0 → Fin S2x2048x1024.rank)
  bcast_S_S1x1024 : S_.BroadcastsInDim S1x1024 (![] : Fin 0 → Fin S1x1024.rank)
  bcast_S_S1x8x128x128 : S_.BroadcastsInDim S1x8x128x128 (![] : Fin 0 → Fin S1x8x128x128.rank)
  bcast_S_S1x8x128 : S_.BroadcastsInDim S1x8x128 (![] : Fin 0 → Fin S1x8x128.rank)

variable [Facts]

def fn_part1 {F : FTy → Type} [FloatOps F] (main_arg6 : FVec F S1x1024 .f32) (main_arg7 : FVec F S1x8x128x128 .f32) (main_arg8 : FVec F S1x8x128 .f32) (main_arg9 : FVec F S2x2048x1024 .f32) (main_v2 : IVec S2x2048x1024 1) (main_v5 : IVec S2x2048x1024 1) (main_v8 : IVec S2x2048x1024 1) (main_v11 : IVec S2x2048x1024 1) (main_v14 : IVec S2x2048x1024 1) (main_v17 : IVec S1x1024 1) : IVec S2x2048x1024 1 × IVec S2x2048x1024 1 × IVec S2x2048x1024 1 × IVec S2x2048x1024 1 × IVec S2x2048x1024 1 × IVec S1x1024 1 × IVec S1x1024 1 × IVec S1x8x128x128 1 × IVec S1x8x128 1 × IVec S2x2048x1024 1 :=
  let main_v18 : FVec F S1x1024 .f32 := Host.absf main_arg6
  let main_cst_5 : FVec F S_ .f32 := constant S_ .f32 0x7F800000#32
  let main_v19 : FVec F S1x1024 .f32 := broadcastInDim S1x1024 ![] bcast_S_S1x1024 main_cst_5
  let main_v20 : IVec S1x1024 1 := cmpf .olt main_v18 main_v19
  let main_v21 : FVec F S1x8x128x128 .f32 := Host.absf main_arg7
  let main_cst_6 : FVec F S_ .f32 := constant S_ .f32 0x7F800000#32
  let main_v22 : FVec F S1x8x128x128 .f32 := broadcastInDim S1x8x128x128 ![] bcast_S_S1x8x128x128 main_cst_6
  let main_v23 : IVec S1x8x128x128 1 := cmpf .olt main_v21 main_v22
  let main_v24 : FVec F S1x8x128 .f32 := Host.absf main_arg8
  let main_cst_7 : FVec F S_ .f32 := constant S_ .f32 0x7F800000#32
  let main_v25 : FVec F S1x8x128 .f32 := broadcastInDim S1x8x128 ![] bcast_S_S1x8x128 main_cst_7
  let main_v26 : IVec S1x8x128 1 := cmpf .olt main_v24 main_v25
  let main_v27 : FVec F S2x2048x1024 .f32 := Host.absf main_arg9
  let main_cst_8 : FVec F S_ .f32 := constant S_ .f32 0x7F800000#32
  let main_v28 : FVec F S2x2048x1024 .f32 := broadcastInDim S2x2048x1024 ![] bcast_S_S2x2048x1024 main_cst_8
  let main_v29 : IVec S2x2048x1024 1 := cmpf .olt main_v27 main_v28
  (main_v2, main_v5, main_v8, main_v11, main_v14, main_v17, main_v20, main_v23, main_v26, main_v29)

def fn {F : FTy → Type} [FloatOps F] (main_arg0 : FVec F S2x2048x1024 .f32) (main_arg1 : FVec F S2x2048x1024 .f32) (main_arg2 : FVec F S2x2048x1024 .f32) (main_arg3 : FVec F S2x2048x1024 .f32) (main_arg4 : FVec F S2x2048x1024 .f32) (main_arg5 : FVec F S1x1024 .f32) (main_arg6 : FVec F S1x1024 .f32) (main_arg7 : FVec F S1x8x128x128 .f32) (main_arg8 : FVec F S1x8x128 .f32) (main_arg9 : FVec F S2x2048x1024 .f32) : IVec S2x2048x1024 1 × IVec S2x2048x1024 1 × IVec S2x2048x1024 1 × IVec S2x2048x1024 1 × IVec S2x2048x1024 1 × IVec S1x1024 1 × IVec S1x1024 1 × IVec S1x8x128x128 1 × IVec S1x8x128 1 × IVec S2x2048x1024 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_v3 : FVec F S2x2048x1024 .f32 := Host.absf main_arg1
  let main_cst_0 : FVec F S_ .f32 := constant S_ .f32 0x7F800000#32
  let main_v4 : FVec F S2x2048x1024 .f32 := broadcastInDim S2x2048x1024 ![] bcast_S_S2x2048x1024 main_cst_0
  let main_v5 : IVec S2x2048x1024 1 := cmpf .olt main_v3 main_v4
  let main_v6 : FVec F S2x2048x1024 .f32 := Host.absf main_arg2
  let main_cst_1 : FVec F S_ .f32 := constant S_ .f32 0x7F800000#32
  let main_v7 : FVec F S2x2048x1024 .f32 := broadcastInDim S2x2048x1024 ![] bcast_S_S2x2048x1024 main_cst_1
  let main_v8 : IVec S2x2048x1024 1 := cmpf .olt main_v6 main_v7
  let main_v9 : FVec F S2x2048x1024 .f32 := Host.absf main_arg3
  let main_cst_2 : FVec F S_ .f32 := constant S_ .f32 0x7F800000#32
  let main_v10 : FVec F S2x2048x1024 .f32 := broadcastInDim S2x2048x1024 ![] bcast_S_S2x2048x1024 main_cst_2
  let main_v11 : IVec S2x2048x1024 1 := cmpf .olt main_v9 main_v10
  let main_v12 : FVec F S2x2048x1024 .f32 := Host.absf main_arg4
  let main_cst_3 : FVec F S_ .f32 := constant S_ .f32 0x7F800000#32
  let main_v13 : FVec F S2x2048x1024 .f32 := broadcastInDim S2x2048x1024 ![] bcast_S_S2x2048x1024 main_cst_3
  let main_v14 : IVec S2x2048x1024 1 := cmpf .olt main_v12 main_v13
  let main_v15 : FVec F S1x1024 .f32 := Host.absf main_arg5
  let main_cst_4 : FVec F S_ .f32 := constant S_ .f32 0x7F800000#32
  let main_v16 : FVec F S1x1024 .f32 := broadcastInDim S1x1024 ![] bcast_S_S1x1024 main_cst_4
  let main_v17 : IVec S1x1024 1 := cmpf .olt main_v15 main_v16
  fn_part1 (F := F) main_arg6 main_arg7 main_arg8 main_arg9 main_v2 main_v5 main_v8 main_v11 main_v14 main_v17
-- ==== Pre_mla_finite.lean ====
abbrev S2x2048x256 : Shape := ⟨3, ![2, 2048, 256]⟩
abbrev S2x2048x128 : Shape := ⟨3, ![2, 2048, 128]⟩
abbrev S2x2048x64 : Shape := ⟨3, ![2, 2048, 64]⟩
abbrev S2x2048 : Shape := ⟨2, ![2, 2048]⟩
abbrev S1x256 : Shape := ⟨2, ![1, 256]⟩
abbrev S1x256x1536 : Shape := ⟨3, ![1, 256, 1536]⟩
abbrev S1x128 : Shape := ⟨2, ![1, 128]⟩
abbrev S1x128x2048 : Shape := ⟨3, ![1, 128, 2048]⟩
abbrev S2x2048x8x192 : Shape := ⟨4, ![2, 2048, 8, 192]⟩
abbrev S2x2048x8x128 : Shape := ⟨4, ![2, 2048, 8, 128]⟩
abbrev S_ : Shape := ⟨0, ![]⟩

class Facts : Prop where
  bcast_S_S2x2048x256 : S_.BroadcastsInDim S2x2048x256 (![] : Fin 0 → Fin S2x2048x256.rank)
  bcast_S_S2x2048x128 : S_.BroadcastsInDim S2x2048x128 (![] : Fin 0 → Fin S2x2048x128.rank)
  bcast_S_S2x2048x64 : S_.BroadcastsInDim S2x2048x64 (![] : Fin 0 → Fin S2x2048x64.rank)
  bcast_S_S1x256 : S_.BroadcastsInDim S1x256 (![] : Fin 0 → Fin S1x256.rank)
  bcast_S_S1x256x1536 : S_.BroadcastsInDim S1x256x1536 (![] : Fin 0 → Fin S1x256x1536.rank)
  bcast_S_S1x128 : S_.BroadcastsInDim S1x128 (![] : Fin 0 → Fin S1x128.rank)
  bcast_S_S1x128x2048 : S_.BroadcastsInDim S1x128x2048 (![] : Fin 0 → Fin S1x128x2048.rank)
  bcast_S_S2x2048x8x192 : S_.BroadcastsInDim S2x2048x8x192 (![] : Fin 0 → Fin S2x2048x8x192.rank)
  bcast_S_S2x2048x8x128 : S_.BroadcastsInDim S2x2048x8x128 (![] : Fin 0 → Fin S2x2048x8x128.rank)

variable [Facts]

def fn_part1 {F : FTy → Type} [FloatOps F] (main_arg7 : FVec F S1x128x2048 .f32) (main_arg8 : FVec F S2x2048x8x192 .f32) (main_arg9 : FVec F S2x2048x8x192 .f32) (main_arg10 : FVec F S2x2048x8x128 .f32) (main_v2 : IVec S2x2048x256 1) (main_v5 : IVec S2x2048x128 1) (main_v8 : IVec S2x2048x64 1) (main_v11 : IVec S1x256 1) (main_v14 : IVec S1x256x1536 1) (main_v17 : IVec S1x128 1) : IVec S2x2048x256 1 × IVec S2x2048x128 1 × IVec S2x2048x64 1 × IVec S1x256 1 × IVec S1x256x1536 1 × IVec S1x128 1 × IVec S1x128x2048 1 × IVec S2x2048x8x192 1 × IVec S2x2048x8x192 1 × IVec S2x2048x8x128 1 :=
  let main_v18 : FVec F S1x128x2048 .f32 := Host.absf main_arg7
  let main_cst_5 : FVec F S_ .f32 := constant S_ .f32 0x7F800000#32
  let main_v19 : FVec F S1x128x2048 .f32 := broadcastInDim S1x128x2048 ![] bcast_S_S1x128x2048 main_cst_5
  let main_v20 : IVec S1x128x2048 1 := cmpf .olt main_v18 main_v19
  let main_v21 : FVec F S2x2048x8x192 .f32 := Host.absf main_arg8
  let main_cst_6 : FVec F S_ .f32 := constant S_ .f32 0x7F800000#32
  let main_v22 : FVec F S2x2048x8x192 .f32 := broadcastInDim S2x2048x8x192 ![] bcast_S_S2x2048x8x192 main_cst_6
  let main_v23 : IVec S2x2048x8x192 1 := cmpf .olt main_v21 main_v22
  let main_v24 : FVec F S2x2048x8x192 .f32 := Host.absf main_arg9
  let main_cst_7 : FVec F S_ .f32 := constant S_ .f32 0x7F800000#32
  let main_v25 : FVec F S2x2048x8x192 .f32 := broadcastInDim S2x2048x8x192 ![] bcast_S_S2x2048x8x192 main_cst_7
  let main_v26 : IVec S2x2048x8x192 1 := cmpf .olt main_v24 main_v25
  let main_v27 : FVec F S2x2048x8x128 .f32 := Host.absf main_arg10
  let main_cst_8 : FVec F S_ .f32 := constant S_ .f32 0x7F800000#32
  let main_v28 : FVec F S2x2048x8x128 .f32 := broadcastInDim S2x2048x8x128 ![] bcast_S_S2x2048x8x128 main_cst_8
  let main_v29 : IVec S2x2048x8x128 1 := cmpf .olt main_v27 main_v28
  (main_v2, main_v5, main_v8, main_v11, main_v14, main_v17, main_v20, main_v23, main_v26, main_v29)

def fn {F : FTy → Type} [FloatOps F] (main_arg0 : FVec F S2x2048x256 .f32) (main_arg1 : FVec F S2x2048x128 .f32) (main_arg2 : FVec F S2x2048x64 .f32) (main_arg3 : IVec S2x2048 32) (main_arg4 : FVec F S1x256 .f32) (main_arg5 : FVec F S1x256x1536 .f32) (main_arg6 : FVec F S1x128 .f32) (main_arg7 : FVec F S1x128x2048 .f32) (main_arg8 : FVec F S2x2048x8x192 .f32) (main_arg9 : FVec F S2x2048x8x192 .f32) (main_arg10 : FVec F S2x2048x8x128 .f32) : IVec S2x2048x256 1 × IVec S2x2048x128 1 × IVec S2x2048x64 1 × IVec S1x256 1 × IVec S1x256x1536 1 × IVec S1x128 1 × IVec S1x128x2048 1 × IVec S2x2048x8x192 1 × IVec S2x2048x8x192 1 × IVec S2x2048x8x128 1 :=
  let main_v0 : FVec F S2x2048x256 .f32 := Host.absf main_arg0
  let main_cst : FVec F S_ .f32 := constant S_ .f32 0x7F800000#32
  let main_v1 : FVec F S2x2048x256 .f32 := broadcastInDim S2x2048x256 ![] bcast_S_S2x2048x256 main_cst
  let main_v2 : IVec S2x2048x256 1 := cmpf .olt main_v0 main_v1
  let main_v3 : FVec F S2x2048x128 .f32 := Host.absf main_arg1
  let main_cst_0 : FVec F S_ .f32 := constant S_ .f32 0x7F800000#32
  let main_v4 : FVec F S2x2048x128 .f32 := broadcastInDim S2x2048x128 ![] bcast_S_S2x2048x128 main_cst_0
  let main_v5 : IVec S2x2048x128 1 := cmpf .olt main_v3 main_v4
  let main_v6 : FVec F S2x2048x64 .f32 := Host.absf main_arg2
  let main_cst_1 : FVec F S_ .f32 := constant S_ .f32 0x7F800000#32
  let main_v7 : FVec F S2x2048x64 .f32 := broadcastInDim S2x2048x64 ![] bcast_S_S2x2048x64 main_cst_1
  let main_v8 : IVec S2x2048x64 1 := cmpf .olt main_v6 main_v7
  let main_v9 : FVec F S1x256 .f32 := Host.absf main_arg4
  let main_cst_2 : FVec F S_ .f32 := constant S_ .f32 0x7F800000#32
  let main_v10 : FVec F S1x256 .f32 := broadcastInDim S1x256 ![] bcast_S_S1x256 main_cst_2
  let main_v11 : IVec S1x256 1 := cmpf .olt main_v9 main_v10
  let main_v12 : FVec F S1x256x1536 .f32 := Host.absf main_arg5
  let main_cst_3 : FVec F S_ .f32 := constant S_ .f32 0x7F800000#32
  let main_v13 : FVec F S1x256x1536 .f32 := broadcastInDim S1x256x1536 ![] bcast_S_S1x256x1536 main_cst_3
  let main_v14 : IVec S1x256x1536 1 := cmpf .olt main_v12 main_v13
  let main_v15 : FVec F S1x128 .f32 := Host.absf main_arg6
  let main_cst_4 : FVec F S_ .f32 := constant S_ .f32 0x7F800000#32
  let main_v16 : FVec F S1x128 .f32 := broadcastInDim S1x128 ![] bcast_S_S1x128 main_cst_4
  let main_v17 : IVec S1x128 1 := cmpf .olt main_v15 main_v16
  fn_part1 (F := F) main_arg7 main_arg8 main_arg9 main_arg10 main_v2 main_v5 main_v8 main_v11 main_v14 main_v17
-- ==== Pre_up_finite.lean ====
abbrev S2x2048x1024 : Shape := ⟨3, ![2, 2048, 1024]⟩
abbrev S1x1024x1024 : Shape := ⟨3, ![1, 1024, 1024]⟩
abbrev S1x1024 : Shape := ⟨2, ![1, 1024]⟩
abbrev S1x1024x5632 : Shape := ⟨3, ![1, 1024, 5632]⟩
abbrev S2x2048x5632 : Shape := ⟨3, ![2, 2048, 5632]⟩
abbrev S_ : Shape := ⟨0, ![]⟩

class Facts : Prop where
  bcast_S_S2x2048x1024 : S_.BroadcastsInDim S2x2048x1024 (![] : Fin 0 → Fin S2x2048x1024.rank)
  bcast_S_S1x1024x1024 : S_.BroadcastsInDim S1x1024x1024 (![] : Fin 0 → Fin S1x1024x1024.rank)
  bcast_S_S1x1024 : S_.BroadcastsInDim S1x1024 (![] : Fin 0 → Fin S1x1024.rank)
  bcast_S_S1x1024x5632 : S_.BroadcastsInDim S1x1024x5632 (![] : Fin 0 → Fin S1x1024x5632.rank)
  bcast_S_S2x2048x5632 : S_.BroadcastsInDim S2x2048x5632 (![] : Fin 0 → Fin S2x2048x5632.rank)

variable [Facts]

def fn_part1 {F : FTy → Type} [FloatOps F] (main_arg6 : FVec F S2x2048x1024 .f32) (main_v2 : IVec S2x2048x1024 1) (main_v5 : IVec S2x2048x1024 1) (main_v8 : IVec S1x1024x1024 1) (main_v11 : IVec S1x1024 1) (main_v14 : IVec S1x1024x5632 1) (main_v17 : IVec S2x2048x5632 1) : IVec S2x2048x1024 1 × IVec S2x2048x1024 1 × IVec S1x1024x1024 1 × IVec S1x1024 1 × IVec S1x1024x5632 1 × IVec S2x2048x5632 1 × IVec S2x2048x1024 1 :=
  let main_v18 : FVec F S2x2048x1024 .f32 := Host.absf main_arg6
  let main_cst_5 : FVec F S_ .f32 := constant S_ .f32 0x7F800000#32
  let main_v19 : FVec F S2x2048x1024 .f32 := broadcastInDim S2x2048x1024 ![] bcast_S_S2x2048x1024 main_cst_5
  let main_v20 : IVec S2x2048x1024 1 := cmpf .olt main_v18 main_v19
  (main_v2, main_v5, main_v8, main_v11, main_v14, main_v17, main_v20)

def fn {F : FTy → Type} [FloatOps F] (main_arg0 : FVec F S2x2048x1024 .f32) (main_arg1 : FVec F S2x2048x1024 .f32) (main_arg2 : FVec F S1x1024x1024 .f32) (main_arg3 : FVec F S1x1024 .f32) (main_arg4 : FVec F S1x1024x5632 .f32) (main_arg5 : FVec F S2x2048x5632 .f32) (main_arg6 : FVec F S2x2048x1024 .f32) : IVec S2x2048x1024 1 × IVec S2x2048x1024 1 × IVec S1x1024x1024 1 × IVec S1x1024 1 × IVec S1x1024x5632 1 × IVec S2x2048x5632 1 × IVec S2x2048x1024 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_v3 : FVec F S2x2048x1024 .f32 := Host.absf main_arg1
  let main_cst_0 : FVec F S_ .f32 := constant S_ .f32 0x7F800000#32
  let main_v4 : FVec F S2x2048x1024 .f32 := broadcastInDim S2x2048x1024 ![] bcast_S_S2x2048x1024 main_cst_0
  let main_v5 : IVec S2x2048x1024 1 := cmpf .olt main_v3 main_v4
  let main_v6 : FVec F S1x1024x1024 .f32 := Host.absf main_arg2
  let main_cst_1 : FVec F S_ .f32 := constant S_ .f32 0x7F800000#32
  let main_v7 : FVec F S1x1024x1024 .f32 := broadcastInDim S1x1024x1024 ![] bcast_S_S1x1024x1024 main_cst_1
  let main_v8 : IVec S1x1024x1024 1 := cmpf .olt main_v6 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_v12 : FVec F S1x1024x5632 .f32 := Host.absf main_arg4
  let main_cst_3 : FVec F S_ .f32 := constant S_ .f32 0x7F800000#32
  let main_v13 : FVec F S1x1024x5632 .f32 := broadcastInDim S1x1024x5632 ![] bcast_S_S1x1024x5632 main_cst_3
  let main_v14 : IVec S1x1024x5632 1 := cmpf .olt main_v12 main_v13
  let main_v15 : FVec F S2x2048x5632 .f32 := Host.absf main_arg5
  let main_cst_4 : FVec F S_ .f32 := constant S_ .f32 0x7F800000#32
  let main_v16 : FVec F S2x2048x5632 .f32 := broadcastInDim S2x2048x5632 ![] bcast_S_S2x2048x5632 main_cst_4
  let main_v17 : IVec S2x2048x5632 1 := cmpf .olt main_v15 main_v16
  fn_part1 (F := F) main_arg6 main_v2 main_v5 main_v8 main_v11 main_v14 main_v17
-- ==== DownLoss.lean ====
abbrev S2x2048x2816 : Shape := ⟨3, ![2, 2048, 2816]⟩
abbrev S1x2816x1024 : Shape := ⟨3, ![1, 2816, 1024]⟩
abbrev S2x2048x1024 : Shape := ⟨3, ![2, 2048, 1024]⟩
abbrev S1024 : Shape := ⟨1, ![1024]⟩
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S8x128 : Shape := ⟨2, ![8, 128]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩
abbrev S1x512x1 : Shape := ⟨3, ![1, 512, 1]⟩
abbrev S1 : Shape := ⟨1, ![1]⟩
abbrev S1x1x1 : Shape := ⟨3, ![1, 1, 1]⟩

abbrev nBuf : Space → Nat
  | .hbm => 16
  | .vmem => 14
  | .smem => 0
  | _ => 0

abbrev bufTy : (tb : Table) → Fin (tcTables nBuf tb) → BufTy
  | .hbm, ⟨0, _⟩ => ⟨S2x2048x2816, .f32⟩
  | .hbm, ⟨1, _⟩ => ⟨S1x2816x1024, .f32⟩
  | .hbm, ⟨2, _⟩ => ⟨S2x2048x1024, .f32⟩
  | .hbm, ⟨3, _⟩ => ⟨S2x2048x1024, .f32⟩
  | .hbm, ⟨4, _⟩ => ⟨S1024, .f32⟩
  | .hbm, ⟨5, _⟩ => ⟨S4096x2816, .f32⟩
  | .hbm, ⟨6, _⟩ => ⟨S4096x2816, .bf16⟩
  | .hbm, ⟨7, _⟩ => ⟨S2816x1024, .f32⟩
  | .hbm, ⟨8, _⟩ => ⟨S2816x1024, .bf16⟩
  | .hbm, ⟨9, _⟩ => ⟨S4096x1024, .f32⟩
  | .hbm, ⟨10, _⟩ => ⟨S4096x1024, .f32⟩
  | .hbm, ⟨11, _⟩ => ⟨S1x1024, .f32⟩
  | .hbm, ⟨12, _⟩ => ⟨S4096x1024, .f32⟩
  | .hbm, ⟨13, _⟩ => ⟨S4096x1024, .bf16⟩
  | .hbm, ⟨14, _⟩ => ⟨S8x128, .f32⟩
  | .hbm, ⟨15, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S8x128, .f32⟩
  | .local _ .vmem, ⟨13, _⟩ => ⟨S1x1024, .f32⟩
  | _, _ => ⟨S2x2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v7_2 : Ref sig .tc := ⟨.hbm, 14, rfl⟩
abbrev main_v7_3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== DownLossRefIdeal.lean ====
abbrev S2x2048x2816 : Shape := ⟨3, ![2, 2048, 2816]⟩
abbrev S1x2816x1024 : Shape := ⟨3, ![1, 2816, 1024]⟩
abbrev S2x2048x1024 : Shape := ⟨3, ![2, 2048, 1024]⟩
abbrev S1024 : Shape := ⟨1, ![1024]⟩
abbrev S2816x1024 : Shape := ⟨2, ![2816, 1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S4096x1024 : Shape := ⟨2, ![4096, 1024]⟩
abbrev S8x128 : Shape := ⟨2, ![8, 128]⟩
abbrev S1x1024 : Shape := ⟨2, ![1, 1024]⟩

abbrev nBuf : Space → Nat
  | .hbm => 81
  | .vmem => 0
  | .smem => 0
  | _ => 0

abbrev bufTy : (tb : Table) → Fin (tcTables nBuf tb) → BufTy
  | .hbm, ⟨0, _⟩ => ⟨S2x2048x2816, .f32⟩
  | .hbm, ⟨1, _⟩ => ⟨S1x2816x1024, .f32⟩
  | .hbm, ⟨2, _⟩ => ⟨S2x2048x1024, .f32⟩
  | .hbm, ⟨3, _⟩ => ⟨S2x2048x1024, .f32⟩
  | .hbm, ⟨4, _⟩ => ⟨S1024, .f32⟩
  | .hbm, ⟨5, _⟩ => ⟨S2816x1024, .f32⟩
  | .hbm, ⟨6, _⟩ => ⟨S2x2048x1024, .f32⟩
  | .hbm, ⟨7, _⟩ => ⟨S2x2048x1024, .f32⟩
  | .hbm, ⟨8, _⟩ => ⟨S2x2048x1024, .f32⟩
  | .hbm, ⟨9, _⟩ => ⟨S_, .f32⟩
  | .hbm, ⟨10, _⟩ => ⟨S2x2048x1024, .f32⟩
  | .hbm, ⟨11, _⟩ => ⟨S2x2048x1024, .f32⟩
  | .hbm, ⟨12, _⟩ => ⟨S_, .f32⟩
  | .hbm, ⟨13, _⟩ => ⟨S2x2048, .f32⟩
  | .hbm, ⟨14, _⟩ => ⟨S2x2048x1, .f32⟩
  | .hbm, ⟨15, _⟩ => ⟨S_, .f32⟩
  | .hbm, ⟨16, _⟩ => ⟨S2x2048x1, .f32⟩
  | .hbm, ⟨17, _⟩ => ⟨S2x2048x1, .f32⟩
  | .hbm, ⟨18, _⟩ => ⟨S_, .f32⟩
  | .hbm, ⟨19, _⟩ => ⟨S2x2048x1, .f32⟩
  | .hbm, ⟨20, _⟩ => ⟨S2x2048x1, .f32⟩
  | .hbm, ⟨21, _⟩ => ⟨S2x2048x1, .f32⟩
  | .hbm, ⟨22, _⟩ => ⟨S2x2048x1, .f32⟩
  | .hbm, ⟨23, _⟩ => ⟨S_, .f32⟩
  | .hbm, ⟨24, _⟩ => ⟨S2x2048x1, .f32⟩
  | .hbm, ⟨25, _⟩ => ⟨S2x2048x1, .f32⟩
  | .hbm, ⟨26, _⟩ => ⟨S2x2048x1024, .f32⟩
  | .hbm, ⟨27, _⟩ => ⟨S2x2048x1024, .f32⟩
  | .hbm, ⟨28, _⟩ => ⟨S1x1x1024, .f32⟩
  | .hbm, ⟨29, _⟩ => ⟨S2x2048x1024, .f32⟩
  | .hbm, ⟨30, _⟩ => ⟨S2x2048x1024, .f32⟩
  | .hbm, ⟨31, _⟩ => ⟨S2x2048x1024, .f32⟩
  | .hbm, ⟨32, _⟩ => ⟨S2x2048x1024, .f32⟩
  | .hbm, ⟨33, _⟩ => ⟨S_, .f32⟩
  | .hbm, ⟨34, _⟩ => ⟨S2x2048x1024, .f32⟩
  | .hbm, ⟨35, _⟩ => ⟨S2x2048x1024, .f32⟩
  | .hbm, ⟨36, _⟩ => ⟨S_, .f32⟩
  | .hbm, ⟨37, _⟩ => ⟨S2x2048, .f32⟩
  | .hbm, ⟨38, _⟩ => ⟨S_, .f32⟩
  | .hbm, ⟨39, _⟩ => ⟨S2x2048, .f32⟩
  | .hbm, ⟨40, _⟩ => ⟨S2x2048, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S2x2048, .f32⟩
  | .hbm, ⟨49, _⟩ => ⟨S_, .f32⟩
  | .hbm, ⟨50, _⟩ => ⟨S2x2048, .f32⟩
  | .hbm, ⟨51, _⟩ => ⟨S2x2048, .f32⟩
  | .hbm, ⟨52, _⟩ => ⟨S2x2048x1024, .f32⟩
  | .hbm, ⟨53, _⟩ => ⟨S2x2048x1024, .f32⟩
  | .hbm, ⟨54, _⟩ => ⟨S2x2048x1024, .f32⟩
  | .hbm, ⟨55, _⟩ => ⟨S_, .f32⟩
  | .hbm, ⟨56, _⟩ => ⟨S1024, .f32⟩
  | .hbm, ⟨57, _⟩ => ⟨S1x1x1024, .f32⟩
  | .hbm, ⟨58, _⟩ => ⟨S2x2048x1024, .f32⟩
  | .hbm, ⟨59, _⟩ => ⟨S2x2048x1024, .f32⟩
  | .hbm, ⟨60, _⟩ => ⟨S_, .f32⟩
  | .hbm, ⟨61, _⟩ => ⟨S1024, .f32⟩
  | .hbm, ⟨62, _⟩ => ⟨S2x2048x1024, .f32⟩
  | .hbm, ⟨63, _⟩ => ⟨S_, .f32⟩
  | .hbm, ⟨64, _⟩ => ⟨S2x2048, .f32⟩
  | .hbm, ⟨65, _⟩ => ⟨S2x2048x1, .f32⟩
  | .hbm, ⟨66, _⟩ => ⟨S2x2048x1024, .f32⟩
  | .hbm, ⟨67, _⟩ => ⟨S2x2048x1024, .f32⟩
  | .hbm, ⟨68, _⟩ => ⟨S2x2048x1, .f32⟩
  | .hbm, ⟨69, _⟩ => ⟨S_, .f32⟩
  | .hbm, ⟨70, _⟩ => ⟨S2x2048x1, .f32⟩
  | .hbm, ⟨71, _⟩ => ⟨S2x2048x1, .f32⟩
  | .hbm, ⟨72, _⟩ => ⟨S_, .f32⟩
  | .hbm, ⟨73, _⟩ => ⟨S2x2048, .f32⟩
  | .hbm, ⟨74, _⟩ => ⟨S2x2048x1024, .f32⟩
  | .hbm, ⟨75, _⟩ => ⟨S2x2048x1024, .f32⟩
  | .hbm, ⟨76, _⟩ => ⟨S2x2048x1024, .f32⟩
  | .hbm, ⟨77, _⟩ => ⟨S4096x1024, .f32⟩
  | .hbm, ⟨78, _⟩ => ⟨S4096x1024, .bf16⟩
  | .hbm, ⟨79, _⟩ => ⟨S8x128, .f32⟩
  | .hbm, ⟨80, _⟩ => ⟨S1x1024, .f32⟩
  | _, _ => ⟨S2x2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_cst_7 : Ref sig .tc := ⟨.hbm, 41, rfl⟩
abbrev main_v28 : Ref sig .tc := ⟨.hbm, 42, rfl⟩
abbrev main_cst_8 : Ref sig .tc := ⟨.hbm, 43, rfl⟩
abbrev main_v29 : Ref sig .tc := ⟨.hbm, 44, rfl⟩
abbrev main_cst_9 : Ref sig .tc := ⟨.hbm, 45, rfl⟩
abbrev main_cst_10 : Ref sig .tc := ⟨.hbm, 46, rfl⟩
abbrev main_v30 : Ref sig .tc := ⟨.hbm, 47, rfl⟩
abbrev main_v31 : Ref sig .tc := ⟨.hbm, 48, rfl⟩
abbrev main_cst_11 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_12 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_13 : Ref sig .tc := ⟨.hbm, 60, rfl⟩
abbrev main_v41 : Ref sig .tc := ⟨.hbm, 61, rfl⟩
abbrev main_v42 : Ref sig .tc := ⟨.hbm, 62, rfl⟩
abbrev main_cst_14 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_15 : Ref sig .tc := ⟨.hbm, 69, rfl⟩
abbrev main_v48 : Ref sig .tc := ⟨.hbm, 70, rfl⟩
abbrev main_v49 : Ref sig .tc := ⟨.hbm, 71, rfl⟩
abbrev main_cst_16 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩

abbrev nD : Nat := 1
abbrev τ : Topo := Topo.v7x

variable {F : FTy → Type} [FloatOps F]
-- ==== UpProj.lean ====
abbrev S2x2048x1024 : Shape := ⟨3, ![2, 2048, 1024]⟩
abbrev S1x1024x1024 : Shape := ⟨3, ![1, 1024, 1024]⟩
abbrev S1x1024 : Shape := ⟨2, ![1, 1024]⟩
abbrev S1x1024x5632 : Shape := ⟨3, ![1, 1024, 5632]⟩
abbrev S2x2048x5632 : Shape := ⟨3, ![2, 2048, 5632]⟩
abbrev S1024x1024 : Shape := ⟨2, ![1024, 1024]⟩
abbrev S4096x1024 : Shape := ⟨2, ![4096, 1024]⟩
abbrev S2x2048x2816 : Shape := ⟨3, ![2, 2048, 2816]⟩
abbrev S4096x2816 : Shape := ⟨2, ![4096, 2816]⟩
abbrev S1024x5632 : Shape := ⟨2, ![1024, 5632]⟩
abbrev S5632x1024 : Shape := ⟨2, ![5632, 1024]⟩
abbrev S256x2816 : Shape := ⟨2, ![256, 2816]⟩
abbrev S256x1024 : Shape := ⟨2, ![256, 1024]⟩
abbrev S2816x1024 : Shape := ⟨2, ![2816, 1024]⟩
abbrev S256 : Shape := ⟨1, ![256]⟩
abbrev S256x1 : Shape := ⟨2, ![256, 1]⟩
abbrev S1024 : Shape := ⟨1, ![1024]⟩

abbrev nBuf : Space → Nat
  | .hbm => 26
  | .vmem => 16
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S1x1024x1024, .f32⟩
  | .hbm, ⟨3, _⟩ => ⟨S1x1024, .f32⟩
  | .hbm, ⟨4, _⟩ => ⟨S1x1024x5632, .f32⟩
  | .hbm, ⟨5, _⟩ => ⟨S2x2048x5632, .f32⟩
  | .hbm, ⟨6, _⟩ => ⟨S2x2048x1024, .f32⟩
  | .hbm, ⟨7, _⟩ => ⟨S1024x1024, .f32⟩
  | .hbm, ⟨8, _⟩ => ⟨S2x2048x1024, .f32⟩
  | .hbm, ⟨9, _⟩ => ⟨S2x2048x1024, .f32⟩
  | .hbm, ⟨10, _⟩ => ⟨S4096x1024, .f32⟩
  | .hbm, ⟨11, _⟩ => ⟨S2x2048x2816, .f32⟩
  | .hbm, ⟨12, _⟩ => ⟨S2x2048x2816, .f32⟩
  | .hbm, ⟨13, _⟩ => ⟨S4096x2816, .f32⟩
  | .hbm, ⟨14, _⟩ => ⟨S4096x2816, .bf16⟩
  | .hbm, ⟨15, _⟩ => ⟨S4096x2816, .f32⟩
  | .hbm, ⟨16, _⟩ => ⟨S4096x2816, .bf16⟩
  | .hbm, ⟨17, _⟩ => ⟨S1024x5632, .f32⟩
  | .hbm, ⟨18, _⟩ => ⟨S5632x1024, .f32⟩
  | .hbm, ⟨19, _⟩ => ⟨S5632x1024, .bf16⟩
  | .hbm, ⟨20, _⟩ => ⟨S4096x1024, .f32⟩
  | .hbm, ⟨21, _⟩ => ⟨S1024x1024, .f32⟩
  | .hbm, ⟨22, _⟩ => ⟨S1024x1024, .bf16⟩
  | .hbm, ⟨23, _⟩ => ⟨S4096x1024, .f32⟩
  | .hbm, ⟨24, _⟩ => ⟨S1x1024, .f32⟩
  | .hbm, ⟨25, _⟩ => ⟨S4096x1024, .bf16⟩
  | .local _ .vmem, ⟨0, _⟩ => ⟨S256x2816, .bf16⟩
  | .local _ .vmem, ⟨1, _⟩ => ⟨S256x2816, .bf16⟩
  | .local _ .vmem, ⟨2, _⟩ => ⟨S256x2816, .bf16⟩
  | .local _ .vmem, ⟨3, _⟩ => ⟨S256x2816, .bf16⟩
  | .local _ .vmem, ⟨4, _⟩ => ⟨S5632x1024, .bf16⟩
  | .local _ .vmem, ⟨5, _⟩ => ⟨S256x1024, .f32⟩
  | .local _ .vmem, ⟨6, _⟩ => ⟨S256x1024, .f32⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | .local _ .vmem, ⟨10, _⟩ => ⟨S1024x1024, .bf16⟩
  | .local _ .vmem, ⟨11, _⟩ => ⟨S256x1024, .f32⟩
  | .local _ .vmem, ⟨12, _⟩ => ⟨S256x1024, .f32⟩
  | .local _ .vmem, ⟨13, _⟩ => ⟨S1x1024, .f32⟩
  | .local _ .vmem, ⟨14, _⟩ => ⟨S256x1024, .bf16⟩
  | .local _ .vmem, ⟨15, _⟩ => ⟨S256x1024, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16_0 : Ref sig .tc := ⟨.hbm, 23, rfl⟩
abbrev main_v16_1 : Ref sig .tc := ⟨.hbm, 24, rfl⟩
abbrev main_v16_2 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S5632x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== UpProjRefIdeal.lean ====
abbrev S2x2048x1024 : Shape := ⟨3, ![2, 2048, 1024]⟩
abbrev S1x1024x1024 : Shape := ⟨3, ![1, 1024, 1024]⟩
abbrev S1x1024 : Shape := ⟨2, ![1, 1024]⟩
abbrev S1x1024x5632 : Shape := ⟨3, ![1, 1024, 5632]⟩
abbrev S2x2048x5632 : Shape := ⟨3, ![2, 2048, 5632]⟩
abbrev S1024 : Shape := ⟨1, ![1024]⟩
abbrev S1024x1024 : Shape := ⟨2, ![1024, 1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S1024x5632 : Shape := ⟨2, ![1024, 5632]⟩
abbrev S4096x1024 : Shape := ⟨2, ![4096, 1024]⟩

abbrev nBuf : Space → Nat
  | .hbm => 67
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S1x1024x1024, .f32⟩
  | .hbm, ⟨3, _⟩ => ⟨S1x1024, .f32⟩
  | .hbm, ⟨4, _⟩ => ⟨S1x1024x5632, .f32⟩
  | .hbm, ⟨5, _⟩ => ⟨S2x2048x5632, .f32⟩
  | .hbm, ⟨6, _⟩ => ⟨S2x2048x1024, .f32⟩
  | .hbm, ⟨7, _⟩ => ⟨S1024, .f32⟩
  | .hbm, ⟨8, _⟩ => ⟨S1024x1024, .f32⟩
  | .hbm, ⟨9, _⟩ => ⟨S2x2048x1024, .f32⟩
  | .hbm, ⟨10, _⟩ => ⟨S2x2048x1024, .f32⟩
  | .hbm, ⟨11, _⟩ => ⟨S2x2048x1024, .f32⟩
  | .hbm, ⟨12, _⟩ => ⟨S_, .f32⟩
  | .hbm, ⟨13, _⟩ => ⟨S2x2048x1024, .f32⟩
  | .hbm, ⟨14, _⟩ => ⟨S2x2048x1024, .f32⟩
  | .hbm, ⟨15, _⟩ => ⟨S_, .f32⟩
  | .hbm, ⟨16, _⟩ => ⟨S2x2048, .f32⟩
  | .hbm, ⟨17, _⟩ => ⟨S2x2048x1, .f32⟩
  | .hbm, ⟨18, _⟩ => ⟨S_, .f32⟩
  | .hbm, ⟨19, _⟩ => ⟨S2x2048x1, .f32⟩
  | .hbm, ⟨20, _⟩ => ⟨S2x2048x1, .f32⟩
  | .hbm, ⟨21, _⟩ => ⟨S_, .f32⟩
  | .hbm, ⟨22, _⟩ => ⟨S2x2048x1, .f32⟩
  | .hbm, ⟨23, _⟩ => ⟨S2x2048x1, .f32⟩
  | .hbm, ⟨24, _⟩ => ⟨S2x2048x1, .f32⟩
  | .hbm, ⟨25, _⟩ => ⟨S2x2048x1, .f32⟩
  | .hbm, ⟨26, _⟩ => ⟨S_, .f32⟩
  | .hbm, ⟨27, _⟩ => ⟨S2x2048x1, .f32⟩
  | .hbm, ⟨28, _⟩ => ⟨S2x2048x1, .f32⟩
  | .hbm, ⟨29, _⟩ => ⟨S2x2048x1024, .f32⟩
  | .hbm, ⟨30, _⟩ => ⟨S2x2048x1024, .f32⟩
  | .hbm, ⟨31, _⟩ => ⟨S1x1x1024, .f32⟩
  | .hbm, ⟨32, _⟩ => ⟨S2x2048x1024, .f32⟩
  | .hbm, ⟨33, _⟩ => ⟨S2x2048x1024, .f32⟩
  | .hbm, ⟨34, _⟩ => ⟨S1024x5632, .f32⟩
  | .hbm, ⟨35, _⟩ => ⟨S2x2048x5632, .f32⟩
  | .hbm, ⟨36, _⟩ => ⟨S2x2048x1024, .f32⟩
  | .hbm, ⟨37, _⟩ => ⟨S2x2048x1024, .f32⟩
  | .hbm, ⟨38, _⟩ => ⟨S_, .f32⟩
  | .hbm, ⟨39, _⟩ => ⟨S1024, .f32⟩
  | .hbm, ⟨40, _⟩ => ⟨S1x1x1024, .f32⟩
  | .hbm, ⟨41, _⟩ => ⟨S2x2048x1024, .f32⟩
  | .hbm, ⟨42, _⟩ => ⟨S2x2048x1024, .f32⟩
  | .hbm, ⟨43, _⟩ => ⟨S_, .f32⟩
  | .hbm, ⟨44, _⟩ => ⟨S1024, .f32⟩
  | .hbm, ⟨45, _⟩ => ⟨S2x2048x1024, .f32⟩
  | .hbm, ⟨46, _⟩ => ⟨S_, .f32⟩
  | .hbm, ⟨47, _⟩ => ⟨S2x2048, .f32⟩
  | .hbm, ⟨48, _⟩ => ⟨S2x2048x1, .f32⟩
  | .hbm, ⟨49, _⟩ => ⟨S2x2048x1024, .f32⟩
  | .hbm, ⟨50, _⟩ => ⟨S2x2048x1024, .f32⟩
  | .hbm, ⟨51, _⟩ => ⟨S2x2048x1024, .f32⟩
  | .hbm, ⟨52, _⟩ => ⟨S2x2048x1, .f32⟩
  | .hbm, ⟨53, _⟩ => ⟨S_, .f32⟩
  | .hbm, ⟨54, _⟩ => ⟨S2x2048x1, .f32⟩
  | .hbm, ⟨55, _⟩ => ⟨S2x2048x1, .f32⟩
  | .hbm, ⟨56, _⟩ => ⟨S_, .f32⟩
  | .hbm, ⟨57, _⟩ => ⟨S2x2048, .f32⟩
  | .hbm, ⟨58, _⟩ => ⟨S2x2048x1024, .f32⟩
  | .hbm, ⟨59, _⟩ => ⟨S2x2048x1024, .f32⟩
  | .hbm, ⟨60, _⟩ => ⟨S2x2048x1024, .f32⟩
  | .hbm, ⟨61, _⟩ => ⟨S2x2048x1024, .f32⟩
  | .hbm, ⟨62, _⟩ => ⟨S2x2048x1024, .f32⟩
  | .hbm, ⟨63, _⟩ => ⟨S4096x1024, .f32⟩
  | .hbm, ⟨64, _⟩ => ⟨S1x1024, .f32⟩
  | .hbm, ⟨65, _⟩ => ⟨S4096x1024, .f32⟩
  | .hbm, ⟨66, _⟩ => ⟨S4096x1024, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_5 : Ref sig .tc := ⟨.hbm, 43, rfl⟩
abbrev main_v30 : Ref sig .tc := ⟨.hbm, 44, rfl⟩
abbrev main_v31 : Ref sig .tc := ⟨.hbm, 45, rfl⟩
abbrev main_cst_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_7 : Ref sig .tc := ⟨.hbm, 53, rfl⟩
abbrev main_v38 : Ref sig .tc := ⟨.hbm, 54, rfl⟩
abbrev main_v39 : Ref sig .tc := ⟨.hbm, 55, rfl⟩
abbrev main_cst_8 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩

abbrev nD : Nat := 1
abbrev τ : Topo := Topo.v7x

variable {F : FTy → Type} [FloatOps F]
-- ==== InProj.lean ====
abbrev S2x2048x1024 : Shape := ⟨3, ![2, 2048, 1024]⟩
abbrev S1x1024 : Shape := ⟨2, ![1, 1024]⟩
abbrev S1x1024x4544 : Shape := ⟨3, ![1, 1024, 4544]⟩
abbrev S2x2048x4544 : Shape := ⟨3, ![2, 2048, 4544]⟩
abbrev S4096x4544 : Shape := ⟨2, ![4096, 4544]⟩
abbrev S4096x2048 : Shape := ⟨2, ![4096, 2048]⟩
abbrev S4096x4096 : Shape := ⟨2, ![4096, 4096]⟩
abbrev S4096x448 : Shape := ⟨2, ![4096, 448]⟩
abbrev S_ : Shape := ⟨0, ![]⟩
abbrev S4096x64 : Shape := ⟨2, ![4096, 64]⟩
abbrev S4096x512 : Shape := ⟨2, ![4096, 512]⟩
abbrev S1024x4544 : Shape := ⟨2, ![1024, 4544]⟩
abbrev S4544x1024 : Shape := ⟨2, ![4544, 1024]⟩
abbrev S4096x1024 : Shape := ⟨2, ![4096, 1024]⟩
abbrev S8x128 : Shape := ⟨2, ![8, 128]⟩
abbrev S512x4096 : Shape := ⟨2, ![512, 4096]⟩
abbrev S512x512 : Shape := ⟨2, ![512, 512]⟩
abbrev S512x1024 : Shape := ⟨2, ![512, 1024]⟩
abbrev S1024x1024 : Shape := ⟨2, ![1024, 1024]⟩
abbrev S512 : Shape := ⟨1, ![512]⟩
abbrev S512x1 : Shape := ⟨2, ![512, 1]⟩
abbrev S1024 : Shape := ⟨1, ![1024]⟩

abbrev nBuf : Space → Nat
  | .hbm => 23
  | .vmem => 13
  | .smem => 0
  | _ => 0

abbrev bufTy : (tb : Table) → Fin (tcTables nBuf tb) → BufTy
  | .hbm, ⟨0, _⟩ => ⟨S2x2048x1024, .f32⟩
  | .hbm, ⟨1, _⟩ => ⟨S1x1024, .f32⟩
  | .hbm, ⟨2, _⟩ => ⟨S1x1024x4544, .f32⟩
  | .hbm, ⟨3, _⟩ => ⟨S2x2048x4544, .f32⟩
  | .hbm, ⟨4, _⟩ => ⟨S2x2048x1024, .f32⟩
  | .hbm, ⟨5, _⟩ => ⟨S4096x4544, .f32⟩
  | .hbm, ⟨6, _⟩ => ⟨S4096x4544, .bf16⟩
  | .hbm, ⟨7, _⟩ => ⟨S4096x2048, .bf16⟩
  | .hbm, ⟨8, _⟩ => ⟨S4096x2048, .bf16⟩
  | .hbm, ⟨9, _⟩ => ⟨S4096x4096, .bf16⟩
  | .hbm, ⟨10, _⟩ => ⟨S4096x448, .bf16⟩
  | .hbm, ⟨11, _⟩ => ⟨S_, .bf16⟩
  | .hbm, ⟨12, _⟩ => ⟨S4096x64, .bf16⟩
  | .hbm, ⟨13, _⟩ => ⟨S4096x512, .bf16⟩
  | .hbm, ⟨14, _⟩ => ⟨S1024x4544, .f32⟩
  | .hbm, ⟨15, _⟩ => ⟨S4544x1024, .f32⟩
  | .hbm, ⟨16, _⟩ => ⟨S4544x1024, .bf16⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S8x128, .f32⟩
  | .hbm, ⟨21, _⟩ => ⟨S4096x1024, .f32⟩
  | .hbm, ⟨22, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S512x512, .bf16⟩
  | .local _ .vmem, ⟨3, _⟩ => ⟨S512x512, .bf16⟩
  | .local _ .vmem, ⟨4, _⟩ => ⟨S4544x1024, .bf16⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14_0 : Ref sig .tc := ⟨.hbm, 21, rfl⟩
abbrev main_v14_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4544x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== InProjRefIdeal.lean ====
abbrev S2x2048x1024 : Shape := ⟨3, ![2, 2048, 1024]⟩
abbrev S1x1024 : Shape := ⟨2, ![1, 1024]⟩
abbrev S1x1024x4544 : Shape := ⟨3, ![1, 1024, 4544]⟩
abbrev S2x2048x4544 : Shape := ⟨3, ![2, 2048, 4544]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S1024x4544 : Shape := ⟨2, ![1024, 4544]⟩
abbrev S4096x1024 : Shape := ⟨2, ![4096, 1024]⟩

abbrev nBuf : Space → Nat
  | .hbm => 58
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1x1024, .f32⟩
  | .hbm, ⟨2, _⟩ => ⟨S1x1024x4544, .f32⟩
  | .hbm, ⟨3, _⟩ => ⟨S2x2048x4544, .f32⟩
  | .hbm, ⟨4, _⟩ => ⟨S2x2048x1024, .f32⟩
  | .hbm, ⟨5, _⟩ => ⟨S1024, .f32⟩
  | .hbm, ⟨6, _⟩ => ⟨S2x2048x1024, .f32⟩
  | .hbm, ⟨7, _⟩ => ⟨S_, .f32⟩
  | .hbm, ⟨8, _⟩ => ⟨S2x2048x1024, .f32⟩
  | .hbm, ⟨9, _⟩ => ⟨S2x2048x1024, .f32⟩
  | .hbm, ⟨10, _⟩ => ⟨S_, .f32⟩
  | .hbm, ⟨11, _⟩ => ⟨S2x2048, .f32⟩
  | .hbm, ⟨12, _⟩ => ⟨S2x2048x1, .f32⟩
  | .hbm, ⟨13, _⟩ => ⟨S_, .f32⟩
  | .hbm, ⟨14, _⟩ => ⟨S2x2048x1, .f32⟩
  | .hbm, ⟨15, _⟩ => ⟨S2x2048x1, .f32⟩
  | .hbm, ⟨16, _⟩ => ⟨S_, .f32⟩
  | .hbm, ⟨17, _⟩ => ⟨S2x2048x1, .f32⟩
  | .hbm, ⟨18, _⟩ => ⟨S2x2048x1, .f32⟩
  | .hbm, ⟨19, _⟩ => ⟨S2x2048x1, .f32⟩
  | .hbm, ⟨20, _⟩ => ⟨S2x2048x1, .f32⟩
  | .hbm, ⟨21, _⟩ => ⟨S_, .f32⟩
  | .hbm, ⟨22, _⟩ => ⟨S2x2048x1, .f32⟩
  | .hbm, ⟨23, _⟩ => ⟨S2x2048x1, .f32⟩
  | .hbm, ⟨24, _⟩ => ⟨S2x2048x1024, .f32⟩
  | .hbm, ⟨25, _⟩ => ⟨S2x2048x1024, .f32⟩
  | .hbm, ⟨26, _⟩ => ⟨S1x1x1024, .f32⟩
  | .hbm, ⟨27, _⟩ => ⟨S2x2048x1024, .f32⟩
  | .hbm, ⟨28, _⟩ => ⟨S2x2048x1024, .f32⟩
  | .hbm, ⟨29, _⟩ => ⟨S1024x4544, .f32⟩
  | .hbm, ⟨30, _⟩ => ⟨S2x2048x4544, .f32⟩
  | .hbm, ⟨31, _⟩ => ⟨S2x2048x1024, .f32⟩
  | .hbm, ⟨32, _⟩ => ⟨S2x2048x1024, .f32⟩
  | .hbm, ⟨33, _⟩ => ⟨S_, .f32⟩
  | .hbm, ⟨34, _⟩ => ⟨S1024, .f32⟩
  | .hbm, ⟨35, _⟩ => ⟨S1x1x1024, .f32⟩
  | .hbm, ⟨36, _⟩ => ⟨S2x2048x1024, .f32⟩
  | .hbm, ⟨37, _⟩ => ⟨S2x2048x1024, .f32⟩
  | .hbm, ⟨38, _⟩ => ⟨S_, .f32⟩
  | .hbm, ⟨39, _⟩ => ⟨S1024, .f32⟩
  | .hbm, ⟨40, _⟩ => ⟨S2x2048x1024, .f32⟩
  | .hbm, ⟨41, _⟩ => ⟨S_, .f32⟩
  | .hbm, ⟨42, _⟩ => ⟨S2x2048, .f32⟩
  | .hbm, ⟨43, _⟩ => ⟨S2x2048x1, .f32⟩
  | .hbm, ⟨44, _⟩ => ⟨S2x2048x1024, .f32⟩
  | .hbm, ⟨45, _⟩ => ⟨S2x2048x1024, .f32⟩
  | .hbm, ⟨46, _⟩ => ⟨S2x2048x1024, .f32⟩
  | .hbm, ⟨47, _⟩ => ⟨S2x2048x1, .f32⟩
  | .hbm, ⟨48, _⟩ => ⟨S_, .f32⟩
  | .hbm, ⟨49, _⟩ => ⟨S2x2048x1, .f32⟩
  | .hbm, ⟨50, _⟩ => ⟨S2x2048x1, .f32⟩
  | .hbm, ⟨51, _⟩ => ⟨S_, .f32⟩
  | .hbm, ⟨52, _⟩ => ⟨S2x2048, .f32⟩
  | .hbm, ⟨53, _⟩ => ⟨S2x2048x1024, .f32⟩
  | .hbm, ⟨54, _⟩ => ⟨S2x2048x1024, .f32⟩
  | .hbm, ⟨55, _⟩ => ⟨S2x2048x1024, .f32⟩
  | .hbm, ⟨56, _⟩ => ⟨S4096x1024, .f32⟩
  | .hbm, ⟨57, _⟩ => ⟨S1x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_cst_6 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_cst_8 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩

abbrev nD : Nat := 1
abbrev τ : Topo := Topo.v7x

variable {F : FTy → Type} [FloatOps F]
-- ==== Attn.lean ====
abbrev S2x2048x8x192 : Shape := ⟨4, ![2, 2048, 8, 192]⟩
abbrev S2x2048x8x128 : Shape := ⟨4, ![2, 2048, 8, 128]⟩
abbrev S_ : Shape := ⟨0, ![]⟩
abbrev S2x2048x8x64 : Shape := ⟨4, ![2, 2048, 8, 64]⟩
abbrev S2x2048x8x256 : Shape := ⟨4, ![2, 2048, 8, 256]⟩
abbrev S4096x2048 : Shape := ⟨2, ![4096, 2048]⟩
abbrev S4096x1024 : Shape := ⟨2, ![4096, 1024]⟩
abbrev S2048x256 : Shape := ⟨2, ![2048, 256]⟩
abbrev S2048x128 : Shape := ⟨2, ![2048, 128]⟩
abbrev S512x512 : Shape := ⟨2, ![512, 512]⟩
abbrev S512x256 : Shape := ⟨2, ![512, 256]⟩
abbrev S512 : Shape := ⟨1, ![512]⟩
abbrev S512x1 : Shape := ⟨2, ![512, 1]⟩
abbrev S512x128 : Shape := ⟨2, ![512, 128]⟩
abbrev S1024x256 : Shape := ⟨2, ![1024, 256]⟩
abbrev S512x1024 : Shape := ⟨2, ![512, 1024]⟩
abbrev S1024x128 : Shape := ⟨2, ![1024, 128]⟩
abbrev S1536x256 : Shape := ⟨2, ![1536, 256]⟩
abbrev S512x1536 : Shape := ⟨2, ![512, 1536]⟩
abbrev S1536x128 : Shape := ⟨2, ![1536, 128]⟩
abbrev S8x128 : Shape := ⟨2, ![8, 128]⟩
abbrev S512x2048 : Shape := ⟨2, ![512, 2048]⟩

abbrev nBuf : Space → Nat
  | .hbm => 28
  | .vmem => 30
  | .smem => 0
  | _ => 0

abbrev bufTy : (tb : Table) → Fin (tcTables nBuf tb) → BufTy
  | .hbm, ⟨0, _⟩ => ⟨S2x2048x8x192, .f32⟩
  | .hbm, ⟨1, _⟩ => ⟨S2x2048x8x192, .f32⟩
  | .hbm, ⟨2, _⟩ => ⟨S2x2048x8x128, .f32⟩
  | .hbm, ⟨3, _⟩ => ⟨S2x2048x8x128, .f32⟩
  | .hbm, ⟨4, _⟩ => ⟨S_, .f32⟩
  | .hbm, ⟨5, _⟩ => ⟨S2x2048x8x192, .f32⟩
  | .hbm, ⟨6, _⟩ => ⟨S2x2048x8x192, .f32⟩
  | .hbm, ⟨7, _⟩ => ⟨S_, .f32⟩
  | .hbm, ⟨8, _⟩ => ⟨S2x2048x8x64, .f32⟩
  | .hbm, ⟨9, _⟩ => ⟨S2x2048x8x256, .f32⟩
  | .hbm, ⟨10, _⟩ => ⟨S4096x2048, .f32⟩
  | .hbm, ⟨11, _⟩ => ⟨S4096x2048, .bf16⟩
  | .hbm, ⟨12, _⟩ => ⟨S_, .f32⟩
  | .hbm, ⟨13, _⟩ => ⟨S2x2048x8x64, .f32⟩
  | .hbm, ⟨14, _⟩ => ⟨S2x2048x8x256, .f32⟩
  | .hbm, ⟨15, _⟩ => ⟨S4096x2048, .f32⟩
  | .hbm, ⟨16, _⟩ => ⟨S4096x2048, .bf16⟩
  | .hbm, ⟨17, _⟩ => ⟨S4096x1024, .f32⟩
  | .hbm, ⟨18, _⟩ => ⟨S4096x1024, .bf16⟩
  | .hbm, ⟨19, _⟩ => ⟨S4096x1024, .f32⟩
  | .hbm, ⟨20, _⟩ => ⟨S4096x1024, .bf16⟩
  | .hbm, ⟨21, _⟩ => ⟨S4096x1024, .bf16⟩
  | .hbm, ⟨22, _⟩ => ⟨S4096x1024, .f32⟩
  | .hbm, ⟨23, _⟩ => ⟨S_, .f32⟩
  | .hbm, ⟨24, _⟩ => ⟨S8x128, .f32⟩
  | .hbm, ⟨25, _⟩ => ⟨S4096x2048, .bf16⟩
  | .hbm, ⟨26, _⟩ => ⟨S4096x2048, .bf16⟩
  | .hbm, ⟨27, _⟩ => ⟨S4096x1024, .bf16⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .bf16⟩
  | .local _ .vmem, ⟨7, _⟩ => ⟨S2048x128, .bf16⟩
  | .local _ .vmem, ⟨8, _⟩ => ⟨S2048x128, .f32⟩
  | .local _ .vmem, ⟨9, _⟩ => ⟨S2048x128, .f32⟩
  | .local _ .vmem, ⟨10, _⟩ => ⟨S2048x256, .bf16⟩
  | .local _ .vmem, ⟨11, _⟩ => ⟨S2048x256, .bf16⟩
  | .local _ .vmem, ⟨12, _⟩ => ⟨S2048x256, .bf16⟩
  | .local _ .vmem, ⟨13, _⟩ => ⟨S2048x256, .bf16⟩
  | .local _ .vmem, ⟨14, _⟩ => ⟨S2048x128, .bf16⟩
  | .local _ .vmem, ⟨15, _⟩ => ⟨S2048x128, .bf16⟩
  | .local _ .vmem, ⟨16, _⟩ => ⟨S2048x128, .bf16⟩
  | .local _ .vmem, ⟨17, _⟩ => ⟨S2048x128, .bf16⟩
  | .local _ .vmem, ⟨18, _⟩ => ⟨S2048x128, .bf16⟩
  | .local _ .vmem, ⟨19, _⟩ => ⟨S2048x128, .bf16⟩
  | .local _ .vmem, ⟨20, _⟩ => ⟨S2048x128, .f32⟩
  | .local _ .vmem, ⟨21, _⟩ => ⟨S2048x128, .f32⟩
  | .local _ .vmem, ⟨22, _⟩ => ⟨S2048x256, .bf16⟩
  | .local _ .vmem, ⟨23, _⟩ => ⟨S2048x256, .bf16⟩
  | .local _ .vmem, ⟨24, _⟩ => ⟨S2048x256, .bf16⟩
  | .local _ .vmem, ⟨25, _⟩ => ⟨S2048x256, .bf16⟩
  | .local _ .vmem, ⟨26, _⟩ => ⟨S2048x128, .bf16⟩
  | .local _ .vmem, ⟨27, _⟩ => ⟨S2048x128, .bf16⟩
  | .local _ .vmem, ⟨28, _⟩ => ⟨S2048x256, .f32⟩
  | .local _ .vmem, ⟨29, _⟩ => ⟨S2048x128, .f32⟩
  | _, _ => ⟨S2x2048x8x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14_0 : Ref sig .tc := ⟨.hbm, 21, rfl⟩
abbrev main_v14_1 : Ref sig .tc := ⟨.hbm, 22, rfl⟩
abbrev main_cst_2 : Ref sig .tc := ⟨.hbm, 23, rfl⟩
abbrev main_v15 : Ref sig .tc := ⟨.hbm, 24, rfl⟩
abbrev main_v16_0 : Ref sig .tc := ⟨.hbm, 25, rfl⟩
abbrev main_v16_1 : Ref sig .tc := ⟨.hbm, 26, rfl⟩
abbrev main_v16_2 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc1_stg7_0 : Ref sig .tc := ⟨.vmem, 24, rfl⟩
abbrev cc1_stg7_1 : Ref sig .tc := ⟨.vmem, 25, rfl⟩
abbrev cc1_stg8_0 : Ref sig .tc := ⟨.vmem, 26, rfl⟩
abbrev cc1_stg8_1 : Ref sig .tc := ⟨.vmem, 27, rfl⟩
abbrev cc1_scratch0 : Ref sig .tc := ⟨.vmem, 28, rfl⟩
abbrev cc1_scratch1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24
abbrev cc1_sem7_1 : DmaSem sig := 25
abbrev cc1_sem8_0 : DmaSem sig := 26
abbrev cc1_sem8_1 : DmaSem sig := 27

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![2, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S2048x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S2048x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S2048x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S2048x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S2048x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S2048x256 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S2048x256 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S2048x128 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]
-- ==== AttnIdeal.lean ====
variable {F : FTy → Type} [FloatOps F] [Named F]
def κ : String → Option EReal := fun
  | "mask" => some ⊥
  | _ => none
-- ==== AttnRefIdeal.lean ====
abbrev S2x2048x8x192 : Shape := ⟨4, ![2, 2048, 8, 192]⟩
abbrev S2x2048x8x128 : Shape := ⟨4, ![2, 2048, 8, 128]⟩
abbrev S2x8x2048x2048 : Shape := ⟨4, ![2, 8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S2x8x2048 : Shape := ⟨3, ![2, 8, 2048]⟩
abbrev S2x8x2048x1 : Shape := ⟨4, ![2, 8, 2048, 1]⟩
abbrev S2x8x128x2048 : Shape := ⟨4, ![2, 8, 128, 2048]⟩
abbrev S2x8x2048x192 : Shape := ⟨4, ![2, 8, 2048, 192]⟩
abbrev S4096x1024 : Shape := ⟨2, ![4096, 1024]⟩
abbrev S2x2048x8x64 : Shape := ⟨4, ![2, 2048, 8, 64]⟩
abbrev S2x2048x8x256 : Shape := ⟨4, ![2, 2048, 8, 256]⟩
abbrev S4096x2048 : Shape := ⟨2, ![4096, 2048]⟩

abbrev nBuf : Space → Nat
  | .hbm => 103
  | .vmem => 0
  | .smem => 0
  | _ => 0

abbrev bufTy : (tb : Table) → Fin (tcTables nBuf tb) → BufTy
  | .hbm, ⟨0, _⟩ => ⟨S2x2048x8x192, .f32⟩
  | .hbm, ⟨1, _⟩ => ⟨S2x2048x8x192, .f32⟩
  | .hbm, ⟨2, _⟩ => ⟨S2x2048x8x128, .f32⟩
  | .hbm, ⟨3, _⟩ => ⟨S2x2048x8x128, .f32⟩
  | .hbm, ⟨4, _⟩ => ⟨S2x8x2048x2048, .f32⟩
  | .hbm, ⟨5, _⟩ => ⟨S_, .f32⟩
  | .hbm, ⟨6, _⟩ => ⟨S2x8x2048x2048, .f32⟩
  | .hbm, ⟨7, _⟩ => ⟨S2x8x2048x2048, .f32⟩
  | .hbm, ⟨8, _⟩ => ⟨S2048, .i32⟩
  | .hbm, ⟨9, _⟩ => ⟨S1x2048, .i32⟩
  | .hbm, ⟨10, _⟩ => ⟨S2048x1, .i32⟩
  | .hbm, ⟨11, _⟩ => ⟨S2048x2048, .i32⟩
  | .hbm, ⟨12, _⟩ => ⟨S2048x2048, .i32⟩
  | .hbm, ⟨13, _⟩ => ⟨S2048x2048, .i1⟩
  | .hbm, ⟨14, _⟩ => ⟨S_, .f32⟩
  | .hbm, ⟨15, _⟩ => ⟨S_, .f32⟩
  | .hbm, ⟨16, _⟩ => ⟨S2x8x2048x2048, .i1⟩
  | .hbm, ⟨17, _⟩ => ⟨S2x8x2048x2048, .f32⟩
  | .hbm, ⟨18, _⟩ => ⟨S2x8x2048x2048, .f32⟩
  | .hbm, ⟨19, _⟩ => ⟨S_, .f32⟩
  | .hbm, ⟨20, _⟩ => ⟨S2x8x2048x2048, .f32⟩
  | .hbm, ⟨21, _⟩ => ⟨S_, .f32⟩
  | .hbm, ⟨22, _⟩ => ⟨S2x8x2048, .f32⟩
  | .hbm, ⟨23, _⟩ => ⟨S2x8x2048x1, .f32⟩
  | .hbm, ⟨24, _⟩ => ⟨S2x8x2048x2048, .f32⟩
  | .hbm, ⟨25, _⟩ => ⟨S2x8x2048x2048, .i1⟩
  | .hbm, ⟨26, _⟩ => ⟨S2x8x2048x2048, .f32⟩
  | .hbm, ⟨27, _⟩ => ⟨S_, .f32⟩
  | .hbm, ⟨28, _⟩ => ⟨S2x8x2048, .f32⟩
  | .hbm, ⟨29, _⟩ => ⟨S_, .f32⟩
  | .hbm, ⟨30, _⟩ => ⟨S2x8x2048, .f32⟩
  | .hbm, ⟨31, _⟩ => ⟨S2x8x2048, .f32⟩
  | .hbm, ⟨32, _⟩ => ⟨S_, .f32⟩
  | .hbm, ⟨33, _⟩ => ⟨S2x8x2048, .f32⟩
  | .hbm, ⟨34, _⟩ => ⟨S2x8x2048, .i1⟩
  | .hbm, ⟨35, _⟩ => ⟨S_, .f32⟩
  | .hbm, ⟨36, _⟩ => ⟨S2x8x2048, .f32⟩
  | .hbm, ⟨37, _⟩ => ⟨S2x8x2048, .i1⟩
  | .hbm, ⟨38, _⟩ => ⟨S_, .f32⟩
  | .hbm, ⟨39, _⟩ => ⟨S2x8x2048, .f32⟩
  | .hbm, ⟨40, _⟩ => ⟨S_, .f32⟩
  | .hbm, ⟨41, _⟩ => ⟨S2x8x2048, .f32⟩
  | .hbm, ⟨42, _⟩ => ⟨S_, .f32⟩
  | .hbm, ⟨43, _⟩ => ⟨S2x8x2048, .f32⟩
  | .hbm, ⟨44, _⟩ => ⟨S2x8x2048, .f32⟩
  | .hbm, ⟨45, _⟩ => ⟨S2x8x2048, .f32⟩
  | .hbm, ⟨46, _⟩ => ⟨S2x8x2048x1, .f32⟩
  | .hbm, ⟨47, _⟩ => ⟨S2x8x2048x2048, .f32⟩
  | .hbm, ⟨48, _⟩ => ⟨S2x8x2048x2048, .f32⟩
  | .hbm, ⟨49, _⟩ => ⟨S2x8x2048x2048, .f32⟩
  | .hbm, ⟨50, _⟩ => ⟨S_, .f32⟩
  | .hbm, ⟨51, _⟩ => ⟨S2x8x2048, .f32⟩
  | .hbm, ⟨52, _⟩ => ⟨S2x8x2048x1, .f32⟩
  | .hbm, ⟨53, _⟩ => ⟨S2x8x2048x2048, .f32⟩
  | .hbm, ⟨54, _⟩ => ⟨S2x8x2048x2048, .f32⟩
  | .hbm, ⟨55, _⟩ => ⟨S2x8x2048x1, .f32⟩
  | .hbm, ⟨56, _⟩ => ⟨S_, .f32⟩
  | .hbm, ⟨57, _⟩ => ⟨S2x8x2048x1, .f32⟩
  | .hbm, ⟨58, _⟩ => ⟨S2x8x2048x1, .f32⟩
  | .hbm, ⟨59, _⟩ => ⟨S2x8x128x2048, .f32⟩
  | .hbm, ⟨60, _⟩ => ⟨S2x2048x8x128, .f32⟩
  | .hbm, ⟨61, _⟩ => ⟨S2x8x128x2048, .f32⟩
  | .hbm, ⟨62, _⟩ => ⟨S2x8x2048x2048, .f32⟩
  | .hbm, ⟨63, _⟩ => ⟨S2x8x128x2048, .f32⟩
  | .hbm, ⟨64, _⟩ => ⟨S2x2048x8x128, .f32⟩
  | .hbm, ⟨65, _⟩ => ⟨S2x8x2048x2048, .f32⟩
  | .hbm, ⟨66, _⟩ => ⟨S2x8x2048x2048, .f32⟩
  | .hbm, ⟨67, _⟩ => ⟨S2x8x2048x2048, .f32⟩
  | .hbm, ⟨68, _⟩ => ⟨S_, .f32⟩
  | .hbm, ⟨69, _⟩ => ⟨S2x8x2048, .f32⟩
  | .hbm, ⟨70, _⟩ => ⟨S2x8x2048x1, .f32⟩
  | .hbm, ⟨71, _⟩ => ⟨S2x8x2048x1, .f32⟩
  | .hbm, ⟨72, _⟩ => ⟨S2x8x2048x2048, .f32⟩
  | .hbm, ⟨73, _⟩ => ⟨S2x8x2048x2048, .f32⟩
  | .hbm, ⟨74, _⟩ => ⟨S_, .f32⟩
  | .hbm, ⟨75, _⟩ => ⟨S2x8x2048, .f32⟩
  | .hbm, ⟨76, _⟩ => ⟨S2x8x2048x2048, .f32⟩
  | .hbm, ⟨77, _⟩ => ⟨S2x8x2048x2048, .f32⟩
  | .hbm, ⟨78, _⟩ => ⟨S2x8x2048x2048, .f32⟩
  | .hbm, ⟨79, _⟩ => ⟨S_, .f32⟩
  | .hbm, ⟨80, _⟩ => ⟨S2x8x2048x2048, .f32⟩
  | .hbm, ⟨81, _⟩ => ⟨S2x8x2048x2048, .f32⟩
  | .hbm, ⟨82, _⟩ => ⟨S_, .f32⟩
  | .hbm, ⟨83, _⟩ => ⟨S2x8x2048x2048, .f32⟩
  | .hbm, ⟨84, _⟩ => ⟨S2x8x2048x2048, .f32⟩
  | .hbm, ⟨85, _⟩ => ⟨S2x8x2048x192, .f32⟩
  | .hbm, ⟨86, _⟩ => ⟨S2x2048x8x192, .f32⟩
  | .hbm, ⟨87, _⟩ => ⟨S2x8x2048x192, .f32⟩
  | .hbm, ⟨88, _⟩ => ⟨S2x2048x8x192, .f32⟩
  | .hbm, ⟨89, _⟩ => ⟨S4096x1024, .f32⟩
  | .hbm, ⟨90, _⟩ => ⟨S4096x1024, .bf16⟩
  | .hbm, ⟨91, _⟩ => ⟨S_, .f32⟩
  | .hbm, ⟨92, _⟩ => ⟨S2x2048x8x64, .f32⟩
  | .hbm, ⟨93, _⟩ => ⟨S2x2048x8x256, .f32⟩
  | .hbm, ⟨94, _⟩ => ⟨S4096x2048, .f32⟩
  | .hbm, ⟨95, _⟩ => ⟨S4096x2048, .bf16⟩
  | .hbm, ⟨96, _⟩ => ⟨S_, .f32⟩
  | .hbm, ⟨97, _⟩ => ⟨S2x2048x8x64, .f32⟩
  | .hbm, ⟨98, _⟩ => ⟨S2x2048x8x256, .f32⟩
  | .hbm, ⟨99, _⟩ => ⟨S4096x2048, .f32⟩
  | .hbm, ⟨100, _⟩ => ⟨S4096x2048, .bf16⟩
  | .hbm, ⟨101, _⟩ => ⟨S4096x1024, .f32⟩
  | .hbm, ⟨102, _⟩ => ⟨S4096x1024, .bf16⟩
  | _, _ => ⟨S2x2048x8x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_call0_v0 : Ref sig .tc := ⟨.hbm, 15, rfl⟩
abbrev main_v9_1 : Ref sig .tc := ⟨.hbm, 16, rfl⟩
abbrev main_call0_v2 : Ref sig .tc := ⟨.hbm, 17, rfl⟩
abbrev main_v9_0 : Ref sig .tc := ⟨.hbm, 18, rfl⟩
abbrev main_call0_cst : Ref sig .tc := ⟨.hbm, 19, rfl⟩
abbrev main_v9_2 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩
abbrev main_cst_5 : Ref sig .tc := ⟨.hbm, 35, rfl⟩
abbrev main_v20 : Ref sig .tc := ⟨.hbm, 36, rfl⟩
abbrev main_v21 : Ref sig .tc := ⟨.hbm, 37, rfl⟩
abbrev main_cst_6 : Ref sig .tc := ⟨.hbm, 38, rfl⟩
abbrev main_v22 : Ref sig .tc := ⟨.hbm, 39, rfl⟩
abbrev main_cst_7 : Ref sig .tc := ⟨.hbm, 40, rfl⟩
abbrev main_v23 : Ref sig .tc := ⟨.hbm, 41, rfl⟩
abbrev main_cst_8 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_9 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_10 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_11 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_12 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_call1_cst : Ref sig .tc := ⟨.hbm, 79, rfl⟩
abbrev main_call1_v0 : Ref sig .tc := ⟨.hbm, 80, rfl⟩
abbrev main_v56 : Ref sig .tc := ⟨.hbm, 81, rfl⟩
abbrev main_cst_13 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_cst_14 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_cst_15 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩

abbrev nD : Nat := 1
abbrev τ : Topo := Topo.v7x

variable {F : FTy → Type} [FloatOps F]
-- ==== Mixer.lean ====
abbrev S2x2048x1024 : Shape := ⟨3, ![2, 2048, 1024]⟩
abbrev S1x1024 : Shape := ⟨2, ![1, 1024]⟩
abbrev S1x8x128x128 : Shape := ⟨4, ![1, 8, 128, 128]⟩
abbrev S1x8x128 : Shape := ⟨3, ![1, 8, 128]⟩
abbrev S2x2048x4096 : Shape := ⟨3, ![2, 2048, 4096]⟩
abbrev S4096x4096 : Shape := ⟨2, ![4096, 4096]⟩
abbrev S4096x1024 : Shape := ⟨2, ![4096, 1024]⟩
abbrev S8x128x128 : Shape := ⟨3, ![8, 128, 128]⟩
abbrev S8x128 : Shape := ⟨2, ![8, 128]⟩
abbrev S8x128x1 : Shape := ⟨3, ![8, 128, 1]⟩
abbrev S_ : Shape := ⟨0, ![]⟩
abbrev S256x1024 : Shape := ⟨2, ![256, 1024]⟩
abbrev S256x4096 : Shape := ⟨2, ![256, 4096]⟩
abbrev S256 : Shape := ⟨1, ![256]⟩
abbrev S256x1 : Shape := ⟨2, ![256, 1]⟩
abbrev S128x128 : Shape := ⟨2, ![128, 128]⟩
abbrev S1x128x128 : Shape := ⟨3, ![1, 128, 128]⟩
abbrev S1x128x1 : Shape := ⟨3, ![1, 128, 1]⟩
abbrev S128x1 : Shape := ⟨2, ![128, 1]⟩
abbrev S128 : Shape := ⟨1, ![128]⟩
abbrev S1024 : Shape := ⟨1, ![1024]⟩

abbrev nBuf : Space → Nat
  | .hbm => 29
  | .vmem => 29
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x1024, .f32⟩
  | .hbm, ⟨3, _⟩ => ⟨S2x2048x1024, .f32⟩
  | .hbm, ⟨4, _⟩ => ⟨S2x2048x1024, .f32⟩
  | .hbm, ⟨5, _⟩ => ⟨S1x1024, .f32⟩
  | .hbm, ⟨6, _⟩ => ⟨S1x1024, .f32⟩
  | .hbm, ⟨7, _⟩ => ⟨S1x8x128x128, .f32⟩
  | .hbm, ⟨8, _⟩ => ⟨S1x8x128, .f32⟩
  | .hbm, ⟨9, _⟩ => ⟨S2x2048x1024, .f32⟩
  | .hbm, ⟨10, _⟩ => ⟨S2x2048x4096, .f32⟩
  | .hbm, ⟨11, _⟩ => ⟨S4096x4096, .f32⟩
  | .hbm, ⟨12, _⟩ => ⟨S4096x4096, .bf16⟩
  | .hbm, ⟨13, _⟩ => ⟨S4096x1024, .f32⟩
  | .hbm, ⟨14, _⟩ => ⟨S4096x1024, .bf16⟩
  | .hbm, ⟨15, _⟩ => ⟨S4096x1024, .f32⟩
  | .hbm, ⟨16, _⟩ => ⟨S4096x1024, .bf16⟩
  | .hbm, ⟨17, _⟩ => ⟨S8x128x128, .f32⟩
  | .hbm, ⟨18, _⟩ => ⟨S8x128x128, .f32⟩
  | .hbm, ⟨19, _⟩ => ⟨S8x128, .f32⟩
  | .hbm, ⟨20, _⟩ => ⟨S8x128x1, .f32⟩
  | .hbm, ⟨21, _⟩ => ⟨S_, .f32⟩
  | .hbm, ⟨22, _⟩ => ⟨S8x128, .f32⟩
  | .hbm, ⟨23, _⟩ => ⟨S4096x4096, .bf16⟩
  | .hbm, ⟨24, _⟩ => ⟨S4096x1024, .bf16⟩
  | .hbm, ⟨25, _⟩ => ⟨S1x1024, .f32⟩
  | .hbm, ⟨26, _⟩ => ⟨S1x1024, .f32⟩
  | .hbm, ⟨27, _⟩ => ⟨S8x128x128, .f32⟩
  | .hbm, ⟨28, _⟩ => ⟨S8x128x1, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S1x1024, .f32⟩
  | .local _ .vmem, ⟨13, _⟩ => ⟨S1x1024, .f32⟩
  | .local _ .vmem, ⟨14, _⟩ => ⟨S8x128x128, .f32⟩
  | .local _ .vmem, ⟨15, _⟩ => ⟨S8x128x128, .f32⟩
  | .local _ .vmem, ⟨16, _⟩ => ⟨S8x128x1, .f32⟩
  | .local _ .vmem, ⟨17, _⟩ => ⟨S256x4096, .bf16⟩
  | .local _ .vmem, ⟨18, _⟩ => ⟨S256x4096, .bf16⟩
  | .local _ .vmem, ⟨19, _⟩ => ⟨S256x1024, .bf16⟩
  | .local _ .vmem, ⟨20, _⟩ => ⟨S256x1024, .bf16⟩
  | .local _ .vmem, ⟨21, _⟩ => ⟨S1x1024, .f32⟩
  | .local _ .vmem, ⟨22, _⟩ => ⟨S1x1024, .f32⟩
  | .local _ .vmem, ⟨23, _⟩ => ⟨S8x128x128, .f32⟩
  | .local _ .vmem, ⟨24, _⟩ => ⟨S8x128x1, .f32⟩
  | .local _ .vmem, ⟨25, _⟩ => ⟨S256x1024, .bf16⟩
  | .local _ .vmem, ⟨26, _⟩ => ⟨S256x1024, .f32⟩
  | .local _ .vmem, ⟨27, _⟩ => ⟨S256x1024, .bf16⟩
  | .local _ .vmem, ⟨28, _⟩ => ⟨S256x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12_0 : Ref sig .tc := ⟨.hbm, 23, rfl⟩
abbrev main_v12_1 : Ref sig .tc := ⟨.hbm, 24, rfl⟩
abbrev main_v12_2 : Ref sig .tc := ⟨.hbm, 25, rfl⟩
abbrev main_v12_3 : Ref sig .tc := ⟨.hbm, 26, rfl⟩
abbrev main_v12_4 : Ref sig .tc := ⟨.hbm, 27, rfl⟩
abbrev main_v12_5 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_scratch0 : Ref sig .tc := ⟨.vmem, 25, rfl⟩
abbrev cc0_scratch1 : Ref sig .tc := ⟨.vmem, 26, rfl⟩
abbrev cc0_scratch2 : Ref sig .tc := ⟨.vmem, 27, rfl⟩
abbrev cc0_scratch3 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem14_0 : DmaSem sig := 22
abbrev cc0_sem15_0 : DmaSem sig := 23
abbrev cc0_sem16_0 : DmaSem sig := 24

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x128x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x4096 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S8x128x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S8x128x1 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== MixerIdeal.lean ====
variable {F : FTy → Type} [FloatOps F] [Named F]
def κ : String → Option EReal := fun
  | "gelu_3c" => some ((26829 / 200000 : ℝ) : EReal)
  | "gelu_c" => some ((8943 / 200000 : ℝ) : EReal)
  | _ => none
-- ==== MixerRefIdeal.lean ====
abbrev S2x2048x1024 : Shape := ⟨3, ![2, 2048, 1024]⟩
abbrev S1x1024 : Shape := ⟨2, ![1, 1024]⟩
abbrev S1x8x128x128 : Shape := ⟨4, ![1, 8, 128, 128]⟩
abbrev S1x8x128 : Shape := ⟨3, ![1, 8, 128]⟩
abbrev S1024 : Shape := ⟨1, ![1024]⟩
abbrev S8x128x128 : Shape := ⟨3, ![8, 128, 128]⟩
abbrev S8x128 : Shape := ⟨2, ![8, 128]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x16x128x8x128 : Shape := ⟨5, ![2, 16, 128, 8, 128]⟩
abbrev S128x128 : Shape := ⟨2, ![128, 128]⟩
abbrev S1x128x128 : Shape := ⟨3, ![1, 128, 128]⟩
abbrev S8x2x16x128x128 : Shape := ⟨5, ![8, 2, 16, 128, 128]⟩
abbrev S128x8 : Shape := ⟨2, ![128, 8]⟩
abbrev S1x1x128x8x1 : Shape := ⟨5, ![1, 1, 128, 8, 1]⟩
abbrev S2x2048x4096 : Shape := ⟨3, ![2, 2048, 4096]⟩
abbrev S4096x4096 : Shape := ⟨2, ![4096, 4096]⟩
abbrev S4096x1024 : Shape := ⟨2, ![4096, 1024]⟩
abbrev S8x128x1 : Shape := ⟨3, ![8, 128, 1]⟩

abbrev nBuf : Space → Nat
  | .hbm => 272
  | .vmem => 0
  | .smem => 0
  | _ => 0

abbrev hbmTy0_0 (i : Nat) : BufTy := match i % 128 with
  | 0 => ⟨S2x2048x1024, .f32⟩
  | 1 => ⟨S2x2048x1024, .f32⟩
  | 2 => ⟨S2x2048x1024, .f32⟩
  | 3 => ⟨S2x2048x1024, .f32⟩
  | 4 => ⟨S2x2048x1024, .f32⟩
  | 5 => ⟨S1x1024, .f32⟩
  | 6 => ⟨S1x1024, .f32⟩
  | 7 => ⟨S1x8x128x128, .f32⟩
  | 8 => ⟨S1x8x128, .f32⟩
  | 9 => ⟨S2x2048x1024, .f32⟩
  | 10 => ⟨S1024, .f32⟩
  | 11 => ⟨S1024, .f32⟩
  | 12 => ⟨S8x128x128, .f32⟩
  | 13 => ⟨S8x128, .f32⟩
  | 14 => ⟨S_, .f32⟩
  | 15 => ⟨S_, .f32⟩
  | 16 => ⟨S_, .f32⟩
  | 17 => ⟨S2x2048x1024, .f32⟩
  | 18 => ⟨S2x2048x1024, .f32⟩
  | 19 => ⟨S2x2048x1024, .f32⟩
  | 20 => ⟨S_, .f32⟩
  | 21 => ⟨S2x2048x1024, .f32⟩
  | 22 => ⟨S2x2048x1024, .f32⟩
  | 23 => ⟨S_, .f32⟩
  | 24 => ⟨S2x2048x1024, .f32⟩
  | 25 => ⟨S2x2048x1024, .f32⟩
  | 26 => ⟨S2x2048x1024, .f32⟩
  | 27 => ⟨S_, .f32⟩
  | 28 => ⟨S2x2048x1024, .f32⟩
  | 29 => ⟨S2x2048x1024, .f32⟩
  | 30 => ⟨S2x2048x1024, .f32⟩
  | 31 => ⟨S_, .f32⟩
  | 32 => ⟨S2x2048x1024, .f32⟩
  | 33 => ⟨S2x2048x1024, .f32⟩
  | 34 => ⟨S_, .f32⟩
  | 35 => ⟨S2x2048x1024, .f32⟩
  | 36 => ⟨S2x2048x1024, .f32⟩
  | 37 => ⟨S2x2048x1024, .f32⟩
  | 38 => ⟨S_, .f32⟩
  | 39 => ⟨S2x2048x1024, .f32⟩
  | 40 => ⟨S2x2048x1024, .f32⟩
  | 41 => ⟨S_, .f32⟩
  | 42 => ⟨S2x2048x1024, .f32⟩
  | 43 => ⟨S2x2048x1024, .f32⟩
  | 44 => ⟨S2x2048x1024, .f32⟩
  | 45 => ⟨S_, .f32⟩
  | 46 => ⟨S_, .f32⟩
  | 47 => ⟨S_, .f32⟩
  | 48 => ⟨S2x2048x1024, .f32⟩
  | 49 => ⟨S2x2048x1024, .f32⟩
  | 50 => ⟨S2x2048x1024, .f32⟩
  | 51 => ⟨S_, .f32⟩
  | 52 => ⟨S2x2048x1024, .f32⟩
  | 53 => ⟨S2x2048x1024, .f32⟩
  | 54 => ⟨S_, .f32⟩
  | 55 => ⟨S2x2048x1024, .f32⟩
  | 56 => ⟨S2x2048x1024, .f32⟩
  | 57 => ⟨S2x2048x1024, .f32⟩
  | 58 => ⟨S_, .f32⟩
  | 59 => ⟨S2x2048x1024, .f32⟩
  | 60 => ⟨S2x2048x1024, .f32⟩
  | 61 => ⟨S2x2048x1024, .f32⟩
  | 62 => ⟨S_, .f32⟩
  | 63 => ⟨S2x2048x1024, .f32⟩
  | 64 => ⟨S2x2048x1024, .f32⟩
  | 65 => ⟨S_, .f32⟩
  | 66 => ⟨S2x2048x1024, .f32⟩
  | 67 => ⟨S2x2048x1024, .f32⟩
  | 68 => ⟨S2x2048x1024, .f32⟩
  | 69 => ⟨S_, .f32⟩
  | 70 => ⟨S2x2048x1024, .f32⟩
  | 71 => ⟨S2x2048x1024, .f32⟩
  | 72 => ⟨S_, .f32⟩
  | 73 => ⟨S2x2048x1024, .f32⟩
  | 74 => ⟨S2x2048x1024, .f32⟩
  | 75 => ⟨S2x2048x1024, .f32⟩
  | 76 => ⟨S_, .f32⟩
  | 77 => ⟨S2x2048, .f32⟩
  | 78 => ⟨S2x2048x1, .f32⟩
  | 79 => ⟨S_, .f32⟩
  | 80 => ⟨S2x2048x1, .f32⟩
  | 81 => ⟨S2x2048x1, .f32⟩
  | 82 => ⟨S2x2048x1024, .f32⟩
  | 83 => ⟨S2x2048x1024, .f32⟩
  | 84 => ⟨S2x2048x1024, .f32⟩
  | 85 => ⟨S_, .f32⟩
  | 86 => ⟨S2x2048x1024, .f32⟩
  | 87 => ⟨S2x2048x1024, .f32⟩
  | 88 => ⟨S_, .f32⟩
  | 89 => ⟨S2x2048, .f32⟩
  | 90 => ⟨S2x2048x1, .f32⟩
  | 91 => ⟨S_, .f32⟩
  | 92 => ⟨S2x2048x1, .f32⟩
  | 93 => ⟨S2x2048x1, .f32⟩
  | 94 => ⟨S2x2048x1024, .f32⟩
  | 95 => ⟨S2x2048x1024, .f32⟩
  | 96 => ⟨S_, .f32⟩
  | 97 => ⟨S2x2048x1, .f32⟩
  | 98 => ⟨S2x2048x1, .f32⟩
  | 99 => ⟨S2x2048x1, .f32⟩
  | 100 => ⟨S2x2048x1, .f32⟩
  | 101 => ⟨S_, .f32⟩
  | 102 => ⟨S2x2048x1, .f32⟩
  | 103 => ⟨S2x2048x1, .f32⟩
  | 104 => ⟨S2x2048x1024, .f32⟩
  | 105 => ⟨S2x2048x1024, .f32⟩
  | 106 => ⟨S1x1x1024, .f32⟩
  | 107 => ⟨S2x2048x1024, .f32⟩
  | 108 => ⟨S2x2048x1024, .f32⟩
  | 109 => ⟨S1x1x1024, .f32⟩
  | 110 => ⟨S2x2048x1024, .f32⟩
  | 111 => ⟨S2x2048x1024, .f32⟩
  | 112 => ⟨S2x16x128x8x128, .f32⟩
  | 113 => ⟨S_, .i1⟩
  | 114 => ⟨S128x128, .i1⟩
  | 115 => ⟨S128x128, .i32⟩
  | 116 => ⟨S_, .i32⟩
  | 117 => ⟨S128x128, .i32⟩
  | 118 => ⟨S128x128, .i32⟩
  | 119 => ⟨S128x128, .i32⟩
  | 120 => ⟨S128x128, .i1⟩
  | 121 => ⟨S_, .i1⟩
  | 122 => ⟨S128x128, .i1⟩
  | 123 => ⟨S128x128, .i1⟩
  | 124 => ⟨S1x128x128, .i1⟩
  | 125 => ⟨S_, .f32⟩
  | 126 => ⟨S_, .f32⟩
  | 127 => ⟨S8x128x128, .i1⟩
  | _ => ⟨S2x2048x1024, .f32⟩

abbrev hbmTy0_1 (i : Nat) : BufTy := match i % 128 with
  | 0 => ⟨S8x128x128, .f32⟩
  | 1 => ⟨S8x128x128, .f32⟩
  | 2 => ⟨S_, .f32⟩
  | 3 => ⟨S8x128x128, .f32⟩
  | 4 => ⟨S8x2x16x128x128, .f32⟩
  | 5 => ⟨S2x16x128x8x128, .f32⟩
  | 6 => ⟨S128x8, .f32⟩
  | 7 => ⟨S1x1x128x8x1, .f32⟩
  | 8 => ⟨S2x16x128x8x128, .f32⟩
  | 9 => ⟨S2x16x128x8x128, .f32⟩
  | 10 => ⟨S2x2048x1024, .f32⟩
  | 11 => ⟨S2x2048x1024, .f32⟩
  | 12 => ⟨S2x2048x1024, .f32⟩
  | 13 => ⟨S2x2048x1024, .f32⟩
  | 14 => ⟨S_, .f32⟩
  | 15 => ⟨S2x2048x1024, .f32⟩
  | 16 => ⟨S2x2048x1024, .f32⟩
  | 17 => ⟨S_, .f32⟩
  | 18 => ⟨S2x2048x1024, .f32⟩
  | 19 => ⟨S2x2048x1024, .f32⟩
  | 20 => ⟨S_, .f32⟩
  | 21 => ⟨S2x2048x1024, .f32⟩
  | 22 => ⟨S2x2048x1024, .f32⟩
  | 23 => ⟨S2x2048x1024, .f32⟩
  | 24 => ⟨S2x2048x1024, .f32⟩
  | 25 => ⟨S2x2048x1024, .f32⟩
  | 26 => ⟨S2x2048x1024, .f32⟩
  | 27 => ⟨S_, .f32⟩
  | 28 => ⟨S2x2048x1024, .f32⟩
  | 29 => ⟨S2x2048x1024, .f32⟩
  | 30 => ⟨S_, .f32⟩
  | 31 => ⟨S2x2048x1024, .f32⟩
  | 32 => ⟨S2x2048x1024, .f32⟩
  | 33 => ⟨S_, .f32⟩
  | 34 => ⟨S2x2048x1024, .f32⟩
  | 35 => ⟨S2x2048x1024, .f32⟩
  | 36 => ⟨S2x2048x1024, .f32⟩
  | 37 => ⟨S2x2048x1024, .f32⟩
  | 38 => ⟨S2x2048x1024, .f32⟩
  | 39 => ⟨S2x2048x1024, .f32⟩
  | 40 => ⟨S2x2048x1024, .f32⟩
  | 41 => ⟨S2x2048x1024, .f32⟩
  | 42 => ⟨S2x2048x1024, .f32⟩
  | 43 => ⟨S2x2048x1024, .f32⟩
  | 44 => ⟨S2x2048x1024, .f32⟩
  | 45 => ⟨S2x2048x1024, .f32⟩
  | 46 => ⟨S2x2048x1024, .f32⟩
  | 47 => ⟨S2x2048x1024, .f32⟩
  | 48 => ⟨S2x2048x1024, .f32⟩
  | 49 => ⟨S2x16x128x8x128, .f32⟩
  | 50 => ⟨S_, .f32⟩
  | 51 => ⟨S128x8, .f32⟩
  | 52 => ⟨S1x1x128x8x1, .f32⟩
  | 53 => ⟨S_, .f32⟩
  | 54 => ⟨S128x8, .f32⟩
  | 55 => ⟨S8x128, .f32⟩
  | 56 => ⟨S8x2x16x128x128, .f32⟩
  | 57 => ⟨S8x128x128, .f32⟩
  | 58 => ⟨S8x2x16x128x128, .f32⟩
  | 59 => ⟨S2x16x128x8x128, .f32⟩
  | 60 => ⟨S_, .f32⟩
  | 61 => ⟨S8x128x128, .f32⟩
  | 62 => ⟨S8x128x128, .f32⟩
  | 63 => ⟨S2x2048x1024, .f32⟩
  | 64 => ⟨S_, .f32⟩
  | 65 => ⟨S1024, .f32⟩
  | 66 => ⟨S1x1x1024, .f32⟩
  | 67 => ⟨S_, .f32⟩
  | 68 => ⟨S1024, .f32⟩
  | 69 => ⟨S2x2048x1024, .f32⟩
  | 70 => ⟨S_, .f32⟩
  | 71 => ⟨S1024, .f32⟩
  | 72 => ⟨S1x1x1024, .f32⟩
  | 73 => ⟨S2x2048x1024, .f32⟩
  | 74 => ⟨S2x2048x1024, .f32⟩
  | 75 => ⟨S_, .f32⟩
  | 76 => ⟨S1024, .f32⟩
  | 77 => ⟨S2x2048x1024, .f32⟩
  | 78 => ⟨S_, .f32⟩
  | 79 => ⟨S2x2048, .f32⟩
  | 80 => ⟨S2x2048x1, .f32⟩
  | 81 => ⟨S2x2048x1024, .f32⟩
  | 82 => ⟨S2x2048x1024, .f32⟩
  | 83 => ⟨S2x2048x1, .f32⟩
  | 84 => ⟨S2x2048x1024, .f32⟩
  | 85 => ⟨S_, .f32⟩
  | 86 => ⟨S2x2048, .f32⟩
  | 87 => ⟨S2x2048x1, .f32⟩
  | 88 => ⟨S_, .f32⟩
  | 89 => ⟨S2x2048x1, .f32⟩
  | 90 => ⟨S2x2048x1, .f32⟩
  | 91 => ⟨S_, .f32⟩
  | 92 => ⟨S2x2048, .f32⟩
  | 93 => ⟨S2x2048x1024, .f32⟩
  | 94 => ⟨S2x2048x1024, .f32⟩
  | 95 => ⟨S2x2048x1024, .f32⟩
  | 96 => ⟨S_, .f32⟩
  | 97 => ⟨S2x2048, .f32⟩
  | 98 => ⟨S2x2048x1, .f32⟩
  | 99 => ⟨S2x2048x1024, .f32⟩
  | 100 => ⟨S2x2048x1, .f32⟩
  | 101 => ⟨S_, .f32⟩
  | 102 => ⟨S2x2048x1, .f32⟩
  | 103 => ⟨S2x2048x1, .f32⟩
  | 104 => ⟨S_, .f32⟩
  | 105 => ⟨S2x2048, .f32⟩
  | 106 => ⟨S2x2048x1024, .f32⟩
  | 107 => ⟨S2x2048x1024, .f32⟩
  | 108 => ⟨S2x2048x1024, .f32⟩
  | 109 => ⟨S2x2048x1024, .f32⟩
  | 110 => ⟨S_, .f32⟩
  | 111 => ⟨S2x2048x1024, .f32⟩
  | 112 => ⟨S2x2048x1024, .f32⟩
  | 113 => ⟨S2x2048x1024, .f32⟩
  | 114 => ⟨S_, .f32⟩
  | 115 => ⟨S2x2048x1024, .f32⟩
  | 116 => ⟨S2x2048x1024, .f32⟩
  | 117 => ⟨S2x2048x1024, .f32⟩
  | 118 => ⟨S2x2048x1024, .f32⟩
  | 119 => ⟨S2x2048x1024, .f32⟩
  | 120 => ⟨S2x2048x1024, .f32⟩
  | 121 => ⟨S2x2048x1024, .f32⟩
  | 122 => ⟨S2x2048x1024, .f32⟩
  | 123 => ⟨S2x2048x1024, .f32⟩
  | 124 => ⟨S_, .f32⟩
  | 125 => ⟨S2x2048x1024, .f32⟩
  | 126 => ⟨S2x2048x1024, .f32⟩
  | 127 => ⟨S2x2048x1024, .f32⟩
  | _ => ⟨S2x2048x1024, .f32⟩

abbrev hbmTy0_2 (i : Nat) : BufTy := match i % 128 with
  | 0 => ⟨S_, .f32⟩
  | 1 => ⟨S2x2048x1024, .f32⟩
  | 2 => ⟨S2x2048x1024, .f32⟩
  | 3 => ⟨S2x2048x1024, .f32⟩
  | 4 => ⟨S2x2048x1024, .f32⟩
  | 5 => ⟨S2x2048x1024, .f32⟩
  | 6 => ⟨S2x2048x1024, .f32⟩
  | 7 => ⟨S2x2048x1024, .f32⟩
  | 8 => ⟨S2x2048x4096, .f32⟩
  | 9 => ⟨S4096x4096, .f32⟩
  | 10 => ⟨S4096x4096, .bf16⟩
  | 11 => ⟨S4096x1024, .f32⟩
  | 12 => ⟨S4096x1024, .bf16⟩
  | 13 => ⟨S1x1024, .f32⟩
  | 14 => ⟨S1x1024, .f32⟩
  | 15 => ⟨S8x128x1, .f32⟩
  | _ => ⟨S2x2048x1024, .f32⟩

abbrev hbmTy (i : Nat) : BufTy := match i / 128 with
  | 0 => hbmTy0_0 i
  | 1 => hbmTy0_1 i
  | 2 => hbmTy0_2 i
  | _ => ⟨S2x2048x1024, .f32⟩

abbrev bufTy : (tb : Table) → Fin (tcTables nBuf tb) → BufTy
  | .hbm, ⟨i, _⟩ => hbmTy i
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_3 : Ref sig .tc := ⟨.hbm, 31, rfl⟩
abbrev main_v17 : Ref sig .tc := ⟨.hbm, 32, rfl⟩
abbrev main_v18 : Ref sig .tc := ⟨.hbm, 33, rfl⟩
abbrev main_cst_4 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_5 : Ref sig .tc := ⟨.hbm, 38, rfl⟩
abbrev main_v22 : Ref sig .tc := ⟨.hbm, 39, rfl⟩
abbrev main_v23 : Ref sig .tc := ⟨.hbm, 40, rfl⟩
abbrev main_cst_6 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_7 : Ref sig .tc := ⟨.hbm, 45, rfl⟩
abbrev main_cst_8 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_9 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_10 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_11 : Ref sig .tc := ⟨.hbm, 62, rfl⟩
abbrev main_v40 : Ref sig .tc := ⟨.hbm, 63, rfl⟩
abbrev main_v41 : Ref sig .tc := ⟨.hbm, 64, rfl⟩
abbrev main_cst_12 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_13 : Ref sig .tc := ⟨.hbm, 69, rfl⟩
abbrev main_v45 : Ref sig .tc := ⟨.hbm, 70, rfl⟩
abbrev main_v46 : Ref sig .tc := ⟨.hbm, 71, rfl⟩
abbrev main_cst_14 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_cst_15 : Ref sig .tc := ⟨.hbm, 76, rfl⟩
abbrev main_v50 : Ref sig .tc := ⟨.hbm, 77, rfl⟩
abbrev main_v51 : Ref sig .tc := ⟨.hbm, 78, rfl⟩
abbrev main_cst_16 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_cst_17 : Ref sig .tc := ⟨.hbm, 85, rfl⟩
abbrev main_v57 : Ref sig .tc := ⟨.hbm, 86, rfl⟩
abbrev main_v58 : Ref sig .tc := ⟨.hbm, 87, rfl⟩
abbrev main_cst_18 : Ref sig .tc := ⟨.hbm, 88, rfl⟩
abbrev main_v59 : Ref sig .tc := ⟨.hbm, 89, rfl⟩
abbrev main_v60 : Ref sig .tc := ⟨.hbm, 90, rfl⟩
abbrev main_cst_19 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_cst_20 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_cst_21 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_c : Ref sig .tc := ⟨.hbm, 113, rfl⟩
abbrev main_v80 : Ref sig .tc := ⟨.hbm, 114, rfl⟩
abbrev main_call0_v0 : Ref sig .tc := ⟨.hbm, 115, rfl⟩
abbrev main_call0_c : Ref sig .tc := ⟨.hbm, 116, rfl⟩
abbrev main_call0_v1 : Ref sig .tc := ⟨.hbm, 117, rfl⟩
abbrev main_call0_v2 : Ref sig .tc := ⟨.hbm, 118, rfl⟩
abbrev main_call0_v3 : Ref sig .tc := ⟨.hbm, 119, rfl⟩
abbrev main_call0_v4 : Ref sig .tc := ⟨.hbm, 120, rfl⟩
abbrev main_call0_c_0 : Ref sig .tc := ⟨.hbm, 121, rfl⟩
abbrev main_call0_v5 : Ref sig .tc := ⟨.hbm, 122, rfl⟩
abbrev main_v81 : Ref sig .tc := ⟨.hbm, 123, rfl⟩
abbrev main_v82 : Ref sig .tc := ⟨.hbm, 124, rfl⟩
abbrev main_cst_22 : Ref sig .tc := ⟨.hbm, 125, rfl⟩
abbrev main_call1_v0 : Ref sig .tc := ⟨.hbm, 126, rfl⟩
abbrev main_v83_1 : Ref sig .tc := ⟨.hbm, 127, rfl⟩
abbrev main_call1_v2 : Ref sig .tc := ⟨.hbm, 128, rfl⟩
abbrev main_v83_0 : Ref sig .tc := ⟨.hbm, 129, rfl⟩
abbrev main_call1_cst : Ref sig .tc := ⟨.hbm, 130, rfl⟩
abbrev main_v83_2 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_cst_23 : Ref sig .tc := ⟨.hbm, 142, rfl⟩
abbrev main_v94 : Ref sig .tc := ⟨.hbm, 143, rfl⟩
abbrev main_v95 : Ref sig .tc := ⟨.hbm, 144, rfl⟩
abbrev main_cst_24 : Ref sig .tc := ⟨.hbm, 145, rfl⟩
abbrev main_v96 : Ref sig .tc := ⟨.hbm, 146, rfl⟩
abbrev main_v97 : Ref sig .tc := ⟨.hbm, 147, rfl⟩
abbrev main_cst_25 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_cst_26 : Ref sig .tc := ⟨.hbm, 155, rfl⟩
abbrev main_v104 : Ref sig .tc := ⟨.hbm, 156, rfl⟩
abbrev main_v105 : Ref sig .tc := ⟨.hbm, 157, rfl⟩
abbrev main_cst_27 : Ref sig .tc := ⟨.hbm, 158, rfl⟩
abbrev main_v106 : Ref sig .tc := ⟨.hbm, 159, rfl⟩
abbrev main_v107 : Ref sig .tc := ⟨.hbm, 160, rfl⟩
abbrev main_cst_28 : Ref sig .tc := ⟨.hbm, 161, rfl⟩
abbrev main_v108 : Ref sig .tc := ⟨.hbm, 162, rfl⟩
abbrev main_v109 : Ref sig .tc := ⟨.hbm, 163, rfl⟩
abbrev main_v110 : Ref sig .tc := ⟨.hbm, 164, rfl⟩
abbrev main_v111 : Ref sig .tc := ⟨.hbm, 165, rfl⟩
abbrev main_v112 : Ref sig .tc := ⟨.hbm, 166, rfl⟩
abbrev main_v113 : Ref sig .tc := ⟨.hbm, 167, rfl⟩
abbrev main_v114 : Ref sig .tc := ⟨.hbm, 168, rfl⟩
abbrev main_v115 : Ref sig .tc := ⟨.hbm, 169, rfl⟩
abbrev main_v116 : Ref sig .tc := ⟨.hbm, 170, rfl⟩
abbrev main_v117 : Ref sig .tc := ⟨.hbm, 171, rfl⟩
abbrev main_v118 : Ref sig .tc := ⟨.hbm, 172, rfl⟩
abbrev main_v119 : Ref sig .tc := ⟨.hbm, 173, rfl⟩
abbrev main_v120 : Ref sig .tc := ⟨.hbm, 174, rfl⟩
abbrev main_v121 : Ref sig .tc := ⟨.hbm, 175, rfl⟩
abbrev main_v122 : Ref sig .tc := ⟨.hbm, 176, rfl⟩
abbrev main_v123 : Ref sig .tc := ⟨.hbm, 177, rfl⟩
abbrev main_cst_29 : Ref sig .tc := ⟨.hbm, 178, rfl⟩
abbrev main_v124 : Ref sig .tc := ⟨.hbm, 179, rfl⟩
abbrev main_v125 : Ref sig .tc := ⟨.hbm, 180, rfl⟩
abbrev main_cst_30 : Ref sig .tc := ⟨.hbm, 181, rfl⟩
abbrev main_v126 : Ref sig .tc := ⟨.hbm, 182, rfl⟩
abbrev main_v127 : Ref sig .tc := ⟨.hbm, 183, rfl⟩
abbrev main_v128 : Ref sig .tc := ⟨.hbm, 184, rfl⟩
abbrev main_v129 : Ref sig .tc := ⟨.hbm, 185, rfl⟩
abbrev main_v130 : Ref sig .tc := ⟨.hbm, 186, rfl⟩
abbrev main_v131 : Ref sig .tc := ⟨.hbm, 187, rfl⟩
abbrev main_call2_cst : Ref sig .tc := ⟨.hbm, 188, rfl⟩
abbrev main_call2_v0 : Ref sig .tc := ⟨.hbm, 189, rfl⟩
abbrev main_v132 : Ref sig .tc := ⟨.hbm, 190, rfl⟩
abbrev main_v133 : Ref sig .tc := ⟨.hbm, 191, rfl⟩
abbrev main_cst_31 : Ref sig .tc := ⟨.hbm, 192, rfl⟩
abbrev main_v134 : Ref sig .tc := ⟨.hbm, 193, rfl⟩
abbrev main_v135 : Ref sig .tc := ⟨.hbm, 194, rfl⟩
abbrev main_cst_32 : Ref sig .tc := ⟨.hbm, 195, rfl⟩
abbrev main_v136 : Ref sig .tc := ⟨.hbm, 196, rfl⟩
abbrev main_v137 : Ref sig .tc := ⟨.hbm, 197, rfl⟩
abbrev main_cst_33 : Ref sig .tc := ⟨.hbm, 198, rfl⟩
abbrev main_v138 : Ref sig .tc := ⟨.hbm, 199, rfl⟩
abbrev main_v139 : Ref sig .tc := ⟨.hbm, 200, rfl⟩
abbrev main_v140 : Ref sig .tc := ⟨.hbm, 201, rfl⟩
abbrev main_v141 : Ref sig .tc := ⟨.hbm, 202, rfl⟩
abbrev main_cst_34 : Ref sig .tc := ⟨.hbm, 203, rfl⟩
abbrev main_v142 : Ref sig .tc := ⟨.hbm, 204, rfl⟩
abbrev main_v143 : Ref sig .tc := ⟨.hbm, 205, rfl⟩
abbrev main_cst_35 : Ref sig .tc := ⟨.hbm, 206, rfl⟩
abbrev main_v144 : Ref sig .tc := ⟨.hbm, 207, rfl⟩
abbrev main_v145 : Ref sig .tc := ⟨.hbm, 208, rfl⟩
abbrev main_v146 : Ref sig .tc := ⟨.hbm, 209, rfl⟩
abbrev main_v147 : Ref sig .tc := ⟨.hbm, 210, rfl⟩
abbrev main_v148 : Ref sig .tc := ⟨.hbm, 211, rfl⟩
abbrev main_v149 : Ref sig .tc := ⟨.hbm, 212, rfl⟩
abbrev main_cst_36 : Ref sig .tc := ⟨.hbm, 213, rfl⟩
abbrev main_v150 : Ref sig .tc := ⟨.hbm, 214, rfl⟩
abbrev main_v151 : Ref sig .tc := ⟨.hbm, 215, rfl⟩
abbrev main_cst_37 : Ref sig .tc := ⟨.hbm, 216, rfl⟩
abbrev main_v152 : Ref sig .tc := ⟨.hbm, 217, rfl⟩
abbrev main_v153 : Ref sig .tc := ⟨.hbm, 218, rfl⟩
abbrev main_cst_38 : Ref sig .tc := ⟨.hbm, 219, rfl⟩
abbrev main_v154 : Ref sig .tc := ⟨.hbm, 220, rfl⟩
abbrev main_v155 : Ref sig .tc := ⟨.hbm, 221, rfl⟩
abbrev main_v156 : Ref sig .tc := ⟨.hbm, 222, rfl⟩
abbrev main_v157 : Ref sig .tc := ⟨.hbm, 223, rfl⟩
abbrev main_cst_39 : Ref sig .tc := ⟨.hbm, 224, rfl⟩
abbrev main_v158 : Ref sig .tc := ⟨.hbm, 225, rfl⟩
abbrev main_v159 : Ref sig .tc := ⟨.hbm, 226, rfl⟩
abbrev main_v160 : Ref sig .tc := ⟨.hbm, 227, rfl⟩
abbrev main_v161 : Ref sig .tc := ⟨.hbm, 228, rfl⟩
abbrev main_cst_40 : Ref sig .tc := ⟨.hbm, 229, rfl⟩
abbrev main_v162 : Ref sig .tc := ⟨.hbm, 230, rfl⟩
abbrev main_v163 : Ref sig .tc := ⟨.hbm, 231, rfl⟩
abbrev main_cst_41 : Ref sig .tc := ⟨.hbm, 232, rfl⟩
abbrev main_v164 : Ref sig .tc := ⟨.hbm, 233, rfl⟩
abbrev main_v165 : Ref sig .tc := ⟨.hbm, 234, rfl⟩
abbrev main_v166 : Ref sig .tc := ⟨.hbm, 235, rfl⟩
abbrev main_v167 : Ref sig .tc := ⟨.hbm, 236, rfl⟩
abbrev main_v168 : Ref sig .tc := ⟨.hbm, 237, rfl⟩
abbrev main_cst_42 : Ref sig .tc := ⟨.hbm, 238, rfl⟩
abbrev main_v169 : Ref sig .tc := ⟨.hbm, 239, rfl⟩
abbrev main_v170 : Ref sig .tc := ⟨.hbm, 240, rfl⟩
abbrev main_v171 : Ref sig .tc := ⟨.hbm, 241, rfl⟩
abbrev main_cst_43 : Ref sig .tc := ⟨.hbm, 242, rfl⟩
abbrev main_v172 : Ref sig .tc := ⟨.hbm, 243, rfl⟩
abbrev main_v173 : Ref sig .tc := ⟨.hbm, 244, rfl⟩
abbrev main_v174 : Ref sig .tc := ⟨.hbm, 245, rfl⟩
abbrev main_v175 : Ref sig .tc := ⟨.hbm, 246, rfl⟩
abbrev main_v176 : Ref sig .tc := ⟨.hbm, 247, rfl⟩
abbrev main_v177 : Ref sig .tc := ⟨.hbm, 248, rfl⟩
abbrev main_v178 : Ref sig .tc := ⟨.hbm, 249, rfl⟩
abbrev main_v179 : Ref sig .tc := ⟨.hbm, 250, rfl⟩
abbrev main_v180 : Ref sig .tc := ⟨.hbm, 251, rfl⟩
abbrev main_cst_44 : Ref sig .tc := ⟨.hbm, 252, rfl⟩
abbrev main_v181 : Ref sig .tc := ⟨.hbm, 253, rfl⟩
abbrev main_v182 : Ref sig .tc := ⟨.hbm, 254, rfl⟩
abbrev main_v183 : Ref sig .tc := ⟨.hbm, 255, rfl⟩
abbrev main_cst_45 : Ref sig .tc := ⟨.hbm, 256, rfl⟩
abbrev main_v184 : Ref sig .tc := ⟨.hbm, 257, rfl⟩
abbrev main_v185 : Ref sig .tc := ⟨.hbm, 258, rfl⟩
abbrev main_v186 : Ref sig .tc := ⟨.hbm, 259, rfl⟩
abbrev main_v187 : Ref sig .tc := ⟨.hbm, 260, rfl⟩
abbrev main_v188 : Ref sig .tc := ⟨.hbm, 261, rfl⟩
abbrev main_v189 : Ref sig .tc := ⟨.hbm, 262, rfl⟩
abbrev main_v190 : Ref sig .tc := ⟨.hbm, 263, rfl⟩
abbrev main_v191 : Ref sig .tc := ⟨.hbm, 264, rfl⟩
abbrev main_v192 : Ref sig .tc := ⟨.hbm, 265, rfl⟩
abbrev main_v193 : Ref sig .tc := ⟨.hbm, 266, rfl⟩
abbrev main_v194 : Ref sig .tc := ⟨.hbm, 267, rfl⟩
abbrev main_v195 : Ref sig .tc := ⟨.hbm, 268, rfl⟩
abbrev main_v196 : Ref sig .tc := ⟨.hbm, 269, rfl⟩
abbrev main_v197 : Ref sig .tc := ⟨.hbm, 270, rfl⟩
abbrev main_v198 : Ref sig .tc := ⟨.hbm, 271, rfl⟩

abbrev nD : Nat := 1
abbrev τ : Topo := Topo.v7x

variable {F : FTy → Type} [FloatOps F]
-- ==== MlaPrep.lean ====
abbrev S2x2048x256 : Shape := ⟨3, ![2, 2048, 256]⟩
abbrev S2x2048x128 : Shape := ⟨3, ![2, 2048, 128]⟩
abbrev S2x2048x64 : Shape := ⟨3, ![2, 2048, 64]⟩
abbrev S2x2048 : Shape := ⟨2, ![2, 2048]⟩
abbrev S1x256 : Shape := ⟨2, ![1, 256]⟩
abbrev S1x256x1536 : Shape := ⟨3, ![1, 256, 1536]⟩
abbrev S1x128 : Shape := ⟨2, ![1, 128]⟩
abbrev S1x128x2048 : Shape := ⟨3, ![1, 128, 2048]⟩
abbrev S2x2048x8x192 : Shape := ⟨4, ![2, 2048, 8, 192]⟩
abbrev S2x2048x8x128 : Shape := ⟨4, ![2, 2048, 8, 128]⟩
abbrev S_ : Shape := ⟨0, ![]⟩
abbrev S2x2048x512 : Shape := ⟨3, ![2, 2048, 512]⟩
abbrev S4096x512 : Shape := ⟨2, ![4096, 512]⟩
abbrev S32 : Shape := ⟨1, ![32]⟩
abbrev S64 : Shape := ⟨1, ![64]⟩
abbrev S128 : Shape := ⟨1, ![128]⟩
abbrev S256x1536 : Shape := ⟨2, ![256, 1536]⟩
abbrev S1536x256 : Shape := ⟨2, ![1536, 256]⟩
abbrev S8x192x256 : Shape := ⟨3, ![8, 192, 256]⟩
abbrev S8x256x256 : Shape := ⟨3, ![8, 256, 256]⟩
abbrev S2048x256 : Shape := ⟨2, ![2048, 256]⟩
abbrev S4096x1 : Shape := ⟨2, ![4096, 1]⟩
abbrev S128x2048 : Shape := ⟨2, ![128, 2048]⟩
abbrev S2x2048x8x256 : Shape := ⟨4, ![2, 2048, 8, 256]⟩
abbrev S4096x2048 : Shape := ⟨2, ![4096, 2048]⟩
abbrev S4096x1024 : Shape := ⟨2, ![4096, 1024]⟩
abbrev S512x512 : Shape := ⟨2, ![512, 512]⟩
abbrev S512x1 : Shape := ⟨2, ![512, 1]⟩
abbrev S512x2048 : Shape := ⟨2, ![512, 2048]⟩
abbrev S512x1024 : Shape := ⟨2, ![512, 1024]⟩
abbrev S512x128 : Shape := ⟨2, ![512, 128]⟩
abbrev S512x256 : Shape := ⟨2, ![512, 256]⟩
abbrev S512 : Shape := ⟨1, ![512]⟩
abbrev S256 : Shape := ⟨1, ![256]⟩

abbrev nBuf : Space → Nat
  | .hbm => 63
  | .vmem => 25
  | .smem => 0
  | _ => 0

abbrev bufTy : (tb : Table) → Fin (tcTables nBuf tb) → BufTy
  | .hbm, ⟨0, _⟩ => ⟨S2x2048x256, .f32⟩
  | .hbm, ⟨1, _⟩ => ⟨S2x2048x128, .f32⟩
  | .hbm, ⟨2, _⟩ => ⟨S2x2048x64, .f32⟩
  | .hbm, ⟨3, _⟩ => ⟨S2x2048, .i32⟩
  | .hbm, ⟨4, _⟩ => ⟨S1x256, .f32⟩
  | .hbm, ⟨5, _⟩ => ⟨S1x256x1536, .f32⟩
  | .hbm, ⟨6, _⟩ => ⟨S1x128, .f32⟩
  | .hbm, ⟨7, _⟩ => ⟨S1x128x2048, .f32⟩
  | .hbm, ⟨8, _⟩ => ⟨S2x2048x8x192, .f32⟩
  | .hbm, ⟨9, _⟩ => ⟨S2x2048x8x192, .f32⟩
  | .hbm, ⟨10, _⟩ => ⟨S2x2048x8x128, .f32⟩
  | .hbm, ⟨11, _⟩ => ⟨S_, .f32⟩
  | .hbm, ⟨12, _⟩ => ⟨S2x2048x64, .f32⟩
  | .hbm, ⟨13, _⟩ => ⟨S2x2048x512, .f32⟩
  | .hbm, ⟨14, _⟩ => ⟨S4096x512, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S_, .f32⟩
  | .hbm, ⟨23, _⟩ => ⟨S32, .f32⟩
  | .hbm, ⟨24, _⟩ => ⟨S32, .f32⟩
  | .hbm, ⟨25, _⟩ => ⟨S_, .f32⟩
  | .hbm, ⟨26, _⟩ => ⟨S32, .f32⟩
  | .hbm, ⟨27, _⟩ => ⟨S32, .f32⟩
  | .hbm, ⟨28, _⟩ => ⟨S_, .f32⟩
  | .hbm, ⟨29, _⟩ => ⟨S32, .f32⟩
  | .hbm, ⟨30, _⟩ => ⟨S32, .f32⟩
  | .hbm, ⟨31, _⟩ => ⟨S_, .f32⟩
  | .hbm, ⟨32, _⟩ => ⟨S64, .f32⟩
  | .hbm, ⟨33, _⟩ => ⟨S128, .f32⟩
  | .hbm, ⟨34, _⟩ => ⟨S1x128, .f32⟩
  | .hbm, ⟨35, _⟩ => ⟨S256x1536, .f32⟩
  | .hbm, ⟨36, _⟩ => ⟨S1536x256, .f32⟩
  | .hbm, ⟨37, _⟩ => ⟨S1536x256, .bf16⟩
  | .hbm, ⟨38, _⟩ => ⟨S8x192x256, .bf16⟩
  | .hbm, ⟨39, _⟩ => ⟨S_, .i32⟩
  | .hbm, ⟨40, _⟩ => ⟨S_, .bf16⟩
  | .hbm, ⟨41, _⟩ => ⟨S8x256x256, .bf16⟩
  | .hbm, ⟨42, _⟩ => ⟨S2048x256, .bf16⟩
  | .hbm, ⟨43, _⟩ => ⟨S4096x1, .i32⟩
  | .hbm, ⟨44, _⟩ => ⟨S128x2048, .f32⟩
  | .hbm, ⟨45, _⟩ => ⟨S128x2048, .bf16⟩
  | .hbm, ⟨46, _⟩ => ⟨S_, .i32⟩
  | .hbm, ⟨47, _⟩ => ⟨S_, .f32⟩
  | .hbm, ⟨48, _⟩ => ⟨S2x2048x8x256, .f32⟩
  | .hbm, ⟨49, _⟩ => ⟨S4096x2048, .f32⟩
  | .hbm, ⟨50, _⟩ => ⟨S4096x2048, .bf16⟩
  | .hbm, ⟨51, _⟩ => ⟨S_, .i32⟩
  | .hbm, ⟨52, _⟩ => ⟨S_, .f32⟩
  | .hbm, ⟨53, _⟩ => ⟨S2x2048x8x256, .f32⟩
  | .hbm, ⟨54, _⟩ => ⟨S4096x2048, .f32⟩
  | .hbm, ⟨55, _⟩ => ⟨S4096x2048, .bf16⟩
  | .hbm, ⟨56, _⟩ => ⟨S4096x1024, .f32⟩
  | .hbm, ⟨57, _⟩ => ⟨S4096x1024, .bf16⟩
  | .hbm, ⟨58, _⟩ => ⟨S4096x512, .bf16⟩
  | .hbm, ⟨59, _⟩ => ⟨S2048x256, .bf16⟩
  | .hbm, ⟨60, _⟩ => ⟨S128x2048, .bf16⟩
  | .hbm, ⟨61, _⟩ => ⟨S1x256, .f32⟩
  | .hbm, ⟨62, _⟩ => ⟨S1x128, .f32⟩
  | .local _ .vmem, ⟨0, _⟩ => ⟨S512x512, .f32⟩
  | .local _ .vmem, ⟨1, _⟩ => ⟨S512x512, .f32⟩
  | .local _ .vmem, ⟨2, _⟩ => ⟨S512x1, .i32⟩
  | .local _ .vmem, ⟨3, _⟩ => ⟨S512x1, .i32⟩
  | .local _ .vmem, ⟨4, _⟩ => ⟨S1x128, .f32⟩
  | .local _ .vmem, ⟨5, _⟩ => ⟨S1x256, .f32⟩
  | .local _ .vmem, ⟨6, _⟩ => ⟨S1x128, .f32⟩
  | .local _ .vmem, ⟨7, _⟩ => ⟨S2048x256, .bf16⟩
  | .local _ .vmem, ⟨8, _⟩ => ⟨S128x2048, .bf16⟩
  | .local _ .vmem, ⟨9, _⟩ => ⟨S512x2048, .bf16⟩
  | .local _ .vmem, ⟨10, _⟩ => ⟨S512x2048, .bf16⟩
  | .local _ .vmem, ⟨11, _⟩ => ⟨S512x2048, .bf16⟩
  | .local _ .vmem, ⟨12, _⟩ => ⟨S512x2048, .bf16⟩
  | .local _ .vmem, ⟨13, _⟩ => ⟨S512x1024, .bf16⟩
  | .local _ .vmem, ⟨14, _⟩ => ⟨S512x1024, .bf16⟩
  | .local _ .vmem, ⟨15, _⟩ => ⟨S512x512, .bf16⟩
  | .local _ .vmem, ⟨16, _⟩ => ⟨S512x512, .bf16⟩
  | .local _ .vmem, ⟨17, _⟩ => ⟨S2048x256, .bf16⟩
  | .local _ .vmem, ⟨18, _⟩ => ⟨S128x2048, .bf16⟩
  | .local _ .vmem, ⟨19, _⟩ => ⟨S1x256, .f32⟩
  | .local _ .vmem, ⟨20, _⟩ => ⟨S1x128, .f32⟩
  | .local _ .vmem, ⟨21, _⟩ => ⟨S512x2048, .bf16⟩
  | .local _ .vmem, ⟨22, _⟩ => ⟨S512x2048, .bf16⟩
  | .local _ .vmem, ⟨23, _⟩ => ⟨S2048x256, .f32⟩
  | .local _ .vmem, ⟨24, _⟩ => ⟨S128x2048, .f32⟩
  | _, _ => ⟨S2x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_cst_2 : Ref sig .tc := ⟨.hbm, 22, rfl⟩
abbrev main_v8 : Ref sig .tc := ⟨.hbm, 23, rfl⟩
abbrev main_v9 : Ref sig .tc := ⟨.hbm, 24, rfl⟩
abbrev main_cst_3 : Ref sig .tc := ⟨.hbm, 25, rfl⟩
abbrev main_v10 : Ref sig .tc := ⟨.hbm, 26, rfl⟩
abbrev main_v11 : Ref sig .tc := ⟨.hbm, 27, rfl⟩
abbrev main_cst_4 : Ref sig .tc := ⟨.hbm, 28, rfl⟩
abbrev main_v12 : Ref sig .tc := ⟨.hbm, 29, rfl⟩
abbrev main_v13 : Ref sig .tc := ⟨.hbm, 30, rfl⟩
abbrev main_cst_5 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_c : Ref sig .tc := ⟨.hbm, 39, rfl⟩
abbrev main_call0_v0 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_c_6 : Ref sig .tc := ⟨.hbm, 46, rfl⟩
abbrev main_call1_v0 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_c_7 : Ref sig .tc := ⟨.hbm, 51, rfl⟩
abbrev main_call2_v0 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34_0 : Ref sig .tc := ⟨.hbm, 58, rfl⟩
abbrev main_v34_1 : Ref sig .tc := ⟨.hbm, 59, rfl⟩
abbrev main_v34_2 : Ref sig .tc := ⟨.hbm, 60, rfl⟩
abbrev main_v34_3 : Ref sig .tc := ⟨.hbm, 61, rfl⟩
abbrev main_v34_4 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem12_0 : DmaSem sig := 18
abbrev cc0_sem13_0 : DmaSem sig := 19
abbrev cc0_sem14_0 : DmaSem sig := 20

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v342 : BitVec 1 := Scalar.cmpi .eq arg0 c7_i32
  let v343 : BitVec 32 := Scalar.extui v342
  let c0_i32_182 : BitVec 32 := 0#32
  let v344 : BitVec 1 := Scalar.cmpi .ne v343 c0_i32_182
  v344

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S2048x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x2048 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== MlaPrepRefIdeal.lean ====
abbrev S2x2048x256 : Shape := ⟨3, ![2, 2048, 256]⟩
abbrev S2x2048x128 : Shape := ⟨3, ![2, 2048, 128]⟩
abbrev S2x2048x64 : Shape := ⟨3, ![2, 2048, 64]⟩
abbrev S2x2048 : Shape := ⟨2, ![2, 2048]⟩
abbrev S1x256 : Shape := ⟨2, ![1, 256]⟩
abbrev S1x256x1536 : Shape := ⟨3, ![1, 256, 1536]⟩
abbrev S1x128 : Shape := ⟨2, ![1, 128]⟩
abbrev S1x128x2048 : Shape := ⟨3, ![1, 128, 2048]⟩
abbrev S2x2048x8x192 : Shape := ⟨4, ![2, 2048, 8, 192]⟩
abbrev S2x2048x8x128 : Shape := ⟨4, ![2, 2048, 8, 128]⟩
abbrev S32 : Shape := ⟨1, ![32]⟩
abbrev S_ : Shape := ⟨0, ![]⟩
abbrev S2x2048x1 : Shape := ⟨3, ![2, 2048, 1]⟩
abbrev S1x1x32 : Shape := ⟨3, ![1, 1, 32]⟩
abbrev S2x2048x32 : Shape := ⟨3, ![2, 2048, 32]⟩
abbrev S256 : Shape := ⟨1, ![256]⟩
abbrev S256x1536 : Shape := ⟨2, ![256, 1536]⟩
abbrev S128 : Shape := ⟨1, ![128]⟩
abbrev S128x2048 : Shape := ⟨2, ![128, 2048]⟩
abbrev S1x1x256 : Shape := ⟨3, ![1, 1, 256]⟩
abbrev S2x2048x1536 : Shape := ⟨3, ![2, 2048, 1536]⟩
abbrev S2x2048x8x64 : Shape := ⟨4, ![2, 2048, 8, 64]⟩
abbrev S2x2048x1x32 : Shape := ⟨4, ![2, 2048, 1, 32]⟩
abbrev S2x2048x8x32 : Shape := ⟨4, ![2, 2048, 8, 32]⟩
abbrev S1x1x128 : Shape := ⟨3, ![1, 1, 128]⟩
abbrev S2x2048x2048 : Shape := ⟨3, ![2, 2048, 2048]⟩
abbrev S2x2048x8x256 : Shape := ⟨4, ![2, 2048, 8, 256]⟩
abbrev S2x2048x1x64 : Shape := ⟨4, ![2, 2048, 1, 64]⟩
abbrev S2048x128 : Shape := ⟨2, ![2048, 128]⟩
abbrev S1536x256 : Shape := ⟨2, ![1536, 256]⟩
abbrev S2x2048x512 : Shape := ⟨3, ![2, 2048, 512]⟩
abbrev S4096x512 : Shape := ⟨2, ![4096, 512]⟩
abbrev S8x192x256 : Shape := ⟨3, ![8, 192, 256]⟩
abbrev S8x256x256 : Shape := ⟨3, ![8, 256, 256]⟩
abbrev S2048x256 : Shape := ⟨2, ![2048, 256]⟩

abbrev nBuf : Space → Nat
  | .hbm => 225
  | .vmem => 0
  | .smem => 0
  | _ => 0

abbrev hbmTy0_0 (i : Nat) : BufTy := match i % 128 with
  | 0 => ⟨S2x2048x256, .f32⟩
  | 1 => ⟨S2x2048x128, .f32⟩
  | 2 => ⟨S2x2048x64, .f32⟩
  | 3 => ⟨S2x2048, .i32⟩
  | 4 => ⟨S1x256, .f32⟩
  | 5 => ⟨S1x256x1536, .f32⟩
  | 6 => ⟨S1x128, .f32⟩
  | 7 => ⟨S1x128x2048, .f32⟩
  | 8 => ⟨S2x2048x8x192, .f32⟩
  | 9 => ⟨S2x2048x8x192, .f32⟩
  | 10 => ⟨S2x2048x8x128, .f32⟩
  | 11 => ⟨S32, .f32⟩
  | 12 => ⟨S_, .f32⟩
  | 13 => ⟨S32, .f32⟩
  | 14 => ⟨S32, .f32⟩
  | 15 => ⟨S_, .f32⟩
  | 16 => ⟨S32, .f32⟩
  | 17 => ⟨S32, .f32⟩
  | 18 => ⟨S_, .f32⟩
  | 19 => ⟨S32, .f32⟩
  | 20 => ⟨S32, .f32⟩
  | 21 => ⟨S_, .f32⟩
  | 22 => ⟨S32, .f32⟩
  | 23 => ⟨S32, .f32⟩
  | 24 => ⟨S_, .f32⟩
  | 25 => ⟨S32, .f32⟩
  | 26 => ⟨S32, .f32⟩
  | 27 => ⟨S2x2048, .f32⟩
  | 28 => ⟨S2x2048x1, .f32⟩
  | 29 => ⟨S1x1x32, .f32⟩
  | 30 => ⟨S2x2048x32, .f32⟩
  | 31 => ⟨S2x2048x32, .f32⟩
  | 32 => ⟨S2x2048x32, .f32⟩
  | 33 => ⟨S2x2048x32, .f32⟩
  | 34 => ⟨S2x2048x32, .f32⟩
  | 35 => ⟨S256, .f32⟩
  | 36 => ⟨S256x1536, .f32⟩
  | 37 => ⟨S128, .f32⟩
  | 38 => ⟨S128x2048, .f32⟩
  | 39 => ⟨S2x2048x256, .f32⟩
  | 40 => ⟨S_, .f32⟩
  | 41 => ⟨S2x2048x256, .f32⟩
  | 42 => ⟨S2x2048x256, .f32⟩
  | 43 => ⟨S_, .f32⟩
  | 44 => ⟨S2x2048, .f32⟩
  | 45 => ⟨S2x2048x1, .f32⟩
  | 46 => ⟨S_, .f32⟩
  | 47 => ⟨S2x2048x1, .f32⟩
  | 48 => ⟨S2x2048x1, .f32⟩
  | 49 => ⟨S_, .f32⟩
  | 50 => ⟨S2x2048x1, .f32⟩
  | 51 => ⟨S2x2048x1, .f32⟩
  | 52 => ⟨S2x2048x1, .f32⟩
  | 53 => ⟨S2x2048x1, .f32⟩
  | 54 => ⟨S_, .f32⟩
  | 55 => ⟨S2x2048x1, .f32⟩
  | 56 => ⟨S2x2048x1, .f32⟩
  | 57 => ⟨S2x2048x256, .f32⟩
  | 58 => ⟨S2x2048x256, .f32⟩
  | 59 => ⟨S1x1x256, .f32⟩
  | 60 => ⟨S2x2048x256, .f32⟩
  | 61 => ⟨S2x2048x256, .f32⟩
  | 62 => ⟨S2x2048x1536, .f32⟩
  | 63 => ⟨S2x2048x8x192, .f32⟩
  | 64 => ⟨S2x2048x8x128, .f32⟩
  | 65 => ⟨S2x2048x8x64, .f32⟩
  | 66 => ⟨S2x2048x1x32, .f32⟩
  | 67 => ⟨S2x2048x1x32, .f32⟩
  | 68 => ⟨S2x2048x8x32, .f32⟩
  | 69 => ⟨S2x2048x8x32, .f32⟩
  | 70 => ⟨S2x2048x8x32, .f32⟩
  | 71 => ⟨S2x2048x8x32, .f32⟩
  | 72 => ⟨S2x2048x8x32, .f32⟩
  | 73 => ⟨S2x2048x8x32, .f32⟩
  | 74 => ⟨S2x2048x8x32, .f32⟩
  | 75 => ⟨S2x2048x8x32, .f32⟩
  | 76 => ⟨S2x2048x8x32, .f32⟩
  | 77 => ⟨S2x2048x8x32, .f32⟩
  | 78 => ⟨S2x2048x8x32, .f32⟩
  | 79 => ⟨S2x2048x8x32, .f32⟩
  | 80 => ⟨S2x2048x8x64, .f32⟩
  | 81 => ⟨S2x2048x128, .f32⟩
  | 82 => ⟨S_, .f32⟩
  | 83 => ⟨S2x2048x128, .f32⟩
  | 84 => ⟨S2x2048x128, .f32⟩
  | 85 => ⟨S_, .f32⟩
  | 86 => ⟨S2x2048, .f32⟩
  | 87 => ⟨S2x2048x1, .f32⟩
  | 88 => ⟨S_, .f32⟩
  | 89 => ⟨S2x2048x1, .f32⟩
  | 90 => ⟨S2x2048x1, .f32⟩
  | 91 => ⟨S_, .f32⟩
  | 92 => ⟨S2x2048x1, .f32⟩
  | 93 => ⟨S2x2048x1, .f32⟩
  | 94 => ⟨S2x2048x1, .f32⟩
  | 95 => ⟨S2x2048x1, .f32⟩
  | 96 => ⟨S_, .f32⟩
  | 97 => ⟨S2x2048x1, .f32⟩
  | 98 => ⟨S2x2048x1, .f32⟩
  | 99 => ⟨S2x2048x128, .f32⟩
  | 100 => ⟨S2x2048x128, .f32⟩
  | 101 => ⟨S1x1x128, .f32⟩
  | 102 => ⟨S2x2048x128, .f32⟩
  | 103 => ⟨S2x2048x128, .f32⟩
  | 104 => ⟨S2x2048x2048, .f32⟩
  | 105 => ⟨S2x2048x8x256, .f32⟩
  | 106 => ⟨S2x2048x8x128, .f32⟩
  | 107 => ⟨S2x2048x8x128, .f32⟩
  | 108 => ⟨S2x2048x32, .f32⟩
  | 109 => ⟨S2x2048x32, .f32⟩
  | 110 => ⟨S2x2048x32, .f32⟩
  | 111 => ⟨S2x2048x32, .f32⟩
  | 112 => ⟨S2x2048x32, .f32⟩
  | 113 => ⟨S2x2048x32, .f32⟩
  | 114 => ⟨S2x2048x32, .f32⟩
  | 115 => ⟨S2x2048x32, .f32⟩
  | 116 => ⟨S2x2048x64, .f32⟩
  | 117 => ⟨S2x2048x1x64, .f32⟩
  | 118 => ⟨S2x2048x8x64, .f32⟩
  | 119 => ⟨S2x2048x8x192, .f32⟩
  | 120 => ⟨S2x2048x8x192, .f32⟩
  | 121 => ⟨S2x2048x8x128, .f32⟩
  | 122 => ⟨S2x2048x8x64, .f32⟩
  | 123 => ⟨S2x2048x8x128, .f32⟩
  | 124 => ⟨S2x2048x8x64, .f32⟩
  | 125 => ⟨S_, .f32⟩
  | 126 => ⟨S2x2048x64, .f32⟩
  | 127 => ⟨S2x2048x1x64, .f32⟩
  | _ => ⟨S2x2048x256, .f32⟩

abbrev hbmTy0_1 (i : Nat) : BufTy := match i % 128 with
  | 0 => ⟨S_, .f32⟩
  | 1 => ⟨S2x2048x64, .f32⟩
  | 2 => ⟨S2x2048x32, .f32⟩
  | 3 => ⟨S2x2048x32, .f32⟩
  | 4 => ⟨S2x2048x32, .f32⟩
  | 5 => ⟨S2x2048x32, .f32⟩
  | 6 => ⟨S2x2048x32, .f32⟩
  | 7 => ⟨S2x2048x32, .f32⟩
  | 8 => ⟨S2x2048x32, .f32⟩
  | 9 => ⟨S2x2048x32, .f32⟩
  | 10 => ⟨S2x2048x32, .f32⟩
  | 11 => ⟨S2x2048x64, .f32⟩
  | 12 => ⟨S2x2048x8x256, .f32⟩
  | 13 => ⟨S2x2048x2048, .f32⟩
  | 14 => ⟨S2048x128, .f32⟩
  | 15 => ⟨S128x2048, .f32⟩
  | 16 => ⟨S2x2048x128, .f32⟩
  | 17 => ⟨S2x2048x128, .f32⟩
  | 18 => ⟨S_, .f32⟩
  | 19 => ⟨S128, .f32⟩
  | 20 => ⟨S1x1x128, .f32⟩
  | 21 => ⟨S2x2048x128, .f32⟩
  | 22 => ⟨S2x2048x128, .f32⟩
  | 23 => ⟨S_, .f32⟩
  | 24 => ⟨S128, .f32⟩
  | 25 => ⟨S2x2048x128, .f32⟩
  | 26 => ⟨S_, .f32⟩
  | 27 => ⟨S2x2048, .f32⟩
  | 28 => ⟨S2x2048x1, .f32⟩
  | 29 => ⟨S2x2048x128, .f32⟩
  | 30 => ⟨S2x2048x128, .f32⟩
  | 31 => ⟨S2x2048x1, .f32⟩
  | 32 => ⟨S_, .f32⟩
  | 33 => ⟨S2x2048x1, .f32⟩
  | 34 => ⟨S2x2048x1, .f32⟩
  | 35 => ⟨S_, .f32⟩
  | 36 => ⟨S2x2048, .f32⟩
  | 37 => ⟨S2x2048x128, .f32⟩
  | 38 => ⟨S2x2048x128, .f32⟩
  | 39 => ⟨S2x2048x128, .f32⟩
  | 40 => ⟨S2x2048x8x32, .f32⟩
  | 41 => ⟨S2x2048x8x32, .f32⟩
  | 42 => ⟨S2x2048x8x32, .f32⟩
  | 43 => ⟨S2x2048x8x32, .f32⟩
  | 44 => ⟨S2x2048x8x32, .f32⟩
  | 45 => ⟨S2x2048x8x32, .f32⟩
  | 46 => ⟨S2x2048x8x32, .f32⟩
  | 47 => ⟨S2x2048x8x32, .f32⟩
  | 48 => ⟨S2x2048x8x32, .f32⟩
  | 49 => ⟨S2x2048x8x32, .f32⟩
  | 50 => ⟨S2x2048x8x32, .f32⟩
  | 51 => ⟨S2x2048x8x32, .f32⟩
  | 52 => ⟨S2x2048x8x32, .f32⟩
  | 53 => ⟨S2x2048x8x64, .f32⟩
  | 54 => ⟨S2x2048x8x192, .f32⟩
  | 55 => ⟨S2x2048x1536, .f32⟩
  | 56 => ⟨S1536x256, .f32⟩
  | 57 => ⟨S256x1536, .f32⟩
  | 58 => ⟨S2x2048x256, .f32⟩
  | 59 => ⟨S2x2048x256, .f32⟩
  | 60 => ⟨S_, .f32⟩
  | 61 => ⟨S256, .f32⟩
  | 62 => ⟨S1x1x256, .f32⟩
  | 63 => ⟨S2x2048x256, .f32⟩
  | 64 => ⟨S2x2048x256, .f32⟩
  | 65 => ⟨S_, .f32⟩
  | 66 => ⟨S256, .f32⟩
  | 67 => ⟨S2x2048x256, .f32⟩
  | 68 => ⟨S_, .f32⟩
  | 69 => ⟨S2x2048, .f32⟩
  | 70 => ⟨S2x2048x1, .f32⟩
  | 71 => ⟨S2x2048x256, .f32⟩
  | 72 => ⟨S2x2048x256, .f32⟩
  | 73 => ⟨S2x2048x1, .f32⟩
  | 74 => ⟨S_, .f32⟩
  | 75 => ⟨S2x2048x1, .f32⟩
  | 76 => ⟨S2x2048x1, .f32⟩
  | 77 => ⟨S_, .f32⟩
  | 78 => ⟨S2x2048, .f32⟩
  | 79 => ⟨S2x2048x256, .f32⟩
  | 80 => ⟨S2x2048x256, .f32⟩
  | 81 => ⟨S2x2048x256, .f32⟩
  | 82 => ⟨S_, .f32⟩
  | 83 => ⟨S2x2048x64, .f32⟩
  | 84 => ⟨S2x2048x512, .f32⟩
  | 85 => ⟨S4096x512, .f32⟩
  | 86 => ⟨S1536x256, .f32⟩
  | 87 => ⟨S8x192x256, .f32⟩
  | 88 => ⟨S_, .i32⟩
  | 89 => ⟨S_, .f32⟩
  | 90 => ⟨S8x256x256, .f32⟩
  | 91 => ⟨S4096x512, .bf16⟩
  | 92 => ⟨S2048x256, .f32⟩
  | 93 => ⟨S2048x256, .bf16⟩
  | 94 => ⟨S128x2048, .bf16⟩
  | 95 => ⟨S1x256, .f32⟩
  | 96 => ⟨S1x128, .f32⟩
  | _ => ⟨S2x2048x256, .f32⟩

abbrev hbmTy (i : Nat) : BufTy := match i / 128 with
  | 0 => hbmTy0_0 i
  | 1 => hbmTy0_1 i
  | _ => ⟨S2x2048x256, .f32⟩

abbrev bufTy : (tb : Table) → Fin (tcTables nBuf tb) → BufTy
  | .hbm, ⟨i, _⟩ => hbmTy i
  | _, _ => ⟨S2x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_cst_2 : Ref sig .tc := ⟨.hbm, 21, rfl⟩
abbrev main_v7 : Ref sig .tc := ⟨.hbm, 22, rfl⟩
abbrev main_v8 : Ref sig .tc := ⟨.hbm, 23, rfl⟩
abbrev main_cst_3 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_4 : Ref sig .tc := ⟨.hbm, 40, rfl⟩
abbrev main_v24 : Ref sig .tc := ⟨.hbm, 41, rfl⟩
abbrev main_v25 : Ref sig .tc := ⟨.hbm, 42, rfl⟩
abbrev main_cst_5 : Ref sig .tc := ⟨.hbm, 43, rfl⟩
abbrev main_v26 : Ref sig .tc := ⟨.hbm, 44, rfl⟩
abbrev main_v27 : Ref sig .tc := ⟨.hbm, 45, rfl⟩
abbrev main_cst_6 : Ref sig .tc := ⟨.hbm, 46, rfl⟩
abbrev main_v28 : Ref sig .tc := ⟨.hbm, 47, rfl⟩
abbrev main_v29 : Ref sig .tc := ⟨.hbm, 48, rfl⟩
abbrev main_cst_7 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_8 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_9 : Ref sig .tc := ⟨.hbm, 82, rfl⟩
abbrev main_v61 : Ref sig .tc := ⟨.hbm, 83, rfl⟩
abbrev main_v62 : Ref sig .tc := ⟨.hbm, 84, rfl⟩
abbrev main_cst_10 : Ref sig .tc := ⟨.hbm, 85, rfl⟩
abbrev main_v63 : Ref sig .tc := ⟨.hbm, 86, rfl⟩
abbrev main_v64 : Ref sig .tc := ⟨.hbm, 87, rfl⟩
abbrev main_cst_11 : Ref sig .tc := ⟨.hbm, 88, rfl⟩
abbrev main_v65 : Ref sig .tc := ⟨.hbm, 89, rfl⟩
abbrev main_v66 : Ref sig .tc := ⟨.hbm, 90, rfl⟩
abbrev main_cst_12 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_cst_13 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_cst_14 : Ref sig .tc := ⟨.hbm, 125, rfl⟩
abbrev main_v99 : Ref sig .tc := ⟨.hbm, 126, rfl⟩
abbrev main_v100 : Ref sig .tc := ⟨.hbm, 127, rfl⟩
abbrev main_cst_15 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_cst_16 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_cst_17 : Ref sig .tc := ⟨.hbm, 151, rfl⟩
abbrev main_v122 : Ref sig .tc := ⟨.hbm, 152, rfl⟩
abbrev main_v123 : Ref sig .tc := ⟨.hbm, 153, rfl⟩
abbrev main_cst_18 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_cst_19 : Ref sig .tc := ⟨.hbm, 160, rfl⟩
abbrev main_v129 : Ref sig .tc := ⟨.hbm, 161, rfl⟩
abbrev main_v130 : Ref sig .tc := ⟨.hbm, 162, rfl⟩
abbrev main_cst_20 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_v136 : Ref sig .tc := ⟨.hbm, 169, rfl⟩
abbrev main_v137 : Ref sig .tc := ⟨.hbm, 170, rfl⟩
abbrev main_v138 : Ref sig .tc := ⟨.hbm, 171, rfl⟩
abbrev main_v139 : Ref sig .tc := ⟨.hbm, 172, rfl⟩
abbrev main_v140 : Ref sig .tc := ⟨.hbm, 173, rfl⟩
abbrev main_v141 : Ref sig .tc := ⟨.hbm, 174, rfl⟩
abbrev main_v142 : Ref sig .tc := ⟨.hbm, 175, rfl⟩
abbrev main_v143 : Ref sig .tc := ⟨.hbm, 176, rfl⟩
abbrev main_v144 : Ref sig .tc := ⟨.hbm, 177, rfl⟩
abbrev main_v145 : Ref sig .tc := ⟨.hbm, 178, rfl⟩
abbrev main_v146 : Ref sig .tc := ⟨.hbm, 179, rfl⟩
abbrev main_v147 : Ref sig .tc := ⟨.hbm, 180, rfl⟩
abbrev main_v148 : Ref sig .tc := ⟨.hbm, 181, rfl⟩
abbrev main_v149 : Ref sig .tc := ⟨.hbm, 182, rfl⟩
abbrev main_v150 : Ref sig .tc := ⟨.hbm, 183, rfl⟩
abbrev main_v151 : Ref sig .tc := ⟨.hbm, 184, rfl⟩
abbrev main_v152 : Ref sig .tc := ⟨.hbm, 185, rfl⟩
abbrev main_v153 : Ref sig .tc := ⟨.hbm, 186, rfl⟩
abbrev main_v154 : Ref sig .tc := ⟨.hbm, 187, rfl⟩
abbrev main_cst_21 : Ref sig .tc := ⟨.hbm, 188, rfl⟩
abbrev main_v155 : Ref sig .tc := ⟨.hbm, 189, rfl⟩
abbrev main_v156 : Ref sig .tc := ⟨.hbm, 190, rfl⟩
abbrev main_v157 : Ref sig .tc := ⟨.hbm, 191, rfl⟩
abbrev main_v158 : Ref sig .tc := ⟨.hbm, 192, rfl⟩
abbrev main_cst_22 : Ref sig .tc := ⟨.hbm, 193, rfl⟩
abbrev main_v159 : Ref sig .tc := ⟨.hbm, 194, rfl⟩
abbrev main_v160 : Ref sig .tc := ⟨.hbm, 195, rfl⟩
abbrev main_cst_23 : Ref sig .tc := ⟨.hbm, 196, rfl⟩
abbrev main_v161 : Ref sig .tc := ⟨.hbm, 197, rfl⟩
abbrev main_v162 : Ref sig .tc := ⟨.hbm, 198, rfl⟩
abbrev main_v163 : Ref sig .tc := ⟨.hbm, 199, rfl⟩
abbrev main_v164 : Ref sig .tc := ⟨.hbm, 200, rfl⟩
abbrev main_v165 : Ref sig .tc := ⟨.hbm, 201, rfl⟩
abbrev main_cst_24 : Ref sig .tc := ⟨.hbm, 202, rfl⟩
abbrev main_v166 : Ref sig .tc := ⟨.hbm, 203, rfl⟩
abbrev main_v167 : Ref sig .tc := ⟨.hbm, 204, rfl⟩
abbrev main_cst_25 : Ref sig .tc := ⟨.hbm, 205, rfl⟩
abbrev main_v168 : Ref sig .tc := ⟨.hbm, 206, rfl⟩
abbrev main_v169 : Ref sig .tc := ⟨.hbm, 207, rfl⟩
abbrev main_v170 : Ref sig .tc := ⟨.hbm, 208, rfl⟩
abbrev main_v171 : Ref sig .tc := ⟨.hbm, 209, rfl⟩
abbrev main_cst_26 : Ref sig .tc := ⟨.hbm, 210, rfl⟩
abbrev main_v172 : Ref sig .tc := ⟨.hbm, 211, rfl⟩
abbrev main_v173 : Ref sig .tc := ⟨.hbm, 212, rfl⟩
abbrev main_v174 : Ref sig .tc := ⟨.hbm, 213, rfl⟩
abbrev main_v175 : Ref sig .tc := ⟨.hbm, 214, rfl⟩
abbrev main_v176 : Ref sig .tc := ⟨.hbm, 215, rfl⟩
abbrev main_c : Ref sig .tc := ⟨.hbm, 216, rfl⟩
abbrev main_call0_v0 : Ref sig .tc := ⟨.hbm, 217, rfl⟩
abbrev main_v177 : Ref sig .tc := ⟨.hbm, 218, rfl⟩
abbrev main_v178 : Ref sig .tc := ⟨.hbm, 219, rfl⟩
abbrev main_v179 : Ref sig .tc := ⟨.hbm, 220, rfl⟩
abbrev main_v180 : Ref sig .tc := ⟨.hbm, 221, rfl⟩
abbrev main_v181 : Ref sig .tc := ⟨.hbm, 222, rfl⟩
abbrev main_v182 : Ref sig .tc := ⟨.hbm, 223, rfl⟩
abbrev main_v183 : Ref sig .tc := ⟨.hbm, 224, rfl⟩

abbrev nD : Nat := 1
abbrev τ : Topo := Topo.v7x

variable {F : FTy → Type} [FloatOps F]
-- ==== Proof.Common.Reals.lean ====
/- Lifting: ideal floats are extended reals.  Where every argument is finite, each intermediate value of
   the programs here is (the image of) a real number; these lemmas push that image through the operations the
   programs use, so that the rest of a comparison is real algebra. -/
module

public import Idealize.ShloMosaic.Lib.Claim
public import Idealize.ShloMosaic.Lib.Pointwise
public import Idealize.ShloMosaic.PureOps.Ideal

@[expose] public section

set_option maxRecDepth 16384

noncomputable section

namespace Cert.Reals

open Idealize.ShloMosaic

/-- A finite sum of images of reals is the image of the sum. -/
theorem coe_sum {ι : Type} (s : Finset ι) (f : ι → ℝ) :
    (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- The image of zero. -/
theorem coe_zero' : (0 : EReal) = ((0 : ℝ) : EReal) := rfl

/-- The image of one. -/
theorem coe_one' : (1 : EReal) = ((1 : ℝ) : EReal) := rfl

/-- Division of images by a nonzero real. -/
theorem div_real (x : ℝ) {y : ℝ} (hy : y ≠ 0) :
    Ideal.div (x : EReal) (y : EReal) = ((x / y : ℝ) : EReal) := by
  rw [Ideal.div_coe hy, ← EReal.coe_mul]; congr 1; ring

/-- The reciprocal square root of a positive real. -/
theorem rsqrt_real {x : ℝ} (h : 0 < x) : Ideal.rsqrt (x : EReal) = (((√x)⁻¹ : ℝ) : EReal) := by
  rw [Ideal.rsqrt_coe, if_neg (not_lt.mpr h.le), if_neg h.ne']

/-- A number whose absolute value compares below the word of +∞ is the image of a real. -/
theorem real_of_abs_lt {s : Shape} (x : FVec Ideal s .f32) (h : (⟨0, ![]⟩ : Shape).BroadcastsInDim s ![])
    (hp : cmpf .olt (Host.absf x) (broadcastInDim s ![] h (constant ⟨0, ![]⟩ .f32 0x7F800000#32)) = (fun _ => 1#1)) (i : s.Idx) :
    x i = ((x i : EReal).toReal : EReal) := by
  have hi := congrFun hp i
  have ht : Ideal.ofBits .f32 0x7F800000#32 = ⊤ := by simp [Ideal.ofBits, Ideal.ieee]
  have hlt : max (x i : EReal) (-(x i : EReal)) < ⊤ := by
    simp only [cmpf, Host.absf, broadcastInDim, constant, FloatOps.hostAbsf, FloatOps.ofBits, ht, FloatOps.cmpf, Ideal.absf_def, FloatOps.absf] at hi
    by_contra hn
    simp [Ideal.cmp, hn] at hi
  rw [max_lt_iff] at hlt
  have h1 : (x i : EReal) ≠ ⊤ := hlt.1.ne
  have h2 : (x i : EReal) ≠ ⊥ := fun hb => by rw [hb] at hlt; simp at hlt
  exact (EReal.coe_toReal h1 h2).symm

/-- The word of 1024. -/
theorem w_1024 : Ideal.ofBits .f32 0x44800000#32 = ((1024 : ℝ) : EReal) := by
  simp [Ideal.ofBits, Ideal.ieee, -EReal.coe_mul]; norm_num

/-- The word of the additive constant of every norm. -/
theorem w_eps : Ideal.ofBits .f32 0x358637BD#32 = ((8796093 / 8796093022208 : ℝ) : EReal) := by
  simp [Ideal.ofBits, Ideal.ieee, -EReal.coe_mul]; norm_num

/-- The word of 1/1024. -/
theorem w_inv1024 : Ideal.ofBits .f32 0x3A800000#32 = ((1 / 1024 : ℝ) : EReal) := by
  simp [Ideal.ofBits, Ideal.ieee, -EReal.coe_mul]; norm_num

/-- The word of 1/2. -/
theorem w_half : Ideal.ofBits .f32 0x3F000000#32 = ((1 / 2 : ℝ) : EReal) := by
  simp [Ideal.ofBits, Ideal.ieee, -EReal.coe_mul]; norm_num

/-- The word of -1/2. -/
theorem w_neghalf : Ideal.ofBits .f32 0xBF000000#32 = ((-1 / 2 : ℝ) : EReal) := by
  simp [Ideal.ofBits, Ideal.ieee, -EReal.coe_mul]; norm_num

/-- The word of 2. -/
theorem w_two : Ideal.ofBits .f32 0x40000000#32 = ((2 : ℝ) : EReal) := by
  simp [Ideal.ofBits, Ideal.ieee, -EReal.coe_mul]; norm_num

/-- The word of 0. -/
theorem w_zero : Ideal.ofBits .f32 0x00000000#32 = ((0 : ℝ) : EReal) := by
  simp [Ideal.ofBits, Ideal.ieee, -EReal.coe_mul]

/-- A host sum over the two leading axes of a rank-3 array. -/
theorem hostReduceAdd_lead2 {n0 n1 n2 : ℕ} (h : (⟨3, ![n0, n1, n2]⟩ : Shape).ReducesTo [0, 1] ⟨1, ![n2]⟩)
    (v : (⟨3, ![n0, n1, n2]⟩ : Shape).Idx → EReal) (init : EReal) (j : (⟨1, ![n2]⟩ : Shape).Idx) :
    Ideal.hostReduceAdd h v init j = init + ∑ a : Fin n0, ∑ b : Fin n1, v (ix3 a b (j 0)) := by
  unfold Ideal.hostReduceAdd
  rw [Finset.sum_filter_eq_sum_of_fiber _ (fun k : Fin n0 × Fin n1 => (ix3 k.1 k.2 (j 0) : (⟨3, ![n0, n1, n2]⟩ : Shape).Idx))
    (fun _ _ e => Prod.ext (congrFun e 0) (congrFun e 1)) (fun i => ?_) v, Fintype.sum_prod_type]
  constructor
  · intro e
    refine ⟨(i 0, i 1), ?_⟩
    funext a; apply Fin.ext
    match a with
    | ⟨0, _⟩ => rfl
    | ⟨1, _⟩ => rfl
    | ⟨2, _⟩ => exact (congrArg Fin.val (congrFun e 0)).symm
  · rintro ⟨k, rfl⟩
    funext b; apply Fin.ext
    match b with
    | ⟨0, _⟩ => rfl

end Cert.Reals
-- ==== Proof.Common.Norm.lean ====
/- The real algebra of the root-mean-square norm: its reciprocal root, and its gradient in the two forms the
   programs use. -/
module

public import proofs.«01_k».proof.Proof.Common.Reals

@[expose] public section

noncomputable section

namespace Cert.Reals

/-- The additive constant under the root: the value of the float word of 1e-6. -/
def eps : ℝ := 8796093 / 8796093022208

theorem eps_pos : 0 < eps := by unfold eps; norm_num

variable {n : ℕ}

/-- The mean square of a row plus the constant. -/
def msq (x : Fin n → ℝ) : ℝ := (∑ k, x k * x k) / n + eps

theorem msq_pos (x : Fin n → ℝ) : 0 < msq x :=
  add_pos_of_nonneg_of_pos (div_nonneg (Finset.sum_nonneg fun k _ => mul_self_nonneg _) (Nat.cast_nonneg _)) eps_pos

/-- The reciprocal root of a row. -/
def rinv (x : Fin n → ℝ) : ℝ := (√(msq x))⁻¹

/-- The gradient of `x ↦ x / rms x` at `x`, applied to the cotangent `d`. -/
def rmsBwd (x d : Fin n → ℝ) (j : Fin n) : ℝ :=
  rinv x * (d j - x j * rinv x * ((∑ k, d k * (x k * rinv x)) / n))

/-- The reciprocal root divided by its argument is its cube. -/
theorem rinv_div (x : Fin n → ℝ) : rinv x / msq x = rinv x * rinv x * rinv x := by
  have h := msq_pos x
  have hs : √(msq x) * √(msq x) = msq x := Real.mul_self_sqrt h.le
  unfold rinv
  rw [div_eq_mul_inv, mul_assoc (√(msq x))⁻¹, ← mul_inv (√(msq x)) (√(msq x)), hs]

/-- The gradient as the reference's derivative rules assemble it: the direct part plus the part through the
    reciprocal root, whose derivative is `-1/2 · r / v`, and the square's `2 x`. -/
theorem rmsBwd_vjp (x d : Fin n → ℝ) (j : Fin n) :
    d j * rinv x + (∑ k, x k * d k) * (-1 / 2 * (rinv x / msq x)) / n * (2 * x j) = rmsBwd x d j := by
  have e : (∑ k, d k * (x k * rinv x)) = (∑ k, x k * d k) * rinv x := by
    rw [Finset.sum_mul]; exact Finset.sum_congr rfl fun k _ => by ring
  rw [rinv_div, rmsBwd, e]
  ring

end Cert.Reals
-- ==== Proof.DownLoss.Spec.lean ====
/- What the final norm and the loss compute, over the reals. -/
module

public import proofs.«01_k».proof.Proof.Common.Norm

@[expose] public section

noncomputable section

namespace Cert.DownSpec

open Cert.Reals

variable (A : Fin 2 → Fin 2048 → Fin 2816 → ℝ) (W : Fin 2816 → Fin 1024 → ℝ)
  (X T : Fin 2 → Fin 2048 → Fin 1024 → ℝ) (g : Fin 1024 → ℝ)

/-- The residual stream: `x1 + act · w_down`. -/
def res (b : Fin 2) (s : Fin 2048) (d : Fin 1024) : ℝ := X b s d + ∑ k, A b s k * W k d

/-- The normalised row's error against the target. -/
def err (b : Fin 2) (s : Fin 2048) (d : Fin 1024) : ℝ :=
  res A W X b s d * rinv (res A W X b s) * g d - T b s d

/-- The loss: half the sum over the tokens of the mean squared error of each. -/
def loss : ℝ :=
  1 / 2 * ∑ b, ∑ s, (∑ d, err A W X T g b s d * err A W X T g b s d) / 1024

/-- The cotangent of the normalised, scaled row. -/
def dy (b : Fin 2) (s : Fin 2048) (d : Fin 1024) : ℝ := err A W X T g b s d * (1 / 1024)

/-- The gradient of the final norm's scale. -/
def dgain (d : Fin 1024) : ℝ :=
  ∑ b, ∑ s, dy A W X T g b s d * (res A W X b s d * rinv (res A W X b s))

/-- The gradient of the residual stream. -/
def dres (b : Fin 2) (s : Fin 2048) (d : Fin 1024) : ℝ :=
  rmsBwd (res A W X b s) (fun k => dy A W X T g b s k * g k) d

end Cert.DownSpec
-- ==== Proof.DownLoss.Ref.lean ====
module

public import proofs.«01_k».proof.Proof.Gen.DownLossRefIdeal.Read
public import proofs.«01_k».proof.Proof.DownLoss.Spec

@[expose] public section

set_option maxRecDepth 16384

noncomputable section

namespace Cert.DownLossRefIdeal.Reads

open Idealize.ShloMosaic Idealize.ShloMosaic.TcCoe Idealize.SL.Sem
open Cert.DownLossRefIdeal Cert.DownLossRefIdeal.Read Cert.Reals Cert.DownSpec

variable (x0 : FVec Ideal S2x2048x2816 .f32) (x1 : FVec Ideal S1x2816x1024 .f32)
  (x2 x3 : FVec Ideal S2x2048x1024 .f32) (x4 : FVec Ideal S1024 .f32)
  (A : Fin 2 → Fin 2048 → Fin 2816 → ℝ) (W : Fin 2816 → Fin 1024 → ℝ) (X T : Fin 2 → Fin 2048 → Fin 1024 → ℝ)
  (g : Fin 1024 → ℝ)
  (h0 : ∀ b s k, x0 (ix3 b s k) = (A b s k : EReal)) (h1 : ∀ k d, x1 (ix3 0 k d) = (W k d : EReal))
  (h2 : ∀ b s d, x2 (ix3 b s d) = (X b s d : EReal)) (h3 : ∀ b s d, x3 (ix3 b s d) = (T b s d : EReal))
  (h4 : ∀ d, x4 (ix1 d) = (g d : EReal))

include h0 h1 h2 in
theorem v2_real (b : Fin 2) (s : Fin 2048) (d : Fin 1024) :
    val_main_v2 (F := Ideal) x0 x1 x2 (ix3 b s d) = ((res A W X b s d : ℝ) : EReal) := by
  pointwise [val_main_v2, val_main_v1, val_main_v0]
  simp only [h0, h1, h2, ← EReal.coe_mul, ← EReal.coe_add, coe_sum, res]

include h0 h1 h2 in
theorem v11_real (b : Fin 2) (s : Fin 2048) (u : Fin 1) :
    val_main_v11 (F := Ideal) x0 x1 x2 (ix3 b s u) = ((msq (res A W X b s) : ℝ) : EReal) := by
  pointwise [val_main_v11, val_main_v10, val_main_cst_2, val_main_v9, val_main_v8, val_main_cst_1, val_main_v7, val_main_v6, val_main_v3, val_main_cst_0]
  simp only [v2_real x0 x1 x2 A W X h0 h1 h2, ← EReal.coe_mul, coe_sum, zero_add, w_1024, w_eps, ← EReal.coe_add,
    div_real _ (show (1024 : ℝ) ≠ 0 by norm_num)]
  simp [msq, eps]

include h0 h1 h2 in
theorem v12_real (b : Fin 2) (s : Fin 2048) (u : Fin 1) :
    val_main_v12 (F := Ideal) x0 x1 x2 (ix3 b s u) = ((rinv (res A W X b s) : ℝ) : EReal) := by
  pointwise [val_main_v12]
  rw [v11_real x0 x1 x2 A W X h0 h1 h2, rsqrt_real (msq_pos _)]; rfl

include h0 h1 h2 in
theorem v17_real (b : Fin 2) (s : Fin 2048) (d : Fin 1024) :
    val_main_v17 (F := Ideal) x0 x1 x2 (ix3 b s d) = ((res A W X b s d * rinv (res A W X b s) : ℝ) : EReal) := by
  pointwise [val_main_v17, val_main_v16]
  rw [v12_real x0 x1 x2 A W X h0 h1 h2, v2_real x0 x1 x2 A W X h0 h1 h2, ← EReal.coe_mul]

include h0 h1 h2 h3 h4 in
theorem v21_real (b : Fin 2) (s : Fin 2048) (d : Fin 1024) :
    val_main_v21 (F := Ideal) x0 x1 x2 x3 x4 (ix3 b s d) = ((err A W X T g b s d : ℝ) : EReal) := by
  pointwise [val_main_v21, val_main_v20, val_main_v19, val_main_v18]
  rw [v17_real x0 x1 x2 A W X h0 h1 h2, h3, h4, ← EReal.coe_mul, ← EReal.coe_sub]; rfl

include h0 h1 h2 h3 h4 in
theorem v56_real (p : Fin 8) (q : Fin 128) :
    val_main_v56 (F := Ideal) x0 x1 x2 x3 x4 (ix2 p q) = ((loss A W X T g : ℝ) : EReal) := by
  pointwise [val_main_v56, val_main_v29, val_main_cst_8, val_main_v28, val_main_cst_7, val_main_v27, val_main_v26,
    val_main_cst_6, val_main_v25, val_main_cst_5, val_main_v22, sum_idx2]
  simp only [v21_real x0 x1 x2 x3 x4 A W X T g h0 h1 h2 h3 h4, ← EReal.coe_mul, coe_sum, zero_add, w_1024, w_half,
    div_real _ (show (1024 : ℝ) ≠ 0 by norm_num)]
  rfl

include h0 h1 h2 h3 h4 in
theorem v35_real (b : Fin 2) (s : Fin 2048) (d : Fin 1024) :
    val_main_v35 (F := Ideal) x0 x1 x2 x3 x4 (ix3 b s d) = ((dy A W X T g b s d : ℝ) : EReal) := by
  pointwise [val_main_v35, val_main_v34, val_main_v33, val_main_v32, val_main_cst_11, val_main_v31, val_main_v30,
    val_main_cst_9, val_main_cst_10, val_main_v24, val_main_v23, val_main_cst_4]
  simp only [v21_real x0 x1 x2 x3 x4 A W X T g h0 h1 h2 h3 h4, ← EReal.coe_mul, w_1024, w_half, w_two, mul_one,
    div_real _ (show (1024 : ℝ) ≠ 0 by norm_num), dy]
  congr 1; ring

include h0 h1 h2 h3 h4 in
theorem v57_real (d : Fin 1024) :
    val_main_v57 (F := Ideal) x0 x1 x2 x3 x4 (ix2 0 d) = ((dgain A W X T g d : ℝ) : EReal) := by
  pointwise [val_main_v57, val_main_v41, val_main_cst_13, val_main_v38, val_main_v37, val_main_cst_12, val_main_v36,
    hostReduceAdd_lead2]
  simp only [v35_real x0 x1 x2 x3 x4 A W X T g h0 h1 h2 h3 h4, v17_real x0 x1 x2 A W X h0 h1 h2, ← EReal.coe_mul, coe_sum,
    zero_add, Finset.univ_unique, Finset.sum_singleton, dgain]
  exact congrArg _ (Finset.sum_congr rfl fun b _ => Finset.sum_congr rfl fun s _ => mul_comm _ _)

include h0 h1 h2 h3 h4 in
theorem v53_real (b : Fin 2) (s : Fin 2048) (d : Fin 1024) :
    val_main_v53 (F := Ideal) x0 x1 x2 x3 x4 (ix3 b s d) = ((dres A W X T g b s d : ℝ) : EReal) := by
  pointwise [val_main_v53, val_main_v52, val_main_v51, val_main_v50, val_main_cst_16, val_main_v49, val_main_v48, val_main_cst_15,
    val_main_v47, val_main_v46, val_main_v45, val_main_v44, val_main_v43, val_main_cst_14, val_main_v42, val_main_v40,
    val_main_v39, val_main_v18, val_main_v15, val_main_v14, val_main_cst_3, val_main_v13, val_main_v5, val_main_v4, val_main_cst]
  simp only [v35_real x0 x1 x2 x3 x4 A W X T g h0 h1 h2 h3 h4, v2_real x0 x1 x2 A W X h0 h1 h2, h4,
    v12_real x0 x1 x2 A W X h0 h1 h2, v11_real x0 x1 x2 A W X h0 h1 h2, ← EReal.coe_mul, coe_sum, zero_add,
    div_real _ (msq_pos _).ne', w_1024, w_two, w_neghalf, div_real _ (show (1024 : ℝ) ≠ 0 by norm_num), ← EReal.coe_add]
  simp only [Finset.univ_unique, Finset.sum_singleton, dres, ← rmsBwd_vjp, Nat.cast_ofNat, v12_real x0 x1 x2 A W X h0 h1 h2, v11_real x0 x1 x2 A W X h0 h1 h2,
    ← EReal.coe_mul, ← EReal.coe_add, div_real _ (msq_pos _).ne', div_real _ (show (1024 : ℝ) ≠ 0 by norm_num)]

end Cert.DownLossRefIdeal.Reads
-- ==== Proof.DownLoss.Body.lean ====
/- What the kernel's body computes on one block of rows, over the reals. -/
module

public import proofs.«01_k».proof.Proof.Gen.DownLossIdeal.Skeleton
public import proofs.«01_k».proof.Proof.DownLoss.Spec

@[expose] public section

set_option maxRecDepth 16384

noncomputable section

namespace Cert.DownLossIdeal.Body

open Idealize.ShloMosaic Idealize.ShloMosaic.TcCoe Idealize.SL.Sem
open Cert.DownLossIdeal Cert.DownLossIdeal.Gen Cert.Reals Cert.DownSpec

variable (v3 : FVec Ideal S512x1024 .f32) (v5 : FVec Ideal S512x2816 .bf16) (v7 : FVec Ideal S2816x1024 .bf16)
  (v21 : FVec Ideal S1x1024 .f32) (v25 : FVec Ideal S512x1024 .f32)
  (A : Fin 2 → Fin 2048 → Fin 2816 → ℝ) (W : Fin 2816 → Fin 1024 → ℝ) (X T : Fin 2 → Fin 2048 → Fin 1024 → ℝ)
  (g : Fin 1024 → ℝ) (b : Fin 512 → Fin 2) (s : Fin 512 → Fin 2048)
  (h5 : ∀ r k, v5 (ix2 r k) = (A (b r) (s r) k : EReal)) (h7 : ∀ k d, v7 (ix2 k d) = (W k d : EReal))
  (h3 : ∀ r d, v3 (ix2 r d) = (X (b r) (s r) d : EReal)) (h25 : ∀ r d, v25 (ix2 r d) = (T (b r) (s r) d : EReal))
  (h21 : ∀ d, v21 (ix2 0 d) = (g d : EReal))

include h3 h5 h7 in
/-- The residual stream's rows. -/
theorem pay8_real (r : Fin 512) (d : Fin 1024) :
    k0_pay8 (F := Ideal) v3 v5 v7 (ix2 r d) = ((res A W X (b r) (s r) d : ℝ) : EReal) := by
  pointwise [k0_pay8]
  simp only [h3, h5, h7, ← EReal.coe_mul, ← EReal.coe_add, coe_sum, zero_add, res]

include h3 h5 h7 in
/-- Each row's reciprocal root. -/
theorem pay9_real (r : Fin 512) (u : Fin 1) :
    k0_pay9 (F := Ideal) v3 v5 v7 (ix2 r u) = ((rinv (res A W X (b r) (s r)) : ℝ) : EReal) := by
  pointwise [k0_pay9]
  simp only [pay8_real v3 v5 v7 A W X b s h5 h7 h3, ← EReal.coe_mul, coe_sum, w_1024, w_eps, ← EReal.coe_add,
    div_real _ (show (1024 : ℝ) ≠ 0 by norm_num)]
  rw [rsqrt_real] <;> [skip; (have := msq_pos (res A W X (b r) (s r)); simpa [msq, eps] using this)]
  simp [rinv, msq, eps]

include h3 h5 h7 in
/-- The normalised rows. -/
theorem pay10_real (r : Fin 512) (d : Fin 1024) :
    k0_pay10 (F := Ideal) v3 v5 v7 (ix2 r d) = ((res A W X (b r) (s r) d * rinv (res A W X (b r) (s r)) : ℝ) : EReal) := by
  pointwise [k0_pay10]
  rw [pay8_real v3 v5 v7 A W X b s h5 h7 h3, pay9_real v3 v5 v7 A W X b s h5 h7 h3, ← EReal.coe_mul]

include h3 h5 h7 h21 h25 in
/-- The errors of the rows. -/
theorem pay12_real (r : Fin 512) (d : Fin 1024) :
    k0_pay12 (F := Ideal) v3 v5 v7 v21 v25 (ix2 r d) = ((err A W X T g (b r) (s r) d : ℝ) : EReal) := by
  pointwise [k0_pay12, k0_pay11]
  rw [pay10_real v3 v5 v7 A W X b s h5 h7 h3, h21, h25, ← EReal.coe_mul, ← EReal.coe_sub]; rfl

include h3 h5 h7 h21 h25 in
/-- The cotangents of the normalised rows. -/
theorem pay2_real (r : Fin 512) (d : Fin 1024) :
    k0_pay2 (F := Ideal) (k0_pay12 v3 v5 v7 v21 v25) (ix2 r d) = ((dy A W X T g (b r) (s r) d : ℝ) : EReal) := by
  pointwise [k0_pay2]
  rw [pay12_real v3 v5 v7 v21 v25 A W X T g b s h5 h7 h3 h25 h21, w_inv1024, ← EReal.coe_mul]; rfl

include h3 h5 h7 h21 h25 in
/-- The block's part of the loss: the sum over its rows of the mean squared error. -/
theorem pay1_real (acc : FVec Ideal S8x128 .f32) (p : Fin 8) (q : Fin 128) :
    k0_pay1 (F := Ideal) acc (k0_pay14 v3 v5 v7 v21 v25) (ix2 p q)
      = acc (ix2 p q) + ((1 / 2 * ∑ r : Fin 512, (∑ d, err A W X T g (b r) (s r) d * err A W X T g (b r) (s r) d) / 1024 : ℝ) : EReal) := by
  pointwise [k0_pay1, k0_pay14]
  simp only [pay12_real v3 v5 v7 v21 v25 A W X T g b s h5 h7 h3 h25 h21, ← EReal.coe_mul, coe_sum, w_1024, w_half,
    div_real _ (show (1024 : ℝ) ≠ 0 by norm_num)]
  simp only [Finset.univ_unique, Finset.sum_singleton]

include h3 h5 h7 h21 h25 in
/-- The block's part of the scale's gradient. -/
theorem pay3_real (acc : FVec Ideal S1x1024 .f32) (d : Fin 1024) :
    k0_pay3 (F := Ideal) (k0_pay10 v3 v5 v7) (k0_pay12 v3 v5 v7 v21 v25) acc (ix2 0 d)
      = acc (ix2 0 d) + ((∑ r : Fin 512, dy A W X T g (b r) (s r) d * (res A W X (b r) (s r) d * rinv (res A W X (b r) (s r))) : ℝ) : EReal) := by
  pointwise [k0_pay3]
  simp only [pay2_real v3 v5 v7 v21 v25 A W X T g b s h5 h7 h3 h25 h21, pay10_real v3 v5 v7 A W X b s h5 h7 h3, ← EReal.coe_mul, coe_sum]

include h3 h5 h7 h21 h25 in
/-- The rows' gradients. -/
theorem pay4_real (r : Fin 512) (d : Fin 1024) :
    k0_pay4 (F := Ideal) (k0_pay9 v3 v5 v7) (k0_pay10 v3 v5 v7) (k0_pay11 v21) (k0_pay12 v3 v5 v7 v21 v25) (ix2 r d)
      = ((dres A W X T g (b r) (s r) d : ℝ) : EReal) := by
  pointwise [k0_pay4, k0_pay11]
  simp only [pay2_real v3 v5 v7 v21 v25 A W X T g b s h5 h7 h3 h25 h21, pay10_real v3 v5 v7 A W X b s h5 h7 h3, h21,
    pay9_real v3 v5 v7 A W X b s h5 h7 h3, ← EReal.coe_mul, coe_sum, w_1024, ← EReal.coe_sub,
    div_real _ (show (1024 : ℝ) ≠ 0 by norm_num)]
  simp [dres, rmsBwd]

end Cert.DownLossIdeal.Body
-- ==== Proof.Common.Tokens.lean ====
/- Tokens: the programs number one device's tokens 0 … 4095; token `n` is position `n % 2048` of sequence `n / 2048`. -/
module

public import Idealize.ShloMosaic.Lib.Pointwise

@[expose] public section

noncomputable section

namespace Cert.Tokens

open Idealize.ShloMosaic

/-- The sequence of a token. -/
def tb (n : ℕ) (h : n < 4096) : Fin 2 := ⟨n / 2048, by omega⟩

/-- The position of a token. -/
def ts (n : ℕ) : Fin 2048 := ⟨n % 2048, by omega⟩

/-- A sum over sequences and positions, taken tile by tile: `J` tiles of `R` tokens. -/
theorem sum_tiles {M : Type*} [AddCommMonoid M] (J R : ℕ) (hJ : J * R = 4096) (f : Fin 2 → Fin 2048 → M) :
    ∑ b, ∑ s, f b s = ∑ t : Fin J, ∑ r : Fin R, f (tb (t.val * R + r.val) (by
      have := t.isLt; have := r.isLt
      calc t.val * R + r.val < t.val * R + R := by omega
        _ = (t.val + 1) * R := by rw [Nat.add_mul, Nat.one_mul]
        _ ≤ J * R := Nat.mul_le_mul_right _ (by omega)
        _ = 4096 := hJ)) (ts (t.val * R + r.val)) := by
  rw [← Fin.sum_univ_tiles J R hJ (fun n : Fin 4096 => f (tb n.val n.isLt) (ts n.val)),
    Fin.sum_univ_tiles 2 2048 rfl (fun n : Fin 4096 => f (tb n.val n.isLt) (ts n.val))]
  refine Finset.sum_congr rfl fun b _ => Finset.sum_congr rfl fun s _ => ?_
  have hb := b.isLt; have hs := s.isLt
  congr 1
  · exact Fin.ext (by simp only [tb]; omega)
  · exact Fin.ext (by simp only [ts]; omega)

end Cert.Tokens
-- ==== Proof.DownLoss.Final.lean ====
/- The kernel's result arrays over the reals. -/
module

public import proofs.«01_k».proof.Proof.Gen.DownLossIdeal.Frame
public import proofs.«01_k».proof.Proof.DownLoss.Body
public import proofs.«01_k».proof.Proof.Common.Tokens
public import Idealize.ShloMosaic.Lib.Pipeline.ValueKit

@[expose] public section

set_option maxRecDepth 16384

noncomputable section

namespace Cert.DownLossIdeal.Final

open Idealize.ShloMosaic Idealize.ShloMosaic.TcCoe Idealize.SL.Sem
open Cert.DownLossIdeal Cert.DownLossIdeal.Gen Cert.DownLossIdeal.Body Cert.Reals Cert.DownSpec Cert.Tokens

variable (m : (ℓ : Loc nD τ sig) → Buf (Elt Ideal) ℓ) (c : Dev nD)
  (A : Fin 2 → Fin 2048 → Fin 2816 → ℝ) (W : Fin 2816 → Fin 1024 → ℝ) (X T : Fin 2 → Fin 2048 → Fin 1024 → ℝ)
  (g : Fin 1024 → ℝ)

/-- The argument arrays are images of the real arrays `A`, `W`, `X`, `T`, `g`. -/
def Args : Prop :=
  (∀ b s k, (show FVec Ideal S2x2048x2816 .f32 from m ((c : Thread nD τ).loc main_arg0)) (ix3 b s k) = (A b s k : EReal))
  ∧ (∀ k d, (show FVec Ideal S1x2816x1024 .f32 from m ((c : Thread nD τ).loc main_arg1)) (ix3 0 k d) = (W k d : EReal))
  ∧ (∀ b s d, (show FVec Ideal S2x2048x1024 .f32 from m ((c : Thread nD τ).loc main_arg2)) (ix3 b s d) = (X b s d : EReal))
  ∧ (∀ b s d, (show FVec Ideal S2x2048x1024 .f32 from m ((c : Thread nD τ).loc main_arg3)) (ix3 b s d) = (T b s d : EReal))
  ∧ (∀ d, (show FVec Ideal S1024 .f32 from m ((c : Thread nD τ).loc main_arg4)) (ix1 d) = (g d : EReal))

theorem row_lt (t : Fin cfg0.N) (r : Fin 512) : t.val * 512 + r.val < 4096 := by
  have := lt_of_lt_of_eq t.isLt N_0; have := r.isLt; omega

theorem idx : ∀ t : Fin cfg0.N, win0_0.index t = ![t.val, 0] ∧ win0_1.index t = ![0, 0] ∧ win0_2.index t = ![t.val, 0]
    ∧ win0_3.index t = ![t.val, 0] ∧ win0_4.index t = ![0, 0] ∧ win0_5.index t = ![t.val, 0] ∧ win0_6.index t = ![t.val, 0]
    ∧ win0_7.index t = ![0, 0] ∧ win0_8.index t = ![0, 0] :=
  (by decide +kernel : ∀ t : Fin grid0.N, _)

variable {m c A W X T g} (h : Args m c A W X T g)
include h

theorem blk0 (t : Fin cfg0.N) (r : Fin 512) (k : Fin 2816) :
    (show FVec Ideal S512x2816 .bf16 from iblk m c 0 t) (ix2 r k) = ((A (tb _ (row_lt t r)) (ts (t.val * 512 + r.val)) k : ℝ) : EReal) := by
  rw [← h.1]
  unfold iblk V
  after_results
  blk_simp [idx t]
  pointwise
  blk_ext [idx t, tb, ts]

theorem blk1 (t : Fin cfg0.N) (k : Fin 2816) (d : Fin 1024) :
    (show FVec Ideal S2816x1024 .bf16 from iblk m c 1 t) (ix2 k d) = ((W k d : ℝ) : EReal) := by
  rw [← h.2.1]
  unfold iblk V
  after_results
  blk_simp [idx t]
  pointwise
  blk_ext [idx t, tb, ts]

theorem blk2 (t : Fin cfg0.N) (r : Fin 512) (d : Fin 1024) :
    (show FVec Ideal S512x1024 .f32 from iblk m c 2 t) (ix2 r d) = ((X (tb _ (row_lt t r)) (ts (t.val * 512 + r.val)) d : ℝ) : EReal) := by
  rw [← h.2.2.1]
  unfold iblk V
  after_results
  blk_simp [idx t]
  pointwise
  blk_ext [idx t, tb, ts]

theorem blk3 (t : Fin cfg0.N) (r : Fin 512) (d : Fin 1024) :
    (show FVec Ideal S512x1024 .f32 from iblk m c 3 t) (ix2 r d) = ((T (tb _ (row_lt t r)) (ts (t.val * 512 + r.val)) d : ℝ) : EReal) := by
  rw [← h.2.2.2.1]
  unfold iblk V
  after_results
  blk_simp [idx t]
  pointwise
  blk_ext [idx t, tb, ts]

theorem blk4 (t : Fin cfg0.N) (d : Fin 1024) :
    (show FVec Ideal S1x1024 .f32 from iblk m c 4 t) (ix2 0 d) = ((g d : ℝ) : EReal) := by
  rw [← h.2.2.2.2]
  unfold iblk V
  after_results
  blk_simp [idx t]
  pointwise
  blk_ext [idx t, tb, ts]

/-- One block of the residual stream's gradient. -/
theorem point5 (t : Fin cfg0.N) (y : S512x1024.Idx) :
    k0_pay4 (F := Ideal) (k0_pay9 (iblk m c 2 t) (iblk m c 0 t) (iblk m c 1 t)) (k0_pay10 (iblk m c 2 t) (iblk m c 0 t) (iblk m c 1 t))
      (k0_pay11 (iblk m c 4 t)) (k0_pay12 (iblk m c 2 t) (iblk m c 0 t) (iblk m c 1 t) (iblk m c 4 t) (iblk m c 3 t)) y
      = ((dres A W X T g (tb _ (row_lt t (y 0))) (ts (t.val * 512 + (y 0).val)) (y 1) : ℝ) : EReal) := by
  rw [eq_ix2 y]
  exact pay4_real _ _ _ _ _ A W X T g (fun r => tb _ (row_lt t r)) (fun r => ts (t.val * 512 + r.val))
    (blk0 h t) (blk1 h t) (blk2 h t) (blk3 h t) (blk4 h t) (y 0) (y 1)

/-- The residual stream's gradient, token by token. -/
theorem final5 : (dats m 0 c).arrAt 5 (cfgs 0).N
    = fun i : S4096x1024.Idx => ((dres A W X T g (tb (i 0).val (i 0).isLt) (ts (i 0).val) (i 1) : ℝ) : EReal) := by
  refine (dats m 0 c).arrAt_eq_of_covers 5 _ (by decide +kernel) fun t _ y => ?_
  have e : ∀ y : S512x1024.Idx, ((dres A W X T g (tb _ (row_lt t (y 0))) (ts (t.val * 512 + (y 0).val)) (y 1) : ℝ) : EReal)
      = (fun i : S4096x1024.Idx => ((dres A W X T g (tb (i 0).val (i 0).isLt) (ts (i 0).val) (i 1) : ℝ) : EReal)) (((cfg0.win 5).blk t).view.emb y) := by
    intro y; idx_vars y; blk_simp [idx t]
    exact congrArg (fun z => ((dres A W X T g _ _ z : ℝ) : EReal)) (Fin.ext (by blk_simp [idx t]))
  refine Eq.trans ?_ (e y)
  blk_simp
  rw [after0_5]
  by_cases h0 : t.val % 8 = 0
  · rw [outsAt0_A m c t h0]; frame_out
    exact point5 h t y
  · rw [outsAt0_B m c t h0]; frame_out
    exact point5 h t y

/-- The same gradient in the half format. -/
theorem final6 : (dats m 0 c).arrAt 6 (cfgs 0).N
    = fun i : S4096x1024.Idx => ((dres A W X T g (tb (i 0).val (i 0).isLt) (ts (i 0).val) (i 1) : ℝ) : EReal) := by
  refine (dats m 0 c).arrAt_eq_of_covers 6 _ (by decide +kernel) fun t _ y => ?_
  have e : ∀ y : S512x1024.Idx, ((dres A W X T g (tb _ (row_lt t (y 0))) (ts (t.val * 512 + (y 0).val)) (y 1) : ℝ) : EReal)
      = (fun i : S4096x1024.Idx => ((dres A W X T g (tb (i 0).val (i 0).isLt) (ts (i 0).val) (i 1) : ℝ) : EReal)) (((cfg0.win 6).blk t).view.emb y) := by
    intro y; idx_vars y; blk_simp [idx t]
    exact congrArg (fun z => ((dres A W X T g _ _ z : ℝ) : EReal)) (Fin.ext (by blk_simp [idx t]))
  refine Eq.trans ?_ (e y)
  blk_simp
  rw [after0_6]
  by_cases h0 : t.val % 8 = 0
  · rw [outsAt0_A m c t h0]; frame_out
    exact point5 h t y
  · rw [outsAt0_B m c t h0]; frame_out
    exact point5 h t y

/-- One block's part of the loss, added to what the tile held. -/
theorem point7 (acc : FVec Ideal S8x128 .f32) (t : Fin cfg0.N) (j : S8x128.Idx) :
    k0_pay1 (F := Ideal) (k0_pay13 acc) (k0_pay14 (iblk m c 2 t) (iblk m c 0 t) (iblk m c 1 t) (iblk m c 4 t) (iblk m c 3 t)) j
      = acc j + ((1 / 2 * ∑ r : Fin 512, (∑ d, err A W X T g (tb _ (row_lt t r)) (ts (t.val * 512 + r.val)) d
        * err A W X T g (tb _ (row_lt t r)) (ts (t.val * 512 + r.val)) d) / 1024 : ℝ) : EReal) := by
  have e : k0_pay13 (F := Ideal) acc = acc := by funext i; pointwise [k0_pay13]
  rw [eq_ix2 j, e]
  exact pay1_real _ _ _ _ _ A W X T g (fun r => tb _ (row_lt t r)) (fun r => ts (t.val * 512 + r.val))
    (blk0 h t) (blk1 h t) (blk2 h t) (blk3 h t) (blk4 h t) acc (j 0) (j 1)

/-- The loss, in every entry of its tile. -/
theorem final7 : (dats m 0 c).arrAt 7 (cfgs 0).N = fun _ : S8x128.Idx => ((loss A W X T g : ℝ) : EReal) := by
  refine (dats m 0 c).arrAt_eq_of_after_last 7 t0_7 (by decide +kernel) _ fun j => ?_
  blk_simp
  rw [after0_7, Pipeline.eq_sum_fin_of_reset_step_apply_last (fun n h => (outsAt0 m c n h).2.2.1) 8 (fun _ => 0)
    (fun (p : Fin cfg0.N) _ => ((1 / 2 * ∑ r : Fin 512, (∑ d, err A W X T g (tb _ (row_lt p r)) (ts (p.val * 512 + r.val)) d
      * err A W X T g (tb _ (row_lt p r)) (ts (p.val * 512 + r.val)) d) / 1024 : ℝ) : EReal))
    (fun t h0 j => by rw [outsAt0_A m c t h0]; frame_out; exact (point7 h _ t j).trans (congrArg (· + _) (by pointwise [k0_pay6])))
    (fun t h0 j => by rw [outsAt0_B m c t h0]; frame_out; exact point7 h _ t j)
    (le_of_eq N_0) t0_7 rfl j, zero_add]
  refine (coe_sum _ _).trans (congrArg _ ?_)
  rw [← Finset.mul_sum, loss, sum_tiles 8 512 rfl]
  rfl

/-- One block's part of the scale's gradient, added to what the row held. -/
theorem point8 (acc : FVec Ideal S1x1024 .f32) (t : Fin cfg0.N) (j : S1x1024.Idx) :
    k0_pay3 (F := Ideal) (k0_pay10 (iblk m c 2 t) (iblk m c 0 t) (iblk m c 1 t))
      (k0_pay12 (iblk m c 2 t) (iblk m c 0 t) (iblk m c 1 t) (iblk m c 4 t) (iblk m c 3 t)) acc j
      = acc j + ((∑ r : Fin 512, dy A W X T g (tb _ (row_lt t r)) (ts (t.val * 512 + r.val)) (j 1)
        * (res A W X (tb _ (row_lt t r)) (ts (t.val * 512 + r.val)) (j 1) * rinv (res A W X (tb _ (row_lt t r)) (ts (t.val * 512 + r.val)))) : ℝ) : EReal) := by
  have e : j = ix2 0 (j 1) := by idx_ext
  rw [e]
  exact pay3_real _ _ _ _ _ A W X T g (fun r => tb _ (row_lt t r)) (fun r => ts (t.val * 512 + r.val))
    (blk0 h t) (blk1 h t) (blk2 h t) (blk3 h t) (blk4 h t) acc (j 1)

/-- The gradient of the final norm's scale. -/
theorem final8 : (dats m 0 c).arrAt 8 (cfgs 0).N = fun i : S1x1024.Idx => ((dgain A W X T g (i 1) : ℝ) : EReal) := by
  refine (dats m 0 c).arrAt_eq_of_after_last 8 t0_7 (by decide +kernel) _ fun j => ?_
  blk_simp
  rw [after0_8, Pipeline.eq_sum_fin_of_reset_step_apply_last (fun n h => (outsAt0 m c n h).2.2.2) 8 (fun _ => 0)
    (fun (p : Fin cfg0.N) (j : S1x1024.Idx) => ((∑ r : Fin 512, dy A W X T g (tb _ (row_lt p r)) (ts (p.val * 512 + r.val)) (j 1)
        * (res A W X (tb _ (row_lt p r)) (ts (p.val * 512 + r.val)) (j 1) * rinv (res A W X (tb _ (row_lt p r)) (ts (p.val * 512 + r.val)))) : ℝ) : EReal))
    (fun t h0 j => by rw [outsAt0_A m c t h0]; frame_out; exact (point8 h _ t j).trans (congrArg (· + _) (by pointwise [k0_pay7])))
    (fun t h0 j => by rw [outsAt0_B m c t h0]; frame_out; exact point8 h _ t j)
    (le_of_eq N_0) t0_7 rfl j, zero_add]
  refine (coe_sum _ _).trans (congrArg _ ?_)
  show _ = dgain A W X T g (j 1)
  unfold dgain
  rw [sum_tiles 8 512 rfl]
  rfl

end Cert.DownLossIdeal.Final
-- ==== Proof.DownLoss.Equal.lean ====
/- The final norm and the loss: kernel and reference compute the same arrays over the reals. -/
module

public import proofs.«01_k».proof.Defs
public import proofs.«01_k».proof.Proof.Gen.Pre_down_finite
public import proofs.«01_k».proof.Proof.DownLoss.Ref
public import proofs.«01_k».proof.Proof.DownLoss.Final
public import Idealize.ShloMosaic.Lib.Claim

@[expose] public section

set_option maxRecDepth 16384

noncomputable section

namespace Cert.DownLossIdeal.Equal

open Idealize.ShloMosaic Idealize.ShloMosaic.TcCoe Idealize.SL.Sem
open Cert.DownLossIdeal Cert.DownLossIdeal.Gen Cert.DownLossIdeal.Final Cert.Reals Cert.DownSpec Cert.Tokens

/-- The finite arguments are images of their real parts. -/
theorem args_of_pre (m : (ℓ : Loc nD τ sig) → Buf (Elt Ideal) ℓ) (hp : Cert.Pre_DownLossIdeal_down_finite m) (c : Dev nD) :
    ∃ A W X T g, Args m c A W X T g := by
  obtain ⟨p0, p1, p2, p3, p4⟩ := hp c
  exact ⟨_, _, _, _, _, fun _ _ _ => real_of_abs_lt _ _ p0 _, fun _ _ => real_of_abs_lt _ _ p1 _,
    fun _ _ _ => real_of_abs_lt _ _ p2 _, fun _ _ _ => real_of_abs_lt _ _ p3 _, fun _ => real_of_abs_lt _ _ p4 _⟩

open Cert.DownLossRefIdeal.Read Cert.DownLossRefIdeal.Reads

variable {m : (ℓ : Loc nD τ sig) → Buf (Elt Ideal) ℓ} {c : Dev nD}
  {A : Fin 2 → Fin 2048 → Fin 2816 → ℝ} {W : Fin 2816 → Fin 1024 → ℝ} {X T : Fin 2 → Fin 2048 → Fin 1024 → ℝ}
  {g : Fin 1024 → ℝ} (h : Args m c A W X T g)
include h

/-- The reference's residual gradient, its rows numbered through both batch entries. -/
theorem ref_dx : val_main_v54 (F := Ideal) (m ((c : Thread nD τ).loc main_arg0)) (m ((c : Thread nD τ).loc main_arg1)) (m ((c : Thread nD τ).loc main_arg2)) (m ((c : Thread nD τ).loc main_arg3)) (m ((c : Thread nD τ).loc main_arg4))
    = fun i : S4096x1024.Idx => ((dres A W X T g (tb (i 0).val (i 0).isLt) (ts (i 0).val) (i 1) : ℝ) : EReal) := by
  funext i
  refine Eq.trans ?_ (v53_real _ _ _ _ _ A W X T g h.1 h.2.1 h.2.2.1 h.2.2.2.1 h.2.2.2.2 _ _ _)
  idx_vars i
  pointwise [val_main_v54]
  blk_ext [tb, ts]

theorem ref_loss : val_main_v56 (F := Ideal) (m ((c : Thread nD τ).loc main_arg0)) (m ((c : Thread nD τ).loc main_arg1)) (m ((c : Thread nD τ).loc main_arg2)) (m ((c : Thread nD τ).loc main_arg3)) (m ((c : Thread nD τ).loc main_arg4))
    = fun _ : S8x128.Idx => ((loss A W X T g : ℝ) : EReal) := by
  funext i
  rw [← v56_real _ _ _ _ _ A W X T g h.1 h.2.1 h.2.2.1 h.2.2.2.1 h.2.2.2.2 (i 0) (i 1)]
  exact congrArg _ (eq_ix2 i)

theorem ref_gain : val_main_v57 (F := Ideal) (m ((c : Thread nD τ).loc main_arg0)) (m ((c : Thread nD τ).loc main_arg1)) (m ((c : Thread nD τ).loc main_arg2)) (m ((c : Thread nD τ).loc main_arg3)) (m ((c : Thread nD τ).loc main_arg4))
    = fun i : S1x1024.Idx => ((dgain A W X T g (i 1) : ℝ) : EReal) := by
  funext i
  rw [← v57_real _ _ _ _ _ A W X T g h.1 h.2.1 h.2.2.1 h.2.2.2.1 h.2.2.2.2 (i 1)]
  refine congrArg _ ?_
  idx_vars i
  idx_ext

omit h in
/-- The kernel and the reference end with equal arrays. -/
theorem claim : Cert.algebraic_DownLossIdeal_DownLossRefIdeal_pre_down_finite := by
  pair_intro
  · run_from Cert.DownLossIdeal.Gen.run_main m g
  · run_from Cert.DownLossRefIdeal.Value.run m' g'
    all_goals obtain ⟨A, W, X, T, g, h⟩ := args_of_pre m hpre c
    · refine (val_main_v54_eq m' c).trans ?_
      simp only [hagree c]
      exact (ref_dx h).trans (final5 h).symm
    · refine (val_main_v55_eq m' c).trans ?_
      simp only [hagree c]
      exact (ref_dx h).trans (final6 h).symm
    · exact (val_main_v56_eq _ _ _ _ _).trans ((ref_loss h).trans (final7 h).symm)
    · exact (val_main_v57_eq _ _ _ _ _).trans ((ref_gain h).trans (final8 h).symm)

omit h in
/-- The reference runs, keeps its arguments and leaves every counter at zero. -/
theorem ref_frame : Cert.quiescent_DownLossRefIdeal := fun m ρ _ =>
  (θ_run Cert.DownLossRefIdeal.defs _ _).mono (fun r h => ⟨fun c => (h c).2.2.2.2, sem_eq_zero_of_no_sems (by decide) r.2⟩)
    (Cert.DownLossRefIdeal.Value.run m ρ)

end Cert.DownLossIdeal.Equal

end
-- ==== Proof.UpProj.Spec.lean ====
/- The gradient of the channel mixer's norm, over the reals. -/
module

public import proofs.«01_k».proof.Proof.Common.Norm

@[expose] public section

noncomputable section

namespace Cert.UpSpec

open Cert.Reals

variable (M X : Fin 2 → Fin 2048 → Fin 1024 → ℝ) (V : Fin 1024 → Fin 1024 → ℝ) (g : Fin 1024 → ℝ)
  (W : Fin 1024 → Fin 5632 → ℝ) (U : Fin 2 → Fin 2048 → Fin 5632 → ℝ) (D : Fin 2 → Fin 2048 → Fin 1024 → ℝ)

/-- The residual stream after the token mixers: `x + merged · w_out`. -/
def res (b : Fin 2) (s : Fin 2048) (d : Fin 1024) : ℝ := X b s d + ∑ k, M b s k * V k d

/-- The cotangent of the normalised, scaled row: `dup · w_upᵀ`. -/
def dy (b : Fin 2) (s : Fin 2048) (d : Fin 1024) : ℝ := ∑ k, U b s k * W d k

/-- The gradient of the norm's scale. -/
def dgain (d : Fin 1024) : ℝ :=
  ∑ b, ∑ s, dy W U b s d * (res M X V b s d * rinv (res M X V b s))

/-- The gradient of the residual stream. -/
def dres (b : Fin 2) (s : Fin 2048) (d : Fin 1024) : ℝ :=
  D b s d + rmsBwd (res M X V b s) (fun k => dy W U b s k * g k) d

/-- The gradient of the merged mixers' output: `dx · w_outᵀ`. -/
def dmerged (b : Fin 2) (s : Fin 2048) (k : Fin 1024) : ℝ := ∑ d, dres M X V g W U D b s d * V k d

end Cert.UpSpec
-- ==== Proof.UpProj.Ref.lean ====
/- The reference's stages over the reals. -/
module

public import proofs.«01_k».proof.Proof.Gen.UpProjRefIdeal.Read
public import proofs.«01_k».proof.Proof.UpProj.Spec

@[expose] public section

set_option maxRecDepth 16384

noncomputable section

namespace Cert.UpProjRefIdeal.Reads

open Idealize.ShloMosaic Idealize.ShloMosaic.TcCoe Idealize.SL.Sem
open Cert.UpProjRefIdeal Cert.UpProjRefIdeal.Read Cert.Reals Cert.UpSpec

variable (x0 x1 : FVec Ideal S2x2048x1024 .f32) (x2 : FVec Ideal S1x1024x1024 .f32) (x3 : FVec Ideal S1x1024 .f32)
  (x4 : FVec Ideal S1x1024x5632 .f32) (x5 : FVec Ideal S2x2048x5632 .f32) (x6 : FVec Ideal S2x2048x1024 .f32)
  (M X : Fin 2 → Fin 2048 → Fin 1024 → ℝ) (V : Fin 1024 → Fin 1024 → ℝ) (g : Fin 1024 → ℝ)
  (W : Fin 1024 → Fin 5632 → ℝ) (U : Fin 2 → Fin 2048 → Fin 5632 → ℝ) (D : Fin 2 → Fin 2048 → Fin 1024 → ℝ)
  (h0 : ∀ b s k, x0 (ix3 b s k) = (M b s k : EReal)) (h1 : ∀ b s d, x1 (ix3 b s d) = (X b s d : EReal))
  (h2 : ∀ k d, x2 (ix3 0 k d) = (V k d : EReal)) (h3 : ∀ d, x3 (ix2 0 d) = (g d : EReal))
  (h4 : ∀ d k, x4 (ix3 0 d k) = (W d k : EReal)) (h5 : ∀ b s k, x5 (ix3 b s k) = (U b s k : EReal))
  (h6 : ∀ b s d, x6 (ix3 b s d) = (D b s d : EReal))

include h0 h1 h2 in
theorem v3_real (b : Fin 2) (s : Fin 2048) (d : Fin 1024) :
    val_main_v3 (F := Ideal) x0 x1 x2 (ix3 b s d) = ((res M X V b s d : ℝ) : EReal) := by
  pointwise [val_main_v3, val_main_v2, val_main_v1]
  simp only [h0, h1, h2, ← EReal.coe_mul, ← EReal.coe_add, coe_sum, res]

include h0 h1 h2 in
theorem v12_real (b : Fin 2) (s : Fin 2048) (u : Fin 1) :
    val_main_v12 (F := Ideal) x0 x1 x2 (ix3 b s u) = ((msq (res M X V b s) : ℝ) : EReal) := by
  pointwise [val_main_v12, val_main_v11, val_main_cst_2, val_main_v10, val_main_v9, val_main_cst_1, val_main_v8, val_main_v7, val_main_v4, val_main_cst_0]
  simp only [v3_real x0 x1 x2 M X V h0 h1 h2, ← EReal.coe_mul, coe_sum, zero_add, w_1024, w_eps, ← EReal.coe_add,
    div_real _ (show (1024 : ℝ) ≠ 0 by norm_num)]
  simp [msq, eps]

include h0 h1 h2 in
theorem v13_real (b : Fin 2) (s : Fin 2048) (u : Fin 1) :
    val_main_v13 (F := Ideal) x0 x1 x2 (ix3 b s u) = ((rinv (res M X V b s) : ℝ) : EReal) := by
  pointwise [val_main_v13]
  rw [v12_real x0 x1 x2 M X V h0 h1 h2, rsqrt_real (msq_pos _)]; rfl

include h0 h1 h2 in
theorem v18_real (b : Fin 2) (s : Fin 2048) (d : Fin 1024) :
    val_main_v18 (F := Ideal) x0 x1 x2 (ix3 b s d) = ((res M X V b s d * rinv (res M X V b s) : ℝ) : EReal) := by
  pointwise [val_main_v18, val_main_v17]
  rw [v13_real x0 x1 x2 M X V h0 h1 h2, v3_real x0 x1 x2 M X V h0 h1 h2, ← EReal.coe_mul]

include h4 h5 in
theorem v24_real (b : Fin 2) (s : Fin 2048) (d : Fin 1024) :
    val_main_v24 (F := Ideal) x4 x5 (ix3 b s d) = ((dy W U b s d : ℝ) : EReal) := by
  pointwise [val_main_v24, val_main_v22]
  simp only [h4, h5, ← EReal.coe_mul, coe_sum, dy]

include h3 h4 h5 in
theorem v29_real (b : Fin 2) (s : Fin 2048) (d : Fin 1024) :
    val_main_v29 (F := Ideal) x3 x4 x5 (ix3 b s d) = ((dy W U b s d * g d : ℝ) : EReal) := by
  pointwise [val_main_v29, val_main_v28, val_main_v19, val_main_v0]
  rw [v24_real x4 x5 W U h4 h5, h3, ← EReal.coe_mul]

include h0 h1 h2 h4 h5 in
theorem v47_real (d : Fin 1024) :
    val_main_v47 (F := Ideal) x0 x1 x2 x4 x5 (ix2 0 d) = ((dgain M X V W U d : ℝ) : EReal) := by
  pointwise [val_main_v47, val_main_v30, val_main_cst_5, val_main_v27, val_main_v26, val_main_cst_4, val_main_v25,
    hostReduceAdd_lead2]
  simp only [v24_real x4 x5 W U h4 h5, v18_real x0 x1 x2 M X V h0 h1 h2, ← EReal.coe_mul, coe_sum,
    zero_add, Finset.univ_unique, Finset.sum_singleton, dgain]
  exact congrArg _ (Finset.sum_congr rfl fun b _ => Finset.sum_congr rfl fun s _ => mul_comm _ _)

include h0 h1 h2 h3 h4 h5 h6 in
theorem v43_real (b : Fin 2) (s : Fin 2048) (d : Fin 1024) :
    val_main_v43 (F := Ideal) x0 x1 x2 x3 x4 x5 x6 (ix3 b s d) = ((dres M X V g W U D b s d : ℝ) : EReal) := by
  pointwise [val_main_v43, val_main_v42, val_main_v41, val_main_v40, val_main_cst_8, val_main_v39, val_main_v38, val_main_cst_7,
    val_main_v37, val_main_v36, val_main_v35, val_main_v34, val_main_v33, val_main_v32, val_main_cst_6, val_main_v31,
    val_main_v16, val_main_v15, val_main_cst_3, val_main_v14, val_main_v6, val_main_v5, val_main_cst]
  simp only [v29_real x3 x4 x5 g W U h3 h4 h5, v3_real x0 x1 x2 M X V h0 h1 h2, h6,
    v13_real x0 x1 x2 M X V h0 h1 h2, v12_real x0 x1 x2 M X V h0 h1 h2, ← EReal.coe_mul, coe_sum, zero_add,
    div_real _ (msq_pos _).ne', w_1024, w_two, w_neghalf, div_real _ (show (1024 : ℝ) ≠ 0 by norm_num), ← EReal.coe_add]
  simp only [Finset.univ_unique, Finset.sum_singleton, dres, ← rmsBwd_vjp, Nat.cast_ofNat, v13_real x0 x1 x2 M X V h0 h1 h2,
    v12_real x0 x1 x2 M X V h0 h1 h2, ← EReal.coe_mul, coe_sum, div_real _ (msq_pos _).ne', w_neghalf,
    div_real _ (show (1024 : ℝ) ≠ 0 by norm_num), ← EReal.coe_add]
  congr 1; ring

include h0 h1 h2 h3 h4 h5 h6 in
theorem v45_real (b : Fin 2) (s : Fin 2048) (k : Fin 1024) :
    val_main_v45 (F := Ideal) x0 x1 x2 x3 x4 x5 x6 (ix3 b s k) = ((dmerged M X V g W U D b s k : ℝ) : EReal) := by
  pointwise [val_main_v45, val_main_v44, val_main_v1]
  simp only [v43_real x0 x1 x2 x3 x4 x5 x6 M X V g W U D h0 h1 h2 h3 h4 h5 h6, h2, ← EReal.coe_mul, coe_sum, dmerged]

end Cert.UpProjRefIdeal.Reads
-- ==== Proof.UpProj.Body.lean ====
/- What the kernel's body computes on one block of rows, over the reals. -/
module

public import proofs.«01_k».proof.Proof.Gen.UpProjIdeal.Skeleton
public import proofs.«01_k».proof.Proof.UpProj.Spec

@[expose] public section

set_option maxRecDepth 16384

noncomputable section

namespace Cert.UpProjIdeal.Body

open Idealize.ShloMosaic Idealize.ShloMosaic.TcCoe Idealize.SL.Sem
open Cert.UpProjIdeal Cert.UpProjIdeal.Gen Cert.Reals Cert.UpSpec

variable (v3 v8 : FVec Ideal S256x2816 .bf16) (v5 v10 : FVec Ideal S2816x1024 .bf16) (v14 : FVec Ideal S256x1024 .f32)
  (v33 : FVec Ideal S1x1024 .f32) (v36 : FVec Ideal S256x1024 .f32) (v51 : FVec Ideal S1024x1024 .bf16)
  (M X : Fin 2 → Fin 2048 → Fin 1024 → ℝ) (V : Fin 1024 → Fin 1024 → ℝ) (g : Fin 1024 → ℝ)
  (W : Fin 1024 → Fin 5632 → ℝ) (U : Fin 2 → Fin 2048 → Fin 5632 → ℝ) (D : Fin 2 → Fin 2048 → Fin 1024 → ℝ)
  (b : Fin 256 → Fin 2) (s : Fin 256 → Fin 2048)
  (h3 : ∀ r (k : Fin 2816), v3 (ix2 r k) = (U (b r) (s r) (Fin.castAdd 2816 k) : EReal))
  (h8 : ∀ r (k : Fin 2816), v8 (ix2 r k) = (U (b r) (s r) (Fin.natAdd 2816 k) : EReal))
  (h5 : ∀ (k : Fin 2816) d, v5 (ix2 k d) = (W d (Fin.castAdd 2816 k) : EReal))
  (h10 : ∀ (k : Fin 2816) d, v10 (ix2 k d) = (W d (Fin.natAdd 2816 k) : EReal))
  (h14 : ∀ r d, v14 (ix2 r d) = (res M X V (b r) (s r) d : EReal))
  (h33 : ∀ d, v33 (ix2 0 d) = (g d : EReal)) (h36 : ∀ r d, v36 (ix2 r d) = (D (b r) (s r) d : EReal))
  (h51 : ∀ k d, v51 (ix2 k d) = (V k d : EReal))

include h3 h5 h8 h10 in
/-- The cotangents of the normalised rows. -/
theorem pay4_real (r : Fin 256) (d : Fin 1024) :
    k0_pay4 (F := Ideal) v3 v5 v8 v10 (ix2 r d) = ((dy W U (b r) (s r) d : ℝ) : EReal) := by
  pointwise [k0_pay4]
  simp only [h3, h5, h8, h10, ← EReal.coe_mul, ← EReal.coe_add, coe_sum, zero_add, dy]
  exact congrArg _ (Fin.sum_univ_add (a := 2816) (b := 2816) fun k : Fin (2816 + 2816) => U (b r) (s r) k * W d k).symm

include h14 in
/-- Each row's reciprocal root. -/
theorem pay6_real (r : Fin 256) (u : Fin 1) :
    k0_pay6 (F := Ideal) v14 (ix2 r u) = ((rinv (res M X V (b r) (s r)) : ℝ) : EReal) := by
  pointwise [k0_pay6, k0_pay5]
  simp only [h14, ← EReal.coe_mul, coe_sum, w_1024, w_eps, ← EReal.coe_add, div_real _ (show (1024 : ℝ) ≠ 0 by norm_num)]
  rw [rsqrt_real] <;> [skip; (have := msq_pos (res M X V (b r) (s r)); simpa [msq, eps] using this)]
  simp [rinv, msq, eps]

include h14 in
/-- The normalised rows. -/
theorem pay7_real (r : Fin 256) (d : Fin 1024) :
    k0_pay7 (F := Ideal) v14 (ix2 r d) = ((res M X V (b r) (s r) d * rinv (res M X V (b r) (s r)) : ℝ) : EReal) := by
  pointwise [k0_pay7, k0_pay5]
  rw [pay6_real v14 M X V b s h14, h14, ← EReal.coe_mul]

include h3 h5 h8 h10 h14 in
/-- The block's part of the scale's gradient. -/
theorem pay8_real (acc : FVec Ideal S1x1024 .f32) (d : Fin 1024) :
    k0_pay8 (F := Ideal) v3 v5 v8 v10 v14 acc (ix2 0 d)
      = acc (ix2 0 d) + ((∑ r : Fin 256, dy W U (b r) (s r) d * (res M X V (b r) (s r) d * rinv (res M X V (b r) (s r))) : ℝ) : EReal) := by
  pointwise [k0_pay8]
  simp only [pay4_real v3 v8 v5 v10 W U b s h3 h8 h5 h10, pay7_real v14 M X V b s h14, ← EReal.coe_mul, coe_sum]

include h3 h5 h8 h10 h14 h33 h36 in
/-- The rows' gradients. -/
theorem pay1_real (r : Fin 256) (d : Fin 1024) :
    k0_pay1 (F := Ideal) (k0_pay4 v3 v5 v8 v10) (k0_pay6 v14) (k0_pay7 v14) v33 v36 (ix2 r d)
      = ((dres M X V g W U D (b r) (s r) d : ℝ) : EReal) := by
  pointwise [k0_pay1]
  simp only [pay4_real v3 v8 v5 v10 W U b s h3 h8 h5 h10, pay7_real v14 M X V b s h14, h33, h36,
    pay6_real v14 M X V b s h14, ← EReal.coe_mul, coe_sum, w_1024, ← EReal.coe_sub, ← EReal.coe_add,
    div_real _ (show (1024 : ℝ) ≠ 0 by norm_num)]
  simp [dres, rmsBwd]

include h3 h5 h8 h10 h14 h33 h36 h51 in
/-- The merged output's gradients. -/
theorem pay2_real (r : Fin 256) (k : Fin 1024) :
    k0_pay2 (F := Ideal) (k0_pay4 v3 v5 v8 v10) (k0_pay6 v14) (k0_pay7 v14) v33 v36 v51 (ix2 r k)
      = ((dmerged M X V g W U D (b r) (s r) k : ℝ) : EReal) := by
  pointwise [k0_pay2]
  simp only [pay1_real v3 v8 v5 v10 v14 v33 v36 M X V g W U D b s h3 h8 h5 h10 h14 h33 h36, h51, ← EReal.coe_mul, coe_sum, zero_add, dmerged]

end Cert.UpProjIdeal.Body
-- ==== Proof.UpProj.Final.lean ====
/- The kernel's result arrays over the reals. -/
module

public import proofs.«01_k».proof.Proof.Gen.UpProjIdeal.Frame
public import proofs.«01_k».proof.Proof.UpProj.Body
public import proofs.«01_k».proof.Proof.Common.Tokens
public import Idealize.ShloMosaic.Lib.Pipeline.ValueKit

@[expose] public section

set_option maxRecDepth 16384

noncomputable section

namespace Cert.UpProjIdeal.Final

open Idealize.ShloMosaic Idealize.ShloMosaic.TcCoe Idealize.SL.Sem
open Cert.UpProjIdeal Cert.UpProjIdeal.Gen Cert.UpProjIdeal.Body Cert.Reals Cert.UpSpec Cert.Tokens

variable (m : (ℓ : Loc nD τ sig) → Buf (Elt Ideal) ℓ) (c : Dev nD)
  (M X : Fin 2 → Fin 2048 → Fin 1024 → ℝ) (O : Fin 1024 → Fin 1024 → ℝ) (g : Fin 1024 → ℝ)
  (W : Fin 1024 → Fin 5632 → ℝ) (U : Fin 2 → Fin 2048 → Fin 5632 → ℝ) (D : Fin 2 → Fin 2048 → Fin 1024 → ℝ)

/-- The argument arrays are images of real arrays. -/
def Args : Prop :=
  (∀ b s d, (show FVec Ideal S2x2048x1024 .f32 from m ((c : Thread nD τ).loc main_arg0)) (ix3 b s d) = (M b s d : EReal))
  ∧ (∀ b s d, (show FVec Ideal S2x2048x1024 .f32 from m ((c : Thread nD τ).loc main_arg1)) (ix3 b s d) = (X b s d : EReal))
  ∧ (∀ k d, (show FVec Ideal S1x1024x1024 .f32 from m ((c : Thread nD τ).loc main_arg2)) (ix3 0 k d) = (O k d : EReal))
  ∧ (∀ d, (show FVec Ideal S1x1024 .f32 from m ((c : Thread nD τ).loc main_arg3)) (ix2 0 d) = (g d : EReal))
  ∧ (∀ d k, (show FVec Ideal S1x1024x5632 .f32 from m ((c : Thread nD τ).loc main_arg4)) (ix3 0 d k) = (W d k : EReal))
  ∧ (∀ b s k, (show FVec Ideal S2x2048x5632 .f32 from m ((c : Thread nD τ).loc main_arg5)) (ix3 b s k) = (U b s k : EReal))
  ∧ (∀ b s d, (show FVec Ideal S2x2048x1024 .f32 from m ((c : Thread nD τ).loc main_arg6)) (ix3 b s d) = (D b s d : EReal))

theorem row_lt (t : Fin cfg0.N) (r : Fin 256) : t.val * 256 + r.val < 4096 := by
  have := lt_of_lt_of_eq t.isLt N_0; have := r.isLt; omega

theorem idx : ∀ t : Fin cfg0.N, win0_0.index t = ![t.val, 0] ∧ win0_1.index t = ![t.val, 0] ∧ win0_2.index t = ![0, 0]
    ∧ win0_3.index t = ![t.val, 0] ∧ win0_4.index t = ![0, 0] ∧ win0_5.index t = ![t.val, 0] ∧ win0_6.index t = ![0, 0]
    ∧ win0_7.index t = ![t.val, 0] ∧ win0_8.index t = ![0, 0] ∧ win0_9.index t = ![t.val, 0] :=
  (by decide +kernel : ∀ t : Fin grid0.N, _)

variable {m c M X O g W U D} (h : Args m c M X O g W U D)
include h

theorem blk0 (t : Fin cfg0.N) (r : Fin 256) (k : Fin 2816) :
    (show FVec Ideal S256x2816 .bf16 from iblk m c 0 t) (ix2 r k)
      = ((U (tb _ (row_lt t r)) (ts (t.val * 256 + r.val)) (Fin.castAdd 2816 k) : ℝ) : EReal) := by
  refine Eq.trans ?_ (h.2.2.2.2.2.1 _ _ _)
  unfold iblk Gen.V
  after_results
  blk_simp [idx t]
  pointwise
  blk_ext [idx t, tb, ts]
  rfl

theorem blk1 (t : Fin cfg0.N) (r : Fin 256) (k : Fin 2816) :
    (show FVec Ideal S256x2816 .bf16 from iblk m c 1 t) (ix2 r k)
      = ((U (tb _ (row_lt t r)) (ts (t.val * 256 + r.val)) (Fin.natAdd 2816 k) : ℝ) : EReal) := by
  refine Eq.trans ?_ (h.2.2.2.2.2.1 _ _ _)
  unfold iblk Gen.V
  after_results
  blk_simp [idx t]
  pointwise
  blk_ext [idx t, tb, ts]
  rfl

theorem blk2 (t : Fin cfg0.N) (k : Fin 5632) (d : Fin 1024) :
    (show FVec Ideal S5632x1024 .bf16 from iblk m c 2 t) (ix2 k d) = ((W d k : ℝ) : EReal) := by
  rw [← h.2.2.2.2.1]
  unfold iblk Gen.V
  after_results
  blk_simp [idx t]
  pointwise
  blk_ext [idx t, tb, ts]

theorem blk3 (t : Fin cfg0.N) (r : Fin 256) (d : Fin 1024) :
    (show FVec Ideal S256x1024 .f32 from iblk m c 3 t) (ix2 r d)
      = ((res M X O (tb _ (row_lt t r)) (ts (t.val * 256 + r.val)) d : ℝ) : EReal) := by
  unfold iblk Gen.V
  after_results
  blk_simp [idx t]
  pointwise
  rw [res, EReal.coe_add, ← coe_sum]
  simp only [EReal.coe_mul, ← h.1, ← h.2.1, ← h.2.2.1]
  refine congrArg₂ (· + ·) ?_ (Finset.sum_congr rfl fun k _ => congrArg₂ (· * ·) ?_ ?_) <;> blk_ext [idx t, tb, ts]

theorem blk4 (t : Fin cfg0.N) (d : Fin 1024) :
    (show FVec Ideal S1x1024 .f32 from iblk m c 4 t) (ix2 0 d) = ((g d : ℝ) : EReal) := by
  rw [← h.2.2.2.1]
  unfold iblk Gen.V
  after_results
  blk_simp [idx t]
  pointwise
  blk_ext [idx t, tb, ts]

theorem blk5 (t : Fin cfg0.N) (r : Fin 256) (d : Fin 1024) :
    (show FVec Ideal S256x1024 .f32 from iblk m c 5 t) (ix2 r d)
      = ((D (tb _ (row_lt t r)) (ts (t.val * 256 + r.val)) d : ℝ) : EReal) := by
  rw [← h.2.2.2.2.2.2]
  unfold iblk Gen.V
  after_results
  blk_simp [idx t]
  pointwise
  blk_ext [idx t, tb, ts]

theorem blk6 (t : Fin cfg0.N) (k d : Fin 1024) :
    (show FVec Ideal S1024x1024 .bf16 from iblk m c 6 t) (ix2 k d) = ((O k d : ℝ) : EReal) := by
  rw [← h.2.2.1]
  unfold iblk Gen.V
  after_results
  blk_simp [idx t]
  pointwise
  blk_ext [idx t, tb, ts]

/-- The upper rows of the up projection's weight. -/
theorem blk2a (t : Fin cfg0.N) (k : Fin 2816) (d : Fin 1024) :
    (show FVec Ideal S2816x1024 .bf16 from View.ld (iblk m c 2 t) (Rect.unit ![0, 0] ![2816, 1024] inb_S5632x1024_S2816x1024_0_0)) (ix2 k d)
      = ((W d (Fin.castAdd 2816 k) : ℝ) : EReal) := by
  refine Eq.trans ?_ (blk2 h t _ _)
  pointwise
  blk_ext
  rfl

/-- The lower rows of the up projection's weight. -/
theorem blk2b (t : Fin cfg0.N) (k : Fin 2816) (d : Fin 1024) :
    (show FVec Ideal S2816x1024 .bf16 from View.ld (iblk m c 2 t) (Rect.unit ![2816, 0] ![2816, 1024] inb_S5632x1024_S2816x1024_2816_0)) (ix2 k d)
      = ((W d (Fin.natAdd 2816 k) : ℝ) : EReal) := by
  refine Eq.trans ?_ (blk2 h t _ _)
  pointwise
  blk_ext
  rfl

/-- One block of the residual stream's gradient. -/
theorem point7 (t : Fin cfg0.N) (y : S256x1024.Idx) :
    k0_pay1 (F := Ideal) (k0_pay4 (iblk m c 0 t) (View.ld (iblk m c 2 t) (Rect.unit ![0, 0] ![2816, 1024] inb_S5632x1024_S2816x1024_0_0))
        (iblk m c 1 t) (View.ld (iblk m c 2 t) (Rect.unit ![2816, 0] ![2816, 1024] inb_S5632x1024_S2816x1024_2816_0)))
      (k0_pay6 (iblk m c 3 t)) (k0_pay7 (iblk m c 3 t)) (iblk m c 4 t) (iblk m c 5 t) y
      = ((dres M X O g W U D (tb _ (row_lt t (y 0))) (ts (t.val * 256 + (y 0).val)) (y 1) : ℝ) : EReal) := by
  rw [eq_ix2 y]
  exact pay1_real _ _ _ _ _ _ _ M X O g W U D (fun r => tb _ (row_lt t r)) (fun r => ts (t.val * 256 + r.val))
    (blk0 h t) (blk1 h t) (blk2a h t) (blk2b h t) (blk3 h t) (blk4 h t) (blk5 h t) (y 0) (y 1)

/-- One block of the merged output's gradient. -/
theorem point9 (t : Fin cfg0.N) (y : S256x1024.Idx) :
    k0_pay2 (F := Ideal) (k0_pay4 (iblk m c 0 t) (View.ld (iblk m c 2 t) (Rect.unit ![0, 0] ![2816, 1024] inb_S5632x1024_S2816x1024_0_0))
        (iblk m c 1 t) (View.ld (iblk m c 2 t) (Rect.unit ![2816, 0] ![2816, 1024] inb_S5632x1024_S2816x1024_2816_0)))
      (k0_pay6 (iblk m c 3 t)) (k0_pay7 (iblk m c 3 t)) (iblk m c 4 t) (iblk m c 5 t) (iblk m c 6 t) y
      = ((dmerged M X O g W U D (tb _ (row_lt t (y 0))) (ts (t.val * 256 + (y 0).val)) (y 1) : ℝ) : EReal) := by
  rw [eq_ix2 y]
  exact pay2_real _ _ _ _ _ _ _ _ M X O g W U D (fun r => tb _ (row_lt t r)) (fun r => ts (t.val * 256 + r.val))
    (blk0 h t) (blk1 h t) (blk2a h t) (blk2b h t) (blk3 h t) (blk4 h t) (blk5 h t) (blk6 h t) (y 0) (y 1)

/-- One block's part of the scale's gradient, added to what the row held. -/
theorem point8 (acc : FVec Ideal S1x1024 .f32) (t : Fin cfg0.N) (j : S1x1024.Idx) :
    k0_pay8 (F := Ideal) (iblk m c 0 t) (View.ld (iblk m c 2 t) (Rect.unit ![0, 0] ![2816, 1024] inb_S5632x1024_S2816x1024_0_0))
        (iblk m c 1 t) (View.ld (iblk m c 2 t) (Rect.unit ![2816, 0] ![2816, 1024] inb_S5632x1024_S2816x1024_2816_0)) (iblk m c 3 t) acc j
      = acc j + ((∑ r : Fin 256, dy W U (tb _ (row_lt t r)) (ts (t.val * 256 + r.val)) (j 1)
        * (res M X O (tb _ (row_lt t r)) (ts (t.val * 256 + r.val)) (j 1) * rinv (res M X O (tb _ (row_lt t r)) (ts (t.val * 256 + r.val)))) : ℝ) : EReal) := by
  have e : j = ix2 0 (j 1) := by idx_ext
  rw [e]
  exact pay8_real _ _ _ _ _ M X O W U (fun r => tb _ (row_lt t r)) (fun r => ts (t.val * 256 + r.val))
    (blk0 h t) (blk1 h t) (blk2a h t) (blk2b h t) (blk3 h t) acc (j 1)

/-- The residual stream's gradient, token by token. -/
theorem final7 : (dats m 0 c).arrAt 7 (cfgs 0).N
    = fun i : S4096x1024.Idx => ((dres M X O g W U D (tb (i 0).val (i 0).isLt) (ts (i 0).val) (i 1) : ℝ) : EReal) := by
  refine (dats m 0 c).arrAt_eq_of_covers 7 _ (by decide +kernel) fun t _ y => ?_
  have e : ∀ y : S256x1024.Idx, ((dres M X O g W U D (tb _ (row_lt t (y 0))) (ts (t.val * 256 + (y 0).val)) (y 1) : ℝ) : EReal)
      = (fun i : S4096x1024.Idx => ((dres M X O g W U D (tb (i 0).val (i 0).isLt) (ts (i 0).val) (i 1) : ℝ) : EReal)) (((cfg0.win 7).blk t).view.emb y) := by
    intro y; idx_vars y; blk_simp [idx t]
    exact congrArg (fun z => ((dres M X O g W U D _ _ z : ℝ) : EReal)) (Fin.ext (by blk_simp [idx t]))
  refine Eq.trans ?_ (e y)
  blk_simp
  rw [after0_7]
  by_cases h0 : t.val % 16 = 0
  · rw [outsAt0_A m c t h0]; frame_out
    exact point7 h t y
  · rw [outsAt0_B m c t h0]; frame_out
    exact point7 h t y

/-- The merged output's gradient, token by token. -/
theorem final9 : (dats m 0 c).arrAt 9 (cfgs 0).N
    = fun i : S4096x1024.Idx => ((dmerged M X O g W U D (tb (i 0).val (i 0).isLt) (ts (i 0).val) (i 1) : ℝ) : EReal) := by
  refine (dats m 0 c).arrAt_eq_of_covers 9 _ (by decide +kernel) fun t _ y => ?_
  have e : ∀ y : S256x1024.Idx, ((dmerged M X O g W U D (tb _ (row_lt t (y 0))) (ts (t.val * 256 + (y 0).val)) (y 1) : ℝ) : EReal)
      = (fun i : S4096x1024.Idx => ((dmerged M X O g W U D (tb (i 0).val (i 0).isLt) (ts (i 0).val) (i 1) : ℝ) : EReal)) (((cfg0.win 9).blk t).view.emb y) := by
    intro y; idx_vars y; blk_simp [idx t]
    exact congrArg (fun z => ((dmerged M X O g W U D _ _ z : ℝ) : EReal)) (Fin.ext (by blk_simp [idx t]))
  refine Eq.trans ?_ (e y)
  blk_simp
  rw [after0_9]
  by_cases h0 : t.val % 16 = 0
  · rw [outsAt0_A m c t h0]; frame_out
    exact point9 h t y
  · rw [outsAt0_B m c t h0]; frame_out
    exact point9 h t y

/-- The gradient of the norm's scale. -/
theorem final8 : (dats m 0 c).arrAt 8 (cfgs 0).N = fun i : S1x1024.Idx => ((dgain M X O W U (i 1) : ℝ) : EReal) := by
  refine (dats m 0 c).arrAt_eq_of_after_last 8 t0_15 (by decide +kernel) _ fun j => ?_
  blk_simp
  rw [after0_8, Pipeline.eq_sum_fin_of_reset_step_apply_last (fun n h => (outsAt0 m c n h).2.1) 16 (fun _ => 0)
    (fun (p : Fin cfg0.N) (j : S1x1024.Idx) => ((∑ r : Fin 256, dy W U (tb _ (row_lt p r)) (ts (p.val * 256 + r.val)) (j 1)
        * (res M X O (tb _ (row_lt p r)) (ts (p.val * 256 + r.val)) (j 1) * rinv (res M X O (tb _ (row_lt p r)) (ts (p.val * 256 + r.val)))) : ℝ) : EReal))
    (fun t h0 j => by rw [outsAt0_A m c t h0]; frame_out; exact (point8 h _ t j).trans (congrArg (· + _) (by pointwise [k0_pay3])))
    (fun t h0 j => by rw [outsAt0_B m c t h0]; frame_out; exact point8 h _ t j)
    (le_of_eq N_0) t0_15 rfl j, zero_add]
  refine (coe_sum _ _).trans (congrArg _ ?_)
  show _ = dgain M X O W U (j 1)
  unfold dgain
  rw [sum_tiles 16 256 rfl]
  rfl

end Cert.UpProjIdeal.Final
-- ==== Proof.UpProj.Equal.lean ====
/- The channel mixer's norm: kernel and reference compute the same gradients over the reals. -/
module

public import proofs.«01_k».proof.Defs
public import proofs.«01_k».proof.Proof.Gen.Pre_up_finite
public import proofs.«01_k».proof.Proof.UpProj.Ref
public import proofs.«01_k».proof.Proof.UpProj.Final
public import Idealize.ShloMosaic.Lib.Claim

@[expose] public section

set_option maxRecDepth 16384

noncomputable section

namespace Cert.UpProjIdeal.Equal

open Idealize.ShloMosaic Idealize.ShloMosaic.TcCoe Idealize.SL.Sem
open Cert.UpProjIdeal Cert.UpProjIdeal.Gen Cert.UpProjIdeal.Final Cert.Reals Cert.UpSpec Cert.Tokens

/-- The finite arguments are images of their real parts. -/
theorem args_of_pre (m : (ℓ : Loc nD τ sig) → Buf (Elt Ideal) ℓ) (hp : Cert.Pre_UpProjIdeal_up_finite m) (c : Dev nD) :
    ∃ M X O g W U D, Args m c M X O g W U D := by
  obtain ⟨p0, p1, p2, p3, p4, p5, p6⟩ := hp c
  exact ⟨_, _, _, _, _, _, _, fun _ _ _ => real_of_abs_lt _ _ p0 _, fun _ _ _ => real_of_abs_lt _ _ p1 _,
    fun _ _ => real_of_abs_lt _ _ p2 _, fun _ => real_of_abs_lt _ _ p3 _, fun _ _ => real_of_abs_lt _ _ p4 _,
    fun _ _ _ => real_of_abs_lt _ _ p5 _, fun _ _ _ => real_of_abs_lt _ _ p6 _⟩

open Cert.UpProjRefIdeal.Read Cert.UpProjRefIdeal.Reads

variable {m : (ℓ : Loc nD τ sig) → Buf (Elt Ideal) ℓ} {c : Dev nD}
  {M X : Fin 2 → Fin 2048 → Fin 1024 → ℝ} {O : Fin 1024 → Fin 1024 → ℝ} {g : Fin 1024 → ℝ}
  {W : Fin 1024 → Fin 5632 → ℝ} {U : Fin 2 → Fin 2048 → Fin 5632 → ℝ} {D : Fin 2 → Fin 2048 → Fin 1024 → ℝ}
  (h : Args m c M X O g W U D)
include h

/-- The reference's residual gradient, its rows numbered through both batch entries. -/
theorem ref_dx : val_main_v46 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
    = fun i : S4096x1024.Idx => ((dres M X O g W U D (tb (i 0).val (i 0).isLt) (ts (i 0).val) (i 1) : ℝ) : EReal) := by
  funext i
  refine Eq.trans ?_ (v43_real _ _ _ _ _ _ _ M X O g W U D h.1 h.2.1 h.2.2.1 h.2.2.2.1 h.2.2.2.2.1 h.2.2.2.2.2.1 h.2.2.2.2.2.2 _ _ _)
  idx_vars i
  pointwise [val_main_v46]
  blk_ext [tb, ts]

/-- The reference's gradient of the merged output, its rows numbered likewise. -/
theorem ref_dm : val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
    = fun i : S4096x1024.Idx => ((dmerged M X O g W U D (tb (i 0).val (i 0).isLt) (ts (i 0).val) (i 1) : ℝ) : EReal) := by
  funext i
  refine Eq.trans ?_ (v45_real _ _ _ _ _ _ _ M X O g W U D h.1 h.2.1 h.2.2.1 h.2.2.2.1 h.2.2.2.2.1 h.2.2.2.2.2.1 h.2.2.2.2.2.2 _ _ _)
  idx_vars i
  pointwise [val_main_v49, val_main_v48]
  blk_ext [tb, ts]

theorem ref_gain : val_main_v47 (F := Ideal) (m ((c : Thread nD τ).loc main_arg0)) (m ((c : Thread nD τ).loc main_arg1)) (m ((c : Thread nD τ).loc main_arg2)) (m ((c : Thread nD τ).loc main_arg4)) (m ((c : Thread nD τ).loc main_arg5))
    = fun i : S1x1024.Idx => ((dgain M X O W U (i 1) : ℝ) : EReal) := by
  funext i
  refine Eq.trans (congrArg _ ?_) (v47_real _ _ _ _ _ M X O W U h.1 h.2.1 h.2.2.1 h.2.2.2.2.1 h.2.2.2.2.2.1 (i 1))
  idx_vars i
  idx_ext

omit h in
/-- The kernel and the reference end with equal arrays. -/
theorem claim : Cert.algebraic_UpProjIdeal_UpProjRefIdeal_pre_up_finite := by
  pair_intro
  · run_from Cert.UpProjIdeal.Gen.run_main m g
  · run_from Cert.UpProjRefIdeal.Value.run m' g'
    all_goals obtain ⟨M, X, O, g, W, U, D, h⟩ := args_of_pre m hpre c
    · refine (val_main_v46_eq m' c).trans ?_
      simp only [hagree c]
      exact (ref_dx h).trans (final7 h).symm
    · exact (val_main_v47_eq _ _ _ _ _).trans ((ref_gain h).trans (final8 h).symm)
    · refine (val_main_v49_eq m' c).trans ?_
      simp only [hagree c]
      exact (ref_dm h).trans (final9 h).symm

omit h in
/-- The reference runs, keeps its arguments and leaves every counter at zero. -/
theorem ref_frame : Cert.quiescent_UpProjRefIdeal := fun m ρ _ =>
  (θ_run Cert.UpProjRefIdeal.defs _ _).mono (fun r h => ⟨fun c => (h c).2.2.2, sem_eq_zero_of_no_sems (by decide) r.2⟩)
    (Cert.UpProjRefIdeal.Value.run m ρ)

end Cert.UpProjIdeal.Equal

end
-- ==== Proof.InProj.Spec.lean ====
/- The gradient of the token mixers' norm, over the reals, and the split of its product's columns. -/
module

public import proofs.«01_k».proof.Proof.Common.Norm

@[expose] public section

noncomputable section

namespace Cert.InSpec

open Cert.Reals

variable (X : Fin 2 → Fin 2048 → Fin 1024 → ℝ) (g : Fin 1024 → ℝ) (W : Fin 1024 → Fin 4544 → ℝ)
  (Z : Fin 2 → Fin 2048 → Fin 4544 → ℝ) (D : Fin 2 → Fin 2048 → Fin 1024 → ℝ)

/-- The cotangent of the normalised, scaled row: `dz · w_inᵀ`. -/
def dy (b : Fin 2) (s : Fin 2048) (d : Fin 1024) : ℝ := ∑ k, Z b s k * W d k

/-- The gradient of the norm's scale. -/
def dgain (d : Fin 1024) : ℝ := ∑ b, ∑ s, dy W Z b s d * (X b s d * rinv (X b s))

/-- The gradient of the layer's input. -/
def dx (b : Fin 2) (s : Fin 2048) (d : Fin 1024) : ℝ :=
  D b s d + rmsBwd (X b s) (fun k => dy W Z b s k * g k) d

/-- Column `k` of the run of `n` columns that starts at `o`. -/
def col (o n : ℕ) (ho : o + n ≤ 4544) (k : Fin n) : Fin 4544 := ⟨o + k.val, by have := k.isLt; omega⟩

/-- The runs the kernel's products take: four of 1024 columns, and the middle one. -/
def c0 : Fin 1024 → Fin 4544 := col 0 1024 (by norm_num)
def c1 : Fin 1024 → Fin 4544 := col 1024 1024 (by norm_num)
def c2 : Fin 1024 → Fin 4544 := col 2496 1024 (by norm_num)
def c3 : Fin 1024 → Fin 4544 := col 3520 1024 (by norm_num)
def cm : Fin 512 → Fin 4544 := col 2048 512 (by norm_num)

/-- A sum over all columns: four runs of 1024 and the narrow middle one, which is widened to 512 by zeros. -/
theorem sum_cols (a w : Fin 4544 → ℝ) :
    ∑ k, a k * w k = (∑ k, a (c0 k) * w (c0 k)) + (∑ k, a (c1 k) * w (c1 k)) + (∑ k, a (c2 k) * w (c2 k)) + (∑ k, a (c3 k) * w (c3 k))
      + ∑ k : Fin 512, (if k.val < 448 then a (cm k) else 0) * w (cm k) := by
  unfold c0 c1 c2 c3 cm
  have e1 : ∑ k, a k * w k = ∑ k : Fin (1024 + 1024 + 448 + 1024 + 1024), a k * w k := rfl
  have e2 : (∑ k : Fin 512, (if k.val < 448 then a (col 2048 512 (by norm_num) k) else 0) * w (col 2048 512 (by norm_num) k))
      = ∑ k : Fin 448, a (col 2048 448 (by norm_num) k) * w (col 2048 448 (by norm_num) k) := by
    have e3 : (∑ k : Fin 512, (if k.val < 448 then a (col 2048 512 (by norm_num) k) else 0) * w (col 2048 512 (by norm_num) k))
      = ∑ k : Fin (448 + 64), (if k.val < 448 then a (col 2048 512 (by norm_num) k) else 0) * w (col 2048 512 (by norm_num) k) := rfl
    rw [e3, Fin.sum_univ_add, Finset.sum_eq_zero (f := fun i : Fin 64 => _), add_zero]
    · exact Finset.sum_congr rfl fun k _ => by rw [if_pos (show (Fin.castAdd 64 k).val < 448 from k.isLt)]; rfl
    · intro i _; rw [if_neg (by simp [Fin.natAdd]), zero_mul]
  rw [e1, e2, Fin.sum_univ_add, Fin.sum_univ_add, Fin.sum_univ_add, Fin.sum_univ_add]
  have f0 : ∀ k : Fin 1024, col 0 1024 (by norm_num) k = (⟨k.val, by omega⟩ : Fin 4544) := fun k => Fin.ext (Nat.zero_add _)
  simp only [f0]
  show _ = ((((∑ k : Fin 1024, _ : ℝ) + (∑ k : Fin 1024, _ : ℝ)) + ∑ k : Fin 1024, _) + ∑ k : Fin 1024, _) + ∑ k : Fin 448, _
  have comm : ∀ x y z u v : ℝ, x + y + z + u + v = x + y + u + v + z := fun x y z u v => by ring
  exact comm _ _ _ _ _

end Cert.InSpec
-- ==== Proof.InProj.Ref.lean ====
/- The reference's stages over the reals. -/
module

public import proofs.«01_k».proof.Proof.Gen.InProjRefIdeal.Read
public import proofs.«01_k».proof.Proof.InProj.Spec

@[expose] public section

set_option maxRecDepth 16384

noncomputable section

namespace Cert.InProjRefIdeal.Reads

open Idealize.ShloMosaic Idealize.ShloMosaic.TcCoe Idealize.SL.Sem
open Cert.InProjRefIdeal Cert.InProjRefIdeal.Read Cert.Reals Cert.InSpec

variable (x0 x4 : FVec Ideal S2x2048x1024 .f32) (x1 : FVec Ideal S1x1024 .f32) (x2 : FVec Ideal S1x1024x4544 .f32)
  (x3 : FVec Ideal S2x2048x4544 .f32)
  (X : Fin 2 → Fin 2048 → Fin 1024 → ℝ) (g : Fin 1024 → ℝ) (W : Fin 1024 → Fin 4544 → ℝ)
  (Z : Fin 2 → Fin 2048 → Fin 4544 → ℝ) (D : Fin 2 → Fin 2048 → Fin 1024 → ℝ)
  (h0 : ∀ b s d, x0 (ix3 b s d) = (X b s d : EReal)) (h1 : ∀ d, x1 (ix2 0 d) = (g d : EReal))
  (h2 : ∀ d k, x2 (ix3 0 d k) = (W d k : EReal)) (h3 : ∀ b s k, x3 (ix3 b s k) = (Z b s k : EReal))
  (h4 : ∀ b s d, x4 (ix3 b s d) = (D b s d : EReal))

include h0 in
theorem v9_real (b : Fin 2) (s : Fin 2048) (u : Fin 1) :
    val_main_v9 (F := Ideal) x0 (ix3 b s u) = ((msq (X b s) : ℝ) : EReal) := by
  pointwise [val_main_v9, val_main_v8, val_main_cst_2, val_main_v7, val_main_v6, val_main_cst_1, val_main_v5, val_main_v4, val_main_v1, val_main_cst_0]
  simp only [h0, ← EReal.coe_mul, coe_sum, zero_add, w_1024, w_eps, ← EReal.coe_add,
    div_real _ (show (1024 : ℝ) ≠ 0 by norm_num)]
  simp [msq, eps]

include h0 in
theorem v10_real (b : Fin 2) (s : Fin 2048) (u : Fin 1) :
    val_main_v10 (F := Ideal) x0 (ix3 b s u) = ((rinv (X b s) : ℝ) : EReal) := by
  pointwise [val_main_v10]
  rw [v9_real x0 X h0, rsqrt_real (msq_pos _)]; rfl

include h0 in
theorem v15_real (b : Fin 2) (s : Fin 2048) (d : Fin 1024) :
    val_main_v15 (F := Ideal) x0 (ix3 b s d) = ((X b s d * rinv (X b s) : ℝ) : EReal) := by
  pointwise [val_main_v15, val_main_v14]
  rw [v10_real x0 X h0, h0, ← EReal.coe_mul]

include h2 h3 in
theorem v21_real (b : Fin 2) (s : Fin 2048) (d : Fin 1024) :
    val_main_v21 (F := Ideal) x2 x3 (ix3 b s d) = ((dy W Z b s d : ℝ) : EReal) := by
  pointwise [val_main_v21, val_main_v19]
  simp only [h2, h3, ← EReal.coe_mul, coe_sum, dy]

include h1 h2 h3 in
theorem v26_real (b : Fin 2) (s : Fin 2048) (d : Fin 1024) :
    val_main_v26 (F := Ideal) x1 x2 x3 (ix3 b s d) = ((dy W Z b s d * g d : ℝ) : EReal) := by
  pointwise [val_main_v26, val_main_v25, val_main_v16, val_main_v0]
  rw [v21_real x2 x3 W Z h2 h3, h1, ← EReal.coe_mul]

include h0 h2 h3 in
theorem v42_real (d : Fin 1024) :
    val_main_v42 (F := Ideal) x0 x2 x3 (ix2 0 d) = ((dgain X W Z d : ℝ) : EReal) := by
  pointwise [val_main_v42, val_main_v27, val_main_cst_5, val_main_v24, val_main_v23, val_main_cst_4, val_main_v22,
    hostReduceAdd_lead2]
  simp only [v21_real x2 x3 W Z h2 h3, v15_real x0 X h0, ← EReal.coe_mul, coe_sum,
    zero_add, Finset.univ_unique, Finset.sum_singleton, dgain]
  exact congrArg _ (Finset.sum_congr rfl fun b _ => Finset.sum_congr rfl fun s _ => mul_comm _ _)

include h0 h1 h2 h3 h4 in
theorem v40_real (b : Fin 2) (s : Fin 2048) (d : Fin 1024) :
    val_main_v40 (F := Ideal) x0 x1 x2 x3 x4 (ix3 b s d) = ((dx X g W Z D b s d : ℝ) : EReal) := by
  pointwise [val_main_v40, val_main_v39, val_main_v38, val_main_v37, val_main_cst_8, val_main_v36, val_main_v35, val_main_cst_7,
    val_main_v34, val_main_v33, val_main_v32, val_main_v31, val_main_v30, val_main_v29, val_main_cst_6, val_main_v28,
    val_main_v13, val_main_v12, val_main_cst_3, val_main_v11, val_main_v3, val_main_v2, val_main_cst]
  simp only [v26_real x1 x2 x3 g W Z h1 h2 h3, h0, h4,
    v10_real x0 X h0, v9_real x0 X h0, ← EReal.coe_mul, coe_sum, zero_add,
    div_real _ (msq_pos _).ne', w_1024, w_two, w_neghalf, div_real _ (show (1024 : ℝ) ≠ 0 by norm_num), ← EReal.coe_add]
  simp only [Finset.univ_unique, Finset.sum_singleton, dx, ← rmsBwd_vjp, Nat.cast_ofNat, v10_real x0 X h0,
    v9_real x0 X h0, ← EReal.coe_mul, coe_sum, div_real _ (msq_pos _).ne', w_neghalf,
    div_real _ (show (1024 : ℝ) ≠ 0 by norm_num), ← EReal.coe_add]
  congr 1; ring

end Cert.InProjRefIdeal.Reads

end
-- ==== Proof.InProj.Body.lean ====
/- What the kernel's body computes on one block of rows, over the reals. -/
module

public import proofs.«01_k».proof.Proof.Gen.InProjIdeal.Skeleton
public import proofs.«01_k».proof.Proof.InProj.Spec

@[expose] public section

set_option maxRecDepth 16384

noncomputable section

namespace Cert.InProjIdeal.Body

open Idealize.ShloMosaic Idealize.ShloMosaic.TcCoe Idealize.SL.Sem
open Cert.InProjIdeal Cert.InProjIdeal.Gen Cert.Reals Cert.InSpec

variable (v3 v8 v14 v20 : FVec Ideal S512x1024 .bf16) (v5 v10 v16 v22 : FVec Ideal S1024x1024 .bf16)
  (v26 : FVec Ideal S512x512 .bf16) (v28 : FVec Ideal S512x1024 .bf16) (v32 v54 : FVec Ideal S512x1024 .f32) (v51 : FVec Ideal S1x1024 .f32)
  (X : Fin 2 → Fin 2048 → Fin 1024 → ℝ) (g : Fin 1024 → ℝ) (W : Fin 1024 → Fin 4544 → ℝ)
  (Z : Fin 2 → Fin 2048 → Fin 4544 → ℝ) (D : Fin 2 → Fin 2048 → Fin 1024 → ℝ)
  (b : Fin 512 → Fin 2) (s : Fin 512 → Fin 2048)
  (h3 : ∀ r k, v3 (ix2 r k) = (Z (b r) (s r) (c0 k) : EReal)) (h5 : ∀ k d, v5 (ix2 k d) = (W d (c0 k) : EReal))
  (h8 : ∀ r k, v8 (ix2 r k) = (Z (b r) (s r) (c1 k) : EReal)) (h10 : ∀ k d, v10 (ix2 k d) = (W d (c1 k) : EReal))
  (h14 : ∀ r k, v14 (ix2 r k) = (Z (b r) (s r) (c2 k) : EReal)) (h16 : ∀ k d, v16 (ix2 k d) = (W d (c2 k) : EReal))
  (h20 : ∀ r k, v20 (ix2 r k) = (Z (b r) (s r) (c3 k) : EReal)) (h22 : ∀ k d, v22 (ix2 k d) = (W d (c3 k) : EReal))
  (h26 : ∀ r (k : Fin 512), v26 (ix2 r k) = ((if k.val < 448 then Z (b r) (s r) (cm k) else 0 : ℝ) : EReal))
  (h28 : ∀ k d, v28 (ix2 k d) = (W d (cm k) : EReal))
  (h32 : ∀ r d, v32 (ix2 r d) = (X (b r) (s r) d : EReal)) (h51 : ∀ d, v51 (ix2 0 d) = (g d : EReal))
  (h54 : ∀ r d, v54 (ix2 r d) = (D (b r) (s r) d : EReal))

include h3 h5 h8 h10 h14 h16 h20 h22 h26 h28 in
/-- The cotangents of the normalised rows: the five partial products together run over all columns. -/
theorem dy_real (r : Fin 512) (d : Fin 1024) :
    k0_pay1 (F := Ideal) (k0_pay8 v3 v5 v8 v10 v14 v16 v20 v22) (k0_pay9 v26 v28) (ix2 r d) = ((dy W Z (b r) (s r) d : ℝ) : EReal) := by
  pointwise [k0_pay1, k0_pay8, k0_pay9]
  simp only [h3, h5, h8, h10, h14, h16, h20, h22, h26, h28, ← EReal.coe_mul, ← EReal.coe_add, coe_sum, zero_add, dy]
  exact congrArg _ (sum_cols _ _).symm

include h32 in
/-- Each row's reciprocal root. -/
theorem pay3_real (r : Fin 512) (u : Fin 1) :
    k0_pay3 (F := Ideal) v32 (ix2 r u) = ((rinv (X (b r) (s r)) : ℝ) : EReal) := by
  pointwise [k0_pay3, k0_pay2]
  simp only [h32, ← EReal.coe_mul, coe_sum, w_1024, w_eps, ← EReal.coe_add, div_real _ (show (1024 : ℝ) ≠ 0 by norm_num)]
  rw [rsqrt_real] <;> [skip; (have := msq_pos (X (b r) (s r)); simpa [msq, eps] using this)]
  simp [rinv, msq, eps]

include h32 in
/-- The normalised rows. -/
theorem pay4_real (r : Fin 512) (d : Fin 1024) :
    k0_pay4 (F := Ideal) v32 (ix2 r d) = ((X (b r) (s r) d * rinv (X (b r) (s r)) : ℝ) : EReal) := by
  pointwise [k0_pay4, k0_pay2]
  rw [pay3_real v32 X b s h32, h32, ← EReal.coe_mul]

/-- The block's part of the scale's gradient, over any cotangents. -/
theorem pay5_real (p q : FVec Ideal S512x1024 .f32) (hpq : ∀ r d, k0_pay1 (F := Ideal) p q (ix2 r d) = ((dy W Z (b r) (s r) d : ℝ) : EReal))
    (h32 : ∀ r d, v32 (ix2 r d) = (X (b r) (s r) d : EReal)) (acc : FVec Ideal S1x1024 .f32) (d : Fin 1024) :
    k0_pay5 (F := Ideal) p q v32 acc (ix2 0 d)
      = acc (ix2 0 d) + ((∑ r : Fin 512, dy W Z (b r) (s r) d * (X (b r) (s r) d * rinv (X (b r) (s r))) : ℝ) : EReal) := by
  pointwise [k0_pay5]
  simp only [hpq, pay4_real v32 X b s h32, ← EReal.coe_mul, coe_sum]

include h51 h54 in
/-- The rows' gradients, over any cotangents. -/
theorem pay6_real (p q : FVec Ideal S512x1024 .f32) (hpq : ∀ r d, k0_pay1 (F := Ideal) p q (ix2 r d) = ((dy W Z (b r) (s r) d : ℝ) : EReal))
    (h32 : ∀ r d, v32 (ix2 r d) = (X (b r) (s r) d : EReal)) (r : Fin 512) (d : Fin 1024) :
    k0_pay6 (F := Ideal) p q v32 v51 v54 (ix2 r d) = ((dx X g W Z D (b r) (s r) d : ℝ) : EReal) := by
  pointwise [k0_pay6]
  simp only [hpq, pay4_real v32 X b s h32, h51, h54, pay3_real v32 X b s h32, ← EReal.coe_mul, coe_sum, w_1024,
    ← EReal.coe_sub, ← EReal.coe_add, div_real _ (show (1024 : ℝ) ≠ 0 by norm_num)]
  simp [dx, rmsBwd]

end Cert.InProjIdeal.Body

end
-- ==== Proof.InProj.Final.lean ====
/- The kernel's result arrays over the reals. -/
module

public import proofs.«01_k».proof.Proof.Gen.InProjIdeal.Frame
public import proofs.«01_k».proof.Proof.InProj.Body
public import proofs.«01_k».proof.Proof.Common.Tokens
public import Idealize.ShloMosaic.Lib.Pipeline.ValueKit

@[expose] public section

set_option maxRecDepth 16384

noncomputable section

namespace Cert.InProjIdeal.Final

open Idealize.ShloMosaic Idealize.ShloMosaic.TcCoe Idealize.SL.Sem
open Cert.InProjIdeal Cert.InProjIdeal.Gen Cert.InProjIdeal.Body Cert.Reals Cert.InSpec Cert.Tokens

variable (m : (ℓ : Loc nD τ sig) → Buf (Elt Ideal) ℓ) (c : Dev nD)
  (X : Fin 2 → Fin 2048 → Fin 1024 → ℝ) (g : Fin 1024 → ℝ) (W : Fin 1024 → Fin 4544 → ℝ)
  (Z : Fin 2 → Fin 2048 → Fin 4544 → ℝ) (D : Fin 2 → Fin 2048 → Fin 1024 → ℝ)

/-- The argument arrays are images of real arrays. -/
def Args : Prop :=
  (∀ b s d, (show FVec Ideal S2x2048x1024 .f32 from m ((c : Thread nD τ).loc main_arg0)) (ix3 b s d) = (X b s d : EReal))
  ∧ (∀ d, (show FVec Ideal S1x1024 .f32 from m ((c : Thread nD τ).loc main_arg1)) (ix2 0 d) = (g d : EReal))
  ∧ (∀ d k, (show FVec Ideal S1x1024x4544 .f32 from m ((c : Thread nD τ).loc main_arg2)) (ix3 0 d k) = (W d k : EReal))
  ∧ (∀ b s k, (show FVec Ideal S2x2048x4544 .f32 from m ((c : Thread nD τ).loc main_arg3)) (ix3 b s k) = (Z b s k : EReal))
  ∧ (∀ b s d, (show FVec Ideal S2x2048x1024 .f32 from m ((c : Thread nD τ).loc main_arg4)) (ix3 b s d) = (D b s d : EReal))

theorem row_lt (t : Fin cfg0.N) (r : Fin 512) : t.val * 512 + r.val < 4096 := by
  have := lt_of_lt_of_eq t.isLt N_0; have := r.isLt; omega

/-- The column of the cotangent that column `k` of the wide operand holds: the narrow middle run is left out. -/
def wide (k : Fin 4096) : Fin 4544 := ⟨if k.val < 2048 then k.val else k.val + 448, by have := k.isLt; split <;> omega⟩

theorem idx : ∀ t : Fin cfg0.N, win0_0.index t = ![t.val, 0] ∧ win0_1.index t = ![t.val, 0] ∧ win0_2.index t = ![0, 0]
    ∧ win0_3.index t = ![t.val, 0] ∧ win0_4.index t = ![0, 0] ∧ win0_5.index t = ![t.val, 0] ∧ win0_6.index t = ![t.val, 0]
    ∧ win0_7.index t = ![0, 0] :=
  (by decide +kernel : ∀ t : Fin grid0.N, _)

variable {m c X g W Z D} (h : Args m c X g W Z D)
include h

theorem blk0 (t : Fin cfg0.N) (r : Fin 512) (k : Fin 4096) :
    (show FVec Ideal S512x4096 .bf16 from iblk m c 0 t) (ix2 r k)
      = ((Z (tb _ (row_lt t r)) (ts (t.val * 512 + r.val)) (wide k) : ℝ) : EReal) := by
  refine Eq.trans ?_ (h.2.2.2.1 _ _ _)
  unfold iblk Gen.V
  after_results
  blk_simp [idx t]
  pointwise
  have e0 : (((View.whole main_v4).slice (win0_0.rect t)).emb (ix2 r k) 0).val = t.val * 512 + r.val := by blk_simp [idx t]
  have e1 : (((View.whole main_v4).slice (win0_0.rect t)).emb (ix2 r k) 1).val = k.val := by blk_simp [idx t]
  simp only [e0, e1, tb, ts]
  split <;> rename_i hk
  · have ew : wide k = ⟨k.val, by omega⟩ := Fin.ext (if_pos hk)
    simp only [ew]
  · have ew : wide k = ⟨2496 + (k.val - 2048), by have := k.isLt; omega⟩ := by
      apply Fin.ext
      show (if k.val < 2048 then k.val else k.val + 448) = 2496 + (k.val - 2048)
      rw [if_neg hk]; omega
    simp only [ew]

theorem blk1 (t : Fin cfg0.N) (r : Fin 512) (k : Fin 512) :
    (show FVec Ideal S512x512 .bf16 from iblk m c 1 t) (ix2 r k)
      = ((if k.val < 448 then Z (tb _ (row_lt t r)) (ts (t.val * 512 + r.val)) (cm k) else 0 : ℝ) : EReal) := by
  unfold iblk Gen.V
  after_results
  blk_simp [idx t]
  pointwise
  have e0 : (((View.whole main_v7).slice (win0_1.rect t)).emb (ix2 r k) 0).val = t.val * 512 + r.val := by blk_simp [idx t]
  have e1 : (((View.whole main_v7).slice (win0_1.rect t)).emb (ix2 r k) 1).val = k.val := by blk_simp [idx t]
  simp only [e0, e1]
  by_cases hk : k.val < 448
  · simp only [hk, dif_pos, if_pos]
    exact h.2.2.2.1 _ _ _
  · simp only [hk, dif_neg, if_neg, not_false_eq_true]; rfl

theorem blk2 (t : Fin cfg0.N) (k : Fin 4544) (d : Fin 1024) :
    (show FVec Ideal S4544x1024 .bf16 from iblk m c 2 t) (ix2 k d) = ((W d k : ℝ) : EReal) := by
  rw [← h.2.2.1]
  unfold iblk Gen.V
  after_results
  blk_simp [idx t]
  pointwise
  blk_ext [idx t, tb, ts]

theorem blk3 (t : Fin cfg0.N) (r : Fin 512) (d : Fin 1024) :
    (show FVec Ideal S512x1024 .f32 from iblk m c 3 t) (ix2 r d)
      = ((X (tb _ (row_lt t r)) (ts (t.val * 512 + r.val)) d : ℝ) : EReal) := by
  rw [← h.1]
  unfold iblk Gen.V
  after_results
  blk_simp [idx t]
  pointwise
  blk_ext [idx t, tb, ts]

theorem blk4 (t : Fin cfg0.N) (d : Fin 1024) :
    (show FVec Ideal S1x1024 .f32 from iblk m c 4 t) (ix2 0 d) = ((g d : ℝ) : EReal) := by
  rw [← h.2.1]
  unfold iblk Gen.V
  after_results
  blk_simp [idx t]
  pointwise
  blk_ext [idx t, tb, ts]

theorem blk5 (t : Fin cfg0.N) (r : Fin 512) (d : Fin 1024) :
    (show FVec Ideal S512x1024 .f32 from iblk m c 5 t) (ix2 r d)
      = ((D (tb _ (row_lt t r)) (ts (t.val * 512 + r.val)) d : ℝ) : EReal) := by
  rw [← h.2.2.2.2]
  unfold iblk Gen.V
  after_results
  blk_simp [idx t]
  pointwise
  blk_ext [idx t, tb, ts]

/-! The runs of columns the body reads. -/

theorem run0 (t : Fin cfg0.N) (r : Fin 512) (k : Fin 1024) :
    (show FVec Ideal S512x1024 .bf16 from View.ld (iblk m c 0 t) (Rect.unit ![0, 0] ![512, 1024] inb_S512x4096_S512x1024_0_0)) (ix2 r k)
      = ((Z (tb _ (row_lt t r)) (ts (t.val * 512 + r.val)) (c0 k) : ℝ) : EReal) := by
  have e : c0 k = wide ⟨0 + k.val, by have := k.isLt; omega⟩ := Fin.ext (by have := k.isLt; simp only [c0, c1, c2, c3, col, wide]; split <;> omega)
  rw [e]
  refine Eq.trans ?_ (blk0 h t _ _)
  pointwise
  blk_ext

theorem run1 (t : Fin cfg0.N) (r : Fin 512) (k : Fin 1024) :
    (show FVec Ideal S512x1024 .bf16 from View.ld (iblk m c 0 t) (Rect.unit ![0, 1024] ![512, 1024] inb_S512x4096_S512x1024_0_1024)) (ix2 r k)
      = ((Z (tb _ (row_lt t r)) (ts (t.val * 512 + r.val)) (c1 k) : ℝ) : EReal) := by
  have e : c1 k = wide ⟨1024 + k.val, by have := k.isLt; omega⟩ := Fin.ext (by have := k.isLt; simp only [c0, c1, c2, c3, col, wide]; split <;> omega)
  rw [e]
  refine Eq.trans ?_ (blk0 h t _ _)
  pointwise
  blk_ext

theorem run2 (t : Fin cfg0.N) (r : Fin 512) (k : Fin 1024) :
    (show FVec Ideal S512x1024 .bf16 from View.ld (iblk m c 0 t) (Rect.unit ![0, 2048] ![512, 1024] inb_S512x4096_S512x1024_0_2048)) (ix2 r k)
      = ((Z (tb _ (row_lt t r)) (ts (t.val * 512 + r.val)) (c2 k) : ℝ) : EReal) := by
  have e : c2 k = wide ⟨2048 + k.val, by have := k.isLt; omega⟩ := Fin.ext (by have := k.isLt; simp only [c0, c1, c2, c3, col, wide]; split <;> omega)
  rw [e]
  refine Eq.trans ?_ (blk0 h t _ _)
  pointwise
  blk_ext

theorem run3 (t : Fin cfg0.N) (r : Fin 512) (k : Fin 1024) :
    (show FVec Ideal S512x1024 .bf16 from View.ld (iblk m c 0 t) (Rect.unit ![0, 3072] ![512, 1024] inb_S512x4096_S512x1024_0_3072)) (ix2 r k)
      = ((Z (tb _ (row_lt t r)) (ts (t.val * 512 + r.val)) (c3 k) : ℝ) : EReal) := by
  have e : c3 k = wide ⟨3072 + k.val, by have := k.isLt; omega⟩ := Fin.ext (by have := k.isLt; simp only [c0, c1, c2, c3, col, wide]; split <;> omega)
  rw [e]
  refine Eq.trans ?_ (blk0 h t _ _)
  pointwise
  blk_ext

theorem wrun0 (t : Fin cfg0.N) (k : Fin 1024) (d : Fin 1024) :
    (show FVec Ideal S1024x1024 .bf16 from View.ld (iblk m c 2 t) (Rect.unit ![0, 0] ![1024, 1024] inb_S4544x1024_S1024x1024_0_0)) (ix2 k d)
      = ((W d (c0 k) : ℝ) : EReal) := by
  refine Eq.trans ?_ (blk2 h t _ _)
  pointwise
  blk_ext [c0, c1, c2, c3, cm, col]

theorem wrun1 (t : Fin cfg0.N) (k : Fin 1024) (d : Fin 1024) :
    (show FVec Ideal S1024x1024 .bf16 from View.ld (iblk m c 2 t) (Rect.unit ![1024, 0] ![1024, 1024] inb_S4544x1024_S1024x1024_1024_0)) (ix2 k d)
      = ((W d (c1 k) : ℝ) : EReal) := by
  refine Eq.trans ?_ (blk2 h t _ _)
  pointwise
  blk_ext [c0, c1, c2, c3, cm, col]

theorem wrun2 (t : Fin cfg0.N) (k : Fin 1024) (d : Fin 1024) :
    (show FVec Ideal S1024x1024 .bf16 from View.ld (iblk m c 2 t) (Rect.unit ![2496, 0] ![1024, 1024] inb_S4544x1024_S1024x1024_2496_0)) (ix2 k d)
      = ((W d (c2 k) : ℝ) : EReal) := by
  refine Eq.trans ?_ (blk2 h t _ _)
  pointwise
  blk_ext [c0, c1, c2, c3, cm, col]

theorem wrun3 (t : Fin cfg0.N) (k : Fin 1024) (d : Fin 1024) :
    (show FVec Ideal S1024x1024 .bf16 from View.ld (iblk m c 2 t) (Rect.unit ![3520, 0] ![1024, 1024] inb_S4544x1024_S1024x1024_3520_0)) (ix2 k d)
      = ((W d (c3 k) : ℝ) : EReal) := by
  refine Eq.trans ?_ (blk2 h t _ _)
  pointwise
  blk_ext [c0, c1, c2, c3, cm, col]

theorem wrun4 (t : Fin cfg0.N) (k : Fin 512) (d : Fin 1024) :
    (show FVec Ideal S512x1024 .bf16 from View.ld (iblk m c 2 t) (Rect.unit ![2048, 0] ![512, 1024] inb_S4544x1024_S512x1024_2048_0)) (ix2 k d)
      = ((W d (cm k) : ℝ) : EReal) := by
  refine Eq.trans ?_ (blk2 h t _ _)
  pointwise
  blk_ext [c0, c1, c2, c3, cm, col]

/-- The cotangents of one block's normalised rows. -/
theorem dyp (t : Fin cfg0.N) (r : Fin 512) (d : Fin 1024) :
    k0_pay1 (F := Ideal) (k0_pay8 (View.ld (iblk m c 0 t) (Rect.unit ![0, 0] ![512, 1024] inb_S512x4096_S512x1024_0_0)) (View.ld (iblk m c 2 t) (Rect.unit ![0, 0] ![1024, 1024] inb_S4544x1024_S1024x1024_0_0)) (View.ld (iblk m c 0 t) (Rect.unit ![0, 1024] ![512, 1024] inb_S512x4096_S512x1024_0_1024)) (View.ld (iblk m c 2 t) (Rect.unit ![1024, 0] ![1024, 1024] inb_S4544x1024_S1024x1024_1024_0)) (View.ld (iblk m c 0 t) (Rect.unit ![0, 2048] ![512, 1024] inb_S512x4096_S512x1024_0_2048)) (View.ld (iblk m c 2 t) (Rect.unit ![2496, 0] ![1024, 1024] inb_S4544x1024_S1024x1024_2496_0)) (View.ld (iblk m c 0 t) (Rect.unit ![0, 3072] ![512, 1024] inb_S512x4096_S512x1024_0_3072)) (View.ld (iblk m c 2 t) (Rect.unit ![3520, 0] ![1024, 1024] inb_S4544x1024_S1024x1024_3520_0)))
      (k0_pay9 (iblk m c 1 t) (View.ld (iblk m c 2 t) (Rect.unit ![2048, 0] ![512, 1024] inb_S4544x1024_S512x1024_2048_0))) (ix2 r d) = ((dy W Z (tb _ (row_lt t r)) (ts (t.val * 512 + r.val)) d : ℝ) : EReal) :=
  dy_real _ _ _ _ _ _ _ _ _ _ W Z (fun r => tb _ (row_lt t r)) (fun r => ts (t.val * 512 + r.val))
    (run0 h t) (wrun0 h t) (run1 h t) (wrun1 h t) (run2 h t) (wrun2 h t) (run3 h t) (wrun3 h t) (blk1 h t) (wrun4 h t) r d

/-- One block of the input's gradient. -/
theorem point6 (t : Fin cfg0.N) (y : S512x1024.Idx) :
    k0_pay6 (F := Ideal) (k0_pay8 (View.ld (iblk m c 0 t) (Rect.unit ![0, 0] ![512, 1024] inb_S512x4096_S512x1024_0_0)) (View.ld (iblk m c 2 t) (Rect.unit ![0, 0] ![1024, 1024] inb_S4544x1024_S1024x1024_0_0)) (View.ld (iblk m c 0 t) (Rect.unit ![0, 1024] ![512, 1024] inb_S512x4096_S512x1024_0_1024)) (View.ld (iblk m c 2 t) (Rect.unit ![1024, 0] ![1024, 1024] inb_S4544x1024_S1024x1024_1024_0)) (View.ld (iblk m c 0 t) (Rect.unit ![0, 2048] ![512, 1024] inb_S512x4096_S512x1024_0_2048)) (View.ld (iblk m c 2 t) (Rect.unit ![2496, 0] ![1024, 1024] inb_S4544x1024_S1024x1024_2496_0)) (View.ld (iblk m c 0 t) (Rect.unit ![0, 3072] ![512, 1024] inb_S512x4096_S512x1024_0_3072)) (View.ld (iblk m c 2 t) (Rect.unit ![3520, 0] ![1024, 1024] inb_S4544x1024_S1024x1024_3520_0)))
      (k0_pay9 (iblk m c 1 t) (View.ld (iblk m c 2 t) (Rect.unit ![2048, 0] ![512, 1024] inb_S4544x1024_S512x1024_2048_0))) (iblk m c 3 t) (iblk m c 4 t) (iblk m c 5 t) y
      = ((dx X g W Z D (tb _ (row_lt t (y 0))) (ts (t.val * 512 + (y 0).val)) (y 1) : ℝ) : EReal) := by
  rw [eq_ix2 y]
  exact pay6_real _ _ _ X g W Z D (fun r => tb _ (row_lt t r)) (fun r => ts (t.val * 512 + r.val))
    (blk4 h t) (blk5 h t) _ _ (dyp h t) (blk3 h t) (y 0) (y 1)

/-- One block's part of the scale's gradient, added to what the row held. -/
theorem point7 (acc : FVec Ideal S1x1024 .f32) (t : Fin cfg0.N) (j : S1x1024.Idx) :
    k0_pay5 (F := Ideal) (k0_pay8 (View.ld (iblk m c 0 t) (Rect.unit ![0, 0] ![512, 1024] inb_S512x4096_S512x1024_0_0)) (View.ld (iblk m c 2 t) (Rect.unit ![0, 0] ![1024, 1024] inb_S4544x1024_S1024x1024_0_0)) (View.ld (iblk m c 0 t) (Rect.unit ![0, 1024] ![512, 1024] inb_S512x4096_S512x1024_0_1024)) (View.ld (iblk m c 2 t) (Rect.unit ![1024, 0] ![1024, 1024] inb_S4544x1024_S1024x1024_1024_0)) (View.ld (iblk m c 0 t) (Rect.unit ![0, 2048] ![512, 1024] inb_S512x4096_S512x1024_0_2048)) (View.ld (iblk m c 2 t) (Rect.unit ![2496, 0] ![1024, 1024] inb_S4544x1024_S1024x1024_2496_0)) (View.ld (iblk m c 0 t) (Rect.unit ![0, 3072] ![512, 1024] inb_S512x4096_S512x1024_0_3072)) (View.ld (iblk m c 2 t) (Rect.unit ![3520, 0] ![1024, 1024] inb_S4544x1024_S1024x1024_3520_0)))
      (k0_pay9 (iblk m c 1 t) (View.ld (iblk m c 2 t) (Rect.unit ![2048, 0] ![512, 1024] inb_S4544x1024_S512x1024_2048_0))) (iblk m c 3 t) acc j
      = acc j + ((∑ r : Fin 512, dy W Z (tb _ (row_lt t r)) (ts (t.val * 512 + r.val)) (j 1)
        * (X (tb _ (row_lt t r)) (ts (t.val * 512 + r.val)) (j 1) * rinv (X (tb _ (row_lt t r)) (ts (t.val * 512 + r.val)))) : ℝ) : EReal) := by
  have e : j = ix2 0 (j 1) := by idx_ext
  rw [e]
  exact pay5_real _ X W Z (fun r => tb _ (row_lt t r)) (fun r => ts (t.val * 512 + r.val)) _ _ (dyp h t) (blk3 h t) acc (j 1)

/-- The input's gradient, token by token. -/
theorem final6 : (dats m 0 c).arrAt 6 (cfgs 0).N
    = fun i : S4096x1024.Idx => ((dx X g W Z D (tb (i 0).val (i 0).isLt) (ts (i 0).val) (i 1) : ℝ) : EReal) := by
  refine (dats m 0 c).arrAt_eq_of_covers 6 _ (by decide +kernel) fun t _ y => ?_
  have e : ∀ y : S512x1024.Idx, ((dx X g W Z D (tb _ (row_lt t (y 0))) (ts (t.val * 512 + (y 0).val)) (y 1) : ℝ) : EReal)
      = (fun i : S4096x1024.Idx => ((dx X g W Z D (tb (i 0).val (i 0).isLt) (ts (i 0).val) (i 1) : ℝ) : EReal)) (((cfg0.win 6).blk t).view.emb y) := by
    intro y; idx_vars y; blk_simp [idx t]
    exact congrArg (fun z => ((dx X g W Z D _ _ z : ℝ) : EReal)) (Fin.ext (by blk_simp [idx t]))
  refine Eq.trans ?_ (e y)
  blk_simp
  rw [after0_6]
  by_cases h0 : t.val % 8 = 0
  · rw [outsAt0_A m c t h0]; frame_out
    exact point6 h t y
  · rw [outsAt0_B m c t h0]; frame_out
    exact point6 h t y

/-- The gradient of the norm's scale. -/
theorem final7 : (dats m 0 c).arrAt 7 (cfgs 0).N = fun i : S1x1024.Idx => ((dgain X W Z (i 1) : ℝ) : EReal) := by
  refine (dats m 0 c).arrAt_eq_of_after_last 7 t0_7 (by decide +kernel) _ fun j => ?_
  blk_simp
  rw [after0_7, Pipeline.eq_sum_fin_of_reset_step_apply_last (fun n h => (outsAt0 m c n h).2) 8 (fun _ => 0)
    (fun (p : Fin cfg0.N) (j : S1x1024.Idx) => ((∑ r : Fin 512, dy W Z (tb _ (row_lt p r)) (ts (p.val * 512 + r.val)) (j 1)
        * (X (tb _ (row_lt p r)) (ts (p.val * 512 + r.val)) (j 1) * rinv (X (tb _ (row_lt p r)) (ts (p.val * 512 + r.val)))) : ℝ) : EReal))
    (fun t h0 j => by rw [outsAt0_A m c t h0]; frame_out; exact (point7 h _ t j).trans (congrArg (· + _) (by pointwise [k0_pay7])))
    (fun t h0 j => by rw [outsAt0_B m c t h0]; frame_out; exact point7 h _ t j)
    (le_of_eq N_0) t0_7 rfl j, zero_add]
  refine (coe_sum _ _).trans (congrArg _ ?_)
  show _ = dgain X W Z (j 1)
  unfold dgain
  rw [sum_tiles 8 512 rfl]
  rfl

end Cert.InProjIdeal.Final

end
-- ==== Proof.InProj.Equal.lean ====
/- The token mixers' norm: kernel and reference compute the same gradients over the reals. -/
module

public import proofs.«01_k».proof.Defs
public import proofs.«01_k».proof.Proof.Gen.Pre_in_finite
public import proofs.«01_k».proof.Proof.InProj.Ref
public import proofs.«01_k».proof.Proof.InProj.Final
public import Idealize.ShloMosaic.Lib.Claim

@[expose] public section

set_option maxRecDepth 16384

noncomputable section

namespace Cert.InProjIdeal.Equal

open Idealize.ShloMosaic Idealize.ShloMosaic.TcCoe Idealize.SL.Sem
open Cert.InProjIdeal Cert.InProjIdeal.Gen Cert.InProjIdeal.Final Cert.Reals Cert.InSpec Cert.Tokens

/-- The finite arguments are images of their real parts. -/
theorem args_of_pre (m : (ℓ : Loc nD τ sig) → Buf (Elt Ideal) ℓ) (hp : Cert.Pre_InProjIdeal_in_finite m) (c : Dev nD) :
    ∃ X g W Z D, Args m c X g W Z D := by
  obtain ⟨p0, p1, p2, p3, p4⟩ := hp c
  exact ⟨_, _, _, _, _, fun _ _ _ => real_of_abs_lt _ _ p0 _, fun _ => real_of_abs_lt _ _ p1 _,
    fun _ _ => real_of_abs_lt _ _ p2 _, fun _ _ _ => real_of_abs_lt _ _ p3 _, fun _ _ _ => real_of_abs_lt _ _ p4 _⟩

open Cert.InProjRefIdeal.Read Cert.InProjRefIdeal.Reads

variable {m : (ℓ : Loc nD τ sig) → Buf (Elt Ideal) ℓ} {c : Dev nD} {X : Fin 2 → Fin 2048 → Fin 1024 → ℝ} {g : Fin 1024 → ℝ}
  {W : Fin 1024 → Fin 4544 → ℝ} {Z : Fin 2 → Fin 2048 → Fin 4544 → ℝ} {D : Fin 2 → Fin 2048 → Fin 1024 → ℝ}
  (h : Args m c X g W Z D)
include h

/-- The reference's gradient of the input, its rows numbered through both sequences. -/
theorem ref_dx : val_main_v41 (F := Ideal) (m ((c : Thread nD τ).loc main_arg0)) (m ((c : Thread nD τ).loc main_arg1)) (m ((c : Thread nD τ).loc main_arg2)) (m ((c : Thread nD τ).loc main_arg3)) (m ((c : Thread nD τ).loc main_arg4))
    = fun i : S4096x1024.Idx => ((dx X g W Z D (tb (i 0).val (i 0).isLt) (ts (i 0).val) (i 1) : ℝ) : EReal) := by
  funext i
  refine Eq.trans ?_ (v40_real _ _ _ _ _ X g W Z D h.1 h.2.1 h.2.2.1 h.2.2.2.1 h.2.2.2.2 _ _ _)
  idx_vars i
  pointwise [val_main_v41]
  blk_ext [tb, ts]

theorem ref_gain : val_main_v42 (F := Ideal) (m ((c : Thread nD τ).loc main_arg0)) (m ((c : Thread nD τ).loc main_arg2)) (m ((c : Thread nD τ).loc main_arg3))
    = fun i : S1x1024.Idx => ((dgain X W Z (i 1) : ℝ) : EReal) := by
  funext i
  refine Eq.trans (congrArg _ ?_) (v42_real _ _ _ X W Z h.1 h.2.2.1 h.2.2.2.1 (i 1))
  idx_vars i
  idx_ext

omit h in
/-- The kernel and the reference end with equal arrays. -/
theorem claim : Cert.algebraic_InProjIdeal_InProjRefIdeal_pre_in_finite := by
  pair_intro
  · run_from Cert.InProjIdeal.Gen.run_main m g
  · run_from Cert.InProjRefIdeal.Value.run m' g'
    all_goals obtain ⟨X, g, W, Z, D, h⟩ := args_of_pre m hpre c
    · exact (val_main_v41_eq _ _ _ _ _).trans ((ref_dx h).trans (final6 h).symm)
    · exact (val_main_v42_eq _ _ _).trans ((ref_gain h).trans (final7 h).symm)

omit h in
/-- The reference runs, keeps its arguments and leaves every counter at zero. -/
theorem ref_frame : Cert.quiescent_InProjRefIdeal := fun m ρ _ =>
  (θ_run Cert.InProjRefIdeal.defs _ _).mono (fun r h => ⟨fun c => (h c).2.2, sem_eq_zero_of_no_sems (by decide) r.2⟩)
    (Cert.InProjRefIdeal.Value.run m ρ)

end Cert.InProjIdeal.Equal

end
-- ==== Proof.Attn.Spec.lean ====
/- Causal attention and its gradient, for one head and over the reals. -/
module

public import proofs.«01_k».proof.Proof.Common.Reals

@[expose] public section

noncomputable section

namespace Cert.AttnSpec

/-- The scale on the scores: the rational the program's word for 192^(-1/2) stands for. -/
def scale : ℝ := 9686330 / 134217728

/-- A head of 192 columns padded with zeros to 256. -/
def wide {n : ℕ} (f : Fin n → Fin 192 → ℝ) (i : Fin n) (d : Fin 256) : ℝ := if h : d.val < 192 then f i ⟨d.val, h⟩ else 0

/-- The batch element of a row. -/
def bat (r : Fin 4096) : Fin 2 := ⟨r.val / 2048, by omega⟩

/-- The position of a row in its batch element. -/
def pos (r : Fin 4096) : Fin 2048 := ⟨r.val % 2048, by omega⟩

/-- The head of a column of values. -/
def head (c : Fin 1024) : Fin 8 := ⟨c.val / 128, by omega⟩

/-- The column of a value in its head. -/
def lane (c : Fin 1024) : Fin 128 := ⟨c.val % 128, by omega⟩

/-- The head of a padded column. -/
def whead (c : Fin 2048) : Fin 8 := ⟨c.val / 256, by omega⟩

/-- The place of a padded column in its head. -/
def wlane (c : Fin 2048) : Fin 256 := ⟨c.val % 256, by omega⟩

theorem p512 : 512 ≤ 2048 := by decide
theorem p1024 : 1024 ≤ 2048 := by decide
theorem p1536 : 1536 ≤ 2048 := by decide
theorem p2048 : 2048 ≤ 2048 := le_rfl
theorem t512 : 512 + 512 ≤ 2048 := by decide
theorem t1024 : 1024 + 512 ≤ 2048 := by decide
theorem t1536 : 1536 + 512 ≤ 2048 := by decide

/-- Row `r` of the tile of 512 rows at `o`. -/
abbrev row (o : ℕ) (ho : o + 512 ≤ 2048) (r : Fin 512) : Fin 2048 := ⟨o + r.val, lt_of_lt_of_le (Nat.add_lt_add_left r.isLt o) ho⟩

/-- Row `j` of the first `n`. -/
abbrev pre (n : ℕ) (hn : n ≤ 2048) (j : Fin n) : Fin 2048 := ⟨j.val, lt_of_lt_of_le j.isLt hn⟩

section head

variable (q k : Fin 2048 → Fin 192 → ℝ) (v w : Fin 2048 → Fin 128 → ℝ)

/-- Score of query `i` against key `j`. -/
def score (i j : Fin 2048) : ℝ := (∑ d, q i d * k j d) * scale

/-- The softmax's numerator, shifted by `M`, zero above the diagonal. -/
def num (M : ℝ) (i j : Fin 2048) : ℝ := if j ≤ i then Real.exp (score q k i j - M) else 0

/-- The softmax's denominator, shifted by `M`. -/
def den (M : ℝ) (i : Fin 2048) : ℝ := ∑ j, num q k M i j

/-- The attention weights. -/
def prob (i j : Fin 2048) : ℝ := num q k 0 i j / den q k 0 i

/-- The attention's output. -/
def out (i : Fin 2048) (d : Fin 128) : ℝ := ∑ j, prob q k i j * v j d

/-- The cotangent of the weights, from the output's cotangent `w`. -/
def dprob (i j : Fin 2048) : ℝ := ∑ d, w i d * v j d

/-- The row sum of the output times its cotangent. -/
def delta (i : Fin 2048) : ℝ := ∑ d, w i d * out q k v i d

/-- The cotangent of the scores. -/
def dscore (i j : Fin 2048) : ℝ := prob q k i j * (dprob v w i j - delta q k v w i)

/-- The gradient of the queries. -/
def dq (i : Fin 2048) (d : Fin 192) : ℝ := (∑ j, dscore q k v w i j * k j d) * scale

/-- The gradient of the keys. -/
def dk (j : Fin 2048) (d : Fin 192) : ℝ := ∑ i, dscore q k v w i j * (q i d * scale)

/-- The gradient of the values. -/
def dv (j : Fin 2048) (d : Fin 128) : ℝ := ∑ i, prob q k i j * w i d

theorem num_nonneg (M : ℝ) (i j : Fin 2048) : 0 ≤ num q k M i j := by
  unfold num; split
  · exact (Real.exp_pos _).le
  · exact le_rfl

/-- The denominator is positive: the diagonal's term is. -/
theorem den_pos (M : ℝ) (i : Fin 2048) : 0 < den q k M i := by
  refine Finset.sum_pos' (fun j _ => num_nonneg q k M i j) ⟨i, Finset.mem_univ _, ?_⟩
  unfold num; rw [if_pos le_rfl]; exact Real.exp_pos _

theorem num_shift (M : ℝ) (i j : Fin 2048) : num q k M i j = num q k 0 i j * Real.exp (-M) := by
  unfold num; split
  · rw [← Real.exp_add]; congr 1; ring
  · rw [zero_mul]

theorem den_shift (M : ℝ) (i : Fin 2048) : den q k M i = den q k 0 i * Real.exp (-M) := by
  unfold den; rw [Finset.sum_mul]; exact Finset.sum_congr rfl fun j _ => num_shift q k M i j

/-- The weights do not depend on the shift. -/
theorem prob_shift (M : ℝ) (i j : Fin 2048) : num q k M i j / den q k M i = prob q k i j := by
  rw [num_shift, den_shift]; unfold prob
  exact mul_div_mul_right _ _ (Real.exp_ne_zero _)

/-- The weights as exponentials below the row's log-sum. -/
theorem prob_lse (M : ℝ) (i j : Fin 2048) :
    (if j ≤ i then Real.exp (score q k i j - (M + Real.log (den q k M i))) else 0) = prob q k i j := by
  rw [← prob_shift q k M]; unfold num; split
  · rw [← sub_sub, Real.exp_sub, Real.exp_log (den_pos q k M i)]
  · rw [zero_div]

/-- The output from shifted numerators, divided at the end. -/
theorem out_shift (M : ℝ) (i : Fin 2048) (d : Fin 128) :
    (∑ j, num q k M i j * v j d) / den q k M i = out q k v i d := by
  unfold out; rw [Finset.sum_div]
  refine Finset.sum_congr rfl fun j _ => ?_
  rw [← prob_shift q k M]; ring

/-- The row sum is the mean of the weights' cotangent under the weights. -/
theorem delta_eq (i : Fin 2048) : delta q k v w i = ∑ j, prob q k i j * dprob v w i j := by
  unfold delta out dprob
  simp only [Finset.mul_sum]
  rw [Finset.sum_comm]
  refine Finset.sum_congr rfl fun j _ => Finset.sum_congr rfl fun d _ => by ring

/-- The derivative of a quotient of the shifted numerators by their sum, as the chain rule spells it. -/
theorem dscore_quot (M : ℝ) (i j : Fin 2048) :
    (dprob v w i j / den q k M i + -(∑ l, dprob v w i l * (num q k M i l / (den q k M i * den q k M i)))) * num q k M i j = dscore q k v w i j := by
  have h := (den_pos q k M i).ne'
  have e : ∀ l, dprob v w i l * (num q k M i l / (den q k M i * den q k M i)) = prob q k i l * dprob v w i l / den q k M i := by
    intro l; rw [← prob_shift q k M]; field_simp
  simp only [e]
  rw [← Finset.sum_div, ← delta_eq]; unfold dscore; rw [← prob_shift q k M]; field_simp; ring

theorem prob_above {i j : Fin 2048} (h : ¬ j ≤ i) : prob q k i j = 0 := by
  unfold prob num; rw [if_neg h, zero_div]

theorem dscore_above {i j : Fin 2048} (h : ¬ j ≤ i) : dscore q k v w i j = 0 := by
  unfold dscore; rw [prob_above q k h, zero_mul]

/-- A sum over the first `n` keys is the sum over all of them where the later terms vanish. -/
theorem sum_prefix (n : ℕ) (hn : n ≤ 2048) (f : Fin 2048 → ℝ) (hf : ∀ j : Fin 2048, n ≤ j.val → f j = 0) :
    ∑ j : Fin n, f ⟨j.val, lt_of_lt_of_le j.isLt hn⟩ = ∑ j, f j := by
  have key : ∀ r, ∀ g : Fin (n + r) → ℝ, (∀ j : Fin (n + r), n ≤ j.val → g j = 0) →
      ∑ j : Fin n, g ⟨j.val, by have := j.isLt; omega⟩ = ∑ j, g j := by
    intro r g hg
    rw [Fin.sum_univ_add, Finset.sum_eq_zero (f := fun i : Fin r => g (Fin.natAdd n i)), add_zero]
    · rfl
    · exact fun i _ => hg _ (by simp [Fin.natAdd])
  obtain ⟨r, hr⟩ : ∃ r, n + r = 2048 := ⟨2048 - n, by omega⟩
  have h := key r (fun j => f (Fin.cast hr j)) (fun j hj => hf _ hj)
  refine h.trans ?_
  exact Fintype.sum_equiv (finCongr hr) _ _ fun j => rfl

/-- The first `n` keys and the next `r`. -/
theorem sum_prefix_add (n r : ℕ) (hn : n + r ≤ 2048) (f : Fin 2048 → ℝ) (hf : ∀ j : Fin 2048, n + r ≤ j.val → f j = 0) :
    (∑ j : Fin n, f ⟨j.val, by have := j.isLt; omega⟩) + ∑ j : Fin r, f ⟨n + j.val, by have := j.isLt; omega⟩ = ∑ j, f j := by
  rw [← sum_prefix (n + r) hn f hf, Fin.sum_univ_add]
  rfl

/-- The sum over all rows, in tiles of 512. -/
theorem sum_rows (f : Fin 2048 → ℝ) :
    ∑ i, f i = (∑ r : Fin 512, f ⟨r.val, by omega⟩) + (∑ r : Fin 512, f ⟨512 + r.val, by omega⟩)
      + (∑ r : Fin 512, f ⟨1024 + r.val, by omega⟩) + ∑ r : Fin 512, f ⟨1536 + r.val, by omega⟩ := by
  have e : ∑ i, f i = ∑ i : Fin (512 + 512 + 512 + 512), f i := rfl
  rw [e, Fin.sum_univ_add, Fin.sum_univ_add, Fin.sum_univ_add]
  rfl

/-- The row's log-sum does not depend on the shift. -/
theorem lse_shift (M : ℝ) (i : Fin 2048) : M + Real.log (den q k M i) = Real.log (den q k 0 i) := by
  rw [den_shift, Real.log_mul (den_pos q k 0 i).ne' (Real.exp_ne_zero _), Real.log_exp]; ring

/-- The weights from the row's log-sum. -/
theorem prob_log (i j : Fin 2048) : (if j ≤ i then Real.exp (score q k i j - Real.log (den q k 0 i)) else 0) = prob q k i j := by
  have h := prob_lse q k 0 i j
  rwa [zero_add] at h

/-- A sum over padded columns is the sum over the columns. -/
theorem sum_wide (f : Fin 192 → ℝ) : (∑ d : Fin 256, if h : d.val < 192 then f ⟨d.val, h⟩ else 0) = ∑ d, f d := by
  have e : (∑ d : Fin 256, if h : d.val < 192 then f ⟨d.val, h⟩ else 0) = ∑ d : Fin (192 + 64), if h : d.val < 192 then f ⟨d.val, h⟩ else 0 := rfl
  rw [e, Fin.sum_univ_add]
  refine (congrArg₂ (· + ·) (Finset.sum_congr rfl fun d _ => dif_pos d.isLt) (Finset.sum_eq_zero fun d _ => dif_neg ?_)).trans (add_zero _)
  exact Nat.not_lt.2 (Nat.le_add_right 192 d.val)

/-- The scores from the padded, scaled operands. -/
theorem wide_score (i j : Fin 2048) : ∑ d, wide (fun i d => q i d * scale) i d * wide k j d = score q k i j := by
  unfold score wide
  rw [Finset.sum_mul, ← sum_wide fun d => q i d * k j d * scale]
  refine Finset.sum_congr rfl fun d _ => ?_
  split
  · ring
  · ring

/-- The padded gradient of the queries. -/
theorem wide_dq (i : Fin 2048) (d : Fin 256) : (∑ j, dscore q k v w i j * wide k j d) * scale = wide (dq q k v w) i d := by
  unfold wide dq; split
  · rfl
  · simp

/-- The padded gradient of the keys. -/
theorem wide_dk (j : Fin 2048) (d : Fin 256) : ∑ i, dscore q k v w i j * wide (fun i d => q i d * scale) i d = wide (dk q k v w) j d := by
  unfold wide dk; split
  · rfl
  · simp

end head

end Cert.AttnSpec
-- ==== Proof.Attn.RowMax.lean ====
/- A row's maximum over the extended reals: minus infinity stands above the diagonal, and the diagonal's score is real. -/
module

public import proofs.«01_k».proof.Proof.Attn.Spec

@[expose] public section

noncomputable section

namespace Cert.AttnSpec

open Idealize.ShloMosaic

/-- A maximum of numbers below +∞, one of them above −∞, is the image of a real. -/
theorem fold_max_real {ι : Type} [Fintype ι] (a : EReal) (f : ι → EReal) (ha : a < ⊤) (hf : ∀ i, f i < ⊤) (i : ι) (hi : ⊥ < f i) :
    Finset.univ.fold max a f = ((Finset.univ.fold max a f).toReal : EReal) := by
  have h1 : Finset.univ.fold max a f < ⊤ := (Finset.fold_max_lt _).2 ⟨ha, fun x _ => hf x⟩
  have h2 : ⊥ < Finset.univ.fold max a f := (Finset.lt_fold_max _).2 (Or.inr ⟨i, Finset.mem_univ _, hi⟩)
  exact (EReal.coe_toReal h1.ne h2.ne').symm

/-- A masked score is below +∞. -/
theorem masked_lt_top (p : Prop) [Decidable p] (x : ℝ) : (if p then (x : EReal) else ⊥) < ⊤ := by
  split
  · exact EReal.coe_lt_top x
  · exact bot_lt_top

/-- The exponential of a masked score below a real: zero where the mask is off. -/
theorem exp_masked (p : Prop) [Decidable p] (x M : ℝ) :
    Ideal.exp ((if p then (x : EReal) else ⊥) - (M : EReal)) = ((if p then Real.exp (x - M) else 0 : ℝ) : EReal) := by
  split
  · rw [← EReal.coe_sub, Ideal.exp_coe]
  · rw [sub_eq_add_neg, EReal.bot_add, Ideal.exp_bot]; rfl

/-- The word of −∞. -/
theorem w_neginf : Ideal.ofBits .f32 0xFF800000#32 = ⊥ := by simp [Ideal.ofBits, Ideal.ieee]

/-- The word of the scale. -/
theorem w_scale : Ideal.ofBits .f32 0x3D93CD3A#32 = ((scale : ℝ) : EReal) := by
  simp [Ideal.ofBits, Ideal.ieee, -EReal.coe_mul, scale]; norm_num

end Cert.AttnSpec
-- ==== Proof.Attn.Ref.lean ====
/- The reference's stages over the reals. -/
module

public import proofs.«01_k».proof.Proof.Gen.AttnRefIdeal.Read
public import proofs.«01_k».proof.Proof.Attn.Spec
public import proofs.«01_k».proof.Proof.Attn.RowMax
public import Idealize.ShloMosaic.Lib.WordCmp

@[expose] public section

set_option maxRecDepth 16384

noncomputable section

namespace Cert.AttnRefIdeal.Reads

open Idealize.ShloMosaic Idealize.ShloMosaic.TcCoe Idealize.SL.Sem
open Cert.AttnRefIdeal Cert.AttnRefIdeal.Read Cert.Reals Cert.AttnSpec

variable (x0 x1 : FVec Ideal S2x2048x8x192 .f32) (x2 x3 : FVec Ideal S2x2048x8x128 .f32)
  (Q K : Fin 2 → Fin 8 → Fin 2048 → Fin 192 → ℝ) (V D : Fin 2 → Fin 8 → Fin 2048 → Fin 128 → ℝ)
  (h0 : ∀ b i h d, x0 (ix4 b i h d) = (Q b h i d : EReal)) (h1 : ∀ b i h d, x1 (ix4 b i h d) = (K b h i d : EReal))
  (h2 : ∀ b i h d, x2 (ix4 b i h d) = (V b h i d : EReal)) (h3 : ∀ b i h d, x3 (ix4 b i h d) = (D b h i d : EReal))

/-- The causal mask at a position. -/
theorem mask_at (b : Fin 2) (h : Fin 8) (i j : Fin 2048) :
    val_main_v9_1 (F := Ideal) (ix4 b h i j) = BitVec.ofBool (decide (j ≤ i)) := by
  pointwise [val_main_v9_1, val_main_v8, val_main_v7, val_main_v6, val_main_v5, val_main_v4, val_main_v3]
  word_cmp
  rfl

include h0 h1 in
theorem v9_real (b : Fin 2) (h : Fin 8) (i j : Fin 2048) :
    val_main_v9_0 (F := Ideal) x0 x1 (ix4 b h i j) = if j ≤ i then ((score (Q b h) (K b h) i j : ℝ) : EReal) else ⊥ := by
  pointwise [val_main_v9_0, val_main_v2, val_main_v1, val_main_cst, val_main_v0, val_main_call0_v2, val_main_call0_v0, val_main_cst_0]
  rw [mask_at]
  simp only [h0, h1, ← EReal.coe_mul, coe_sum, w_scale]
  rw [show id (constant (F := Ideal) S_ .f32 0xFF800000#32) ix0 = (⊥ : EReal) from w_neginf]
  by_cases hj : j ≤ i
  · simp [Scalar.select, hj, score, EReal.coe_mul]
  · simp [Scalar.select, hj]

/-- The row's maximum, as a real. -/
def rowMax (b : Fin 2) (h : Fin 8) (i : Fin 2048) : ℝ := (val_main_v10 (F := Ideal) x0 x1 (ix3 b h i) : EReal).toReal

include h0 h1 in
theorem v10_real (b : Fin 2) (h : Fin 8) (i : Fin 2048) :
    val_main_v10 (F := Ideal) x0 x1 (ix3 b h i) = ((rowMax x0 x1 b h i : ℝ) : EReal) := by
  unfold rowMax
  have e : val_main_v10 (F := Ideal) x0 x1 (ix3 b h i)
      = Finset.univ.fold max (⊥ : EReal) fun j => if j ≤ i then ((score (Q b h) (K b h) i j : ℝ) : EReal) else ⊥ := by
    pointwise [val_main_v10, val_main_cst_1]
    simp only [v9_real x0 x1 Q K h0 h1, w_neginf]
  rw [e]
  exact fold_max_real _ _ bot_lt_top (fun j => masked_lt_top _ _) i (by rw [if_pos le_rfl]; exact EReal.bot_lt_coe _)

/-- A maximum with the least value is the other one. -/
theorem max_of_bot {a b c : EReal} (ha : a = ⊥) (hb : b = c) : max a b = c := by
  subst ha hb; exact max_eq_right bot_le

theorem v16_bot (b : Fin 2) (h : Fin 8) (i : Fin 2048) : val_main_v16 (F := Ideal) (ix3 b h i) = (⊥ : EReal) := by
  pointwise [val_main_v16, val_main_cst_3]; exact w_neginf

include h0 h1 in
theorem v17_real (b : Fin 2) (h : Fin 8) (i : Fin 2048) :
    val_main_v17 (F := Ideal) x0 x1 (ix3 b h i) = ((rowMax x0 x1 b h i : ℝ) : EReal) := by
  unfold val_main_v17
  rw [maximumf_apply, Ideal.maximumf_eq_max]
  exact max_of_bot (v16_bot b h i) (v10_real x0 x1 Q K h0 h1 b h i)

theorem v28_at (b : Fin 2) (h : Fin 8) (i j : Fin 2048) :
    val_main_v28 (F := Ideal) x0 x1 (ix4 b h i j) = val_main_v17 (F := Ideal) x0 x1 (ix3 b h i) := by
  pointwise [val_main_v28, val_main_v27]

theorem v30_at (b : Fin 2) (h : Fin 8) (i j : Fin 2048) :
    val_main_v30 (F := Ideal) x0 x1 (ix4 b h i j)
      = Ideal.exp (val_main_v9_0 (F := Ideal) x0 x1 (ix4 b h i j) - val_main_v28 (F := Ideal) x0 x1 (ix4 b h i j)) := by
  pointwise [val_main_v30, val_main_v29]

include h0 h1 in
theorem v30_real (b : Fin 2) (h : Fin 8) (i j : Fin 2048) :
    val_main_v30 (F := Ideal) x0 x1 (ix4 b h i j) = ((num (Q b h) (K b h) (rowMax x0 x1 b h i) i j : ℝ) : EReal) := by
  rw [v30_at, v9_real x0 x1 Q K h0 h1, v28_at, v17_real x0 x1 Q K h0 h1, exp_masked]
  rfl

include h0 h1 in
theorem v32_real (b : Fin 2) (h : Fin 8) (i : Fin 2048) (u : Fin 1) :
    val_main_v32 (F := Ideal) x0 x1 (ix4 b h i u) = ((den (Q b h) (K b h) (rowMax x0 x1 b h i) i : ℝ) : EReal) := by
  pointwise [val_main_v32, val_main_v31, val_main_cst_9]
  simp only [v30_real x0 x1 Q K h0 h1, coe_sum, w_zero, zero_add, ← EReal.coe_add]
  rfl

include h0 h1 in
theorem v34_real (b : Fin 2) (h : Fin 8) (i j : Fin 2048) :
    val_main_v34 (F := Ideal) x0 x1 (ix4 b h i j) = ((prob (Q b h) (K b h) i j : ℝ) : EReal) := by
  pointwise [val_main_v34, val_main_v33]
  rw [v30_real x0 x1 Q K h0 h1, v32_real x0 x1 Q K h0 h1, div_real _ (den_pos _ _ _ _).ne', prob_shift]

include h0 h1 h2 in
theorem v39_real (b : Fin 2) (h : Fin 8) (i : Fin 2048) (d : Fin 128) :
    val_main_v39 (F := Ideal) x0 x1 x2 (ix4 b i h d) = ((out (Q b h) (K b h) (V b h) i d : ℝ) : EReal) := by
  pointwise [val_main_v39, val_main_v38]
  simp only [v34_real x0 x1 Q K h0 h1, h2, ← EReal.coe_mul, coe_sum, out]
  exact congrArg _ (Finset.sum_congr rfl fun j _ => mul_comm _ _)

include h2 h3 in
theorem v41_real (b : Fin 2) (h : Fin 8) (i j : Fin 2048) :
    val_main_v41 (F := Ideal) x2 x3 (ix4 b h i j) = ((dprob (V b h) (D b h) i j : ℝ) : EReal) := by
  pointwise [val_main_v41, val_main_v40]
  simp only [h2, h3, ← EReal.coe_mul, coe_sum, dprob]

include h0 h1 h3 in
theorem v43_real (b : Fin 2) (h : Fin 8) (j : Fin 2048) (d : Fin 128) :
    val_main_v43 (F := Ideal) x0 x1 x3 (ix4 b j h d) = ((dv (Q b h) (K b h) (D b h) j d : ℝ) : EReal) := by
  pointwise [val_main_v43, val_main_v42, val_main_v40]
  simp only [v34_real x0 x1 Q K h0 h1, h3, ← EReal.coe_mul, coe_sum, dv]
  exact congrArg _ (Finset.sum_congr rfl fun j _ => mul_comm _ _)

include h0 h1 h2 h3 in
theorem v58_real (b : Fin 2) (h : Fin 8) (i j : Fin 2048) :
    val_main_v58 (F := Ideal) x0 x1 x2 x3 (ix4 b h i j)
      = ((dscore (Q b h) (K b h) (V b h) (D b h) i j * scale : ℝ) : EReal) := by
  have hd := (den_pos (Q b h) (K b h) (rowMax x0 x1 b h i) i).ne'
  pointwise [val_main_v58, val_main_v57, val_main_cst_13, val_main_v56, val_main_call1_v0, val_main_call1_cst, val_main_v55,
    val_main_v54, val_main_v53, val_main_v52, val_main_cst_12, val_main_v51, val_main_v50, val_main_v49, val_main_v48,
    val_main_v47, val_main_cst_11, val_main_v46, val_main_v45, val_main_v44, val_main_v37, val_main_v36, val_main_cst_10,
    val_main_v35]
  simp only [v30_real x0 x1 Q K h0 h1, v32_real x0 x1 Q K h0 h1, v41_real x2 x3 V D h2 h3, mask_at]
  have one : (1 : EReal) = ((1 : ℝ) : EReal) := rfl
  simp only [Finset.univ_unique, Finset.sum_singleton, ← EReal.coe_mul, one, div_real _ hd, div_real _ (mul_ne_zero hd hd), coe_sum,
    ← EReal.coe_neg, ← EReal.coe_add, w_scale]
  by_cases hj : j ≤ i
  · simp only [Scalar.select, hj, decide_true, BitVec.ofBool_true, if_true, one_div, ← dscore_quot (Q b h) (K b h) (V b h) (D b h) (rowMax x0 x1 b h i) i j]
    refine congrArg _ ?_
    congr 1; congr 1; congr 1; congr 1
    exact Finset.sum_congr rfl fun l _ => by rw [mul_assoc, ← div_eq_inv_mul]
  · simp [Scalar.select, hj, dscore_above]

include h0 h1 h2 h3 in
theorem v60_real (b : Fin 2) (h : Fin 8) (j : Fin 2048) (d : Fin 192) :
    val_main_v60 (F := Ideal) x0 x1 x2 x3 (ix4 b j h d) = ((dk (Q b h) (K b h) (V b h) (D b h) j d : ℝ) : EReal) := by
  pointwise [val_main_v60, val_main_v59]
  simp only [v58_real x0 x1 x2 x3 Q K V D h0 h1 h2 h3, h0, ← EReal.coe_mul, coe_sum, dk]
  exact congrArg _ (Finset.sum_congr rfl fun i _ => by ring)

include h0 h1 h2 h3 in
theorem v62_real (b : Fin 2) (h : Fin 8) (i : Fin 2048) (d : Fin 192) :
    val_main_v62 (F := Ideal) x0 x1 x2 x3 (ix4 b i h d) = ((dq (Q b h) (K b h) (V b h) (D b h) i d : ℝ) : EReal) := by
  pointwise [val_main_v62, val_main_v61]
  simp only [v58_real x0 x1 x2 x3 Q K V D h0 h1 h2 h3, h1, ← EReal.coe_mul, coe_sum, dq]
  exact congrArg _ (by rw [Finset.sum_mul]; exact Finset.sum_congr rfl fun i _ => by ring)

include h0 h1 h2 in
/-- The attention's output. -/
theorem ref_o (r : Fin 4096) (c : Fin 1024) :
    val_main_v64 (F := Ideal) x0 x1 x2 (ix2 r c)
      = ((out (Q (bat r) (head c)) (K (bat r) (head c)) (V (bat r) (head c)) (pos r) (lane c) : ℝ) : EReal) := by
  pointwise [val_main_v64, val_main_v63]
  exact v39_real x0 x1 x2 Q K V h0 h1 h2 _ _ _ _

include h0 h1 h3 in
/-- The gradient of the values. -/
theorem ref_dv (r : Fin 4096) (c : Fin 1024) :
    val_main_v74 (F := Ideal) x0 x1 x3 (ix2 r c)
      = ((dv (Q (bat r) (head c)) (K (bat r) (head c)) (D (bat r) (head c)) (pos r) (lane c) : ℝ) : EReal) := by
  pointwise [val_main_v74, val_main_v73]
  exact v43_real x0 x1 x3 Q K D h0 h1 h3 _ _ _ _

include h0 h1 h2 h3 in
/-- The gradient of the queries. -/
theorem ref_dq (r : Fin 4096) (c : Fin 2048) :
    val_main_v68 (F := Ideal) x0 x1 x2 x3 (ix2 r c)
      = ((wide (dq (Q (bat r) (whead c)) (K (bat r) (whead c)) (V (bat r) (whead c)) (D (bat r) (whead c))) (pos r) (wlane c) : ℝ) : EReal) := by
  pointwise [val_main_v68, val_main_v67, val_main_v66, val_main_v65, val_main_cst_14]
  unfold wide wlane
  split
  · exact v62_real x0 x1 x2 x3 Q K V D h0 h1 h2 h3 _ _ _ _
  · rfl

include h0 h1 h2 h3 in
/-- The gradient of the keys. -/
theorem ref_dk (r : Fin 4096) (c : Fin 2048) :
    val_main_v72 (F := Ideal) x0 x1 x2 x3 (ix2 r c)
      = ((wide (dk (Q (bat r) (whead c)) (K (bat r) (whead c)) (V (bat r) (whead c)) (D (bat r) (whead c))) (pos r) (wlane c) : ℝ) : EReal) := by
  pointwise [val_main_v72, val_main_v71, val_main_v70, val_main_v69, val_main_cst_15]
  unfold wide wlane
  split
  · exact v60_real x0 x1 x2 x3 Q K V D h0 h1 h2 h3 _ _ _ _
  · rfl

end Cert.AttnRefIdeal.Reads

end
-- ==== Proof.Attn.Run.lean ====
/- The run of the two calls: what each result array holds at the end. -/
module

public import proofs.«01_k».proof.Proof.Gen.AttnIdeal.Frame

@[expose] public section

set_option maxRecDepth 16384

noncomputable section

namespace Cert.AttnIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.AttnIdeal Cert.AttnIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The second call and the host operations before it leave the first call's output as it is. -/
theorem W4_o (c : Dev nD) : W4 m ρ c (Proc.devRef .tc main_v14_0) = (dat0 (V1 m ρ) c).arrAt 3 cfg0.N :=
  (W4_of m ρ c main_v14_0 (by decide)).trans ((W3_of m ρ c main_v14_0 (by decide)).trans (W2_arr m ρ c 3))

set_option backward.isDefEq.respectTransparency.types false in
/-- Every run ends with each result array at what its call writes and the arguments unchanged. -/
theorem run : θ_run defs (onTc (τ := τ) (main (F := F))) ⟨m, fun _ => 0, ρ⟩ (fun r => ∀ c : Dev nD,
      r.2.mem ((c.tc : Thread nD τ).loc main_v14_0) = (dat0 (V1 m ρ) c).arrAt 3 cfg0.N
      ∧ r.2.mem ((c.tc : Thread nD τ).loc main_v16_0) = (dat1 (V3 m ρ) c).arrAt 6 cfg1.N
      ∧ r.2.mem ((c.tc : Thread nD τ).loc main_v16_1) = (dat1 (V3 m ρ) c).arrAt 7 cfg1.N
      ∧ r.2.mem ((c.tc : Thread nD τ).loc main_v16_2) = (dat1 (V3 m ρ) c).arrAt 8 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c =>
      ⟨(h c _ (mem_uc main_v14_0 (by decide))).trans (W4_o m ρ c),
       (h c _ (mem_uc main_v16_0 (by decide))).trans (W4_arr m ρ c 6),
       (h c _ (mem_uc main_v16_1 (by decide))).trans (W4_arr m ρ c 7),
       (h c _ (mem_uc main_v16_2 (by decide))).trans (W4_arr m ρ c 8),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩)

end Cert.AttnIdeal.Value

end
-- ==== Proof.Attn.Entry.lean ====
/- The two calls' operands over the reals. -/
module

public import proofs.«01_k».proof.Proof.Gen.AttnIdeal.Frame
public import proofs.«01_k».proof.Proof.Attn.RowMax
public import Idealize.ShloMosaic.Lib.Pipeline.ValueKit

@[expose] public section

set_option maxRecDepth 16384

noncomputable section

namespace Cert.AttnIdeal.Value

open Idealize.ShloMosaic Idealize.ShloMosaic.TcCoe Idealize.SL.Sem
open Cert.AttnIdeal Cert.AttnIdeal.Gen Cert.Reals Cert.AttnSpec

variable (m : (ℓ : Loc nD τ sig) → Buf (Elt Ideal) ℓ) (ρ : Dev nD → PrngReg) (c : Dev nD)
  (Q K : Fin 2 → Fin 8 → Fin 2048 → Fin 192 → ℝ) (A D : Fin 2 → Fin 8 → Fin 2048 → Fin 128 → ℝ)

/-- The argument arrays are images of real arrays. -/
def Args : Prop :=
  (∀ b s h d, (show FVec Ideal S2x2048x8x192 .f32 from m ((c : Thread nD τ).loc main_arg0)) (ix4 b s h d) = (Q b h s d : EReal))
  ∧ (∀ b s h d, (show FVec Ideal S2x2048x8x192 .f32 from m ((c : Thread nD τ).loc main_arg1)) (ix4 b s h d) = (K b h s d : EReal))
  ∧ (∀ b s h d, (show FVec Ideal S2x2048x8x128 .f32 from m ((c : Thread nD τ).loc main_arg2)) (ix4 b s h d) = (A b h s d : EReal))
  ∧ (∀ b s h d, (show FVec Ideal S2x2048x8x128 .f32 from m ((c : Thread nD τ).loc main_arg3)) (ix4 b s h d) = (D b h s d : EReal))

variable {m c Q K A D} (h : Args m c Q K A D)
include h

/-- The padded, scaled queries. -/
theorem entry_q (r : Fin 4096) (k : Fin 2048) : (show FVec Ideal S4096x2048 .bf16 from V1 m ρ c main_v5) (ix2 r k)
    = ((wide (fun i d => Q (bat r) (whead k) i d * scale) (pos r) (wlane k) : ℝ) : EReal) := by
  unfold V1 W1
  after_results
  pointwise
  unfold wide wlane
  split
  · exact (congrArg₂ (· * ·) (h.1 _ _ _ _) w_scale).trans (EReal.coe_mul _ _).symm
  · rfl

/-- The padded keys. -/
theorem entry_k (r : Fin 4096) (k : Fin 2048) : (show FVec Ideal S4096x2048 .bf16 from V1 m ρ c main_v9) (ix2 r k)
    = ((wide (K (bat r) (whead k)) (pos r) (wlane k) : ℝ) : EReal) := by
  unfold V1 W1
  after_results
  pointwise
  unfold wide wlane
  split
  · exact h.2.1 _ _ _ _
  · rfl

/-- The values. -/
theorem entry_v (r : Fin 4096) (k : Fin 1024) : (show FVec Ideal S4096x1024 .bf16 from V1 m ρ c main_v11) (ix2 r k)
    = ((A (bat r) (head k) (pos r) (lane k) : ℝ) : EReal) := by
  refine Eq.trans ?_ (h.2.2.1 _ _ _ _)
  unfold V1 W1
  after_results
  pointwise
  rfl

/-- The output's cotangent. -/
theorem entry_do (r : Fin 4096) (k : Fin 1024) : (show FVec Ideal S4096x1024 .bf16 from V1 m ρ c main_v13) (ix2 r k)
    = ((D (bat r) (head k) (pos r) (lane k) : ℝ) : EReal) := by
  refine Eq.trans ?_ (h.2.2.2 _ _ _ _)
  unfold V1 W1
  after_results
  pointwise
  rfl

omit h

/-- The batch element of a grid point. -/
def gb (t : Fin 16) : Fin 2 := ⟨t.val / 8, by omega⟩

/-- The head of a grid point. -/
def gh (t : Fin 16) : Fin 8 := ⟨t.val % 8, by omega⟩

/-- Row `i` of a grid point's blocks. -/
def grow (t : Fin 16) (i : Fin 2048) : Fin 4096 := ⟨t.val / 8 * 2048 + i.val, by omega⟩

/-- Padded column `d` of a grid point's blocks. -/
def gwide (t : Fin 16) (d : Fin 256) : Fin 2048 := ⟨t.val % 8 * 256 + d.val, by omega⟩

/-- Column `d` of a grid point's blocks of values. -/
def gcol (t : Fin 16) (d : Fin 128) : Fin 1024 := ⟨t.val % 8 * 128 + d.val, by omega⟩

theorem bat_grow (t : Fin 16) (i : Fin 2048) : bat (grow t i) = gb t := Fin.ext (by show (t.val / 8 * 2048 + i.val) / 2048 = t.val / 8; omega)
theorem pos_grow (t : Fin 16) (i : Fin 2048) : pos (grow t i) = i := Fin.ext (by show (t.val / 8 * 2048 + i.val) % 2048 = i.val; omega)
theorem whead_gwide (t : Fin 16) (d : Fin 256) : whead (gwide t d) = gh t := Fin.ext (by show (t.val % 8 * 256 + d.val) / 256 = t.val % 8; omega)
theorem wlane_gwide (t : Fin 16) (d : Fin 256) : wlane (gwide t d) = d := Fin.ext (by show (t.val % 8 * 256 + d.val) % 256 = d.val; omega)
theorem head_gcol (t : Fin 16) (d : Fin 128) : head (gcol t d) = gh t := Fin.ext (by show (t.val % 8 * 128 + d.val) / 128 = t.val % 8; omega)
theorem lane_gcol (t : Fin 16) (d : Fin 128) : lane (gcol t d) = d := Fin.ext (by show (t.val % 8 * 128 + d.val) % 128 = d.val; omega)

/-- A function of the batch element, head, position and lane, at a block's element. -/
theorem place {β : Type} (t : Fin 16) (i : Fin 2048) (d : Fin 128) (f : Fin 2 → Fin 8 → Fin 2048 → Fin 128 → β) :
    f (gb t) (gh t) i d = f (bat (grow t i)) (head (gcol t d)) (pos (grow t i)) (lane (gcol t d)) := by
  rw [bat_grow, pos_grow, head_gcol, lane_gcol]

/-- The same over the widened lanes. -/
theorem placeW {β : Type} (t : Fin 16) (i : Fin 2048) (d : Fin 256) (f : Fin 2 → Fin 8 → Fin 2048 → Fin 256 → β) :
    f (gb t) (gh t) i d = f (bat (grow t i)) (whead (gwide t d)) (pos (grow t i)) (wlane (gwide t d)) := by
  rw [bat_grow, pos_grow, whead_gwide, wlane_gwide]

theorem idx0 : ∀ t : Fin cfg0.N, win0_0.index t = ![t.val / 8, t.val % 8] ∧ win0_1.index t = ![t.val / 8, t.val % 8]
    ∧ win0_2.index t = ![t.val / 8, t.val % 8] ∧ win0_3.index t = ![t.val / 8, t.val % 8] ∧ win0_4.index t = ![t.val / 8, t.val % 8] :=
  (by decide +kernel : ∀ t : Fin grid0.N, _)

theorem idx1 : ∀ t : Fin cfg1.N, win1_0.index t = ![t.val / 8, t.val % 8] ∧ win1_1.index t = ![t.val / 8, t.val % 8]
    ∧ win1_2.index t = ![t.val / 8, t.val % 8] ∧ win1_3.index t = ![t.val / 8, t.val % 8] ∧ win1_4.index t = ![t.val / 8, t.val % 8]
    ∧ win1_5.index t = ![t.val / 8, t.val % 8] ∧ win1_6.index t = ![t.val / 8, t.val % 8] ∧ win1_7.index t = ![t.val / 8, t.val % 8]
    ∧ win1_8.index t = ![t.val / 8, t.val % 8] :=
  (by decide +kernel : ∀ t : Fin grid1.N, _)

section reads

variable (U : (c : Dev nD) → (b : Ref sig .tc) → Buf (Elt Ideal) ((c : Thread nD τ).loc b)) (t : Fin 16)

theorem read0_0 (i : Fin 2048) (d : Fin 256) : (show FVec Ideal S2048x256 .bf16 from iblk0 U c 0 t) (ix2 i d)
    = (show FVec Ideal S4096x2048 .bf16 from U c main_v5) (ix2 (grow t i) (gwide t d)) := by
  unfold iblk0
  blk_simp [idx0 t]
  blk_ext [idx0 t, grow, gwide]

theorem read0_1 (i : Fin 2048) (d : Fin 256) : (show FVec Ideal S2048x256 .bf16 from iblk0 U c 1 t) (ix2 i d)
    = (show FVec Ideal S4096x2048 .bf16 from U c main_v9) (ix2 (grow t i) (gwide t d)) := by
  unfold iblk0
  blk_simp [idx0 t]
  blk_ext [idx0 t, grow, gwide]

theorem read0_2 (i : Fin 2048) (d : Fin 128) : (show FVec Ideal S2048x128 .bf16 from iblk0 U c 2 t) (ix2 i d)
    = (show FVec Ideal S4096x1024 .bf16 from U c main_v11) (ix2 (grow t i) (gcol t d)) := by
  unfold iblk0
  blk_simp [idx0 t]
  blk_ext [idx0 t, grow, gcol]

theorem read1_0 (i : Fin 2048) (d : Fin 256) : (show FVec Ideal S2048x256 .bf16 from iblk1 U c 0 t) (ix2 i d)
    = (show FVec Ideal S4096x2048 .bf16 from U c main_v5) (ix2 (grow t i) (gwide t d)) := by
  unfold iblk1
  blk_simp [idx1 t]
  blk_ext [idx1 t, grow, gwide]

theorem read1_1 (i : Fin 2048) (d : Fin 256) : (show FVec Ideal S2048x256 .bf16 from iblk1 U c 1 t) (ix2 i d)
    = (show FVec Ideal S4096x2048 .bf16 from U c main_v9) (ix2 (grow t i) (gwide t d)) := by
  unfold iblk1
  blk_simp [idx1 t]
  blk_ext [idx1 t, grow, gwide]

theorem read1_2 (i : Fin 2048) (d : Fin 128) : (show FVec Ideal S2048x128 .bf16 from iblk1 U c 2 t) (ix2 i d)
    = (show FVec Ideal S4096x1024 .bf16 from U c main_v11) (ix2 (grow t i) (gcol t d)) := by
  unfold iblk1
  blk_simp [idx1 t]
  blk_ext [idx1 t, grow, gcol]

theorem read1_3 (i : Fin 2048) (d : Fin 128) : (show FVec Ideal S2048x128 .bf16 from iblk1 U c 3 t) (ix2 i d)
    = (show FVec Ideal S4096x1024 .bf16 from U c main_v14_0) (ix2 (grow t i) (gcol t d)) := by
  unfold iblk1
  blk_simp [idx1 t]
  blk_ext [idx1 t, grow, gcol]

theorem read1_4 (i : Fin 2048) (d : Fin 128) : (show FVec Ideal S2048x128 .bf16 from iblk1 U c 4 t) (ix2 i d)
    = (show FVec Ideal S4096x1024 .bf16 from U c main_v13) (ix2 (grow t i) (gcol t d)) := by
  unfold iblk1
  blk_simp [idx1 t]
  blk_ext [idx1 t, grow, gcol]

theorem read1_5 (i : Fin 2048) (d : Fin 128) : (show FVec Ideal S2048x128 .f32 from iblk1 U c 5 t) (ix2 i d)
    = (show FVec Ideal S4096x1024 .f32 from U c main_v14_1) (ix2 (grow t i) (gcol t d)) := by
  unfold iblk1
  blk_simp [idx1 t]
  blk_ext [idx1 t, grow, gcol]

end reads

end Cert.AttnIdeal.Value

end
-- ==== Proof.Attn.FwdFirst.lean ====
/- The forward call's tiles over the reals. -/
module

public import proofs.«01_k».proof.Proof.Gen.AttnIdeal.Frame
public import proofs.«01_k».proof.Proof.Attn.Spec
public import proofs.«01_k».proof.Proof.Attn.RowMax
public import Idealize.ShloMosaic.Lib.WordCmp

@[expose] public section

set_option maxRecDepth 16384

noncomputable section

namespace Cert.AttnIdeal.Value

open Idealize.ShloMosaic Idealize.ShloMosaic.TcCoe Idealize.SL.Sem
open Cert.AttnIdeal Cert.AttnIdeal.Gen Cert.Reals Cert.AttnSpec

/-- The named constant of the mask. -/
theorem mask_named : (Named.named (F := Ideal) (φ := .f32) κ "mask" 0xF149F2CA#32 : EReal) = ⊥ :=
  IdealRules.named_const.ideal_named_scalar _ _ _ _ rfl

/-- The causal mask inside a tile of the diagonal. -/
theorem diag_at (r c : Fin 512) : k0_pay4 (ix2 r c) = BitVec.ofBool (decide (c ≤ r)) := by
  pointwise [k0_pay4]
  rw [show IntOp.addi (BitVec.ofNat 32 r.val) 0#32 = BitVec.ofNat 32 r.val from BitVec.add_zero _]
  word_cmp
  rfl

/-- A row's maximum. -/
def mx (m : FVec Ideal S512x1 .f32) (r : Fin 512) : ℝ := (m (ix2 r 0) : EReal).toReal

/-- The larger of two reals is a real. -/
theorem max_real {a b : EReal} (ha : a = (a.toReal : EReal)) (hb : b = (b.toReal : EReal)) : max a b = ((max a b).toReal : EReal) := by
  rcases max_choice a b with h | h <;> rw [h] <;> assumption

variable (q k : Fin 2048 → Fin 192 → ℝ) (v : Fin 2048 → Fin 128 → ℝ)
  (m : IVec S512x512 1) (hm : ∀ r c : Fin 512, m (ix2 r c) = BitVec.ofBool (decide (c ≤ r)))

/-! The first tile of rows, which has no keys before it. -/

section tile0

variable (a b : FVec Ideal S512x256 .bf16) (g : FVec Ideal S512x128 .bf16)
  (ha : ∀ r d, a (ix2 r d) = ((wide (fun i d => q i d * scale) (pre 512 p512 r) d : ℝ) : EReal))
  (hb : ∀ r d, b (ix2 r d) = ((wide k (pre 512 p512 r) d : ℝ) : EReal))
  (hg : ∀ r d, g (ix2 r d) = ((v (pre 512 p512 r) d : ℝ) : EReal))

include ha hb in
theorem diag0 (r c : Fin 512) : k0_pay5 (F := Ideal) a b (ix2 r c)
    = if pre 512 p512 c ≤ pre 512 p512 r then ((score q k (pre 512 p512 r) (pre 512 p512 c) : ℝ) : EReal) else ⊥ := by
  pointwise [k0_pay5]
  rw [diag_at, mask_named]
  simp only [ha, hb, ← EReal.coe_mul, coe_sum, wide_score, w_zero, zero_add]
  by_cases h : c ≤ r
  · simp [Scalar.select, h]
  · simp [Scalar.select, h]

include ha hb in
theorem max0 (r : Fin 512) (u : Fin 1) : k0_pay6 (F := Ideal) a b (ix2 r u) = ((mx (k0_pay6 (F := Ideal) a b) r : ℝ) : EReal) := by
  obtain rfl : u = 0 := Subsingleton.elim _ _
  unfold mx
  have h : k0_pay6 (F := Ideal) a b (ix2 r 0) = Finset.univ.fold max (⊥ : EReal) fun c => k0_pay5 (F := Ideal) a b (ix2 r c) := by
    pointwise [k0_pay6]
    simp only [w_neginf]
  rw [h]
  refine fold_max_real _ _ bot_lt_top (fun c => ?_) r ?_
  · rw [diag0 q k a b ha hb]; exact masked_lt_top _ _
  · rw [diag0 q k a b ha hb, if_pos le_rfl]; exact EReal.bot_lt_coe _

include ha hb in
theorem here0 (r c : Fin 512) : k0_pay7 (F := Ideal) a b (ix2 r c)
    = ((num q k (mx (k0_pay6 (F := Ideal) a b) r) (pre 512 p512 r) (pre 512 p512 c) : ℝ) : EReal) := by
  pointwise [k0_pay7]
  rw [diag0 q k a b ha hb, max0 q k a b ha hb, exp_masked]
  rfl

/-- The row's sum over the keys of the tile. -/
theorem total0 (M : ℝ) (r : Fin 512) (y : Fin 2048 → ℝ) :
    (∑ c, num q k M (pre 512 p512 r) (pre 512 p512 c) * y (pre 512 p512 c))
      = ∑ j, num q k M (pre 512 p512 r) j * y j :=
  sum_prefix 512 (by decide) (fun j => num q k M (pre 512 p512 r) j * y j) fun j hj => by
    unfold num; rw [if_neg (by have := r.isLt; simp only [Fin.le_def]; omega), zero_mul]

include ha hb in
theorem den0 (r : Fin 512) (u : Fin 1) : k0_pay8 (F := Ideal) a b (ix2 r u)
    = ((den q k (mx (k0_pay6 (F := Ideal) a b) r) (pre 512 p512 r) : ℝ) : EReal) := by
  have h := total0 q k (mx (k0_pay6 (F := Ideal) a b) r) r fun _ => 1
  simp only [mul_one] at h
  pointwise [k0_pay8]
  simp only [here0 q k a b ha hb, coe_sum, w_zero, zero_add, ← EReal.coe_add, h, den]

include ha hb hg in
/-- The tile of the output. -/
theorem out0 (r : Fin 512) (d : Fin 128) : k0_pay9 (F := Ideal) a b g (ix2 r d)
    = ((out q k v (pre 512 p512 r) d : ℝ) : EReal) := by
  have h := total0 q k (mx (k0_pay6 (F := Ideal) a b) r) r fun j => v j d
  have hd := den0 q k a b ha hb r 0
  pointwise [k0_pay9]
  simp only [here0 q k a b ha hb, hg, ← EReal.coe_mul, coe_sum, w_zero, zero_add, ← EReal.coe_add, h]
  rw [hd]
  rw [div_real _ (den_pos q k _ _).ne', out_shift]

include ha hb in
/-- The tile of the rows' log-sums. -/
theorem lse0 (r : Fin 512) (d : Fin 128) : k0_pay10 (F := Ideal) a b (ix2 r d)
    = ((Real.log (den q k 0 (pre 512 p512 r)) : ℝ) : EReal) := by
  have hd := den0 q k a b ha hb r 0
  pointwise [k0_pay10]
  rw [hd]
  rw [max0 q k a b ha hb, Ideal.log_coe, if_neg (den_pos q k _ _).not_ge, ← EReal.coe_add, lse_shift]

end tile0

end Cert.AttnIdeal.Value

end
-- ==== Proof.Attn.Fwd512.lean ====
/- The forward call's tile of rows from 512 over the reals. -/
module

public import proofs.«01_k».proof.Proof.Attn.FwdFirst

@[expose] public section

set_option maxRecDepth 16384

noncomputable section

namespace Cert.AttnIdeal.Value

open Idealize.ShloMosaic Idealize.ShloMosaic.TcCoe Idealize.SL.Sem
open Cert.AttnIdeal Cert.AttnIdeal.Gen Cert.Reals Cert.AttnSpec

variable (q k : Fin 2048 → Fin 192 → ℝ) (v : Fin 2048 → Fin 128 → ℝ)
  (m : IVec S512x512 1) (hm : ∀ r c : Fin 512, m (ix2 r c) = BitVec.ofBool (decide (c ≤ r)))

/-! The tile of rows from 512. -/

section tile512

variable (a b : FVec Ideal S512x256 .bf16) (e : FVec Ideal S512x256 .bf16) (g : FVec Ideal S512x128 .bf16) (f : FVec Ideal S512x128 .bf16)
  (ha : ∀ r d, a (ix2 r d) = ((wide (fun i d => q i d * scale) (row 512 t512 r) d : ℝ) : EReal))
  (hb : ∀ r d, b (ix2 r d) = ((wide k (row 512 t512 r) d : ℝ) : EReal))
  (he : ∀ r d, e (ix2 r d) = ((wide k (pre 512 p512 r) d : ℝ) : EReal))
  (hg : ∀ r d, g (ix2 r d) = ((v (row 512 t512 r) d : ℝ) : EReal))
  (hf : ∀ r d, f (ix2 r d) = ((v (pre 512 p512 r) d : ℝ) : EReal))

include ha hb hm in
theorem diag512 (r c : Fin 512) : k0_pay13 (F := Ideal) m a b (ix2 r c)
    = if row 512 t512 c ≤ row 512 t512 r then ((score q k (row 512 t512 r) (row 512 t512 c) : ℝ) : EReal) else ⊥ := by
  pointwise [k0_pay13]
  rw [hm, mask_named]
  simp only [ha, hb, ← EReal.coe_mul, coe_sum, wide_score, w_zero, zero_add]
  by_cases h : c ≤ r
  · simp [Scalar.select, h]
  · simp [Scalar.select, h]

include ha he in
theorem off512 (r : Fin 512) (c : Fin 512) : k0_pay14 (F := Ideal) a e (ix2 r c)
    = ((score q k (row 512 t512 r) (pre 512 p512 c) : ℝ) : EReal) := by
  pointwise [k0_pay14]
  simp only [ha, he, ← EReal.coe_mul, coe_sum, wide_score, w_zero, zero_add]

include ha hb he hm in
theorem max512 (r : Fin 512) (u : Fin 1) : k0_pay15 (F := Ideal) m a b e (ix2 r u) = ((mx (k0_pay15 (F := Ideal) m a b e) r : ℝ) : EReal) := by
  obtain rfl : u = 0 := Subsingleton.elim _ _
  unfold mx
  have h : k0_pay15 (F := Ideal) m a b e (ix2 r 0)
      = max (Finset.univ.fold max (⊥ : EReal) fun c => k0_pay13 (F := Ideal) m a b (ix2 r c)) (Finset.univ.fold max (⊥ : EReal) fun c => k0_pay14 (F := Ideal) a e (ix2 r c)) := by
    pointwise [k0_pay15]
    simp only [w_neginf]
  rw [h]
  refine max_real (fold_max_real _ _ bot_lt_top (fun c => ?_) r ?_) (fold_max_real _ _ bot_lt_top (fun c => ?_) 0 ?_)
  · rw [diag512 q k m hm a b ha hb]; exact masked_lt_top _ _
  · rw [diag512 q k m hm a b ha hb, if_pos le_rfl]; exact EReal.bot_lt_coe _
  · rw [off512 q k a e ha he]; exact EReal.coe_lt_top _
  · rw [off512 q k a e ha he]; exact EReal.bot_lt_coe _

include ha hb he hm in
theorem before512 (r : Fin 512) (c : Fin 512) : k0_pay16 (F := Ideal) m a b e (ix2 r c)
    = ((num q k (mx (k0_pay15 (F := Ideal) m a b e) r) (row 512 t512 r) (pre 512 p512 c) : ℝ) : EReal) := by
  pointwise [k0_pay16]
  rw [off512 q k a e ha he, max512 q k m hm a b e ha hb he, ← EReal.coe_sub, Ideal.exp_coe]
  unfold num
  rw [if_pos (show pre 512 p512 c ≤ row 512 t512 r from by have := c.isLt; simp only [Fin.le_def]; omega)]

include ha hb he hm in
theorem here512 (r c : Fin 512) : k0_pay17 (F := Ideal) m a b e (ix2 r c)
    = ((num q k (mx (k0_pay15 (F := Ideal) m a b e) r) (row 512 t512 r) (row 512 t512 c) : ℝ) : EReal) := by
  pointwise [k0_pay17]
  rw [diag512 q k m hm a b ha hb, max512 q k m hm a b e ha hb he, exp_masked]
  rfl

/-- The row's sum over the keys up to the tile's end. -/
theorem total512 (M : ℝ) (r : Fin 512) (y : Fin 2048 → ℝ) :
    (∑ c, num q k M (row 512 t512 r) (pre 512 p512 c) * y (pre 512 p512 c))
      + ∑ c, num q k M (row 512 t512 r) (row 512 t512 c) * y (row 512 t512 c)
      = ∑ j, num q k M (row 512 t512 r) j * y j :=
  sum_prefix_add 512 512 (by decide) (fun j => num q k M (row 512 t512 r) j * y j) fun j hj => by
    unfold num; rw [if_neg (by have := r.isLt; simp only [Fin.le_def]; omega), zero_mul]

include ha hb he hm in
theorem den512 (r : Fin 512) (u : Fin 1) : k0_pay18 (F := Ideal) m a b e (ix2 r u)
    = ((den q k (mx (k0_pay15 (F := Ideal) m a b e) r) (row 512 t512 r) : ℝ) : EReal) := by
  have h := total512 q k (mx (k0_pay15 (F := Ideal) m a b e) r) r fun _ => 1
  simp only [mul_one] at h
  pointwise [k0_pay18]
  simp only [before512 q k m hm a b e ha hb he, here512 q k m hm a b e ha hb he, coe_sum, w_zero, zero_add, ← EReal.coe_add, h, den]

include ha hb he hm hg hf in
/-- The tile of the output. -/
theorem out512 (r : Fin 512) (d : Fin 128) : k0_pay19 (F := Ideal) m a b e f g (ix2 r d)
    = ((out q k v (row 512 t512 r) d : ℝ) : EReal) := by
  have h := total512 q k (mx (k0_pay15 (F := Ideal) m a b e) r) r fun j => v j d
  have hd := den512 q k m hm a b e ha hb he r 0
  pointwise [k0_pay19]
  simp only [before512 q k m hm a b e ha hb he, here512 q k m hm a b e ha hb he, hf, hg, ← EReal.coe_mul, coe_sum, w_zero, zero_add, ← EReal.coe_add, h]
  rw [hd]
  rw [div_real _ (den_pos q k _ _).ne', out_shift]

include ha hb he hm in
/-- The tile of the rows' log-sums. -/
theorem lse512 (r : Fin 512) (d : Fin 128) : k0_pay20 (F := Ideal) m a b e (ix2 r d)
    = ((Real.log (den q k 0 (row 512 t512 r)) : ℝ) : EReal) := by
  have hd := den512 q k m hm a b e ha hb he r 0
  pointwise [k0_pay20]
  rw [hd]
  rw [max512 q k m hm a b e ha hb he, Ideal.log_coe, if_neg (den_pos q k _ _).not_ge, ← EReal.coe_add, lse_shift]

end tile512

end Cert.AttnIdeal.Value

end
-- ==== Proof.Attn.Fwd1024.lean ====
/- The forward call's tile of rows from 1024 over the reals. -/
module

public import proofs.«01_k».proof.Proof.Attn.FwdFirst

@[expose] public section

set_option maxRecDepth 16384

noncomputable section

namespace Cert.AttnIdeal.Value

open Idealize.ShloMosaic Idealize.ShloMosaic.TcCoe Idealize.SL.Sem
open Cert.AttnIdeal Cert.AttnIdeal.Gen Cert.Reals Cert.AttnSpec

variable (q k : Fin 2048 → Fin 192 → ℝ) (v : Fin 2048 → Fin 128 → ℝ)
  (m : IVec S512x512 1) (hm : ∀ r c : Fin 512, m (ix2 r c) = BitVec.ofBool (decide (c ≤ r)))

/-! The tile of rows from 1024. -/

section tile1024

variable (a b : FVec Ideal S512x256 .bf16) (e : FVec Ideal S1024x256 .bf16) (g : FVec Ideal S512x128 .bf16) (f : FVec Ideal S1024x128 .bf16)
  (ha : ∀ r d, a (ix2 r d) = ((wide (fun i d => q i d * scale) (row 1024 t1024 r) d : ℝ) : EReal))
  (hb : ∀ r d, b (ix2 r d) = ((wide k (row 1024 t1024 r) d : ℝ) : EReal))
  (he : ∀ r d, e (ix2 r d) = ((wide k (pre 1024 p1024 r) d : ℝ) : EReal))
  (hg : ∀ r d, g (ix2 r d) = ((v (row 1024 t1024 r) d : ℝ) : EReal))
  (hf : ∀ r d, f (ix2 r d) = ((v (pre 1024 p1024 r) d : ℝ) : EReal))

include ha hb hm in
theorem diag1024 (r c : Fin 512) : k0_pay22 (F := Ideal) m a b (ix2 r c)
    = if row 1024 t1024 c ≤ row 1024 t1024 r then ((score q k (row 1024 t1024 r) (row 1024 t1024 c) : ℝ) : EReal) else ⊥ := by
  pointwise [k0_pay22, k0_pay21]
  rw [hm, mask_named]
  simp only [ha, hb, ← EReal.coe_mul, coe_sum, wide_score, w_zero, zero_add]
  by_cases h : c ≤ r
  · simp [Scalar.select, h]
  · simp [Scalar.select, h]

include ha he in
theorem off1024 (r : Fin 512) (c : Fin 1024) : k0_pay23 (F := Ideal) a e (ix2 r c)
    = ((score q k (row 1024 t1024 r) (pre 1024 p1024 c) : ℝ) : EReal) := by
  pointwise [k0_pay23, k0_pay21]
  simp only [ha, he, ← EReal.coe_mul, coe_sum, wide_score, w_zero, zero_add]

include ha hb he hm in
theorem max1024 (r : Fin 512) (u : Fin 1) : k0_pay24 (F := Ideal) m a b e (ix2 r u) = ((mx (k0_pay24 (F := Ideal) m a b e) r : ℝ) : EReal) := by
  obtain rfl : u = 0 := Subsingleton.elim _ _
  unfold mx
  have h : k0_pay24 (F := Ideal) m a b e (ix2 r 0)
      = max (Finset.univ.fold max (⊥ : EReal) fun c => k0_pay22 (F := Ideal) m a b (ix2 r c)) (Finset.univ.fold max (⊥ : EReal) fun c => k0_pay23 (F := Ideal) a e (ix2 r c)) := by
    pointwise [k0_pay24]
    simp only [w_neginf]
  rw [h]
  refine max_real (fold_max_real _ _ bot_lt_top (fun c => ?_) r ?_) (fold_max_real _ _ bot_lt_top (fun c => ?_) 0 ?_)
  · rw [diag1024 q k m hm a b ha hb]; exact masked_lt_top _ _
  · rw [diag1024 q k m hm a b ha hb, if_pos le_rfl]; exact EReal.bot_lt_coe _
  · rw [off1024 q k a e ha he]; exact EReal.coe_lt_top _
  · rw [off1024 q k a e ha he]; exact EReal.bot_lt_coe _

include ha hb he hm in
theorem before1024 (r : Fin 512) (c : Fin 1024) : k0_pay25 (F := Ideal) m a b e (ix2 r c)
    = ((num q k (mx (k0_pay24 (F := Ideal) m a b e) r) (row 1024 t1024 r) (pre 1024 p1024 c) : ℝ) : EReal) := by
  pointwise [k0_pay25]
  rw [off1024 q k a e ha he, max1024 q k m hm a b e ha hb he, ← EReal.coe_sub, Ideal.exp_coe]
  unfold num
  rw [if_pos (show pre 1024 p1024 c ≤ row 1024 t1024 r from by have := c.isLt; simp only [Fin.le_def]; omega)]

include ha hb he hm in
theorem here1024 (r c : Fin 512) : k0_pay26 (F := Ideal) m a b e (ix2 r c)
    = ((num q k (mx (k0_pay24 (F := Ideal) m a b e) r) (row 1024 t1024 r) (row 1024 t1024 c) : ℝ) : EReal) := by
  pointwise [k0_pay26]
  rw [diag1024 q k m hm a b ha hb, max1024 q k m hm a b e ha hb he, exp_masked]
  rfl

/-- The row's sum over the keys up to the tile's end. -/
theorem total1024 (M : ℝ) (r : Fin 512) (y : Fin 2048 → ℝ) :
    (∑ c, num q k M (row 1024 t1024 r) (pre 1024 p1024 c) * y (pre 1024 p1024 c))
      + ∑ c, num q k M (row 1024 t1024 r) (row 1024 t1024 c) * y (row 1024 t1024 c)
      = ∑ j, num q k M (row 1024 t1024 r) j * y j :=
  sum_prefix_add 1024 512 (by decide) (fun j => num q k M (row 1024 t1024 r) j * y j) fun j hj => by
    unfold num; rw [if_neg (by have := r.isLt; simp only [Fin.le_def]; omega), zero_mul]

include ha hb he hm in
theorem den1024 (r : Fin 512) (u : Fin 1) : k0_pay27 (F := Ideal) m a b e (ix2 r u)
    = ((den q k (mx (k0_pay24 (F := Ideal) m a b e) r) (row 1024 t1024 r) : ℝ) : EReal) := by
  have h := total1024 q k (mx (k0_pay24 (F := Ideal) m a b e) r) r fun _ => 1
  simp only [mul_one] at h
  pointwise [k0_pay27]
  simp only [before1024 q k m hm a b e ha hb he, here1024 q k m hm a b e ha hb he, coe_sum, w_zero, zero_add, ← EReal.coe_add, h, den]

include ha hb he hm hg hf in
/-- The tile of the output. -/
theorem out1024 (r : Fin 512) (d : Fin 128) : k0_pay28 (F := Ideal) m a b e f g (ix2 r d)
    = ((out q k v (row 1024 t1024 r) d : ℝ) : EReal) := by
  have h := total1024 q k (mx (k0_pay24 (F := Ideal) m a b e) r) r fun j => v j d
  have hd := den1024 q k m hm a b e ha hb he r 0
  pointwise [k0_pay28]
  simp only [before1024 q k m hm a b e ha hb he, here1024 q k m hm a b e ha hb he, hf, hg, ← EReal.coe_mul, coe_sum, w_zero, zero_add, ← EReal.coe_add, h]
  rw [hd]
  rw [div_real _ (den_pos q k _ _).ne', out_shift]

include ha hb he hm in
/-- The tile of the rows' log-sums. -/
theorem lse1024 (r : Fin 512) (d : Fin 128) : k0_pay29 (F := Ideal) (k0_pay24 (F := Ideal) m a b e) (k0_pay27 (F := Ideal) m a b e) (ix2 r d)
    = ((Real.log (den q k 0 (row 1024 t1024 r)) : ℝ) : EReal) := by
  have hd := den1024 q k m hm a b e ha hb he r 0
  pointwise [k0_pay29]
  rw [hd]
  rw [max1024 q k m hm a b e ha hb he, Ideal.log_coe, if_neg (den_pos q k _ _).not_ge, ← EReal.coe_add, lse_shift]

end tile1024

end Cert.AttnIdeal.Value

end
-- ==== Proof.Attn.Fwd1536.lean ====
/- The forward call's tile of rows from 1536 over the reals. -/
module

public import proofs.«01_k».proof.Proof.Attn.FwdFirst

@[expose] public section

set_option maxRecDepth 16384

noncomputable section

namespace Cert.AttnIdeal.Value

open Idealize.ShloMosaic Idealize.ShloMosaic.TcCoe Idealize.SL.Sem
open Cert.AttnIdeal Cert.AttnIdeal.Gen Cert.Reals Cert.AttnSpec

variable (q k : Fin 2048 → Fin 192 → ℝ) (v : Fin 2048 → Fin 128 → ℝ)
  (m : IVec S512x512 1) (hm : ∀ r c : Fin 512, m (ix2 r c) = BitVec.ofBool (decide (c ≤ r)))

/-! The tile of rows from 1536. -/

section tile1536

variable (a b : FVec Ideal S512x256 .bf16) (e : FVec Ideal S1536x256 .bf16) (g : FVec Ideal S512x128 .bf16) (f : FVec Ideal S1536x128 .bf16)
  (ha : ∀ r d, a (ix2 r d) = ((wide (fun i d => q i d * scale) (row 1536 t1536 r) d : ℝ) : EReal))
  (hb : ∀ r d, b (ix2 r d) = ((wide k (row 1536 t1536 r) d : ℝ) : EReal))
  (he : ∀ r d, e (ix2 r d) = ((wide k (pre 1536 p1536 r) d : ℝ) : EReal))
  (hg : ∀ r d, g (ix2 r d) = ((v (row 1536 t1536 r) d : ℝ) : EReal))
  (hf : ∀ r d, f (ix2 r d) = ((v (pre 1536 p1536 r) d : ℝ) : EReal))

include ha hb hm in
theorem diag1536 (r c : Fin 512) : k0_pay31 (F := Ideal) m a b (ix2 r c)
    = if row 1536 t1536 c ≤ row 1536 t1536 r then ((score q k (row 1536 t1536 r) (row 1536 t1536 c) : ℝ) : EReal) else ⊥ := by
  pointwise [k0_pay31, k0_pay30]
  rw [hm, mask_named]
  simp only [ha, hb, ← EReal.coe_mul, coe_sum, wide_score, w_zero, zero_add]
  by_cases h : c ≤ r
  · simp [Scalar.select, h]
  · simp [Scalar.select, h]

include ha he in
theorem off1536 (r : Fin 512) (c : Fin 1536) : k0_pay32 (F := Ideal) a e (ix2 r c)
    = ((score q k (row 1536 t1536 r) (pre 1536 p1536 c) : ℝ) : EReal) := by
  pointwise [k0_pay32, k0_pay30]
  simp only [ha, he, ← EReal.coe_mul, coe_sum, wide_score, w_zero, zero_add]

include ha hb he hm in
theorem max1536 (r : Fin 512) (u : Fin 1) : k0_pay33 (F := Ideal) m a b e (ix2 r u) = ((mx (k0_pay33 (F := Ideal) m a b e) r : ℝ) : EReal) := by
  obtain rfl : u = 0 := Subsingleton.elim _ _
  unfold mx
  have h : k0_pay33 (F := Ideal) m a b e (ix2 r 0)
      = max (Finset.univ.fold max (⊥ : EReal) fun c => k0_pay31 (F := Ideal) m a b (ix2 r c)) (Finset.univ.fold max (⊥ : EReal) fun c => k0_pay32 (F := Ideal) a e (ix2 r c)) := by
    pointwise [k0_pay33]
    simp only [w_neginf]
  rw [h]
  refine max_real (fold_max_real _ _ bot_lt_top (fun c => ?_) r ?_) (fold_max_real _ _ bot_lt_top (fun c => ?_) 0 ?_)
  · rw [diag1536 q k m hm a b ha hb]; exact masked_lt_top _ _
  · rw [diag1536 q k m hm a b ha hb, if_pos le_rfl]; exact EReal.bot_lt_coe _
  · rw [off1536 q k a e ha he]; exact EReal.coe_lt_top _
  · rw [off1536 q k a e ha he]; exact EReal.bot_lt_coe _

include ha hb he hm in
theorem before1536 (r : Fin 512) (c : Fin 1536) : k0_pay34 (F := Ideal) m a b e (ix2 r c)
    = ((num q k (mx (k0_pay33 (F := Ideal) m a b e) r) (row 1536 t1536 r) (pre 1536 p1536 c) : ℝ) : EReal) := by
  pointwise [k0_pay34]
  rw [off1536 q k a e ha he, max1536 q k m hm a b e ha hb he, ← EReal.coe_sub, Ideal.exp_coe]
  unfold num
  rw [if_pos (show pre 1536 p1536 c ≤ row 1536 t1536 r from by have := c.isLt; simp only [Fin.le_def]; omega)]

include ha hb he hm in
theorem here1536 (r c : Fin 512) : k0_pay37 (F := Ideal) m a b e (ix2 r c)
    = ((num q k (mx (k0_pay33 (F := Ideal) m a b e) r) (row 1536 t1536 r) (row 1536 t1536 c) : ℝ) : EReal) := by
  pointwise [k0_pay37]
  rw [diag1536 q k m hm a b ha hb, max1536 q k m hm a b e ha hb he, exp_masked]
  rfl

/-- The row's sum over the keys up to the tile's end. -/
theorem total1536 (M : ℝ) (r : Fin 512) (y : Fin 2048 → ℝ) :
    (∑ c, num q k M (row 1536 t1536 r) (pre 1536 p1536 c) * y (pre 1536 p1536 c))
      + ∑ c, num q k M (row 1536 t1536 r) (row 1536 t1536 c) * y (row 1536 t1536 c)
      = ∑ j, num q k M (row 1536 t1536 r) j * y j :=
  sum_prefix_add 1536 512 (by decide) (fun j => num q k M (row 1536 t1536 r) j * y j) fun j hj => by
    unfold num; rw [if_neg (by have := r.isLt; simp only [Fin.le_def]; omega), zero_mul]

include ha hb he hm in
theorem den1536 (r : Fin 512) (u : Fin 1) : k0_pay1 (F := Ideal) (k0_pay35 (F := Ideal) m a b e) (k0_pay38 (F := Ideal) m a b e) (ix2 r u)
    = ((den q k (mx (k0_pay33 (F := Ideal) m a b e) r) (row 1536 t1536 r) : ℝ) : EReal) := by
  have h := total1536 q k (mx (k0_pay33 (F := Ideal) m a b e) r) r fun _ => 1
  simp only [mul_one] at h
  pointwise [k0_pay1, k0_pay35, k0_pay38]
  simp only [before1536 q k m hm a b e ha hb he, here1536 q k m hm a b e ha hb he, coe_sum, w_zero, zero_add, ← EReal.coe_add, h, den]

include ha hb he hm hg hf in
/-- The tile of the output. -/
theorem out1536 (r : Fin 512) (d : Fin 128) : k0_pay2 (F := Ideal) (k0_pay35 (F := Ideal) m a b e) (k0_pay36 (F := Ideal) m a b e f) (k0_pay38 (F := Ideal) m a b e) (k0_pay39 (F := Ideal) m a b e) (k0_pay40 g) (ix2 r d)
    = ((out q k v (row 1536 t1536 r) d : ℝ) : EReal) := by
  have h := total1536 q k (mx (k0_pay33 (F := Ideal) m a b e) r) r fun j => v j d
  have hd := den1536 q k m hm a b e ha hb he r 0
  pointwise [k0_pay2, k0_pay36, k0_pay39, k0_pay40]
  simp only [before1536 q k m hm a b e ha hb he, here1536 q k m hm a b e ha hb he, hf, hg, ← EReal.coe_mul, coe_sum, w_zero, zero_add, ← EReal.coe_add, h]
  rw [hd]
  rw [div_real _ (den_pos q k _ _).ne', out_shift]

include ha hb he hm in
/-- The tile of the rows' log-sums. -/
theorem lse1536 (r : Fin 512) (d : Fin 128) : k0_pay3 (F := Ideal) (k0_pay33 (F := Ideal) m a b e) (k0_pay35 (F := Ideal) m a b e) (k0_pay38 (F := Ideal) m a b e) (ix2 r d)
    = ((Real.log (den q k 0 (row 1536 t1536 r)) : ℝ) : EReal) := by
  have hd := den1536 q k m hm a b e ha hb he r 0
  pointwise [k0_pay3]
  rw [hd]
  rw [max1536 q k m hm a b e ha hb he, Ideal.log_coe, if_neg (den_pos q k _ _).not_ge, ← EReal.coe_add, lse_shift]

end tile1536

end Cert.AttnIdeal.Value

end
-- ==== Proof.Attn.FinalFwd.lean ====
/- The forward call's result arrays over the reals. -/
module

public import proofs.«01_k».proof.Proof.Attn.Entry
public import proofs.«01_k».proof.Proof.Attn.Fwd512
public import proofs.«01_k».proof.Proof.Attn.Fwd1024
public import proofs.«01_k».proof.Proof.Attn.Fwd1536

@[expose] public section

set_option maxRecDepth 16384

noncomputable section

namespace Cert.AttnIdeal.Value

open Idealize.ShloMosaic Idealize.ShloMosaic.TcCoe Idealize.SL.Sem
open Cert.AttnIdeal Cert.AttnIdeal.Gen Cert.Reals Cert.AttnSpec

section block

variable (q k : Fin 2048 → Fin 192 → ℝ) (v : Fin 2048 → Fin 128 → ℝ)
  (xq xk : FVec Ideal S2048x256 .bf16) (xv : FVec Ideal S2048x128 .bf16)
  (hq : ∀ i d, xq (ix2 i d) = ((wide (fun i d => q i d * scale) i d : ℝ) : EReal))
  (hk : ∀ i d, xk (ix2 i d) = ((wide k i d : ℝ) : EReal))
  (hv : ∀ i d, xv (ix2 i d) = ((v i d : ℝ) : EReal))

set_option maxHeartbeats 2000000 in
include hq hk hv in
/-- The block of the output. -/
theorem block_o (i : Fin 2048) (d : Fin 128) : out0_3 (F := Ideal) xq xk xv (ix2 i d) = ((out q k v i d : ℝ) : EReal) := by
  unfold out0_3 k0_pay45 k0_pay44 k0_pay43 k0_pay42 k0_pay41
  canon_tiles x e
  · idx_vars x
    obtain rfl : i = row 1536 t1536 x0 := Fin.ext (by simp only []; omega)
    obtain rfl : d = x1 := Fin.ext e1
    refine out1536 q k v _ diag_at _ _ _ _ _ ?_ ?_ ?_ ?_ ?_ x0 d
    · exact fun r d => Eq.trans (by pointwise [k0_pay11, k0_pay12]; blk_ext) (hq _ _)
    · exact fun r d => Eq.trans (by pointwise [k0_pay11, k0_pay12]; blk_ext) (hk _ _)
    · exact fun r d => Eq.trans (by pointwise [k0_pay11, k0_pay12]; blk_ext) (hk _ _)
    · exact fun r d => Eq.trans (by pointwise [k0_pay11, k0_pay12]; blk_ext) (hv _ _)
    · exact fun r d => Eq.trans (by pointwise [k0_pay11, k0_pay12]; blk_ext) (hv _ _)
  · idx_vars x
    obtain rfl : i = row 1024 t1024 x0 := Fin.ext (by simp only []; omega)
    obtain rfl : d = x1 := Fin.ext e1
    refine out1024 q k v _ diag_at _ _ _ _ _ ?_ ?_ ?_ ?_ ?_ x0 d
    · exact fun r d => Eq.trans (by pointwise [k0_pay11, k0_pay12]; blk_ext) (hq _ _)
    · exact fun r d => Eq.trans (by pointwise [k0_pay11, k0_pay12]; blk_ext) (hk _ _)
    · exact fun r d => Eq.trans (by pointwise [k0_pay11, k0_pay12]; blk_ext) (hk _ _)
    · exact fun r d => Eq.trans (by pointwise [k0_pay11, k0_pay12]; blk_ext) (hv _ _)
    · exact fun r d => Eq.trans (by pointwise [k0_pay11, k0_pay12]; blk_ext) (hv _ _)
  · idx_vars x
    obtain rfl : i = row 512 t512 x0 := Fin.ext (by simp only []; omega)
    obtain rfl : d = x1 := Fin.ext e1
    refine out512 q k v _ diag_at _ _ _ _ _ ?_ ?_ ?_ ?_ ?_ x0 d
    · exact fun r d => Eq.trans (by pointwise [k0_pay11, k0_pay12]; blk_ext) (hq _ _)
    · exact fun r d => Eq.trans (by pointwise [k0_pay11, k0_pay12]; blk_ext) (hk _ _)
    · exact fun r d => Eq.trans (by pointwise [k0_pay11, k0_pay12]; blk_ext) (hk _ _)
    · exact fun r d => Eq.trans (by pointwise [k0_pay11, k0_pay12]; blk_ext) (hv _ _)
    · exact fun r d => Eq.trans (by pointwise [k0_pay11, k0_pay12]; blk_ext) (hv _ _)
  · idx_vars x
    obtain rfl : i = pre 512 p512 x0 := Fin.ext (by simp only []; omega)
    obtain rfl : d = x1 := Fin.ext e1
    refine out0 q k v _ _ _ ?_ ?_ ?_ x0 d
    · exact fun r d => Eq.trans (by pointwise [k0_pay11, k0_pay12]; blk_ext) (hq _ _)
    · exact fun r d => Eq.trans (by pointwise [k0_pay11, k0_pay12]; blk_ext) (hk _ _)
    · exact fun r d => Eq.trans (by pointwise [k0_pay11, k0_pay12]; blk_ext) (hv _ _)

set_option maxHeartbeats 2000000 in
include hq hk in
/-- The block of the rows' log-sums. -/
theorem block_lse (i : Fin 2048) (d : Fin 128) : out0_4 (F := Ideal) xq xk xv (ix2 i d) = ((Real.log (den q k 0 i) : ℝ) : EReal) := by
  unfold out0_4 k0_pay45 k0_pay44 k0_pay43 k0_pay42 k0_pay41
  canon_tiles x e
  · idx_vars x
    obtain rfl : i = row 1536 t1536 x0 := Fin.ext (by simp only []; omega)
    obtain rfl : d = x1 := Fin.ext e1
    refine lse1536 q k _ diag_at _ _ _ ?_ ?_ ?_ x0 d
    · exact fun r d => Eq.trans (by pointwise [k0_pay11, k0_pay12]; blk_ext) (hq _ _)
    · exact fun r d => Eq.trans (by pointwise [k0_pay11, k0_pay12]; blk_ext) (hk _ _)
    · exact fun r d => Eq.trans (by pointwise [k0_pay11, k0_pay12]; blk_ext) (hk _ _)
  · idx_vars x
    obtain rfl : i = row 1024 t1024 x0 := Fin.ext (by simp only []; omega)
    obtain rfl : d = x1 := Fin.ext e1
    refine lse1024 q k _ diag_at _ _ _ ?_ ?_ ?_ x0 d
    · exact fun r d => Eq.trans (by pointwise [k0_pay11, k0_pay12]; blk_ext) (hq _ _)
    · exact fun r d => Eq.trans (by pointwise [k0_pay11, k0_pay12]; blk_ext) (hk _ _)
    · exact fun r d => Eq.trans (by pointwise [k0_pay11, k0_pay12]; blk_ext) (hk _ _)
  · idx_vars x
    obtain rfl : i = row 512 t512 x0 := Fin.ext (by simp only []; omega)
    obtain rfl : d = x1 := Fin.ext e1
    refine lse512 q k _ diag_at _ _ _ ?_ ?_ ?_ x0 d
    · exact fun r d => Eq.trans (by pointwise [k0_pay11, k0_pay12]; blk_ext) (hq _ _)
    · exact fun r d => Eq.trans (by pointwise [k0_pay11, k0_pay12]; blk_ext) (hk _ _)
    · exact fun r d => Eq.trans (by pointwise [k0_pay11, k0_pay12]; blk_ext) (hk _ _)
  · idx_vars x
    obtain rfl : i = pre 512 p512 x0 := Fin.ext (by simp only []; omega)
    obtain rfl : d = x1 := Fin.ext e1
    refine lse0 q k _ _ ?_ ?_ x0 d
    · exact fun r d => Eq.trans (by pointwise [k0_pay11, k0_pay12]; blk_ext) (hq _ _)
    · exact fun r d => Eq.trans (by pointwise [k0_pay11, k0_pay12]; blk_ext) (hk _ _)

end block

variable {m : (ℓ : Loc nD τ sig) → Buf (Elt Ideal) ℓ} (ρ : Dev nD → PrngReg) {c : Dev nD}
  {Q K : Fin 2 → Fin 8 → Fin 2048 → Fin 192 → ℝ} {A D : Fin 2 → Fin 8 → Fin 2048 → Fin 128 → ℝ} (h : Args m c Q K A D)
include h

theorem blk0_q (t : Fin 16) (i : Fin 2048) (d : Fin 256) : (show FVec Ideal S2048x256 .bf16 from iblk0 (V1 m ρ) c 0 t) (ix2 i d)
    = ((wide (fun i d => Q (gb t) (gh t) i d * scale) i d : ℝ) : EReal) :=
  (read0_0 (V1 m ρ) t i d).trans (by rw [entry_q ρ h, bat_grow, pos_grow, whead_gwide, wlane_gwide])

theorem blk0_k (t : Fin 16) (i : Fin 2048) (d : Fin 256) : (show FVec Ideal S2048x256 .bf16 from iblk0 (V1 m ρ) c 1 t) (ix2 i d)
    = ((wide (K (gb t) (gh t)) i d : ℝ) : EReal) :=
  (read0_1 (V1 m ρ) t i d).trans (by rw [entry_k ρ h, bat_grow, pos_grow, whead_gwide, wlane_gwide])

theorem blk0_v (t : Fin 16) (i : Fin 2048) (d : Fin 128) : (show FVec Ideal S2048x128 .bf16 from iblk0 (V1 m ρ) c 2 t) (ix2 i d)
    = ((A (gb t) (gh t) i d : ℝ) : EReal) :=
  (read0_2 (V1 m ρ) t i d).trans (by rw [entry_v ρ h, bat_grow, pos_grow, head_gcol, lane_gcol])

set_option maxHeartbeats 1000000 in
/-- The output. -/
theorem final_o : (dat0 (V1 m ρ) c).arrAt 3 cfg0.N = fun j : S4096x1024.Idx =>
    ((out (Q (bat (j 0)) (head (j 1))) (K (bat (j 0)) (head (j 1))) (A (bat (j 0)) (head (j 1))) (pos (j 0)) (lane (j 1)) : ℝ) : EReal) := by
  refine (dat0 (V1 m ρ) c).arrAt_eq_of_covers 3 _ (by decide +kernel) fun t _ y => ?_
  rw [after0_3]
  idx_vars y
  refine (block_o _ _ _ _ _ _ (blk0_q ρ h t) (blk0_k ρ h t) (blk0_v ρ h t) y0 y1).trans ?_
  have e0 : ((win0_3.blk t).view.emb (ix2 y0 y1)) 0 = grow t y0 := Fin.ext (by blk_simp [idx0 t, grow])
  have e1 : ((win0_3.blk t).view.emb (ix2 y0 y1)) 1 = gcol t y1 := Fin.ext (by blk_simp [idx0 t, gcol])
  simp only [e0, e1]
  exact place t y0 y1 fun b hd i d => ((out (Q b hd) (K b hd) (A b hd) i d : ℝ) : EReal)

set_option maxHeartbeats 1000000 in
/-- The rows' log-sums, the same in every column of a head. -/
theorem final_lse : (dat0 (V1 m ρ) c).arrAt 4 cfg0.N = fun j : S4096x1024.Idx =>
    ((Real.log (den (Q (bat (j 0)) (head (j 1))) (K (bat (j 0)) (head (j 1))) 0 (pos (j 0))) : ℝ) : EReal) := by
  refine (dat0 (V1 m ρ) c).arrAt_eq_of_covers 4 _ (by decide +kernel) fun t _ y => ?_
  rw [after0_4]
  idx_vars y
  refine (block_lse _ _ _ _ _ (blk0_q ρ h t) (blk0_k ρ h t) y0 y1).trans ?_
  have e0 : ((win0_4.blk t).view.emb (ix2 y0 y1)) 0 = grow t y0 := Fin.ext (by blk_simp [idx0 t, grow])
  have e1 : ((win0_4.blk t).view.emb (ix2 y0 y1)) 1 = gcol t y1 := Fin.ext (by blk_simp [idx0 t, gcol])
  simp only [e0, e1]
  exact place t y0 y1 fun b hd i _ => ((Real.log (den (Q b hd) (K b hd) 0 i) : ℝ) : EReal)

end Cert.AttnIdeal.Value

end
-- ==== Proof.Attn.Prefix.lean ====
/- Partial sums gathered in a scratch: each store adds a tile's terms to the first rows of what the earlier stores left. -/
module

public import proofs.«01_k».proof.Proof.Attn.Entry

@[expose] public section

set_option maxRecDepth 16384

noncomputable section

namespace Cert.AttnPrefix

open Idealize.ShloMosaic

variable {sig : RefSig} {κ : Kind} {sp : Space} {C : ℕ}

/-- A load of rows from `o` on. -/
theorem ld_rows {ε : EltTy} {R : ℕ} (o n D : ℕ) (hD : D ≤ C) (ho : o + n ≤ R) (X : (⟨2, ![R, C]⟩ : Shape).Idx → Elt Ideal ε) (inb) (r : Fin n) (d : Fin D) :
    View.ld (Val := Elt Ideal) (e' := ε) X (Rect.unit (s := ⟨2, ![R, C]⟩) ![o, 0] ![n, D] inb) (ix2 r d)
      = X (ix2 ⟨o + r.val, lt_of_lt_of_le (Nat.add_lt_add_left r.isLt o) ho⟩ ⟨d.val, d.isLt.trans_le hD⟩) := by
  refine congrArg X ?_
  funext a
  refine Fin.ext ?_
  fin_cases a
  · show o + 1 * r.val = o + r.val; omega
  · show 0 + 1 * d.val = d.val; omega

/-- A load of the first rows. -/
theorem ld_first {ε : EltTy} {R : ℕ} (n D : ℕ) (hD : D ≤ C) (hn : n ≤ R) (X : (⟨2, ![R, C]⟩ : Shape).Idx → Elt Ideal ε) (inb) (r : Fin n) (d : Fin D) :
    View.ld (Val := Elt Ideal) (e' := ε) X (Rect.unit (s := ⟨2, ![R, C]⟩) ![0, 0] ![n, D] inb) (ix2 r d)
      = X (ix2 ⟨r.val, r.isLt.trans_le hn⟩ ⟨d.val, d.isLt.trans_le hD⟩) := by
  refine congrArg X ?_
  funext a
  refine Fin.ext ?_
  fin_cases a
  · show 0 + 1 * r.val = r.val; omega
  · show 0 + 1 * d.val = d.val; omega

/-- The last store covers the first `n` rows: above them the earlier contents stay. -/
theorem canon_first (n : ℕ) (hn : n ≤ 2048) (inb) (w : (⟨2, ![n, C]⟩ : Shape).Idx → Elt Ideal .f32) (L : List (View.Piece (Elt Ideal) ⟨2, ![2048, C]⟩ .f32))
    (j : Fin 2048) (d : Fin C) :
    View.canon (⟨Rect.unit (s := ⟨2, ![2048, C]⟩) ![0, 0] ![n, C] inb, w⟩ :: L) (ix2 j d)
      = if h : j.val < n then w (ix2 ⟨j.val, h⟩ d) else View.canon L (ix2 j d) := by
  split
  · rename_i h
    have e : (Rect.unit (s := ⟨2, ![2048, C]⟩) ![0, 0] ![n, C] inb).emb (ix2 ⟨j.val, h⟩ d) = ix2 j d := by
      funext a
      refine Fin.ext ?_
      rw [Rect.emb_apply]
      fin_cases a
      · show 0 + 1 * j.val = j.val; omega
      · show 0 + 1 * d.val = d.val; omega
    exact (congrArg _ e.symm).trans (View.canon_cons_emb (Rect.unit (s := ⟨2, ![2048, C]⟩) ![0, 0] ![n, C] inb) w L (ix2 ⟨j.val, h⟩ d))
  · rename_i h
    refine View.canon_cons_of_not_mem _ L fun hm => h ?_
    obtain ⟨x, hx⟩ := LoadRect.exists_idx_of_mem _ hm
    have := congrArg (fun i : (⟨2, ![2048, C]⟩ : Shape).Idx => (i 0).val) hx
    simp only [Rect.emb_apply] at this
    have e : 0 + 1 * (x 0).val = j.val := this
    have := (x 0).isLt
    have l : (x 0).val < n := this
    omega

/-- A load of the first `n` rows. -/
theorem load_first (v : View sig κ sp ⟨2, ![2048, C]⟩ .f32) (n : ℕ) (hn : n ≤ 2048) (inb) (L : List (View.Piece (Elt Ideal) ⟨2, ![2048, C]⟩ .f32)) (j : Fin n) (d : Fin C) :
    v.readCov L (Rect.unit (s := ⟨2, ![2048, C]⟩) ![0, 0] ![n, C] inb).toLoadRect (ix2 j d) = View.canon L (ix2 ⟨j.val, j.isLt.trans_le hn⟩ d) := by
  rw [View.readCov_eq_canon']
  refine congrArg (View.canon L) ?_
  funext a
  refine Fin.ext ?_
  fin_cases a
  · show 0 + 1 * j.val = j.val; omega
  · show 0 + 1 * d.val = d.val; omega

/-- The scratch holds zeros. -/
theorem start (inb) (w : (⟨2, ![2048, C]⟩ : Shape).Idx → Elt Ideal .f32) (hw : ∀ j d, w (ix2 j d) = (((0 : ℝ)) : EReal)) (j : Fin 2048) (d : Fin C) :
    View.canon [⟨Rect.unit (s := ⟨2, ![2048, C]⟩) ![0, 0] ![2048, C] inb, w⟩] (ix2 j d) = (((0 : ℝ)) : EReal) := by
  rw [canon_first 2048 le_rfl, dif_pos j.isLt]
  exact hw _ _

/-- One store: the terms of a tile whose rows end at `n` vanish at the later keys, so they may be added everywhere. -/
theorem step (v : View sig κ sp ⟨2, ![2048, C]⟩ .f32) (n : ℕ) (hn : n ≤ 2048) (inb inb') (w : (⟨2, ![n, C]⟩ : Shape).Idx → Elt Ideal .f32)
    (L : List (View.Piece (Elt Ideal) ⟨2, ![2048, C]⟩ .f32)) (g s : Fin 2048 → Fin C → ℝ) (hL : ∀ j d, View.canon L (ix2 j d) = ((g j d : ℝ) : EReal))
    (hw : ∀ j d, w (ix2 j d) = v.readCov L (Rect.unit (s := ⟨2, ![2048, C]⟩) ![0, 0] ![n, C] inb').toLoadRect (ix2 j d) + ((s (AttnSpec.pre n hn j) d : ℝ) : EReal))
    (h0 : ∀ j d, n ≤ j.val → s j d = 0) (j : Fin 2048) (d : Fin C) :
    View.canon (⟨Rect.unit (s := ⟨2, ![2048, C]⟩) ![0, 0] ![n, C] inb, w⟩ :: L) (ix2 j d) = ((g j d + s j d : ℝ) : EReal) := by
  rw [canon_first n hn]
  split
  · rename_i h
    rw [hw, load_first v n hn, hL, ← EReal.coe_add]
  · rename_i h
    rw [hL, h0 j d (not_lt.mp h), add_zero]

end Cert.AttnPrefix

end
-- ==== Proof.Attn.Bwd512.lean ====
/- The backward call's first tile of rows over the reals. -/
module

public import proofs.«01_k».proof.Proof.Attn.FwdFirst

@[expose] public section

set_option maxRecDepth 16384

noncomputable section

namespace Cert.AttnIdeal.Value

open Idealize.ShloMosaic Idealize.ShloMosaic.TcCoe Idealize.SL.Sem
open Cert.AttnIdeal Cert.AttnIdeal.Gen Cert.Reals Cert.AttnSpec

/-- The causal mask of a tile, from its index words. -/
theorem mask_word (c r o : ℕ) (hc : c < 2048) (hr : r + o < 2048) :
    IntOp.cmpi .sle (BitVec.ofNat 32 c) (IntOp.addi (BitVec.ofNat 32 r) (BitVec.ofNat 32 o)) = BitVec.ofBool (decide (c ≤ r + o)) := by
  rw [WordCmp.addi_ofNat]
  word_cmp

/-- A selected exponential is the weight. -/
theorem select_prob (q k : Fin 2048 → Fin 192 → ℝ) (p : Prop) [Decidable p] (i j : Fin 2048) (hp : p ↔ j ≤ i) :
    Scalar.select (BitVec.ofBool (decide p)) ((Real.exp (score q k i j - Real.log (den q k 0 i)) : ℝ) : EReal) 0 = ((prob q k i j : ℝ) : EReal) := by
  rw [← prob_log]
  by_cases h : j ≤ i
  · simp [Scalar.select, h, hp]
  · simp [Scalar.select, h, hp]

/-- The cotangents of the scores against the keys up to `n`, where the row is before `n`. -/
theorem dq_prefix (q k : Fin 2048 → Fin 192 → ℝ) (v w : Fin 2048 → Fin 128 → ℝ) (n : ℕ) (hn : n ≤ 2048) (i : Fin 2048) (hi : i.val < n) (d : Fin 256) :
    (∑ c, dscore q k v w i (pre n hn c) * wide k (pre n hn c) d) * scale = wide (dq q k v w) i d := by
  rw [← wide_dq, ← sum_prefix n hn (fun j => dscore q k v w i j * wide k j d) fun j hj => by
    rw [dscore_above q k v w (by simp only [Fin.le_def]; omega), zero_mul]]

variable (q k : Fin 2048 → Fin 192 → ℝ) (v w : Fin 2048 → Fin 128 → ℝ)
  (a : FVec Ideal S512x256 .bf16) (b : FVec Ideal S512x256 .bf16) (e : FVec Ideal S512x128 .bf16) (f : FVec Ideal S512x128 .bf16)
  (g : FVec Ideal S512x128 .bf16) (l : FVec Ideal S512x1 .f32)
  (ha : ∀ r d, a (ix2 r d) = ((wide (fun i d => q i d * scale) (pre 512 p512 r) d : ℝ) : EReal))
  (hb : ∀ r d, b (ix2 r d) = ((wide k (pre 512 p512 r) d : ℝ) : EReal))
  (he : ∀ r d, e (ix2 r d) = ((w (pre 512 p512 r) d : ℝ) : EReal))
  (hf : ∀ r d, f (ix2 r d) = ((v (pre 512 p512 r) d : ℝ) : EReal))
  (hg : ∀ r d, g (ix2 r d) = ((out q k v (pre 512 p512 r) d : ℝ) : EReal))
  (hl : ∀ r u, l (ix2 r u) = ((Real.log (den q k 0 (pre 512 p512 r)) : ℝ) : EReal))

include ha hb hl in
/-- The weights of the tile. -/
theorem prob512 (r : Fin 512) (c : Fin 512) : k1_pay8 (F := Ideal) a b l (ix2 r c) = ((prob q k (pre 512 p512 r) (pre 512 p512 c) : ℝ) : EReal) := by
  pointwise [k1_pay8, k1_pay5, k1_pay7]
  rw [mask_word c.val r.val 0 (by have := c.isLt; omega) (by have := r.isLt; omega)]
  simp only [ha, hb, hl, ← EReal.coe_mul, coe_sum, wide_score, w_zero, zero_add, ← EReal.coe_sub, Ideal.exp_coe]
  exact select_prob q k _ _ _ (by simp only [Fin.le_def]; omega)

include ha hb he hf hg hl in
/-- The cotangents of the tile's scores. -/
theorem dscore512 (r : Fin 512) (c : Fin 512) : k1_pay12 (F := Ideal) (k1_pay8 (F := Ideal) a b l) (k1_pay9 (F := Ideal) e f) (k1_pay10 (F := Ideal) e) (k1_pay11 (F := Ideal) g) (ix2 r c)
    = ((dscore q k v w (pre 512 p512 r) (pre 512 p512 c) : ℝ) : EReal) := by
  pointwise [k1_pay12, k1_pay9, k1_pay10, k1_pay11, k1_pay6]
  simp only [prob512 q k a b l ha hb hl, he, hf, hg, ← EReal.coe_mul, coe_sum, w_zero, zero_add, ← EReal.coe_sub]
  rfl

include ha hb he hf hg hl in
/-- The tile of the queries' gradient. -/
theorem dq512 (r : Fin 512) (d : Fin 256) : k1_pay13 (F := Ideal) (k1_pay7 (F := Ideal) b) (k1_pay8 (F := Ideal) a b l) (k1_pay9 (F := Ideal) e f) (k1_pay10 (F := Ideal) e) (k1_pay11 (F := Ideal) g) (ix2 r d) = ((wide (dq q k v w) (pre 512 p512 r) d : ℝ) : EReal) := by
  pointwise [k1_pay13, k1_pay7]
  simp only [dscore512 q k v w a b e f g l ha hb he hf hg hl, hb, ← EReal.coe_mul, coe_sum, w_zero, zero_add, w_scale]
  rw [dq_prefix q k v w 512 (by decide) (pre 512 p512 r) (by have := r.isLt; show _ < 512; simp only []; omega)]

include ha hb he hf hg hl in
/-- The tile's part of the keys' gradient. -/
theorem dk512 (y : FVec Ideal S512x256 .f32) (j : Fin 512) (d : Fin 256) : k1_pay14 (F := Ideal) (k1_pay5 (F := Ideal) a) (k1_pay8 (F := Ideal) a b l) (k1_pay9 (F := Ideal) e f) (k1_pay10 (F := Ideal) e) (k1_pay11 (F := Ideal) g) y (ix2 j d)
    = y (ix2 j d) + ((∑ r, dscore q k v w (pre 512 p512 r) (pre 512 p512 j) * wide (fun i d => q i d * scale) (pre 512 p512 r) d : ℝ) : EReal) := by
  pointwise [k1_pay14, k1_pay5]
  simp only [dscore512 q k v w a b e f g l ha hb he hf hg hl, ha, ← EReal.coe_mul, coe_sum, w_zero, zero_add]

include ha hb he hl in
/-- The tile's part of the values' gradient. -/
theorem dv512 (y : FVec Ideal S512x128 .f32) (j : Fin 512) (d : Fin 128) : k1_pay15 (F := Ideal) (k1_pay6 (F := Ideal) e) (k1_pay8 (F := Ideal) a b l) y (ix2 j d)
    = y (ix2 j d) + ((∑ r, prob q k (pre 512 p512 r) (pre 512 p512 j) * w (pre 512 p512 r) d : ℝ) : EReal) := by
  pointwise [k1_pay15, k1_pay6]
  simp only [prob512 q k a b l ha hb hl, he, ← EReal.coe_mul, coe_sum, w_zero, zero_add]

end Cert.AttnIdeal.Value

end
-- ==== Proof.Attn.Bwd1024.lean ====
/- The backward call's tile of rows from 512 over the reals. -/
module

public import proofs.«01_k».proof.Proof.Attn.Bwd512

@[expose] public section

set_option maxRecDepth 16384

noncomputable section

namespace Cert.AttnIdeal.Value

open Idealize.ShloMosaic Idealize.ShloMosaic.TcCoe Idealize.SL.Sem
open Cert.AttnIdeal Cert.AttnIdeal.Gen Cert.Reals Cert.AttnSpec

variable (q k : Fin 2048 → Fin 192 → ℝ) (v w : Fin 2048 → Fin 128 → ℝ)
  (a : FVec Ideal S512x256 .bf16) (b : FVec Ideal S1024x256 .bf16) (e : FVec Ideal S512x128 .bf16) (f : FVec Ideal S1024x128 .bf16)
  (g : FVec Ideal S512x128 .bf16) (l : FVec Ideal S512x1 .f32)
  (ha : ∀ r d, a (ix2 r d) = ((wide (fun i d => q i d * scale) (row 512 t512 r) d : ℝ) : EReal))
  (hb : ∀ r d, b (ix2 r d) = ((wide k (pre 1024 p1024 r) d : ℝ) : EReal))
  (he : ∀ r d, e (ix2 r d) = ((w (row 512 t512 r) d : ℝ) : EReal))
  (hf : ∀ r d, f (ix2 r d) = ((v (pre 1024 p1024 r) d : ℝ) : EReal))
  (hg : ∀ r d, g (ix2 r d) = ((out q k v (row 512 t512 r) d : ℝ) : EReal))
  (hl : ∀ r u, l (ix2 r u) = ((Real.log (den q k 0 (row 512 t512 r)) : ℝ) : EReal))

include ha hb hl in
/-- The weights of the tile. -/
theorem prob1024 (r : Fin 512) (c : Fin 1024) : k1_pay21 (F := Ideal) (k1_pay19 (F := Ideal) a b) (iota .tc S512x1024 32 [0] iota_S512x1024_d0_w32) k1_pay20 l (ix2 r c) = ((prob q k (row 512 t512 r) (pre 1024 p1024 c) : ℝ) : EReal) := by
  pointwise [k1_pay21, k1_pay20, k1_pay19, k1_pay16, k1_pay18]
  rw [mask_word c.val r.val 512 (by have := c.isLt; omega) (by have := r.isLt; omega)]
  simp only [ha, hb, hl, ← EReal.coe_mul, coe_sum, wide_score, w_zero, zero_add, ← EReal.coe_sub, Ideal.exp_coe]
  exact select_prob q k _ _ _ (by simp only [Fin.le_def]; omega)

include ha hb he hf hg hl in
/-- The cotangents of the tile's scores. -/
theorem dscore1024 (r : Fin 512) (c : Fin 1024) : k1_pay22 (F := Ideal) (k1_pay17 (F := Ideal) e) (k1_pay19 (F := Ideal) a b) (iota .tc S512x1024 32 [0] iota_S512x1024_d0_w32) k1_pay20 l f g (ix2 r c)
    = ((dscore q k v w (row 512 t512 r) (pre 1024 p1024 c) : ℝ) : EReal) := by
  pointwise [k1_pay22, k1_pay17]
  simp only [prob1024 q k a b l ha hb hl, he, hf, hg, ← EReal.coe_mul, coe_sum, w_zero, zero_add, ← EReal.coe_sub]
  rfl

include ha hb he hf hg hl in
/-- The tile of the queries' gradient. -/
theorem dq1024 (r : Fin 512) (d : Fin 256) : k1_pay23 (F := Ideal) (k1_pay17 (F := Ideal) e) (k1_pay18 (F := Ideal) b) (k1_pay19 (F := Ideal) a b) (iota .tc S512x1024 32 [0] iota_S512x1024_d0_w32) k1_pay20 l f g (ix2 r d) = ((wide (dq q k v w) (row 512 t512 r) d : ℝ) : EReal) := by
  pointwise [k1_pay23, k1_pay18]
  simp only [dscore1024 q k v w a b e f g l ha hb he hf hg hl, hb, ← EReal.coe_mul, coe_sum, w_zero, zero_add, w_scale]
  rw [dq_prefix q k v w 1024 (by decide) (row 512 t512 r) (by have := r.isLt; show _ < 1024; simp only []; omega)]

include ha hb he hf hg hl in
/-- The tile's part of the keys' gradient. -/
theorem dk1024 (y : FVec Ideal S1024x256 .f32) (j : Fin 1024) (d : Fin 256) : k1_pay24 (F := Ideal) (k1_pay16 (F := Ideal) a) (k1_pay17 (F := Ideal) e) (k1_pay19 (F := Ideal) a b) (iota .tc S512x1024 32 [0] iota_S512x1024_d0_w32) k1_pay20 l f g y (ix2 j d)
    = y (ix2 j d) + ((∑ r, dscore q k v w (row 512 t512 r) (pre 1024 p1024 j) * wide (fun i d => q i d * scale) (row 512 t512 r) d : ℝ) : EReal) := by
  pointwise [k1_pay24, k1_pay16]
  simp only [dscore1024 q k v w a b e f g l ha hb he hf hg hl, ha, ← EReal.coe_mul, coe_sum, w_zero, zero_add]

include ha hb he hl in
/-- The tile's part of the values' gradient. -/
theorem dv1024 (y : FVec Ideal S1024x128 .f32) (j : Fin 1024) (d : Fin 128) : k1_pay26 (F := Ideal) (k1_pay17 (F := Ideal) e) y (k1_pay25 (F := Ideal) (k1_pay19 (F := Ideal) a b) (iota .tc S512x1024 32 [0] iota_S512x1024_d0_w32) k1_pay20 l) (constant S1024x128 .f32 0x00000000#32) (ix2 j d)
    = y (ix2 j d) + ((∑ r, prob q k (row 512 t512 r) (pre 1024 p1024 j) * w (row 512 t512 r) d : ℝ) : EReal) := by
  pointwise [k1_pay26, k1_pay25, k1_pay17]
  simp only [prob1024 q k a b l ha hb hl, he, ← EReal.coe_mul, coe_sum, w_zero, zero_add]

end Cert.AttnIdeal.Value

end
-- ==== Proof.Attn.Bwd1536.lean ====
/- The backward call's tile of rows from 1024 over the reals. -/
module

public import proofs.«01_k».proof.Proof.Attn.Bwd512

@[expose] public section

set_option maxRecDepth 16384

noncomputable section

namespace Cert.AttnIdeal.Value

open Idealize.ShloMosaic Idealize.ShloMosaic.TcCoe Idealize.SL.Sem
open Cert.AttnIdeal Cert.AttnIdeal.Gen Cert.Reals Cert.AttnSpec

variable (q k : Fin 2048 → Fin 192 → ℝ) (v w : Fin 2048 → Fin 128 → ℝ)
  (a : FVec Ideal S512x256 .bf16) (b : FVec Ideal S1536x256 .bf16) (e : FVec Ideal S512x128 .bf16) (f : FVec Ideal S1536x128 .bf16)
  (g : FVec Ideal S512x128 .bf16) (l : FVec Ideal S512x1 .f32)
  (ha : ∀ r d, a (ix2 r d) = ((wide (fun i d => q i d * scale) (row 1024 t1024 r) d : ℝ) : EReal))
  (hb : ∀ r d, b (ix2 r d) = ((wide k (pre 1536 p1536 r) d : ℝ) : EReal))
  (he : ∀ r d, e (ix2 r d) = ((w (row 1024 t1024 r) d : ℝ) : EReal))
  (hf : ∀ r d, f (ix2 r d) = ((v (pre 1536 p1536 r) d : ℝ) : EReal))
  (hg : ∀ r d, g (ix2 r d) = ((out q k v (row 1024 t1024 r) d : ℝ) : EReal))
  (hl : ∀ r u, l (ix2 r u) = ((Real.log (den q k 0 (row 1024 t1024 r)) : ℝ) : EReal))

include ha hb hl in
/-- The weights of the tile. -/
theorem prob1536 (r : Fin 512) (c : Fin 1536) : k1_pay30 (F := Ideal) a b l (ix2 r c) = ((prob q k (row 1024 t1024 r) (pre 1536 p1536 c) : ℝ) : EReal) := by
  pointwise [k1_pay30, k1_pay27, k1_pay29]
  rw [mask_word c.val r.val 1024 (by have := c.isLt; omega) (by have := r.isLt; omega)]
  simp only [ha, hb, hl, ← EReal.coe_mul, coe_sum, wide_score, w_zero, zero_add, ← EReal.coe_sub, Ideal.exp_coe]
  exact select_prob q k _ _ _ (by simp only [Fin.le_def]; omega)

include ha hb he hf hg hl in
/-- The cotangents of the tile's scores. -/
theorem dscore1536 (r : Fin 512) (c : Fin 1536) : k1_pay31 (F := Ideal) a e b l f g (ix2 r c)
    = ((dscore q k v w (row 1024 t1024 r) (pre 1536 p1536 c) : ℝ) : EReal) := by
  pointwise [k1_pay31, k1_pay28]
  simp only [prob1536 q k a b l ha hb hl, he, hf, hg, ← EReal.coe_mul, coe_sum, w_zero, zero_add, ← EReal.coe_sub]
  rfl

include ha hb he hf hg hl in
/-- The tile of the queries' gradient. -/
theorem dq1536 (r : Fin 512) (d : Fin 256) : k1_pay33 (F := Ideal) (k1_pay32 (F := Ideal) a e b l f g) (ix2 r d) = ((wide (dq q k v w) (row 1024 t1024 r) d : ℝ) : EReal) := by
  pointwise [k1_pay33, k1_pay32, k1_pay29]
  simp only [dscore1536 q k v w a b e f g l ha hb he hf hg hl, hb, ← EReal.coe_mul, coe_sum, w_zero, zero_add, w_scale]
  rw [dq_prefix q k v w 1536 (by decide) (row 1024 t1024 r) (by have := r.isLt; show _ < 1536; simp only []; omega)]

include ha hb he hf hg hl in
/-- The tile's part of the keys' gradient. -/
theorem dk1536 (y : FVec Ideal S1536x256 .f32) (j : Fin 1536) (d : Fin 256) : k1_pay34 (F := Ideal) (k1_pay27 (F := Ideal) a) (k1_pay31 (F := Ideal) a e b l f g) y (ix2 j d)
    = y (ix2 j d) + ((∑ r, dscore q k v w (row 1024 t1024 r) (pre 1536 p1536 j) * wide (fun i d => q i d * scale) (row 1024 t1024 r) d : ℝ) : EReal) := by
  pointwise [k1_pay34, k1_pay27]
  simp only [dscore1536 q k v w a b e f g l ha hb he hf hg hl, ha, ← EReal.coe_mul, coe_sum, w_zero, zero_add]

include ha hb he hl in
/-- The tile's part of the values' gradient. -/
theorem dv1536 (y : FVec Ideal S1536x128 .f32) (j : Fin 1536) (d : Fin 128) : k1_pay35 (F := Ideal) (k1_pay28 (F := Ideal) e) (k1_pay30 (F := Ideal) a b l) y (ix2 j d)
    = y (ix2 j d) + ((∑ r, prob q k (row 1024 t1024 r) (pre 1536 p1536 j) * w (row 1024 t1024 r) d : ℝ) : EReal) := by
  pointwise [k1_pay35, k1_pay28]
  simp only [prob1536 q k a b l ha hb hl, he, ← EReal.coe_mul, coe_sum, w_zero, zero_add]

end Cert.AttnIdeal.Value

end
-- ==== Proof.Attn.Bwd2048.lean ====
/- The backward call's tile of rows from 1536 over the reals. -/
module

public import proofs.«01_k».proof.Proof.Attn.Bwd512

@[expose] public section

set_option maxRecDepth 16384

noncomputable section

namespace Cert.AttnIdeal.Value

open Idealize.ShloMosaic Idealize.ShloMosaic.TcCoe Idealize.SL.Sem
open Cert.AttnIdeal Cert.AttnIdeal.Gen Cert.Reals Cert.AttnSpec

variable (q k : Fin 2048 → Fin 192 → ℝ) (v w : Fin 2048 → Fin 128 → ℝ)
  (a : FVec Ideal S512x256 .bf16) (b : FVec Ideal S2048x256 .bf16) (e : FVec Ideal S512x128 .bf16) (f : FVec Ideal S2048x128 .bf16)
  (g : FVec Ideal S512x128 .bf16) (l : FVec Ideal S512x1 .f32)
  (ha : ∀ r d, a (ix2 r d) = ((wide (fun i d => q i d * scale) (row 1536 t1536 r) d : ℝ) : EReal))
  (hb : ∀ r d, b (ix2 r d) = ((wide k (pre 2048 p2048 r) d : ℝ) : EReal))
  (he : ∀ r d, e (ix2 r d) = ((w (row 1536 t1536 r) d : ℝ) : EReal))
  (hf : ∀ r d, f (ix2 r d) = ((v (pre 2048 p2048 r) d : ℝ) : EReal))
  (hg : ∀ r d, g (ix2 r d) = ((out q k v (row 1536 t1536 r) d : ℝ) : EReal))
  (hl : ∀ r u, l (ix2 r u) = ((Real.log (den q k 0 (row 1536 t1536 r)) : ℝ) : EReal))

include ha hb hl in
/-- The weights of the tile. -/
theorem prob2048 (r : Fin 512) (c : Fin 2048) : k1_pay41 (F := Ideal) k1_pay39 (k1_pay40 (F := Ideal) a b l) (ix2 r c) = ((prob q k (row 1536 t1536 r) (pre 2048 p2048 c) : ℝ) : EReal) := by
  pointwise [k1_pay41, k1_pay39, k1_pay40, k1_pay36, k1_pay38]
  rw [mask_word c.val r.val 1536 (by have := c.isLt; omega) (by have := r.isLt; omega)]
  simp only [ha, hb, hl, ← EReal.coe_mul, coe_sum, wide_score, w_zero, zero_add, ← EReal.coe_sub, Ideal.exp_coe]
  exact select_prob q k _ _ _ (by simp only [Fin.le_def]; omega)

include ha hb he hf hg hl in
/-- The cotangents of the tile's scores. -/
theorem dscore2048 (r : Fin 512) (c : Fin 2048) : k1_pay42 (F := Ideal) (k1_pay37 (F := Ideal) e) k1_pay39 (k1_pay40 (F := Ideal) a b l) f g (ix2 r c)
    = ((dscore q k v w (row 1536 t1536 r) (pre 2048 p2048 c) : ℝ) : EReal) := by
  pointwise [k1_pay42, k1_pay37]
  simp only [prob2048 q k a b l ha hb hl, he, hf, hg, ← EReal.coe_mul, coe_sum, w_zero, zero_add, ← EReal.coe_sub]
  rfl

include ha hb he hf hg hl in
/-- The tile of the queries' gradient. -/
theorem dq2048 (r : Fin 512) (d : Fin 256) : k1_pay43 (F := Ideal) (k1_pay37 (F := Ideal) e) (k1_pay38 (F := Ideal) b) k1_pay39 (k1_pay40 (F := Ideal) a b l) f g (ix2 r d) = ((wide (dq q k v w) (row 1536 t1536 r) d : ℝ) : EReal) := by
  pointwise [k1_pay43, k1_pay38]
  simp only [dscore2048 q k v w a b e f g l ha hb he hf hg hl, hb, ← EReal.coe_mul, coe_sum, w_zero, zero_add, w_scale]
  rw [dq_prefix q k v w 2048 (by decide) (row 1536 t1536 r) (by have := r.isLt; show _ < 2048; simp only []; omega)]

include ha hb he hf hg hl in
/-- The tile's part of the keys' gradient. -/
theorem dk2048 (y : FVec Ideal S2048x256 .f32) (j : Fin 2048) (d : Fin 256) : k1_pay44 (F := Ideal) (k1_pay36 (F := Ideal) a) (k1_pay37 (F := Ideal) e) k1_pay39 (k1_pay40 (F := Ideal) a b l) f g y (ix2 j d)
    = y (ix2 j d) + ((∑ r, dscore q k v w (row 1536 t1536 r) (pre 2048 p2048 j) * wide (fun i d => q i d * scale) (row 1536 t1536 r) d : ℝ) : EReal) := by
  pointwise [k1_pay44, k1_pay36]
  simp only [dscore2048 q k v w a b e f g l ha hb he hf hg hl, ha, ← EReal.coe_mul, coe_sum, w_zero, zero_add]

set_option maxHeartbeats 1000000 in
include ha hb he hl in
/-- The tile's part of the values' gradient. -/
theorem dv2048 (y : FVec Ideal S2048x128 .f32) (j : Fin 2048) (d : Fin 128) : k1_pay45 (F := Ideal) (k1_pay37 (F := Ideal) e) k1_pay39 (k1_pay40 (F := Ideal) a b l) y (ix2 j d)
    = y (ix2 j d) + ((∑ r, prob q k (row 1536 t1536 r) (pre 2048 p2048 j) * w (row 1536 t1536 r) d : ℝ) : EReal) := by
  pointwise [k1_pay45, k1_pay37]
  simp only [prob2048 q k a b l ha hb hl, he, ← EReal.coe_mul, coe_sum, w_zero, zero_add]

end Cert.AttnIdeal.Value

end
-- ==== Proof.Attn.FinalBwd.lean ====
/- The backward call's blocks over the reals. -/
module

public import proofs.«01_k».proof.Proof.Attn.Prefix
public import proofs.«01_k».proof.Proof.Attn.Bwd1024
public import proofs.«01_k».proof.Proof.Attn.Bwd1536
public import proofs.«01_k».proof.Proof.Attn.Bwd2048

@[expose] public section

set_option maxRecDepth 16384

noncomputable section

namespace Cert.AttnIdeal.Value

open Idealize.ShloMosaic Idealize.ShloMosaic.TcCoe Idealize.SL.Sem
open Cert.AttnIdeal Cert.AttnIdeal.Gen Cert.Reals Cert.AttnSpec Cert.AttnPrefix

theorem pay1_at (x : FVec Ideal S2048x256 .f32) (y : S2048x256.Idx) : k1_pay1 (F := Ideal) x y = x y := rfl
theorem pay2_at (x : FVec Ideal S2048x128 .f32) (y : S2048x128.Idx) : k1_pay2 (F := Ideal) x y = x y := rfl
theorem pay3_at (j : Fin 2048) (d : Fin 256) : k1_pay3 (F := Ideal) (ix2 j d) = ((0 : ℝ) : EReal) := by
  pointwise [k1_pay3]
  exact EReal.coe_zero.symm
theorem pay4_at (j : Fin 2048) (d : Fin 128) : k1_pay4 (F := Ideal) (ix2 j d) = ((0 : ℝ) : EReal) := by
  pointwise [k1_pay4]
  exact EReal.coe_zero.symm

variable (U : (c : Dev nD) → (b : Ref sig .tc) → Buf (Elt Ideal) ((c : Thread nD τ).loc b)) (c : Dev nD) (t : Fin cfg1.N)
  (q k : Fin 2048 → Fin 192 → ℝ) (v w : Fin 2048 → Fin 128 → ℝ)
  (hq : ∀ i d, (show FVec Ideal S2048x256 .bf16 from iblk1 U c 0 t) (ix2 i d) = ((wide (fun i d => q i d * scale) i d : ℝ) : EReal))
  (hk : ∀ i d, (show FVec Ideal S2048x256 .bf16 from iblk1 U c 1 t) (ix2 i d) = ((wide k i d : ℝ) : EReal))
  (hv : ∀ i d, (show FVec Ideal S2048x128 .bf16 from iblk1 U c 2 t) (ix2 i d) = ((v i d : ℝ) : EReal))
  (ho : ∀ i d, (show FVec Ideal S2048x128 .bf16 from iblk1 U c 3 t) (ix2 i d) = ((out q k v i d : ℝ) : EReal))
  (hw : ∀ i d, (show FVec Ideal S2048x128 .bf16 from iblk1 U c 4 t) (ix2 i d) = ((w i d : ℝ) : EReal))
  (hl : ∀ i d, (show FVec Ideal S2048x128 .f32 from iblk1 U c 5 t) (ix2 i d) = ((Real.log (den q k 0 i) : ℝ) : EReal))

theorem d256 : 256 ≤ 256 := le_rfl
theorem d128 : 128 ≤ 128 := le_rfl
theorem d1 : 1 ≤ 128 := by decide

include hq hk hv ho hw hl

set_option maxHeartbeats 2000000 in
/-- The block of the queries' gradient. -/
theorem block_dq (i : Fin 2048) (d : Fin 256) : (outsAt1 U c t).1 (ix2 i d) = ((wide (dq q k v w) i d : ℝ) : EReal) := by
  unfold Gen.outsAt1
  frame_out
  canon_tiles x e
  · idx_vars x
    obtain rfl : i = row 1536 t1536 x0 := Fin.ext (by simp only []; omega)
    obtain rfl : d = x1 := Fin.ext e1
    refine dq2048 q k v w _ _ _ _ _ _ ?_ ?_ ?_ ?_ ?_ ?_ x0 d
    · exact fun r d => (ld_rows 1536 512 256 d256 t1536 _ _ r d).trans (hq _ _)
    · exact fun r d => hk _ _
    · exact fun r d => (ld_rows 1536 512 128 d128 t1536 _ _ r d).trans (hw _ _)
    · exact fun r d => hv _ _
    · exact fun r d => (ld_rows 1536 512 128 d128 t1536 _ _ r d).trans (ho _ _)
    · exact fun r d => (ld_rows 1536 512 1 d1 t1536 _ _ r d).trans (hl _ _)
  · idx_vars x
    obtain rfl : i = row 1024 t1024 x0 := Fin.ext (by simp only []; omega)
    obtain rfl : d = x1 := Fin.ext e1
    refine dq1536 q k v w _ _ _ _ _ _ ?_ ?_ ?_ ?_ ?_ ?_ x0 d
    · exact fun r d => (ld_rows 1024 512 256 d256 t1024 _ _ r d).trans (hq _ _)
    · exact fun r d => (ld_first 1536 256 d256 p1536 _ _ r d).trans (hk _ _)
    · exact fun r d => (ld_rows 1024 512 128 d128 t1024 _ _ r d).trans (hw _ _)
    · exact fun r d => (ld_first 1536 128 d128 p1536 _ _ r d).trans (hv _ _)
    · exact fun r d => (ld_rows 1024 512 128 d128 t1024 _ _ r d).trans (ho _ _)
    · exact fun r d => (ld_rows 1024 512 1 d1 t1024 _ _ r d).trans (hl _ _)
  · idx_vars x
    obtain rfl : i = row 512 t512 x0 := Fin.ext (by simp only []; omega)
    obtain rfl : d = x1 := Fin.ext e1
    refine dq1024 q k v w _ _ _ _ _ _ ?_ ?_ ?_ ?_ ?_ ?_ x0 d
    · exact fun r d => (ld_rows 512 512 256 d256 t512 _ _ r d).trans (hq _ _)
    · exact fun r d => (ld_first 1024 256 d256 p1024 _ _ r d).trans (hk _ _)
    · exact fun r d => (ld_rows 512 512 128 d128 t512 _ _ r d).trans (hw _ _)
    · exact fun r d => (ld_first 1024 128 d128 p1024 _ _ r d).trans (hv _ _)
    · exact fun r d => (ld_rows 512 512 128 d128 t512 _ _ r d).trans (ho _ _)
    · exact fun r d => (ld_rows 512 512 1 d1 t512 _ _ r d).trans (hl _ _)
  · idx_vars x
    obtain rfl : i = pre 512 p512 x0 := Fin.ext (by simp only []; omega)
    obtain rfl : d = x1 := Fin.ext e1
    refine dq512 q k v w _ _ _ _ _ _ ?_ ?_ ?_ ?_ ?_ ?_ x0 d
    · exact fun r d => (ld_first 512 256 d256 p512 _ _ r d).trans (hq _ _)
    · exact fun r d => (ld_first 512 256 d256 p512 _ _ r d).trans (hk _ _)
    · exact fun r d => (ld_first 512 128 d128 p512 _ _ r d).trans (hw _ _)
    · exact fun r d => (ld_first 512 128 d128 p512 _ _ r d).trans (hv _ _)
    · exact fun r d => (ld_first 512 128 d128 p512 _ _ r d).trans (ho _ _)
    · exact fun r d => (ld_first 512 1 d1 p512 _ _ r d).trans (hl _ _)

end Cert.AttnIdeal.Value

end
-- ==== Proof.Attn.FinalDk.lean ====
/- The backward call's key block over the reals. -/
module

public import proofs.«01_k».proof.Proof.Attn.Prefix
public import proofs.«01_k».proof.Proof.Attn.Bwd1024
public import proofs.«01_k».proof.Proof.Attn.Bwd1536
public import proofs.«01_k».proof.Proof.Attn.Bwd2048

@[expose] public section

set_option maxRecDepth 16384

noncomputable section

namespace Cert.AttnIdeal.Value

open Idealize.ShloMosaic Idealize.ShloMosaic.TcCoe Idealize.SL.Sem
open Cert.AttnIdeal Cert.AttnIdeal.Gen Cert.Reals Cert.AttnSpec Cert.AttnPrefix

theorem pay1_at (x : FVec Ideal S2048x256 .f32) (y : S2048x256.Idx) : k1_pay1 (F := Ideal) x y = x y := rfl
theorem pay2_at (x : FVec Ideal S2048x128 .f32) (y : S2048x128.Idx) : k1_pay2 (F := Ideal) x y = x y := rfl
theorem pay3_at (j : Fin 2048) (d : Fin 256) : k1_pay3 (F := Ideal) (ix2 j d) = ((0 : ℝ) : EReal) := by
  pointwise [k1_pay3]
  exact EReal.coe_zero.symm
theorem pay4_at (j : Fin 2048) (d : Fin 128) : k1_pay4 (F := Ideal) (ix2 j d) = ((0 : ℝ) : EReal) := by
  pointwise [k1_pay4]
  exact EReal.coe_zero.symm

variable (U : (c : Dev nD) → (b : Ref sig .tc) → Buf (Elt Ideal) ((c : Thread nD τ).loc b)) (c : Dev nD) (t : Fin cfg1.N)
  (q k : Fin 2048 → Fin 192 → ℝ) (v w : Fin 2048 → Fin 128 → ℝ)
  (hq : ∀ i d, (show FVec Ideal S2048x256 .bf16 from iblk1 U c 0 t) (ix2 i d) = ((wide (fun i d => q i d * scale) i d : ℝ) : EReal))
  (hk : ∀ i d, (show FVec Ideal S2048x256 .bf16 from iblk1 U c 1 t) (ix2 i d) = ((wide k i d : ℝ) : EReal))
  (hv : ∀ i d, (show FVec Ideal S2048x128 .bf16 from iblk1 U c 2 t) (ix2 i d) = ((v i d : ℝ) : EReal))
  (ho : ∀ i d, (show FVec Ideal S2048x128 .bf16 from iblk1 U c 3 t) (ix2 i d) = ((out q k v i d : ℝ) : EReal))
  (hw : ∀ i d, (show FVec Ideal S2048x128 .bf16 from iblk1 U c 4 t) (ix2 i d) = ((w i d : ℝ) : EReal))
  (hl : ∀ i d, (show FVec Ideal S2048x128 .f32 from iblk1 U c 5 t) (ix2 i d) = ((Real.log (den q k 0 i) : ℝ) : EReal))

theorem d256 : 256 ≤ 256 := le_rfl
theorem d128 : 128 ≤ 128 := le_rfl
theorem d1 : 1 ≤ 128 := by decide

include hq hk hv ho hw hl in
set_option maxHeartbeats 2000000 in
/-- The block of the keys' gradient. -/
theorem block_dk (j : Fin 2048) (d : Fin 256) : (outsAt1 U c t).2.1 (ix2 j d) = ((wide (dk q k v w) j d : ℝ) : EReal) := by
  unfold Gen.outsAt1
  frame_out
  refine (pay1_at _ _).trans ?_
  refine (dk2048 q k v w _ _ _ _ _ _ ?_ ?_ ?_ ?_ ?_ ?_ _ j d).trans ?_
  · exact fun r d => (ld_rows 1536 512 256 d256 t1536 _ _ r d).trans (hq _ _)
  · exact fun r d => hk _ _
  · exact fun r d => (ld_rows 1536 512 128 d128 t1536 _ _ r d).trans (hw _ _)
  · exact fun r d => hv _ _
  · exact fun r d => (ld_rows 1536 512 128 d128 t1536 _ _ r d).trans (ho _ _)
  · exact fun r d => (ld_rows 1536 512 1 d1 t1536 _ _ r d).trans (hl _ _)
  refine (congrArg (fun z : EReal => z + _) ((load_first _ 2048 p2048 _ _ j d).trans (step (View.whole cc1_scratch0) 1536 p1536 _ inb_S2048x256_S1536x256_0_0 _ _ _ (fun j d => ∑ r, dscore q k v w (row 1024 t1024 r) j * wide (fun i d => q i d * scale) (row 1024 t1024 r) d)
    (fun j d => step (View.whole cc1_scratch0) 1024 p1024 _ inb_S2048x256_S1024x256_0_0 _ _ _ (fun j d => ∑ r, dscore q k v w (row 512 t512 r) j * wide (fun i d => q i d * scale) (row 512 t512 r) d)
    (fun j d => step (View.whole cc1_scratch0) 512 p512 _ inb_S2048x256_S512x256_0_0 _ _ _ (fun j d => ∑ r, dscore q k v w (pre 512 p512 r) j * wide (fun i d => q i d * scale) (pre 512 p512 r) d)
    (start _ _ pay3_at) ?_ ?_ j d) ?_ ?_ j d) ?_ ?_ j d))).trans ?_
  · refine fun j d => dk512 q k v w _ _ _ _ _ _ ?_ ?_ ?_ ?_ ?_ ?_ _ j d
    · exact fun r d => (ld_first 512 256 d256 p512 _ _ r d).trans (hq _ _)
    · exact fun r d => (ld_first 512 256 d256 p512 _ _ r d).trans (hk _ _)
    · exact fun r d => (ld_first 512 128 d128 p512 _ _ r d).trans (hw _ _)
    · exact fun r d => (ld_first 512 128 d128 p512 _ _ r d).trans (hv _ _)
    · exact fun r d => (ld_first 512 128 d128 p512 _ _ r d).trans (ho _ _)
    · exact fun r d => (ld_first 512 1 d1 p512 _ _ r d).trans (hl _ _)
  · refine fun j d hj => Finset.sum_eq_zero fun r _ => ?_
    rw [dscore_above q k v w (by simp only [Fin.le_def]; omega), zero_mul]
  · refine fun j d => dk1024 q k v w _ _ _ _ _ _ ?_ ?_ ?_ ?_ ?_ ?_ _ j d
    · exact fun r d => (ld_rows 512 512 256 d256 t512 _ _ r d).trans (hq _ _)
    · exact fun r d => (ld_first 1024 256 d256 p1024 _ _ r d).trans (hk _ _)
    · exact fun r d => (ld_rows 512 512 128 d128 t512 _ _ r d).trans (hw _ _)
    · exact fun r d => (ld_first 1024 128 d128 p1024 _ _ r d).trans (hv _ _)
    · exact fun r d => (ld_rows 512 512 128 d128 t512 _ _ r d).trans (ho _ _)
    · exact fun r d => (ld_rows 512 512 1 d1 t512 _ _ r d).trans (hl _ _)
  · refine fun j d hj => Finset.sum_eq_zero fun r _ => ?_
    rw [dscore_above q k v w (by simp only [Fin.le_def]; omega), zero_mul]
  · refine fun j d => dk1536 q k v w _ _ _ _ _ _ ?_ ?_ ?_ ?_ ?_ ?_ _ j d
    · exact fun r d => (ld_rows 1024 512 256 d256 t1024 _ _ r d).trans (hq _ _)
    · exact fun r d => (ld_first 1536 256 d256 p1536 _ _ r d).trans (hk _ _)
    · exact fun r d => (ld_rows 1024 512 128 d128 t1024 _ _ r d).trans (hw _ _)
    · exact fun r d => (ld_first 1536 128 d128 p1536 _ _ r d).trans (hv _ _)
    · exact fun r d => (ld_rows 1024 512 128 d128 t1024 _ _ r d).trans (ho _ _)
    · exact fun r d => (ld_rows 1024 512 1 d1 t1024 _ _ r d).trans (hl _ _)
  · refine fun j d hj => Finset.sum_eq_zero fun r _ => ?_
    rw [dscore_above q k v w (by simp only [Fin.le_def]; omega), zero_mul]
  refine (EReal.coe_add _ _).symm.trans (congrArg _ ?_)
  rw [← wide_dk, sum_rows, zero_add]

end Cert.AttnIdeal.Value

end
-- ==== Proof.Attn.FinalDv.lean ====
/- The backward call's value block over the reals. -/
module

public import proofs.«01_k».proof.Proof.Attn.Prefix
public import proofs.«01_k».proof.Proof.Attn.Bwd1024
public import proofs.«01_k».proof.Proof.Attn.Bwd1536
public import proofs.«01_k».proof.Proof.Attn.Bwd2048

@[expose] public section

set_option maxRecDepth 16384

noncomputable section

namespace Cert.AttnIdeal.Value

open Idealize.ShloMosaic Idealize.ShloMosaic.TcCoe Idealize.SL.Sem
open Cert.AttnIdeal Cert.AttnIdeal.Gen Cert.Reals Cert.AttnSpec Cert.AttnPrefix

theorem pay1_at (x : FVec Ideal S2048x256 .f32) (y : S2048x256.Idx) : k1_pay1 (F := Ideal) x y = x y := rfl
theorem pay2_at (x : FVec Ideal S2048x128 .f32) (y : S2048x128.Idx) : k1_pay2 (F := Ideal) x y = x y := rfl
theorem pay3_at (j : Fin 2048) (d : Fin 256) : k1_pay3 (F := Ideal) (ix2 j d) = ((0 : ℝ) : EReal) := by
  pointwise [k1_pay3]
  exact EReal.coe_zero.symm
theorem pay4_at (j : Fin 2048) (d : Fin 128) : k1_pay4 (F := Ideal) (ix2 j d) = ((0 : ℝ) : EReal) := by
  pointwise [k1_pay4]
  exact EReal.coe_zero.symm

variable (U : (c : Dev nD) → (b : Ref sig .tc) → Buf (Elt Ideal) ((c : Thread nD τ).loc b)) (c : Dev nD) (t : Fin cfg1.N)
  (q k : Fin 2048 → Fin 192 → ℝ) (v w : Fin 2048 → Fin 128 → ℝ)
  (hq : ∀ i d, (show FVec Ideal S2048x256 .bf16 from iblk1 U c 0 t) (ix2 i d) = ((wide (fun i d => q i d * scale) i d : ℝ) : EReal))
  (hk : ∀ i d, (show FVec Ideal S2048x256 .bf16 from iblk1 U c 1 t) (ix2 i d) = ((wide k i d : ℝ) : EReal))
  (hv : ∀ i d, (show FVec Ideal S2048x128 .bf16 from iblk1 U c 2 t) (ix2 i d) = ((v i d : ℝ) : EReal))
  (ho : ∀ i d, (show FVec Ideal S2048x128 .bf16 from iblk1 U c 3 t) (ix2 i d) = ((out q k v i d : ℝ) : EReal))
  (hw : ∀ i d, (show FVec Ideal S2048x128 .bf16 from iblk1 U c 4 t) (ix2 i d) = ((w i d : ℝ) : EReal))
  (hl : ∀ i d, (show FVec Ideal S2048x128 .f32 from iblk1 U c 5 t) (ix2 i d) = ((Real.log (den q k 0 i) : ℝ) : EReal))

theorem d256 : 256 ≤ 256 := le_rfl
theorem d128 : 128 ≤ 128 := le_rfl
theorem d1 : 1 ≤ 128 := by decide

include hq hk hw hl in
set_option maxHeartbeats 2000000 in
/-- The block of the values' gradient. -/
theorem block_dv (j : Fin 2048) (d : Fin 128) : (outsAt1 U c t).2.2 (ix2 j d) = ((dv q k w j d : ℝ) : EReal) := by
  unfold Gen.outsAt1
  frame_out
  refine (pay2_at _ _).trans ?_
  refine (dv2048 q k w _ _ _ _ ?_ ?_ ?_ ?_ _ j d).trans ?_
  · exact fun r d => (ld_rows 1536 512 256 d256 t1536 _ _ r d).trans (hq _ _)
  · exact fun r d => hk _ _
  · exact fun r d => (ld_rows 1536 512 128 d128 t1536 _ _ r d).trans (hw _ _)
  · exact fun r d => (ld_rows 1536 512 1 d1 t1536 _ _ r d).trans (hl _ _)
  refine (congrArg (fun z : EReal => z + _) ((load_first _ 2048 p2048 _ _ j d).trans (step (View.whole cc1_scratch1) 1536 p1536 _ inb_S2048x128_S1536x128_0_0 _ _ _ (fun j d => ∑ r, prob q k (row 1024 t1024 r) j * w (row 1024 t1024 r) d)
    (fun j d => step (View.whole cc1_scratch1) 1024 p1024 _ inb_S2048x128_S1024x128_0_0 _ _ _ (fun j d => ∑ r, prob q k (row 512 t512 r) j * w (row 512 t512 r) d)
    (fun j d => step (View.whole cc1_scratch1) 512 p512 _ inb_S2048x128_S512x128_0_0 _ _ _ (fun j d => ∑ r, prob q k (pre 512 p512 r) j * w (pre 512 p512 r) d)
    (start _ _ pay4_at) ?_ ?_ j d) ?_ ?_ j d) ?_ ?_ j d))).trans ?_
  · refine fun j d => dv512 q k w _ _ _ _ ?_ ?_ ?_ ?_ _ j d
    · exact fun r d => (ld_first 512 256 d256 p512 _ _ r d).trans (hq _ _)
    · exact fun r d => (ld_first 512 256 d256 p512 _ _ r d).trans (hk _ _)
    · exact fun r d => (ld_first 512 128 d128 p512 _ _ r d).trans (hw _ _)
    · exact fun r d => (ld_first 512 1 d1 p512 _ _ r d).trans (hl _ _)
  · refine fun j d hj => Finset.sum_eq_zero fun r _ => ?_
    rw [prob_above q k (by simp only [Fin.le_def]; omega), zero_mul]
  · refine fun j d => dv1024 q k w _ _ _ _ ?_ ?_ ?_ ?_ _ j d
    · exact fun r d => (ld_rows 512 512 256 d256 t512 _ _ r d).trans (hq _ _)
    · exact fun r d => (ld_first 1024 256 d256 p1024 _ _ r d).trans (hk _ _)
    · exact fun r d => (ld_rows 512 512 128 d128 t512 _ _ r d).trans (hw _ _)
    · exact fun r d => (ld_rows 512 512 1 d1 t512 _ _ r d).trans (hl _ _)
  · refine fun j d hj => Finset.sum_eq_zero fun r _ => ?_
    rw [prob_above q k (by simp only [Fin.le_def]; omega), zero_mul]
  · refine fun j d => dv1536 q k w _ _ _ _ ?_ ?_ ?_ ?_ _ j d
    · exact fun r d => (ld_rows 1024 512 256 d256 t1024 _ _ r d).trans (hq _ _)
    · exact fun r d => (ld_first 1536 256 d256 p1536 _ _ r d).trans (hk _ _)
    · exact fun r d => (ld_rows 1024 512 128 d128 t1024 _ _ r d).trans (hw _ _)
    · exact fun r d => (ld_rows 1024 512 1 d1 t1024 _ _ r d).trans (hl _ _)
  · refine fun j d hj => Finset.sum_eq_zero fun r _ => ?_
    rw [prob_above q k (by simp only [Fin.le_def]; omega), zero_mul]
  refine (EReal.coe_add _ _).symm.trans (congrArg _ ?_)
  rw [zero_add]; exact (sum_rows fun i => prob q k i j * w i d).symm

end Cert.AttnIdeal.Value

end
-- ==== Proof.Attn.Final.lean ====
/- The backward call's result arrays over the reals. -/
module

public import proofs.«01_k».proof.Proof.Attn.FinalFwd
public import proofs.«01_k».proof.Proof.Attn.FinalBwd
public import proofs.«01_k».proof.Proof.Attn.FinalDk
public import proofs.«01_k».proof.Proof.Attn.FinalDv

@[expose] public section

set_option maxRecDepth 16384

noncomputable section

namespace Cert.AttnIdeal.Value

open Idealize.ShloMosaic Idealize.ShloMosaic.TcCoe Idealize.SL.Sem
open Cert.AttnIdeal Cert.AttnIdeal.Gen Cert.Reals Cert.AttnSpec

variable {m : (ℓ : Loc nD τ sig) → Buf (Elt Ideal) ℓ} (ρ : Dev nD → PrngReg) {c : Dev nD}
  {Q K : Fin 2 → Fin 8 → Fin 2048 → Fin 192 → ℝ} {A D : Fin 2 → Fin 8 → Fin 2048 → Fin 128 → ℝ} (h : Args m c Q K A D)

/-- The forward call leaves its operands as they were. -/
theorem kept (b : Ref sig .tc) (h1 : b ∉ hostOps1_W) (h2 : ∀ w : Fin cfg0.W, Pipeline.arrRef spec0 w = b → (cfg0.win w).isOut = false) :
    V3 m ρ c b = V1 m ρ c b := (W3_of m ρ c b h1).trans (W2_of m ρ c b h2)

include h

theorem blk1_q (t : Fin 16) (i : Fin 2048) (d : Fin 256) : (show FVec Ideal S2048x256 .bf16 from iblk1 (V3 m ρ) c 0 t) (ix2 i d)
    = ((wide (fun i d => Q (gb t) (gh t) i d * scale) i d : ℝ) : EReal) :=
  (read1_0 (V3 m ρ) t i d).trans (by rw [kept ρ main_v5 (by decide) (by decide), entry_q ρ h, bat_grow, pos_grow, whead_gwide, wlane_gwide])

theorem blk1_k (t : Fin 16) (i : Fin 2048) (d : Fin 256) : (show FVec Ideal S2048x256 .bf16 from iblk1 (V3 m ρ) c 1 t) (ix2 i d)
    = ((wide (K (gb t) (gh t)) i d : ℝ) : EReal) :=
  (read1_1 (V3 m ρ) t i d).trans (by rw [kept ρ main_v9 (by decide) (by decide), entry_k ρ h, bat_grow, pos_grow, whead_gwide, wlane_gwide])

theorem blk1_v (t : Fin 16) (i : Fin 2048) (d : Fin 128) : (show FVec Ideal S2048x128 .bf16 from iblk1 (V3 m ρ) c 2 t) (ix2 i d)
    = ((A (gb t) (gh t) i d : ℝ) : EReal) :=
  (read1_2 (V3 m ρ) t i d).trans (by rw [kept ρ main_v11 (by decide) (by decide), entry_v ρ h, bat_grow, pos_grow, head_gcol, lane_gcol])

theorem blk1_do (t : Fin 16) (i : Fin 2048) (d : Fin 128) : (show FVec Ideal S2048x128 .bf16 from iblk1 (V3 m ρ) c 4 t) (ix2 i d)
    = ((D (gb t) (gh t) i d : ℝ) : EReal) :=
  (read1_4 (V3 m ρ) t i d).trans (by rw [kept ρ main_v13 (by decide) (by decide), entry_do ρ h, bat_grow, pos_grow, head_gcol, lane_gcol])

/-- The saved output. -/
theorem blk1_o (t : Fin 16) (i : Fin 2048) (d : Fin 128) : (show FVec Ideal S2048x128 .bf16 from iblk1 (V3 m ρ) c 3 t) (ix2 i d)
    = ((out (Q (gb t) (gh t)) (K (gb t) (gh t)) (A (gb t) (gh t)) i d : ℝ) : EReal) := by
  have e : V3 m ρ c main_v14_0 = (dat0 (V1 m ρ) c).arrAt 3 cfg0.N := (W3_of m ρ c main_v14_0 (by decide)).trans (W2_arr m ρ c 3)
  refine (read1_3 (V3 m ρ) t i d).trans ((congrFun (e.trans (final_o ρ h)) (ix2 (grow t i) (gcol t d))).trans ?_)
  exact (place t i d fun b hd i d => ((out (Q b hd) (K b hd) (A b hd) i d : ℝ) : EReal)).symm

/-- The saved log-sums. -/
theorem blk1_lse (t : Fin 16) (i : Fin 2048) (d : Fin 128) : (show FVec Ideal S2048x128 .f32 from iblk1 (V3 m ρ) c 5 t) (ix2 i d)
    = ((Real.log (den (Q (gb t) (gh t)) (K (gb t) (gh t)) 0 i) : ℝ) : EReal) := by
  have e : V3 m ρ c main_v14_1 = (dat0 (V1 m ρ) c).arrAt 4 cfg0.N := (W3_of m ρ c main_v14_1 (by decide)).trans (W2_arr m ρ c 4)
  refine (read1_5 (V3 m ρ) t i d).trans ((congrFun (e.trans (final_lse ρ h)) (ix2 (grow t i) (gcol t d))).trans ?_)
  exact (place t i d fun b hd i _ => ((Real.log (den (Q b hd) (K b hd) 0 i) : ℝ) : EReal)).symm

set_option maxHeartbeats 1000000 in
/-- The gradient of the queries. -/
theorem final_dq : (dat1 (V3 m ρ) c).arrAt 6 cfg1.N = fun j : S4096x2048.Idx =>
    ((wide (dq (Q (bat (j 0)) (whead (j 1))) (K (bat (j 0)) (whead (j 1))) (A (bat (j 0)) (whead (j 1))) (D (bat (j 0)) (whead (j 1)))) (pos (j 0)) (wlane (j 1)) : ℝ) : EReal) := by
  refine (dat1 (V3 m ρ) c).arrAt_eq_of_covers 6 _ (by decide +kernel) fun t _ y => ?_
  rw [after1_6]
  idx_vars y
  refine (block_dq (V3 m ρ) c t (Q (gb t) (gh t)) (K (gb t) (gh t)) (A (gb t) (gh t)) (D (gb t) (gh t)) (blk1_q ρ h t) (blk1_k ρ h t) (blk1_v ρ h t) (blk1_o ρ h t) (blk1_do ρ h t) (blk1_lse ρ h t) y0 y1).trans ?_
  have e0 : ((win1_6.blk t).view.emb (ix2 y0 y1)) 0 = grow t y0 := Fin.ext (by blk_simp [idx1 t, grow])
  have e1 : ((win1_6.blk t).view.emb (ix2 y0 y1)) 1 = gwide t y1 := Fin.ext (by blk_simp [idx1 t, gwide])
  simp only [e0, e1]
  exact placeW t y0 y1 fun b hd i d => ((wide (dq (Q b hd) (K b hd) (A b hd) (D b hd)) i d : ℝ) : EReal)

set_option maxHeartbeats 1000000 in
/-- The gradient of the keys. -/
theorem final_dk : (dat1 (V3 m ρ) c).arrAt 7 cfg1.N = fun j : S4096x2048.Idx =>
    ((wide (dk (Q (bat (j 0)) (whead (j 1))) (K (bat (j 0)) (whead (j 1))) (A (bat (j 0)) (whead (j 1))) (D (bat (j 0)) (whead (j 1)))) (pos (j 0)) (wlane (j 1)) : ℝ) : EReal) := by
  refine (dat1 (V3 m ρ) c).arrAt_eq_of_covers 7 _ (by decide +kernel) fun t _ y => ?_
  rw [after1_7]
  idx_vars y
  refine (block_dk (V3 m ρ) c t (Q (gb t) (gh t)) (K (gb t) (gh t)) (A (gb t) (gh t)) (D (gb t) (gh t)) (blk1_q ρ h t) (blk1_k ρ h t) (blk1_v ρ h t) (blk1_o ρ h t) (blk1_do ρ h t) (blk1_lse ρ h t) y0 y1).trans ?_
  have e0 : ((win1_7.blk t).view.emb (ix2 y0 y1)) 0 = grow t y0 := Fin.ext (by blk_simp [idx1 t, grow])
  have e1 : ((win1_7.blk t).view.emb (ix2 y0 y1)) 1 = gwide t y1 := Fin.ext (by blk_simp [idx1 t, gwide])
  simp only [e0, e1]
  exact placeW t y0 y1 fun b hd i d => ((wide (dk (Q b hd) (K b hd) (A b hd) (D b hd)) i d : ℝ) : EReal)

set_option maxHeartbeats 1000000 in
/-- The gradient of the values. -/
theorem final_dv : (dat1 (V3 m ρ) c).arrAt 8 cfg1.N = fun j : S4096x1024.Idx =>
    ((dv (Q (bat (j 0)) (head (j 1))) (K (bat (j 0)) (head (j 1))) (D (bat (j 0)) (head (j 1))) (pos (j 0)) (lane (j 1)) : ℝ) : EReal) := by
  refine (dat1 (V3 m ρ) c).arrAt_eq_of_covers 8 _ (by decide +kernel) fun t _ y => ?_
  rw [after1_8]
  idx_vars y
  refine (block_dv (V3 m ρ) c t (Q (gb t) (gh t)) (K (gb t) (gh t)) (D (gb t) (gh t)) (blk1_q ρ h t) (blk1_k ρ h t) (blk1_do ρ h t) (blk1_lse ρ h t) y0 y1).trans ?_
  have e0 : ((win1_8.blk t).view.emb (ix2 y0 y1)) 0 = grow t y0 := Fin.ext (by blk_simp [idx1 t, grow])
  have e1 : ((win1_8.blk t).view.emb (ix2 y0 y1)) 1 = gcol t y1 := Fin.ext (by blk_simp [idx1 t, gcol])
  simp only [e0, e1]
  exact place t y0 y1 fun b hd i d => ((dv (Q b hd) (K b hd) (D b hd) i d : ℝ) : EReal)

end Cert.AttnIdeal.Value

end
-- ==== Proof.Attn.Equal.lean ====
/- Causal attention: kernel and reference compute the same output and gradients over the reals. -/
module

public import proofs.«01_k».proof.Defs
public import proofs.«01_k».proof.Proof.Gen.Pre_attn_finite
public import proofs.«01_k».proof.Proof.Gen.Attn
public import proofs.«01_k».proof.Proof.Attn.Ref
public import proofs.«01_k».proof.Proof.Attn.Run
public import proofs.«01_k».proof.Proof.Attn.Final
public import Idealize.ShloMosaic.Lib.Claim

@[expose] public section

set_option maxRecDepth 16384

noncomputable section

namespace Cert.AttnIdeal.Equal

open Idealize.ShloMosaic Idealize.ShloMosaic.TcCoe Idealize.SL.Sem
open Cert.AttnIdeal Cert.AttnIdeal.Gen Cert.AttnIdeal.Value Cert.Reals Cert.AttnSpec

/-- The finite arguments are images of their real parts. -/
theorem args_of_pre (m : (ℓ : Loc nD τ sig) → Buf (Elt Ideal) ℓ) (hp : Cert.Pre_AttnIdeal_attn_finite m) (c : Dev nD) :
    ∃ Q K A D, Args m c Q K A D := by
  obtain ⟨p0, p1, p2, p3⟩ := hp c
  exact ⟨_, _, _, _, fun _ _ _ _ => real_of_abs_lt _ _ p0 _, fun _ _ _ _ => real_of_abs_lt _ _ p1 _,
    fun _ _ _ _ => real_of_abs_lt _ _ p2 _, fun _ _ _ _ => real_of_abs_lt _ _ p3 _⟩

open Cert.AttnRefIdeal.Read Cert.AttnRefIdeal.Reads

variable {m : (ℓ : Loc nD τ sig) → Buf (Elt Ideal) ℓ} {c : Dev nD}
  {Q K : Fin 2 → Fin 8 → Fin 2048 → Fin 192 → ℝ} {A D : Fin 2 → Fin 8 → Fin 2048 → Fin 128 → ℝ} (h : Args m c Q K A D)

omit h in
/-- The kernel and the reference end with equal arrays. -/
theorem claim : Cert.algebraic_AttnIdeal_AttnRefIdeal_pre_attn_finite := by
  pair_intro
  · run_from Cert.AttnIdeal.Value.run m g
  · run_from Cert.AttnRefIdeal.Value.run m' g'
    all_goals obtain ⟨Q, K, A, D, h⟩ := args_of_pre m hpre c
    · refine (val_main_v64_eq m' c).trans ?_
      simp only [hagree c]
      refine Eq.trans (funext fun i => ?_) (final_o g h).symm
      idx_vars i
      exact ref_o _ _ _ Q K A h.1 h.2.1 h.2.2.1 i0 i1
    · refine (val_main_v68_eq m' c).trans ?_
      simp only [hagree c]
      refine Eq.trans (funext fun i => ?_) (final_dq g h).symm
      idx_vars i
      exact ref_dq _ _ _ _ Q K A D h.1 h.2.1 h.2.2.1 h.2.2.2 i0 i1
    · refine (val_main_v72_eq m' c).trans ?_
      simp only [hagree c]
      refine Eq.trans (funext fun i => ?_) (final_dk g h).symm
      idx_vars i
      exact ref_dk _ _ _ _ Q K A D h.1 h.2.1 h.2.2.1 h.2.2.2 i0 i1
    · refine (val_main_v74_eq m' c).trans ?_
      simp only [hagree c]
      refine Eq.trans (funext fun i => ?_) (final_dv g h).symm
      idx_vars i
      exact ref_dv _ _ _ Q K D h.1 h.2.1 h.2.2.2 i0 i1

/-- The mask constant stands for the negative infinity. -/
theorem preserves : Cert.preserves_Attn_AttnIdeal :=
  IdealRules.named_const.statement Cert.AttnIdeal.κ "mask" .f32 0xF149F2CA#32 (⊥ : EReal) rfl

/-- The reference runs, keeps its arguments and leaves every counter at zero. -/
theorem ref_frame : Cert.quiescent_AttnRefIdeal := fun m ρ _ =>
  (θ_run Cert.AttnRefIdeal.defs _ _).mono (fun r h => ⟨fun c => (h c).2.2.2.2, sem_eq_zero_of_no_sems (by decide) r.2⟩)
    (Cert.AttnRefIdeal.Value.run m ρ)

end Cert.AttnIdeal.Equal

end
-- ==== Proof.Mixer.Spec.lean ====
/- The gradient of the two gates and of the chunked spatial gating, over the reals. -/
module

public import proofs.«01_k».proof.Proof.Common.Norm
public import proofs.«01_k».proof.Proof.Common.Tokens
public import Mathlib.Analysis.SpecialFunctions.Trigonometric.DerivHyp

@[expose] public section

noncomputable section

namespace Cert.MixSpec

open Cert.Reals

/-! The activation and the gates. -/

/-- The square root of 2/π, as the float word both programs hold. -/
def kk : ℝ := 13386282 / 16777216

/-- The cubic coefficient. -/
def gc : ℝ := 44715 / 1000000

/-- The hyperbolic tangent inside the activation. -/
def gt (x : ℝ) : ℝ := Real.tanh (kk * (x + gc * x * (x * x)))

/-- The factor of the activation. -/
def gh (x : ℝ) : ℝ := 1 / 2 * (1 + gt x)

/-- The activation. -/
def gelu (x : ℝ) : ℝ := x * gh x

/-- Its derivative. -/
def gd (x : ℝ) : ℝ := gh x + 1 / 2 * x * (1 - gt x * gt x) * kk * (1 + 3 * gc * (x * x))

/-- The derivative as the reference's rules assemble it. -/
theorem gd_vjp (x d : ℝ) :
    d * gh x + kk * (1 / 2 * (x * d) * ((1 + gt x) * (1 - gt x)))
      + gc * (kk * (1 / 2 * (x * d) * ((1 + gt x) * (1 - gt x)))) * (3 * (x * x)) = d * gd x := by
  unfold gd; ring

/-- The logistic gate. -/
def logi (x : ℝ) : ℝ := 1 / (1 + Real.exp (-x))

theorem one_add_exp_ne (x : ℝ) : 1 + Real.exp (-x) ≠ 0 := (add_pos one_pos (Real.exp_pos _)).ne'

/-! The layer norm of a row of 1024 and its gradient. -/

/-- The mean of a row. -/
def mean (x : Fin 1024 → ℝ) : ℝ := (∑ k, x k) / 1024

/-- The centred row. -/
def cent (x : Fin 1024 → ℝ) (d : Fin 1024) : ℝ := x d - mean x

/-- The variance plus the constant under the root. -/
def lvar (x : Fin 1024 → ℝ) : ℝ := (∑ k, cent x k * cent x k) / 1024 + eps

theorem lvar_pos (x : Fin 1024 → ℝ) : 0 < lvar x :=
  add_pos_of_nonneg_of_pos (div_nonneg (Finset.sum_nonneg fun k _ => mul_self_nonneg _) (by norm_num)) eps_pos

/-- The reciprocal root. -/
def lrs (x : Fin 1024 → ℝ) : ℝ := (√(lvar x))⁻¹

/-- The normalised row. -/
def nrm (x : Fin 1024 → ℝ) (d : Fin 1024) : ℝ := cent x d * lrs x

/-- The gradient of `nrm` at `x`, applied to the cotangent `e`. -/
def lnBwd (x e : Fin 1024 → ℝ) (d : Fin 1024) : ℝ :=
  lrs x * (e d - mean e - nrm x d * mean (fun k => e k * nrm x k))

theorem sum_cent (x : Fin 1024 → ℝ) : ∑ k, cent x k = 0 := by
  unfold cent mean
  rw [Finset.sum_sub_distrib, Finset.sum_const, Finset.card_univ, Fintype.card_fin, nsmul_eq_mul]
  push_cast; ring

/-- The reciprocal root divided by its argument is its cube. -/
theorem lrs_div (x : Fin 1024 → ℝ) : lrs x / lvar x = lrs x * lrs x * lrs x := by
  have hs : √(lvar x) * √(lvar x) = lvar x := Real.mul_self_sqrt (lvar_pos x).le
  unfold lrs
  rw [div_eq_mul_inv, mul_assoc (√(lvar x))⁻¹, ← mul_inv (√(lvar x)) (√(lvar x)), hs]

/-- What the variance's derivative contributes per centred entry, as the reference assembles it. -/
def vpart (x e : Fin 1024 → ℝ) : ℝ := (∑ k, cent x k * e k) * (-1 / 2 * (lrs x / lvar x)) / 1024

/-- The gradient as the reference's derivative rules assemble it. -/
theorem lnBwd_vjp (x e : Fin 1024 → ℝ) (d : Fin 1024) :
    e d * lrs x + vpart x e * (2 * cent x d)
      + ((∑ k, -(e k * lrs x)) + ∑ k, -(vpart x e * (2 * cent x k))) / 1024 = lnBwd x e d := by
  have e1 : (∑ k, -(e k * lrs x)) = -((∑ k, e k) * lrs x) := by
    rw [Finset.sum_mul, ← Finset.sum_neg_distrib]
  have e2 : (∑ k, -(vpart x e * (2 * cent x k))) = 0 := by
    have : (∑ k, -(vpart x e * (2 * cent x k))) = -(vpart x e * 2) * ∑ k, cent x k := by
      rw [Finset.mul_sum]; exact Finset.sum_congr rfl fun k _ => by ring
    rw [this, sum_cent, mul_zero]
  have e3 : (∑ k, e k * nrm x k) = (∑ k, cent x k * e k) * lrs x := by
    rw [Finset.sum_mul]; exact Finset.sum_congr rfl fun k _ => by unfold nrm; ring
  rw [e1, e2]
  unfold lnBwd vpart mean
  rw [e3, lrs_div]
  unfold nrm
  ring

/-! Positions, chunks and groups. -/

/-- A position inside its chunk of 128. -/
def pos (s : Fin 2048) : Fin 128 := ⟨s.val % 128, Nat.mod_lt _ (by norm_num)⟩

/-- Position `p` of the chunk that holds `s`. -/
def mate (s : Fin 2048) (p : Fin 128) : Fin 2048 := ⟨s.val / 128 * 128 + p.val, by have := s.isLt; have := p.isLt; omega⟩

/-- Position `p` of chunk `n`. -/
def at' (n : Fin 16) (p : Fin 128) : Fin 2048 := ⟨n.val * 128 + p.val, by have := n.isLt; have := p.isLt; omega⟩

/-- The group of a channel. -/
def grp (d : Fin 1024) : Fin 8 := ⟨d.val / 128, by have := d.isLt; omega⟩

/-- Channel `c` of group `g`. -/
def chan (g : Fin 8) (c : Fin 128) : Fin 1024 := ⟨g.val * 128 + c.val, by have := g.isLt; have := c.isLt; omega⟩

theorem mate_at (n : Fin 16) (p q : Fin 128) : mate (at' n p) q = at' n q :=
  Fin.ext (by have := p.isLt; simp only [mate, at']; omega)

theorem pos_at (n : Fin 16) (p : Fin 128) : pos (at' n p) = p := Fin.ext (by have := p.isLt; simp only [pos, at']; omega)

theorem grp_chan (g : Fin 8) (c : Fin 128) : grp (chan g c) = g := Fin.ext (by have := c.isLt; simp only [grp, chan]; omega)

/-! The layer. -/

variable (U V A E Y D : Fin 2 → Fin 2048 → Fin 1024 → ℝ) (g b : Fin 1024 → ℝ) (W : Fin 8 → Fin 128 → Fin 128 → ℝ)
  (c : Fin 8 → Fin 128 → ℝ)

/-- The row under the norm. -/
def gv (i : Fin 2) (s : Fin 2048) (d : Fin 1024) : ℝ := gelu (V i s d)

/-- The normalised, scaled and shifted row. -/
def vn (i : Fin 2) (s : Fin 2048) (d : Fin 1024) : ℝ := nrm (gv V i s) d * g d + b d

/-- The causal part of the spatial weights. -/
def wm (q : Fin 8) (t p : Fin 128) : ℝ := if p.val ≤ t.val then W q t p else 0

/-- The mixed rows of each chunk. -/
def mixed (i : Fin 2) (s : Fin 2048) (d : Fin 1024) : ℝ :=
  (∑ p, wm W (grp d) (pos s) p * vn V g b i (mate s p) d) + c (grp d) (pos s)

/-- The gated cotangent of the mixer's output. -/
def dya (i : Fin 2) (s : Fin 2048) (d : Fin 1024) : ℝ := D i s d * logi (A i s d)

/-- The cotangent of the mixed rows. -/
def dmx (i : Fin 2) (s : Fin 2048) (d : Fin 1024) : ℝ := dya A D i s d * gelu (U i s d)

/-- The cotangent of the rows before mixing. -/
def dvn (i : Fin 2) (s : Fin 2048) (d : Fin 1024) : ℝ :=
  ∑ p, wm W (grp d) p (pos s) * dmx U A D i (mate s p) d

/-- The four gradients of the projected rows. -/
def du (i : Fin 2) (s : Fin 2048) (d : Fin 1024) : ℝ := dya A D i s d * mixed V g b W c i s d * gd (U i s d)
def dv (i : Fin 2) (s : Fin 2048) (d : Fin 1024) : ℝ :=
  lnBwd (gv V i s) (fun k => dvn U A D W i s k * g k) d * gd (V i s d)
def da (i : Fin 2) (s : Fin 2048) (d : Fin 1024) : ℝ :=
  D i s d * gelu (U i s d) * mixed V g b W c i s d * logi (A i s d) * (1 - logi (A i s d))
def de (i : Fin 2) (s : Fin 2048) (d : Fin 1024) : ℝ := D i s d * Y i s d * logi (E i s d) * (1 - logi (E i s d))

/-- The four side by side. -/
def dz (i : Fin 2) (s : Fin 2048) (k : Fin 4096) : ℝ :=
  if h : k.val < 1024 then du U V A D g b W c i s ⟨k.val, h⟩
  else if h : k.val < 2048 then dv U V A D g W i s ⟨k.val - 1024, by omega⟩
  else if h : k.val < 3072 then da U V A D g b W c i s ⟨k.val - 2048, by omega⟩
  else de E Y D i s ⟨k.val - 3072, by omega⟩

/-- The gradient of the attention branch. -/
def dy (i : Fin 2) (s : Fin 2048) (d : Fin 1024) : ℝ := D i s d * logi (E i s d)

/-- The gradients of the norm's scale and shift. -/
def dg (d : Fin 1024) : ℝ := ∑ i, ∑ s, dvn U A D W i s d * nrm (gv V i s) d
def db (d : Fin 1024) : ℝ := ∑ i, ∑ s, dvn U A D W i s d

/-- The gradients of the spatial weights and shift. -/
def dw (q : Fin 8) (t p : Fin 128) : ℝ :=
  if p.val ≤ t.val then ∑ i, ∑ n, ∑ k, dmx U A D i (at' n t) (chan q k) * vn V g b i (at' n p) (chan q k) else 0
def dc (q : Fin 8) (t : Fin 128) : ℝ := ∑ i, ∑ n, ∑ k, dmx U A D i (at' n t) (chan q k)

end Cert.MixSpec

end
-- ==== Proof.Mixer.Words.lean ====
/- The float words of the two activations and gates, the gates over the extended reals, and two host sums. -/
module

public import proofs.«01_k».proof.Proof.Common.Reals
public import proofs.«01_k».proof.Proof.Mixer.Spec

@[expose] public section

set_option maxRecDepth 16384

noncomputable section

namespace Cert.MixSpec

open Idealize.ShloMosaic Cert.Reals

/-- The word of the square root of 2/π. -/
theorem w_kk : Ideal.ofBits .f32 0x3F4C422A#32 = ((kk : ℝ) : EReal) := by
  simp [Ideal.ofBits, Ideal.ieee, -EReal.coe_mul, kk]; norm_num

/-- The word of 44715. -/
theorem w_num : Ideal.ofBits .f32 0x472EAB00#32 = ((44715 : ℝ) : EReal) := by
  simp [Ideal.ofBits, Ideal.ieee, -EReal.coe_mul]; norm_num

/-- The word of a million. -/
theorem w_den : Ideal.ofBits .f32 0x49742400#32 = ((1000000 : ℝ) : EReal) := by
  simp [Ideal.ofBits, Ideal.ieee, -EReal.coe_mul]; norm_num

/-- The word of 3. -/
theorem w_three : Ideal.ofBits .f32 0x40400000#32 = ((3 : ℝ) : EReal) := by
  simp [Ideal.ofBits, Ideal.ieee, -EReal.coe_mul]; norm_num

/-- The word of 1. -/
theorem w_one : Ideal.ofBits .f32 0x3F800000#32 = ((1 : ℝ) : EReal) := by
  simp [Ideal.ofBits, Ideal.ieee, -EReal.coe_mul]; norm_num

/-- The logistic gate of a real. -/
theorem logi_real (x : ℝ) : Ideal.div (((1 : ℝ) : EReal)) (((1 : ℝ) : EReal) + Ideal.exp (-(x : EReal))) = ((logi x : ℝ) : EReal) := by
  rw [← EReal.coe_neg, Ideal.exp_coe, ← EReal.coe_add, div_real _ (one_add_exp_ne x)]; rfl

/-- A host sum over the first, second and last axes of a rank-5 array. -/
theorem hostReduceAdd_014 {n0 n1 n2 n3 n4 : ℕ} (h : (⟨5, ![n0, n1, n2, n3, n4]⟩ : Shape).ReducesTo [0, 1, 4] ⟨2, ![n2, n3]⟩)
    (v : (⟨5, ![n0, n1, n2, n3, n4]⟩ : Shape).Idx → EReal) (init : EReal) (j : (⟨2, ![n2, n3]⟩ : Shape).Idx) :
    Ideal.hostReduceAdd h v init j = init + ∑ a : Fin n0, ∑ b : Fin n1, ∑ e : Fin n4, v (ix5 a b (j 0) (j 1) e) := by
  unfold Ideal.hostReduceAdd
  rw [Finset.sum_filter_eq_sum_of_fiber _ (fun k : Fin n0 × Fin n1 × Fin n4 =>
      (ix5 k.1 k.2.1 (j 0) (j 1) k.2.2 : (⟨5, ![n0, n1, n2, n3, n4]⟩ : Shape).Idx))
    (fun _ _ e => Prod.ext (congrFun e 0) (Prod.ext (congrFun e 1) (congrFun e 4))) (fun i => ?_) v,
    Fintype.sum_prod_type]
  · exact congrArg _ (Finset.sum_congr rfl fun a _ => Fintype.sum_prod_type _)
  constructor
  · intro e
    refine ⟨(i 0, i 1, i 4), ?_⟩
    funext a; apply Fin.ext
    match a with
    | ⟨0, _⟩ => rfl
    | ⟨1, _⟩ => rfl
    | ⟨2, _⟩ => exact (congrArg Fin.val (congrFun e 0)).symm
    | ⟨3, _⟩ => exact (congrArg Fin.val (congrFun e 1)).symm
    | ⟨4, _⟩ => rfl
  · rintro ⟨k, rfl⟩
    funext b; apply Fin.ext
    match b with
    | ⟨0, _⟩ => rfl
    | ⟨1, _⟩ => rfl

end Cert.MixSpec

end
-- ==== Proof.Mixer.Ref.lean ====
/- The reference's stages over the reals: the activations, the norm, the mixing and the gates. -/
module

public import proofs.«01_k».proof.Proof.Gen.MixerRefIdeal.Read
public import proofs.«01_k».proof.Proof.Mixer.Words
public import Idealize.ShloMosaic.Lib.WordCmp

@[expose] public section

set_option maxRecDepth 16384

noncomputable section

namespace Cert.MixerRefIdeal.Reads

open Idealize.ShloMosaic Idealize.ShloMosaic.TcCoe Idealize.SL.Sem
open Cert.MixerRefIdeal Cert.MixerRefIdeal.Read Cert.Reals Cert.MixSpec

variable (x0 x1 x2 x3 x4 : FVec Ideal S2x2048x1024 .f32) (x5 x6 : FVec Ideal S1x1024 .f32)
  (x7 : FVec Ideal S1x8x128x128 .f32) (x8 : FVec Ideal S1x8x128 .f32) (x9 : FVec Ideal S2x2048x1024 .f32)
  (U V A E Y D : Fin 2 → Fin 2048 → Fin 1024 → ℝ) (g b : Fin 1024 → ℝ) (W : Fin 8 → Fin 128 → Fin 128 → ℝ)
  (c : Fin 8 → Fin 128 → ℝ)
  (h0 : ∀ i s d, x0 (ix3 i s d) = (U i s d : EReal)) (h1 : ∀ i s d, x1 (ix3 i s d) = (V i s d : EReal))
  (h2 : ∀ i s d, x2 (ix3 i s d) = (A i s d : EReal)) (h3 : ∀ i s d, x3 (ix3 i s d) = (E i s d : EReal))
  (h4 : ∀ i s d, x4 (ix3 i s d) = (Y i s d : EReal))
  (h5 : ∀ d, x5 (ix2 0 d) = (g d : EReal)) (h6 : ∀ d, x6 (ix2 0 d) = (b d : EReal))
  (h7 : ∀ q t p, x7 (ix4 0 q t p) = (W q t p : EReal)) (h8 : ∀ q t, x8 (ix3 0 q t) = (c q t : EReal))
  (h9 : ∀ i s d, x9 (ix3 i s d) = (D i s d : EReal))

theorem v4_real (j) : val_main_v4 (F := Ideal) j = ((gc : ℝ) : EReal) := by
  pointwise [val_main_v4, val_main_cst, val_main_cst_0]
  rw [w_num, w_den, div_real _ (by norm_num)]; rfl

include h0 in
theorem v16_real (i : Fin 2) (s : Fin 2048) (d : Fin 1024) :
    val_main_v16 (F := Ideal) x0 (ix3 i s d) = ((gt (U i s d) : ℝ) : EReal) := by
  have e : id (val_main_v4 (F := Ideal)) ix0 = ((gc : ℝ) : EReal) := v4_real _
  pointwise [val_main_v16, val_main_v15, val_main_v14, val_main_cst_2, val_main_v13, val_main_v12, val_main_v11, val_main_v10,
    val_main_v6, val_main_v5]
  rw [e]
  simp only [h0, w_kk, ← EReal.coe_mul, ← EReal.coe_add, Ideal.tanh_coe]
  refine congrArg _ ?_
  unfold gt; congr 1; ring

include h0 in
theorem v25_real (i : Fin 2) (s : Fin 2048) (d : Fin 1024) :
    val_main_v25 (F := Ideal) x0 (ix3 i s d) = ((gh (U i s d) : ℝ) : EReal) := by
  pointwise [val_main_v25, val_main_v24, val_main_cst_6, val_main_v23, val_main_v22, val_main_cst_5]
  simp only [v16_real x0 U h0, w_half, coe_one', ← EReal.coe_mul, ← EReal.coe_add]; rfl

include h0 in
theorem v26_real (i : Fin 2) (s : Fin 2048) (d : Fin 1024) :
    val_main_v26 (F := Ideal) x0 (ix3 i s d) = ((gelu (U i s d) : ℝ) : EReal) := by
  pointwise [val_main_v26]
  rw [v25_real x0 U h0, h0, ← EReal.coe_mul]; rfl

/-- The stages of the second activation are those of the first, over the other array. -/
theorem v39_eq : val_main_v39 (F := Ideal) x1 = val_main_v16 x1 := rfl
theorem v48_eq : val_main_v48 (F := Ideal) x1 = val_main_v25 x1 := rfl
theorem v49_eq : val_main_v49 (F := Ideal) x1 = val_main_v26 x1 := rfl

include h1 in
theorem v49_real (i : Fin 2) (s : Fin 2048) (d : Fin 1024) :
    val_main_v49 (F := Ideal) x1 (ix3 i s d) = ((gv V i s d : ℝ) : EReal) := by
  rw [v49_eq, v26_real x1 V h1]; rfl

include h1 in
theorem v53_real (i : Fin 2) (s : Fin 2048) (u : Fin 1) :
    val_main_v53 (F := Ideal) x1 (ix3 i s u) = ((mean (gv V i s) : ℝ) : EReal) := by
  pointwise [val_main_v53, val_main_v52, val_main_cst_16, val_main_v51, val_main_v50, val_main_cst_15]
  simp only [v49_real x1 V h1, coe_sum, w_1024, w_zero, zero_add, ← EReal.coe_add,
    div_real _ (show (1024 : ℝ) ≠ 0 by norm_num), mean]

include h1 in
theorem v55_real (i : Fin 2) (s : Fin 2048) (d : Fin 1024) :
    val_main_v55 (F := Ideal) x1 (ix3 i s d) = ((cent (gv V i s) d : ℝ) : EReal) := by
  pointwise [val_main_v55, val_main_v54]
  rw [v53_real x1 V h1, v49_real x1 V h1, ← EReal.coe_sub]; rfl

theorem v64_eq : val_main_v64 (F := Ideal) x1 = val_main_v55 x1 := rfl

include h1 in
theorem v66_real (i : Fin 2) (s : Fin 2048) (u : Fin 1) :
    val_main_v66 (F := Ideal) x1 (ix3 i s u) = ((lvar (gv V i s) : ℝ) : EReal) := by
  pointwise [val_main_v66, val_main_v65, val_main_cst_20, val_main_v62, val_main_v61, val_main_cst_19, val_main_v60, val_main_v59,
    val_main_cst_18, val_main_v56]
  simp only [v55_real x1 V h1, coe_sum, w_1024, w_zero, w_eps, zero_add, ← EReal.coe_add, ← EReal.coe_mul,
    div_real _ (show (1024 : ℝ) ≠ 0 by norm_num)]
  rfl

include h1 in
theorem v67_real (i : Fin 2) (s : Fin 2048) (u : Fin 1) :
    val_main_v67 (F := Ideal) x1 (ix3 i s u) = ((lrs (gv V i s) : ℝ) : EReal) := by
  pointwise [val_main_v67]
  rw [v66_real x1 V h1, rsqrt_real (lvar_pos _)]; rfl

include h1 in
theorem v72_real (i : Fin 2) (s : Fin 2048) (d : Fin 1024) :
    val_main_v72 (F := Ideal) x1 (ix3 i s d) = ((nrm (gv V i s) d : ℝ) : EReal) := by
  pointwise [val_main_v72, val_main_v71]
  rw [v67_real x1 V h1, v64_eq, v55_real x1 V h1, ← EReal.coe_mul]; rfl

include h1 h5 h6 in
theorem v78_real (i : Fin 2) (s : Fin 2048) (d : Fin 1024) :
    val_main_v78 (F := Ideal) x1 x5 x6 (ix3 i s d) = ((vn V g b i s d : ℝ) : EReal) := by
  pointwise [val_main_v78, val_main_v77, val_main_v76, val_main_v1, val_main_v75, val_main_v74, val_main_v73, val_main_v0]
  rw [v72_real x1 V h1, h5, h6, ← EReal.coe_mul, ← EReal.coe_add]; rfl

/-- A rank-5 view's index, as a position and a channel. -/
theorem cast_at {x : FVec Ideal S2x2048x1024 .f32} {y : FVec Ideal S2x16x128x8x128 .f32}
    (e : y = shapeCast _ x Gen.shapeCasts_S2x2048x1024_S2x16x128x8x128) (i : Fin 2) (n : Fin 16) (p : Fin 128) (q : Fin 8) (k : Fin 128) :
    y (ix5 i n p q k) = x (ix3 i (at' n p) (chan q k)) := by
  subst e
  pointwise
  refine congrArg x ?_
  have := i.isLt; have := n.isLt; have := p.isLt; have := q.isLt; have := k.isLt
  idx_ext <;> simp only [at', chan] <;> omega

/-- And back. -/
theorem cast_back {x : FVec Ideal S2x2048x1024 .f32} {y : FVec Ideal S2x16x128x8x128 .f32}
    (e : x = shapeCast _ y Gen.shapeCasts_S2x16x128x8x128_S2x2048x1024) (i : Fin 2) (s : Fin 2048) (d : Fin 1024) :
    x (ix3 i s d) = y (ix5 i ⟨s.val / 128, by omega⟩ (pos s) (grp d) ⟨d.val % 128, by omega⟩) := by
  subst e
  pointwise
  refine congrArg y ?_
  have := i.isLt; have := s.isLt; have := d.isLt
  idx_ext <;> simp only [pos, grp] <;> omega

theorem chan_grp (d : Fin 1024) (h : d.val % 128 < 128) : chan (grp d) ⟨d.val % 128, h⟩ = d :=
  Fin.ext (by simp only [chan, grp]; omega)

theorem at_mate (s : Fin 2048) (h : s.val / 128 < 16) (p : Fin 128) : at' ⟨s.val / 128, h⟩ p = mate s p := rfl

/-- The causal mask at a position. -/
theorem mask_at (q : Fin 8) (t p : Fin 128) :
    val_main_v83_1 (F := Ideal) (ix3 q t p) = BitVec.ofBool (decide (p.val ≤ t.val)) := by
  pointwise [val_main_v83_1, val_main_v82, val_main_v81, val_main_v80, val_main_c, val_main_call0_v5, val_main_call0_c_0,
    val_main_call0_v4, val_main_call0_v3, val_main_call0_v2, val_main_call0_v1, val_main_call0_c, val_main_call0_v0]
  rw [show IntOp.addi (BitVec.ofNat 32 t.val) 0#32 = BitVec.ofNat 32 t.val from BitVec.add_zero _]
  have e : IntOp.cmpi .sge (BitVec.ofNat 32 t.val) (BitVec.ofNat 32 p.val) = BitVec.ofBool (decide (p.val ≤ t.val)) := by word_cmp
  rw [e]
  by_cases h : p.val ≤ t.val <;> simp [Scalar.select, h]

include h7 in
theorem v83_real (q : Fin 8) (t p : Fin 128) :
    val_main_v83_0 (F := Ideal) x7 (ix3 q t p) = ((wm W q t p : ℝ) : EReal) := by
  pointwise [val_main_v83_0, val_main_v2, val_main_call1_v2, val_main_call1_v0, val_main_cst_22]
  rw [mask_at, h7]
  rw [show id (constant (F := Ideal) S_ .f32 0x00000000#32) ix0 = ((0 : ℝ) : EReal) from w_zero]
  by_cases h : p.val ≤ t.val <;> simp [Scalar.select, h, wm]

include h1 h5 h6 h7 h8 in
theorem v90_real (i : Fin 2) (s : Fin 2048) (d : Fin 1024) :
    val_main_v90 (F := Ideal) x1 x5 x6 x7 x8 (ix3 i s d) = ((mixed V g b W c i s d : ℝ) : EReal) := by
  refine (cast_back (x := val_main_v90 (F := Ideal) x1 x5 x6 x7 x8) (y := val_main_v89 (F := Ideal) x1 x5 x6 x7 x8) rfl i s d).trans ?_
  pointwise [val_main_v89, val_main_v88, val_main_v87, val_main_v86, val_main_v3, val_main_v85, val_main_v84]
  simp only [v83_real x7 W h7, h8, cast_at (x := val_main_v78 (F := Ideal) x1 x5 x6) (y := val_main_v79 (F := Ideal) x1 x5 x6) rfl,
    v78_real x1 x5 x6 V g b h1 h5 h6, chan_grp, at_mate, ← EReal.coe_mul, coe_sum, ← EReal.coe_add]
  unfold mixed
  exact congrArg _ (congrArg (· + _) (Finset.sum_congr rfl fun p _ => mul_comm _ _))

include h2 in
theorem v97_real (i : Fin 2) (s : Fin 2048) (d : Fin 1024) :
    val_main_v97 (F := Ideal) x2 (ix3 i s d) = ((logi (A i s d) : ℝ) : EReal) := by
  pointwise [val_main_v97, val_main_v96, val_main_cst_24, val_main_v95, val_main_v94, val_main_cst_23, val_main_v93, val_main_v92]
  rw [h2, coe_one']
  exact logi_real _

theorem v107_eq : val_main_v107 (F := Ideal) x3 = val_main_v97 x3 := rfl
theorem v113_at (j) : val_main_v113 (F := Ideal) x9 j = x9 j := by
  idx_vars j
  pointwise [val_main_v113]
theorem v114_eq : val_main_v114 (F := Ideal) x9 = val_main_v113 x9 := rfl

include h3 h9 in
theorem v115_real (i : Fin 2) (s : Fin 2048) (d : Fin 1024) :
    val_main_v115 (F := Ideal) x3 x9 (ix3 i s d) = ((dy E D i s d : ℝ) : EReal) := by
  pointwise [val_main_v115]
  rw [v107_eq, v114_eq, v113_at, v97_real x3 E h3, h9, ← EReal.coe_mul, mul_comm]; rfl

include h3 h4 h9 in
theorem v117_real (i : Fin 2) (s : Fin 2048) (d : Fin 1024) :
    val_main_v117 (F := Ideal) x3 x4 x9 (ix3 i s d) = ((de E Y D i s d : ℝ) : EReal) := by
  pointwise [val_main_v117, val_main_v116, val_main_v110, val_main_v109, val_main_v108, val_main_cst_28]
  rw [v107_eq, v114_eq, v113_at, v97_real x3 E h3, h9, h4, coe_one', ← EReal.coe_mul, ← EReal.coe_sub, ← EReal.coe_mul, ← EReal.coe_mul]
  exact congrArg _ (mul_assoc _ _ _).symm

include h2 h9 in
theorem v118_real (i : Fin 2) (s : Fin 2048) (d : Fin 1024) :
    val_main_v118 (F := Ideal) x2 x9 (ix3 i s d) = ((dya A D i s d : ℝ) : EReal) := by
  pointwise [val_main_v118]
  rw [v113_at, v97_real x2 A h2, h9, ← EReal.coe_mul, mul_comm]; rfl

include h0 h1 h2 h5 h6 h7 h8 h9 in
theorem v120_real (i : Fin 2) (s : Fin 2048) (d : Fin 1024) :
    val_main_v120 (F := Ideal) x0 x1 x2 x5 x6 x7 x8 x9 (ix3 i s d) = ((da U V A D g b W c i s d : ℝ) : EReal) := by
  pointwise [val_main_v120, val_main_v119, val_main_v100, val_main_v99, val_main_v98, val_main_cst_25, val_main_v91]
  rw [v113_at, v97_real x2 A h2, v26_real x0 U h0, v90_real x1 x5 x6 x7 x8 V g b W c h1 h5 h6 h7 h8, h9, coe_one']
  simp only [← EReal.coe_mul, ← EReal.coe_sub]
  refine congrArg _ ?_
  unfold da; ring

include h0 h2 h9 in
theorem v121_real (i : Fin 2) (s : Fin 2048) (d : Fin 1024) :
    val_main_v121 (F := Ideal) x0 x2 x9 (ix3 i s d) = ((dmx U A D i s d : ℝ) : EReal) := by
  pointwise [val_main_v121]
  rw [v118_real x2 x9 A D h2 h9, v26_real x0 U h0, ← EReal.coe_mul, mul_comm]; rfl

include h0 h2 h9 in
theorem v123_real (i : Fin 2) (n : Fin 16) (p : Fin 128) (q : Fin 8) (k : Fin 128) :
    val_main_v123 (F := Ideal) x0 x2 x9 (ix5 i n p q k) = ((dmx U A D i (at' n p) (chan q k) : ℝ) : EReal) := by
  exact (cast_at (x := val_main_v121 (F := Ideal) x0 x2 x9) (y := val_main_v123 (F := Ideal) x0 x2 x9) rfl i n p q k).trans
    (v121_real x0 x2 x9 U A D h0 h2 h9 _ _ _)

include h0 h2 h9 in
theorem v198_real (q : Fin 8) (t : Fin 128) (u : Fin 1) :
    val_main_v198 (F := Ideal) x0 x2 x9 (ix3 q t u) = ((dc U A D q t : ℝ) : EReal) := by
  pointwise [val_main_v198, val_main_v127, val_main_v126, val_main_v125, val_main_v124, val_main_cst_29, val_main_cst_30,
    hostReduceAdd_014]
  simp only [v123_real x0 x2 x9 U A D h0 h2 h9, coe_sum, w_zero, zero_add, ← EReal.coe_add,
    Finset.univ_unique, Finset.sum_singleton]
  rfl

/-- The contraction index of the weights' gradient: sequence, chunk, channel. -/
def ctr : Fin 2 × Fin 16 × Fin 128 ≃ dot_S8x2x16x128x128_S2x16x128x8x128_S8x128x128_123_014_4_2_0_3.contr.Idx where
  toFun k := fun p => match p with
    | ⟨0, _⟩ => k.1
    | ⟨1, _⟩ => k.2.1
    | ⟨2, _⟩ => k.2.2
  invFun kk := (kk ⟨0, by decide⟩, kk ⟨1, by decide⟩, kk ⟨2, by decide⟩)
  left_inv _ := rfl
  right_inv kk := by
    funext p
    match p with
    | ⟨0, _⟩ => rfl
    | ⟨1, _⟩ => rfl
    | ⟨2, _⟩ => rfl

/-- The contraction read at a place. -/
theorem dot_at (x : S8x2x16x128x128.Idx → EReal) (y : S2x16x128x8x128.Idx → EReal) (q : Fin 8) (t p : Fin 128) :
    Ideal.matmul dot_S8x2x16x128x128_S2x16x128x8x128_S8x128x128_123_014_4_2_0_3 x y (fun _ => 0) (ix3 q t p)
      = ∑ i : Fin 2, ∑ n : Fin 16, ∑ k : Fin 128, x (ix5 q i n k t) * y (ix5 i n p q k) := by
  unfold Ideal.matmul
  rw [zero_add, ← Fintype.sum_equiv ctr _ _ (fun _ => rfl), Fintype.sum_prod_type]
  refine Finset.sum_congr rfl fun i _ => (Fintype.sum_prod_type _).trans ?_
  refine Finset.sum_congr rfl fun n _ => Finset.sum_congr rfl fun k _ => ?_
  refine congrArg₂ (fun a b => x a * y b) ?_ ?_
  · funext a; apply Fin.ext
    match a with
    | ⟨0, _⟩ => rfl
    | ⟨1, _⟩ => rfl
    | ⟨2, _⟩ => rfl
    | ⟨3, _⟩ => rfl
    | ⟨4, _⟩ => rfl
  · funext a; apply Fin.ext
    match a with
    | ⟨0, _⟩ => rfl
    | ⟨1, _⟩ => rfl
    | ⟨2, _⟩ => rfl
    | ⟨3, _⟩ => rfl
    | ⟨4, _⟩ => rfl

include h0 h1 h2 h5 h6 h9 in
theorem v132_real (q : Fin 8) (t p : Fin 128) :
    val_main_v132 (F := Ideal) x0 x1 x2 x5 x6 x9 (ix3 q t p) = ((dw U V A D g b q t p : ℝ) : EReal) := by
  pointwise [val_main_v132, val_main_call2_v0, val_main_call2_cst, val_main_v129, val_main_v128]
  rw [mask_at, dot_at]
  pointwise
  simp only [v123_real x0 x2 x9 U A D h0 h2 h9,
    cast_at (x := val_main_v78 (F := Ideal) x1 x5 x6) (y := val_main_v79 (F := Ideal) x1 x5 x6) rfl,
    v78_real x1 x5 x6 V g b h1 h5 h6, ← EReal.coe_mul, coe_sum, w_zero]
  by_cases h : p.val ≤ t.val <;> simp [Scalar.select, h, dw]

include h0 h2 h7 h9 in
theorem v133_real (i : Fin 2) (s : Fin 2048) (d : Fin 1024) :
    val_main_v133 (F := Ideal) x0 x2 x7 x9 (ix3 i s d) = ((dvn U A D W i s d : ℝ) : EReal) := by
  refine (cast_back (x := val_main_v133 (F := Ideal) x0 x2 x7 x9) (y := val_main_v131 (F := Ideal) x0 x2 x7 x9) rfl i s d).trans ?_
  pointwise [val_main_v131, val_main_v130, val_main_v128]
  simp only [v83_real x7 W h7, v123_real x0 x2 x9 U A D h0 h2 h9, chan_grp, at_mate, ← EReal.coe_mul, coe_sum]
  unfold dvn
  exact congrArg _ (Finset.sum_congr rfl fun p _ => mul_comm _ _)

include h0 h1 h2 h7 h9 in
theorem v196_real (d : Fin 1024) :
    val_main_v196 (F := Ideal) x0 x1 x2 x7 x9 (ix2 0 d) = ((dg U V A D W d : ℝ) : EReal) := by
  pointwise [val_main_v196, val_main_v142, val_main_cst_34, val_main_v139, val_main_v138, val_main_cst_33, val_main_v137, hostReduceAdd_lead2]
  simp only [v133_real x0 x2 x7 x9 U A D W h0 h2 h7 h9, v72_real x1 V h1, ← EReal.coe_mul, coe_sum, w_zero,
    zero_add, ← EReal.coe_add, Finset.univ_unique, Finset.sum_singleton, dg]
  exact congrArg _ (Finset.sum_congr rfl fun b _ => Finset.sum_congr rfl fun s _ => mul_comm _ _)

include h0 h2 h7 h9 in
theorem v197_real (d : Fin 1024) :
    val_main_v197 (F := Ideal) x0 x2 x7 x9 (ix2 0 d) = ((db U A D W d : ℝ) : EReal) := by
  pointwise [val_main_v197, val_main_v136, val_main_cst_32, val_main_v135, val_main_v134, val_main_cst_31, hostReduceAdd_lead2]
  simp only [v133_real x0 x2 x7 x9 U A D W h0 h2 h7 h9, coe_sum, w_zero,
    zero_add, ← EReal.coe_add, Finset.univ_unique, Finset.sum_singleton, db]

include h0 h2 h5 h7 h9 in
theorem v141_real (i : Fin 2) (s : Fin 2048) (d : Fin 1024) :
    val_main_v141 (F := Ideal) x0 x2 x5 x7 x9 (ix3 i s d) = ((dvn U A D W i s d * g d : ℝ) : EReal) := by
  pointwise [val_main_v141, val_main_v140, val_main_v73, val_main_v0]
  rw [v133_real x0 x2 x7 x9 U A D W h0 h2 h7 h9, h5, ← EReal.coe_mul]

/-- The row's cotangent under the norm. -/
abbrev co (i : Fin 2) (s : Fin 2048) : Fin 1024 → ℝ := fun k => dvn U A D W i s k * g k

include h0 h1 h2 h5 h7 h9 in
theorem v153_real (i : Fin 2) (s : Fin 2048) (u : Fin 1) :
    val_main_v153 (F := Ideal) x0 x1 x2 x5 x7 x9 (ix3 i s u) = ((vpart (gv V i s) (co U A D g W i s) : ℝ) : EReal) := by
  pointwise [val_main_v153, val_main_v152, val_main_cst_37, val_main_v148, val_main_v145, val_main_v144, val_main_cst_35, val_main_v143,
    val_main_v70, val_main_v69, val_main_cst_21, val_main_v68]
  simp only [v141_real x0 x2 x5 x7 x9 U A D g W h0 h2 h5 h7 h9, v64_eq, v55_real x1 V h1, v67_real x1 V h1, v66_real x1 V h1,
    div_real _ (lvar_pos _).ne', ← EReal.coe_mul, coe_sum, w_zero, zero_add, ← EReal.coe_add, w_neghalf, w_1024,
    div_real _ (show (1024 : ℝ) ≠ 0 by norm_num), vpart]

include h0 h1 h2 h5 h7 h9 in
theorem v156_real (i : Fin 2) (s : Fin 2048) (d : Fin 1024) :
    val_main_v156 (F := Ideal) x0 x1 x2 x5 x7 x9 (ix3 i s d)
      = ((vpart (gv V i s) (co U A D g W i s) * (2 * cent (gv V i s) d) : ℝ) : EReal) := by
  pointwise [val_main_v156, val_main_v155, val_main_v154, val_main_cst_38, val_main_v58, val_main_v57, val_main_cst_17]
  simp only [v153_real x0 x1 x2 x5 x7 x9 U V A D g W h0 h1 h2 h5 h7 h9, v55_real x1 V h1, w_two, w_zero, zero_add, ← EReal.coe_mul,
    Finset.univ_unique, Finset.sum_singleton]

include h0 h1 h2 h5 h7 h9 in
theorem v147_real (i : Fin 2) (s : Fin 2048) (d : Fin 1024) :
    val_main_v147 (F := Ideal) x0 x1 x2 x5 x7 x9 (ix3 i s d)
      = ((co U A D g W i s d * lrs (gv V i s) : ℝ) : EReal) := by
  pointwise [val_main_v147, val_main_v146]
  rw [v141_real x0 x2 x5 x7 x9 U A D g W h0 h2 h5 h7 h9, v67_real x1 V h1, ← EReal.coe_mul]

include h0 h1 h2 h5 h7 h9 in
theorem v166_real (i : Fin 2) (s : Fin 2048) (d : Fin 1024) :
    val_main_v166 (F := Ideal) x0 x1 x2 x5 x7 x9 (ix3 i s d)
      = ((lnBwd (gv V i s) (co U A D g W i s) d : ℝ) : EReal) := by
  pointwise [val_main_v166, val_main_v165, val_main_v164, val_main_cst_41, val_main_v163, val_main_v162, val_main_cst_40, val_main_v161,
    val_main_v160, val_main_v159, val_main_v158, val_main_cst_39, val_main_v157, val_main_v151, val_main_v150, val_main_cst_36, val_main_v149]
  simp only [v147_real x0 x1 x2 x5 x7 x9 U V A D g W h0 h1 h2 h5 h7 h9, v156_real x0 x1 x2 x5 x7 x9 U V A D g W h0 h1 h2 h5 h7 h9,
    w_1024, w_zero, zero_add, ← EReal.coe_mul, ← EReal.coe_neg, coe_sum, ← EReal.coe_add,
    div_real _ (show (1024 : ℝ) ≠ 0 by norm_num), Finset.univ_unique, Finset.sum_singleton]
  exact congrArg _ (lnBwd_vjp _ _ _)

include h1 in
theorem act_bwd (e f : FVec Ideal S2x2048x1024 .f32) (d : ℝ) (i : Fin 2) (s : Fin 2048) (k : Fin 1024)
    (he : e (ix3 i s k) = ((V i s k * d : ℝ) : EReal)) (hf : f (ix3 i s k) = ((d * gh (V i s k) : ℝ) : EReal)) :
    addf (addf f (mulf (val_main_v172 (F := Ideal)) (mulf (mulf (val_main_v169 (F := Ideal)) e) (show FVec Ideal S2x2048x1024 .f32 from val_main_v44 (F := Ideal) x1))))
      (mulf (mulf (val_main_v175 (F := Ideal)) (mulf (val_main_v172 (F := Ideal)) (mulf (mulf (val_main_v169 (F := Ideal)) e) (show FVec Ideal S2x2048x1024 .f32 from val_main_v44 (F := Ideal) x1)))) (show FVec Ideal S2x2048x1024 .f32 from val_main_v32 (F := Ideal) x1))
      (ix3 i s k) = ((d * gd (V i s k) : ℝ) : EReal) := by
  have e0 : id (val_main_v27 (F := Ideal)) ix0 = ((gc : ℝ) : EReal) := v4_real _
  pointwise [val_main_v172, val_main_cst_43, val_main_v169, val_main_cst_42, val_main_v44, val_main_v43, val_main_v42, val_main_cst_12,
    val_main_v41, val_main_v40, val_main_cst_11, val_main_v175, val_main_v33, val_main_v32, val_main_v31, val_main_cst_9, val_main_v30]
  rw [e0, he, hf, v39_eq, v16_real x1 V h1, h1, w_kk, w_half, coe_one', w_three]
  simp only [← EReal.coe_mul, ← EReal.coe_add, ← EReal.coe_sub]
  exact congrArg _ (gd_vjp _ _)

include h0 h1 h2 h5 h7 h9 in
theorem v178_real (i : Fin 2) (s : Fin 2048) (d : Fin 1024) :
    val_main_v178 (F := Ideal) x0 x1 x2 x5 x7 x9 (ix3 i s d) = ((dv U V A D g W i s d : ℝ) : EReal) := by
  refine act_bwd x1 V h1 (val_main_v167 (F := Ideal) x0 x1 x2 x5 x7 x9) (val_main_v168 (F := Ideal) x0 x1 x2 x5 x7 x9) _ i s d ?_ ?_
  · pointwise [val_main_v167]
    rw [h1, v166_real x0 x1 x2 x5 x7 x9 U V A D g W h0 h1 h2 h5 h7 h9, ← EReal.coe_mul]
  · pointwise [val_main_v168]
    rw [v48_eq, v25_real x1 V h1, v166_real x0 x1 x2 x5 x7 x9 U V A D g W h0 h1 h2 h5 h7 h9, ← EReal.coe_mul]

include h0 h1 h2 h5 h6 h7 h8 h9 in
theorem v190_real (i : Fin 2) (s : Fin 2048) (d : Fin 1024) :
    val_main_v190 (F := Ideal) x0 x1 x2 x5 x6 x7 x8 x9 (ix3 i s d) = ((du U V A D g b W c i s d : ℝ) : EReal) := by
  have e : val_main_v122 (F := Ideal) x1 x2 x5 x6 x7 x8 x9 (ix3 i s d) = ((dya A D i s d * mixed V g b W c i s d : ℝ) : EReal) := by
    pointwise [val_main_v122]
    rw [v118_real x2 x9 A D h2 h9, v90_real x1 x5 x6 x7 x8 V g b W c h1 h5 h6 h7 h8, ← EReal.coe_mul]
  refine act_bwd x0 U h0 (val_main_v179 (F := Ideal) x0 x1 x2 x5 x6 x7 x8 x9) (val_main_v180 (F := Ideal) x0 x1 x2 x5 x6 x7 x8 x9) _ i s d ?_ ?_
  · pointwise [val_main_v179]
    rw [h0, e, ← EReal.coe_mul]
  · pointwise [val_main_v180]
    rw [v25_real x0 U h0, e, ← EReal.coe_mul]

end Cert.MixerRefIdeal.Reads

end
-- ==== Proof.Mixer.Layout.lean ====
/- The reference's results laid out as the kernel lays them out. -/
module

public import proofs.«01_k».proof.Proof.Mixer.Ref

@[expose] public section

set_option maxRecDepth 16384

noncomputable section

namespace Cert.MixerRefIdeal.Reads

open Idealize.ShloMosaic Idealize.ShloMosaic.TcCoe Idealize.SL.Sem
open Cert.MixerRefIdeal Cert.MixerRefIdeal.Read Cert.Reals Cert.MixSpec Cert.Tokens

variable (x0 x1 x2 x3 x4 : FVec Ideal S2x2048x1024 .f32) (x5 x6 : FVec Ideal S1x1024 .f32)
  (x7 : FVec Ideal S1x8x128x128 .f32) (x8 : FVec Ideal S1x8x128 .f32) (x9 : FVec Ideal S2x2048x1024 .f32)
  (U V A E Y D : Fin 2 → Fin 2048 → Fin 1024 → ℝ) (g b : Fin 1024 → ℝ) (W : Fin 8 → Fin 128 → Fin 128 → ℝ)
  (c : Fin 8 → Fin 128 → ℝ)
  (h0 : ∀ i s d, x0 (ix3 i s d) = (U i s d : EReal)) (h1 : ∀ i s d, x1 (ix3 i s d) = (V i s d : EReal))
  (h2 : ∀ i s d, x2 (ix3 i s d) = (A i s d : EReal)) (h3 : ∀ i s d, x3 (ix3 i s d) = (E i s d : EReal))
  (h4 : ∀ i s d, x4 (ix3 i s d) = (Y i s d : EReal))
  (h5 : ∀ d, x5 (ix2 0 d) = (g d : EReal)) (h6 : ∀ d, x6 (ix2 0 d) = (b d : EReal))
  (h7 : ∀ q t p, x7 (ix4 0 q t p) = (W q t p : EReal)) (h8 : ∀ q t, x8 (ix3 0 q t) = (c q t : EReal))
  (h9 : ∀ i s d, x9 (ix3 i s d) = (D i s d : EReal))

/-- Four arrays side by side along the channels. -/
theorem four (P Q R S : FVec Ideal S2x2048x1024 .f32) (h) (i : Fin 2) (s : Fin 2048) (k : Fin 4096) :
    concatenate S2x2048x4096 2 [⟨S2x2048x1024, P⟩, ⟨S2x2048x1024, Q⟩, ⟨S2x2048x1024, R⟩, ⟨S2x2048x1024, S⟩] h (ix3 i s k)
      = if h : k.val < 1024 then P (ix3 i s ⟨k.val, h⟩)
        else if h : k.val < 2048 then Q (ix3 i s ⟨k.val - 1024, by omega⟩)
        else if h : k.val < 3072 then R (ix3 i s ⟨k.val - 2048, by omega⟩)
        else S (ix3 i s ⟨k.val - 3072, by omega⟩) := by
  pointwise []
  by_cases h1 : k.val < 1024
  · simp only [h1, dite_true]
  · by_cases h2 : k.val < 2048
    · have e2 : k.val - 1024 < 1024 := by omega
      simp only [h1, h2, e2, dite_true, dite_false]
    · have e2 : ¬ k.val - 1024 < 1024 := by omega
      have e3 : k.val - 1024 - 1024 = k.val - 2048 := by omega
      have e4 : k.val - 2048 - 1024 = k.val - 3072 := by omega
      by_cases h3 : k.val < 3072
      · have e5 : k.val - 2048 < 1024 := by omega
        simp only [h1, h2, h3, e2, e3, e5, dite_true, dite_false]
      · have e5 : ¬ k.val - 2048 < 1024 := by omega
        simp only [h1, h2, h3, e2, e3, e4, e5, dite_false]

include h0 h1 h2 h3 h4 h5 h6 h7 h8 h9 in
theorem v193_real (n k : Fin 4096) :
    val_main_v193 (F := Ideal) x0 x1 x2 x3 x4 x5 x6 x7 x8 x9 (ix2 n k)
      = ((dz U V A E Y D g b W c (tb n.val n.isLt) (ts n.val) k : ℝ) : EReal) := by
  have e : idx_main_v192 (ix2 n k) = ix3 (tb n.val n.isLt) (ts n.val) k := by
    have := n.isLt; have := k.isLt
    funext a; fin_cases a
    · exact Fin.ext (show (n.val * 4096 + k.val) / 8388608 = n.val / 2048 by omega)
    · exact Fin.ext (show (n.val * 4096 + k.val) / 4096 % 2048 = n.val % 2048 by omega)
    · exact Fin.ext (show (n.val * 4096 + k.val) % 4096 = k.val by omega)
  refine (val_main_v192_apply (F := Ideal) x0 x1 x2 x3 x4 x5 x6 x7 x8 x9 (ix2 n k)).trans ?_
  rw [e]
  refine (four (val_main_v190 (F := Ideal) x0 x1 x2 x5 x6 x7 x8 x9) (val_main_v178 (F := Ideal) x0 x1 x2 x5 x7 x9)
    (val_main_v120 (F := Ideal) x0 x1 x2 x5 x6 x7 x8 x9) (val_main_v117 (F := Ideal) x3 x4 x9) _ _ _ _).trans ?_
  unfold dz
  split_ifs
  · exact v190_real x0 x1 x2 x5 x6 x7 x8 x9 U V A D g b W c h0 h1 h2 h5 h6 h7 h8 h9 _ _ _
  · exact v178_real x0 x1 x2 x5 x7 x9 U V A D g W h0 h1 h2 h5 h7 h9 _ _ _
  · exact v120_real x0 x1 x2 x5 x6 x7 x8 x9 U V A D g b W c h0 h1 h2 h5 h6 h7 h8 h9 _ _ _
  · exact v117_real x3 x4 x9 E Y D h3 h4 h9 _ _ _

include h3 h9 in
theorem v195_real (n : Fin 4096) (k : Fin 1024) :
    val_main_v195 (F := Ideal) x3 x9 (ix2 n k) = ((dy E D (tb n.val n.isLt) (ts n.val) k : ℝ) : EReal) := by
  have e : idx_main_v194 (ix2 n k) = ix3 (tb n.val n.isLt) (ts n.val) k := by
    have := n.isLt; have := k.isLt
    funext a; fin_cases a
    · exact Fin.ext (show (n.val * 1024 + k.val) / 2097152 = n.val / 2048 by omega)
    · exact Fin.ext (show (n.val * 1024 + k.val) / 1024 % 2048 = n.val % 2048 by omega)
    · exact Fin.ext (show (n.val * 1024 + k.val) % 1024 = k.val by omega)
  refine (val_main_v194_apply (F := Ideal) x3 x9 (ix2 n k)).trans ?_
  rw [e]
  exact v115_real x3 x9 E D h3 h9 _ _ _

end Cert.MixerRefIdeal.Reads

end
-- ==== Proof.Mixer.Body.lean ====
/- The kernel's body over the reals: the values one grid point computes from its blocks. -/
module

public import proofs.«01_k».proof.Proof.Gen.MixerIdeal.Skeleton
public import proofs.«01_k».proof.Proof.Mixer.Words
public import Idealize.ShloMosaic.Lib.WordCmp

@[expose] public section

set_option maxRecDepth 16384

noncomputable section

namespace Cert.MixerIdeal.Body

open Idealize.ShloMosaic Idealize.ShloMosaic.TcCoe Idealize.SL.Sem
open Cert.MixerIdeal Cert.MixerIdeal.Gen Cert.Reals Cert.MixSpec

/-- The named coefficient. -/
theorem named_c : (Named.named (F := Ideal) (φ := .f32) κ "gelu_c" 0x3D372713#32 : EReal) = ((gc : ℝ) : EReal) :=
  (IdealRules.named_const.ideal_named_scalar _ _ _ _ rfl).trans (congrArg _ (by norm_num [gc]))

/-- Three times it. -/
theorem named_3c : (Named.named (F := Ideal) (φ := .f32) κ "gelu_3c" 0x3E095D4F#32 : EReal) = ((3 * gc : ℝ) : EReal) :=
  (IdealRules.named_const.ideal_named_scalar _ _ _ _ rfl).trans (congrArg _ (by norm_num [gc]))

/-! The elementwise values. -/

theorem pay6_at (x : FVec Ideal S256x1024 .bf16) (j) : k0_pay6 (F := Ideal) x j = x j := by
  idx_vars j; pointwise [k0_pay6]

theorem pay10_at (x : FVec Ideal S256x1024 .bf16) (j) : k0_pay10 (F := Ideal) x j = x j := pay6_at x j
theorem pay11_at (x : FVec Ideal S256x1024 .bf16) (j) : k0_pay11 (F := Ideal) x j = x j := pay6_at x j
theorem pay60_at (x : FVec Ideal S256x1024 .bf16) (j) : k0_pay60 (F := Ideal) x j = x j := pay6_at x j

theorem pay61_real (x : FVec Ideal S256x1024 .f32) (j) (a : ℝ) (h : x j = (a : EReal)) :
    k0_pay61 (F := Ideal) x j = ((logi a : ℝ) : EReal) := by
  pointwise [k0_pay61]
  rw [h, zero_sub, coe_one']
  exact logi_real a

theorem pay7_real (x : FVec Ideal S256x1024 .bf16) (j) (a : ℝ) (h : x j = (a : EReal)) :
    k0_pay7 (F := Ideal) x j = ((logi a : ℝ) : EReal) :=
  pay61_real (k0_pay6 (F := Ideal) x) j a ((pay6_at x j).trans h)

theorem pay8_real (x y : FVec Ideal S256x1024 .bf16) (j) (d e : ℝ) (hx : x j = (d : EReal)) (hy : y j = (e : EReal)) :
    k0_pay8 (F := Ideal) x y j = ((d * logi e : ℝ) : EReal) := by
  pointwise [k0_pay8]
  rw [pay6_at, hx, pay7_real y j e hy, ← EReal.coe_mul]

theorem pay9_real (x y z : FVec Ideal S256x1024 .bf16) (j) (d e o : ℝ) (hx : x j = (d : EReal)) (hy : y j = (e : EReal))
    (hz : z j = (o : EReal)) :
    k0_pay9 (F := Ideal) x y z j = ((d * o * logi e * (1 - logi e) : ℝ) : EReal) := by
  pointwise [k0_pay9]
  rw [pay6_at, hx, hz, pay7_real y j e hy, coe_one']
  simp only [← EReal.coe_mul, ← EReal.coe_sub]

theorem pay18_real (x : FVec Ideal S256x1024 .f32) (j) (a : ℝ) (h : x j = (a : EReal)) :
    k0_pay18 (F := Ideal) x j = ((gt a : ℝ) : EReal) := by
  pointwise [k0_pay18, k0_pay17]
  rw [named_c, h, w_kk]
  simp only [← EReal.coe_mul, ← EReal.coe_add, Ideal.tanh_coe]; rfl

theorem pay19_real (x : FVec Ideal S256x1024 .f32) (j) (a : ℝ) (h : x j = (a : EReal)) :
    k0_pay19 (F := Ideal) x j = ((gh a : ℝ) : EReal) := by
  pointwise [k0_pay19]
  rw [pay18_real x j a h, w_half, coe_one']
  simp only [← EReal.coe_mul, ← EReal.coe_add]; rfl

theorem pay20_real (x : FVec Ideal S256x1024 .f32) (j) (a : ℝ) (h : x j = (a : EReal)) :
    k0_pay20 (F := Ideal) x j = ((gelu a : ℝ) : EReal) := by
  pointwise [k0_pay20]
  rw [pay19_real x j a h, h, ← EReal.coe_mul]; rfl

theorem pay22_real (x : FVec Ideal S256x1024 .f32) (j) (a : ℝ) (h : x j = (a : EReal)) :
    k0_pay22 (F := Ideal) (k0_pay17 x) (k0_pay19 x) (k0_pay21 x) j = ((gd a : ℝ) : EReal) := by
  pointwise [k0_pay22, k0_pay21, k0_pay17]
  rw [pay19_real x j a h, pay18_real x j a h, h, named_3c, w_half, coe_one', w_kk]
  simp only [← EReal.coe_mul, ← EReal.coe_add, ← EReal.coe_sub]
  rfl

/-- The first activation is computed as the second. -/
theorem pay15_real (x : FVec Ideal S256x1024 .bf16) (j) (a : ℝ) (h : x j = (a : EReal)) :
    k0_pay15 (F := Ideal) (k0_pay10 x) (k0_pay12 x) j = ((gelu a : ℝ) : EReal) :=
  pay20_real (k0_pay10 (F := Ideal) x) j a ((pay6_at x j).trans h)

theorem pay16_real (x : FVec Ideal S256x1024 .bf16) (j) (a : ℝ) (h : x j = (a : EReal)) :
    k0_pay16 (F := Ideal) (k0_pay10 x) (k0_pay12 x) j = ((gd a : ℝ) : EReal) :=
  pay22_real (k0_pay10 (F := Ideal) x) j a ((pay6_at x j).trans h)

/-! The norm. -/

section Norm
variable (x : FVec Ideal S256x1024 .f32) (G : Fin 256 → Fin 1024 → ℝ) (h : ∀ r d, x (ix2 r d) = (G r d : EReal))
include h

theorem pay23_real (r : Fin 256) (d : Fin 1024) : k0_pay23 (F := Ideal) x (ix2 r d) = ((cent (G r) d : ℝ) : EReal) := by
  pointwise [k0_pay23]
  simp only [h, coe_sum, w_1024, div_real _ (show (1024 : ℝ) ≠ 0 by norm_num), ← EReal.coe_sub]
  rfl

theorem pay24_real (r : Fin 256) (u : Fin 1) : k0_pay24 (F := Ideal) x (ix2 r u) = ((lrs (G r) : ℝ) : EReal) := by
  pointwise [k0_pay24]
  simp only [pay23_real x G h, coe_sum, w_1024, w_eps, ← EReal.coe_mul, ← EReal.coe_add, div_real _ (show (1024 : ℝ) ≠ 0 by norm_num)]
  exact rsqrt_real (lvar_pos (G r))

theorem pay25_real (r : Fin 256) (d : Fin 1024) : k0_pay25 (F := Ideal) x (ix2 r d) = ((nrm (G r) d : ℝ) : EReal) := by
  pointwise [k0_pay25]
  rw [pay23_real x G h, pay24_real x G h, ← EReal.coe_mul]; rfl

theorem pay26_real (y z : FVec Ideal S1x1024 .f32) (g b : Fin 1024 → ℝ) (hy : ∀ d, y (ix2 0 d) = (g d : EReal))
    (hz : ∀ d, z (ix2 0 d) = (b d : EReal)) (r : Fin 256) (d : Fin 1024) :
    k0_pay26 (F := Ideal) x y z (ix2 r d) = ((nrm (G r) d * g d + b d : ℝ) : EReal) := by
  pointwise [k0_pay26]
  rw [pay25_real x G h, hy, hz, ← EReal.coe_mul, ← EReal.coe_add]

/-- The norm's gradient, times the activation's. -/
theorem pay129_real (q e : FVec Ideal S256x1024 .f32) (y : FVec Ideal S1x1024 .f32) (Q E : Fin 256 → Fin 1024 → ℝ) (g : Fin 1024 → ℝ)
    (hq : ∀ r d, q (ix2 r d) = (Q r d : EReal)) (he : ∀ r d, e (ix2 r d) = (E r d : EReal)) (hy : ∀ d, y (ix2 0 d) = (g d : EReal))
    (r : Fin 256) (d : Fin 1024) :
    k0_pay1 (F := Ideal) (k0_pay129 q (k0_pay24 x) (k0_pay25 x) e y) (ix2 r d)
      = ((lnBwd (G r) (fun k => E r k * g k) d * Q r d : ℝ) : EReal) := by
  pointwise [k0_pay1, k0_pay129]
  simp only [hq, he, hy, pay24_real x G h, pay25_real x G h, ← EReal.coe_mul, coe_sum, w_1024,
    div_real _ (show (1024 : ℝ) ≠ 0 by norm_num), ← EReal.coe_sub]
  rfl

theorem pay127_real (e : FVec Ideal S256x1024 .f32) (acc : FVec Ideal S1x1024 .f32) (E : Fin 256 → Fin 1024 → ℝ)
    (he : ∀ r d, e (ix2 r d) = (E r d : EReal)) (d : Fin 1024) :
    k0_pay127 (F := Ideal) (k0_pay25 x) e acc (ix2 0 d) = acc (ix2 0 d) + ((∑ r, E r d * nrm (G r) d : ℝ) : EReal) := by
  pointwise [k0_pay127]
  simp only [he, pay25_real x G h, ← EReal.coe_mul, coe_sum]

end Norm

theorem pay128_real (e : FVec Ideal S256x1024 .f32) (acc : FVec Ideal S1x1024 .f32) (E : Fin 256 → Fin 1024 → ℝ)
    (he : ∀ r d, e (ix2 r d) = (E r d : EReal)) (d : Fin 1024) :
    k0_pay128 (F := Ideal) e acc (ix2 0 d) = acc (ix2 0 d) + ((∑ r, E r d : ℝ) : EReal) := by
  pointwise [k0_pay128]
  simp only [he, coe_sum]

/-! The mixing. -/

theorem pay27_at (t p : Fin 128) : k0_pay27 (ix2 t p) = BitVec.ofBool (decide (p.val ≤ t.val)) := by
  pointwise [k0_pay27]
  word_cmp

theorem pay67_at (t p : Fin 128) : k0_pay67 (ix2 t p) = BitVec.ofBool (decide (t.val ≤ p.val)) := by
  pointwise [k0_pay67]
  word_cmp

theorem pay28_real (w : FVec Ideal S1x128x128 .f32) (W : Fin 128 → Fin 128 → ℝ) (hw : ∀ t p, w (ix3 0 t p) = (W t p : EReal)) (t p : Fin 128) :
    k0_pay28 (F := Ideal) w (ix2 t p) = ((if p.val ≤ t.val then W t p else 0 : ℝ) : EReal) := by
  pointwise [k0_pay28]
  rw [pay27_at, hw]
  by_cases h : p.val ≤ t.val <;> simp [Scalar.select, h]

/-- One tile of mixed rows. -/
theorem pay30_real (w : FVec Ideal S1x128x128 .f32) (v : FVec Ideal S128x128 .bf16) (o : FVec Ideal S1x128x1 .f32)
    (W N : Fin 128 → Fin 128 → ℝ) (c : Fin 128 → ℝ)
    (hw : ∀ t p, w (ix3 0 t p) = (W t p : EReal)) (hv : ∀ p k, v (ix2 p k) = (N p k : EReal)) (ho : ∀ t, o (ix3 0 t 0) = (c t : EReal))
    (t k : Fin 128) :
    k0_pay30 (F := Ideal) (k0_pay28 w) v o (ix2 t k)
      = (((∑ p : Fin 128, (if p.val ≤ t.val then W t p else 0) * N p k) + c t : ℝ) : EReal) := by
  pointwise [k0_pay30, k0_pay29]
  simp only [pay28_real w W hw, hv, ← EReal.coe_mul, coe_sum]
  rw [ho, ← EReal.coe_add]

/-- One tile of the cotangent before mixing. -/
theorem pay72_real (w : FVec Ideal S1x128x128 .f32) (v : FVec Ideal S128x128 .bf16)
    (W N : Fin 128 → Fin 128 → ℝ) (hw : ∀ t p, w (ix3 0 t p) = (W t p : EReal)) (hv : ∀ p k, v (ix2 p k) = (N p k : EReal))
    (t k : Fin 128) :
    k0_pay72 (F := Ideal) (k0_pay71 w v) (ix2 t k)
      = ((∑ p : Fin 128, (if t.val ≤ p.val then W t p else 0) * N p k : ℝ) : EReal) := by
  pointwise [k0_pay72, k0_pay71, k0_pay68]
  simp only [pay67_at, hv, w_zero]
  rw [← coe_sum]
  refine Finset.sum_congr rfl fun p _ => ?_
  by_cases h : t.val ≤ p.val <;> simp [Scalar.select, h, hw]

/-- One group's part of the spatial weights' gradient, added to what the group held. -/
theorem pay74_real (x y z w : FVec Ideal S128x128 .bf16) (acc : FVec Ideal S1x128x128 .f32)
    (X Y Z Q : Fin 128 → Fin 128 → ℝ) (hx : ∀ t k, x (ix2 t k) = (X t k : EReal)) (hy : ∀ t k, y (ix2 t k) = (Y t k : EReal))
    (hz : ∀ t k, z (ix2 t k) = (Z t k : EReal)) (hw : ∀ t k, w (ix2 t k) = (Q t k : EReal)) (t p : Fin 128) :
    k0_pay74 (F := Ideal) k0_pay27 k0_pay69 x y z w acc (ix3 0 t p)
      = acc (ix3 0 t p) + ((if p.val ≤ t.val then (∑ k, X t k * Y p k) + ∑ k, Z t k * Q p k else 0 : ℝ) : EReal) := by
  pointwise [k0_pay74, k0_pay69]
  simp only [pay27_at, hx, hy, hz, hw, w_zero, ← EReal.coe_mul, coe_sum]
  by_cases h : p.val ≤ t.val <;> simp [Scalar.select, h, ← EReal.coe_add]

/-- One group's part of the spatial shift's gradient, added to what the group held. -/
theorem pay84_real (s : FVec Ideal S128x128 .f32) (acc : FVec Ideal S1x128x1 .f32) (X : Fin 128 → Fin 128 → ℝ)
    (hs : ∀ t k, s (ix2 t k) = (X t k : EReal)) (t : Fin 128) :
    k0_pay84 (F := Ideal) s acc (ix3 0 t 0) = acc (ix3 0 t 0) + ((∑ k, X t k : ℝ) : EReal) := by
  pointwise [k0_pay84]
  simp only [hs, coe_sum]

theorem pair_real (x : FVec Ideal S256x1024 .f32) (X : Fin 256 → Fin 1024 → ℝ) (hx : ∀ r d, x (ix2 r d) = (X r d : EReal))
    (o : ℕ) (ho : o + 128 ≤ 1024) (h0 : S256x1024.Slices ![0, o] S128x128) (h1 : S256x1024.Slices ![128, o] S128x128) (t k : Fin 128) :
    addf (F := Ideal) (addf k0_pay70 (extractStridedSlice S128x128 ![0, o] x h0)) (extractStridedSlice S128x128 ![128, o] x h1) (ix2 t k)
      = ((X ⟨t.val, by omega⟩ ⟨o + k.val, by omega⟩ + X ⟨128 + t.val, by omega⟩ ⟨o + k.val, by omega⟩ : ℝ) : EReal) := by
  pointwise [k0_pay70]
  rw [hx, hx, ← EReal.coe_add]

/-! The gates' cotangents. -/

section Gates
variable (x : FVec Ideal S256x1024 .f32) (a : FVec Ideal S256x1024 .f32) (u : FVec Ideal S256x1024 .bf16) (y : FVec Ideal S256x1024 .f32)
  (j : S256x1024.Idx) (d e f o : ℝ) (hx : x j = (d : EReal)) (ha : a j = (e : EReal)) (hu : u j = (f : EReal)) (hy : y j = (o : EReal))
include hx ha hu

theorem pay65_real : k0_pay65 (F := Ideal) x (k0_pay15 (k0_pay10 u) (k0_pay12 u)) a j = ((d * logi e * gelu f : ℝ) : EReal) := by
  pointwise [k0_pay65, k0_pay62]
  rw [pay61_real a j e ha, hx, pay15_real u j f hu, ← EReal.coe_mul, ← EReal.coe_mul]

theorem pay66_real : k0_pay66 (F := Ideal) x (k0_pay15 (k0_pay10 u) (k0_pay12 u)) a j = ((d * logi e * gelu f : ℝ) : EReal) := by
  rw [← pay65_real x a u j d e f hx ha hu]
  idx_vars j
  pointwise [k0_pay66]

include hy

theorem pay63_real : k0_pay63 (F := Ideal) x (k0_pay15 (k0_pay10 u) (k0_pay12 u)) y a j = ((d * gelu f * o * logi e * (1 - logi e) : ℝ) : EReal) := by
  pointwise [k0_pay63]
  rw [pay61_real a j e ha, hx, pay15_real u j f hu, hy, coe_one']
  simp only [← EReal.coe_mul, ← EReal.coe_sub]

theorem pay64_real : k0_pay64 (F := Ideal) x (k0_pay16 (k0_pay10 u) (k0_pay12 u)) y a j = ((d * logi e * o * gd f : ℝ) : EReal) := by
  pointwise [k0_pay64, k0_pay62]
  rw [pay61_real a j e ha, hx, pay16_real u j f hu, hy]
  simp only [← EReal.coe_mul]

end Gates

end Cert.MixerIdeal.Body

end
-- ==== Proof.Mixer.Blocks.lean ====
/- The kernel's input blocks over the reals. -/
module

public import proofs.«01_k».proof.Proof.Gen.MixerIdeal.Frame
public import proofs.«01_k».proof.Proof.Mixer.Body
public import Idealize.ShloMosaic.Lib.Pipeline.ValueKit

@[expose] public section

set_option maxRecDepth 16384

noncomputable section

namespace Cert.MixerIdeal.Final

open Idealize.ShloMosaic Idealize.ShloMosaic.TcCoe Idealize.SL.Sem
open Cert.MixerIdeal Cert.MixerIdeal.Gen Cert.MixerIdeal.Body Cert.Reals Cert.MixSpec Cert.Tokens

variable (m : (ℓ : Loc nD τ sig) → Buf (Elt Ideal) ℓ) (c : Dev nD)
  (U V A E Y D : Fin 2 → Fin 2048 → Fin 1024 → ℝ) (g b : Fin 1024 → ℝ) (W : Fin 8 → Fin 128 → Fin 128 → ℝ)
  (o : Fin 8 → Fin 128 → ℝ)

/-- The argument arrays are images of real arrays. -/
structure Args : Prop where
  hU : ∀ i s d, (show FVec Ideal S2x2048x1024 .f32 from m ((c : Thread nD τ).loc main_arg0)) (ix3 i s d) = (U i s d : EReal)
  hV : ∀ i s d, (show FVec Ideal S2x2048x1024 .f32 from m ((c : Thread nD τ).loc main_arg1)) (ix3 i s d) = (V i s d : EReal)
  hA : ∀ i s d, (show FVec Ideal S2x2048x1024 .f32 from m ((c : Thread nD τ).loc main_arg2)) (ix3 i s d) = (A i s d : EReal)
  hE : ∀ i s d, (show FVec Ideal S2x2048x1024 .f32 from m ((c : Thread nD τ).loc main_arg3)) (ix3 i s d) = (E i s d : EReal)
  hY : ∀ i s d, (show FVec Ideal S2x2048x1024 .f32 from m ((c : Thread nD τ).loc main_arg4)) (ix3 i s d) = (Y i s d : EReal)
  hg : ∀ d, (show FVec Ideal S1x1024 .f32 from m ((c : Thread nD τ).loc main_arg5)) (ix2 0 d) = (g d : EReal)
  hb : ∀ d, (show FVec Ideal S1x1024 .f32 from m ((c : Thread nD τ).loc main_arg6)) (ix2 0 d) = (b d : EReal)
  hW : ∀ q t p, (show FVec Ideal S1x8x128x128 .f32 from m ((c : Thread nD τ).loc main_arg7)) (ix4 0 q t p) = (W q t p : EReal)
  ho : ∀ q t, (show FVec Ideal S1x8x128 .f32 from m ((c : Thread nD τ).loc main_arg8)) (ix3 0 q t) = (o q t : EReal)
  hD : ∀ i s d, (show FVec Ideal S2x2048x1024 .f32 from m ((c : Thread nD τ).loc main_arg9)) (ix3 i s d) = (D i s d : EReal)

theorem row_lt (t : Fin cfg0.N) (r : Fin 256) : t.val * 256 + r.val < 4096 := by
  have := lt_of_lt_of_eq t.isLt N_0; have := r.isLt; omega

/-- The sequence and the position of row `r` of block `t`. -/
abbrev rb (t : Fin cfg0.N) (r : Fin 256) : Fin 2 := tb _ (row_lt t r)
abbrev rs (t : Fin cfg0.N) (r : Fin 256) : Fin 2048 := ts (t.val * 256 + r.val)

theorem idx : ∀ t : Fin cfg0.N, win0_0.index t = ![t.val, 0] ∧ win0_1.index t = ![t.val, 1] ∧ win0_2.index t = ![t.val, 2]
    ∧ win0_3.index t = ![t.val, 3] ∧ win0_4.index t = ![t.val, 0] ∧ win0_5.index t = ![t.val, 0] ∧ win0_6.index t = ![0, 0]
    ∧ win0_7.index t = ![0, 0] ∧ win0_8.index t = ![0, 0, 0] ∧ win0_9.index t = ![0, 0, 0] ∧ win0_10.index t = ![0, 0, 0]
    ∧ win0_11.index t = ![t.val, 0] ∧ win0_12.index t = ![t.val, 0] ∧ win0_13.index t = ![0, 0] ∧ win0_14.index t = ![0, 0]
    ∧ win0_15.index t = ![0, 0, 0] ∧ win0_16.index t = ![0, 0, 0] :=
  (by decide +kernel : ∀ t : Fin grid0.N, _)

variable {m c U V A E Y D g b W o} (h : Args m c U V A E Y D g b W o)
include h

theorem blk0 (t : Fin cfg0.N) (r : Fin 256) (k : Fin 1024) :
    (show FVec Ideal S256x1024 .bf16 from iblk m c 0 t) (ix2 r k) = ((U (rb t r) (rs t r) k : ℝ) : EReal) := by
  refine Eq.trans ?_ (h.hU _ _ _)
  unfold iblk Gen.V
  after_results
  blk_simp [idx t]
  pointwise
  have e0 : (((View.whole main_v2).slice (win0_0.rect t)).emb (ix2 r k) 0).val = t.val * 256 + r.val := by blk_simp [idx t]
  have e1 : (((View.whole main_v2).slice (win0_0.rect t)).emb (ix2 r k) 1).val = k.val := by blk_simp [idx t]
  have := k.isLt
  simp only [e0, e1, tb, ts]
  exact dif_pos k.isLt

theorem blk1 (t : Fin cfg0.N) (r : Fin 256) (k : Fin 1024) :
    (show FVec Ideal S256x1024 .bf16 from iblk m c 1 t) (ix2 r k) = ((V (rb t r) (rs t r) k : ℝ) : EReal) := by
  refine Eq.trans ?_ (h.hV _ _ _)
  unfold iblk Gen.V
  after_results
  blk_simp [idx t]
  pointwise
  have e0 : (((View.whole main_v2).slice (win0_1.rect t)).emb (ix2 r k) 0).val = t.val * 256 + r.val := by blk_simp [idx t]
  have e1 : (((View.whole main_v2).slice (win0_1.rect t)).emb (ix2 r k) 1).val = 1024 + k.val := by blk_simp [idx t]
  have := k.isLt
  simp only [e0, e1, tb, ts]
  have n1 : ¬ 1024 + k.val < 1024 := by omega
  have e2 : 1024 + k.val - 1024 = k.val := by omega
  simp only [n1, e2, k.isLt, dite_true, dite_false]

theorem blk2 (t : Fin cfg0.N) (r : Fin 256) (k : Fin 1024) :
    (show FVec Ideal S256x1024 .bf16 from iblk m c 2 t) (ix2 r k) = ((A (rb t r) (rs t r) k : ℝ) : EReal) := by
  refine Eq.trans ?_ (h.hA _ _ _)
  unfold iblk Gen.V
  after_results
  blk_simp [idx t]
  pointwise
  have e0 : (((View.whole main_v2).slice (win0_2.rect t)).emb (ix2 r k) 0).val = t.val * 256 + r.val := by blk_simp [idx t]
  have e1 : (((View.whole main_v2).slice (win0_2.rect t)).emb (ix2 r k) 1).val = 2048 + k.val := by blk_simp [idx t]
  have := k.isLt
  simp only [e0, e1, tb, ts]
  have n2 : ¬ 2048 + k.val < 1024 := by omega
  have e3 : 2048 + k.val - 1024 = 1024 + k.val := by omega
  have n1 : ¬ 1024 + k.val < 1024 := by omega
  have e2 : 1024 + k.val - 1024 = k.val := by omega
  simp only [n2, e3, n1, e2, k.isLt, dite_true, dite_false]

theorem blk3 (t : Fin cfg0.N) (r : Fin 256) (k : Fin 1024) :
    (show FVec Ideal S256x1024 .bf16 from iblk m c 3 t) (ix2 r k) = ((E (rb t r) (rs t r) k : ℝ) : EReal) := by
  refine Eq.trans ?_ (h.hE _ _ _)
  unfold iblk Gen.V
  after_results
  blk_simp [idx t]
  pointwise
  have e0 : (((View.whole main_v2).slice (win0_3.rect t)).emb (ix2 r k) 0).val = t.val * 256 + r.val := by blk_simp [idx t]
  have e1 : (((View.whole main_v2).slice (win0_3.rect t)).emb (ix2 r k) 1).val = 3072 + k.val := by blk_simp [idx t]
  have := k.isLt
  simp only [e0, e1, tb, ts]
  have n3 : ¬ 3072 + k.val < 1024 := by omega
  have e4 : 3072 + k.val - 1024 = 2048 + k.val := by omega
  have n2 : ¬ 2048 + k.val < 1024 := by omega
  have e3 : 2048 + k.val - 1024 = 1024 + k.val := by omega
  have n1 : ¬ 1024 + k.val < 1024 := by omega
  have e2 : 1024 + k.val - 1024 = k.val := by omega
  simp only [n3, e4, n2, e3, n1, e2, k.isLt, dite_true, dite_false]

theorem blk4 (t : Fin cfg0.N) (r : Fin 256) (d : Fin 1024) :
    (show FVec Ideal S256x1024 .bf16 from iblk m c 4 t) (ix2 r d) = ((Y (rb t r) (rs t r) d : ℝ) : EReal) := by
  rw [← h.hY]
  unfold iblk Gen.V
  after_results
  blk_simp [idx t]
  pointwise
  blk_ext [idx t, tb, ts]

theorem blk5 (t : Fin cfg0.N) (r : Fin 256) (d : Fin 1024) :
    (show FVec Ideal S256x1024 .bf16 from iblk m c 5 t) (ix2 r d) = ((D (rb t r) (rs t r) d : ℝ) : EReal) := by
  rw [← h.hD]
  unfold iblk Gen.V
  after_results
  blk_simp [idx t]
  pointwise
  blk_ext [idx t, tb, ts]

theorem blk6 (t : Fin cfg0.N) (d : Fin 1024) :
    (show FVec Ideal S1x1024 .f32 from iblk m c 6 t) (ix2 0 d) = ((g d : ℝ) : EReal) := by
  rw [← h.hg]
  unfold iblk Gen.V
  after_results
  blk_simp [idx t]
  pointwise
  blk_ext [idx t, tb, ts]

theorem blk7 (t : Fin cfg0.N) (d : Fin 1024) :
    (show FVec Ideal S1x1024 .f32 from iblk m c 7 t) (ix2 0 d) = ((b d : ℝ) : EReal) := by
  rw [← h.hb]
  unfold iblk Gen.V
  after_results
  blk_simp [idx t]
  pointwise
  blk_ext [idx t, tb, ts]

theorem blk8 (t : Fin cfg0.N) (q : Fin 8) (r p : Fin 128) :
    (show FVec Ideal S8x128x128 .f32 from iblk m c 8 t) (ix3 q r p) = ((W q r p : ℝ) : EReal) := by
  rw [← h.hW]
  unfold iblk Gen.V
  after_results
  blk_simp [idx t]
  pointwise
  blk_ext [idx t, tb, ts]

theorem blk9 (t : Fin cfg0.N) (q : Fin 8) (r p : Fin 128) :
    (show FVec Ideal S8x128x128 .f32 from iblk m c 9 t) (ix3 q r p) = ((W q p r : ℝ) : EReal) := by
  rw [← h.hW]
  unfold iblk Gen.V
  after_results
  blk_simp [idx t]
  pointwise
  blk_ext [idx t, tb, ts]

theorem blk10 (t : Fin cfg0.N) (q : Fin 8) (r : Fin 128) :
    (show FVec Ideal S8x128x1 .f32 from iblk m c 10 t) (ix3 q r 0) = ((o q r : ℝ) : EReal) := by
  rw [← h.ho]
  unfold iblk Gen.V
  after_results
  blk_simp [idx t]
  pointwise
  blk_ext [idx t, tb, ts]

end Cert.MixerIdeal.Final

end
-- ==== Proof.Mixer.Stage.lean ====
/- The kernel's stages on one block over the reals: rows, tiles and the parts of the accumulated outputs. -/
module

public import proofs.«01_k».proof.Proof.Mixer.Blocks

@[expose] public section

set_option maxRecDepth 16384

noncomputable section

namespace Cert.MixerIdeal.Final

open Idealize.ShloMosaic Idealize.ShloMosaic.TcCoe Idealize.SL.Sem
open Cert.MixerIdeal Cert.MixerIdeal.Gen Cert.MixerIdeal.Body Cert.Reals Cert.MixSpec Cert.Tokens

variable {m : (ℓ : Loc nD τ sig) → Buf (Elt Ideal) ℓ} {c : Dev nD}
  {U V A E Y D : Fin 2 → Fin 2048 → Fin 1024 → ℝ} {g b : Fin 1024 → ℝ} {W : Fin 8 → Fin 128 → Fin 128 → ℝ}
  {o : Fin 8 → Fin 128 → ℝ}

/-! Rows of a tile. -/

/-- Row `a` of the tile that starts at row `o0`. -/
def row (o0 : ℕ) (h : o0 % 128 = 0 ∧ o0 + 128 ≤ 256) (a : Fin 128) : Fin 256 := ⟨o0 + a.val, by have := a.isLt; omega⟩

/-- Column `k` of the tile of group `q`. -/
def col (o1 q : ℕ) (h : q * 128 = o1 ∧ q < 8) (k : Fin 128) : Fin 1024 := ⟨o1 + k.val, by have := k.isLt; omega⟩

section rows
variable (t : Fin cfg0.N) (o0 : ℕ) (h : o0 % 128 = 0 ∧ o0 + 128 ≤ 256) (a p : Fin 128)

theorem rb_row : rb t (row o0 h p) = rb t (row o0 h a) :=
  Fin.ext (by have := a.isLt; have := p.isLt; simp only [rb, tb, row]; omega)

theorem mate_row : mate (rs t (row o0 h a)) p = rs t (row o0 h p) :=
  Fin.ext (by have := a.isLt; have := p.isLt; simp only [mate, rs, ts, row]; omega)

theorem pos_row : pos (rs t (row o0 h a)) = a :=
  Fin.ext (by have := a.isLt; simp only [pos, rs, ts, row]; omega)

end rows

theorem grp_col (o1 q : ℕ) (h : q * 128 = o1 ∧ q < 8) (k : Fin 128) : grp (col o1 q h k) = ⟨q, h.2⟩ :=
  Fin.ext (by have := k.isLt; simp only [grp, col]; omega)

theorem col_chan (o1 q : ℕ) (h : q * 128 = o1 ∧ q < 8) (k : Fin 128) : col o1 q h k = chan ⟨q, h.2⟩ k :=
  Fin.ext (by simp only [chan, col]; omega)

/-- The place of a tile's entry. -/
theorem emb_tile (o0 o1 q : ℕ) (h0 : o0 % 128 = 0 ∧ o0 + 128 ≤ 256) (h1 : q * 128 = o1 ∧ q < 8) (inb) (a k : Fin 128) :
    (Rect.unit (s := S256x1024) ![o0, o1] ![128, 128] inb).emb (ix2 a k) = ix2 (row o0 h0 a) (col o1 q h1 k) := by
  blk_ext [row, col]

/-- The place of a slab's entry. -/
theorem emb_slab {n : ℕ} (q : ℕ) (hq : q < 8) (inb) (u : Fin 1) (a : Fin 128) (p : Fin n) :
    (Rect.unit (s := ⟨3, ![8, 128, n]⟩) ![q, 0, 0] ![1, 128, n] inb).emb (ix3 u a p) = ix3 ⟨q, hq⟩ a p := by
  have := u.isLt
  blk_ext

/-- A tile of a block. -/
theorem tile_at {e : EltTy} (P : S256x1024.Idx → Elt Ideal e)
    (o0 o1 q : ℕ) (h0 : o0 % 128 = 0 ∧ o0 + 128 ≤ 256) (h1 : q * 128 = o1 ∧ q < 8) (inb) (a k : Fin 128) :
    View.ld (Val := Elt Ideal) (e' := e) P (Rect.unit (s := S256x1024) ![o0, o1] ![128, 128] inb) (ix2 a k)
      = P (ix2 (row o0 h0 a) (col o1 q h1 k)) :=
  congrArg P (emb_tile o0 o1 q h0 h1 inb a k)

/-- A group's slab of a rank-three array. -/
theorem slab_at {e : EltTy} {n : ℕ} (P : (⟨3, ![8, 128, n]⟩ : Shape).Idx → Elt Ideal e) (q : ℕ) (hq : q < 8) (inb) (a : Fin 128) (p : Fin n) :
    View.ld (Val := Elt Ideal) (e' := e) P (Rect.unit (s := ⟨3, ![8, 128, n]⟩) ![q, 0, 0] ![1, 128, n] inb) (ix3 0 a p) = P (ix3 ⟨q, hq⟩ a p) :=
  congrArg P (emb_slab q hq inb 0 a p)

variable (h : Args m c U V A E Y D g b W o)
include h

/-- The mixed rows of a block. -/
def mixG (t : Fin cfg0.N) (y : S256x1024.Idx) : EReal := ((mixed V g b W o (rb t (y 0)) (rs t (y 0)) (y 1) : ℝ) : EReal)

theorem mixTile (t : Fin cfg0.N) (P : FVec Ideal S256x1024 .bf16)
    (hP : ∀ r d, P (ix2 r d) = ((vn V g b (rb t r) (rs t r) d : ℝ) : EReal))
    (o0 o1 q : ℕ) (h0 : o0 % 128 = 0 ∧ o0 + 128 ≤ 256) (h1 : q * 128 = o1 ∧ q < 8) (i8 inb i10) (x : S128x128.Idx) :
    k0_pay30 (F := Ideal) (k0_pay28 (View.ld (Val := Elt Ideal) (e' := .f32) (iblk m c 8 t) (Rect.unit (s := S8x128x128) ![q, 0, 0] ![1, 128, 128] i8)))
        (View.ld (Val := Elt Ideal) (e' := .bf16) P (Rect.unit (s := S256x1024) ![o0, o1] ![128, 128] inb))
        (View.ld (Val := Elt Ideal) (e' := .f32) (iblk m c 10 t) (Rect.unit (s := S8x128x1) ![q, 0, 0] ![1, 128, 1] i10)) x
      = mixG (V := V) (g := g) (b := b) (W := W) (o := o) t ((Rect.unit (s := S256x1024) ![o0, o1] ![128, 128] inb).emb x) := by
  idx_vars x
  rename' x0 => a, x1 => k
  refine (pay30_real _ _ _ (W ⟨q, h1.2⟩) (fun p k => vn V g b (rb t (row o0 h0 p)) (rs t (row o0 h0 p)) (col o1 q h1 k)) (o ⟨q, h1.2⟩)
    (fun a p => (slab_at (e := .f32) (n := 128) _ q h1.2 i8 a p).trans (blk8 h t _ _ _))
    (fun p k => (tile_at (e := .bf16) P o0 o1 q h0 h1 inb p k).trans (hP _ _))
    (fun a => (slab_at (e := .f32) (n := 1) _ q h1.2 i10 a 0).trans (blk10 h t _ _)) a k).trans ?_
  rw [emb_tile o0 o1 q h0 h1]
  refine congrArg _ ?_
  show _ = mixed V g b W o (rb t (row o0 h0 a)) (rs t (row o0 h0 a)) (col o1 q h1 k)
  simp only [mixed, grp_col, pos_row, mate_row, wm, rb_row t o0 h0 a]

/-- The cotangent rows before mixing of a block. -/
def dvnG (t : Fin cfg0.N) (y : S256x1024.Idx) : EReal := ((dvn U A D W (rb t (y 0)) (rs t (y 0)) (y 1) : ℝ) : EReal)

theorem dvnTile (t : Fin cfg0.N) (P : FVec Ideal S256x1024 .bf16)
    (hP : ∀ r d, P (ix2 r d) = ((dmx U A D (rb t r) (rs t r) d : ℝ) : EReal))
    (o0 o1 q : ℕ) (h0 : o0 % 128 = 0 ∧ o0 + 128 ≤ 256) (h1 : q * 128 = o1 ∧ q < 8) (i9 inb) (x : S128x128.Idx) :
    k0_pay72 (F := Ideal) (k0_pay71 (View.ld (Val := Elt Ideal) (e' := .f32) (iblk m c 9 t) (Rect.unit (s := S8x128x128) ![q, 0, 0] ![1, 128, 128] i9))
        (View.ld (Val := Elt Ideal) (e' := .bf16) P (Rect.unit (s := S256x1024) ![o0, o1] ![128, 128] inb))) x
      = dvnG (U := U) (A := A) (D := D) (W := W) t ((Rect.unit (s := S256x1024) ![o0, o1] ![128, 128] inb).emb x) := by
  idx_vars x
  rename' x0 => a, x1 => k
  refine (pay72_real _ _ (fun a p => W ⟨q, h1.2⟩ p a) (fun p k => dmx U A D (rb t (row o0 h0 p)) (rs t (row o0 h0 p)) (col o1 q h1 k))
    (fun a p => (slab_at (e := .f32) (n := 128) _ q h1.2 i9 a p).trans (blk9 h t _ _ _))
    (fun p k => (tile_at (e := .bf16) P o0 o1 q h0 h1 inb p k).trans (hP _ _)) a k).trans ?_
  rw [emb_tile o0 o1 q h0 h1]
  refine congrArg _ ?_
  show _ = dvn U A D W (rb t (row o0 h0 a)) (rs t (row o0 h0 a)) (col o1 q h1 k)
  simp only [dvn, grp_col, pos_row, mate_row, wm, rb_row t o0 h0 a]

omit h

/-- The first and the second chunk of a block. -/
abbrev r0 : Fin 128 → Fin 256 := row 0 (by decide)
abbrev r1 : Fin 128 → Fin 256 := row 128 (by decide)

/-- A block's part of the spatial weights' gradient. -/
def dwP (U V A D : Fin 2 → Fin 2048 → Fin 1024 → ℝ) (g b : Fin 1024 → ℝ) (t : Fin cfg0.N) (q : Fin 8) (a p : Fin 128) : ℝ :=
  if p.val ≤ a.val then
    (∑ k, dmx U A D (rb t (r0 a)) (rs t (r0 a)) (chan q k) * vn V g b (rb t (r0 p)) (rs t (r0 p)) (chan q k))
      + ∑ k, dmx U A D (rb t (r1 a)) (rs t (r1 a)) (chan q k) * vn V g b (rb t (r1 p)) (rs t (r1 p)) (chan q k) else 0

theorem dwTile (t : Fin cfg0.N) (P Q : FVec Ideal S256x1024 .bf16) (R : FVec Ideal S8x128x128 .f32)
    (hP : ∀ r d, P (ix2 r d) = ((dmx U A D (rb t r) (rs t r) d : ℝ) : EReal))
    (hQ : ∀ r d, Q (ix2 r d) = ((vn V g b (rb t r) (rs t r) d : ℝ) : EReal))
    (o1 q : ℕ) (h1 : q * 128 = o1 ∧ q < 8) (i0 i1 i2 i3 i4) (x : S1x128x128.Idx) :
    k0_pay74 (F := Ideal) k0_pay27 k0_pay69 (View.ld (Val := Elt Ideal) (e' := .bf16) P (Rect.unit (s := S256x1024) ![0, o1] ![128, 128] i0))
        (View.ld (Val := Elt Ideal) (e' := .bf16) Q (Rect.unit (s := S256x1024) ![0, o1] ![128, 128] i1))
        (View.ld (Val := Elt Ideal) (e' := .bf16) P (Rect.unit (s := S256x1024) ![128, o1] ![128, 128] i2))
        (View.ld (Val := Elt Ideal) (e' := .bf16) Q (Rect.unit (s := S256x1024) ![128, o1] ![128, 128] i3))
        (View.ld (Val := Elt Ideal) (e' := .f32) R (Rect.unit (s := S8x128x128) ![q, 0, 0] ![1, 128, 128] i4)) x
      = (fun y : S8x128x128.Idx => R y + ((dwP U V A D g b t (y 0) (y 1) (y 2) : ℝ) : EReal))
          ((Rect.unit (s := S8x128x128) ![q, 0, 0] ![1, 128, 128] i4).emb x) := by
  idx_vars x
  rename' x0 => u, x1 => a, x2 => p
  obtain rfl : u = 0 := Subsingleton.elim _ _
  refine (pay74_real _ _ _ _ _ _ _ _ _
    (fun a k => (tile_at (e := .bf16) P 0 o1 q (by decide) h1 i0 a k).trans (hP _ _))
    (fun a k => (tile_at (e := .bf16) Q 0 o1 q (by decide) h1 i1 a k).trans (hQ _ _))
    (fun a k => (tile_at (e := .bf16) P 128 o1 q (by decide) h1 i2 a k).trans (hP _ _))
    (fun a k => (tile_at (e := .bf16) Q 128 o1 q (by decide) h1 i3 a k).trans (hQ _ _)) a p).trans ?_
  rw [slab_at (e := .f32) (n := 128) R q h1.2 i4 a p, emb_slab (n := 128) q h1.2 i4 0 a p]
  simp only [col_chan]
  rfl

/-- A block's part of the spatial shift's gradient. -/
def dcP (U A D : Fin 2 → Fin 2048 → Fin 1024 → ℝ) (t : Fin cfg0.N) (q : Fin 8) (a : Fin 128) : ℝ :=
  ∑ k, (dmx U A D (rb t (r0 a)) (rs t (r0 a)) (chan q k) + dmx U A D (rb t (r1 a)) (rs t (r1 a)) (chan q k))

theorem dcTile (t : Fin cfg0.N) (P : FVec Ideal S256x1024 .f32) (R : FVec Ideal S8x128x1 .f32)
    (hP : ∀ r d, P (ix2 r d) = ((dmx U A D (rb t r) (rs t r) d : ℝ) : EReal))
    (o1 q : ℕ) (h1 : q * 128 = o1 ∧ q < 8) (s0 : S256x1024.Slices ![0, o1] S128x128) (s1 : S256x1024.Slices ![128, o1] S128x128)
    (i4) (x : S1x128x1.Idx) :
    k0_pay84 (F := Ideal) (addf (F := Ideal) (addf k0_pay70 (extractStridedSlice S128x128 ![0, o1] P s0)) (extractStridedSlice S128x128 ![128, o1] P s1))
        (View.ld (Val := Elt Ideal) (e' := .f32) R (Rect.unit (s := S8x128x1) ![q, 0, 0] ![1, 128, 1] i4)) x
      = (fun y : S8x128x1.Idx => R y + ((dcP U A D t (y 0) (y 1) : ℝ) : EReal))
          ((Rect.unit (s := S8x128x1) ![q, 0, 0] ![1, 128, 1] i4).emb x) := by
  idx_vars x
  rename' x0 => u, x1 => a, x2 => v
  obtain rfl : u = 0 := Subsingleton.elim _ _
  obtain rfl : v = 0 := Subsingleton.elim _ _
  refine (pay84_real _ _ _ (pair_real P (fun r d => dmx U A D (rb t r) (rs t r) d) hP o1 (by omega) s0 s1) a).trans ?_
  rw [slab_at (e := .f32) (n := 1) R q h1.2 i4 a 0, emb_slab (n := 1) q h1.2 i4 0 a 0]
  refine congrArg₂ _ rfl (congrArg _ ?_)
  refine Finset.sum_congr rfl fun k _ => ?_
  have e : (⟨a.val, by omega⟩ : Fin 256) = r0 a := Fin.ext (Nat.zero_add _).symm
  have ek : (⟨o1 + k.val, by omega⟩ : Fin 1024) = chan ⟨q, h1.2⟩ k := col_chan o1 q h1 k
  rw [e, ek]
  rfl

variable (h : Args m c U V A E Y D g b W o)
include h

/-! The rows of a block. -/

/-- The normalised, scaled and shifted rows of a block. -/
theorem vn_at (t : Fin cfg0.N) (r : Fin 256) (d : Fin 1024) :
    k0_pay26 (F := Ideal) (k0_pay20 (k0_pay11 (iblk m c 1 t))) (iblk m c 6 t) (iblk m c 7 t) (ix2 r d)
      = ((vn V g b (rb t r) (rs t r) d : ℝ) : EReal) :=
  pay26_real _ (fun r d => gv V (rb t r) (rs t r) d)
    (fun r d => pay20_real _ _ _ ((pay11_at _ _).trans (blk1 h t r d))) _ _ g b (blk6 h t) (blk7 h t) r d

/-- The activated rows under the norm. -/
theorem gv_at (t : Fin cfg0.N) (r : Fin 256) (d : Fin 1024) :
    k0_pay20 (F := Ideal) (k0_pay11 (iblk m c 1 t)) (ix2 r d) = ((gv V (rb t r) (rs t r) d : ℝ) : EReal) :=
  pay20_real _ _ _ ((pay11_at _ _).trans (blk1 h t r d))

/-- The cotangent of the mixed rows, as a word array and as the narrower copy. -/
theorem dmx_at (t : Fin cfg0.N) (r : Fin 256) (d : Fin 1024) :
    k0_pay65 (F := Ideal) (k0_pay6 (iblk m c 5 t)) (k0_pay15 (k0_pay10 (iblk m c 0 t)) (k0_pay12 (iblk m c 0 t))) (k0_pay60 (iblk m c 2 t)) (ix2 r d)
      = ((dmx U A D (rb t r) (rs t r) d : ℝ) : EReal) :=
  pay65_real _ _ _ _ _ _ _ ((pay6_at _ _).trans (blk5 h t r d)) ((pay60_at _ _).trans (blk2 h t r d)) (blk0 h t r d)

theorem dmxb_at (t : Fin cfg0.N) (r : Fin 256) (d : Fin 1024) :
    k0_pay66 (F := Ideal) (k0_pay6 (iblk m c 5 t)) (k0_pay15 (k0_pay10 (iblk m c 0 t)) (k0_pay12 (iblk m c 0 t))) (k0_pay60 (iblk m c 2 t)) (ix2 r d)
      = ((dmx U A D (rb t r) (rs t r) d : ℝ) : EReal) :=
  pay66_real _ _ _ _ _ _ _ ((pay6_at _ _).trans (blk5 h t r d)) ((pay60_at _ _).trans (blk2 h t r d)) (blk0 h t r d)

end Cert.MixerIdeal.Final

end
-- ==== Proof.Mixer.Final.lean ====
/- The kernel's result arrays over the reals. -/
module

public import proofs.«01_k».proof.Proof.Mixer.Stage
public import Idealize.ShloMosaic.Lib.Pipeline.ReadBack

@[expose] public section

set_option maxRecDepth 16384

noncomputable section

namespace Cert.MixerIdeal.Final

open Idealize.ShloMosaic Idealize.ShloMosaic.TcCoe Idealize.SL.Sem
open Cert.MixerIdeal Cert.MixerIdeal.Gen Cert.MixerIdeal.Body Cert.Reals Cert.MixSpec Cert.Tokens

variable {m : (ℓ : Loc nD τ sig) → Buf (Elt Ideal) ℓ} {c : Dev nD}
  {U V A E Y D : Fin 2 → Fin 2048 → Fin 1024 → ℝ} {g b : Fin 1024 → ℝ} {W : Fin 8 → Fin 128 → Fin 128 → ℝ}
  {o : Fin 8 → Fin 128 → ℝ}

/-- The four gradients of the projected rows side by side. -/
theorem emb_cols (q : ℕ) (inb) (r : Fin 256) (d : Fin 1024) (hq : q + 1024 ≤ 4096) :
    (Rect.unit (s := S256x4096) ![0, q] ![256, 1024] inb).emb (ix2 r d) = ix2 r ⟨q + d.val, by have := d.isLt; omega⟩ := by
  blk_ext

/-- A block's rows of the four gradients of the projected rows, by runs of 1024 columns. -/
def dzP (U V A E Y D : Fin 2 → Fin 2048 → Fin 1024 → ℝ) (g b : Fin 1024 → ℝ) (W : Fin 8 → Fin 128 → Fin 128 → ℝ)
    (o : Fin 8 → Fin 128 → ℝ) (t : Fin cfg0.N) (y : S256x4096.Idx) : EReal :=
  ((dz U V A E Y D g b W o (rb t (y 0)) (rs t (y 0)) (y 1) : ℝ) : EReal)

variable (t : Fin cfg0.N) (inb) (r : Fin 256) (d : Fin 1024)

theorem dz_u : ((du U V A D g b W o (rb t r) (rs t r) d : ℝ) : EReal)
    = dzP U V A E Y D g b W o t ((Rect.unit (s := S256x4096) ![0, 0] ![256, 1024] inb).emb (ix2 r d)) := by
  rw [emb_cols 0 inb r d (by decide)]
  refine congrArg _ ?_
  show _ = dz U V A E Y D g b W o (rb t r) (rs t r) ⟨0 + d.val, _⟩
  have := d.isLt
  unfold dz
  rw [dif_pos (by simp only []; omega)]
  exact congrArg _ (Fin.ext (Nat.zero_add _).symm)

theorem dz_v : ((dv U V A D g W (rb t r) (rs t r) d : ℝ) : EReal)
    = dzP U V A E Y D g b W o t ((Rect.unit (s := S256x4096) ![0, 1024] ![256, 1024] inb).emb (ix2 r d)) := by
  rw [emb_cols 1024 inb r d (by decide)]
  refine congrArg _ ?_
  show _ = dz U V A E Y D g b W o (rb t r) (rs t r) ⟨1024 + d.val, _⟩
  have := d.isLt
  unfold dz
  rw [dif_neg (by simp only []; omega), dif_pos (by simp only []; omega)]
  exact congrArg _ (Fin.ext (Nat.add_sub_cancel_left ..).symm)

theorem dz_a : ((da U V A D g b W o (rb t r) (rs t r) d : ℝ) : EReal)
    = dzP U V A E Y D g b W o t ((Rect.unit (s := S256x4096) ![0, 2048] ![256, 1024] inb).emb (ix2 r d)) := by
  rw [emb_cols 2048 inb r d (by decide)]
  refine congrArg _ ?_
  show _ = dz U V A E Y D g b W o (rb t r) (rs t r) ⟨2048 + d.val, _⟩
  have := d.isLt
  unfold dz
  rw [dif_neg (by simp only []; omega), dif_neg (by simp only []; omega), dif_pos (by simp only []; omega)]
  exact congrArg _ (Fin.ext (Nat.add_sub_cancel_left ..).symm)

theorem dz_e : ((de E Y D (rb t r) (rs t r) d : ℝ) : EReal)
    = dzP U V A E Y D g b W o t ((Rect.unit (s := S256x4096) ![0, 3072] ![256, 1024] inb).emb (ix2 r d)) := by
  rw [emb_cols 3072 inb r d (by decide)]
  refine congrArg _ ?_
  show _ = dz U V A E Y D g b W o (rb t r) (rs t r) ⟨3072 + d.val, _⟩
  have := d.isLt
  unfold dz
  rw [dif_neg (by simp only []; omega), dif_neg (by simp only []; omega), dif_neg (by simp only []; omega)]
  exact congrArg _ (Fin.ext (Nat.add_sub_cancel_left ..).symm)

variable (h : Args m c U V A E Y D g b W o)
include h

/-! One point. -/

set_option maxHeartbeats 2000000 in
theorem point15_A (t : Fin cfg0.N) (h0 : t.val % 16 = 0) (j : S8x128x128.Idx) :
    (outsAt0 m c t.val t.isLt).2.2.2.2.1 j = (0 : EReal) + ((dwP U V A D g b t (j 0) (j 1) (j 2) : ℝ) : EReal) := by
  rw [outsAt0_A m c t h0]
  frame_open
  simp (disch := decide) only [↓ View.readCov_skip, ↓ View.readCov_cons_toLoadRect, ↓ View.readCov_fill]
  frame_out
  refine (View.canon_append_of_piecesOf (fun y : S8x128x128.Idx => Ideal.ofBits .f32 0x00000000#32 + ((dwP U V A D g b t (y 0) (y 1) (y 2) : ℝ) : EReal))
    [_] [_, _, _, _, _, _, _, _] ?_ j ?_).trans (by pointwise)
  · refine ⟨?_, ?_, ?_, ?_, ?_, ?_, ?_, ?_, trivial⟩ <;>
      exact dwTile t _ _ _ (dmxb_at h t) (vn_at h t) _ _ (by decide) _ _ _ _ _
  · exact View.cover_of_tiled_head _ _ _ rfl j

set_option maxHeartbeats 2000000 in
theorem point15_B (t : Fin cfg0.N) (h0 : ¬ t.val % 16 = 0) (j : S8x128x128.Idx) :
    (outsAt0 m c t.val t.isLt).2.2.2.2.1 j
      = (outsAt0 m c (t.val - 1) (by have := t.isLt; omega)).2.2.2.2.1 j + ((dwP U V A D g b t (j 0) (j 1) (j 2) : ℝ) : EReal) := by
  rw [outsAt0_B m c t h0]
  frame_open
  simp (disch := decide) only [↓ View.readCov_skip, ↓ View.readCov_cons_toLoadRect, ↓ View.readCov_fill]
  frame_out
  refine View.canon_append_of_piecesOf (fun y : S8x128x128.Idx => (outsAt0 m c (t.val - 1) (by have := t.isLt; omega)).2.2.2.2.1 y
    + ((dwP U V A D g b t (y 0) (y 1) (y 2) : ℝ) : EReal)) [] [_, _, _, _, _, _, _, _] ?_ j ?_
  · refine ⟨?_, ?_, ?_, ?_, ?_, ?_, ?_, ?_, trivial⟩ <;>
      exact dwTile t _ _ _ (dmxb_at h t) (vn_at h t) _ _ (by decide) _ _ _ _ _
  · exact View.cover_of_tiled_head _ _ _ rfl j

set_option maxHeartbeats 2000000 in
theorem point16_A (t : Fin cfg0.N) (h0 : t.val % 16 = 0) (j : S8x128x1.Idx) :
    (outsAt0 m c t.val t.isLt).2.2.2.2.2 j = (0 : EReal) + ((dcP U A D t (j 0) (j 1) : ℝ) : EReal) := by
  rw [outsAt0_A m c t h0]
  frame_open
  simp (disch := decide) only [↓ View.readCov_skip, ↓ View.readCov_cons_toLoadRect, ↓ View.readCov_fill]
  frame_out
  refine (View.canon_append_of_piecesOf (fun y : S8x128x1.Idx => Ideal.ofBits .f32 0x00000000#32 + ((dcP U A D t (y 0) (y 1) : ℝ) : EReal))
    [_] [_, _, _, _, _, _, _, _] ?_ j ?_).trans (by pointwise)
  · refine ⟨?_, ?_, ?_, ?_, ?_, ?_, ?_, ?_, trivial⟩ <;>
      exact dcTile t _ _ (dmx_at h t) _ _ (by decide) _ _ _
  · exact View.cover_of_tiled_head _ _ _ rfl j

set_option maxHeartbeats 2000000 in
theorem point16_B (t : Fin cfg0.N) (h0 : ¬ t.val % 16 = 0) (j : S8x128x1.Idx) :
    (outsAt0 m c t.val t.isLt).2.2.2.2.2 j
      = (outsAt0 m c (t.val - 1) (by have := t.isLt; omega)).2.2.2.2.2 j + ((dcP U A D t (j 0) (j 1) : ℝ) : EReal) := by
  rw [outsAt0_B m c t h0]
  frame_open
  simp (disch := decide) only [↓ View.readCov_skip, ↓ View.readCov_cons_toLoadRect, ↓ View.readCov_fill]
  frame_out
  refine View.canon_append_of_piecesOf (fun y : S8x128x1.Idx => (outsAt0 m c (t.val - 1) (by have := t.isLt; omega)).2.2.2.2.2 y
    + ((dcP U A D t (y 0) (y 1) : ℝ) : EReal)) [] [_, _, _, _, _, _, _, _] ?_ j ?_
  · refine ⟨?_, ?_, ?_, ?_, ?_, ?_, ?_, ?_, trivial⟩ <;>
      exact dcTile t _ _ (dmx_at h t) _ _ (by decide) _ _ _
  · exact View.cover_of_tiled_head _ _ _ rfl j

omit h in
/-- A load of the whole scratch after stores that are blocks of `G` and cover it reads `G`. -/
theorem whole_read {sp : Space} (v : View sig .tc sp S256x1024 .f32) (L : List (View.Piece (Elt Ideal) S256x1024 .f32)) (inb)
    (G : S256x1024.Idx → EReal) (r : Fin 256) (d : Fin 1024) (hG : View.PiecesOf (Val := Elt Ideal) (s := S256x1024) (e := .f32) G L)
    (hc : ∀ y, ∃ p ∈ L, y ∈ p.1.set) :
    v.readCov L (Rect.unit (s := S256x1024) ![0, 0] ![256, 1024] inb).toLoadRect (ix2 r d) = G (ix2 r d) := by
  rw [View.readCov_eq_canon']
  have e : (Rect.unit (s := S256x1024) ![0, 0] ![256, 1024] inb).toLoadRect.idx (ix2 r d) = ix2 r d := by
    funext a
    refine Fin.ext ?_
    fin_cases a
    · show 0 + 1 * r.val = r.val; omega
    · show 0 + 1 * d.val = d.val; omega
  exact (congrArg (View.canon L) e).trans (View.canon_apply_of_pieces (Val := Elt Ideal) G L hG.mem _ (hc _))

set_option maxHeartbeats 2000000 in
theorem point13_A (t : Fin cfg0.N) (h0 : t.val % 16 = 0) (d : Fin 1024) :
    (outsAt0 m c t.val t.isLt).2.2.1 (ix2 0 d)
      = (0 : EReal) + ((∑ r, dvn U A D W (rb t r) (rs t r) d * nrm (gv V (rb t r) (rs t r)) d : ℝ) : EReal) := by
  rw [outsAt0_A m c t h0]
  frame_open
  simp (disch := decide) only [↓ View.readCov_skip, ↓ View.readCov_cons_toLoadRect, ↓ View.readCov_fill]
  frame_out
  refine (pay127_real _ _ (gv_at h t) _ _ (fun r d => dvn U A D W (rb t r) (rs t r) d) (fun r d => whole_read _ _ _ (dvnG (U := U) (A := A) (D := D) (W := W) t) r d ?_ ?_) d).trans
    (congrArg (· + _) (by pointwise))
  · refine ⟨?_, ?_, ?_, ?_, ?_, ?_, ?_, ?_, ?_, ?_, ?_, ?_, ?_, ?_, ?_, ?_, trivial⟩ <;>
      exact dvnTile h t _ (dmxb_at h t) _ _ _ (by decide) (by decide) _ _
  · exact View.cover_of_tiled_head _ _ _ rfl

set_option maxHeartbeats 2000000 in
theorem point13_B (t : Fin cfg0.N) (h0 : ¬ t.val % 16 = 0) (d : Fin 1024) :
    (outsAt0 m c t.val t.isLt).2.2.1 (ix2 0 d)
      = (outsAt0 m c (t.val - 1) (by have := t.isLt; omega)).2.2.1 (ix2 0 d) + ((∑ r, dvn U A D W (rb t r) (rs t r) d * nrm (gv V (rb t r) (rs t r)) d : ℝ) : EReal) := by
  rw [outsAt0_B m c t h0]
  frame_open
  simp (disch := decide) only [↓ View.readCov_skip, ↓ View.readCov_cons_toLoadRect, ↓ View.readCov_fill]
  frame_out
  refine (pay127_real _ _ (gv_at h t) _ _ (fun r d => dvn U A D W (rb t r) (rs t r) d) (fun r d => whole_read _ _ _ (dvnG (U := U) (A := A) (D := D) (W := W) t) r d ?_ ?_) d)
  · refine ⟨?_, ?_, ?_, ?_, ?_, ?_, ?_, ?_, ?_, ?_, ?_, ?_, ?_, ?_, ?_, ?_, trivial⟩ <;>
      exact dvnTile h t _ (dmxb_at h t) _ _ _ (by decide) (by decide) _ _
  · exact View.cover_of_tiled_head _ _ _ rfl

set_option maxHeartbeats 2000000 in
theorem point14_A (t : Fin cfg0.N) (h0 : t.val % 16 = 0) (d : Fin 1024) :
    (outsAt0 m c t.val t.isLt).2.2.2.1 (ix2 0 d) = (0 : EReal) + ((∑ r, dvn U A D W (rb t r) (rs t r) d : ℝ) : EReal) := by
  rw [outsAt0_A m c t h0]
  frame_open
  simp (disch := decide) only [↓ View.readCov_skip, ↓ View.readCov_cons_toLoadRect, ↓ View.readCov_fill]
  frame_out
  refine (pay128_real _ _ (fun r d => dvn U A D W (rb t r) (rs t r) d) (fun r d => whole_read _ _ _ (dvnG (U := U) (A := A) (D := D) (W := W) t) r d ?_ ?_) d).trans
    (congrArg (· + _) (by pointwise))
  · refine ⟨?_, ?_, ?_, ?_, ?_, ?_, ?_, ?_, ?_, ?_, ?_, ?_, ?_, ?_, ?_, ?_, trivial⟩ <;>
      exact dvnTile h t _ (dmxb_at h t) _ _ _ (by decide) (by decide) _ _
  · exact View.cover_of_tiled_head _ _ _ rfl

set_option maxHeartbeats 2000000 in
theorem point14_B (t : Fin cfg0.N) (h0 : ¬ t.val % 16 = 0) (d : Fin 1024) :
    (outsAt0 m c t.val t.isLt).2.2.2.1 (ix2 0 d)
      = (outsAt0 m c (t.val - 1) (by have := t.isLt; omega)).2.2.2.1 (ix2 0 d) + ((∑ r, dvn U A D W (rb t r) (rs t r) d : ℝ) : EReal) := by
  rw [outsAt0_B m c t h0]
  frame_open
  simp (disch := decide) only [↓ View.readCov_skip, ↓ View.readCov_cons_toLoadRect, ↓ View.readCov_fill]
  frame_out
  refine (pay128_real _ _ (fun r d => dvn U A D W (rb t r) (rs t r) d) (fun r d => whole_read _ _ _ (dvnG (U := U) (A := A) (D := D) (W := W) t) r d ?_ ?_) d)
  · refine ⟨?_, ?_, ?_, ?_, ?_, ?_, ?_, ?_, ?_, ?_, ?_, ?_, ?_, ?_, ?_, ?_, trivial⟩ <;>
      exact dvnTile h t _ (dmxb_at h t) _ _ _ (by decide) (by decide) _ _
  · exact View.cover_of_tiled_head _ _ _ rfl

set_option maxHeartbeats 2000000 in
theorem point11 (t : Fin cfg0.N) (j : S256x4096.Idx) : (outsAt0 m c t.val t.isLt).1 j = dzP U V A E Y D g b W o t j := by
  by_cases h0 : t.val % 16 = 0
  on_goal 1 => rw [outsAt0_A m c t h0]
  on_goal 2 => rw [outsAt0_B m c t h0]
  all_goals
    frame_open
    simp (disch := decide) only [↓ View.readCov_skip, ↓ View.readCov_cons_toLoadRect, ↓ View.readCov_fill]
    frame_out
    refine (View.canon_append_of_piecesOf (Val := Elt Ideal) (s := S256x4096) (e := .bf16) (dzP U V A E Y D g b W o t) []
      [_, _, _, _] ⟨fun x => ?_, fun x => ?_, fun x => ?_, fun x => ?_, trivial⟩ j ?_)
    · idx_vars x
      refine (pay129_real _ _ (gv_at h t) _ _ _ (fun r d => gd (V (rb t r) (rs t r) d)) (fun r d => dvn U A D W (rb t r) (rs t r) d) g
        (fun r d => pay22_real (k0_pay11 (iblk m c 1 t)) _ _ ((pay11_at _ _).trans (blk1 h t r d)))
        (fun r d => whole_read _ _ _ (dvnG (U := U) (A := A) (D := D) (W := W) t) r d ?_ ?_) (blk6 h t) x0 x1).trans ?_
      · refine ⟨?_, ?_, ?_, ?_, ?_, ?_, ?_, ?_, ?_, ?_, ?_, ?_, ?_, ?_, ?_, ?_, trivial⟩ <;>
          exact dvnTile h t _ (dmxb_at h t) _ _ _ (by decide) (by decide) _ _
      · exact View.cover_of_tiled_head _ _ _ rfl
      · exact dz_v t _ x0 x1
    · idx_vars x
      refine (pay64_real (k0_pay6 (iblk m c 5 t)) (k0_pay60 (iblk m c 2 t)) (iblk m c 0 t) _ _ _ _ _ (mixed V g b W o (rb t x0) (rs t x0) x1)
        ((pay6_at _ _).trans (blk5 h t x0 x1)) ((pay60_at _ _).trans (blk2 h t x0 x1)) (blk0 h t x0 x1)
        (whole_read _ _ _ (mixG (V := V) (g := g) (b := b) (W := W) (o := o) t) x0 x1 ?_ ?_)).trans ?_
      · refine ⟨?_, ?_, ?_, ?_, ?_, ?_, ?_, ?_, ?_, ?_, ?_, ?_, ?_, ?_, ?_, ?_, trivial⟩ <;>
          exact mixTile h t _ (vn_at h t) _ _ _ (by decide) (by decide) _ _ _
      · exact View.cover_of_tiled_head _ _ _ rfl
      · exact dz_u t _ x0 x1
    · idx_vars x
      refine (pay63_real (k0_pay6 (iblk m c 5 t)) (k0_pay60 (iblk m c 2 t)) (iblk m c 0 t) _ _ _ _ _ (mixed V g b W o (rb t x0) (rs t x0) x1)
        ((pay6_at _ _).trans (blk5 h t x0 x1)) ((pay60_at _ _).trans (blk2 h t x0 x1)) (blk0 h t x0 x1)
        (whole_read _ _ _ (mixG (V := V) (g := g) (b := b) (W := W) (o := o) t) x0 x1 ?_ ?_)).trans ?_
      · refine ⟨?_, ?_, ?_, ?_, ?_, ?_, ?_, ?_, ?_, ?_, ?_, ?_, ?_, ?_, ?_, ?_, trivial⟩ <;>
          exact mixTile h t _ (vn_at h t) _ _ _ (by decide) (by decide) _ _ _
      · exact View.cover_of_tiled_head _ _ _ rfl
      · exact dz_a t _ x0 x1
    · idx_vars x
      refine (pay9_real _ _ _ _ _ _ _ (blk5 h t x0 x1) (blk3 h t x0 x1) (blk4 h t x0 x1)).trans ?_
      exact dz_e t _ x0 x1
    · exact View.cover_of_tiled_head _ _ _ rfl j

theorem point12 (t : Fin cfg0.N) (r : Fin 256) (d : Fin 1024) :
    (outsAt0 m c t.val t.isLt).2.1 (ix2 r d) = ((dy E D (rb t r) (rs t r) d : ℝ) : EReal) := by
  by_cases h0 : t.val % 16 = 0
  on_goal 1 => rw [outsAt0_A m c t h0]
  on_goal 2 => rw [outsAt0_B m c t h0]
  all_goals
    frame_out
    exact pay8_real _ _ _ _ _ (blk5 h t r d) (blk3 h t r d)

end Cert.MixerIdeal.Final

end
-- ==== Proof.Mixer.Arrays.lean ====
/- The six output arrays of the gating kernel, each one function of the arguments. -/
module

public import proofs.«01_k».proof.Proof.Mixer.Final

@[expose] public section

set_option maxRecDepth 16384

noncomputable section

namespace Cert.MixerIdeal.Arrays

open Idealize.ShloMosaic Idealize.ShloMosaic.TcCoe
open Cert.MixerIdeal Cert.MixerIdeal.Gen Cert.MixerIdeal.Body Cert.MixerIdeal.Final
open Cert.Reals Cert.MixSpec Cert.Tokens

/-- A sum over the chunks of both sequences, two chunks a block. -/
theorem sum_chunks (f : Fin 2 → Fin 16 → ℝ) :
    ∑ i, ∑ n, f i n = ∑ t : Fin 16, (f ⟨t.val / 8, by omega⟩ ⟨2 * (t.val % 8), by omega⟩
      + f ⟨t.val / 8, by omega⟩ ⟨2 * (t.val % 8) + 1, by omega⟩) := by
  rw [Fin.sum_univ_tiles 2 8 rfl (fun t : Fin 16 => f ⟨t.val / 8, by omega⟩ ⟨2 * (t.val % 8), by omega⟩
      + f ⟨t.val / 8, by omega⟩ ⟨2 * (t.val % 8) + 1, by omega⟩)]
  refine Finset.sum_congr rfl fun i _ => ?_
  rw [Fin.sum_univ_tiles 8 2 rfl (f i)]
  refine Finset.sum_congr rfl fun j _ => ?_
  rw [Fin.sum_univ_two]
  have hi := i.isLt
  have hj := j.isLt
  congr 1
  · congr 1 <;> exact Fin.ext (by simp only [Fin.val_zero]; omega)
  · congr 1 <;> exact Fin.ext (by simp only [Fin.val_one]; omega)

theorem tok0 (t : Fin cfg0.N) (h : t.val < 16) (a : Fin 128) :
    rb t (r0 a) = ⟨t.val / 8, by omega⟩ ∧ rs t (r0 a) = at' ⟨2 * (t.val % 8), by omega⟩ a := by
  have := a.isLt
  constructor <;> exact Fin.ext (by simp only [rb, rs, tb, ts, r0, row, at']; omega)

theorem tok1 (t : Fin cfg0.N) (h : t.val < 16) (a : Fin 128) :
    rb t (r1 a) = ⟨t.val / 8, by omega⟩ ∧ rs t (r1 a) = at' ⟨2 * (t.val % 8) + 1, by omega⟩ a := by
  have := a.isLt
  constructor <;> exact Fin.ext (by simp only [rb, rs, tb, ts, r1, row, at']; omega)

variable {m : (ℓ : Loc nD τ sig) → Buf (Elt Ideal) ℓ} {c : Dev nD}
  {U V A E Y D : Fin 2 → Fin 2048 → Fin 1024 → ℝ} {g b : Fin 1024 → ℝ} {W : Fin 8 → Fin 128 → Fin 128 → ℝ}
  {o : Fin 8 → Fin 128 → ℝ} (h : Args m c U V A E Y D g b W o)
include h

/-- The four gradients of the projected rows, token by token. -/
theorem final11 : (dats m 0 c).arrAt 11 (cfgs 0).N
    = fun i : S4096x4096.Idx => ((dz U V A E Y D g b W o (tb (i 0).val (i 0).isLt) (ts (i 0).val) (i 1) : ℝ) : EReal) := by
  refine (dats m 0 c).arrAt_eq_of_covers 11 _ (by decide +kernel) fun t _ y => ?_
  have e : ∀ y : S256x4096.Idx, ((dz U V A E Y D g b W o (rb t (y 0)) (rs t (y 0)) (y 1) : ℝ) : EReal)
      = (fun i : S4096x4096.Idx => ((dz U V A E Y D g b W o (tb (i 0).val (i 0).isLt) (ts (i 0).val) (i 1) : ℝ) : EReal)) (((cfg0.win 11).blk t).view.emb y) := by
    intro y; idx_vars y; blk_simp [idx t]
    exact congrArg (fun z => ((dz U V A E Y D g b W o _ _ z : ℝ) : EReal)) (Fin.ext (by blk_simp [idx t]))
  refine Eq.trans ?_ (e y)
  blk_simp
  rw [after0_11]
  exact point11 h t y

/-- The attention branch's gradient, token by token. -/
theorem final12 : (dats m 0 c).arrAt 12 (cfgs 0).N
    = fun i : S4096x1024.Idx => ((dy E D (tb (i 0).val (i 0).isLt) (ts (i 0).val) (i 1) : ℝ) : EReal) := by
  refine (dats m 0 c).arrAt_eq_of_covers 12 _ (by decide +kernel) fun t _ y => ?_
  have e : ∀ y : S256x1024.Idx, ((dy E D (rb t (y 0)) (rs t (y 0)) (y 1) : ℝ) : EReal)
      = (fun i : S4096x1024.Idx => ((dy E D (tb (i 0).val (i 0).isLt) (ts (i 0).val) (i 1) : ℝ) : EReal)) (((cfg0.win 12).blk t).view.emb y) := by
    intro y; idx_vars y; blk_simp [idx t]
    exact congrArg (fun z => ((dy E D _ _ z : ℝ) : EReal)) (Fin.ext (by blk_simp [idx t]))
  refine Eq.trans ?_ (e y)
  blk_simp
  rw [after0_12]
  idx_vars y
  exact point12 h t y0 y1

/-- The gradient of the norm's scale. -/
theorem final13 : (dats m 0 c).arrAt 13 (cfgs 0).N = fun i : S1x1024.Idx => ((dg U V A D W (i 1) : ℝ) : EReal) := by
  refine (dats m 0 c).arrAt_eq_of_after_last 13 t0_15 (by decide +kernel) _ fun j => ?_
  blk_simp
  rw [after0_13, Pipeline.eq_sum_fin_of_reset_step_apply_last (fun n h => (outsAt0 m c n h).2.2.1) 16 (fun _ => 0)
    (fun (p : Fin cfg0.N) (j : S1x1024.Idx) => ((∑ r, dvn U A D W (rb p r) (rs p r) (j 1) * nrm (gv V (rb p r) (rs p r)) (j 1) : ℝ) : EReal))
    (fun t h0 j => by idx_vars j; have e0 : j0 = 0 := Subsingleton.elim _ _; subst e0; exact point13_A h t h0 j1)
    (fun t h0 j => by idx_vars j; have e0 : j0 = 0 := Subsingleton.elim _ _; subst e0; exact point13_B h t h0 j1)
    (le_of_eq N_0) t0_15 rfl j, zero_add]
  refine (coe_sum _ _).trans (congrArg _ ?_)
  show _ = dg U V A D W (j 1)
  unfold dg
  rw [sum_tiles 16 256 rfl]
  rfl

/-- The gradient of the norm's shift. -/
theorem final14 : (dats m 0 c).arrAt 14 (cfgs 0).N = fun i : S1x1024.Idx => ((db U A D W (i 1) : ℝ) : EReal) := by
  refine (dats m 0 c).arrAt_eq_of_after_last 14 t0_15 (by decide +kernel) _ fun j => ?_
  blk_simp
  rw [after0_14, Pipeline.eq_sum_fin_of_reset_step_apply_last (fun n h => (outsAt0 m c n h).2.2.2.1) 16 (fun _ => 0)
    (fun (p : Fin cfg0.N) (j : S1x1024.Idx) => ((∑ r, dvn U A D W (rb p r) (rs p r) (j 1) : ℝ) : EReal))
    (fun t h0 j => by idx_vars j; have e0 : j0 = 0 := Subsingleton.elim _ _; subst e0; exact point14_A h t h0 j1)
    (fun t h0 j => by idx_vars j; have e0 : j0 = 0 := Subsingleton.elim _ _; subst e0; exact point14_B h t h0 j1)
    (le_of_eq N_0) t0_15 rfl j, zero_add]
  refine (coe_sum _ _).trans (congrArg _ ?_)
  show _ = db U A D W (j 1)
  unfold db
  rw [sum_tiles 16 256 rfl]
  rfl

/-- The gradient of the spatial weights. -/
theorem final15 : (dats m 0 c).arrAt 15 (cfgs 0).N
    = fun i : S8x128x128.Idx => ((dw U V A D g b (i 0) (i 1) (i 2) : ℝ) : EReal) := by
  refine (dats m 0 c).arrAt_eq_of_after_last 15 t0_15 (by decide +kernel) _ fun j => ?_
  blk_simp
  rw [after0_15, Pipeline.eq_sum_fin_of_reset_step_apply_last (fun n h => (outsAt0 m c n h).2.2.2.2.1) 16 (fun _ => 0)
    (fun (p : Fin cfg0.N) (j : S8x128x128.Idx) => ((dwP U V A D g b p (j 0) (j 1) (j 2) : ℝ) : EReal))
    (fun t h0 j => point15_A h t h0 j) (fun t h0 j => point15_B h t h0 j)
    (le_of_eq N_0) t0_15 rfl j, zero_add]
  refine (coe_sum _ _).trans (congrArg _ ?_)
  show _ = dw U V A D g b (j 0) (j 1) (j 2)
  unfold dw dwP
  by_cases hp : (j 2).val ≤ (j 1).val
  · simp only [if_pos hp]
    rw [sum_chunks]
    refine Finset.sum_congr rfl fun t _ => ?_
    rw [(tok0 _ t.isLt (j 1)).1, (tok0 _ t.isLt (j 1)).2, (tok0 _ t.isLt (j 2)).1, (tok0 _ t.isLt (j 2)).2,
      (tok1 _ t.isLt (j 1)).1, (tok1 _ t.isLt (j 1)).2, (tok1 _ t.isLt (j 2)).1, (tok1 _ t.isLt (j 2)).2]
  · simp only [if_neg hp]
    exact Finset.sum_const_zero

/-- The gradient of the spatial shift. -/
theorem final16 : (dats m 0 c).arrAt 16 (cfgs 0).N = fun i : S8x128x1.Idx => ((dc U A D (i 0) (i 1) : ℝ) : EReal) := by
  refine (dats m 0 c).arrAt_eq_of_after_last 16 t0_15 (by decide +kernel) _ fun j => ?_
  blk_simp
  rw [after0_16, Pipeline.eq_sum_fin_of_reset_step_apply_last (fun n h => (outsAt0 m c n h).2.2.2.2.2) 16 (fun _ => 0)
    (fun (p : Fin cfg0.N) (j : S8x128x1.Idx) => ((dcP U A D p (j 0) (j 1) : ℝ) : EReal))
    (fun t h0 j => point16_A h t h0 j) (fun t h0 j => point16_B h t h0 j)
    (le_of_eq N_0) t0_15 rfl j, zero_add]
  refine (coe_sum _ _).trans (congrArg _ ?_)
  show _ = dc U A D (j 0) (j 1)
  unfold dc dcP
  rw [sum_chunks]
  refine Finset.sum_congr rfl fun t _ => ?_
  rw [(tok0 _ t.isLt (j 1)).1, (tok0 _ t.isLt (j 1)).2, (tok1 _ t.isLt (j 1)).1, (tok1 _ t.isLt (j 1)).2]
  exact Finset.sum_add_distrib

end Cert.MixerIdeal.Arrays

end
-- ==== Proof.Mixer.Equal.lean ====
/- The gates and the spatial gating: kernel and reference compute the same gradients over the reals. -/
module

public import proofs.«01_k».proof.Defs
public import proofs.«01_k».proof.Proof.Gen.Pre_mix_finite
public import proofs.«01_k».proof.Proof.Gen.MixerIdeal.Value
public import proofs.«01_k».proof.Proof.Gen.MixerRefIdeal.Run
public import proofs.«01_k».proof.Proof.Mixer.Layout
public import proofs.«01_k».proof.Proof.Mixer.Arrays
public import Idealize.ShloMosaic.Lib.Claim

@[expose] public section

set_option maxRecDepth 16384

noncomputable section

namespace Cert.MixerIdeal.Equal

open Idealize.ShloMosaic Idealize.ShloMosaic.TcCoe Idealize.SL.Sem
open Cert.MixerIdeal Cert.MixerIdeal.Gen Cert.MixerIdeal.Body Cert.MixerIdeal.Final Cert.MixerIdeal.Arrays Cert.Reals Cert.MixSpec Cert.Tokens

/-- The finite arguments are images of their real parts. -/
theorem args_of_pre (m : (ℓ : Loc nD τ sig) → Buf (Elt Ideal) ℓ) (hp : Cert.Pre_MixerIdeal_mix_finite m) (c : Dev nD) :
    ∃ U V A E Y D g b W o, Args m c U V A E Y D g b W o := by
  obtain ⟨p0, p1, p2, p3, p4, p5, p6, p7, p8, p9⟩ := hp c
  exact ⟨_, _, _, _, _, _, _, _, _, _, fun _ _ _ => real_of_abs_lt _ _ p0 _, fun _ _ _ => real_of_abs_lt _ _ p1 _,
    fun _ _ _ => real_of_abs_lt _ _ p2 _, fun _ _ _ => real_of_abs_lt _ _ p3 _, fun _ _ _ => real_of_abs_lt _ _ p4 _,
    fun _ => real_of_abs_lt _ _ p5 _, fun _ => real_of_abs_lt _ _ p6 _, fun _ _ _ => real_of_abs_lt _ _ p7 _,
    fun _ _ => real_of_abs_lt _ _ p8 _, fun _ _ _ => real_of_abs_lt _ _ p9 _⟩

open Cert.MixerRefIdeal.Read Cert.MixerRefIdeal.Reads

variable {m : (ℓ : Loc nD τ sig) → Buf (Elt Ideal) ℓ} {c : Dev nD}
  {U V A E Y D : Fin 2 → Fin 2048 → Fin 1024 → ℝ} {g b : Fin 1024 → ℝ} {W : Fin 8 → Fin 128 → Fin 128 → ℝ}
  {o : Fin 8 → Fin 128 → ℝ} (h : Args m c U V A E Y D g b W o)
include h

/-! The reference's six results. -/

theorem ref_dz : val_main_v193 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
    = fun i : S4096x4096.Idx => ((dz U V A E Y D g b W o (tb (i 0).val (i 0).isLt) (ts (i 0).val) (i 1) : ℝ) : EReal) := by
  funext i
  idx_vars i
  exact v193_real _ _ _ _ _ _ _ _ _ _ U V A E Y D g b W o h.hU h.hV h.hA h.hE h.hY h.hg h.hb h.hW h.ho h.hD i0 i1

theorem ref_dy : val_main_v195 (F := Ideal) (m ((c : Thread nD τ).loc main_arg3)) (m ((c : Thread nD τ).loc main_arg9))
    = fun i : S4096x1024.Idx => ((dy E D (tb (i 0).val (i 0).isLt) (ts (i 0).val) (i 1) : ℝ) : EReal) := by
  funext i
  idx_vars i
  exact v195_real _ _ E D h.hE h.hD i0 i1

theorem ref_dg : val_main_v196 (F := Ideal) (m ((c : Thread nD τ).loc main_arg0)) (m ((c : Thread nD τ).loc main_arg1)) (m ((c : Thread nD τ).loc main_arg2)) (m ((c : Thread nD τ).loc main_arg7)) (m ((c : Thread nD τ).loc main_arg9))
    = fun i : S1x1024.Idx => ((dg U V A D W (i 1) : ℝ) : EReal) := by
  funext i
  refine Eq.trans (congrArg _ ?_) (v196_real _ _ _ _ _ U V A D W h.hU h.hV h.hA h.hW h.hD (i 1))
  idx_vars i
  idx_ext

theorem ref_db : val_main_v197 (F := Ideal) (m ((c : Thread nD τ).loc main_arg0)) (m ((c : Thread nD τ).loc main_arg2)) (m ((c : Thread nD τ).loc main_arg7)) (m ((c : Thread nD τ).loc main_arg9))
    = fun i : S1x1024.Idx => ((db U A D W (i 1) : ℝ) : EReal) := by
  funext i
  refine Eq.trans (congrArg _ ?_) (v197_real _ _ _ _ U A D W h.hU h.hA h.hW h.hD (i 1))
  idx_vars i
  idx_ext

theorem ref_dw : val_main_v132 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg9))
    = fun i : S8x128x128.Idx => ((dw U V A D g b (i 0) (i 1) (i 2) : ℝ) : EReal) := by
  funext i
  idx_vars i
  exact v132_real _ _ _ _ _ _ U V A D g b h.hU h.hV h.hA h.hg h.hb h.hD i0 i1 i2

theorem ref_dc : val_main_v198 (F := Ideal) (m ((c : Thread nD τ).loc main_arg0)) (m ((c : Thread nD τ).loc main_arg2)) (m ((c : Thread nD τ).loc main_arg9))
    = fun i : S8x128x1.Idx => ((dc U A D (i 0) (i 1) : ℝ) : EReal) := by
  funext i
  idx_vars i
  exact v198_real _ _ _ U A D h.hU h.hA h.hD i0 i1 i2

omit h in
/-- The reference's run, each result the last stage of its arguments. -/
theorem ref_run (m : (ℓ : Loc Cert.MixerRefIdeal.nD Cert.MixerRefIdeal.τ Cert.MixerRefIdeal.sig) → Buf (Elt Ideal) ℓ) (ρ : Dev Cert.MixerRefIdeal.nD → PrngReg) :
    θ_run Cert.MixerRefIdeal.defs (onTc (τ := Cert.MixerRefIdeal.τ) (Cert.MixerRefIdeal.main (F := Ideal))) ⟨m, fun _ => 0, ρ⟩ fun r => ∀ c : Dev Cert.MixerRefIdeal.nD,
      r.2.mem ((c.tc : Thread Cert.MixerRefIdeal.nD Cert.MixerRefIdeal.τ).loc Cert.MixerRefIdeal.main_v193) = val_main_v193 (F := Ideal) (m ((c.tc : Thread Cert.MixerRefIdeal.nD Cert.MixerRefIdeal.τ).loc Cert.MixerRefIdeal.main_arg0)) (m ((c.tc : Thread Cert.MixerRefIdeal.nD Cert.MixerRefIdeal.τ).loc Cert.MixerRefIdeal.main_arg1)) (m ((c.tc : Thread Cert.MixerRefIdeal.nD Cert.MixerRefIdeal.τ).loc Cert.MixerRefIdeal.main_arg2)) (m ((c.tc : Thread Cert.MixerRefIdeal.nD Cert.MixerRefIdeal.τ).loc Cert.MixerRefIdeal.main_arg3)) (m ((c.tc : Thread Cert.MixerRefIdeal.nD Cert.MixerRefIdeal.τ).loc Cert.MixerRefIdeal.main_arg4)) (m ((c.tc : Thread Cert.MixerRefIdeal.nD Cert.MixerRefIdeal.τ).loc Cert.MixerRefIdeal.main_arg5)) (m ((c.tc : Thread Cert.MixerRefIdeal.nD Cert.MixerRefIdeal.τ).loc Cert.MixerRefIdeal.main_arg6)) (m ((c.tc : Thread Cert.MixerRefIdeal.nD Cert.MixerRefIdeal.τ).loc Cert.MixerRefIdeal.main_arg7)) (m ((c.tc : Thread Cert.MixerRefIdeal.nD Cert.MixerRefIdeal.τ).loc Cert.MixerRefIdeal.main_arg8)) (m ((c.tc : Thread Cert.MixerRefIdeal.nD Cert.MixerRefIdeal.τ).loc Cert.MixerRefIdeal.main_arg9))
      ∧ r.2.mem ((c.tc : Thread Cert.MixerRefIdeal.nD Cert.MixerRefIdeal.τ).loc Cert.MixerRefIdeal.main_v195) = val_main_v195 (F := Ideal) (m ((c.tc : Thread Cert.MixerRefIdeal.nD Cert.MixerRefIdeal.τ).loc Cert.MixerRefIdeal.main_arg3)) (m ((c.tc : Thread Cert.MixerRefIdeal.nD Cert.MixerRefIdeal.τ).loc Cert.MixerRefIdeal.main_arg9))
      ∧ r.2.mem ((c.tc : Thread Cert.MixerRefIdeal.nD Cert.MixerRefIdeal.τ).loc Cert.MixerRefIdeal.main_v196) = val_main_v196 (F := Ideal) (m ((c.tc : Thread Cert.MixerRefIdeal.nD Cert.MixerRefIdeal.τ).loc Cert.MixerRefIdeal.main_arg0)) (m ((c.tc : Thread Cert.MixerRefIdeal.nD Cert.MixerRefIdeal.τ).loc Cert.MixerRefIdeal.main_arg1)) (m ((c.tc : Thread Cert.MixerRefIdeal.nD Cert.MixerRefIdeal.τ).loc Cert.MixerRefIdeal.main_arg2)) (m ((c.tc : Thread Cert.MixerRefIdeal.nD Cert.MixerRefIdeal.τ).loc Cert.MixerRefIdeal.main_arg7)) (m ((c.tc : Thread Cert.MixerRefIdeal.nD Cert.MixerRefIdeal.τ).loc Cert.MixerRefIdeal.main_arg9))
      ∧ r.2.mem ((c.tc : Thread Cert.MixerRefIdeal.nD Cert.MixerRefIdeal.τ).loc Cert.MixerRefIdeal.main_v197) = val_main_v197 (F := Ideal) (m ((c.tc : Thread Cert.MixerRefIdeal.nD Cert.MixerRefIdeal.τ).loc Cert.MixerRefIdeal.main_arg0)) (m ((c.tc : Thread Cert.MixerRefIdeal.nD Cert.MixerRefIdeal.τ).loc Cert.MixerRefIdeal.main_arg2)) (m ((c.tc : Thread Cert.MixerRefIdeal.nD Cert.MixerRefIdeal.τ).loc Cert.MixerRefIdeal.main_arg7)) (m ((c.tc : Thread Cert.MixerRefIdeal.nD Cert.MixerRefIdeal.τ).loc Cert.MixerRefIdeal.main_arg9))
      ∧ r.2.mem ((c.tc : Thread Cert.MixerRefIdeal.nD Cert.MixerRefIdeal.τ).loc Cert.MixerRefIdeal.main_v132) = val_main_v132 (F := Ideal) (m ((c.tc : Thread Cert.MixerRefIdeal.nD Cert.MixerRefIdeal.τ).loc Cert.MixerRefIdeal.main_arg0)) (m ((c.tc : Thread Cert.MixerRefIdeal.nD Cert.MixerRefIdeal.τ).loc Cert.MixerRefIdeal.main_arg1)) (m ((c.tc : Thread Cert.MixerRefIdeal.nD Cert.MixerRefIdeal.τ).loc Cert.MixerRefIdeal.main_arg2)) (m ((c.tc : Thread Cert.MixerRefIdeal.nD Cert.MixerRefIdeal.τ).loc Cert.MixerRefIdeal.main_arg5)) (m ((c.tc : Thread Cert.MixerRefIdeal.nD Cert.MixerRefIdeal.τ).loc Cert.MixerRefIdeal.main_arg6)) (m ((c.tc : Thread Cert.MixerRefIdeal.nD Cert.MixerRefIdeal.τ).loc Cert.MixerRefIdeal.main_arg9))
      ∧ r.2.mem ((c.tc : Thread Cert.MixerRefIdeal.nD Cert.MixerRefIdeal.τ).loc Cert.MixerRefIdeal.main_v198) = val_main_v198 (F := Ideal) (m ((c.tc : Thread Cert.MixerRefIdeal.nD Cert.MixerRefIdeal.τ).loc Cert.MixerRefIdeal.main_arg0)) (m ((c.tc : Thread Cert.MixerRefIdeal.nD Cert.MixerRefIdeal.τ).loc Cert.MixerRefIdeal.main_arg2)) (m ((c.tc : Thread Cert.MixerRefIdeal.nD Cert.MixerRefIdeal.τ).loc Cert.MixerRefIdeal.main_arg9))
      ∧ r.2.mem ((c.tc : Thread Cert.MixerRefIdeal.nD Cert.MixerRefIdeal.τ).loc Cert.MixerRefIdeal.main_arg0) = m ((c.tc : Thread Cert.MixerRefIdeal.nD Cert.MixerRefIdeal.τ).loc Cert.MixerRefIdeal.main_arg0)
      ∧ r.2.mem ((c.tc : Thread Cert.MixerRefIdeal.nD Cert.MixerRefIdeal.τ).loc Cert.MixerRefIdeal.main_arg1) = m ((c.tc : Thread Cert.MixerRefIdeal.nD Cert.MixerRefIdeal.τ).loc Cert.MixerRefIdeal.main_arg1)
      ∧ r.2.mem ((c.tc : Thread Cert.MixerRefIdeal.nD Cert.MixerRefIdeal.τ).loc Cert.MixerRefIdeal.main_arg2) = m ((c.tc : Thread Cert.MixerRefIdeal.nD Cert.MixerRefIdeal.τ).loc Cert.MixerRefIdeal.main_arg2)
      ∧ r.2.mem ((c.tc : Thread Cert.MixerRefIdeal.nD Cert.MixerRefIdeal.τ).loc Cert.MixerRefIdeal.main_arg3) = m ((c.tc : Thread Cert.MixerRefIdeal.nD Cert.MixerRefIdeal.τ).loc Cert.MixerRefIdeal.main_arg3)
      ∧ r.2.mem ((c.tc : Thread Cert.MixerRefIdeal.nD Cert.MixerRefIdeal.τ).loc Cert.MixerRefIdeal.main_arg4) = m ((c.tc : Thread Cert.MixerRefIdeal.nD Cert.MixerRefIdeal.τ).loc Cert.MixerRefIdeal.main_arg4)
      ∧ r.2.mem ((c.tc : Thread Cert.MixerRefIdeal.nD Cert.MixerRefIdeal.τ).loc Cert.MixerRefIdeal.main_arg5) = m ((c.tc : Thread Cert.MixerRefIdeal.nD Cert.MixerRefIdeal.τ).loc Cert.MixerRefIdeal.main_arg5)
      ∧ r.2.mem ((c.tc : Thread Cert.MixerRefIdeal.nD Cert.MixerRefIdeal.τ).loc Cert.MixerRefIdeal.main_arg6) = m ((c.tc : Thread Cert.MixerRefIdeal.nD Cert.MixerRefIdeal.τ).loc Cert.MixerRefIdeal.main_arg6)
      ∧ r.2.mem ((c.tc : Thread Cert.MixerRefIdeal.nD Cert.MixerRefIdeal.τ).loc Cert.MixerRefIdeal.main_arg7) = m ((c.tc : Thread Cert.MixerRefIdeal.nD Cert.MixerRefIdeal.τ).loc Cert.MixerRefIdeal.main_arg7)
      ∧ r.2.mem ((c.tc : Thread Cert.MixerRefIdeal.nD Cert.MixerRefIdeal.τ).loc Cert.MixerRefIdeal.main_arg8) = m ((c.tc : Thread Cert.MixerRefIdeal.nD Cert.MixerRefIdeal.τ).loc Cert.MixerRefIdeal.main_arg8)
      ∧ r.2.mem ((c.tc : Thread Cert.MixerRefIdeal.nD Cert.MixerRefIdeal.τ).loc Cert.MixerRefIdeal.main_arg9) = m ((c.tc : Thread Cert.MixerRefIdeal.nD Cert.MixerRefIdeal.τ).loc Cert.MixerRefIdeal.main_arg9) :=
  (θ_run Cert.MixerRefIdeal.defs _ _).mono (fun r h c => ⟨(h c).1.trans (val_main_v193_eq (StableHlo.launchContents m c)),
    (h c).2.1.trans (val_main_v195_eq (StableHlo.launchContents m c)),
    (h c).2.2.1.trans (val_main_v196_eq (StableHlo.launchContents m c)),
    (h c).2.2.2.1.trans (val_main_v197_eq (StableHlo.launchContents m c)),
    (h c).2.2.2.2.1.trans (val_main_v132_eq (StableHlo.launchContents m c)),
    (h c).2.2.2.2.2.1.trans (val_main_v198_eq (StableHlo.launchContents m c)),
    (h c).2.2.2.2.2.2⟩) (Cert.MixerRefIdeal.Value.run m ρ)

omit h in
/-- The kernel and the reference end with equal arrays. -/
theorem claim : Cert.algebraic_MixerIdeal_MixerRefIdeal_pre_mix_finite := by
  pair_intro
  · run_from Cert.MixerIdeal.Value.run_blocks m g
  · run_from ref_run m' g'
    all_goals obtain ⟨U, V, A, E, Y, D, g, b, W, o, h⟩ := args_of_pre m hpre c
    · exact (ref_dz h).trans (final11 h).symm
    · exact (ref_dy h).trans (final12 h).symm
    · exact (ref_dg h).trans (final13 h).symm
    · exact (ref_db h).trans (final14 h).symm
    · exact (ref_dw h).trans (final15 h).symm
    · exact (ref_dc h).trans (final16 h).symm

omit h in
/-- The activation's coefficients stand for 44715/10⁶ and three times it. -/
theorem preserves : Cert.preserves_Mixer_MixerIdeal :=
  ⟨IdealRules.named_const.statement Cert.MixerIdeal.κ "gelu_c" .f32 0x3D372713#32 ((8943 / 200000 : ℝ) : EReal) rfl,
    IdealRules.named_const.statement Cert.MixerIdeal.κ "gelu_3c" .f32 0x3E095D4F#32 ((26829 / 200000 : ℝ) : EReal) rfl⟩

omit h in
/-- The reference runs, keeps its arguments and leaves every counter at zero. -/
theorem ref_frame : Cert.quiescent_MixerRefIdeal := fun m ρ _ =>
  (θ_run Cert.MixerRefIdeal.defs _ _).mono (fun r h => ⟨fun c => (h c).2.2.2.2.2.2, sem_eq_zero_of_no_sems (by decide) r.2⟩)
    (Cert.MixerRefIdeal.Value.run m ρ)

end Cert.MixerIdeal.Equal

end
-- ==== Proof.MlaPrep.Spec.lean ====
/- The gradients of a multi-head latent attention's projections over the reals: two root-mean-square norms, a rotary
   embedding taken back, and four products, one of them with heads widened by zeros. -/
module

public import proofs.«01_k».proof.Proof.Common.Norm
public import Idealize.ShloMosaic.Lib.Pointwise

@[expose] public section

noncomputable section

namespace Cert.MlaSpec

open Cert.Reals Idealize.ShloMosaic

/-! The float words of the programs. -/

theorem w_256 : Ideal.ofBits .f32 0x43800000#32 = ((256 : ℝ) : EReal) := by
  simp [Ideal.ofBits, Ideal.ieee, -EReal.coe_mul]; norm_num

theorem w_128 : Ideal.ofBits .f32 0x43000000#32 = ((128 : ℝ) : EReal) := by
  simp [Ideal.ofBits, Ideal.ieee, -EReal.coe_mul]; norm_num

theorem w_64 : Ideal.ofBits .f32 0x42800000#32 = ((64 : ℝ) : EReal) := by
  simp [Ideal.ofBits, Ideal.ieee, -EReal.coe_mul]; norm_num

theorem w_base : Ideal.ofBits .f32 0x461C4000#32 = ((10000 : ℝ) : EReal) := by
  simp [Ideal.ofBits, Ideal.ieee, -EReal.coe_mul]; norm_num

/-! The rotary embedding. -/

/-- The power of the base a pair of lanes divides its position by. -/
def base (k : Fin 32) : ℝ := Real.rpow 10000 (2 * (k.val : ℝ) / 64)

theorem base_ne (k : Fin 32) : base k ≠ 0 := (Real.rpow_pos_of_pos (by norm_num) _).ne'

/-- The angle of a pair of lanes at a position. -/
def ang (p : ℝ) (k : Fin 32) : ℝ := p * (1 / base k)

/-- The embedding's transpose on one row: lanes `k` and `32 + k` turned back by angle `k`. -/
def ropeT (θ : Fin 32 → ℝ) (x : Fin 64 → ℝ) (l : Fin 64) : ℝ :=
  if h : l.val < 32 then
    x ⟨32 + l.val, by omega⟩ * Real.sin (θ ⟨l.val, h⟩) + x l * Real.cos (θ ⟨l.val, h⟩)
  else x l * Real.cos (θ ⟨l.val - 32, by omega⟩) + -x ⟨l.val - 32, by omega⟩ * Real.sin (θ ⟨l.val - 32, by omega⟩)

/-- The same on a tile of 128 lanes whose last 64 stay empty. -/
def lanes (θ : Fin 32 → ℝ) (y : Fin 128 → ℝ) (l : Fin 128) : ℝ :=
  if h : l.val < 32 then y ⟨32 + l.val, by omega⟩ * Real.sin (θ ⟨l.val, h⟩) + y l * Real.cos (θ ⟨l.val, h⟩)
  else if h : l.val < 64 then y l * Real.cos (θ ⟨l.val - 32, by omega⟩) + -y ⟨l.val - 32, by omega⟩ * Real.sin (θ ⟨l.val - 32, by omega⟩)
  else 0

/-- A tile's first 64 lanes. -/
def wide (x : Fin 64 → ℝ) (l : Fin 128) : ℝ := if h : l.val < 64 then x ⟨l.val, h⟩ else 0

theorem lanes_wide (θ : Fin 32 → ℝ) (x : Fin 64 → ℝ) (l : Fin 128) : lanes θ (wide x) l = wide (ropeT θ x) l := by
  have := l.isLt
  unfold lanes wide ropeT
  by_cases a : l.val < 32
  · have b : l.val < 64 := by omega
    have d : 32 + l.val < 64 := by omega
    simp only [a, b, d, dite_true]
  · by_cases b : l.val < 64
    · have d : l.val - 32 < 64 := by omega
      simp only [a, b, d, dite_true, dite_false]
    · simp only [a, b, dite_false]

/-- The rotated lanes of a head. -/
def tail (x : Fin 192 → ℝ) (l : Fin 64) : ℝ := x ⟨128 + l.val, by omega⟩

/-- A head with its last 64 lanes turned back. -/
def rotT (θ : Fin 32 → ℝ) (x : Fin 192 → ℝ) (j : Fin 192) : ℝ :=
  if h : j.val < 128 then x j else ropeT θ (tail x) ⟨j.val - 128, by omega⟩

variable (X : Fin 2 → Fin 2048 → Fin 256 → ℝ) (Z : Fin 2 → Fin 2048 → Fin 128 → ℝ) (P : Fin 2 → Fin 2048 → ℝ)
  (gq : Fin 256 → ℝ) (Wq : Fin 256 → Fin 1536 → ℝ) (gk : Fin 128 → ℝ) (Wk : Fin 128 → Fin 2048 → ℝ)
  (DQ DK : Fin 2 → Fin 2048 → Fin 8 → Fin 192 → ℝ) (DV : Fin 2 → Fin 2048 → Fin 8 → Fin 128 → ℝ)

/-- A normalised row. -/
def xh {n : ℕ} (x : Fin n → ℝ) (j : Fin n) : ℝ := x j * rinv x

/-- The queries' cotangents before the embedding, heads side by side. -/
def dqr (b : Fin 2) (s : Fin 2048) (c : Fin 1536) : ℝ :=
  rotT (ang (P b s)) (DQ b s ⟨c.val / 192, by omega⟩) ⟨c.val % 192, by omega⟩

/-- The same with every head widened to 256 lanes by zeros. -/
def dqp (b : Fin 2) (s : Fin 2048) (c : Fin 2048) : ℝ :=
  if h : c.val % 256 < 192 then rotT (ang (P b s)) (DQ b s ⟨c.val / 256, by omega⟩) ⟨c.val % 256, h⟩ else 0

/-- The query weights widened alike. -/
def wqp (k : Fin 256) (c : Fin 2048) : ℝ :=
  if h : c.val % 256 < 192 then Wq k ⟨c.val / 256 * 192 + c.val % 256, by omega⟩ else 0

/-- The keys' and values' cotangents, heads side by side. -/
def dkv (b : Fin 2) (s : Fin 2048) (c : Fin 2048) : ℝ :=
  if h : c.val % 256 < 128 then DK b s ⟨c.val / 256, by omega⟩ ⟨c.val % 256, by omega⟩
  else DV b s ⟨c.val / 256, by omega⟩ ⟨c.val % 256 - 128, by omega⟩

/-- The normalised rows' cotangents. -/
def dcq (b : Fin 2) (s : Fin 2048) (k : Fin 256) : ℝ := ∑ c, dqr P DQ b s c * Wq k c
def dck (b : Fin 2) (s : Fin 2048) (k : Fin 128) : ℝ := ∑ c, dkv DK DV b s c * Wk k c

/-- The shared keys' cotangents, summed over heads and turned back. -/
def dkr (b : Fin 2) (s : Fin 2048) (l : Fin 64) : ℝ := ropeT (ang (P b s)) (fun l => ∑ h, tail (DK b s h) l) l

/-- The gradients of the two scales. -/
def dgq (k : Fin 256) : ℝ := ∑ b, ∑ s, dcq P Wq DQ b s k * xh (X b s) k
def dgk (k : Fin 128) : ℝ := ∑ b, ∑ s, dck Wk DK DV b s k * xh (Z b s) k

/-- The gradients of the two weights, the first transposed and widened. -/
def dwq (c : Fin 2048) (k : Fin 256) : ℝ := ∑ b, ∑ s, dqp P DQ b s c * (xh (X b s) k * gq k)
def dwk (k : Fin 128) (c : Fin 2048) : ℝ := ∑ b, ∑ s, xh (Z b s) k * gk k * dkv DK DV b s c

/-- The gradients of the three projected rows side by side, then zeros. -/
def dzs (b : Fin 2) (s : Fin 2048) (j : Fin 512) : ℝ :=
  if h : j.val < 256 then rmsBwd (X b s) (fun k => dcq P Wq DQ b s k * gq k) ⟨j.val, h⟩
  else if h : j.val < 384 then rmsBwd (Z b s) (fun k => dck Wk DK DV b s k * gk k) ⟨j.val - 256, by omega⟩
  else if h : j.val < 448 then dkr P DK b s ⟨j.val - 384, by omega⟩ else 0

/-- The product over widened heads is the product over heads: the added lanes are zeros on both sides. -/
theorem sum_wide (b : Fin 2) (s : Fin 2048) (k : Fin 256) :
    ∑ c, dqp P DQ b s c * wqp Wq k c = dcq P Wq DQ b s k := by
  unfold dcq
  rw [Fin.sum_univ_tiles 8 256 rfl (fun c : Fin 2048 => dqp P DQ b s c * wqp Wq k c),
    Fin.sum_univ_tiles 8 192 rfl (fun c : Fin 1536 => dqr P DQ b s c * Wq k c)]
  refine Finset.sum_congr rfl fun h _ => ?_
  have hh := h.isLt
  refine (Fin.sum_univ_add (a := 192) (b := 64) _).trans ?_
  rw [Finset.sum_eq_zero (s := Finset.univ (α := Fin 64)), add_zero]
  · refine Finset.sum_congr rfl fun j _ => ?_
    have hj := j.isLt
    have e1 : (h.val * 256 + j.val) % 256 = j.val := by omega
    have e2 : (h.val * 256 + j.val) / 256 = h.val := by omega
    have e3 : (h.val * 192 + j.val) % 192 = j.val := by omega
    have e4 : (h.val * 192 + j.val) / 192 = h.val := by omega
    simp only [dqp, wqp, dqr, Fin.val_castAdd, e1, e2, e3, e4, hj, dite_true]
  · intro j _
    have hj := j.isLt
    have e1 : ¬ (h.val * 256 + (192 + j.val)) % 256 < 192 := by omega
    simp only [dqp, Fin.val_natAdd, e1, dite_false, zero_mul]

end Cert.MlaSpec

end
-- ==== Proof.MlaPrep.RefRope.lean ====
/- The reference's rotary stages over the reals. -/
module

public import proofs.«01_k».proof.Proof.Gen.MlaPrepRefIdeal.Read
public import proofs.«01_k».proof.Proof.MlaPrep.Spec
public import proofs.«01_k».proof.Proof.Common.Tokens

@[expose] public section

set_option maxRecDepth 16384

noncomputable section

namespace Cert.MlaPrepRefIdeal.Reads

open Idealize.ShloMosaic Idealize.ShloMosaic.TcCoe Idealize.SL.Sem
open Cert.MlaPrepRefIdeal Cert.MlaPrepRefIdeal.Read Cert.Reals Cert.MlaSpec Cert.Tokens

variable (x0 : FVec Ideal S2x2048x256 .f32) (x1 : FVec Ideal S2x2048x128 .f32) (x3 : IVec S2x2048 32)
  (x4 : FVec Ideal S1x256 .f32) (x5 : FVec Ideal S1x256x1536 .f32) (x6 : FVec Ideal S1x128 .f32) (x7 : FVec Ideal S1x128x2048 .f32)
  (x8 x9 : FVec Ideal S2x2048x8x192 .f32) (x10 : FVec Ideal S2x2048x8x128 .f32)
  (X : Fin 2 → Fin 2048 → Fin 256 → ℝ) (Z : Fin 2 → Fin 2048 → Fin 128 → ℝ) (P : Fin 2 → Fin 2048 → ℝ)
  (gq : Fin 256 → ℝ) (Wq : Fin 256 → Fin 1536 → ℝ) (gk : Fin 128 → ℝ) (Wk : Fin 128 → Fin 2048 → ℝ)
  (DQ DK : Fin 2 → Fin 2048 → Fin 8 → Fin 192 → ℝ) (DV : Fin 2 → Fin 2048 → Fin 8 → Fin 128 → ℝ)
  (h0 : ∀ b s d, x0 (ix3 b s d) = (X b s d : EReal)) (h1 : ∀ b s d, x1 (ix3 b s d) = (Z b s d : EReal))
  (h3 : ∀ b s, ((x3 (ix2 b s)).toInt : ℝ) = P b s)
  (h4 : ∀ k, x4 (ix2 0 k) = (gq k : EReal)) (h5 : ∀ k c, x5 (ix3 0 k c) = (Wq k c : EReal))
  (h6 : ∀ k, x6 (ix2 0 k) = (gk k : EReal)) (h7 : ∀ k c, x7 (ix3 0 k c) = (Wk k c : EReal))
  (h8 : ∀ b s h j, x8 (ix4 b s h j) = (DQ b s h j : EReal)) (h9 : ∀ b s h j, x9 (ix4 b s h j) = (DK b s h j : EReal))
  (h10 : ∀ b s h j, x10 (ix4 b s h j) = (DV b s h j : EReal))

/-! The rotary embedding. -/

theorem v10_real (k : Fin 32) : val_main_v10 (F := Ideal) (ix1 k) = ((1 / base k : ℝ) : EReal) := by
  pointwise [val_main_v10, val_main_v9, val_main_cst_3, val_main_v8, val_main_v7, val_main_cst_2, val_main_v6, val_main_v5, val_main_cst_1, val_main_v4, val_main_v3, val_main_cst_0, val_main_v2, val_main_v1, val_main_cst, val_main_v0]
  have hk := k.isLt
  have e : (FloatOps.sitofp (F := Ideal) .f32 (BitVec.ofNat 32 k.val) : EReal) = (((k.val : ℝ)) : EReal) := by
    show ((((BitVec.ofNat 32 k.val).toInt : ℝ)) : EReal) = _
    have : (BitVec.ofNat 32 k.val).toInt = (k.val : ℤ) := by
      rw [BitVec.toInt_eq_toNat_of_lt (by simp; omega), BitVec.toNat_ofNat]
      congr 1; omega
    rw [this]; norm_cast
  rw [w_base, w_64, w_two, e, coe_one', ← EReal.coe_mul, div_real _ (show (64 : ℝ) ≠ 0 by norm_num), Ideal.pow_coe_coe]
  exact div_real _ (base_ne k)

include h3 in
theorem v16_real (b : Fin 2) (s : Fin 2048) (k : Fin 32) :
    val_main_v16 (F := Ideal) x3 (ix3 b s k) = ((ang (P b s) k : ℝ) : EReal) := by
  pointwise [val_main_v16, val_main_v15, val_main_v14, val_main_v13, val_main_v12, val_main_v11]
  rw [v10_real]
  refine Eq.trans ?_ (congrArg (fun p : ℝ => ((ang p k : ℝ) : EReal)) (h3 b s))
  exact (EReal.coe_mul _ _).symm

include h3 in
theorem v17_real (b : Fin 2) (s : Fin 2048) (k : Fin 32) :
    val_main_v17 (F := Ideal) x3 (ix3 b s k) = ((Real.cos (ang (P b s) k) : ℝ) : EReal) := by
  pointwise [val_main_v17]
  rw [v16_real x3 P h3, Ideal.cos_coe]

include h3 in
theorem v18_real (b : Fin 2) (s : Fin 2048) (k : Fin 32) :
    val_main_v18 (F := Ideal) x3 (ix3 b s k) = ((Real.sin (ang (P b s) k) : ℝ) : EReal) := by
  pointwise [val_main_v18]
  rw [v16_real x3 P h3, Ideal.sin_coe]

include h3 h8 in
theorem v148_real (b : Fin 2) (s : Fin 2048) (h : Fin 8) (l : Fin 64) :
    val_main_v148 (F := Ideal) x3 x8 (ix4 b s h l) = ((ropeT (ang (P b s)) (tail (DQ b s h)) l : ℝ) : EReal) := by
  pointwise [val_main_v148, val_main_v147, val_main_v140, val_main_v136, val_main_v98, val_main_v139, val_main_v46, val_main_v146, val_main_v135, val_main_v145, val_main_v45, val_main_v144, val_main_v138, val_main_v137, val_main_v143, val_main_v141, val_main_v142]
  unfold ropeT tail
  by_cases hl : l.val < 32
  · simp only [hl, dite_true, v17_real x3 P h3, v18_real x3 P h3, h8, ← EReal.coe_mul, ← EReal.coe_add]
  · have e : 32 + (l.val - 32) = l.val := by omega
    simp only [hl, e, dite_false, v17_real x3 P h3, v18_real x3 P h3, h8, ← EReal.coe_neg, ← EReal.coe_mul, ← EReal.coe_add]

include h3 h8 in
theorem v150_real (b : Fin 2) (s : Fin 2048) (c : Fin 1536) :
    val_main_v150 (F := Ideal) x3 x8 (ix3 b s c) = ((dqr P DQ b s c : ℝ) : EReal) := by
  pointwise [val_main_v150, val_main_v149, val_main_v97]
  unfold dqr rotT
  by_cases hc : c.val % 192 < 128
  · simp only [hc, dite_true, h8]
  · simp only [hc, dite_false, v148_real x3 x8 P DQ h3 h8]

include h3 h9 in
theorem v111_real (b : Fin 2) (s : Fin 2048) (l : Fin 64) :
    val_main_v111 (F := Ideal) x3 x9 (ix3 b s l) = ((dkr P DK b s l : ℝ) : EReal) := by
  pointwise [val_main_v111, val_main_v110, val_main_v108, val_main_v105, val_main_v103, val_main_v109, val_main_v102, val_main_v104, val_main_v107, val_main_v106, val_main_v101, val_main_v100, val_main_v99, val_main_v96, val_main_cst_14, val_main_cst_15]
  unfold dkr ropeT tail
  by_cases hl : l.val < 32
  · simp only [hl, dite_true, v17_real x3 P h3, v18_real x3 P h3, h9, coe_sum, Finset.univ_unique, Finset.sum_singleton,
      ← EReal.coe_mul, ← EReal.coe_add]
  · have e : 32 + (l.val - 32) = l.val := by omega
    simp only [hl, e, dite_false, v17_real x3 P h3, v18_real x3 P h3, h9, coe_sum, Finset.univ_unique, Finset.sum_singleton,
      ← EReal.coe_neg, ← EReal.coe_mul, ← EReal.coe_add]

include h9 h10 in
theorem v113_real (b : Fin 2) (s : Fin 2048) (c : Fin 2048) :
    val_main_v113 (F := Ideal) x9 x10 (ix3 b s c) = ((dkv DK DV b s c : ℝ) : EReal) := by
  pointwise [val_main_v113, val_main_v112, val_main_v95]
  unfold dkv
  by_cases hc : c.val % 256 < 128
  · simp only [hc, dite_true, h9]
  · simp only [hc, dite_false, h10]

end Cert.MlaPrepRefIdeal.Reads

end
-- ==== Proof.MlaPrep.RefNorm.lean ====
/- The reference's norms over the reals. -/
module

public import proofs.«01_k».proof.Proof.MlaPrep.RefRope

@[expose] public section

set_option maxRecDepth 16384

noncomputable section

namespace Cert.MlaPrepRefIdeal.Reads

open Idealize.ShloMosaic Idealize.ShloMosaic.TcCoe Idealize.SL.Sem
open Cert.MlaPrepRefIdeal Cert.MlaPrepRefIdeal.Read Cert.Reals Cert.MlaSpec Cert.Tokens

variable (x0 : FVec Ideal S2x2048x256 .f32) (x1 : FVec Ideal S2x2048x128 .f32) (x3 : IVec S2x2048 32)
  (x4 : FVec Ideal S1x256 .f32) (x5 : FVec Ideal S1x256x1536 .f32) (x6 : FVec Ideal S1x128 .f32) (x7 : FVec Ideal S1x128x2048 .f32)
  (x8 x9 : FVec Ideal S2x2048x8x192 .f32) (x10 : FVec Ideal S2x2048x8x128 .f32)
  (X : Fin 2 → Fin 2048 → Fin 256 → ℝ) (Z : Fin 2 → Fin 2048 → Fin 128 → ℝ) (P : Fin 2 → Fin 2048 → ℝ)
  (gq : Fin 256 → ℝ) (Wq : Fin 256 → Fin 1536 → ℝ) (gk : Fin 128 → ℝ) (Wk : Fin 128 → Fin 2048 → ℝ)
  (DQ DK : Fin 2 → Fin 2048 → Fin 8 → Fin 192 → ℝ) (DV : Fin 2 → Fin 2048 → Fin 8 → Fin 128 → ℝ)
  (h0 : ∀ b s d, x0 (ix3 b s d) = (X b s d : EReal)) (h1 : ∀ b s d, x1 (ix3 b s d) = (Z b s d : EReal))
  (h3 : ∀ b s, ((x3 (ix2 b s)).toInt : ℝ) = P b s)
  (h4 : ∀ k, x4 (ix2 0 k) = (gq k : EReal)) (h5 : ∀ k c, x5 (ix3 0 k c) = (Wq k c : EReal))
  (h6 : ∀ k, x6 (ix2 0 k) = (gk k : EReal)) (h7 : ∀ k c, x7 (ix3 0 k c) = (Wk k c : EReal))
  (h8 : ∀ b s h j, x8 (ix4 b s h j) = (DQ b s h j : EReal)) (h9 : ∀ b s h j, x9 (ix4 b s h j) = (DK b s h j : EReal))
  (h10 : ∀ b s h j, x10 (ix4 b s h j) = (DV b s h j : EReal))

/-! The norms. -/

include h0 in
theorem v31_real (b : Fin 2) (s : Fin 2048) (u : Fin 1) :
    val_main_v31 (F := Ideal) x0 (ix3 b s u) = ((msq (X b s) : ℝ) : EReal) := by
  pointwise [val_main_v31, val_main_v30, val_main_cst_7, val_main_v29, val_main_v28, val_main_cst_6, val_main_v27, val_main_v26, val_main_v23, val_main_cst_5]
  simp only [h0, ← EReal.coe_mul, coe_sum, zero_add, w_256, w_eps, ← EReal.coe_add,
    div_real _ (show (256 : ℝ) ≠ 0 by norm_num)]
  simp [msq, eps]

include h1 in
theorem v68_real (b : Fin 2) (s : Fin 2048) (u : Fin 1) :
    val_main_v68 (F := Ideal) x1 (ix3 b s u) = ((msq (Z b s) : ℝ) : EReal) := by
  pointwise [val_main_v68, val_main_v67, val_main_cst_12, val_main_v66, val_main_v65, val_main_cst_11, val_main_v64, val_main_v63, val_main_v60, val_main_cst_10]
  simp only [h1, ← EReal.coe_mul, coe_sum, zero_add, w_128, w_eps, ← EReal.coe_add,
    div_real _ (show (128 : ℝ) ≠ 0 by norm_num)]
  simp [msq, eps]

include h0 in
theorem v32_real (b : Fin 2) (s : Fin 2048) (u : Fin 1) :
    val_main_v32 (F := Ideal) x0 (ix3 b s u) = ((rinv (X b s) : ℝ) : EReal) := by
  pointwise [val_main_v32]
  rw [v31_real x0 X h0, rsqrt_real (msq_pos _)]; rfl

include h1 in
theorem v69_real (b : Fin 2) (s : Fin 2048) (u : Fin 1) :
    val_main_v69 (F := Ideal) x1 (ix3 b s u) = ((rinv (Z b s) : ℝ) : EReal) := by
  pointwise [val_main_v69]
  rw [v68_real x1 Z h1, rsqrt_real (msq_pos _)]; rfl

include h0 in
theorem v37_real (b : Fin 2) (s : Fin 2048) (d : Fin 256) :
    val_main_v37 (F := Ideal) x0 (ix3 b s d) = ((xh (X b s) d : ℝ) : EReal) := by
  pointwise [val_main_v37, val_main_v36]
  rw [v32_real x0 X h0, h0, ← EReal.coe_mul]; rfl

include h1 in
theorem v74_real (b : Fin 2) (s : Fin 2048) (d : Fin 128) :
    val_main_v74 (F := Ideal) x1 (ix3 b s d) = ((xh (Z b s) d : ℝ) : EReal) := by
  pointwise [val_main_v74, val_main_v73]
  rw [v69_real x1 Z h1, h1, ← EReal.coe_mul]; rfl

include h0 h4 in
theorem v40_real (b : Fin 2) (s : Fin 2048) (d : Fin 256) :
    val_main_v40 (F := Ideal) x0 x4 (ix3 b s d) = ((xh (X b s) d * gq d : ℝ) : EReal) := by
  pointwise [val_main_v40, val_main_v39, val_main_v38, val_main_v19]
  rw [v37_real x0 X h0, h4, ← EReal.coe_mul]

include h1 h6 in
theorem v77_real (b : Fin 2) (s : Fin 2048) (d : Fin 128) :
    val_main_v77 (F := Ideal) x1 x6 (ix3 b s d) = ((xh (Z b s) d * gk d : ℝ) : EReal) := by
  pointwise [val_main_v77, val_main_v76, val_main_v75, val_main_v21]
  rw [v74_real x1 Z h1, h6, ← EReal.coe_mul]

end Cert.MlaPrepRefIdeal.Reads

end
-- ==== Proof.MlaPrep.RefProd.lean ====
/- The reference's products over the reals. -/
module

public import proofs.«01_k».proof.Proof.MlaPrep.RefNorm

@[expose] public section

set_option maxRecDepth 16384

noncomputable section

namespace Cert.MlaPrepRefIdeal.Reads

open Idealize.ShloMosaic Idealize.ShloMosaic.TcCoe Idealize.SL.Sem
open Cert.MlaPrepRefIdeal Cert.MlaPrepRefIdeal.Read Cert.Reals Cert.MlaSpec Cert.Tokens

variable (x0 : FVec Ideal S2x2048x256 .f32) (x1 : FVec Ideal S2x2048x128 .f32) (x3 : IVec S2x2048 32)
  (x4 : FVec Ideal S1x256 .f32) (x5 : FVec Ideal S1x256x1536 .f32) (x6 : FVec Ideal S1x128 .f32) (x7 : FVec Ideal S1x128x2048 .f32)
  (x8 x9 : FVec Ideal S2x2048x8x192 .f32) (x10 : FVec Ideal S2x2048x8x128 .f32)
  (X : Fin 2 → Fin 2048 → Fin 256 → ℝ) (Z : Fin 2 → Fin 2048 → Fin 128 → ℝ) (P : Fin 2 → Fin 2048 → ℝ)
  (gq : Fin 256 → ℝ) (Wq : Fin 256 → Fin 1536 → ℝ) (gk : Fin 128 → ℝ) (Wk : Fin 128 → Fin 2048 → ℝ)
  (DQ DK : Fin 2 → Fin 2048 → Fin 8 → Fin 192 → ℝ) (DV : Fin 2 → Fin 2048 → Fin 8 → Fin 128 → ℝ)
  (h0 : ∀ b s d, x0 (ix3 b s d) = (X b s d : EReal)) (h1 : ∀ b s d, x1 (ix3 b s d) = (Z b s d : EReal))
  (h3 : ∀ b s, ((x3 (ix2 b s)).toInt : ℝ) = P b s)
  (h4 : ∀ k, x4 (ix2 0 k) = (gq k : EReal)) (h5 : ∀ k c, x5 (ix3 0 k c) = (Wq k c : EReal))
  (h6 : ∀ k, x6 (ix2 0 k) = (gk k : EReal)) (h7 : ∀ k c, x7 (ix3 0 k c) = (Wk k c : EReal))
  (h8 : ∀ b s h j, x8 (ix4 b s h j) = (DQ b s h j : EReal)) (h9 : ∀ b s h j, x9 (ix4 b s h j) = (DK b s h j : EReal))
  (h10 : ∀ b s h j, x10 (ix4 b s h j) = (DV b s h j : EReal))

/-! The products. -/

include h3 h5 h8 in
theorem v153_real (b : Fin 2) (s : Fin 2048) (d : Fin 256) :
    val_main_v153 (F := Ideal) x3 x5 x8 (ix3 b s d) = ((dcq P Wq DQ b s d : ℝ) : EReal) := by
  pointwise [val_main_v153, val_main_v20]
  simp only [v150_real x3 x8 P DQ h3 h8, h5, ← EReal.coe_mul, coe_sum, dcq]

include h7 h9 h10 in
theorem v116_real (b : Fin 2) (s : Fin 2048) (d : Fin 128) :
    val_main_v116 (F := Ideal) x7 x9 x10 (ix3 b s d) = ((dck Wk DK DV b s d : ℝ) : EReal) := by
  pointwise [val_main_v116, val_main_v22]
  simp only [v113_real x9 x10 DK DV h9 h10, h7, ← EReal.coe_mul, coe_sum, dck]

include h0 h3 h4 h8 in
theorem v151_real (c : Fin 1536) (k : Fin 256) :
    val_main_v151 (F := Ideal) x0 x3 x4 x8 (ix2 c k) = ((∑ b, ∑ s, dqr P DQ b s c * (xh (X b s) k * gq k) : ℝ) : EReal) := by
  pointwise [val_main_v151]
  simp only [v150_real x3 x8 P DQ h3 h8, v40_real x0 x4 X gq h0 h4, ← EReal.coe_mul, coe_sum]

include h1 h6 h9 h10 in
theorem v181_real (k : Fin 128) (c : Fin 2048) :
    val_main_v181 (F := Ideal) x1 x6 x9 x10 (ix2 k c) = ((dwk Z gk DK DV k c : ℝ) : EReal) := by
  pointwise [val_main_v181, val_main_v115, val_main_v114]
  simp only [v113_real x9 x10 DK DV h9 h10, v77_real x1 x6 Z gk h1 h6, ← EReal.coe_mul, coe_sum, dwk]
  simp only [mul_comm]

include h0 h3 h4 h8 in
theorem v180_real (c : Fin 2048) (k : Fin 256) :
    val_main_v180 (F := Ideal) x0 x3 x4 x8 (ix2 c k) = ((dwq X P gq DQ c k : ℝ) : EReal) := by
  pointwise [val_main_v180, val_main_v179, val_main_v177, val_main_v176, val_main_v175, val_main_v152, val_main_call0_v0, val_main_c]
  have hc := c.isLt
  have h8c : c.val / 256 < 8 := by omega
  unfold dwq dqp
  by_cases hl : c.val % 256 < 192
  · have e1 : (c.val / 256 * 192 + c.val % 256) / 192 = c.val / 256 := by omega
    have e2 : (c.val / 256 * 192 + c.val % 256) % 192 = c.val % 256 := by omega
    simp only [h8c, hl, true_and, dite_true, v151_real x0 x3 x4 x8 X P gq DQ h0 h3 h4 h8, dqr, e1, e2]
  · simp only [hl, and_false, dite_false, zero_mul, Finset.sum_const_zero]
    simp [FloatOps.sitofp]

end Cert.MlaPrepRefIdeal.Reads

end
-- ==== Proof.MlaPrep.RefGain.lean ====
/- The reference's gradients of the two scales over the reals. -/
module

public import proofs.«01_k».proof.Proof.MlaPrep.RefProd

@[expose] public section

set_option maxRecDepth 16384

noncomputable section

namespace Cert.MlaPrepRefIdeal.Reads

open Idealize.ShloMosaic Idealize.ShloMosaic.TcCoe Idealize.SL.Sem
open Cert.MlaPrepRefIdeal Cert.MlaPrepRefIdeal.Read Cert.Reals Cert.MlaSpec Cert.Tokens

variable (x0 : FVec Ideal S2x2048x256 .f32) (x1 : FVec Ideal S2x2048x128 .f32) (x3 : IVec S2x2048 32)
  (x4 : FVec Ideal S1x256 .f32) (x5 : FVec Ideal S1x256x1536 .f32) (x6 : FVec Ideal S1x128 .f32) (x7 : FVec Ideal S1x128x2048 .f32)
  (x8 x9 : FVec Ideal S2x2048x8x192 .f32) (x10 : FVec Ideal S2x2048x8x128 .f32)
  (X : Fin 2 → Fin 2048 → Fin 256 → ℝ) (Z : Fin 2 → Fin 2048 → Fin 128 → ℝ) (P : Fin 2 → Fin 2048 → ℝ)
  (gq : Fin 256 → ℝ) (Wq : Fin 256 → Fin 1536 → ℝ) (gk : Fin 128 → ℝ) (Wk : Fin 128 → Fin 2048 → ℝ)
  (DQ DK : Fin 2 → Fin 2048 → Fin 8 → Fin 192 → ℝ) (DV : Fin 2 → Fin 2048 → Fin 8 → Fin 128 → ℝ)
  (h0 : ∀ b s d, x0 (ix3 b s d) = (X b s d : EReal)) (h1 : ∀ b s d, x1 (ix3 b s d) = (Z b s d : EReal))
  (h3 : ∀ b s, ((x3 (ix2 b s)).toInt : ℝ) = P b s)
  (h4 : ∀ k, x4 (ix2 0 k) = (gq k : EReal)) (h5 : ∀ k c, x5 (ix3 0 k c) = (Wq k c : EReal))
  (h6 : ∀ k, x6 (ix2 0 k) = (gk k : EReal)) (h7 : ∀ k c, x7 (ix3 0 k c) = (Wk k c : EReal))
  (h8 : ∀ b s h j, x8 (ix4 b s h j) = (DQ b s h j : EReal)) (h9 : ∀ b s h j, x9 (ix4 b s h j) = (DK b s h j : EReal))
  (h10 : ∀ b s h j, x10 (ix4 b s h j) = (DV b s h j : EReal))

theorem mulf_real {x y : Elt Ideal .f32} {a b : ℝ} (hx : x = (a : EReal)) (hy : y = (b : EReal)) :
    FloatOps.mulf (F := Ideal) (φ := .f32) x y = ((a * b : ℝ) : EReal) := by
  subst hx hy; exact (EReal.coe_mul _ _).symm

include h0 h3 h5 h8 in
theorem v155_real (k : Fin 256) : val_main_v155 (F := Ideal) x0 x3 x5 x8 (ix1 k) = ((dgq X P Wq DQ k : ℝ) : EReal) := by
  refine (hostReduceAdd_lead2 Gen.reducesTo_S2x2048x256_S256_d0_1 _ _ (ix1 k)).trans ?_
  rw [val_main_cst_21_apply (F := Ideal)]
  refine (congrArg₂ (· + ·) w_zero (Finset.sum_congr rfl fun b _ => Finset.sum_congr rfl fun s _ =>
    (val_main_v154_apply (F := Ideal) x0 x3 x5 x8 (ix3 b s k)).trans (mulf_real (v37_real x0 X h0 b s k)
      (v153_real x3 x5 x8 P Wq DQ h3 h5 h8 b s k)))).trans ?_
  refine (zero_add (M := EReal) _).trans ?_
  simp only [coe_sum, dgq]
  exact congrArg (fun z : ℝ => (z : EReal)) (Finset.sum_congr rfl fun b _ => Finset.sum_congr rfl fun s _ => mul_comm (G := ℝ) _ _)

theorem v156_at (a b : Fin 1) (k : Fin 256) : val_main_v156 (F := Ideal) x0 x3 x5 x8 (ix3 a b k) = val_main_v155 (F := Ideal) x0 x3 x5 x8 (ix1 k) := by
  rw [val_main_v156_apply (F := Ideal)]
  refine congrArg _ ?_
  idx_ext

include h0 h3 h5 h8 in
theorem v159_real (k : Fin 256) : val_main_v159 (F := Ideal) x0 x3 x5 x8 (ix1 k) = ((dgq X P Wq DQ k : ℝ) : EReal) := by
  refine (hostReduceAdd_lead2 Gen.reducesTo_S1x1x256_S256_d0_1 _ _ (ix1 k)).trans ?_
  rw [val_main_cst_22_apply (F := Ideal)]
  simp only [Finset.univ_unique, Finset.sum_singleton]
  exact (congrArg₂ (· + ·) w_zero ((v156_at x0 x3 x5 x8 _ _ k).trans (v155_real x0 x3 x5 x8 X P Wq DQ h0 h3 h5 h8 k))).trans (zero_add _)

theorem v182_at (a : Fin 1) (k : Fin 256) : val_main_v182 (F := Ideal) x0 x3 x5 x8 (ix2 a k) = val_main_v159 (F := Ideal) x0 x3 x5 x8 (ix1 k) := by
  rw [val_main_v182_apply (F := Ideal)]
  refine congrArg _ ?_
  idx_ext

include h0 h3 h5 h8 in
theorem v182_real (k : Fin 256) : val_main_v182 (F := Ideal) x0 x3 x5 x8 (ix2 0 k) = ((dgq X P Wq DQ k : ℝ) : EReal) :=
  (v182_at x0 x3 x5 x8 0 k).trans (v159_real x0 x3 x5 x8 X P Wq DQ h0 h3 h5 h8 k)

include h1 h7 h9 h10 in
theorem v118_real (k : Fin 128) : val_main_v118 (F := Ideal) x1 x7 x9 x10 (ix1 k) = ((dgk Z Wk DK DV k : ℝ) : EReal) := by
  refine (hostReduceAdd_lead2 Gen.reducesTo_S2x2048x128_S128_d0_1 _ _ (ix1 k)).trans ?_
  rw [val_main_cst_16_apply (F := Ideal)]
  refine (congrArg₂ (· + ·) w_zero (Finset.sum_congr rfl fun b _ => Finset.sum_congr rfl fun s _ =>
    (val_main_v117_apply (F := Ideal) x1 x7 x9 x10 (ix3 b s k)).trans (mulf_real (v74_real x1 Z h1 b s k)
      (v116_real x7 x9 x10 Wk DK DV h7 h9 h10 b s k)))).trans ?_
  refine (zero_add (M := EReal) _).trans ?_
  simp only [coe_sum, dgk]
  exact congrArg (fun z : ℝ => (z : EReal)) (Finset.sum_congr rfl fun b _ => Finset.sum_congr rfl fun s _ => mul_comm (G := ℝ) _ _)

theorem v119_at (a b : Fin 1) (k : Fin 128) : val_main_v119 (F := Ideal) x1 x7 x9 x10 (ix3 a b k) = val_main_v118 (F := Ideal) x1 x7 x9 x10 (ix1 k) := by
  rw [val_main_v119_apply (F := Ideal)]
  refine congrArg _ ?_
  idx_ext

include h1 h7 h9 h10 in
theorem v122_real (k : Fin 128) : val_main_v122 (F := Ideal) x1 x7 x9 x10 (ix1 k) = ((dgk Z Wk DK DV k : ℝ) : EReal) := by
  refine (hostReduceAdd_lead2 Gen.reducesTo_S1x1x128_S128_d0_1 _ _ (ix1 k)).trans ?_
  rw [val_main_cst_17_apply (F := Ideal)]
  simp only [Finset.univ_unique, Finset.sum_singleton]
  exact (congrArg₂ (· + ·) w_zero ((v119_at x1 x7 x9 x10 _ _ k).trans (v118_real x1 x7 x9 x10 Z Wk DK DV h1 h7 h9 h10 k))).trans (zero_add _)

theorem v183_at (a : Fin 1) (k : Fin 128) : val_main_v183 (F := Ideal) x1 x7 x9 x10 (ix2 a k) = val_main_v122 (F := Ideal) x1 x7 x9 x10 (ix1 k) := by
  rw [val_main_v183_apply (F := Ideal)]
  refine congrArg _ ?_
  idx_ext

include h1 h7 h9 h10 in
theorem v183_real (k : Fin 128) : val_main_v183 (F := Ideal) x1 x7 x9 x10 (ix2 0 k) = ((dgk Z Wk DK DV k : ℝ) : EReal) :=
  (v183_at x1 x7 x9 x10 0 k).trans (v122_real x1 x7 x9 x10 Z Wk DK DV h1 h7 h9 h10 k)

end Cert.MlaPrepRefIdeal.Reads

end
-- ==== Proof.MlaPrep.RefBackQ.lean ====
/- The reference's gradient of the queries' rows over the reals. -/
module

public import proofs.«01_k».proof.Proof.MlaPrep.RefGain

@[expose] public section

set_option maxRecDepth 16384

noncomputable section

namespace Cert.MlaPrepRefIdeal.Reads

open Idealize.ShloMosaic Idealize.ShloMosaic.TcCoe Idealize.SL.Sem
open Cert.MlaPrepRefIdeal Cert.MlaPrepRefIdeal.Read Cert.Reals Cert.MlaSpec Cert.Tokens

variable (x0 : FVec Ideal S2x2048x256 .f32) (x1 : FVec Ideal S2x2048x128 .f32) (x3 : IVec S2x2048 32)
  (x4 : FVec Ideal S1x256 .f32) (x5 : FVec Ideal S1x256x1536 .f32) (x6 : FVec Ideal S1x128 .f32) (x7 : FVec Ideal S1x128x2048 .f32)
  (x8 x9 : FVec Ideal S2x2048x8x192 .f32) (x10 : FVec Ideal S2x2048x8x128 .f32)
  (X : Fin 2 → Fin 2048 → Fin 256 → ℝ) (Z : Fin 2 → Fin 2048 → Fin 128 → ℝ) (P : Fin 2 → Fin 2048 → ℝ)
  (gq : Fin 256 → ℝ) (Wq : Fin 256 → Fin 1536 → ℝ) (gk : Fin 128 → ℝ) (Wk : Fin 128 → Fin 2048 → ℝ)
  (DQ DK : Fin 2 → Fin 2048 → Fin 8 → Fin 192 → ℝ) (DV : Fin 2 → Fin 2048 → Fin 8 → Fin 128 → ℝ)
  (h0 : ∀ b s d, x0 (ix3 b s d) = (X b s d : EReal)) (h1 : ∀ b s d, x1 (ix3 b s d) = (Z b s d : EReal))
  (h3 : ∀ b s, ((x3 (ix2 b s)).toInt : ℝ) = P b s)
  (h4 : ∀ k, x4 (ix2 0 k) = (gq k : EReal)) (h5 : ∀ k c, x5 (ix3 0 k c) = (Wq k c : EReal))
  (h6 : ∀ k, x6 (ix2 0 k) = (gk k : EReal)) (h7 : ∀ k c, x7 (ix3 0 k c) = (Wk k c : EReal))
  (h8 : ∀ b s h j, x8 (ix4 b s h j) = (DQ b s h j : EReal)) (h9 : ∀ b s h j, x9 (ix4 b s h j) = (DK b s h j : EReal))
  (h10 : ∀ b s h j, x10 (ix4 b s h j) = (DV b s h j : EReal))

/-! The norms' gradients. -/

include h3 h4 h5 h8 in
theorem v158_real (b : Fin 2) (s : Fin 2048) (d : Fin 256) :
    val_main_v158 (F := Ideal) x3 x4 x5 x8 (ix3 b s d) = ((dcq P Wq DQ b s d * gq d : ℝ) : EReal) := by
  rw [val_main_v158_apply (F := Ideal), v153_real x3 x5 x8 P Wq DQ h3 h5 h8]
  generalize dcq P Wq DQ b s d = z
  pointwise [val_main_v157, val_main_v38, val_main_v19]
  rw [h4, ← EReal.coe_mul]

theorem v162_at (b : Fin 2) (s : Fin 2048) (u : Fin 1) :
    val_main_v162 (F := Ideal) x0 x3 x4 x5 x8 (ix3 b s u) = val_main_v161 (F := Ideal) x0 x3 x4 x5 x8 (ix2 b s) := by
  rw [val_main_v162_apply (F := Ideal)]
  refine congrArg _ ?_
  idx_ext

include h0 h3 h4 h5 h8 in
theorem v161_real (b : Fin 2) (s : Fin 2048) : val_main_v161 (F := Ideal) x0 x3 x4 x5 x8 (ix2 b s)
    = ((∑ k, X b s k * (dcq P Wq DQ b s k * gq k) : ℝ) : EReal) := by
  refine (val_main_v161_apply x0 x3 x4 x5 x8 _).trans ?_
  refine (congrArg₂ (· + ·) ((val_main_cst_23_apply (F := Ideal) _).trans w_zero) (Finset.sum_congr rfl fun k _ =>
    (congrArg _ (show idx_main_v161 (ix2 b s) k = ix3 b s k by idx_ext)).trans
      ((val_main_v160_apply (F := Ideal) x0 x3 x4 x5 x8 _).trans (mulf_real (h0 b s k) (v158_real x3 x4 x5 x8 P gq Wq DQ h3 h4 h5 h8 b s k))))).trans ?_
  refine (zero_add (M := EReal) _).trans ?_
  exact coe_sum _ _

include h0 in
theorem v35_real (b : Fin 2) (s : Fin 2048) (u : Fin 1) : val_main_v35 (F := Ideal) x0 (ix3 b s u)
    = ((-1 / 2 * (rinv (X b s) / msq (X b s)) : ℝ) : EReal) := by
  have r := v32_real x0 X h0
  have q := v31_real x0 X h0
  unfold val_main_v35 val_main_v33
  generalize val_main_v32 (F := Ideal) x0 = R at r ⊢
  generalize val_main_v31 (F := Ideal) x0 = Q at q ⊢
  pointwise [val_main_v34, val_main_cst_8]
  simp only [r, q, div_real _ (msq_pos _).ne', w_neghalf, ← EReal.coe_mul]

include h0 h3 h4 h5 h8 in
theorem v165_real (b : Fin 2) (s : Fin 2048) (u : Fin 1) :
    val_main_v165 (F := Ideal) x0 x3 x4 x5 x8 (ix3 b s u)
      = (((∑ k, X b s k * (dcq P Wq DQ b s k * gq k)) * (-1 / 2 * (rinv (X b s) / msq (X b s))) : ℝ) : EReal) := by
  refine (val_main_v165_apply (F := Ideal) x0 x3 x4 x5 x8 _).trans (mulf_real ((v162_at x0 x3 x4 x5 x8 b s u).trans
    (v161_real x0 x3 x4 x5 x8 X P gq Wq DQ h0 h3 h4 h5 h8 b s)) (v35_real x0 X h0 b s u))

include h0 h3 h4 h5 h8 in
theorem v168_real (b : Fin 2) (s : Fin 2048) :
    val_main_v168 (F := Ideal) x0 x3 x4 x5 x8 (ix2 b s)
      = (((∑ k, X b s k * (dcq P Wq DQ b s k * gq k)) * (-1 / 2 * (rinv (X b s) / msq (X b s))) / 256 : ℝ) : EReal) := by
  pointwise [val_main_v168, val_main_v167, val_main_v166, val_main_cst_24, val_main_cst_25]
  simp only [v165_real x0 x3 x4 x5 x8 X P gq Wq DQ h0 h3 h4 h5 h8, Finset.univ_unique, Finset.sum_singleton, zero_add, w_256,
    div_real _ (show (256 : ℝ) ≠ 0 by norm_num)]

theorem addf_realq {x y : Elt Ideal .f32} {a b : ℝ} (hx : x = (a : EReal)) (hy : y = (b : EReal)) :
    FloatOps.addf (F := Ideal) (φ := .f32) x y = ((a + b : ℝ) : EReal) := by
  subst hx hy; exact (EReal.coe_add _ _).symm

include h0 in
theorem v25_real (b : Fin 2) (s : Fin 2048) (d : Fin 256) : val_main_v25 (F := Ideal) x0 (ix3 b s d) = ((2 * X b s d : ℝ) : EReal) := by
  pointwise [val_main_v25, val_main_v24, val_main_cst_4]
  rw [w_two, h0, ← EReal.coe_mul]

include h0 h3 h4 h5 h8 in
theorem v171_real (b : Fin 2) (s : Fin 2048) (d : Fin 256) :
    val_main_v171 (F := Ideal) x0 x3 x4 x5 x8 (ix3 b s d)
      = ((rmsBwd (X b s) (fun k => dcq P Wq DQ b s k * gq k) d : ℝ) : EReal) := by
  have e := v158_real x3 x4 x5 x8 P gq Wq DQ h3 h4 h5 h8 b s d
  have r := (val_main_v163_apply (F := Ideal) x0 (ix3 b s d)).trans ((congrArg _ (show idx_main_v163 (ix3 b s d) = ix3 b s 0 by idx_ext)).trans
    (v32_real x0 X h0 b s 0))
  have f := (val_main_v169_apply (F := Ideal) x0 x3 x4 x5 x8 (ix3 b s d)).trans ((congrArg _ (show idx_main_v169 (ix3 b s d) = ix2 b s by idx_ext)).trans
    (v168_real x0 x3 x4 x5 x8 X P gq Wq DQ h0 h3 h4 h5 h8 b s))
  refine (val_main_v171_apply (F := Ideal) x0 x3 x4 x5 x8 _).trans ((addf_realq
    ((val_main_v164_apply (F := Ideal) x0 x3 x4 x5 x8 _).trans (mulf_real e r))
    ((val_main_v170_apply (F := Ideal) x0 x3 x4 x5 x8 _).trans (mulf_real f (v25_real x0 X h0 b s d)))).trans (congrArg _ ?_))
  generalize dcq P Wq DQ = E
  simp only [← rmsBwd_vjp, Nat.cast_ofNat]

end Cert.MlaPrepRefIdeal.Reads

end
-- ==== Proof.MlaPrep.RefBackK.lean ====
/- The reference's gradient of the keys' and values' rows over the reals. -/
module

public import proofs.«01_k».proof.Proof.MlaPrep.RefGain

@[expose] public section

set_option maxRecDepth 16384

noncomputable section

namespace Cert.MlaPrepRefIdeal.Reads

open Idealize.ShloMosaic Idealize.ShloMosaic.TcCoe Idealize.SL.Sem
open Cert.MlaPrepRefIdeal Cert.MlaPrepRefIdeal.Read Cert.Reals Cert.MlaSpec Cert.Tokens

variable (x0 : FVec Ideal S2x2048x256 .f32) (x1 : FVec Ideal S2x2048x128 .f32) (x3 : IVec S2x2048 32)
  (x4 : FVec Ideal S1x256 .f32) (x5 : FVec Ideal S1x256x1536 .f32) (x6 : FVec Ideal S1x128 .f32) (x7 : FVec Ideal S1x128x2048 .f32)
  (x8 x9 : FVec Ideal S2x2048x8x192 .f32) (x10 : FVec Ideal S2x2048x8x128 .f32)
  (X : Fin 2 → Fin 2048 → Fin 256 → ℝ) (Z : Fin 2 → Fin 2048 → Fin 128 → ℝ) (P : Fin 2 → Fin 2048 → ℝ)
  (gq : Fin 256 → ℝ) (Wq : Fin 256 → Fin 1536 → ℝ) (gk : Fin 128 → ℝ) (Wk : Fin 128 → Fin 2048 → ℝ)
  (DQ DK : Fin 2 → Fin 2048 → Fin 8 → Fin 192 → ℝ) (DV : Fin 2 → Fin 2048 → Fin 8 → Fin 128 → ℝ)
  (h0 : ∀ b s d, x0 (ix3 b s d) = (X b s d : EReal)) (h1 : ∀ b s d, x1 (ix3 b s d) = (Z b s d : EReal))
  (h3 : ∀ b s, ((x3 (ix2 b s)).toInt : ℝ) = P b s)
  (h4 : ∀ k, x4 (ix2 0 k) = (gq k : EReal)) (h5 : ∀ k c, x5 (ix3 0 k c) = (Wq k c : EReal))
  (h6 : ∀ k, x6 (ix2 0 k) = (gk k : EReal)) (h7 : ∀ k c, x7 (ix3 0 k c) = (Wk k c : EReal))
  (h8 : ∀ b s h j, x8 (ix4 b s h j) = (DQ b s h j : EReal)) (h9 : ∀ b s h j, x9 (ix4 b s h j) = (DK b s h j : EReal))
  (h10 : ∀ b s h j, x10 (ix4 b s h j) = (DV b s h j : EReal))

include h6 h7 h9 h10 in
theorem v121_real (b : Fin 2) (s : Fin 2048) (d : Fin 128) :
    val_main_v121 (F := Ideal) x6 x7 x9 x10 (ix3 b s d) = ((dck Wk DK DV b s d * gk d : ℝ) : EReal) := by
  rw [val_main_v121_apply (F := Ideal), v116_real x7 x9 x10 Wk DK DV h7 h9 h10]
  generalize dck Wk DK DV b s d = z
  pointwise [val_main_v120, val_main_v75, val_main_v21]
  rw [h6, ← EReal.coe_mul]

theorem v125_at (b : Fin 2) (s : Fin 2048) (u : Fin 1) :
    val_main_v125 (F := Ideal) x1 x6 x7 x9 x10 (ix3 b s u) = val_main_v124 (F := Ideal) x1 x6 x7 x9 x10 (ix2 b s) := by
  rw [val_main_v125_apply (F := Ideal)]
  refine congrArg _ ?_
  idx_ext

include h1 h6 h7 h9 h10 in
theorem v124_real (b : Fin 2) (s : Fin 2048) : val_main_v124 (F := Ideal) x1 x6 x7 x9 x10 (ix2 b s)
    = ((∑ k, Z b s k * (dck Wk DK DV b s k * gk k) : ℝ) : EReal) := by
  refine (val_main_v124_apply x1 x6 x7 x9 x10 _).trans ?_
  refine (congrArg₂ (· + ·) ((val_main_cst_18_apply (F := Ideal) _).trans w_zero) (Finset.sum_congr rfl fun k _ =>
    (congrArg _ (show idx_main_v124 (ix2 b s) k = ix3 b s k by idx_ext)).trans
      ((val_main_v123_apply (F := Ideal) x1 x6 x7 x9 x10 _).trans (mulf_real (h1 b s k) (v121_real x6 x7 x9 x10 gk Wk DK DV h6 h7 h9 h10 b s k))))).trans ?_
  refine (zero_add (M := EReal) _).trans ?_
  exact coe_sum _ _

include h1 in
theorem v72_real (b : Fin 2) (s : Fin 2048) (u : Fin 1) : val_main_v72 (F := Ideal) x1 (ix3 b s u)
    = ((-1 / 2 * (rinv (Z b s) / msq (Z b s)) : ℝ) : EReal) := by
  have r := v69_real x1 Z h1
  have q := v68_real x1 Z h1
  unfold val_main_v72 val_main_v70
  generalize val_main_v69 (F := Ideal) x1 = R at r ⊢
  generalize val_main_v68 (F := Ideal) x1 = Q at q ⊢
  pointwise [val_main_v71, val_main_cst_13]
  simp only [r, q, div_real _ (msq_pos _).ne', w_neghalf, ← EReal.coe_mul]

include h1 h6 h7 h9 h10 in
theorem v128_real (b : Fin 2) (s : Fin 2048) (u : Fin 1) :
    val_main_v128 (F := Ideal) x1 x6 x7 x9 x10 (ix3 b s u)
      = (((∑ k, Z b s k * (dck Wk DK DV b s k * gk k)) * (-1 / 2 * (rinv (Z b s) / msq (Z b s))) : ℝ) : EReal) := by
  refine (val_main_v128_apply (F := Ideal) x1 x6 x7 x9 x10 _).trans (mulf_real ((v125_at x1 x6 x7 x9 x10 b s u).trans
    (v124_real x1 x6 x7 x9 x10 Z gk Wk DK DV h1 h6 h7 h9 h10 b s)) (v72_real x1 Z h1 b s u))

include h1 h6 h7 h9 h10 in
theorem v131_real (b : Fin 2) (s : Fin 2048) :
    val_main_v131 (F := Ideal) x1 x6 x7 x9 x10 (ix2 b s)
      = (((∑ k, Z b s k * (dck Wk DK DV b s k * gk k)) * (-1 / 2 * (rinv (Z b s) / msq (Z b s))) / 128 : ℝ) : EReal) := by
  pointwise [val_main_v131, val_main_v130, val_main_v129, val_main_cst_19, val_main_cst_20]
  simp only [v128_real x1 x6 x7 x9 x10 Z gk Wk DK DV h1 h6 h7 h9 h10, Finset.univ_unique, Finset.sum_singleton, zero_add, w_128,
    div_real _ (show (128 : ℝ) ≠ 0 by norm_num)]

theorem addf_realk {x y : Elt Ideal .f32} {a b : ℝ} (hx : x = (a : EReal)) (hy : y = (b : EReal)) :
    FloatOps.addf (F := Ideal) (φ := .f32) x y = ((a + b : ℝ) : EReal) := by
  subst hx hy; exact (EReal.coe_add _ _).symm

include h1 in
theorem v62_real (b : Fin 2) (s : Fin 2048) (d : Fin 128) : val_main_v62 (F := Ideal) x1 (ix3 b s d) = ((2 * Z b s d : ℝ) : EReal) := by
  pointwise [val_main_v62, val_main_v61, val_main_cst_9]
  rw [w_two, h1, ← EReal.coe_mul]

include h1 h6 h7 h9 h10 in
theorem v134_real (b : Fin 2) (s : Fin 2048) (d : Fin 128) :
    val_main_v134 (F := Ideal) x1 x6 x7 x9 x10 (ix3 b s d)
      = ((rmsBwd (Z b s) (fun k => dck Wk DK DV b s k * gk k) d : ℝ) : EReal) := by
  have e := v121_real x6 x7 x9 x10 gk Wk DK DV h6 h7 h9 h10 b s d
  have r := (val_main_v126_apply (F := Ideal) x1 (ix3 b s d)).trans ((congrArg _ (show idx_main_v126 (ix3 b s d) = ix3 b s 0 by idx_ext)).trans
    (v69_real x1 Z h1 b s 0))
  have f := (val_main_v132_apply (F := Ideal) x1 x6 x7 x9 x10 (ix3 b s d)).trans ((congrArg _ (show idx_main_v132 (ix3 b s d) = ix2 b s by idx_ext)).trans
    (v131_real x1 x6 x7 x9 x10 Z gk Wk DK DV h1 h6 h7 h9 h10 b s))
  refine (val_main_v134_apply (F := Ideal) x1 x6 x7 x9 x10 _).trans ((addf_realk
    ((val_main_v127_apply (F := Ideal) x1 x6 x7 x9 x10 _).trans (mulf_real e r))
    ((val_main_v133_apply (F := Ideal) x1 x6 x7 x9 x10 _).trans (mulf_real f (v62_real x1 Z h1 b s d)))).trans (congrArg _ ?_))
  generalize dck Wk DK DV = E
  simp only [← rmsBwd_vjp, Nat.cast_ofNat]

end Cert.MlaPrepRefIdeal.Reads

end
-- ==== Proof.MlaPrep.RefRows.lean ====
/- The reference's gradients of the projected rows side by side. -/
module

public import proofs.«01_k».proof.Proof.MlaPrep.RefBackQ
public import proofs.«01_k».proof.Proof.MlaPrep.RefBackK

@[expose] public section

set_option maxRecDepth 16384

noncomputable section

namespace Cert.MlaPrepRefIdeal.Reads

open Idealize.ShloMosaic Idealize.ShloMosaic.TcCoe Idealize.SL.Sem
open Cert.MlaPrepRefIdeal Cert.MlaPrepRefIdeal.Read Cert.Reals Cert.MlaSpec Cert.Tokens

variable (x0 : FVec Ideal S2x2048x256 .f32) (x1 : FVec Ideal S2x2048x128 .f32) (x3 : IVec S2x2048 32)
  (x4 : FVec Ideal S1x256 .f32) (x5 : FVec Ideal S1x256x1536 .f32) (x6 : FVec Ideal S1x128 .f32) (x7 : FVec Ideal S1x128x2048 .f32)
  (x8 x9 : FVec Ideal S2x2048x8x192 .f32) (x10 : FVec Ideal S2x2048x8x128 .f32)
  (X : Fin 2 → Fin 2048 → Fin 256 → ℝ) (Z : Fin 2 → Fin 2048 → Fin 128 → ℝ) (P : Fin 2 → Fin 2048 → ℝ)
  (gq : Fin 256 → ℝ) (Wq : Fin 256 → Fin 1536 → ℝ) (gk : Fin 128 → ℝ) (Wk : Fin 128 → Fin 2048 → ℝ)
  (DQ DK : Fin 2 → Fin 2048 → Fin 8 → Fin 192 → ℝ) (DV : Fin 2 → Fin 2048 → Fin 8 → Fin 128 → ℝ)
  (h0 : ∀ b s d, x0 (ix3 b s d) = (X b s d : EReal)) (h1 : ∀ b s d, x1 (ix3 b s d) = (Z b s d : EReal))
  (h3 : ∀ b s, ((x3 (ix2 b s)).toInt : ℝ) = P b s)
  (h4 : ∀ k, x4 (ix2 0 k) = (gq k : EReal)) (h5 : ∀ k c, x5 (ix3 0 k c) = (Wq k c : EReal))
  (h6 : ∀ k, x6 (ix2 0 k) = (gk k : EReal)) (h7 : ∀ k c, x7 (ix3 0 k c) = (Wk k c : EReal))
  (h8 : ∀ b s h j, x8 (ix4 b s h j) = (DQ b s h j : EReal)) (h9 : ∀ b s h j, x9 (ix4 b s h j) = (DK b s h j : EReal))
  (h10 : ∀ b s h j, x10 (ix4 b s h j) = (DV b s h j : EReal))

include h0 h1 h3 h4 h5 h6 h7 h8 h9 h10 in
theorem v178_real (i : S4096x512.Idx) :
    val_main_v178 (F := Ideal) x0 x1 x3 x4 x5 x6 x7 x8 x9 x10 i
      = ((dzs X Z P gq Wq gk Wk DQ DK DV (tb (i 0).val (i 0).isLt) (ts (i 0).val) (i 1) : ℝ) : EReal) := by
  idx_vars i
  have e := v171_real x0 x3 x4 x5 x8 X P gq Wq DQ h0 h3 h4 h5 h8
  have f := v134_real x1 x6 x7 x9 x10 Z gk Wk DK DV h1 h6 h7 h9 h10
  have g := v111_real x3 x9 P DK h3 h9
  unfold val_main_v178 val_main_v174 val_main_v173 dzs
  generalize val_main_v171 (F := Ideal) x0 x3 x4 x5 x8 = u at e ⊢
  generalize val_main_v134 (F := Ideal) x1 x6 x7 x9 x10 = v at f ⊢
  generalize val_main_v111 (F := Ideal) x3 x9 = w at g ⊢
  generalize dcq P Wq DQ = E at e ⊢
  generalize dck Wk DK DV = E' at f ⊢
  pointwise [val_main_v172, val_main_cst_26]
  simp only [e, f, g]
  have := i1.isLt
  by_cases a : i1.val < 256
  · simp only [a, dite_true]; rfl
  have a' : i1.val - 256 < 128 ↔ i1.val < 384 := by omega
  have a'' : i1.val - 256 - 128 < 64 ↔ i1.val < 448 := by omega
  have e : i1.val - 256 - 128 = i1.val - 384 := by omega
  have e' : i1.val - 384 < 64 ↔ i1.val < 448 := by omega
  simp only [a, dite_false, a', a'', e, e']
  by_cases b : i1.val < 384
  · simp only [b, dite_true]; rfl
  by_cases c : i1.val < 448
  · simp only [b, c, dite_true, dite_false]; rfl
  · simp only [b, c, dite_false]; rfl

end Cert.MlaPrepRefIdeal.Reads

end
-- ==== Proof.MlaPrep.Body.lean ====
/- The kernel's body over the reals: the values one grid point computes from its blocks. -/
module

public import proofs.«01_k».proof.Proof.Gen.MlaPrepIdeal.Skeleton
public import proofs.«01_k».proof.Proof.MlaPrep.Spec
public import Idealize.ShloMosaic.Lib.WordCmp

@[expose] public section

set_option maxRecDepth 16384

noncomputable section

namespace Cert.MlaPrepIdeal.Body

open Idealize.ShloMosaic Idealize.ShloMosaic.TcCoe Idealize.SL.Sem
open Cert.MlaPrepIdeal Cert.MlaPrepIdeal.Gen Cert.Reals Cert.MlaSpec

/-! The rotary embedding. -/

section Rope
variable (u : IVec S512x1 32) (f : FVec Ideal S1x128 .f32) (p : Fin 512 → ℝ)
  (hu : ∀ r, ((u (ix2 r 0)).toInt : ℝ) = p r) (hf : ∀ l (h : l.val < 64), f (ix2 0 l) = ((1 / base (Fin.ofNat 32 l.val) : ℝ) : EReal))

include hu hf in
theorem pay7_real (r : Fin 512) (l : Fin 128) (h : l.val < 64) :
    k0_pay7 (F := Ideal) u f (ix2 r l) = ((ang (p r) ⟨l.val % 32, by omega⟩ : ℝ) : EReal) := by
  pointwise [k0_pay7]
  rw [hf l h, ← hu r]
  exact (EReal.coe_mul _ _).symm

include hu hf in
theorem pay9_real (r : Fin 512) (l : Fin 128) :
    k0_pay9 (F := Ideal) u f (ix2 r l) = ((if l.val < 64 then Real.cos (ang (p r) ⟨l.val % 32, by omega⟩) else 0 : ℝ) : EReal) := by
  pointwise [k0_pay9]
  rw [show IntOp.cmpi .slt (BitVec.ofNat 32 l.val) 64#32 = BitVec.ofBool (decide (l.val < 64)) by word_cmp]
  by_cases h : l.val < 64
  · simp only [h, decide_true, if_true, pay7_real u f p hu hf r l h, Ideal.cos_coe, Scalar.select, BitVec.ofBool_true, if_true]
  · simp only [h, decide_false, if_false, Scalar.select, BitVec.ofBool_false]; rfl

include hu hf in
theorem pay10_real (r : Fin 512) (l : Fin 128) :
    k0_pay10 (F := Ideal) u f (ix2 r l) = ((if l.val < 32 then -Real.sin (ang (p r) ⟨l.val % 32, by omega⟩) else 0 : ℝ) : EReal) := by
  pointwise [k0_pay10, k0_pay8]
  rw [show IntOp.cmpi .slt (BitVec.ofNat 32 l.val) 32#32 = BitVec.ofBool (decide (l.val < 32)) by word_cmp]
  by_cases h : l.val < 32
  · simp only [h, decide_true, if_true, pay7_real u f p hu hf r l (by omega), Ideal.sin_coe, Scalar.select, BitVec.ofBool_true, if_true,
      zero_sub, EReal.coe_neg]
  · simp only [h, decide_false, if_false, Scalar.select, BitVec.ofBool_false]; rfl

include hu hf in
theorem pay11_real (r : Fin 512) (l : Fin 128) :
    k0_pay11 (F := Ideal) u f (ix2 r l)
      = ((if 32 ≤ l.val ∧ l.val < 64 then Real.sin (ang (p r) ⟨l.val % 32, by omega⟩) else 0 : ℝ) : EReal) := by
  pointwise [k0_pay11, k0_pay8]
  rw [show IntOp.cmpi .slt (BitVec.ofNat 32 l.val) 64#32 = BitVec.ofBool (decide (l.val < 64)) by word_cmp,
    show IntOp.cmpi .sge (BitVec.ofNat 32 l.val) 32#32 = BitVec.ofBool (decide (32 ≤ l.val)) by word_cmp]
  by_cases h : 32 ≤ l.val <;> by_cases h' : l.val < 64
  · simp only [h, h', decide_true, if_true, and_self, pay7_real u f p hu hf r l h', Ideal.sin_coe]; rfl
  all_goals simp only [h, h', decide_true, decide_false, if_false, and_self, and_false, false_and]; rfl

include hu hf in
/-- A tile turned back: itself by the cosines, plus itself moved by 32 lanes either way by the signed sines. -/
theorem rope_real (x : FVec Ideal S512x128 .f32) (Y : Fin 512 → Fin 128 → ℝ) (hx : ∀ r l, x (ix2 r l) = (Y r l : EReal))
    (r : Fin 512) (l : Fin 128) :
    k0_pay2 (F := Ideal) (k0_pay9 u f) (k0_pay10 u f) (k0_pay11 u f) x (ix2 r l) = ((lanes (ang (p r)) (Y r) l : ℝ) : EReal) := by
  pointwise [k0_pay2]
  have := l.isLt
  simp only [hx, pay9_real u f p hu hf, pay10_real u f p hu hf, pay11_real u f p hu hf, ← EReal.coe_mul, ← EReal.coe_add]
  refine congrArg _ ?_
  unfold lanes
  by_cases a : l.val < 32
  · have e1 : l.val < 64 := by omega
    have e2 : l.val % 32 = l.val := by omega
    have e3 : ¬ (l.val + 128 - 32) % 128 < 32 := by omega
    have e4 : (l.val + 128 - 96) % 128 = 32 + l.val := by omega
    have e5 : 32 ≤ 32 + l.val ∧ 32 + l.val < 64 := by omega
    have e6 : (32 + l.val) % 32 = l.val := by omega
    simp only [a, e1, e2, e3, e4, e5, e6, if_true, if_false, dite_true, mul_zero, add_zero, and_self]
    ring
  · by_cases b : l.val < 64
    · have e2 : l.val % 32 = l.val - 32 := by omega
      have e3 : (l.val + 128 - 32) % 128 = l.val - 32 := by omega
      have e5 : ¬ (32 ≤ (l.val + 128 - 96) % 128 ∧ (l.val + 128 - 96) % 128 < 64) := by omega
      have e6 : (l.val - 32) % 32 = l.val - 32 := by omega
      have e7 : l.val - 32 < 32 := by omega
      simp only [a, b, e2, e3, e5, e6, e7, if_true, if_false, dite_true, dite_false, mul_zero, add_zero]
      ring
    · have e3 : ¬ (l.val + 128 - 32) % 128 < 32 := by omega
      have e5 : ¬ (32 ≤ (l.val + 128 - 96) % 128 ∧ (l.val + 128 - 96) % 128 < 64) := by omega
      simp only [a, b, e3, e5, if_false, dite_false, mul_zero, add_zero]

include hu hf in
theorem pay24_real (x : FVec Ideal S512x128 .bf16) (Y : Fin 512 → Fin 128 → ℝ) (hx : ∀ r l, x (ix2 r l) = (Y r l : EReal))
    (r : Fin 512) (l : Fin 128) :
    k0_pay30 (F := Ideal) (k0_pay9 u f) (k0_pay10 u f) (k0_pay11 u f) x (ix2 r l) = ((lanes (ang (p r)) (Y r) l : ℝ) : EReal) := by
  refine Eq.trans ?_ (rope_real u f p hu hf (fun j => x j) Y hx r l)
  pointwise [k0_pay30, k0_pay2]

end Rope

/-! Copies and the sum over heads. -/

theorem pay23_at (x : FVec Ideal S512x128 .bf16) (j) : k0_pay23 (F := Ideal) x j = x j := by idx_vars j; pointwise [k0_pay23]

theorem pay28_at (v : FVec Ideal S512x128 .f32) (x : FVec Ideal S512x128 .bf16) (j) : k0_pay28 (F := Ideal) v x j = v j + x j := by
  idx_vars j; pointwise [k0_pay28]

theorem heads_real (x0 x1 x2 x3 x4 x5 x6 x7 : FVec Ideal S512x128 .bf16) (Y : Fin 8 → ℝ) (j)
    (h0 : x0 j = (Y 0 : EReal)) (h1 : x1 j = (Y 1 : EReal)) (h2 : x2 j = (Y 2 : EReal)) (h3 : x3 j = (Y 3 : EReal))
    (h4 : x4 j = (Y 4 : EReal)) (h5 : x5 j = (Y 5 : EReal)) (h6 : x6 j = (Y 6 : EReal)) (h7 : x7 j = (Y 7 : EReal)) :
    k0_pay67 (F := Ideal) (k0_pay61 (k0_pay55 (k0_pay50 (k0_pay44 (k0_pay38 (k0_pay33 (k0_pay28 k0_pay22 x0) x1) x2) x3) x4) x5) x6) x7 j
      = ((∑ h, Y h : ℝ) : EReal) := by
  refine (pay28_at _ x7 j).trans ?_
  refine (congrArg (· + _) ((pay28_at _ x6 j).trans (congrArg (· + _) ((pay28_at _ x5 j).trans (congrArg (· + _) ((pay28_at _ x4 j).trans
    (congrArg (· + _) ((pay28_at _ x3 j).trans (congrArg (· + _) ((pay28_at _ x2 j).trans (congrArg (· + _) ((pay28_at _ x1 j).trans
    (congrArg (· + _) (pay28_at _ x0 j)))))))))))))).trans ?_
  have e : k0_pay22 (F := Ideal) j = ((0 : ℝ) : EReal) := by idx_vars j; pointwise [k0_pay22]; rfl
  rw [e, h0, h1, h2, h3, h4, h5, h6, h7]
  simp only [← EReal.coe_add]
  refine congrArg _ ?_
  simp only [Fin.sum_univ_eight]
  ring

/-! The norms. -/

section NormQ
variable (x : FVec Ideal S512x256 .f32) (G : Fin 512 → Fin 256 → ℝ) (h : ∀ r d, x (ix2 r d) = (G r d : EReal))
include h

theorem pay15_real (r : Fin 512) (u : Fin 1) : k0_pay15 (F := Ideal) (k0_pay13 x) k0_pay14 (ix2 r u) = ((rinv (G r) : ℝ) : EReal) := by
  pointwise [k0_pay15, k0_pay14, k0_pay13, k0_pay12]
  simp only [h, coe_sum, w_256, w_eps, ← EReal.coe_mul, ← EReal.coe_add, div_real _ (show (256 : ℝ) ≠ 0 by norm_num)]
  rw [rsqrt_real] <;> [skip; (have := msq_pos (G r); simpa [msq, eps] using this)]
  simp [rinv, msq, eps]

theorem pay16_real (r : Fin 512) (d : Fin 256) :
    k0_pay16 (F := Ideal) (k0_pay12 x) (k0_pay13 x) k0_pay14 (ix2 r d) = ((xh (G r) d : ℝ) : EReal) := by
  pointwise [k0_pay16, k0_pay12]
  rw [pay15_real x G h, h, ← EReal.coe_mul]; rfl

theorem pay17_real (y : FVec Ideal S1x256 .f32) (g : Fin 256 → ℝ) (hy : ∀ d, y (ix2 0 d) = (g d : EReal)) (r : Fin 512) (d : Fin 256) :
    k0_pay17 (F := Ideal) (k0_pay12 x) y (k0_pay13 x) k0_pay14 (ix2 r d) = ((xh (G r) d * g d : ℝ) : EReal) := by
  pointwise [k0_pay17]
  rw [pay16_real x G h, hy, ← EReal.coe_mul]

variable (e : FVec Ideal S512x256 .f32) (E : Fin 512 → Fin 256 → ℝ) (he : ∀ r d, e (ix2 r d) = (E r d : EReal))
include he

theorem pay74_real (acc : FVec Ideal S1x256 .f32) (d : Fin 256) :
    k0_pay74 (F := Ideal) (k0_pay16 (k0_pay12 x) (k0_pay13 x) k0_pay14) e acc (ix2 0 d)
      = acc (ix2 0 d) + ((∑ r, E r d * xh (G r) d : ℝ) : EReal) := by
  pointwise [k0_pay74]
  simp only [he, pay16_real x G h, ← EReal.coe_mul, coe_sum]

theorem pay76_real (y : FVec Ideal S1x256 .f32) (g : Fin 256 → ℝ) (hy : ∀ d, y (ix2 0 d) = (g d : EReal)) (r : Fin 512) (d : Fin 256) :
    k0_pay76 (F := Ideal) (k0_pay15 (k0_pay13 x) k0_pay14) (k0_pay16 (k0_pay12 x) (k0_pay13 x) k0_pay14) e y (ix2 r d)
      = ((rmsBwd (G r) (fun k => E r k * g k) d : ℝ) : EReal) := by
  pointwise [k0_pay76]
  simp only [he, hy, pay15_real x G h, pay16_real x G h, ← EReal.coe_mul, coe_sum, w_256,
    div_real _ (show (256 : ℝ) ≠ 0 by norm_num), ← EReal.coe_sub]
  simp [rmsBwd, xh]

end NormQ

section NormK
variable (x : FVec Ideal S512x128 .f32) (G : Fin 512 → Fin 128 → ℝ) (h : ∀ r d, x (ix2 r d) = (G r d : EReal))
include h

theorem pay19_real (r : Fin 512) (u : Fin 1) : k0_pay19 (F := Ideal) x (ix2 r u) = ((rinv (G r) : ℝ) : EReal) := by
  pointwise [k0_pay19, k0_pay18]
  simp only [h, coe_sum, w_128, w_eps, ← EReal.coe_mul, ← EReal.coe_add, div_real _ (show (128 : ℝ) ≠ 0 by norm_num)]
  rw [rsqrt_real] <;> [skip; (have := msq_pos (G r); simpa [msq, eps] using this)]
  simp [rinv, msq, eps]

theorem pay20_real (r : Fin 512) (d : Fin 128) : k0_pay20 (F := Ideal) x (ix2 r d) = ((xh (G r) d : ℝ) : EReal) := by
  pointwise [k0_pay20, k0_pay18]
  rw [pay19_real x G h, h, ← EReal.coe_mul]; rfl

theorem pay21_real (y : FVec Ideal S1x128 .f32) (g : Fin 128 → ℝ) (hy : ∀ d, y (ix2 0 d) = (g d : EReal)) (r : Fin 512) (d : Fin 128) :
    k0_pay21 (F := Ideal) x y (ix2 r d) = ((xh (G r) d * g d : ℝ) : EReal) := by
  pointwise [k0_pay21]
  rw [pay20_real x G h, hy, ← EReal.coe_mul]

variable (a : FVec Ideal S512x2048 .bf16) (w : FVec Ideal S128x2048 .bf16) (E : Fin 512 → Fin 128 → ℝ)
  (he : ∀ r d, k0_pay73 (F := Ideal) a w (ix2 r d) = (E r d : EReal))
include he

theorem pay75_real (acc : FVec Ideal S1x128 .f32) (d : Fin 128) :
    k0_pay75 (F := Ideal) (k0_pay20 x) a w acc (ix2 0 d) = acc (ix2 0 d) + ((∑ r, E r d * xh (G r) d : ℝ) : EReal) := by
  pointwise [k0_pay75]
  simp only [he, pay20_real x G h, ← EReal.coe_mul, coe_sum]

theorem pay1_real (y : FVec Ideal S1x128 .f32) (g : Fin 128 → ℝ) (hy : ∀ d, y (ix2 0 d) = (g d : EReal)) (r : Fin 512) (d : Fin 128) :
    k0_pay1 (F := Ideal) (k0_pay19 x) (k0_pay20 x) (k0_pay77 a w y) (k0_pay78 (k0_pay20 x) a w y) (ix2 r d)
      = ((rmsBwd (G r) (fun k => E r k * g k) d : ℝ) : EReal) := by
  pointwise [k0_pay1, k0_pay78, k0_pay77]
  simp only [he, hy, pay19_real x G h, pay20_real x G h, ← EReal.coe_mul, coe_sum, w_128,
    div_real _ (show (128 : ℝ) ≠ 0 by norm_num), ← EReal.coe_sub]
  simp [rmsBwd, xh]

end NormK

/-! The products. -/

theorem pay68_real (q : FVec Ideal S512x256 .f32) (acc : FVec Ideal S2048x256 .f32) (a : FVec Ideal S512x2048 .bf16)
    (Q : Fin 512 → Fin 256 → ℝ) (A : Fin 512 → Fin 2048 → ℝ) (hq : ∀ r k, q (ix2 r k) = (Q r k : EReal))
    (ha : ∀ r c, a (ix2 r c) = (A r c : EReal)) (c : Fin 2048) (k : Fin 256) :
    k0_pay68 (F := Ideal) q acc a (ix2 c k) = acc (ix2 c k) + ((∑ r, A r c * Q r k : ℝ) : EReal) := by
  pointwise [k0_pay68]
  simp only [hq, ha, ← EReal.coe_mul, coe_sum]

theorem pay69_real (q : FVec Ideal S512x128 .f32) (acc : FVec Ideal S128x2048 .f32) (a : FVec Ideal S512x2048 .bf16)
    (Q : Fin 512 → Fin 128 → ℝ) (A : Fin 512 → Fin 2048 → ℝ) (hq : ∀ r k, q (ix2 r k) = (Q r k : EReal))
    (ha : ∀ r c, a (ix2 r c) = (A r c : EReal)) (k : Fin 128) (c : Fin 2048) :
    k0_pay69 (F := Ideal) q acc a (ix2 k c) = acc (ix2 k c) + ((∑ r, Q r k * A r c : ℝ) : EReal) := by
  pointwise [k0_pay69]
  simp only [hq, ha, ← EReal.coe_mul, coe_sum]

theorem pay72_real (a : FVec Ideal S512x2048 .bf16) (w : FVec Ideal S2048x256 .bf16)
    (A : Fin 512 → Fin 2048 → ℝ) (W : Fin 2048 → Fin 256 → ℝ) (ha : ∀ r c, a (ix2 r c) = (A r c : EReal))
    (hw : ∀ c k, w (ix2 c k) = (W c k : EReal)) (r : Fin 512) (k : Fin 256) :
    k0_pay72 (F := Ideal) a w (ix2 r k) = ((∑ c, A r c * W c k : ℝ) : EReal) := by
  pointwise [k0_pay72]
  simp only [hw, ha, ← EReal.coe_mul, coe_sum]

theorem pay73_real (a : FVec Ideal S512x2048 .bf16) (w : FVec Ideal S128x2048 .bf16)
    (A : Fin 512 → Fin 2048 → ℝ) (W : Fin 128 → Fin 2048 → ℝ) (ha : ∀ r c, a (ix2 r c) = (A r c : EReal))
    (hw : ∀ k c, w (ix2 k c) = (W k c : EReal)) (r : Fin 512) (k : Fin 128) :
    k0_pay73 (F := Ideal) a w (ix2 r k) = ((∑ c, A r c * W k c : ℝ) : EReal) := by
  pointwise [k0_pay73]
  simp only [hw, ha, ← EReal.coe_mul, coe_sum]

end Cert.MlaPrepIdeal.Body

end
-- ==== Proof.MlaPrep.Blocks.lean ====
/- The kernel's input blocks over the reals. -/
module

public import proofs.«01_k».proof.Proof.Gen.MlaPrepIdeal.Frame
public import proofs.«01_k».proof.Proof.MlaPrep.Body
public import proofs.«01_k».proof.Proof.Common.Tokens
public import Idealize.ShloMosaic.Lib.Pipeline.ValueKit

@[expose] public section

set_option maxRecDepth 16384

noncomputable section

namespace Cert.MlaPrepIdeal.Final

open Idealize.ShloMosaic Idealize.ShloMosaic.TcCoe Idealize.SL.Sem
open Cert.MlaPrepIdeal Cert.MlaPrepIdeal.Gen Cert.MlaPrepIdeal.Body Cert.Reals Cert.MlaSpec Cert.Tokens

variable (m : (ℓ : Loc nD τ sig) → Buf (Elt Ideal) ℓ) (c : Dev nD)
  (X : Fin 2 → Fin 2048 → Fin 256 → ℝ) (Z : Fin 2 → Fin 2048 → Fin 128 → ℝ) (P : Fin 2 → Fin 2048 → ℝ)
  (gq : Fin 256 → ℝ) (Wq : Fin 256 → Fin 1536 → ℝ) (gk : Fin 128 → ℝ) (Wk : Fin 128 → Fin 2048 → ℝ)
  (DQ DK : Fin 2 → Fin 2048 → Fin 8 → Fin 192 → ℝ) (DV : Fin 2 → Fin 2048 → Fin 8 → Fin 128 → ℝ)

/-- The argument arrays are images of real arrays. -/
structure Args : Prop where
  hX : ∀ i s d, (show FVec Ideal S2x2048x256 .f32 from m ((c : Thread nD τ).loc main_arg0)) (ix3 i s d) = (X i s d : EReal)
  hZ : ∀ i s d, (show FVec Ideal S2x2048x128 .f32 from m ((c : Thread nD τ).loc main_arg1)) (ix3 i s d) = (Z i s d : EReal)
  hP : ∀ i s, (((show IVec S2x2048 32 from m ((c : Thread nD τ).loc main_arg3)) (ix2 i s)).toInt : ℝ) = P i s
  hgq : ∀ d, (show FVec Ideal S1x256 .f32 from m ((c : Thread nD τ).loc main_arg4)) (ix2 0 d) = (gq d : EReal)
  hWq : ∀ k d, (show FVec Ideal S1x256x1536 .f32 from m ((c : Thread nD τ).loc main_arg5)) (ix3 0 k d) = (Wq k d : EReal)
  hgk : ∀ d, (show FVec Ideal S1x128 .f32 from m ((c : Thread nD τ).loc main_arg6)) (ix2 0 d) = (gk d : EReal)
  hWk : ∀ k d, (show FVec Ideal S1x128x2048 .f32 from m ((c : Thread nD τ).loc main_arg7)) (ix3 0 k d) = (Wk k d : EReal)
  hDQ : ∀ i s h j, (show FVec Ideal S2x2048x8x192 .f32 from m ((c : Thread nD τ).loc main_arg8)) (ix4 i s h j) = (DQ i s h j : EReal)
  hDK : ∀ i s h j, (show FVec Ideal S2x2048x8x192 .f32 from m ((c : Thread nD τ).loc main_arg9)) (ix4 i s h j) = (DK i s h j : EReal)
  hDV : ∀ i s h j, (show FVec Ideal S2x2048x8x128 .f32 from m ((c : Thread nD τ).loc main_arg10)) (ix4 i s h j) = (DV i s h j : EReal)

theorem row_lt (t : Fin cfg0.N) (r : Fin 512) : t.val * 512 + r.val < 4096 := by
  have := lt_of_lt_of_eq t.isLt N_0; have := r.isLt; omega

/-- The sequence and the position of row `r` of block `t`. -/
abbrev rb (t : Fin cfg0.N) (r : Fin 512) : Fin 2 := tb _ (row_lt t r)
abbrev rs (t : Fin cfg0.N) (r : Fin 512) : Fin 2048 := ts (t.val * 512 + r.val)

theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![0, 0] ∧ win0_6.index t = ![0, 0]
    ∧ win0_7.index t = ![t.val, 0] ∧ win0_8.index t = ![t.val, 0] ∧ win0_9.index t = ![t.val, 0] ∧ win0_10.index t = ![t.val, 0]
    ∧ win0_11.index t = ![0, 0] ∧ win0_12.index t = ![0, 0] ∧ win0_13.index t = ![0, 0] ∧ win0_14.index t = ![0, 0] :=
  (by decide +kernel : ∀ t : Fin grid0.N, _)

/-- A head of 192 lanes widened to 256 by zeros, heads side by side. -/
def heads (D : Fin 8 → Fin 192 → ℝ) (d : Fin 2048) : ℝ :=
  if h : d.val % 256 < 192 then D ⟨d.val / 256, by omega⟩ ⟨d.val % 256, h⟩ else 0

variable {m c X Z P gq Wq gk Wk DQ DK DV} (h : Args m c X Z P gq Wq gk Wk DQ DK DV)
include h

theorem blk0q (t : Fin cfg0.N) (r : Fin 512) (k : Fin 256) :
    (show FVec Ideal S512x512 .f32 from iblk m c 0 t) (ix2 r ⟨k.val, by omega⟩) = ((X (rb t r) (rs t r) k : ℝ) : EReal) := by
  refine Eq.trans ?_ (h.hX _ _ _)
  unfold iblk Gen.V
  simp only [hostOps0, hostOps0_1, hostOps0_2, hostOps0_3, hostOps0_4, hostOps0_5, hostOps0_6, List.flatten_cons, List.flatten_nil, List.append_nil, List.cons_append, List.nil_append]
  after_results
  blk_simp [idx t]
  pointwise
  have e0 : (((View.whole main_v2).slice (win0_0.rect t)).emb (ix2 r ⟨k.val, by omega⟩) 0).val = t.val * 512 + r.val := by blk_simp [idx t]
  have e1 : (((View.whole main_v2).slice (win0_0.rect t)).emb (ix2 r ⟨k.val, by omega⟩) 1).val = k.val := by blk_simp [idx t]
  simp only [e0, e1, tb, ts]
  exact dif_pos k.isLt

theorem blk0k (t : Fin cfg0.N) (r : Fin 512) (k : Fin 128) :
    (show FVec Ideal S512x512 .f32 from iblk m c 0 t) (ix2 r ⟨256 + k.val, by omega⟩) = ((Z (rb t r) (rs t r) k : ℝ) : EReal) := by
  refine Eq.trans ?_ (h.hZ _ _ _)
  unfold iblk Gen.V
  simp only [hostOps0, hostOps0_1, hostOps0_2, hostOps0_3, hostOps0_4, hostOps0_5, hostOps0_6, List.flatten_cons, List.flatten_nil, List.append_nil, List.cons_append, List.nil_append]
  after_results
  blk_simp [idx t]
  pointwise
  have e0 : (((View.whole main_v2).slice (win0_0.rect t)).emb (ix2 r ⟨256 + k.val, by omega⟩) 0).val = t.val * 512 + r.val := by blk_simp [idx t]
  have e1 : (((View.whole main_v2).slice (win0_0.rect t)).emb (ix2 r ⟨256 + k.val, by omega⟩) 1).val = 256 + k.val := by blk_simp [idx t]
  have := k.isLt
  simp only [e0, e1, tb, ts]
  have a : ¬ 256 + k.val < 256 := by omega
  have b : 256 + k.val - 256 < 128 := by omega
  simp only [a, b, dite_true, dite_false]
  blk_ext [idx t]

theorem blk1 (t : Fin cfg0.N) (r : Fin 512) :
    (((show IVec S512x1 32 from iblk m c 1 t) (ix2 r 0)).toInt : ℝ) = P (rb t r) (rs t r) := by
  rw [← h.hP]
  unfold iblk Gen.V
  simp only [hostOps0, hostOps0_1, hostOps0_2, hostOps0_3, hostOps0_4, hostOps0_5, hostOps0_6, List.flatten_cons, List.flatten_nil, List.append_nil, List.cons_append, List.nil_append]
  after_results
  blk_simp [idx t]
  pointwise
  blk_ext [idx t, tb, ts]

theorem blk3 (t : Fin cfg0.N) (d : Fin 256) :
    (show FVec Ideal S1x256 .f32 from iblk m c 3 t) (ix2 0 d) = ((gq d : ℝ) : EReal) := by
  rw [← h.hgq]
  unfold iblk Gen.V
  simp only [hostOps0, hostOps0_1, hostOps0_2, hostOps0_3, hostOps0_4, hostOps0_5, hostOps0_6, List.flatten_cons, List.flatten_nil, List.append_nil, List.cons_append, List.nil_append]
  after_results
  blk_simp [idx t]
  pointwise
  blk_ext [idx t]

theorem blk4 (t : Fin cfg0.N) (d : Fin 128) :
    (show FVec Ideal S1x128 .f32 from iblk m c 4 t) (ix2 0 d) = ((gk d : ℝ) : EReal) := by
  rw [← h.hgk]
  unfold iblk Gen.V
  simp only [hostOps0, hostOps0_1, hostOps0_2, hostOps0_3, hostOps0_4, hostOps0_5, hostOps0_6, List.flatten_cons, List.flatten_nil, List.append_nil, List.cons_append, List.nil_append]
  after_results
  blk_simp [idx t]
  pointwise
  blk_ext [idx t]

theorem blk5 (t : Fin cfg0.N) (d : Fin 2048) (k : Fin 256) :
    (show FVec Ideal S2048x256 .bf16 from iblk m c 5 t) (ix2 d k) = ((wqp Wq k d : ℝ) : EReal) := by
  unfold iblk Gen.V
  simp only [hostOps0, hostOps0_1, hostOps0_2, hostOps0_3, hostOps0_4, hostOps0_5, hostOps0_6, List.flatten_cons, List.flatten_nil, List.append_nil, List.cons_append, List.nil_append]
  after_results
  simp -implicitDefEqProofs only [StableHlo.TRef.toBuf, StableHlo.TRef.ofBuf, cast_cast, cast_eq]
  blk_simp [idx t]
  pointwise
  have e0 : (((View.whole main_v22).slice (win0_5.rect t)).emb (ix2 d k) 0).val = d.val := by blk_simp [idx t]
  have e1 : (((View.whole main_v22).slice (win0_5.rect t)).emb (ix2 d k) 1).val = k.val := by blk_simp [idx t]
  simp only [e0, e1]
  unfold wqp
  have hd := d.isLt
  have b : d.val / 256 < 8 := by omega
  by_cases a : d.val % 256 < 192
  · simp only [a, b, true_and, dite_true]
    refine Eq.trans ?_ (h.hWq _ _)
    blk_ext [idx t]
  · simp only [a, and_false, dite_false]
    simp [FloatOps.sitofp]

theorem blk6 (t : Fin cfg0.N) (k : Fin 128) (d : Fin 2048) :
    (show FVec Ideal S128x2048 .bf16 from iblk m c 6 t) (ix2 k d) = ((Wk k d : ℝ) : EReal) := by
  rw [← h.hWk]
  unfold iblk Gen.V
  simp only [hostOps0, hostOps0_1, hostOps0_2, hostOps0_3, hostOps0_4, hostOps0_5, hostOps0_6, List.flatten_cons, List.flatten_nil, List.append_nil, List.cons_append, List.nil_append]
  after_results
  blk_simp [idx t]
  pointwise
  blk_ext [idx t]

theorem blk7 (t : Fin cfg0.N) (r : Fin 512) (d : Fin 2048) :
    (show FVec Ideal S512x2048 .bf16 from iblk m c 7 t) (ix2 r d) = ((heads (DQ (rb t r) (rs t r)) d : ℝ) : EReal) := by
  unfold iblk Gen.V
  simp only [hostOps0, hostOps0_1, hostOps0_2, hostOps0_3, hostOps0_4, hostOps0_5, hostOps0_6, List.flatten_cons, List.flatten_nil, List.append_nil, List.cons_append, List.nil_append]
  after_results
  simp -implicitDefEqProofs only [StableHlo.TRef.toBuf, StableHlo.TRef.ofBuf, cast_cast, cast_eq]
  blk_simp [idx t]
  pointwise
  have e0 : (((View.whole main_v28).slice (win0_7.rect t)).emb (ix2 r d) 0).val = t.val * 512 + r.val := by blk_simp [idx t]
  have e1 : (((View.whole main_v28).slice (win0_7.rect t)).emb (ix2 r d) 1).val = d.val := by blk_simp [idx t]
  simp only [e0, e1, tb, ts]
  unfold heads
  have hd := d.isLt
  have hr := row_lt t r
  have b0 : (t.val * 512 + r.val) / 2048 < 2 := by omega
  have b1 : (t.val * 512 + r.val) % 2048 < 2048 := by omega
  have b2 : d.val / 256 < 8 := by omega
  by_cases a : d.val % 256 < 192
  · simp only [a, b0, b1, b2, true_and, dite_true]
    exact h.hDQ _ _ _ _
  · simp only [a, and_false, dite_false]
    simp [FloatOps.sitofp]

theorem blk8 (t : Fin cfg0.N) (r : Fin 512) (d : Fin 2048) :
    (show FVec Ideal S512x2048 .bf16 from iblk m c 8 t) (ix2 r d) = ((heads (DK (rb t r) (rs t r)) d : ℝ) : EReal) := by
  unfold iblk Gen.V
  simp only [hostOps0, hostOps0_1, hostOps0_2, hostOps0_3, hostOps0_4, hostOps0_5, hostOps0_6, List.flatten_cons, List.flatten_nil, List.append_nil, List.cons_append, List.nil_append]
  after_results
  simp -implicitDefEqProofs only [StableHlo.TRef.toBuf, StableHlo.TRef.ofBuf, cast_cast, cast_eq]
  blk_simp [idx t]
  pointwise
  have e0 : (((View.whole main_v31).slice (win0_8.rect t)).emb (ix2 r d) 0).val = t.val * 512 + r.val := by blk_simp [idx t]
  have e1 : (((View.whole main_v31).slice (win0_8.rect t)).emb (ix2 r d) 1).val = d.val := by blk_simp [idx t]
  simp only [e0, e1, tb, ts]
  unfold heads
  have hd := d.isLt
  have hr := row_lt t r
  have b0 : (t.val * 512 + r.val) / 2048 < 2 := by omega
  have b1 : (t.val * 512 + r.val) % 2048 < 2048 := by omega
  have b2 : d.val / 256 < 8 := by omega
  by_cases a : d.val % 256 < 192
  · simp only [a, b0, b1, b2, true_and, dite_true]
    exact h.hDK _ _ _ _
  · simp only [a, and_false, dite_false]
    simp [FloatOps.sitofp]

theorem blk9 (t : Fin cfg0.N) (r : Fin 512) (d : Fin 1024) :
    (show FVec Ideal S512x1024 .bf16 from iblk m c 9 t) (ix2 r d)
      = ((DV (rb t r) (rs t r) ⟨d.val / 128, by omega⟩ ⟨d.val % 128, by omega⟩ : ℝ) : EReal) := by
  rw [← h.hDV]
  unfold iblk Gen.V
  simp only [hostOps0, hostOps0_1, hostOps0_2, hostOps0_3, hostOps0_4, hostOps0_5, hostOps0_6, List.flatten_cons, List.flatten_nil, List.append_nil, List.cons_append, List.nil_append]
  after_results
  blk_simp [idx t]
  pointwise
  blk_ext [idx t, tb, ts]

end Cert.MlaPrepIdeal.Final

end
-- ==== Proof.MlaPrep.Blocks2.lean ====
/- More of the kernel's input blocks over the reals. -/
module

public import proofs.«01_k».proof.Proof.MlaPrep.Blocks
public import proofs.«01_k».proof.Proof.MlaPrep.Body
public import proofs.«01_k».proof.Proof.Common.Tokens
public import Idealize.ShloMosaic.Lib.Pipeline.ValueKit

@[expose] public section

set_option maxRecDepth 16384

noncomputable section

namespace Cert.MlaPrepIdeal.Final

open Idealize.ShloMosaic Idealize.ShloMosaic.TcCoe Idealize.SL.Sem
open Cert.MlaPrepIdeal Cert.MlaPrepIdeal.Gen Cert.MlaPrepIdeal.Body Cert.Reals Cert.MlaSpec Cert.Tokens

variable (m : (ℓ : Loc nD τ sig) → Buf (Elt Ideal) ℓ) (c : Dev nD)
  (X : Fin 2 → Fin 2048 → Fin 256 → ℝ) (Z : Fin 2 → Fin 2048 → Fin 128 → ℝ) (P : Fin 2 → Fin 2048 → ℝ)
  (gq : Fin 256 → ℝ) (Wq : Fin 256 → Fin 1536 → ℝ) (gk : Fin 128 → ℝ) (Wk : Fin 128 → Fin 2048 → ℝ)
  (DQ DK : Fin 2 → Fin 2048 → Fin 8 → Fin 192 → ℝ) (DV : Fin 2 → Fin 2048 → Fin 8 → Fin 128 → ℝ)

variable {m c X Z P gq Wq gk Wk DQ DK DV} (h : Args m c X Z P gq Wq gk Wk DQ DK DV)
include h

theorem inv_v (k : Fin 32) : (show FVec Ideal S32 .f32 from Gen.V m c main_v13) (ix1 k) = ((1 / base k : ℝ) : EReal) := by
  unfold Gen.V
  simp only [hostOps0, hostOps0_1, hostOps0_2, hostOps0_3, hostOps0_4, hostOps0_5, hostOps0_6, List.flatten_cons, List.flatten_nil, List.append_nil, List.cons_append, List.nil_append]
  after_results
  pointwise
  have hk := k.isLt
  have e : (FloatOps.sitofp (F := Ideal) .f32 (BitVec.ofNat 32 k.val) : EReal) = (((k.val : ℝ)) : EReal) := by
    show ((((BitVec.ofNat 32 k.val).toInt : ℝ)) : EReal) = _
    have : (BitVec.ofNat 32 k.val).toInt = (k.val : ℤ) := by
      rw [BitVec.toInt_eq_toNat_of_lt (by simp; omega), BitVec.toNat_ofNat]
      congr 1; omega
    rw [this]; norm_cast
  rw [w_base, w_64, w_two, e, coe_one', ← EReal.coe_mul, div_real _ (show (64 : ℝ) ≠ 0 by norm_num), Ideal.pow_coe_coe]
  exact div_real _ (base_ne k)

theorem blk2 (t : Fin cfg0.N) (l : Fin 128) (hl : l.val < 64) :
    (show FVec Ideal S1x128 .f32 from iblk m c 2 t) (ix2 0 l) = ((1 / base (Fin.ofNat 32 l.val) : ℝ) : EReal) := by
  refine Eq.trans ?_ (inv_v h _)
  unfold iblk Gen.V
  simp only [hostOps0, hostOps0_1, hostOps0_2, hostOps0_3, hostOps0_4, hostOps0_5, hostOps0_6, List.flatten_cons, List.flatten_nil, List.append_nil, List.cons_append, List.nil_append]
  after_results
  blk_simp [idx t]
  pointwise
  have e1 : (((View.whole main_v16).slice (win0_2.rect t)).emb (ix2 0 l) 1).val = l.val := by blk_simp [idx t]
  simp only [e1]
  by_cases a : l.val < 32
  · simp only [a, dite_true]
    simp only [↓ StableHlo.readResult, -eq_self]
    pointwise
    rw [show (Fin.ofNat 32 l.val).val = l.val % 32 from rfl, Nat.mod_eq_of_lt a]
  · have b : l.val - 32 < 32 := by omega
    simp only [a, b, dite_true, dite_false]
    obtain ⟨k, hk⟩ : ∃ k : Fin 32, k = ⟨l.val - 32, b⟩ := ⟨_, rfl⟩
    rw [← hk]
    simp only [↓ StableHlo.readResult, -eq_self]
    pointwise
    rw [show (Fin.ofNat 32 l.val).val = k.val by rw [hk]; show l.val % 32 = l.val - 32; omega]

end Cert.MlaPrepIdeal.Final

end
-- ==== Proof.MlaPrep.Stage.lean ====
/- The kernel's stages on one block over the reals: tiles, rows and products. -/
module

public import proofs.«01_k».proof.Proof.MlaPrep.Blocks2
public import Idealize.ShloMosaic.Lib.Pipeline.ReadBack

@[expose] public section

set_option maxRecDepth 16384

noncomputable section

namespace Cert.MlaPrepIdeal.Final

open Idealize.ShloMosaic Idealize.ShloMosaic.TcCoe Idealize.SL.Sem
open Cert.MlaPrepIdeal Cert.MlaPrepIdeal.Gen Cert.MlaPrepIdeal.Body Cert.Reals Cert.MlaSpec Cert.Tokens

variable {m : (ℓ : Loc nD τ sig) → Buf (Elt Ideal) ℓ} {c : Dev nD}
  {X : Fin 2 → Fin 2048 → Fin 256 → ℝ} {Z : Fin 2 → Fin 2048 → Fin 128 → ℝ} {P : Fin 2 → Fin 2048 → ℝ}
  {gq : Fin 256 → ℝ} {Wq : Fin 256 → Fin 1536 → ℝ} {gk : Fin 128 → ℝ} {Wk : Fin 128 → Fin 2048 → ℝ}
  {DQ DK : Fin 2 → Fin 2048 → Fin 8 → Fin 192 → ℝ} {DV : Fin 2 → Fin 2048 → Fin 8 → Fin 128 → ℝ}

/-- Column `l` of the tile that starts at column `o`. -/
def col {n : ℕ} (o : ℕ) (h : o + 128 ≤ n) (l : Fin 128) : Fin n := ⟨o + l.val, by have := l.isLt; omega⟩

/-- The place of a tile's entry. -/
theorem emb_tile (n o : ℕ) (h : o + 128 ≤ n) (inb) (r : Fin 512) (l : Fin 128) :
    (Rect.unit (s := ⟨2, ![512, n]⟩) ![0, o] ![512, 128] inb).emb (ix2 r l) = ix2 r (col o h l) := by
  blk_ext [col]

/-- A tile of a block. -/
theorem tile_at {e : EltTy} {n : ℕ} (A : (⟨2, ![512, n]⟩ : Shape).Idx → Elt Ideal e) (o : ℕ) (h : o + 128 ≤ n) (inb) (r : Fin 512) (l : Fin 128) :
    View.ld (Val := Elt Ideal) (e' := e) A (Rect.unit (s := ⟨2, ![512, n]⟩) ![0, o] ![512, 128] inb) (ix2 r l) = A (ix2 r (col o h l)) :=
  congrArg A (emb_tile n o h inb r l)

/-- The first half of a widened head is the head's first 128 lanes. -/
theorem heads_even (D : Fin 8 → Fin 192 → ℝ) (o : ℕ) (h : o % 256 = 0 ∧ o + 256 ≤ 2048) (l : Fin 128) :
    heads D (col o (by omega) l) = D ⟨o / 256, by omega⟩ ⟨l.val, by omega⟩ := by
  have := l.isLt
  have e1 : (o + l.val) % 256 = l.val := by omega
  have e2 : (o + l.val) / 256 = o / 256 := by omega
  have e3 : l.val < 192 := by omega
  simp only [heads, col, e1, e2, e3, dite_true]

/-- The second half holds its last 64 lanes, then zeros. -/
theorem heads_odd (D : Fin 8 → Fin 192 → ℝ) (o : ℕ) (h : o % 256 = 128 ∧ o + 128 ≤ 2048) (l : Fin 128) :
    heads D (col o h.2 l) = wide (tail (D ⟨o / 256, by omega⟩)) l := by
  have := l.isLt
  have e1 : (o + l.val) % 256 = 128 + l.val := by omega
  have e2 : (o + l.val) / 256 = o / 256 := by omega
  by_cases a : l.val < 64
  · have e3 : 128 + l.val < 192 := by omega
    simp only [heads, col, e1, e2, e3, wide, tail, a, dite_true]
  · have e3 : ¬ 128 + l.val < 192 := by omega
    simp only [heads, col, e1, e3, wide, a, dite_false]

theorem dqp_even (b : Fin 2) (s : Fin 2048) (o : ℕ) (h : o % 256 = 0 ∧ o + 256 ≤ 2048) (l : Fin 128) :
    dqp P DQ b s (col o (by omega) l) = DQ b s ⟨o / 256, by omega⟩ ⟨l.val, by omega⟩ := by
  have := l.isLt
  have e1 : (o + l.val) % 256 = l.val := by omega
  have e2 : (o + l.val) / 256 = o / 256 := by omega
  have e3 : l.val < 192 := by omega
  simp only [dqp, col, e1, e2, e3, dite_true, rotT, this]

theorem dqp_odd (b : Fin 2) (s : Fin 2048) (o : ℕ) (h : o % 256 = 128 ∧ o + 128 ≤ 2048) (l : Fin 128) :
    dqp P DQ b s (col o h.2 l) = wide (ropeT (ang (P b s)) (tail (DQ b s ⟨o / 256, by omega⟩))) l := by
  have := l.isLt
  have e1 : (o + l.val) % 256 = 128 + l.val := by omega
  have e2 : (o + l.val) / 256 = o / 256 := by omega
  by_cases a : l.val < 64
  · have e3 : 128 + l.val < 192 := by omega
    have e4 : ¬ 128 + l.val < 128 := by omega
    have e5 : 128 + l.val - 128 = l.val := by omega
    simp only [dqp, col, e1, e2, e3, wide, rotT, a, e4, e5, dite_true, dite_false]
  · have e3 : ¬ 128 + l.val < 192 := by omega
    simp only [dqp, col, e1, e3, wide, a, dite_false]

variable (h : Args m c X Z P gq Wq gk Wk DQ DK DV)
include h

/-- The queries' cotangents of a block before the embedding, heads widened. -/
def dqG (P : Fin 2 → Fin 2048 → ℝ) (DQ : Fin 2 → Fin 2048 → Fin 8 → Fin 192 → ℝ) (t : Fin cfg0.N) (y : S512x2048.Idx) : EReal :=
  ((dqp P DQ (rb t (y 0)) (rs t (y 0)) (y 1) : ℝ) : EReal)

theorem dqEven (t : Fin cfg0.N) (o : ℕ) (h1 : o % 256 = 0 ∧ o + 256 ≤ 2048) (i7 inb) (x : S512x128.Idx) :
    k0_pay23 (F := Ideal) (View.ld (Val := Elt Ideal) (e' := .bf16) (iblk m c 7 t) (Rect.unit (s := S512x2048) ![0, o] ![512, 128] i7)) x
      = dqG P DQ t ((Rect.unit (s := S512x2048) ![0, o] ![512, 128] inb).emb x) := by
  idx_vars x
  rw [pay23_at, emb_tile 2048 o (by omega)]
  refine (tile_at (e := .bf16) (n := 2048) _ o (by omega) i7 x0 x1).trans ((blk7 h t _ _).trans (congrArg _ ?_))
  rw [heads_even _ o h1]
  exact (dqp_even _ _ o h1 x1).symm

theorem dqOdd (t : Fin cfg0.N) (o : ℕ) (h1 : o % 256 = 128 ∧ o + 128 ≤ 2048) (i7 inb) (x : S512x128.Idx) :
    k0_pay30 (F := Ideal) (k0_pay9 (iblk m c 1 t) (iblk m c 2 t)) (k0_pay10 (iblk m c 1 t) (iblk m c 2 t)) (k0_pay11 (iblk m c 1 t) (iblk m c 2 t))
        (View.ld (Val := Elt Ideal) (e' := .bf16) (iblk m c 7 t) (Rect.unit (s := S512x2048) ![0, o] ![512, 128] i7)) x
      = dqG P DQ t ((Rect.unit (s := S512x2048) ![0, o] ![512, 128] inb).emb x) := by
  idx_vars x
  rw [emb_tile 2048 o h1.2]
  refine (pay24_real _ _ (fun r => P (rb t r) (rs t r)) (blk1 h t) (fun l hl => blk2 h t l hl) _
    (fun r l => wide (tail (DQ (rb t r) (rs t r) ⟨o / 256, by omega⟩)) l) (fun r l => (tile_at (e := .bf16) (n := 2048) _ o h1.2 i7 r l).trans
      ((blk7 h t _ _).trans (congrArg _ (heads_odd _ o h1 l)))) x0 x1).trans (congrArg _ ?_)
  exact (lanes_wide _ _ _).trans (dqp_odd _ _ o h1 x1).symm

/-- The keys' and values' cotangents of a block. -/
def dkG (DK : Fin 2 → Fin 2048 → Fin 8 → Fin 192 → ℝ) (DV : Fin 2 → Fin 2048 → Fin 8 → Fin 128 → ℝ) (t : Fin cfg0.N) (y : S512x2048.Idx) : EReal :=
  ((dkv DK DV (rb t (y 0)) (rs t (y 0)) (y 1) : ℝ) : EReal)

theorem dkEven (t : Fin cfg0.N) (o : ℕ) (h1 : o % 256 = 0 ∧ o + 256 ≤ 2048) (i8 inb) (x : S512x128.Idx) :
    k0_pay23 (F := Ideal) (View.ld (Val := Elt Ideal) (e' := .bf16) (iblk m c 8 t) (Rect.unit (s := S512x2048) ![0, o] ![512, 128] i8)) x
      = dkG DK DV t ((Rect.unit (s := S512x2048) ![0, o] ![512, 128] inb).emb x) := by
  idx_vars x
  rw [pay23_at, emb_tile 2048 o (by omega)]
  refine (tile_at (e := .bf16) (n := 2048) _ o (by omega) i8 x0 x1).trans ((blk8 h t _ _).trans (congrArg _ ?_))
  rw [heads_even _ o h1]
  show _ = dkv DK DV (rb t x0) (rs t x0) (col o (by omega) x1)
  have := x1.isLt
  have e1 : (o + x1.val) % 256 = x1.val := by omega
  have e2 : (o + x1.val) / 256 = o / 256 := by omega
  simp only [dkv, col, e1, e2, this, dite_true]

theorem dkOdd (t : Fin cfg0.N) (o : ℕ) (o' : ℕ) (h1 : o % 256 = 128 ∧ o + 128 ≤ 2048 ∧ o' = o / 256 * 128) (i9 inb) (x : S512x128.Idx) :
    k0_pay23 (F := Ideal) (View.ld (Val := Elt Ideal) (e' := .bf16) (iblk m c 9 t) (Rect.unit (s := S512x1024) ![0, o'] ![512, 128] i9)) x
      = dkG DK DV t ((Rect.unit (s := S512x2048) ![0, o] ![512, 128] inb).emb x) := by
  idx_vars x
  rw [pay23_at, emb_tile 2048 o (by omega)]
  refine (tile_at (e := .bf16) (n := 1024) _ o' (by omega) i9 x0 x1).trans ((blk9 h t _ _).trans (congrArg _ ?_))
  show _ = dkv DK DV (rb t x0) (rs t x0) (col o (by omega) x1)
  have := x1.isLt
  have e1 : ¬ (o + x1.val) % 256 < 128 := by omega
  have e2 : (o' + x1.val) / 128 = (o + x1.val) / 256 := by omega
  have e3 : (o' + x1.val) % 128 = (o + x1.val) % 256 - 128 := by omega
  unfold dkv
  rw [dif_neg (show ¬ (col o (by omega) x1).val % 256 < 128 from e1)]
  exact congrArg₂ (DV _ _) (Fin.ext e2) (Fin.ext e3)

/-- A head's rotated lanes in the keys' cotangents. -/
theorem dkTail (t : Fin cfg0.N) (o : ℕ) (h1 : o % 256 = 128 ∧ o + 128 ≤ 2048) (i8) (r : Fin 512) (l : Fin 128) :
    View.ld (Val := Elt Ideal) (e' := .bf16) (iblk m c 8 t) (Rect.unit (s := S512x2048) ![0, o] ![512, 128] i8) (ix2 r l)
      = ((wide (tail (DK (rb t r) (rs t r) ⟨o / 256, by omega⟩)) l : ℝ) : EReal) :=
  (tile_at (e := .bf16) (n := 2048) _ o h1.2 i8 r l).trans ((blk8 h t _ _).trans (congrArg _ (heads_odd _ o h1 l)))

/-- A block's projected rows. -/
theorem zq_at (t : Fin cfg0.N) (inb) (r : Fin 512) (k : Fin 256) :
    View.ld (Val := Elt Ideal) (e' := .f32) (iblk m c 0 t) (Rect.unit (s := S512x512) ![0, 0] ![512, 256] inb) (ix2 r k)
      = ((X (rb t r) (rs t r) k : ℝ) : EReal) :=
  (congrArg (show FVec Ideal S512x512 .f32 from iblk m c 0 t) (show (Rect.unit (s := S512x512) ![0, 0] ![512, 256] inb).emb (ix2 r k) = ix2 r (⟨k.val, by omega⟩ : Fin 512) by blk_ext)).trans (blk0q h t r k)

theorem zk_at (t : Fin cfg0.N) (inb) (r : Fin 512) (k : Fin 128) :
    View.ld (Val := Elt Ideal) (e' := .f32) (iblk m c 0 t) (Rect.unit (s := S512x512) ![0, 256] ![512, 128] inb) (ix2 r k)
      = ((Z (rb t r) (rs t r) k : ℝ) : EReal) :=
  (congrArg (show FVec Ideal S512x512 .f32 from iblk m c 0 t) (show (Rect.unit (s := S512x512) ![0, 256] ![512, 128] inb).emb (ix2 r k) = ix2 r (⟨256 + k.val, by omega⟩ : Fin 512) by blk_ext)).trans (blk0k h t r k)

/-- The normalised rows' cotangents of a block. -/
theorem dcq_at (t : Fin cfg0.N) (a : FVec Ideal S512x2048 .bf16) (ha : ∀ r d, a (ix2 r d) = dqG P DQ t (ix2 r d)) (r : Fin 512) (k : Fin 256) :
    k0_pay72 (F := Ideal) a (iblk m c 5 t) (ix2 r k) = ((dcq P Wq DQ (rb t r) (rs t r) k : ℝ) : EReal) :=
  (pay72_real _ _ (fun r d => dqp P DQ (rb t r) (rs t r) d) (fun d k => wqp Wq k d) ha (blk5 h t) r k).trans
    (congrArg _ (sum_wide P Wq DQ _ _ k))

theorem dck_at (t : Fin cfg0.N) (a : FVec Ideal S512x2048 .bf16) (ha : ∀ r d, a (ix2 r d) = dkG DK DV t (ix2 r d)) (r : Fin 512) (k : Fin 128) :
    k0_pay73 (F := Ideal) a (iblk m c 6 t) (ix2 r k) = ((dck Wk DK DV (rb t r) (rs t r) k : ℝ) : EReal) :=
  pay73_real _ _ (fun r d => dkv DK DV (rb t r) (rs t r) d) Wk ha (blk6 h t) r k

omit h in
/-- A load of the whole scratch after stores that are blocks of `G` and cover it reads `G`. -/
theorem whole_read {sp : Space} (v : View sig .tc sp S512x2048 .bf16) (L : List (View.Piece (Elt Ideal) S512x2048 .bf16)) (inb)
    (G : S512x2048.Idx → EReal) (r : Fin 512) (d : Fin 2048) (hG : View.PiecesOf (Val := Elt Ideal) (s := S512x2048) (e := .bf16) G L)
    (hc : ∀ y, ∃ p ∈ L, y ∈ p.1.set) :
    v.readCov L (Rect.unit (s := S512x2048) ![0, 0] ![512, 2048] inb).toLoadRect (ix2 r d) = G (ix2 r d) := by
  rw [View.readCov_eq_canon']
  have e : (Rect.unit (s := S512x2048) ![0, 0] ![512, 2048] inb).toLoadRect.idx (ix2 r d) = ix2 r d := by
    funext a
    refine Fin.ext ?_
    fin_cases a
    · show 0 + 1 * r.val = r.val; omega
    · show 0 + 1 * d.val = d.val; omega
  exact (congrArg (View.canon L) e).trans (View.canon_apply_of_pieces (Val := Elt Ideal) G L hG.mem _ (hc _))

end Cert.MlaPrepIdeal.Final

end
-- ==== Proof.MlaPrep.PointQ.lean ====
/- What one grid point leaves, over the reals. -/
module

public import proofs.«01_k».proof.Proof.MlaPrep.Stage
public import Idealize.ShloMosaic.Lib.Pipeline.ReadBack

@[expose] public section

set_option maxRecDepth 16384

noncomputable section

namespace Cert.MlaPrepIdeal.Final

open Idealize.ShloMosaic Idealize.ShloMosaic.TcCoe Idealize.SL.Sem
open Cert.MlaPrepIdeal Cert.MlaPrepIdeal.Gen Cert.MlaPrepIdeal.Body Cert.Reals Cert.MlaSpec Cert.Tokens

variable {m : (ℓ : Loc nD τ sig) → Buf (Elt Ideal) ℓ} {c : Dev nD}
  {X : Fin 2 → Fin 2048 → Fin 256 → ℝ} {Z : Fin 2 → Fin 2048 → Fin 128 → ℝ} {P : Fin 2 → Fin 2048 → ℝ}
  {gq : Fin 256 → ℝ} {Wq : Fin 256 → Fin 1536 → ℝ} {gk : Fin 128 → ℝ} {Wk : Fin 128 → Fin 2048 → ℝ}
  {DQ DK : Fin 2 → Fin 2048 → Fin 8 → Fin 192 → ℝ} {DV : Fin 2 → Fin 2048 → Fin 8 → Fin 128 → ℝ}

variable (h : Args m c X Z P gq Wq gk Wk DQ DK DV)
include h

set_option maxHeartbeats 2000000 in
theorem accq_A (t : Fin cfg0.N) (h0 : t.val % 8 = 0) (h1 : ¬ t.val % 8 = 7) (d : Fin 2048) (k : Fin 256) :
    (outsAt0 m c t.val t.isLt).2.2.2.2.2.1 (ix2 d k)
      = (0 : EReal) + ((∑ r, dqp P DQ (rb t r) (rs t r) d * (xh (X (rb t r) (rs t r)) k * gq k) : ℝ) : EReal) := by
  rw [outsAt0_A m c t h0 h1]
  frame_open
  simp (disch := decide) only [↓ View.readCov_skip, ↓ View.readCov_cons_toLoadRect, ↓ View.readCov_fill]
  frame_out
  refine Eq.trans ?_ (congrArg (· + _) (show k0_pay5 (F := Ideal) (ix2 d k) = 0 by pointwise [k0_pay5]))
  refine pay68_real _ _ _ _ _ (pay17_real _ _ (zq_at h t _) _ gq (blk3 h t))
    (fun r d => whole_read _ _ _ (dqG P DQ t) r d ?_ ?_) d k
  · exact ⟨dqOdd h t 1920 (by decide) inb_S512x2048_S512x128_0_1920 inb_S512x2048_S512x128_0_1920,
      dqEven h t 1792 (by decide) inb_S512x2048_S512x128_0_1792 inb_S512x2048_S512x128_0_1792,
      dqOdd h t 1664 (by decide) inb_S512x2048_S512x128_0_1664 inb_S512x2048_S512x128_0_1664,
      dqEven h t 1536 (by decide) inb_S512x2048_S512x128_0_1536 inb_S512x2048_S512x128_0_1536,
      dqOdd h t 1408 (by decide) inb_S512x2048_S512x128_0_1408 inb_S512x2048_S512x128_0_1408,
      dqEven h t 1280 (by decide) inb_S512x2048_S512x128_0_1280 inb_S512x2048_S512x128_0_1280,
      dqOdd h t 1152 (by decide) inb_S512x2048_S512x128_0_1152 inb_S512x2048_S512x128_0_1152,
      dqEven h t 1024 (by decide) inb_S512x2048_S512x128_0_1024 inb_S512x2048_S512x128_0_1024,
      dqOdd h t 896 (by decide) inb_S512x2048_S512x128_0_896 inb_S512x2048_S512x128_0_896,
      dqEven h t 768 (by decide) inb_S512x2048_S512x128_0_768 inb_S512x2048_S512x128_0_768,
      dqOdd h t 640 (by decide) inb_S512x2048_S512x128_0_640 inb_S512x2048_S512x128_0_640,
      dqEven h t 512 (by decide) inb_S512x2048_S512x128_0_512 inb_S512x2048_S512x128_0_512,
      dqOdd h t 384 (by decide) inb_S512x2048_S512x128_0_384 inb_S512x2048_S512x128_0_384,
      dqEven h t 256 (by decide) inb_S512x2048_S512x128_0_256 inb_S512x2048_S512x128_0_256,
      dqOdd h t 128 (by decide) inb_S512x2048_S512x128_0_128 inb_S512x2048_S512x128_0_128,
      dqEven h t 0 (by decide) inb_S512x2048_S512x128_0_0 inb_S512x2048_S512x128_0_0, trivial⟩
  · exact View.cover_of_tiled_head _ _ _ rfl

set_option maxHeartbeats 2000000 in
theorem accq_B (t : Fin cfg0.N) (h0 : ¬ t.val % 8 = 0) (h1 : ¬ t.val % 8 = 7) (d : Fin 2048) (k : Fin 256) :
    (outsAt0 m c t.val t.isLt).2.2.2.2.2.1 (ix2 d k)
      = (outsAt0 m c (t.val - 1) (by have := t.isLt; omega)).2.2.2.2.2.1 (ix2 d k) + ((∑ r, dqp P DQ (rb t r) (rs t r) d * (xh (X (rb t r) (rs t r)) k * gq k) : ℝ) : EReal) := by
  rw [outsAt0_B m c t h0 h1]
  frame_open
  simp (disch := decide) only [↓ View.readCov_skip, ↓ View.readCov_cons_toLoadRect, ↓ View.readCov_fill]
  frame_out
  rw [read_unread_whole]
  refine pay68_real _ _ _ _ _ (pay17_real _ _ (zq_at h t _) _ gq (blk3 h t))
    (fun r d => whole_read _ _ _ (dqG P DQ t) r d ?_ ?_) d k
  · exact ⟨dqOdd h t 1920 (by decide) inb_S512x2048_S512x128_0_1920 inb_S512x2048_S512x128_0_1920,
      dqEven h t 1792 (by decide) inb_S512x2048_S512x128_0_1792 inb_S512x2048_S512x128_0_1792,
      dqOdd h t 1664 (by decide) inb_S512x2048_S512x128_0_1664 inb_S512x2048_S512x128_0_1664,
      dqEven h t 1536 (by decide) inb_S512x2048_S512x128_0_1536 inb_S512x2048_S512x128_0_1536,
      dqOdd h t 1408 (by decide) inb_S512x2048_S512x128_0_1408 inb_S512x2048_S512x128_0_1408,
      dqEven h t 1280 (by decide) inb_S512x2048_S512x128_0_1280 inb_S512x2048_S512x128_0_1280,
      dqOdd h t 1152 (by decide) inb_S512x2048_S512x128_0_1152 inb_S512x2048_S512x128_0_1152,
      dqEven h t 1024 (by decide) inb_S512x2048_S512x128_0_1024 inb_S512x2048_S512x128_0_1024,
      dqOdd h t 896 (by decide) inb_S512x2048_S512x128_0_896 inb_S512x2048_S512x128_0_896,
      dqEven h t 768 (by decide) inb_S512x2048_S512x128_0_768 inb_S512x2048_S512x128_0_768,
      dqOdd h t 640 (by decide) inb_S512x2048_S512x128_0_640 inb_S512x2048_S512x128_0_640,
      dqEven h t 512 (by decide) inb_S512x2048_S512x128_0_512 inb_S512x2048_S512x128_0_512,
      dqOdd h t 384 (by decide) inb_S512x2048_S512x128_0_384 inb_S512x2048_S512x128_0_384,
      dqEven h t 256 (by decide) inb_S512x2048_S512x128_0_256 inb_S512x2048_S512x128_0_256,
      dqOdd h t 128 (by decide) inb_S512x2048_S512x128_0_128 inb_S512x2048_S512x128_0_128,
      dqEven h t 0 (by decide) inb_S512x2048_S512x128_0_0 inb_S512x2048_S512x128_0_0, trivial⟩
  · exact View.cover_of_tiled_head _ _ _ rfl

set_option maxHeartbeats 2000000 in
theorem accq_C (t : Fin cfg0.N) (h0 : ¬ t.val % 8 = 0) (h1 : t.val % 8 = 7) (d : Fin 2048) (k : Fin 256) :
    (outsAt0 m c t.val t.isLt).2.2.2.2.2.1 (ix2 d k)
      = (outsAt0 m c (t.val - 1) (by have := t.isLt; omega)).2.2.2.2.2.1 (ix2 d k) + ((∑ r, dqp P DQ (rb t r) (rs t r) d * (xh (X (rb t r) (rs t r)) k * gq k) : ℝ) : EReal) := by
  rw [outsAt0_C m c t h0 h1]
  frame_open
  simp (disch := decide) only [↓ View.readCov_skip, ↓ View.readCov_cons_toLoadRect, ↓ View.readCov_fill]
  frame_out
  rw [read_unread_whole]
  refine pay68_real _ _ _ _ _ (pay17_real _ _ (zq_at h t _) _ gq (blk3 h t))
    (fun r d => whole_read _ _ _ (dqG P DQ t) r d ?_ ?_) d k
  · exact ⟨dqOdd h t 1920 (by decide) inb_S512x2048_S512x128_0_1920 inb_S512x2048_S512x128_0_1920,
      dqEven h t 1792 (by decide) inb_S512x2048_S512x128_0_1792 inb_S512x2048_S512x128_0_1792,
      dqOdd h t 1664 (by decide) inb_S512x2048_S512x128_0_1664 inb_S512x2048_S512x128_0_1664,
      dqEven h t 1536 (by decide) inb_S512x2048_S512x128_0_1536 inb_S512x2048_S512x128_0_1536,
      dqOdd h t 1408 (by decide) inb_S512x2048_S512x128_0_1408 inb_S512x2048_S512x128_0_1408,
      dqEven h t 1280 (by decide) inb_S512x2048_S512x128_0_1280 inb_S512x2048_S512x128_0_1280,
      dqOdd h t 1152 (by decide) inb_S512x2048_S512x128_0_1152 inb_S512x2048_S512x128_0_1152,
      dqEven h t 1024 (by decide) inb_S512x2048_S512x128_0_1024 inb_S512x2048_S512x128_0_1024,
      dqOdd h t 896 (by decide) inb_S512x2048_S512x128_0_896 inb_S512x2048_S512x128_0_896,
      dqEven h t 768 (by decide) inb_S512x2048_S512x128_0_768 inb_S512x2048_S512x128_0_768,
      dqOdd h t 640 (by decide) inb_S512x2048_S512x128_0_640 inb_S512x2048_S512x128_0_640,
      dqEven h t 512 (by decide) inb_S512x2048_S512x128_0_512 inb_S512x2048_S512x128_0_512,
      dqOdd h t 384 (by decide) inb_S512x2048_S512x128_0_384 inb_S512x2048_S512x128_0_384,
      dqEven h t 256 (by decide) inb_S512x2048_S512x128_0_256 inb_S512x2048_S512x128_0_256,
      dqOdd h t 128 (by decide) inb_S512x2048_S512x128_0_128 inb_S512x2048_S512x128_0_128,
      dqEven h t 0 (by decide) inb_S512x2048_S512x128_0_0 inb_S512x2048_S512x128_0_0, trivial⟩
  · exact View.cover_of_tiled_head _ _ _ rfl

end Cert.MlaPrepIdeal.Final

end
-- ==== Proof.MlaPrep.PointK.lean ====
/- What one grid point leaves, over the reals. -/
module

public import proofs.«01_k».proof.Proof.MlaPrep.Stage
public import Idealize.ShloMosaic.Lib.Pipeline.ReadBack

@[expose] public section

set_option maxRecDepth 16384

noncomputable section

namespace Cert.MlaPrepIdeal.Final

open Idealize.ShloMosaic Idealize.ShloMosaic.TcCoe Idealize.SL.Sem
open Cert.MlaPrepIdeal Cert.MlaPrepIdeal.Gen Cert.MlaPrepIdeal.Body Cert.Reals Cert.MlaSpec Cert.Tokens

variable {m : (ℓ : Loc nD τ sig) → Buf (Elt Ideal) ℓ} {c : Dev nD}
  {X : Fin 2 → Fin 2048 → Fin 256 → ℝ} {Z : Fin 2 → Fin 2048 → Fin 128 → ℝ} {P : Fin 2 → Fin 2048 → ℝ}
  {gq : Fin 256 → ℝ} {Wq : Fin 256 → Fin 1536 → ℝ} {gk : Fin 128 → ℝ} {Wk : Fin 128 → Fin 2048 → ℝ}
  {DQ DK : Fin 2 → Fin 2048 → Fin 8 → Fin 192 → ℝ} {DV : Fin 2 → Fin 2048 → Fin 8 → Fin 128 → ℝ}

variable (h : Args m c X Z P gq Wq gk Wk DQ DK DV)
include h

set_option maxHeartbeats 2000000 in
theorem acck_A (t : Fin cfg0.N) (h0 : t.val % 8 = 0) (h1 : ¬ t.val % 8 = 7) (k : Fin 128) (d : Fin 2048) :
    (outsAt0 m c t.val t.isLt).2.2.2.2.2.2 (ix2 k d)
      = (0 : EReal) + ((∑ r, xh (Z (rb t r) (rs t r)) k * gk k * dkv DK DV (rb t r) (rs t r) d : ℝ) : EReal) := by
  rw [outsAt0_A m c t h0 h1]
  frame_open
  simp (disch := decide) only [↓ View.readCov_skip, ↓ View.readCov_cons_toLoadRect, ↓ View.readCov_fill]
  frame_out
  refine Eq.trans ?_ (congrArg (· + _) (show k0_pay6 (F := Ideal) (ix2 k d) = 0 by pointwise [k0_pay6]))
  refine pay69_real _ _ _ _ _ (pay21_real _ _ (zk_at h t _) _ gk (blk4 h t))
    (fun r d => whole_read _ _ _ (dkG DK DV t) r d ?_ ?_) k d
  · exact ⟨dkOdd h t 1920 896 (by decide) inb_S512x1024_S512x128_0_896 inb_S512x2048_S512x128_0_1920,
      dkEven h t 1792 (by decide) inb_S512x2048_S512x128_0_1792 inb_S512x2048_S512x128_0_1792,
      dkOdd h t 1664 768 (by decide) inb_S512x1024_S512x128_0_768 inb_S512x2048_S512x128_0_1664,
      dkEven h t 1536 (by decide) inb_S512x2048_S512x128_0_1536 inb_S512x2048_S512x128_0_1536,
      dkOdd h t 1408 640 (by decide) inb_S512x1024_S512x128_0_640 inb_S512x2048_S512x128_0_1408,
      dkEven h t 1280 (by decide) inb_S512x2048_S512x128_0_1280 inb_S512x2048_S512x128_0_1280,
      dkOdd h t 1152 512 (by decide) inb_S512x1024_S512x128_0_512 inb_S512x2048_S512x128_0_1152,
      dkEven h t 1024 (by decide) inb_S512x2048_S512x128_0_1024 inb_S512x2048_S512x128_0_1024,
      dkOdd h t 896 384 (by decide) inb_S512x1024_S512x128_0_384 inb_S512x2048_S512x128_0_896,
      dkEven h t 768 (by decide) inb_S512x2048_S512x128_0_768 inb_S512x2048_S512x128_0_768,
      dkOdd h t 640 256 (by decide) inb_S512x1024_S512x128_0_256 inb_S512x2048_S512x128_0_640,
      dkEven h t 512 (by decide) inb_S512x2048_S512x128_0_512 inb_S512x2048_S512x128_0_512,
      dkOdd h t 384 128 (by decide) inb_S512x1024_S512x128_0_128 inb_S512x2048_S512x128_0_384,
      dkEven h t 256 (by decide) inb_S512x2048_S512x128_0_256 inb_S512x2048_S512x128_0_256,
      dkOdd h t 128 0 (by decide) inb_S512x1024_S512x128_0_0 inb_S512x2048_S512x128_0_128,
      dkEven h t 0 (by decide) inb_S512x2048_S512x128_0_0 inb_S512x2048_S512x128_0_0, trivial⟩
  · exact View.cover_of_tiled_head _ _ _ rfl

set_option maxHeartbeats 2000000 in
theorem acck_B (t : Fin cfg0.N) (h0 : ¬ t.val % 8 = 0) (h1 : ¬ t.val % 8 = 7) (k : Fin 128) (d : Fin 2048) :
    (outsAt0 m c t.val t.isLt).2.2.2.2.2.2 (ix2 k d)
      = (outsAt0 m c (t.val - 1) (by have := t.isLt; omega)).2.2.2.2.2.2 (ix2 k d) + ((∑ r, xh (Z (rb t r) (rs t r)) k * gk k * dkv DK DV (rb t r) (rs t r) d : ℝ) : EReal) := by
  rw [outsAt0_B m c t h0 h1]
  frame_open
  simp (disch := decide) only [↓ View.readCov_skip, ↓ View.readCov_cons_toLoadRect, ↓ View.readCov_fill]
  frame_out
  rw [read_unread_whole]
  refine pay69_real _ _ _ _ _ (pay21_real _ _ (zk_at h t _) _ gk (blk4 h t))
    (fun r d => whole_read _ _ _ (dkG DK DV t) r d ?_ ?_) k d
  · exact ⟨dkOdd h t 1920 896 (by decide) inb_S512x1024_S512x128_0_896 inb_S512x2048_S512x128_0_1920,
      dkEven h t 1792 (by decide) inb_S512x2048_S512x128_0_1792 inb_S512x2048_S512x128_0_1792,
      dkOdd h t 1664 768 (by decide) inb_S512x1024_S512x128_0_768 inb_S512x2048_S512x128_0_1664,
      dkEven h t 1536 (by decide) inb_S512x2048_S512x128_0_1536 inb_S512x2048_S512x128_0_1536,
      dkOdd h t 1408 640 (by decide) inb_S512x1024_S512x128_0_640 inb_S512x2048_S512x128_0_1408,
      dkEven h t 1280 (by decide) inb_S512x2048_S512x128_0_1280 inb_S512x2048_S512x128_0_1280,
      dkOdd h t 1152 512 (by decide) inb_S512x1024_S512x128_0_512 inb_S512x2048_S512x128_0_1152,
      dkEven h t 1024 (by decide) inb_S512x2048_S512x128_0_1024 inb_S512x2048_S512x128_0_1024,
      dkOdd h t 896 384 (by decide) inb_S512x1024_S512x128_0_384 inb_S512x2048_S512x128_0_896,
      dkEven h t 768 (by decide) inb_S512x2048_S512x128_0_768 inb_S512x2048_S512x128_0_768,
      dkOdd h t 640 256 (by decide) inb_S512x1024_S512x128_0_256 inb_S512x2048_S512x128_0_640,
      dkEven h t 512 (by decide) inb_S512x2048_S512x128_0_512 inb_S512x2048_S512x128_0_512,
      dkOdd h t 384 128 (by decide) inb_S512x1024_S512x128_0_128 inb_S512x2048_S512x128_0_384,
      dkEven h t 256 (by decide) inb_S512x2048_S512x128_0_256 inb_S512x2048_S512x128_0_256,
      dkOdd h t 128 0 (by decide) inb_S512x1024_S512x128_0_0 inb_S512x2048_S512x128_0_128,
      dkEven h t 0 (by decide) inb_S512x2048_S512x128_0_0 inb_S512x2048_S512x128_0_0, trivial⟩
  · exact View.cover_of_tiled_head _ _ _ rfl

set_option maxHeartbeats 2000000 in
theorem acck_C (t : Fin cfg0.N) (h0 : ¬ t.val % 8 = 0) (h1 : t.val % 8 = 7) (k : Fin 128) (d : Fin 2048) :
    (outsAt0 m c t.val t.isLt).2.2.2.2.2.2 (ix2 k d)
      = (outsAt0 m c (t.val - 1) (by have := t.isLt; omega)).2.2.2.2.2.2 (ix2 k d) + ((∑ r, xh (Z (rb t r) (rs t r)) k * gk k * dkv DK DV (rb t r) (rs t r) d : ℝ) : EReal) := by
  rw [outsAt0_C m c t h0 h1]
  frame_open
  simp (disch := decide) only [↓ View.readCov_skip, ↓ View.readCov_cons_toLoadRect, ↓ View.readCov_fill]
  frame_out
  rw [read_unread_whole]
  refine pay69_real _ _ _ _ _ (pay21_real _ _ (zk_at h t _) _ gk (blk4 h t))
    (fun r d => whole_read _ _ _ (dkG DK DV t) r d ?_ ?_) k d
  · exact ⟨dkOdd h t 1920 896 (by decide) inb_S512x1024_S512x128_0_896 inb_S512x2048_S512x128_0_1920,
      dkEven h t 1792 (by decide) inb_S512x2048_S512x128_0_1792 inb_S512x2048_S512x128_0_1792,
      dkOdd h t 1664 768 (by decide) inb_S512x1024_S512x128_0_768 inb_S512x2048_S512x128_0_1664,
      dkEven h t 1536 (by decide) inb_S512x2048_S512x128_0_1536 inb_S512x2048_S512x128_0_1536,
      dkOdd h t 1408 640 (by decide) inb_S512x1024_S512x128_0_640 inb_S512x2048_S512x128_0_1408,
      dkEven h t 1280 (by decide) inb_S512x2048_S512x128_0_1280 inb_S512x2048_S512x128_0_1280,
      dkOdd h t 1152 512 (by decide) inb_S512x1024_S512x128_0_512 inb_S512x2048_S512x128_0_1152,
      dkEven h t 1024 (by decide) inb_S512x2048_S512x128_0_1024 inb_S512x2048_S512x128_0_1024,
      dkOdd h t 896 384 (by decide) inb_S512x1024_S512x128_0_384 inb_S512x2048_S512x128_0_896,
      dkEven h t 768 (by decide) inb_S512x2048_S512x128_0_768 inb_S512x2048_S512x128_0_768,
      dkOdd h t 640 256 (by decide) inb_S512x1024_S512x128_0_256 inb_S512x2048_S512x128_0_640,
      dkEven h t 512 (by decide) inb_S512x2048_S512x128_0_512 inb_S512x2048_S512x128_0_512,
      dkOdd h t 384 128 (by decide) inb_S512x1024_S512x128_0_128 inb_S512x2048_S512x128_0_384,
      dkEven h t 256 (by decide) inb_S512x2048_S512x128_0_256 inb_S512x2048_S512x128_0_256,
      dkOdd h t 128 0 (by decide) inb_S512x1024_S512x128_0_0 inb_S512x2048_S512x128_0_128,
      dkEven h t 0 (by decide) inb_S512x2048_S512x128_0_0 inb_S512x2048_S512x128_0_0, trivial⟩
  · exact View.cover_of_tiled_head _ _ _ rfl

end Cert.MlaPrepIdeal.Final

end
-- ==== Proof.MlaPrep.Last.lean ====
/- The last grid point's two weight gradients. -/
module

public import proofs.«01_k».proof.Proof.MlaPrep.PointQ
public import proofs.«01_k».proof.Proof.MlaPrep.PointK
public import Idealize.ShloMosaic.Lib.Pipeline.ReadBack

@[expose] public section

set_option maxRecDepth 16384

noncomputable section

namespace Cert.MlaPrepIdeal.Final

open Idealize.ShloMosaic Idealize.ShloMosaic.TcCoe Idealize.SL.Sem
open Cert.MlaPrepIdeal Cert.MlaPrepIdeal.Gen Cert.MlaPrepIdeal.Body Cert.Reals Cert.MlaSpec Cert.Tokens

variable {m : (ℓ : Loc nD τ sig) → Buf (Elt Ideal) ℓ} {c : Dev nD}
  {X : Fin 2 → Fin 2048 → Fin 256 → ℝ} {Z : Fin 2 → Fin 2048 → Fin 128 → ℝ} {P : Fin 2 → Fin 2048 → ℝ}
  {gq : Fin 256 → ℝ} {Wq : Fin 256 → Fin 1536 → ℝ} {gk : Fin 128 → ℝ} {Wk : Fin 128 → Fin 2048 → ℝ}
  {DQ DK : Fin 2 → Fin 2048 → Fin 8 → Fin 192 → ℝ} {DV : Fin 2 → Fin 2048 → Fin 8 → Fin 128 → ℝ}

variable (h : Args m c X Z P gq Wq gk Wk DQ DK DV)
include h

omit h in
theorem pay70_at (v : FVec Ideal S2048x256 .f32) (j) : k0_pay70 (F := Ideal) v j = v j := rfl

omit h in
theorem pay71_at (v : FVec Ideal S128x2048 .f32) (j) : k0_pay71 (F := Ideal) v j = v j := rfl

set_option maxHeartbeats 2000000 in
theorem last_q (t : Fin cfg0.N) (h0 : ¬ t.val % 8 = 0) (h1 : t.val % 8 = 7) (d : Fin 2048) (k : Fin 256) :
    (outsAt0 m c t.val t.isLt).2.1 (ix2 d k) = (outsAt0 m c t.val t.isLt).2.2.2.2.2.1 (ix2 d k) := by
  refine Eq.trans ?_ (accq_C h t h0 h1 _ _).symm
  rw [outsAt0_C m c t h0 h1]
  frame_open
  simp (disch := decide) only [↓ View.readCov_skip, ↓ View.readCov_cons_toLoadRect, ↓ View.readCov_fill]
  frame_out
  rw [read_unread_whole]
  refine (pay70_at _ _).trans ?_
  refine (pay68_real _ _ _ _ _ (pay17_real _ _ (zq_at h t _) _ gq (blk3 h t))
    (fun r d => whole_read _ _ _ (dqG P DQ t) r d ?_ ?_) d k)
  · exact ⟨dqOdd h t 1920 (by decide) inb_S512x2048_S512x128_0_1920 inb_S512x2048_S512x128_0_1920,
      dqEven h t 1792 (by decide) inb_S512x2048_S512x128_0_1792 inb_S512x2048_S512x128_0_1792,
      dqOdd h t 1664 (by decide) inb_S512x2048_S512x128_0_1664 inb_S512x2048_S512x128_0_1664,
      dqEven h t 1536 (by decide) inb_S512x2048_S512x128_0_1536 inb_S512x2048_S512x128_0_1536,
      dqOdd h t 1408 (by decide) inb_S512x2048_S512x128_0_1408 inb_S512x2048_S512x128_0_1408,
      dqEven h t 1280 (by decide) inb_S512x2048_S512x128_0_1280 inb_S512x2048_S512x128_0_1280,
      dqOdd h t 1152 (by decide) inb_S512x2048_S512x128_0_1152 inb_S512x2048_S512x128_0_1152,
      dqEven h t 1024 (by decide) inb_S512x2048_S512x128_0_1024 inb_S512x2048_S512x128_0_1024,
      dqOdd h t 896 (by decide) inb_S512x2048_S512x128_0_896 inb_S512x2048_S512x128_0_896,
      dqEven h t 768 (by decide) inb_S512x2048_S512x128_0_768 inb_S512x2048_S512x128_0_768,
      dqOdd h t 640 (by decide) inb_S512x2048_S512x128_0_640 inb_S512x2048_S512x128_0_640,
      dqEven h t 512 (by decide) inb_S512x2048_S512x128_0_512 inb_S512x2048_S512x128_0_512,
      dqOdd h t 384 (by decide) inb_S512x2048_S512x128_0_384 inb_S512x2048_S512x128_0_384,
      dqEven h t 256 (by decide) inb_S512x2048_S512x128_0_256 inb_S512x2048_S512x128_0_256,
      dqOdd h t 128 (by decide) inb_S512x2048_S512x128_0_128 inb_S512x2048_S512x128_0_128,
      dqEven h t 0 (by decide) inb_S512x2048_S512x128_0_0 inb_S512x2048_S512x128_0_0, trivial⟩
  · exact View.cover_of_tiled_head _ _ _ rfl

set_option maxHeartbeats 2000000 in
theorem last_k (t : Fin cfg0.N) (h0 : ¬ t.val % 8 = 0) (h1 : t.val % 8 = 7) (k : Fin 128) (d : Fin 2048) :
    (outsAt0 m c t.val t.isLt).2.2.1 (ix2 k d) = (outsAt0 m c t.val t.isLt).2.2.2.2.2.2 (ix2 k d) := by
  refine Eq.trans ?_ (acck_C h t h0 h1 _ _).symm
  rw [outsAt0_C m c t h0 h1]
  frame_open
  simp (disch := decide) only [↓ View.readCov_skip, ↓ View.readCov_cons_toLoadRect, ↓ View.readCov_fill]
  frame_out
  rw [read_unread_whole]
  refine (pay71_at _ _).trans ?_
  refine (pay69_real _ _ _ _ _ (pay21_real _ _ (zk_at h t _) _ gk (blk4 h t))
    (fun r d => whole_read _ _ _ (dkG DK DV t) r d ?_ ?_) k d)
  · exact ⟨dkOdd h t 1920 896 (by decide) inb_S512x1024_S512x128_0_896 inb_S512x2048_S512x128_0_1920,
      dkEven h t 1792 (by decide) inb_S512x2048_S512x128_0_1792 inb_S512x2048_S512x128_0_1792,
      dkOdd h t 1664 768 (by decide) inb_S512x1024_S512x128_0_768 inb_S512x2048_S512x128_0_1664,
      dkEven h t 1536 (by decide) inb_S512x2048_S512x128_0_1536 inb_S512x2048_S512x128_0_1536,
      dkOdd h t 1408 640 (by decide) inb_S512x1024_S512x128_0_640 inb_S512x2048_S512x128_0_1408,
      dkEven h t 1280 (by decide) inb_S512x2048_S512x128_0_1280 inb_S512x2048_S512x128_0_1280,
      dkOdd h t 1152 512 (by decide) inb_S512x1024_S512x128_0_512 inb_S512x2048_S512x128_0_1152,
      dkEven h t 1024 (by decide) inb_S512x2048_S512x128_0_1024 inb_S512x2048_S512x128_0_1024,
      dkOdd h t 896 384 (by decide) inb_S512x1024_S512x128_0_384 inb_S512x2048_S512x128_0_896,
      dkEven h t 768 (by decide) inb_S512x2048_S512x128_0_768 inb_S512x2048_S512x128_0_768,
      dkOdd h t 640 256 (by decide) inb_S512x1024_S512x128_0_256 inb_S512x2048_S512x128_0_640,
      dkEven h t 512 (by decide) inb_S512x2048_S512x128_0_512 inb_S512x2048_S512x128_0_512,
      dkOdd h t 384 128 (by decide) inb_S512x1024_S512x128_0_128 inb_S512x2048_S512x128_0_384,
      dkEven h t 256 (by decide) inb_S512x2048_S512x128_0_256 inb_S512x2048_S512x128_0_256,
      dkOdd h t 128 0 (by decide) inb_S512x1024_S512x128_0_0 inb_S512x2048_S512x128_0_128,
      dkEven h t 0 (by decide) inb_S512x2048_S512x128_0_0 inb_S512x2048_S512x128_0_0, trivial⟩
  · exact View.cover_of_tiled_head _ _ _ rfl

end Cert.MlaPrepIdeal.Final

end
-- ==== Proof.MlaPrep.PointGQ.lean ====
/- What one grid point leaves, over the reals. -/
module

public import proofs.«01_k».proof.Proof.MlaPrep.Stage
public import Idealize.ShloMosaic.Lib.Pipeline.ReadBack

@[expose] public section

set_option maxRecDepth 16384

noncomputable section

namespace Cert.MlaPrepIdeal.Final

open Idealize.ShloMosaic Idealize.ShloMosaic.TcCoe Idealize.SL.Sem
open Cert.MlaPrepIdeal Cert.MlaPrepIdeal.Gen Cert.MlaPrepIdeal.Body Cert.Reals Cert.MlaSpec Cert.Tokens

variable {m : (ℓ : Loc nD τ sig) → Buf (Elt Ideal) ℓ} {c : Dev nD}
  {X : Fin 2 → Fin 2048 → Fin 256 → ℝ} {Z : Fin 2 → Fin 2048 → Fin 128 → ℝ} {P : Fin 2 → Fin 2048 → ℝ}
  {gq : Fin 256 → ℝ} {Wq : Fin 256 → Fin 1536 → ℝ} {gk : Fin 128 → ℝ} {Wk : Fin 128 → Fin 2048 → ℝ}
  {DQ DK : Fin 2 → Fin 2048 → Fin 8 → Fin 192 → ℝ} {DV : Fin 2 → Fin 2048 → Fin 8 → Fin 128 → ℝ}

variable (h : Args m c X Z P gq Wq gk Wk DQ DK DV)
include h

set_option maxHeartbeats 2000000 in
theorem gainq_A (t : Fin cfg0.N) (h0 : t.val % 8 = 0) (h1 : ¬ t.val % 8 = 7) (k : Fin 256) :
    (outsAt0 m c t.val t.isLt).2.2.2.1 (ix2 0 k)
      = (0 : EReal) + ((∑ r, dcq P Wq DQ (rb t r) (rs t r) k * xh (X (rb t r) (rs t r)) k : ℝ) : EReal) := by
  rw [outsAt0_A m c t h0 h1]
  frame_open
  simp (disch := decide) only [↓ View.readCov_skip, ↓ View.readCov_cons_toLoadRect, ↓ View.readCov_fill, ↓ read_unread_whole]
  frame_out
  refine Eq.trans ?_ (congrArg (· + _) (show k0_pay3 (F := Ideal) (ix2 0 k) = 0 by pointwise [k0_pay3]))
  refine pay74_real _ _ (zq_at h t _) _ _ (dcq_at h t _
    (fun r d => whole_read _ _ _ (dqG P DQ t) r d ?_ ?_)) _ k
  · exact ⟨dqOdd h t 1920 (by decide) inb_S512x2048_S512x128_0_1920 inb_S512x2048_S512x128_0_1920,
      dqEven h t 1792 (by decide) inb_S512x2048_S512x128_0_1792 inb_S512x2048_S512x128_0_1792,
      dqOdd h t 1664 (by decide) inb_S512x2048_S512x128_0_1664 inb_S512x2048_S512x128_0_1664,
      dqEven h t 1536 (by decide) inb_S512x2048_S512x128_0_1536 inb_S512x2048_S512x128_0_1536,
      dqOdd h t 1408 (by decide) inb_S512x2048_S512x128_0_1408 inb_S512x2048_S512x128_0_1408,
      dqEven h t 1280 (by decide) inb_S512x2048_S512x128_0_1280 inb_S512x2048_S512x128_0_1280,
      dqOdd h t 1152 (by decide) inb_S512x2048_S512x128_0_1152 inb_S512x2048_S512x128_0_1152,
      dqEven h t 1024 (by decide) inb_S512x2048_S512x128_0_1024 inb_S512x2048_S512x128_0_1024,
      dqOdd h t 896 (by decide) inb_S512x2048_S512x128_0_896 inb_S512x2048_S512x128_0_896,
      dqEven h t 768 (by decide) inb_S512x2048_S512x128_0_768 inb_S512x2048_S512x128_0_768,
      dqOdd h t 640 (by decide) inb_S512x2048_S512x128_0_640 inb_S512x2048_S512x128_0_640,
      dqEven h t 512 (by decide) inb_S512x2048_S512x128_0_512 inb_S512x2048_S512x128_0_512,
      dqOdd h t 384 (by decide) inb_S512x2048_S512x128_0_384 inb_S512x2048_S512x128_0_384,
      dqEven h t 256 (by decide) inb_S512x2048_S512x128_0_256 inb_S512x2048_S512x128_0_256,
      dqOdd h t 128 (by decide) inb_S512x2048_S512x128_0_128 inb_S512x2048_S512x128_0_128,
      dqEven h t 0 (by decide) inb_S512x2048_S512x128_0_0 inb_S512x2048_S512x128_0_0, trivial⟩
  · exact View.cover_of_tiled_head _ _ _ rfl

set_option maxHeartbeats 2000000 in
theorem gainq_B (t : Fin cfg0.N) (h0 : ¬ t.val % 8 = 0) (h1 : ¬ t.val % 8 = 7) (k : Fin 256) :
    (outsAt0 m c t.val t.isLt).2.2.2.1 (ix2 0 k)
      = (outsAt0 m c (t.val - 1) (by have := t.isLt; omega)).2.2.2.1 (ix2 0 k) + ((∑ r, dcq P Wq DQ (rb t r) (rs t r) k * xh (X (rb t r) (rs t r)) k : ℝ) : EReal) := by
  rw [outsAt0_B m c t h0 h1]
  frame_open
  simp (disch := decide) only [↓ View.readCov_skip, ↓ View.readCov_cons_toLoadRect, ↓ View.readCov_fill, ↓ read_unread_whole]
  frame_out
  refine pay74_real _ _ (zq_at h t _) _ _ (dcq_at h t _
    (fun r d => whole_read _ _ _ (dqG P DQ t) r d ?_ ?_)) _ k
  · exact ⟨dqOdd h t 1920 (by decide) inb_S512x2048_S512x128_0_1920 inb_S512x2048_S512x128_0_1920,
      dqEven h t 1792 (by decide) inb_S512x2048_S512x128_0_1792 inb_S512x2048_S512x128_0_1792,
      dqOdd h t 1664 (by decide) inb_S512x2048_S512x128_0_1664 inb_S512x2048_S512x128_0_1664,
      dqEven h t 1536 (by decide) inb_S512x2048_S512x128_0_1536 inb_S512x2048_S512x128_0_1536,
      dqOdd h t 1408 (by decide) inb_S512x2048_S512x128_0_1408 inb_S512x2048_S512x128_0_1408,
      dqEven h t 1280 (by decide) inb_S512x2048_S512x128_0_1280 inb_S512x2048_S512x128_0_1280,
      dqOdd h t 1152 (by decide) inb_S512x2048_S512x128_0_1152 inb_S512x2048_S512x128_0_1152,
      dqEven h t 1024 (by decide) inb_S512x2048_S512x128_0_1024 inb_S512x2048_S512x128_0_1024,
      dqOdd h t 896 (by decide) inb_S512x2048_S512x128_0_896 inb_S512x2048_S512x128_0_896,
      dqEven h t 768 (by decide) inb_S512x2048_S512x128_0_768 inb_S512x2048_S512x128_0_768,
      dqOdd h t 640 (by decide) inb_S512x2048_S512x128_0_640 inb_S512x2048_S512x128_0_640,
      dqEven h t 512 (by decide) inb_S512x2048_S512x128_0_512 inb_S512x2048_S512x128_0_512,
      dqOdd h t 384 (by decide) inb_S512x2048_S512x128_0_384 inb_S512x2048_S512x128_0_384,
      dqEven h t 256 (by decide) inb_S512x2048_S512x128_0_256 inb_S512x2048_S512x128_0_256,
      dqOdd h t 128 (by decide) inb_S512x2048_S512x128_0_128 inb_S512x2048_S512x128_0_128,
      dqEven h t 0 (by decide) inb_S512x2048_S512x128_0_0 inb_S512x2048_S512x128_0_0, trivial⟩
  · exact View.cover_of_tiled_head _ _ _ rfl

set_option maxHeartbeats 2000000 in
theorem gainq_C (t : Fin cfg0.N) (h0 : ¬ t.val % 8 = 0) (h1 : t.val % 8 = 7) (k : Fin 256) :
    (outsAt0 m c t.val t.isLt).2.2.2.1 (ix2 0 k)
      = (outsAt0 m c (t.val - 1) (by have := t.isLt; omega)).2.2.2.1 (ix2 0 k) + ((∑ r, dcq P Wq DQ (rb t r) (rs t r) k * xh (X (rb t r) (rs t r)) k : ℝ) : EReal) := by
  rw [outsAt0_C m c t h0 h1]
  frame_open
  simp (disch := decide) only [↓ View.readCov_skip, ↓ View.readCov_cons_toLoadRect, ↓ View.readCov_fill, ↓ read_unread_whole]
  frame_out
  refine pay74_real _ _ (zq_at h t _) _ _ (dcq_at h t _
    (fun r d => whole_read _ _ _ (dqG P DQ t) r d ?_ ?_)) _ k
  · exact ⟨dqOdd h t 1920 (by decide) inb_S512x2048_S512x128_0_1920 inb_S512x2048_S512x128_0_1920,
      dqEven h t 1792 (by decide) inb_S512x2048_S512x128_0_1792 inb_S512x2048_S512x128_0_1792,
      dqOdd h t 1664 (by decide) inb_S512x2048_S512x128_0_1664 inb_S512x2048_S512x128_0_1664,
      dqEven h t 1536 (by decide) inb_S512x2048_S512x128_0_1536 inb_S512x2048_S512x128_0_1536,
      dqOdd h t 1408 (by decide) inb_S512x2048_S512x128_0_1408 inb_S512x2048_S512x128_0_1408,
      dqEven h t 1280 (by decide) inb_S512x2048_S512x128_0_1280 inb_S512x2048_S512x128_0_1280,
      dqOdd h t 1152 (by decide) inb_S512x2048_S512x128_0_1152 inb_S512x2048_S512x128_0_1152,
      dqEven h t 1024 (by decide) inb_S512x2048_S512x128_0_1024 inb_S512x2048_S512x128_0_1024,
      dqOdd h t 896 (by decide) inb_S512x2048_S512x128_0_896 inb_S512x2048_S512x128_0_896,
      dqEven h t 768 (by decide) inb_S512x2048_S512x128_0_768 inb_S512x2048_S512x128_0_768,
      dqOdd h t 640 (by decide) inb_S512x2048_S512x128_0_640 inb_S512x2048_S512x128_0_640,
      dqEven h t 512 (by decide) inb_S512x2048_S512x128_0_512 inb_S512x2048_S512x128_0_512,
      dqOdd h t 384 (by decide) inb_S512x2048_S512x128_0_384 inb_S512x2048_S512x128_0_384,
      dqEven h t 256 (by decide) inb_S512x2048_S512x128_0_256 inb_S512x2048_S512x128_0_256,
      dqOdd h t 128 (by decide) inb_S512x2048_S512x128_0_128 inb_S512x2048_S512x128_0_128,
      dqEven h t 0 (by decide) inb_S512x2048_S512x128_0_0 inb_S512x2048_S512x128_0_0, trivial⟩
  · exact View.cover_of_tiled_head _ _ _ rfl

end Cert.MlaPrepIdeal.Final

end
-- ==== Proof.MlaPrep.PointGK.lean ====
/- What one grid point leaves, over the reals. -/
module

public import proofs.«01_k».proof.Proof.MlaPrep.Stage
public import Idealize.ShloMosaic.Lib.Pipeline.ReadBack

@[expose] public section

set_option maxRecDepth 16384

noncomputable section

namespace Cert.MlaPrepIdeal.Final

open Idealize.ShloMosaic Idealize.ShloMosaic.TcCoe Idealize.SL.Sem
open Cert.MlaPrepIdeal Cert.MlaPrepIdeal.Gen Cert.MlaPrepIdeal.Body Cert.Reals Cert.MlaSpec Cert.Tokens

variable {m : (ℓ : Loc nD τ sig) → Buf (Elt Ideal) ℓ} {c : Dev nD}
  {X : Fin 2 → Fin 2048 → Fin 256 → ℝ} {Z : Fin 2 → Fin 2048 → Fin 128 → ℝ} {P : Fin 2 → Fin 2048 → ℝ}
  {gq : Fin 256 → ℝ} {Wq : Fin 256 → Fin 1536 → ℝ} {gk : Fin 128 → ℝ} {Wk : Fin 128 → Fin 2048 → ℝ}
  {DQ DK : Fin 2 → Fin 2048 → Fin 8 → Fin 192 → ℝ} {DV : Fin 2 → Fin 2048 → Fin 8 → Fin 128 → ℝ}

variable (h : Args m c X Z P gq Wq gk Wk DQ DK DV)
include h

set_option maxHeartbeats 2000000 in
theorem gaink_A (t : Fin cfg0.N) (h0 : t.val % 8 = 0) (h1 : ¬ t.val % 8 = 7) (k : Fin 128) :
    (outsAt0 m c t.val t.isLt).2.2.2.2.1 (ix2 0 k)
      = (0 : EReal) + ((∑ r, dck Wk DK DV (rb t r) (rs t r) k * xh (Z (rb t r) (rs t r)) k : ℝ) : EReal) := by
  rw [outsAt0_A m c t h0 h1]
  frame_open
  simp (disch := decide) only [↓ View.readCov_skip, ↓ View.readCov_cons_toLoadRect, ↓ View.readCov_fill, ↓ read_unread_whole]
  frame_out
  refine Eq.trans ?_ (congrArg (· + _) (show k0_pay4 (F := Ideal) (ix2 0 k) = 0 by pointwise [k0_pay4]))
  refine pay75_real _ _ (zk_at h t _) _ _ _ (dck_at h t _
    (fun r d => whole_read _ _ _ (dkG DK DV t) r d ?_ ?_)) _ k
  · exact ⟨dkOdd h t 1920 896 (by decide) inb_S512x1024_S512x128_0_896 inb_S512x2048_S512x128_0_1920,
      dkEven h t 1792 (by decide) inb_S512x2048_S512x128_0_1792 inb_S512x2048_S512x128_0_1792,
      dkOdd h t 1664 768 (by decide) inb_S512x1024_S512x128_0_768 inb_S512x2048_S512x128_0_1664,
      dkEven h t 1536 (by decide) inb_S512x2048_S512x128_0_1536 inb_S512x2048_S512x128_0_1536,
      dkOdd h t 1408 640 (by decide) inb_S512x1024_S512x128_0_640 inb_S512x2048_S512x128_0_1408,
      dkEven h t 1280 (by decide) inb_S512x2048_S512x128_0_1280 inb_S512x2048_S512x128_0_1280,
      dkOdd h t 1152 512 (by decide) inb_S512x1024_S512x128_0_512 inb_S512x2048_S512x128_0_1152,
      dkEven h t 1024 (by decide) inb_S512x2048_S512x128_0_1024 inb_S512x2048_S512x128_0_1024,
      dkOdd h t 896 384 (by decide) inb_S512x1024_S512x128_0_384 inb_S512x2048_S512x128_0_896,
      dkEven h t 768 (by decide) inb_S512x2048_S512x128_0_768 inb_S512x2048_S512x128_0_768,
      dkOdd h t 640 256 (by decide) inb_S512x1024_S512x128_0_256 inb_S512x2048_S512x128_0_640,
      dkEven h t 512 (by decide) inb_S512x2048_S512x128_0_512 inb_S512x2048_S512x128_0_512,
      dkOdd h t 384 128 (by decide) inb_S512x1024_S512x128_0_128 inb_S512x2048_S512x128_0_384,
      dkEven h t 256 (by decide) inb_S512x2048_S512x128_0_256 inb_S512x2048_S512x128_0_256,
      dkOdd h t 128 0 (by decide) inb_S512x1024_S512x128_0_0 inb_S512x2048_S512x128_0_128,
      dkEven h t 0 (by decide) inb_S512x2048_S512x128_0_0 inb_S512x2048_S512x128_0_0, trivial⟩
  · exact View.cover_of_tiled_head _ _ _ rfl

set_option maxHeartbeats 2000000 in
theorem gaink_B (t : Fin cfg0.N) (h0 : ¬ t.val % 8 = 0) (h1 : ¬ t.val % 8 = 7) (k : Fin 128) :
    (outsAt0 m c t.val t.isLt).2.2.2.2.1 (ix2 0 k)
      = (outsAt0 m c (t.val - 1) (by have := t.isLt; omega)).2.2.2.2.1 (ix2 0 k) + ((∑ r, dck Wk DK DV (rb t r) (rs t r) k * xh (Z (rb t r) (rs t r)) k : ℝ) : EReal) := by
  rw [outsAt0_B m c t h0 h1]
  frame_open
  simp (disch := decide) only [↓ View.readCov_skip, ↓ View.readCov_cons_toLoadRect, ↓ View.readCov_fill, ↓ read_unread_whole]
  frame_out
  refine pay75_real _ _ (zk_at h t _) _ _ _ (dck_at h t _
    (fun r d => whole_read _ _ _ (dkG DK DV t) r d ?_ ?_)) _ k
  · exact ⟨dkOdd h t 1920 896 (by decide) inb_S512x1024_S512x128_0_896 inb_S512x2048_S512x128_0_1920,
      dkEven h t 1792 (by decide) inb_S512x2048_S512x128_0_1792 inb_S512x2048_S512x128_0_1792,
      dkOdd h t 1664 768 (by decide) inb_S512x1024_S512x128_0_768 inb_S512x2048_S512x128_0_1664,
      dkEven h t 1536 (by decide) inb_S512x2048_S512x128_0_1536 inb_S512x2048_S512x128_0_1536,
      dkOdd h t 1408 640 (by decide) inb_S512x1024_S512x128_0_640 inb_S512x2048_S512x128_0_1408,
      dkEven h t 1280 (by decide) inb_S512x2048_S512x128_0_1280 inb_S512x2048_S512x128_0_1280,
      dkOdd h t 1152 512 (by decide) inb_S512x1024_S512x128_0_512 inb_S512x2048_S512x128_0_1152,
      dkEven h t 1024 (by decide) inb_S512x2048_S512x128_0_1024 inb_S512x2048_S512x128_0_1024,
      dkOdd h t 896 384 (by decide) inb_S512x1024_S512x128_0_384 inb_S512x2048_S512x128_0_896,
      dkEven h t 768 (by decide) inb_S512x2048_S512x128_0_768 inb_S512x2048_S512x128_0_768,
      dkOdd h t 640 256 (by decide) inb_S512x1024_S512x128_0_256 inb_S512x2048_S512x128_0_640,
      dkEven h t 512 (by decide) inb_S512x2048_S512x128_0_512 inb_S512x2048_S512x128_0_512,
      dkOdd h t 384 128 (by decide) inb_S512x1024_S512x128_0_128 inb_S512x2048_S512x128_0_384,
      dkEven h t 256 (by decide) inb_S512x2048_S512x128_0_256 inb_S512x2048_S512x128_0_256,
      dkOdd h t 128 0 (by decide) inb_S512x1024_S512x128_0_0 inb_S512x2048_S512x128_0_128,
      dkEven h t 0 (by decide) inb_S512x2048_S512x128_0_0 inb_S512x2048_S512x128_0_0, trivial⟩
  · exact View.cover_of_tiled_head _ _ _ rfl

set_option maxHeartbeats 2000000 in
theorem gaink_C (t : Fin cfg0.N) (h0 : ¬ t.val % 8 = 0) (h1 : t.val % 8 = 7) (k : Fin 128) :
    (outsAt0 m c t.val t.isLt).2.2.2.2.1 (ix2 0 k)
      = (outsAt0 m c (t.val - 1) (by have := t.isLt; omega)).2.2.2.2.1 (ix2 0 k) + ((∑ r, dck Wk DK DV (rb t r) (rs t r) k * xh (Z (rb t r) (rs t r)) k : ℝ) : EReal) := by
  rw [outsAt0_C m c t h0 h1]
  frame_open
  simp (disch := decide) only [↓ View.readCov_skip, ↓ View.readCov_cons_toLoadRect, ↓ View.readCov_fill, ↓ read_unread_whole]
  frame_out
  refine pay75_real _ _ (zk_at h t _) _ _ _ (dck_at h t _
    (fun r d => whole_read _ _ _ (dkG DK DV t) r d ?_ ?_)) _ k
  · exact ⟨dkOdd h t 1920 896 (by decide) inb_S512x1024_S512x128_0_896 inb_S512x2048_S512x128_0_1920,
      dkEven h t 1792 (by decide) inb_S512x2048_S512x128_0_1792 inb_S512x2048_S512x128_0_1792,
      dkOdd h t 1664 768 (by decide) inb_S512x1024_S512x128_0_768 inb_S512x2048_S512x128_0_1664,
      dkEven h t 1536 (by decide) inb_S512x2048_S512x128_0_1536 inb_S512x2048_S512x128_0_1536,
      dkOdd h t 1408 640 (by decide) inb_S512x1024_S512x128_0_640 inb_S512x2048_S512x128_0_1408,
      dkEven h t 1280 (by decide) inb_S512x2048_S512x128_0_1280 inb_S512x2048_S512x128_0_1280,
      dkOdd h t 1152 512 (by decide) inb_S512x1024_S512x128_0_512 inb_S512x2048_S512x128_0_1152,
      dkEven h t 1024 (by decide) inb_S512x2048_S512x128_0_1024 inb_S512x2048_S512x128_0_1024,
      dkOdd h t 896 384 (by decide) inb_S512x1024_S512x128_0_384 inb_S512x2048_S512x128_0_896,
      dkEven h t 768 (by decide) inb_S512x2048_S512x128_0_768 inb_S512x2048_S512x128_0_768,
      dkOdd h t 640 256 (by decide) inb_S512x1024_S512x128_0_256 inb_S512x2048_S512x128_0_640,
      dkEven h t 512 (by decide) inb_S512x2048_S512x128_0_512 inb_S512x2048_S512x128_0_512,
      dkOdd h t 384 128 (by decide) inb_S512x1024_S512x128_0_128 inb_S512x2048_S512x128_0_384,
      dkEven h t 256 (by decide) inb_S512x2048_S512x128_0_256 inb_S512x2048_S512x128_0_256,
      dkOdd h t 128 0 (by decide) inb_S512x1024_S512x128_0_0 inb_S512x2048_S512x128_0_128,
      dkEven h t 0 (by decide) inb_S512x2048_S512x128_0_0 inb_S512x2048_S512x128_0_0, trivial⟩
  · exact View.cover_of_tiled_head _ _ _ rfl

end Cert.MlaPrepIdeal.Final

end
-- ==== Proof.MlaPrep.Rows.lean ====
/- What one grid point leaves, over the reals. -/
module

public import proofs.«01_k».proof.Proof.MlaPrep.Stage
public import Idealize.ShloMosaic.Lib.Pipeline.ReadBack

@[expose] public section

set_option maxRecDepth 16384

noncomputable section

namespace Cert.MlaPrepIdeal.Final

open Idealize.ShloMosaic Idealize.ShloMosaic.TcCoe Idealize.SL.Sem
open Cert.MlaPrepIdeal Cert.MlaPrepIdeal.Gen Cert.MlaPrepIdeal.Body Cert.Reals Cert.MlaSpec Cert.Tokens

variable {m : (ℓ : Loc nD τ sig) → Buf (Elt Ideal) ℓ} {c : Dev nD}
  {X : Fin 2 → Fin 2048 → Fin 256 → ℝ} {Z : Fin 2 → Fin 2048 → Fin 128 → ℝ} {P : Fin 2 → Fin 2048 → ℝ}
  {gq : Fin 256 → ℝ} {Wq : Fin 256 → Fin 1536 → ℝ} {gk : Fin 128 → ℝ} {Wk : Fin 128 → Fin 2048 → ℝ}
  {DQ DK : Fin 2 → Fin 2048 → Fin 8 → Fin 192 → ℝ} {DV : Fin 2 → Fin 2048 → Fin 8 → Fin 128 → ℝ}

variable (h : Args m c X Z P gq Wq gk Wk DQ DK DV)
include h

/-- A block's rows of the three gradients side by side, then zeros. -/
def dzG (X : Fin 2 → Fin 2048 → Fin 256 → ℝ) (Z : Fin 2 → Fin 2048 → Fin 128 → ℝ) (P : Fin 2 → Fin 2048 → ℝ)
    (gq : Fin 256 → ℝ) (Wq : Fin 256 → Fin 1536 → ℝ) (gk : Fin 128 → ℝ) (Wk : Fin 128 → Fin 2048 → ℝ)
    (DQ DK : Fin 2 → Fin 2048 → Fin 8 → Fin 192 → ℝ) (DV : Fin 2 → Fin 2048 → Fin 8 → Fin 128 → ℝ)
    (t : Fin cfg0.N) (y : S512x512.Idx) : EReal :=
  ((dzs X Z P gq Wq gk Wk DQ DK DV (rb t (y 0)) (rs t (y 0)) (y 1) : ℝ) : EReal)

omit h in
theorem emb_cols (q n : ℕ) (hq : q + n ≤ 512) (inb) (r : Fin 512) (d : Fin n) :
    (Rect.unit (s := S512x512) ![0, q] ![512, n] inb).emb (ix2 r d) = ix2 r ⟨q + d.val, by have := d.isLt; omega⟩ := by
  blk_ext

omit h in
theorem dz_q (t : Fin cfg0.N) (inb) (r : Fin 512) (d : Fin 256) :
    ((rmsBwd (X (rb t r) (rs t r)) (fun k => dcq P Wq DQ (rb t r) (rs t r) k * gq k) d : ℝ) : EReal)
      = dzG X Z P gq Wq gk Wk DQ DK DV t ((Rect.unit (s := S512x512) ![0, 0] ![512, 256] inb).emb (ix2 r d)) := by
  rw [emb_cols 0 256 (by decide) inb r d]
  refine congrArg _ ?_
  show _ = dzs X Z P gq Wq gk Wk DQ DK DV (rb t r) (rs t r) ⟨0 + d.val, by have := d.isLt; omega⟩
  have := d.isLt
  have a : 0 + d.val < 256 := by omega
  unfold dzs
  simp only [a, dite_true]
  exact congrArg _ (Fin.ext (Nat.zero_add _).symm)

omit h in
theorem dz_k (t : Fin cfg0.N) (inb) (r : Fin 512) (d : Fin 128) :
    ((rmsBwd (Z (rb t r) (rs t r)) (fun k => dck Wk DK DV (rb t r) (rs t r) k * gk k) d : ℝ) : EReal)
      = dzG X Z P gq Wq gk Wk DQ DK DV t ((Rect.unit (s := S512x512) ![0, 256] ![512, 128] inb).emb (ix2 r d)) := by
  rw [emb_cols 256 128 (by decide) inb r d]
  refine congrArg _ ?_
  show _ = dzs X Z P gq Wq gk Wk DQ DK DV (rb t r) (rs t r) ⟨256 + d.val, by have := d.isLt; omega⟩
  have := d.isLt
  have a : ¬ 256 + d.val < 256 := by omega
  have b : 256 + d.val < 384 := by omega
  unfold dzs
  simp only [a, b, dite_true, dite_false]
  exact congrArg _ (Fin.ext (Nat.add_sub_cancel_left ..).symm)

omit h in
theorem dz_r (t : Fin cfg0.N) (inb) (r : Fin 512) (l : Fin 128) :
    ((wide (dkr P DK (rb t r) (rs t r)) l : ℝ) : EReal)
      = dzG X Z P gq Wq gk Wk DQ DK DV t ((Rect.unit (s := S512x512) ![0, 384] ![512, 128] inb).emb (ix2 r l)) := by
  rw [emb_cols 384 128 (by decide) inb r l]
  refine congrArg _ ?_
  show _ = dzs X Z P gq Wq gk Wk DQ DK DV (rb t r) (rs t r) ⟨384 + l.val, by have := l.isLt; omega⟩
  have := l.isLt
  have a : ¬ 384 + l.val < 256 := by omega
  have b : ¬ 384 + l.val < 384 := by omega
  have c : 384 + l.val < 448 ↔ l.val < 64 := by omega
  have e : 384 + l.val - 384 = l.val := by omega
  unfold dzs wide
  simp only [a, b, c, e, dite_false]

omit h in
theorem sum_wide_tail (D : Fin 8 → Fin 192 → ℝ) : (fun l => ∑ h, wide (tail (D h)) l) = wide (fun l => ∑ h, tail (D h) l) := by
  funext l
  unfold wide
  by_cases a : l.val < 64
  · simp only [a, dite_true]
  · simp only [a, dite_false, Finset.sum_const_zero]

/-- The heads' rotated lanes summed and turned back. -/
theorem dkr_at (t : Fin cfg0.N) (x : FVec Ideal S512x128 .f32)
    (hx : ∀ r l, x (ix2 r l) = ((∑ q, wide (tail (DK (rb t r) (rs t r) q)) l : ℝ) : EReal)) (r : Fin 512) (l : Fin 128) :
    k0_pay2 (F := Ideal) (k0_pay9 (iblk m c 1 t) (iblk m c 2 t)) (k0_pay10 (iblk m c 1 t) (iblk m c 2 t)) (k0_pay11 (iblk m c 1 t) (iblk m c 2 t)) x (ix2 r l)
      = ((wide (dkr P DK (rb t r) (rs t r)) l : ℝ) : EReal) := by
  refine (rope_real _ _ (fun r => P (rb t r) (rs t r)) (blk1 h t) (fun l hl => blk2 h t l hl) x
    (fun r l => ∑ q, wide (tail (DK (rb t r) (rs t r) q)) l) hx r l).trans (congrArg _ ?_)
  rw [sum_wide_tail]
  exact lanes_wide _ _ _

end Cert.MlaPrepIdeal.Final

end
-- ==== Proof.MlaPrep.RowsA.lean ====
/- A block's rows of gradients: the first point. -/
module

public import proofs.«01_k».proof.Proof.MlaPrep.Rows
public import Idealize.ShloMosaic.Lib.Pipeline.ReadBack

@[expose] public section

set_option maxRecDepth 16384

noncomputable section

namespace Cert.MlaPrepIdeal.Final

open Idealize.ShloMosaic Idealize.ShloMosaic.TcCoe Idealize.SL.Sem
open Cert.MlaPrepIdeal Cert.MlaPrepIdeal.Gen Cert.MlaPrepIdeal.Body Cert.Reals Cert.MlaSpec Cert.Tokens

variable {m : (ℓ : Loc nD τ sig) → Buf (Elt Ideal) ℓ} {c : Dev nD}
  {X : Fin 2 → Fin 2048 → Fin 256 → ℝ} {Z : Fin 2 → Fin 2048 → Fin 128 → ℝ} {P : Fin 2 → Fin 2048 → ℝ}
  {gq : Fin 256 → ℝ} {Wq : Fin 256 → Fin 1536 → ℝ} {gk : Fin 128 → ℝ} {Wk : Fin 128 → Fin 2048 → ℝ}
  {DQ DK : Fin 2 → Fin 2048 → Fin 8 → Fin 192 → ℝ} {DV : Fin 2 → Fin 2048 → Fin 8 → Fin 128 → ℝ}

variable (h : Args m c X Z P gq Wq gk Wk DQ DK DV)
include h

set_option maxHeartbeats 2000000 in
/-- The three stores of the first point tile the rows' window. -/
theorem rows_A (t : Fin cfg0.N) (h0 : t.val % 8 = 0) (h1 : ¬ t.val % 8 = 7) (j : S512x512.Idx) :
    (outsAt0 m c t.val t.isLt).1 j = dzG X Z P gq Wq gk Wk DQ DK DV t j := by
  rw [outsAt0_A m c t h0 h1]
  frame_open
  simp (disch := decide) only [↓ View.readCov_skip, ↓ View.readCov_cons_toLoadRect, ↓ View.readCov_fill]
  frame_out
  refine (View.canon_append_of_piecesOf (Val := Elt Ideal) (s := S512x512) (e := .bf16) (dzG X Z P gq Wq gk Wk DQ DK DV t) []
    [_, _, _] ⟨fun x => ?_, fun x => ?_, fun x => ?_, trivial⟩ j ?_)
  · idx_vars x
    refine Eq.trans (dkr_at h t _ ?_ x0 x1) (dz_r t _ x0 x1)
    exact fun r l => heads_real _ _ _ _ _ _ _ _ (fun q => wide (tail (DK (rb t r) (rs t r) q)) l) _
      (dkTail h t 128 (by decide) inb_S512x2048_S512x128_0_128 r l) (dkTail h t 384 (by decide) inb_S512x2048_S512x128_0_384 r l) (dkTail h t 640 (by decide) inb_S512x2048_S512x128_0_640 r l) (dkTail h t 896 (by decide) inb_S512x2048_S512x128_0_896 r l) (dkTail h t 1152 (by decide) inb_S512x2048_S512x128_0_1152 r l) (dkTail h t 1408 (by decide) inb_S512x2048_S512x128_0_1408 r l) (dkTail h t 1664 (by decide) inb_S512x2048_S512x128_0_1664 r l) (dkTail h t 1920 (by decide) inb_S512x2048_S512x128_0_1920 r l)
  · idx_vars x
    refine Eq.trans ?_ (dz_k t _ x0 x1)
    refine pay1_real _ _ (zk_at h t _) _ _ _ (dck_at h t _
      (fun r d => whole_read _ _ _ (dkG DK DV t) r d ?_ ?_)) _ gk (blk4 h t) x0 x1
    · exact ⟨dkOdd h t 1920 896 (by decide) inb_S512x1024_S512x128_0_896 inb_S512x2048_S512x128_0_1920,
    dkEven h t 1792 (by decide) inb_S512x2048_S512x128_0_1792 inb_S512x2048_S512x128_0_1792,
    dkOdd h t 1664 768 (by decide) inb_S512x1024_S512x128_0_768 inb_S512x2048_S512x128_0_1664,
    dkEven h t 1536 (by decide) inb_S512x2048_S512x128_0_1536 inb_S512x2048_S512x128_0_1536,
    dkOdd h t 1408 640 (by decide) inb_S512x1024_S512x128_0_640 inb_S512x2048_S512x128_0_1408,
    dkEven h t 1280 (by decide) inb_S512x2048_S512x128_0_1280 inb_S512x2048_S512x128_0_1280,
    dkOdd h t 1152 512 (by decide) inb_S512x1024_S512x128_0_512 inb_S512x2048_S512x128_0_1152,
    dkEven h t 1024 (by decide) inb_S512x2048_S512x128_0_1024 inb_S512x2048_S512x128_0_1024,
    dkOdd h t 896 384 (by decide) inb_S512x1024_S512x128_0_384 inb_S512x2048_S512x128_0_896,
    dkEven h t 768 (by decide) inb_S512x2048_S512x128_0_768 inb_S512x2048_S512x128_0_768,
    dkOdd h t 640 256 (by decide) inb_S512x1024_S512x128_0_256 inb_S512x2048_S512x128_0_640,
    dkEven h t 512 (by decide) inb_S512x2048_S512x128_0_512 inb_S512x2048_S512x128_0_512,
    dkOdd h t 384 128 (by decide) inb_S512x1024_S512x128_0_128 inb_S512x2048_S512x128_0_384,
    dkEven h t 256 (by decide) inb_S512x2048_S512x128_0_256 inb_S512x2048_S512x128_0_256,
    dkOdd h t 128 0 (by decide) inb_S512x1024_S512x128_0_0 inb_S512x2048_S512x128_0_128,
    dkEven h t 0 (by decide) inb_S512x2048_S512x128_0_0 inb_S512x2048_S512x128_0_0, trivial⟩
    · exact View.cover_of_tiled_head _ _ _ rfl
  · idx_vars x
    refine Eq.trans ?_ (dz_q t _ x0 x1)
    refine pay76_real _ _ (zq_at h t _) _ _ (dcq_at h t _
      (fun r d => whole_read _ _ _ (dqG P DQ t) r d ?_ ?_)) _ gq (blk3 h t) x0 x1
    · exact ⟨dqOdd h t 1920 (by decide) inb_S512x2048_S512x128_0_1920 inb_S512x2048_S512x128_0_1920,
    dqEven h t 1792 (by decide) inb_S512x2048_S512x128_0_1792 inb_S512x2048_S512x128_0_1792,
    dqOdd h t 1664 (by decide) inb_S512x2048_S512x128_0_1664 inb_S512x2048_S512x128_0_1664,
    dqEven h t 1536 (by decide) inb_S512x2048_S512x128_0_1536 inb_S512x2048_S512x128_0_1536,
    dqOdd h t 1408 (by decide) inb_S512x2048_S512x128_0_1408 inb_S512x2048_S512x128_0_1408,
    dqEven h t 1280 (by decide) inb_S512x2048_S512x128_0_1280 inb_S512x2048_S512x128_0_1280,
    dqOdd h t 1152 (by decide) inb_S512x2048_S512x128_0_1152 inb_S512x2048_S512x128_0_1152,
    dqEven h t 1024 (by decide) inb_S512x2048_S512x128_0_1024 inb_S512x2048_S512x128_0_1024,
    dqOdd h t 896 (by decide) inb_S512x2048_S512x128_0_896 inb_S512x2048_S512x128_0_896,
    dqEven h t 768 (by decide) inb_S512x2048_S512x128_0_768 inb_S512x2048_S512x128_0_768,
    dqOdd h t 640 (by decide) inb_S512x2048_S512x128_0_640 inb_S512x2048_S512x128_0_640,
    dqEven h t 512 (by decide) inb_S512x2048_S512x128_0_512 inb_S512x2048_S512x128_0_512,
    dqOdd h t 384 (by decide) inb_S512x2048_S512x128_0_384 inb_S512x2048_S512x128_0_384,
    dqEven h t 256 (by decide) inb_S512x2048_S512x128_0_256 inb_S512x2048_S512x128_0_256,
    dqOdd h t 128 (by decide) inb_S512x2048_S512x128_0_128 inb_S512x2048_S512x128_0_128,
    dqEven h t 0 (by decide) inb_S512x2048_S512x128_0_0 inb_S512x2048_S512x128_0_0, trivial⟩
    · exact View.cover_of_tiled_head _ _ _ rfl
  · exact View.cover_of_tiledBy _ ![512, 128] (by sl_kernel_rfl) j

end Cert.MlaPrepIdeal.Final

end
-- ==== Proof.MlaPrep.RowsB.lean ====
/- A block's rows of gradients: a middle point. -/
module

public import proofs.«01_k».proof.Proof.MlaPrep.Rows
public import Idealize.ShloMosaic.Lib.Pipeline.ReadBack

@[expose] public section

set_option maxRecDepth 16384

noncomputable section

namespace Cert.MlaPrepIdeal.Final

open Idealize.ShloMosaic Idealize.ShloMosaic.TcCoe Idealize.SL.Sem
open Cert.MlaPrepIdeal Cert.MlaPrepIdeal.Gen Cert.MlaPrepIdeal.Body Cert.Reals Cert.MlaSpec Cert.Tokens

variable {m : (ℓ : Loc nD τ sig) → Buf (Elt Ideal) ℓ} {c : Dev nD}
  {X : Fin 2 → Fin 2048 → Fin 256 → ℝ} {Z : Fin 2 → Fin 2048 → Fin 128 → ℝ} {P : Fin 2 → Fin 2048 → ℝ}
  {gq : Fin 256 → ℝ} {Wq : Fin 256 → Fin 1536 → ℝ} {gk : Fin 128 → ℝ} {Wk : Fin 128 → Fin 2048 → ℝ}
  {DQ DK : Fin 2 → Fin 2048 → Fin 8 → Fin 192 → ℝ} {DV : Fin 2 → Fin 2048 → Fin 8 → Fin 128 → ℝ}

variable (h : Args m c X Z P gq Wq gk Wk DQ DK DV)
include h

set_option maxHeartbeats 2000000 in
/-- The three stores of a middle point tile the rows' window. -/
theorem rows_B (t : Fin cfg0.N) (h0 : ¬ t.val % 8 = 0) (h1 : ¬ t.val % 8 = 7) (j : S512x512.Idx) :
    (outsAt0 m c t.val t.isLt).1 j = dzG X Z P gq Wq gk Wk DQ DK DV t j := by
  rw [outsAt0_B m c t h0 h1]
  frame_open
  simp (disch := decide) only [↓ View.readCov_skip, ↓ View.readCov_cons_toLoadRect, ↓ View.readCov_fill]
  frame_out
  refine (View.canon_append_of_piecesOf (Val := Elt Ideal) (s := S512x512) (e := .bf16) (dzG X Z P gq Wq gk Wk DQ DK DV t) []
    [_, _, _] ⟨fun x => ?_, fun x => ?_, fun x => ?_, trivial⟩ j ?_)
  · idx_vars x
    refine Eq.trans (dkr_at h t _ ?_ x0 x1) (dz_r t _ x0 x1)
    exact fun r l => heads_real _ _ _ _ _ _ _ _ (fun q => wide (tail (DK (rb t r) (rs t r) q)) l) _
      (dkTail h t 128 (by decide) inb_S512x2048_S512x128_0_128 r l) (dkTail h t 384 (by decide) inb_S512x2048_S512x128_0_384 r l) (dkTail h t 640 (by decide) inb_S512x2048_S512x128_0_640 r l) (dkTail h t 896 (by decide) inb_S512x2048_S512x128_0_896 r l) (dkTail h t 1152 (by decide) inb_S512x2048_S512x128_0_1152 r l) (dkTail h t 1408 (by decide) inb_S512x2048_S512x128_0_1408 r l) (dkTail h t 1664 (by decide) inb_S512x2048_S512x128_0_1664 r l) (dkTail h t 1920 (by decide) inb_S512x2048_S512x128_0_1920 r l)
  · idx_vars x
    refine Eq.trans ?_ (dz_k t _ x0 x1)
    refine pay1_real _ _ (zk_at h t _) _ _ _ (dck_at h t _
      (fun r d => whole_read _ _ _ (dkG DK DV t) r d ?_ ?_)) _ gk (blk4 h t) x0 x1
    · exact ⟨dkOdd h t 1920 896 (by decide) inb_S512x1024_S512x128_0_896 inb_S512x2048_S512x128_0_1920,
    dkEven h t 1792 (by decide) inb_S512x2048_S512x128_0_1792 inb_S512x2048_S512x128_0_1792,
    dkOdd h t 1664 768 (by decide) inb_S512x1024_S512x128_0_768 inb_S512x2048_S512x128_0_1664,
    dkEven h t 1536 (by decide) inb_S512x2048_S512x128_0_1536 inb_S512x2048_S512x128_0_1536,
    dkOdd h t 1408 640 (by decide) inb_S512x1024_S512x128_0_640 inb_S512x2048_S512x128_0_1408,
    dkEven h t 1280 (by decide) inb_S512x2048_S512x128_0_1280 inb_S512x2048_S512x128_0_1280,
    dkOdd h t 1152 512 (by decide) inb_S512x1024_S512x128_0_512 inb_S512x2048_S512x128_0_1152,
    dkEven h t 1024 (by decide) inb_S512x2048_S512x128_0_1024 inb_S512x2048_S512x128_0_1024,
    dkOdd h t 896 384 (by decide) inb_S512x1024_S512x128_0_384 inb_S512x2048_S512x128_0_896,
    dkEven h t 768 (by decide) inb_S512x2048_S512x128_0_768 inb_S512x2048_S512x128_0_768,
    dkOdd h t 640 256 (by decide) inb_S512x1024_S512x128_0_256 inb_S512x2048_S512x128_0_640,
    dkEven h t 512 (by decide) inb_S512x2048_S512x128_0_512 inb_S512x2048_S512x128_0_512,
    dkOdd h t 384 128 (by decide) inb_S512x1024_S512x128_0_128 inb_S512x2048_S512x128_0_384,
    dkEven h t 256 (by decide) inb_S512x2048_S512x128_0_256 inb_S512x2048_S512x128_0_256,
    dkOdd h t 128 0 (by decide) inb_S512x1024_S512x128_0_0 inb_S512x2048_S512x128_0_128,
    dkEven h t 0 (by decide) inb_S512x2048_S512x128_0_0 inb_S512x2048_S512x128_0_0, trivial⟩
    · exact View.cover_of_tiled_head _ _ _ rfl
  · idx_vars x
    refine Eq.trans ?_ (dz_q t _ x0 x1)
    refine pay76_real _ _ (zq_at h t _) _ _ (dcq_at h t _
      (fun r d => whole_read _ _ _ (dqG P DQ t) r d ?_ ?_)) _ gq (blk3 h t) x0 x1
    · exact ⟨dqOdd h t 1920 (by decide) inb_S512x2048_S512x128_0_1920 inb_S512x2048_S512x128_0_1920,
    dqEven h t 1792 (by decide) inb_S512x2048_S512x128_0_1792 inb_S512x2048_S512x128_0_1792,
    dqOdd h t 1664 (by decide) inb_S512x2048_S512x128_0_1664 inb_S512x2048_S512x128_0_1664,
    dqEven h t 1536 (by decide) inb_S512x2048_S512x128_0_1536 inb_S512x2048_S512x128_0_1536,
    dqOdd h t 1408 (by decide) inb_S512x2048_S512x128_0_1408 inb_S512x2048_S512x128_0_1408,
    dqEven h t 1280 (by decide) inb_S512x2048_S512x128_0_1280 inb_S512x2048_S512x128_0_1280,
    dqOdd h t 1152 (by decide) inb_S512x2048_S512x128_0_1152 inb_S512x2048_S512x128_0_1152,
    dqEven h t 1024 (by decide) inb_S512x2048_S512x128_0_1024 inb_S512x2048_S512x128_0_1024,
    dqOdd h t 896 (by decide) inb_S512x2048_S512x128_0_896 inb_S512x2048_S512x128_0_896,
    dqEven h t 768 (by decide) inb_S512x2048_S512x128_0_768 inb_S512x2048_S512x128_0_768,
    dqOdd h t 640 (by decide) inb_S512x2048_S512x128_0_640 inb_S512x2048_S512x128_0_640,
    dqEven h t 512 (by decide) inb_S512x2048_S512x128_0_512 inb_S512x2048_S512x128_0_512,
    dqOdd h t 384 (by decide) inb_S512x2048_S512x128_0_384 inb_S512x2048_S512x128_0_384,
    dqEven h t 256 (by decide) inb_S512x2048_S512x128_0_256 inb_S512x2048_S512x128_0_256,
    dqOdd h t 128 (by decide) inb_S512x2048_S512x128_0_128 inb_S512x2048_S512x128_0_128,
    dqEven h t 0 (by decide) inb_S512x2048_S512x128_0_0 inb_S512x2048_S512x128_0_0, trivial⟩
    · exact View.cover_of_tiled_head _ _ _ rfl
  · exact View.cover_of_tiledBy _ ![512, 128] (by sl_kernel_rfl) j

end Cert.MlaPrepIdeal.Final

end
-- ==== Proof.MlaPrep.RowsC.lean ====
/- A block's rows of gradients: the last point. -/
module

public import proofs.«01_k».proof.Proof.MlaPrep.Rows
public import Idealize.ShloMosaic.Lib.Pipeline.ReadBack

@[expose] public section

set_option maxRecDepth 16384

noncomputable section

namespace Cert.MlaPrepIdeal.Final

open Idealize.ShloMosaic Idealize.ShloMosaic.TcCoe Idealize.SL.Sem
open Cert.MlaPrepIdeal Cert.MlaPrepIdeal.Gen Cert.MlaPrepIdeal.Body Cert.Reals Cert.MlaSpec Cert.Tokens

variable {m : (ℓ : Loc nD τ sig) → Buf (Elt Ideal) ℓ} {c : Dev nD}
  {X : Fin 2 → Fin 2048 → Fin 256 → ℝ} {Z : Fin 2 → Fin 2048 → Fin 128 → ℝ} {P : Fin 2 → Fin 2048 → ℝ}
  {gq : Fin 256 → ℝ} {Wq : Fin 256 → Fin 1536 → ℝ} {gk : Fin 128 → ℝ} {Wk : Fin 128 → Fin 2048 → ℝ}
  {DQ DK : Fin 2 → Fin 2048 → Fin 8 → Fin 192 → ℝ} {DV : Fin 2 → Fin 2048 → Fin 8 → Fin 128 → ℝ}

variable (h : Args m c X Z P gq Wq gk Wk DQ DK DV)
include h

set_option maxHeartbeats 2000000 in
/-- The three stores of the last point tile the rows' window. -/
theorem rows_C (t : Fin cfg0.N) (h0 : ¬ t.val % 8 = 0) (h1 : t.val % 8 = 7) (j : S512x512.Idx) :
    (outsAt0 m c t.val t.isLt).1 j = dzG X Z P gq Wq gk Wk DQ DK DV t j := by
  rw [outsAt0_C m c t h0 h1]
  frame_open
  simp (disch := decide) only [↓ View.readCov_skip, ↓ View.readCov_cons_toLoadRect, ↓ View.readCov_fill]
  frame_out
  refine (View.canon_append_of_piecesOf (Val := Elt Ideal) (s := S512x512) (e := .bf16) (dzG X Z P gq Wq gk Wk DQ DK DV t) []
    [_, _, _] ⟨fun x => ?_, fun x => ?_, fun x => ?_, trivial⟩ j ?_)
  · idx_vars x
    refine Eq.trans (dkr_at h t _ ?_ x0 x1) (dz_r t _ x0 x1)
    exact fun r l => heads_real _ _ _ _ _ _ _ _ (fun q => wide (tail (DK (rb t r) (rs t r) q)) l) _
      (dkTail h t 128 (by decide) inb_S512x2048_S512x128_0_128 r l) (dkTail h t 384 (by decide) inb_S512x2048_S512x128_0_384 r l) (dkTail h t 640 (by decide) inb_S512x2048_S512x128_0_640 r l) (dkTail h t 896 (by decide) inb_S512x2048_S512x128_0_896 r l) (dkTail h t 1152 (by decide) inb_S512x2048_S512x128_0_1152 r l) (dkTail h t 1408 (by decide) inb_S512x2048_S512x128_0_1408 r l) (dkTail h t 1664 (by decide) inb_S512x2048_S512x128_0_1664 r l) (dkTail h t 1920 (by decide) inb_S512x2048_S512x128_0_1920 r l)
  · idx_vars x
    refine Eq.trans ?_ (dz_k t _ x0 x1)
    refine pay1_real _ _ (zk_at h t _) _ _ _ (dck_at h t _
      (fun r d => whole_read _ _ _ (dkG DK DV t) r d ?_ ?_)) _ gk (blk4 h t) x0 x1
    · exact ⟨dkOdd h t 1920 896 (by decide) inb_S512x1024_S512x128_0_896 inb_S512x2048_S512x128_0_1920,
    dkEven h t 1792 (by decide) inb_S512x2048_S512x128_0_1792 inb_S512x2048_S512x128_0_1792,
    dkOdd h t 1664 768 (by decide) inb_S512x1024_S512x128_0_768 inb_S512x2048_S512x128_0_1664,
    dkEven h t 1536 (by decide) inb_S512x2048_S512x128_0_1536 inb_S512x2048_S512x128_0_1536,
    dkOdd h t 1408 640 (by decide) inb_S512x1024_S512x128_0_640 inb_S512x2048_S512x128_0_1408,
    dkEven h t 1280 (by decide) inb_S512x2048_S512x128_0_1280 inb_S512x2048_S512x128_0_1280,
    dkOdd h t 1152 512 (by decide) inb_S512x1024_S512x128_0_512 inb_S512x2048_S512x128_0_1152,
    dkEven h t 1024 (by decide) inb_S512x2048_S512x128_0_1024 inb_S512x2048_S512x128_0_1024,
    dkOdd h t 896 384 (by decide) inb_S512x1024_S512x128_0_384 inb_S512x2048_S512x128_0_896,
    dkEven h t 768 (by decide) inb_S512x2048_S512x128_0_768 inb_S512x2048_S512x128_0_768,
    dkOdd h t 640 256 (by decide) inb_S512x1024_S512x128_0_256 inb_S512x2048_S512x128_0_640,
    dkEven h t 512 (by decide) inb_S512x2048_S512x128_0_512 inb_S512x2048_S512x128_0_512,
    dkOdd h t 384 128 (by decide) inb_S512x1024_S512x128_0_128 inb_S512x2048_S512x128_0_384,
    dkEven h t 256 (by decide) inb_S512x2048_S512x128_0_256 inb_S512x2048_S512x128_0_256,
    dkOdd h t 128 0 (by decide) inb_S512x1024_S512x128_0_0 inb_S512x2048_S512x128_0_128,
    dkEven h t 0 (by decide) inb_S512x2048_S512x128_0_0 inb_S512x2048_S512x128_0_0, trivial⟩
    · exact View.cover_of_tiled_head _ _ _ rfl
  · idx_vars x
    refine Eq.trans ?_ (dz_q t _ x0 x1)
    refine pay76_real _ _ (zq_at h t _) _ _ (dcq_at h t _
      (fun r d => whole_read _ _ _ (dqG P DQ t) r d ?_ ?_)) _ gq (blk3 h t) x0 x1
    · exact ⟨dqOdd h t 1920 (by decide) inb_S512x2048_S512x128_0_1920 inb_S512x2048_S512x128_0_1920,
    dqEven h t 1792 (by decide) inb_S512x2048_S512x128_0_1792 inb_S512x2048_S512x128_0_1792,
    dqOdd h t 1664 (by decide) inb_S512x2048_S512x128_0_1664 inb_S512x2048_S512x128_0_1664,
    dqEven h t 1536 (by decide) inb_S512x2048_S512x128_0_1536 inb_S512x2048_S512x128_0_1536,
    dqOdd h t 1408 (by decide) inb_S512x2048_S512x128_0_1408 inb_S512x2048_S512x128_0_1408,
    dqEven h t 1280 (by decide) inb_S512x2048_S512x128_0_1280 inb_S512x2048_S512x128_0_1280,
    dqOdd h t 1152 (by decide) inb_S512x2048_S512x128_0_1152 inb_S512x2048_S512x128_0_1152,
    dqEven h t 1024 (by decide) inb_S512x2048_S512x128_0_1024 inb_S512x2048_S512x128_0_1024,
    dqOdd h t 896 (by decide) inb_S512x2048_S512x128_0_896 inb_S512x2048_S512x128_0_896,
    dqEven h t 768 (by decide) inb_S512x2048_S512x128_0_768 inb_S512x2048_S512x128_0_768,
    dqOdd h t 640 (by decide) inb_S512x2048_S512x128_0_640 inb_S512x2048_S512x128_0_640,
    dqEven h t 512 (by decide) inb_S512x2048_S512x128_0_512 inb_S512x2048_S512x128_0_512,
    dqOdd h t 384 (by decide) inb_S512x2048_S512x128_0_384 inb_S512x2048_S512x128_0_384,
    dqEven h t 256 (by decide) inb_S512x2048_S512x128_0_256 inb_S512x2048_S512x128_0_256,
    dqOdd h t 128 (by decide) inb_S512x2048_S512x128_0_128 inb_S512x2048_S512x128_0_128,
    dqEven h t 0 (by decide) inb_S512x2048_S512x128_0_0 inb_S512x2048_S512x128_0_0, trivial⟩
    · exact View.cover_of_tiled_head _ _ _ rfl
  · exact View.cover_of_tiledBy _ ![512, 128] (by sl_kernel_rfl) j

end Cert.MlaPrepIdeal.Final

end
-- ==== Proof.MlaPrep.RowsAll.lean ====
/- A block's rows of gradients at every grid point. -/
module

public import proofs.«01_k».proof.Proof.MlaPrep.RowsA
public import proofs.«01_k».proof.Proof.MlaPrep.RowsB
public import proofs.«01_k».proof.Proof.MlaPrep.RowsC
public import Idealize.ShloMosaic.Lib.Pipeline.ReadBack

@[expose] public section

set_option maxRecDepth 16384

noncomputable section

namespace Cert.MlaPrepIdeal.Final

open Idealize.ShloMosaic Idealize.ShloMosaic.TcCoe Idealize.SL.Sem
open Cert.MlaPrepIdeal Cert.MlaPrepIdeal.Gen Cert.MlaPrepIdeal.Body Cert.Reals Cert.MlaSpec Cert.Tokens

variable {m : (ℓ : Loc nD τ sig) → Buf (Elt Ideal) ℓ} {c : Dev nD}
  {X : Fin 2 → Fin 2048 → Fin 256 → ℝ} {Z : Fin 2 → Fin 2048 → Fin 128 → ℝ} {P : Fin 2 → Fin 2048 → ℝ}
  {gq : Fin 256 → ℝ} {Wq : Fin 256 → Fin 1536 → ℝ} {gk : Fin 128 → ℝ} {Wk : Fin 128 → Fin 2048 → ℝ}
  {DQ DK : Fin 2 → Fin 2048 → Fin 8 → Fin 192 → ℝ} {DV : Fin 2 → Fin 2048 → Fin 8 → Fin 128 → ℝ}

variable (h : Args m c X Z P gq Wq gk Wk DQ DK DV)
include h

/-- What every grid point leaves in the rows' window. -/
theorem rows_at (t : Fin cfg0.N) (j : S512x512.Idx) :
    (outsAt0 m c t.val t.isLt).1 j = dzG X Z P gq Wq gk Wk DQ DK DV t j := by
  by_cases h0 : t.val % 8 = 0
  · exact rows_A h t h0 (by omega) j
  · by_cases h1 : t.val % 8 = 7
    · exact rows_C h t h0 h1 j
    · exact rows_B h t h0 h1 j

end Cert.MlaPrepIdeal.Final

end
-- ==== Proof.MlaPrep.Arrays.lean ====
/- The five output arrays, each one function of the arguments. -/
module

public import proofs.«01_k».proof.Proof.MlaPrep.Last
public import proofs.«01_k».proof.Proof.MlaPrep.PointGQ
public import proofs.«01_k».proof.Proof.MlaPrep.PointGK
public import proofs.«01_k».proof.Proof.MlaPrep.RowsAll
public import Idealize.ShloMosaic.Lib.Pipeline.ReadBack

@[expose] public section

set_option maxRecDepth 16384

noncomputable section

namespace Cert.MlaPrepIdeal.Final

open Idealize.ShloMosaic Idealize.ShloMosaic.TcCoe Idealize.SL.Sem
open Cert.MlaPrepIdeal Cert.MlaPrepIdeal.Gen Cert.MlaPrepIdeal.Body Cert.Reals Cert.MlaSpec Cert.Tokens

variable {m : (ℓ : Loc nD τ sig) → Buf (Elt Ideal) ℓ} {c : Dev nD}
  {X : Fin 2 → Fin 2048 → Fin 256 → ℝ} {Z : Fin 2 → Fin 2048 → Fin 128 → ℝ} {P : Fin 2 → Fin 2048 → ℝ}
  {gq : Fin 256 → ℝ} {Wq : Fin 256 → Fin 1536 → ℝ} {gk : Fin 128 → ℝ} {Wk : Fin 128 → Fin 2048 → ℝ}
  {DQ DK : Fin 2 → Fin 2048 → Fin 8 → Fin 192 → ℝ} {DV : Fin 2 → Fin 2048 → Fin 8 → Fin 128 → ℝ}

variable (h : Args m c X Z P gq Wq gk Wk DQ DK DV)
include h

/-- The gradients of the projected rows, token by token. -/
theorem final10 : (dats m 0 c).arrAt 10 (cfgs 0).N
    = fun i : S4096x512.Idx => ((dzs X Z P gq Wq gk Wk DQ DK DV (tb (i 0).val (i 0).isLt) (ts (i 0).val) (i 1) : ℝ) : EReal) := by
  refine (dats m 0 c).arrAt_eq_of_covers 10 _ (by decide +kernel) fun t _ y => ?_
  have e : ∀ y : S512x512.Idx, ((dzs X Z P gq Wq gk Wk DQ DK DV (rb t (y 0)) (rs t (y 0)) (y 1) : ℝ) : EReal)
      = (fun i : S4096x512.Idx => ((dzs X Z P gq Wq gk Wk DQ DK DV (tb (i 0).val (i 0).isLt) (ts (i 0).val) (i 1) : ℝ) : EReal)) (((cfg0.win 10).blk t).view.emb y) := by
    intro y; idx_vars y; blk_simp [idx t]
    exact congrArg (fun z => ((dzs X Z P gq Wq gk Wk DQ DK DV _ _ z : ℝ) : EReal)) (Fin.ext (by blk_simp [idx t]))
  refine Eq.trans ?_ (e y)
  blk_simp
  rw [after0_10]
  exact rows_at h t y

/-- The gradient of the queries' weight, transposed and widened. -/
theorem final11 : (dats m 0 c).arrAt 11 (cfgs 0).N = fun i : S2048x256.Idx => ((dwq X P gq DQ (i 0) (i 1) : ℝ) : EReal) := by
  refine (dats m 0 c).arrAt_eq_of_after_last 11 t0_7 (by decide +kernel) _ fun j => ?_
  blk_simp
  refine (show _ = (outsAt0 m c t0_7.val t0_7.isLt).2.2.2.2.2.1 j from ?_).trans ?_
  · rw [after0_11]; idx_vars j; exact last_q h t0_7 (by decide) (by decide) j0 j1
  rw [Pipeline.eq_sum_fin_of_reset_step_apply_last (fun n h => (outsAt0 m c n h).2.2.2.2.2.1) 8 (fun _ => 0)
    (fun (p : Fin cfg0.N) (j : S2048x256.Idx) => ((∑ r, dqp P DQ (rb p r) (rs p r) (j 0) * (xh (X (rb p r) (rs p r)) (j 1) * gq (j 1)) : ℝ) : EReal))
    (fun t h0 j => by idx_vars j; exact accq_A h t h0 (by omega) j0 j1)
    (fun t h0 j => if h1 : t.val % 8 = 7 then (by idx_vars j; exact accq_C h t h0 h1 j0 j1)
      else (by idx_vars j; exact accq_B h t h0 h1 j0 j1))
    (le_of_eq N_0) t0_7 rfl j, zero_add]
  refine (coe_sum _ _).trans (congrArg _ ?_)
  show _ = dwq X P gq DQ (j 0) (j 1)
  unfold dwq
  rw [sum_tiles 8 512 rfl]
  rfl

/-- The gradient of the keys' and values' weight. -/
theorem final12 : (dats m 0 c).arrAt 12 (cfgs 0).N = fun i : S128x2048.Idx => ((dwk Z gk DK DV (i 0) (i 1) : ℝ) : EReal) := by
  refine (dats m 0 c).arrAt_eq_of_after_last 12 t0_7 (by decide +kernel) _ fun j => ?_
  blk_simp
  refine (show _ = (outsAt0 m c t0_7.val t0_7.isLt).2.2.2.2.2.2 j from ?_).trans ?_
  · rw [after0_12]; idx_vars j; exact last_k h t0_7 (by decide) (by decide) j0 j1
  rw [Pipeline.eq_sum_fin_of_reset_step_apply_last (fun n h => (outsAt0 m c n h).2.2.2.2.2.2) 8 (fun _ => 0)
    (fun (p : Fin cfg0.N) (j : S128x2048.Idx) => ((∑ r, xh (Z (rb p r) (rs p r)) (j 0) * gk (j 0) * dkv DK DV (rb p r) (rs p r) (j 1) : ℝ) : EReal))
    (fun t h0 j => by idx_vars j; exact acck_A h t h0 (by omega) j0 j1)
    (fun t h0 j => if h1 : t.val % 8 = 7 then (by idx_vars j; exact acck_C h t h0 h1 j0 j1)
      else (by idx_vars j; exact acck_B h t h0 h1 j0 j1))
    (le_of_eq N_0) t0_7 rfl j, zero_add]
  refine (coe_sum _ _).trans (congrArg _ ?_)
  show _ = dwk Z gk DK DV (j 0) (j 1)
  unfold dwk
  rw [sum_tiles 8 512 rfl]
  rfl

/-- The gradient of the queries' scale. -/
theorem final13 : (dats m 0 c).arrAt 13 (cfgs 0).N = fun i : S1x256.Idx => ((dgq X P Wq DQ (i 1) : ℝ) : EReal) := by
  refine (dats m 0 c).arrAt_eq_of_after_last 13 t0_7 (by decide +kernel) _ fun j => ?_
  blk_simp
  rw [after0_13, Pipeline.eq_sum_fin_of_reset_step_apply_last (fun n h => (outsAt0 m c n h).2.2.2.1) 8 (fun _ => 0)
    (fun (p : Fin cfg0.N) (j : S1x256.Idx) => ((∑ r, dcq P Wq DQ (rb p r) (rs p r) (j 1) * xh (X (rb p r) (rs p r)) (j 1) : ℝ) : EReal))
    (fun t h0 j => by idx_vars j; have e0 : j0 = 0 := Subsingleton.elim _ _; subst e0; exact gainq_A h t h0 (by omega) j1)
    (fun t h0 j => if h1 : t.val % 8 = 7 then (by idx_vars j; have e0 : j0 = 0 := Subsingleton.elim _ _; subst e0; exact gainq_C h t h0 h1 j1)
      else (by idx_vars j; have e0 : j0 = 0 := Subsingleton.elim _ _; subst e0; exact gainq_B h t h0 h1 j1))
    (le_of_eq N_0) t0_7 rfl j, zero_add]
  refine (coe_sum _ _).trans (congrArg _ ?_)
  show _ = dgq X P Wq DQ (j 1)
  unfold dgq
  rw [sum_tiles 8 512 rfl]
  rfl

/-- The gradient of the keys' scale. -/
theorem final14 : (dats m 0 c).arrAt 14 (cfgs 0).N = fun i : S1x128.Idx => ((dgk Z Wk DK DV (i 1) : ℝ) : EReal) := by
  refine (dats m 0 c).arrAt_eq_of_after_last 14 t0_7 (by decide +kernel) _ fun j => ?_
  blk_simp
  rw [after0_14, Pipeline.eq_sum_fin_of_reset_step_apply_last (fun n h => (outsAt0 m c n h).2.2.2.2.1) 8 (fun _ => 0)
    (fun (p : Fin cfg0.N) (j : S1x128.Idx) => ((∑ r, dck Wk DK DV (rb p r) (rs p r) (j 1) * xh (Z (rb p r) (rs p r)) (j 1) : ℝ) : EReal))
    (fun t h0 j => by idx_vars j; have e0 : j0 = 0 := Subsingleton.elim _ _; subst e0; exact gaink_A h t h0 (by omega) j1)
    (fun t h0 j => if h1 : t.val % 8 = 7 then (by idx_vars j; have e0 : j0 = 0 := Subsingleton.elim _ _; subst e0; exact gaink_C h t h0 h1 j1)
      else (by idx_vars j; have e0 : j0 = 0 := Subsingleton.elim _ _; subst e0; exact gaink_B h t h0 h1 j1))
    (le_of_eq N_0) t0_7 rfl j, zero_add]
  refine (coe_sum _ _).trans (congrArg _ ?_)
  show _ = dgk Z Wk DK DV (j 1)
  unfold dgk
  rw [sum_tiles 8 512 rfl]
  rfl

end Cert.MlaPrepIdeal.Final

end
-- ==== Proof.MlaPrep.Equal.lean ====
/- Latent projections: kernel and reference compute the same gradients over the reals. -/
module

public import proofs.«01_k».proof.Defs
public import proofs.«01_k».proof.Proof.Gen.Pre_mla_finite
public import proofs.«01_k».proof.Proof.Gen.MlaPrepIdeal.Value
public import proofs.«01_k».proof.Proof.Gen.MlaPrepRefIdeal.Run
public import proofs.«01_k».proof.Proof.MlaPrep.RefRows
public import proofs.«01_k».proof.Proof.MlaPrep.Arrays
public import Idealize.ShloMosaic.Lib.Claim

@[expose] public section

set_option maxRecDepth 16384

noncomputable section

namespace Cert.MlaPrepIdeal.Equal

open Idealize.ShloMosaic Idealize.ShloMosaic.TcCoe Idealize.SL.Sem
open Cert.MlaPrepIdeal Cert.MlaPrepIdeal.Gen Cert.MlaPrepIdeal.Body Cert.MlaPrepIdeal.Final Cert.Reals Cert.MlaSpec Cert.Tokens

/-- The finite arguments are images of their real parts; the positions are integers. -/
theorem args_of_pre (m : (ℓ : Loc nD τ sig) → Buf (Elt Ideal) ℓ) (hp : Cert.Pre_MlaPrepIdeal_mla_finite m) (c : Dev nD) :
    ∃ X Z P gq Wq gk Wk DQ DK DV, Args m c X Z P gq Wq gk Wk DQ DK DV := by
  obtain ⟨p0, p1, p2, p4, p5, p6, p7, p8, p9, p10⟩ := hp c
  exact ⟨_, _, _, _, _, _, _, _, _, _, fun _ _ _ => real_of_abs_lt _ _ p0 _, fun _ _ _ => real_of_abs_lt _ _ p1 _,
    fun _ _ => rfl, fun _ => real_of_abs_lt _ _ p4 _, fun _ _ => real_of_abs_lt _ _ p5 _,
    fun _ => real_of_abs_lt _ _ p6 _, fun _ _ => real_of_abs_lt _ _ p7 _, fun _ _ _ _ => real_of_abs_lt _ _ p8 _,
    fun _ _ _ _ => real_of_abs_lt _ _ p9 _, fun _ _ _ _ => real_of_abs_lt _ _ p10 _⟩

open Cert.MlaPrepRefIdeal.Read Cert.MlaPrepRefIdeal.Reads

variable {m : (ℓ : Loc nD τ sig) → Buf (Elt Ideal) ℓ} {c : Dev nD}
  {X : Fin 2 → Fin 2048 → Fin 256 → ℝ} {Z : Fin 2 → Fin 2048 → Fin 128 → ℝ} {P : Fin 2 → Fin 2048 → ℝ}
  {gq : Fin 256 → ℝ} {Wq : Fin 256 → Fin 1536 → ℝ} {gk : Fin 128 → ℝ} {Wk : Fin 128 → Fin 2048 → ℝ}
  {DQ DK : Fin 2 → Fin 2048 → Fin 8 → Fin 192 → ℝ} {DV : Fin 2 → Fin 2048 → Fin 8 → Fin 128 → ℝ}
  (h : Args m c X Z P gq Wq gk Wk DQ DK DV)
include h

/-! The reference's five results. -/

theorem ref_dz : val_main_v178 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
    = fun i : S4096x512.Idx => ((dzs X Z P gq Wq gk Wk DQ DK DV (tb (i 0).val (i 0).isLt) (ts (i 0).val) (i 1) : ℝ) : EReal) := by
  funext i
  exact v178_real _ _ _ _ _ _ _ _ _ _ X Z P gq Wq gk Wk DQ DK DV h.hX h.hZ h.hP h.hgq h.hWq h.hgk h.hWk h.hDQ h.hDK h.hDV i

theorem ref_dwq : val_main_v180 (F := Ideal) (m ((c : Thread nD τ).loc main_arg0)) (m ((c : Thread nD τ).loc main_arg3)) (m ((c : Thread nD τ).loc main_arg4)) (m ((c : Thread nD τ).loc main_arg8))
    = fun i : S2048x256.Idx => ((dwq X P gq DQ (i 0) (i 1) : ℝ) : EReal) := by
  funext i
  idx_vars i
  exact v180_real _ _ _ _ X P gq DQ h.hX h.hP h.hgq h.hDQ i0 i1

theorem ref_dwk : val_main_v181 (F := Ideal) (m ((c : Thread nD τ).loc main_arg1)) (m ((c : Thread nD τ).loc main_arg6)) (m ((c : Thread nD τ).loc main_arg9)) (m ((c : Thread nD τ).loc main_arg10))
    = fun i : S128x2048.Idx => ((dwk Z gk DK DV (i 0) (i 1) : ℝ) : EReal) := by
  funext i
  idx_vars i
  exact v181_real _ _ _ _ Z gk DK DV h.hZ h.hgk h.hDK h.hDV i0 i1

theorem ref_dgq : val_main_v182 (F := Ideal) (m ((c : Thread nD τ).loc main_arg0)) (m ((c : Thread nD τ).loc main_arg3)) (m ((c : Thread nD τ).loc main_arg5)) (m ((c : Thread nD τ).loc main_arg8))
    = fun i : S1x256.Idx => ((dgq X P Wq DQ (i 1) : ℝ) : EReal) := by
  funext i
  refine Eq.trans (congrArg _ ?_) (v182_real _ _ _ _ X P Wq DQ h.hX h.hP h.hWq h.hDQ (i 1))
  idx_vars i
  idx_ext

theorem ref_dgk : val_main_v183 (F := Ideal) (m ((c : Thread nD τ).loc main_arg1)) (m ((c : Thread nD τ).loc main_arg7)) (m ((c : Thread nD τ).loc main_arg9)) (m ((c : Thread nD τ).loc main_arg10))
    = fun i : S1x128.Idx => ((dgk Z Wk DK DV (i 1) : ℝ) : EReal) := by
  funext i
  refine Eq.trans (congrArg _ ?_) (v183_real _ _ _ _ Z Wk DK DV h.hZ h.hWk h.hDK h.hDV (i 1))
  idx_vars i
  idx_ext

omit h in
/-- The reference's run, each result the last stage of its arguments. -/
theorem ref_run (m : (ℓ : Loc Cert.MlaPrepRefIdeal.nD Cert.MlaPrepRefIdeal.τ Cert.MlaPrepRefIdeal.sig) → Buf (Elt Ideal) ℓ) (ρ : Dev Cert.MlaPrepRefIdeal.nD → PrngReg) :
    θ_run Cert.MlaPrepRefIdeal.defs (onTc (τ := Cert.MlaPrepRefIdeal.τ) (Cert.MlaPrepRefIdeal.main (F := Ideal))) ⟨m, fun _ => 0, ρ⟩ fun r => ∀ c : Dev Cert.MlaPrepRefIdeal.nD,
      r.2.mem ((c.tc : Thread Cert.MlaPrepRefIdeal.nD Cert.MlaPrepRefIdeal.τ).loc Cert.MlaPrepRefIdeal.main_v178) = val_main_v178 (F := Ideal) (m ((c.tc : Thread Cert.MlaPrepRefIdeal.nD Cert.MlaPrepRefIdeal.τ).loc Cert.MlaPrepRefIdeal.main_arg0)) (m ((c.tc : Thread Cert.MlaPrepRefIdeal.nD Cert.MlaPrepRefIdeal.τ).loc Cert.MlaPrepRefIdeal.main_arg1)) (m ((c.tc : Thread Cert.MlaPrepRefIdeal.nD Cert.MlaPrepRefIdeal.τ).loc Cert.MlaPrepRefIdeal.main_arg3)) (m ((c.tc : Thread Cert.MlaPrepRefIdeal.nD Cert.MlaPrepRefIdeal.τ).loc Cert.MlaPrepRefIdeal.main_arg4)) (m ((c.tc : Thread Cert.MlaPrepRefIdeal.nD Cert.MlaPrepRefIdeal.τ).loc Cert.MlaPrepRefIdeal.main_arg5)) (m ((c.tc : Thread Cert.MlaPrepRefIdeal.nD Cert.MlaPrepRefIdeal.τ).loc Cert.MlaPrepRefIdeal.main_arg6)) (m ((c.tc : Thread Cert.MlaPrepRefIdeal.nD Cert.MlaPrepRefIdeal.τ).loc Cert.MlaPrepRefIdeal.main_arg7)) (m ((c.tc : Thread Cert.MlaPrepRefIdeal.nD Cert.MlaPrepRefIdeal.τ).loc Cert.MlaPrepRefIdeal.main_arg8)) (m ((c.tc : Thread Cert.MlaPrepRefIdeal.nD Cert.MlaPrepRefIdeal.τ).loc Cert.MlaPrepRefIdeal.main_arg9)) (m ((c.tc : Thread Cert.MlaPrepRefIdeal.nD Cert.MlaPrepRefIdeal.τ).loc Cert.MlaPrepRefIdeal.main_arg10))
      ∧ r.2.mem ((c.tc : Thread Cert.MlaPrepRefIdeal.nD Cert.MlaPrepRefIdeal.τ).loc Cert.MlaPrepRefIdeal.main_v180) = val_main_v180 (F := Ideal) (m ((c.tc : Thread Cert.MlaPrepRefIdeal.nD Cert.MlaPrepRefIdeal.τ).loc Cert.MlaPrepRefIdeal.main_arg0)) (m ((c.tc : Thread Cert.MlaPrepRefIdeal.nD Cert.MlaPrepRefIdeal.τ).loc Cert.MlaPrepRefIdeal.main_arg3)) (m ((c.tc : Thread Cert.MlaPrepRefIdeal.nD Cert.MlaPrepRefIdeal.τ).loc Cert.MlaPrepRefIdeal.main_arg4)) (m ((c.tc : Thread Cert.MlaPrepRefIdeal.nD Cert.MlaPrepRefIdeal.τ).loc Cert.MlaPrepRefIdeal.main_arg8))
      ∧ r.2.mem ((c.tc : Thread Cert.MlaPrepRefIdeal.nD Cert.MlaPrepRefIdeal.τ).loc Cert.MlaPrepRefIdeal.main_v181) = val_main_v181 (F := Ideal) (m ((c.tc : Thread Cert.MlaPrepRefIdeal.nD Cert.MlaPrepRefIdeal.τ).loc Cert.MlaPrepRefIdeal.main_arg1)) (m ((c.tc : Thread Cert.MlaPrepRefIdeal.nD Cert.MlaPrepRefIdeal.τ).loc Cert.MlaPrepRefIdeal.main_arg6)) (m ((c.tc : Thread Cert.MlaPrepRefIdeal.nD Cert.MlaPrepRefIdeal.τ).loc Cert.MlaPrepRefIdeal.main_arg9)) (m ((c.tc : Thread Cert.MlaPrepRefIdeal.nD Cert.MlaPrepRefIdeal.τ).loc Cert.MlaPrepRefIdeal.main_arg10))
      ∧ r.2.mem ((c.tc : Thread Cert.MlaPrepRefIdeal.nD Cert.MlaPrepRefIdeal.τ).loc Cert.MlaPrepRefIdeal.main_v182) = val_main_v182 (F := Ideal) (m ((c.tc : Thread Cert.MlaPrepRefIdeal.nD Cert.MlaPrepRefIdeal.τ).loc Cert.MlaPrepRefIdeal.main_arg0)) (m ((c.tc : Thread Cert.MlaPrepRefIdeal.nD Cert.MlaPrepRefIdeal.τ).loc Cert.MlaPrepRefIdeal.main_arg3)) (m ((c.tc : Thread Cert.MlaPrepRefIdeal.nD Cert.MlaPrepRefIdeal.τ).loc Cert.MlaPrepRefIdeal.main_arg5)) (m ((c.tc : Thread Cert.MlaPrepRefIdeal.nD Cert.MlaPrepRefIdeal.τ).loc Cert.MlaPrepRefIdeal.main_arg8))
      ∧ r.2.mem ((c.tc : Thread Cert.MlaPrepRefIdeal.nD Cert.MlaPrepRefIdeal.τ).loc Cert.MlaPrepRefIdeal.main_v183) = val_main_v183 (F := Ideal) (m ((c.tc : Thread Cert.MlaPrepRefIdeal.nD Cert.MlaPrepRefIdeal.τ).loc Cert.MlaPrepRefIdeal.main_arg1)) (m ((c.tc : Thread Cert.MlaPrepRefIdeal.nD Cert.MlaPrepRefIdeal.τ).loc Cert.MlaPrepRefIdeal.main_arg7)) (m ((c.tc : Thread Cert.MlaPrepRefIdeal.nD Cert.MlaPrepRefIdeal.τ).loc Cert.MlaPrepRefIdeal.main_arg9)) (m ((c.tc : Thread Cert.MlaPrepRefIdeal.nD Cert.MlaPrepRefIdeal.τ).loc Cert.MlaPrepRefIdeal.main_arg10))
      ∧ r.2.mem ((c.tc : Thread Cert.MlaPrepRefIdeal.nD Cert.MlaPrepRefIdeal.τ).loc Cert.MlaPrepRefIdeal.main_arg0) = m ((c.tc : Thread Cert.MlaPrepRefIdeal.nD Cert.MlaPrepRefIdeal.τ).loc Cert.MlaPrepRefIdeal.main_arg0)
      ∧ r.2.mem ((c.tc : Thread Cert.MlaPrepRefIdeal.nD Cert.MlaPrepRefIdeal.τ).loc Cert.MlaPrepRefIdeal.main_arg1) = m ((c.tc : Thread Cert.MlaPrepRefIdeal.nD Cert.MlaPrepRefIdeal.τ).loc Cert.MlaPrepRefIdeal.main_arg1)
      ∧ r.2.mem ((c.tc : Thread Cert.MlaPrepRefIdeal.nD Cert.MlaPrepRefIdeal.τ).loc Cert.MlaPrepRefIdeal.main_arg2) = m ((c.tc : Thread Cert.MlaPrepRefIdeal.nD Cert.MlaPrepRefIdeal.τ).loc Cert.MlaPrepRefIdeal.main_arg2)
      ∧ r.2.mem ((c.tc : Thread Cert.MlaPrepRefIdeal.nD Cert.MlaPrepRefIdeal.τ).loc Cert.MlaPrepRefIdeal.main_arg3) = m ((c.tc : Thread Cert.MlaPrepRefIdeal.nD Cert.MlaPrepRefIdeal.τ).loc Cert.MlaPrepRefIdeal.main_arg3)
      ∧ r.2.mem ((c.tc : Thread Cert.MlaPrepRefIdeal.nD Cert.MlaPrepRefIdeal.τ).loc Cert.MlaPrepRefIdeal.main_arg4) = m ((c.tc : Thread Cert.MlaPrepRefIdeal.nD Cert.MlaPrepRefIdeal.τ).loc Cert.MlaPrepRefIdeal.main_arg4)
      ∧ r.2.mem ((c.tc : Thread Cert.MlaPrepRefIdeal.nD Cert.MlaPrepRefIdeal.τ).loc Cert.MlaPrepRefIdeal.main_arg5) = m ((c.tc : Thread Cert.MlaPrepRefIdeal.nD Cert.MlaPrepRefIdeal.τ).loc Cert.MlaPrepRefIdeal.main_arg5)
      ∧ r.2.mem ((c.tc : Thread Cert.MlaPrepRefIdeal.nD Cert.MlaPrepRefIdeal.τ).loc Cert.MlaPrepRefIdeal.main_arg6) = m ((c.tc : Thread Cert.MlaPrepRefIdeal.nD Cert.MlaPrepRefIdeal.τ).loc Cert.MlaPrepRefIdeal.main_arg6)
      ∧ r.2.mem ((c.tc : Thread Cert.MlaPrepRefIdeal.nD Cert.MlaPrepRefIdeal.τ).loc Cert.MlaPrepRefIdeal.main_arg7) = m ((c.tc : Thread Cert.MlaPrepRefIdeal.nD Cert.MlaPrepRefIdeal.τ).loc Cert.MlaPrepRefIdeal.main_arg7)
      ∧ r.2.mem ((c.tc : Thread Cert.MlaPrepRefIdeal.nD Cert.MlaPrepRefIdeal.τ).loc Cert.MlaPrepRefIdeal.main_arg8) = m ((c.tc : Thread Cert.MlaPrepRefIdeal.nD Cert.MlaPrepRefIdeal.τ).loc Cert.MlaPrepRefIdeal.main_arg8)
      ∧ r.2.mem ((c.tc : Thread Cert.MlaPrepRefIdeal.nD Cert.MlaPrepRefIdeal.τ).loc Cert.MlaPrepRefIdeal.main_arg9) = m ((c.tc : Thread Cert.MlaPrepRefIdeal.nD Cert.MlaPrepRefIdeal.τ).loc Cert.MlaPrepRefIdeal.main_arg9)
      ∧ r.2.mem ((c.tc : Thread Cert.MlaPrepRefIdeal.nD Cert.MlaPrepRefIdeal.τ).loc Cert.MlaPrepRefIdeal.main_arg10) = m ((c.tc : Thread Cert.MlaPrepRefIdeal.nD Cert.MlaPrepRefIdeal.τ).loc Cert.MlaPrepRefIdeal.main_arg10) :=
  (θ_run Cert.MlaPrepRefIdeal.defs _ _).mono (fun r h c => ⟨(h c).1.trans (val_main_v178_eq (StableHlo.launchContents m c)),
    (h c).2.1.trans (val_main_v180_eq (StableHlo.launchContents m c)),
    (h c).2.2.1.trans (val_main_v181_eq (StableHlo.launchContents m c)),
    (h c).2.2.2.1.trans (val_main_v182_eq (StableHlo.launchContents m c)),
    (h c).2.2.2.2.1.trans (val_main_v183_eq (StableHlo.launchContents m c)),
    (h c).2.2.2.2.2⟩) (Cert.MlaPrepRefIdeal.Value.run m ρ)

omit h in
/-- The kernel and the reference end with equal arrays. -/
theorem claim : Cert.algebraic_MlaPrepIdeal_MlaPrepRefIdeal_pre_mla_finite := by
  pair_intro
  · run_from Cert.MlaPrepIdeal.Value.run_blocks m g
  · run_from ref_run m' g'
    all_goals obtain ⟨X, Z, P, gq, Wq, gk, Wk, DQ, DK, DV, h⟩ := args_of_pre m hpre c
    · exact (ref_dz h).trans (final10 h).symm
    · exact (ref_dwq h).trans (final11 h).symm
    · exact (ref_dwk h).trans (final12 h).symm
    · exact (ref_dgq h).trans (final13 h).symm
    · exact (ref_dgk h).trans (final14 h).symm

omit h in
/-- The reference runs, keeps its arguments and leaves every counter at zero. -/
theorem ref_frame : Cert.quiescent_MlaPrepRefIdeal := fun m ρ _ =>
  (θ_run Cert.MlaPrepRefIdeal.defs _ _).mono (fun r h => ⟨fun c => (h c).2.2.2.2.2, sem_eq_zero_of_no_sems (by decide) r.2⟩)
    (Cert.MlaPrepRefIdeal.Value.run m ρ)

end Cert.MlaPrepIdeal.Equal

end
-- ==== Proof.lean ====
/- The certificate: each program's frame, and for each pair the equality of its results over the reals. -/
module

public import proofs.«01_k».proof.Defs
public import proofs.«01_k».proof.Proof.Gen.DownLoss
public import proofs.«01_k».proof.Proof.Gen.DownLoss.Frame
public import proofs.«01_k».proof.Proof.Gen.DownLossIdeal
public import proofs.«01_k».proof.Proof.Gen.DownLossIdeal.Frame
public import proofs.«01_k».proof.Proof.Gen.DownLossRefIdeal
public import proofs.«01_k».proof.Proof.Gen.Pre_down_finite
public import proofs.«01_k».proof.Proof.Gen.DownLossIdeal.Value
public import proofs.«01_k».proof.Proof.Gen.DownLossRefIdeal.Run
public import proofs.«01_k».proof.Proof.Gen.DownLossRefIdeal.Read
public import proofs.«01_k».proof.Proof.Gen.UpProj
public import proofs.«01_k».proof.Proof.Gen.UpProj.Frame
public import proofs.«01_k».proof.Proof.Gen.UpProjIdeal
public import proofs.«01_k».proof.Proof.Gen.UpProjIdeal.Frame
public import proofs.«01_k».proof.Proof.Gen.UpProjRefIdeal
public import proofs.«01_k».proof.Proof.Gen.Pre_up_finite
public import proofs.«01_k».proof.Proof.Gen.UpProjIdeal.Value
public import proofs.«01_k».proof.Proof.Gen.UpProjRefIdeal.Run
public import proofs.«01_k».proof.Proof.Gen.UpProjRefIdeal.Read
public import proofs.«01_k».proof.Proof.Gen.InProj
public import proofs.«01_k».proof.Proof.Gen.InProj.Frame
public import proofs.«01_k».proof.Proof.Gen.InProjIdeal
public import proofs.«01_k».proof.Proof.Gen.InProjIdeal.Frame
public import proofs.«01_k».proof.Proof.Gen.InProjRefIdeal
public import proofs.«01_k».proof.Proof.Gen.Pre_in_finite
public import proofs.«01_k».proof.Proof.Gen.InProjIdeal.Value
public import proofs.«01_k».proof.Proof.Gen.InProjRefIdeal.Run
public import proofs.«01_k».proof.Proof.Gen.InProjRefIdeal.Read
public import proofs.«01_k».proof.Proof.Gen.Attn
public import proofs.«01_k».proof.Proof.Gen.Attn.Frame
public import proofs.«01_k».proof.Proof.Gen.AttnIdeal
public import proofs.«01_k».proof.Proof.Gen.AttnIdeal.Frame
public import proofs.«01_k».proof.Proof.Gen.AttnRefIdeal
public import proofs.«01_k».proof.Proof.Gen.Pre_attn_finite
public import proofs.«01_k».proof.Proof.Gen.AttnRefIdeal.Run
public import proofs.«01_k».proof.Proof.Gen.AttnRefIdeal.Read
public import proofs.«01_k».proof.Proof.Gen.Mixer
public import proofs.«01_k».proof.Proof.Gen.Mixer.Frame
public import proofs.«01_k».proof.Proof.Gen.MixerIdeal
public import proofs.«01_k».proof.Proof.Gen.MixerIdeal.Frame
public import proofs.«01_k».proof.Proof.Gen.MixerRefIdeal
public import proofs.«01_k».proof.Proof.Gen.Pre_mix_finite
public import proofs.«01_k».proof.Proof.Gen.MixerIdeal.Value
public import proofs.«01_k».proof.Proof.Gen.MixerRefIdeal.Run
public import proofs.«01_k».proof.Proof.Gen.MixerRefIdeal.Read
public import proofs.«01_k».proof.Proof.Gen.MlaPrep
public import proofs.«01_k».proof.Proof.Gen.MlaPrep.Frame
public import proofs.«01_k».proof.Proof.Gen.MlaPrepIdeal
public import proofs.«01_k».proof.Proof.Gen.MlaPrepIdeal.Frame
public import proofs.«01_k».proof.Proof.Gen.MlaPrepRefIdeal
public import proofs.«01_k».proof.Proof.Gen.Pre_mla_finite
public import proofs.«01_k».proof.Proof.Gen.MlaPrepIdeal.Value
public import proofs.«01_k».proof.Proof.Gen.MlaPrepRefIdeal.Run
public import proofs.«01_k».proof.Proof.Gen.MlaPrepRefIdeal.Read
public import proofs.«01_k».proof.Proof.DownLoss.Equal
public import proofs.«01_k».proof.Proof.UpProj.Equal
public import proofs.«01_k».proof.Proof.InProj.Equal
public import proofs.«01_k».proof.Proof.Attn.Equal
public import proofs.«01_k».proof.Proof.Mixer.Equal
public import proofs.«01_k».proof.Proof.MlaPrep.Equal
public import Idealize.ShloMosaic.Adequacy
public import Idealize.ShloMosaic.Init

@[expose] public section

noncomputable section

namespace Cert.Proof

/-- Pair by pair: the frames of the kernel, of its ideal reading and of the reference, the ideal reading's
    derivation, and the equality of the results. -/
theorem claim : Cert.Claim := ⟨Cert.DownLoss.Gen.facts, Cert.DownLossIdeal.Gen.facts, Cert.DownLossRefIdeal.Gen.facts,
  Cert.UpProj.Gen.facts, Cert.UpProjIdeal.Gen.facts, Cert.UpProjRefIdeal.Gen.facts,
  Cert.InProj.Gen.facts, Cert.InProjIdeal.Gen.facts, Cert.InProjRefIdeal.Gen.facts,
  Cert.Attn.Gen.facts, Cert.AttnIdeal.Gen.facts, Cert.AttnRefIdeal.Gen.facts,
  Cert.Mixer.Gen.facts, Cert.MixerIdeal.Gen.facts, Cert.MixerRefIdeal.Gen.facts,
  Cert.MlaPrep.Gen.facts, Cert.MlaPrepIdeal.Gen.facts, Cert.MlaPrepRefIdeal.Gen.facts,
  Cert.Pre_down_finite.Gen.facts, Cert.Pre_up_finite.Gen.facts, Cert.Pre_in_finite.Gen.facts,
  Cert.Pre_attn_finite.Gen.facts, Cert.Pre_mix_finite.Gen.facts, Cert.Pre_mla_finite.Gen.facts,
  fun m ρ _ => Cert.DownLoss.Gen.frame m ρ, fun m ρ _ => Cert.DownLossIdeal.Gen.frame m ρ, fun m ρ _ => Cert.DownLossIdeal.Gen.frame m ρ,
  Cert.DownLossIdeal.Equal.ref_frame, fun m ρ _ => Cert.DownLossIdeal.Equal.ref_frame m ρ trivial,
  fun m ρ _ => Cert.UpProj.Gen.frame m ρ, fun m ρ _ => Cert.UpProjIdeal.Gen.frame m ρ, fun m ρ _ => Cert.UpProjIdeal.Gen.frame m ρ,
  Cert.UpProjIdeal.Equal.ref_frame, fun m ρ _ => Cert.UpProjIdeal.Equal.ref_frame m ρ trivial,
  fun m ρ _ => Cert.InProj.Gen.frame m ρ, fun m ρ _ => Cert.InProjIdeal.Gen.frame m ρ, fun m ρ _ => Cert.InProjIdeal.Gen.frame m ρ,
  Cert.InProjIdeal.Equal.ref_frame, fun m ρ _ => Cert.InProjIdeal.Equal.ref_frame m ρ trivial,
  fun m ρ _ => Cert.Attn.Gen.frame m ρ, fun m ρ _ => Cert.AttnIdeal.Gen.frame m ρ, fun m ρ _ => Cert.AttnIdeal.Gen.frame m ρ,
  Cert.AttnIdeal.Equal.ref_frame, fun m ρ _ => Cert.AttnIdeal.Equal.ref_frame m ρ trivial,
  fun m ρ _ => Cert.Mixer.Gen.frame m ρ, fun m ρ _ => Cert.MixerIdeal.Gen.frame m ρ, fun m ρ _ => Cert.MixerIdeal.Gen.frame m ρ,
  Cert.MixerIdeal.Equal.ref_frame, fun m ρ _ => Cert.MixerIdeal.Equal.ref_frame m ρ trivial,
  fun m ρ _ => Cert.MlaPrep.Gen.frame m ρ, fun m ρ _ => Cert.MlaPrepIdeal.Gen.frame m ρ, fun m ρ _ => Cert.MlaPrepIdeal.Gen.frame m ρ,
  Cert.MlaPrepIdeal.Equal.ref_frame, fun m ρ _ => Cert.MlaPrepIdeal.Equal.ref_frame m ρ trivial,
  trivial, Cert.DownLossIdeal.Equal.claim,
  trivial, Cert.UpProjIdeal.Equal.claim,
  trivial, Cert.InProjIdeal.Equal.claim,
  Cert.AttnIdeal.Equal.preserves, Cert.AttnIdeal.Equal.claim,
  Cert.MixerIdeal.Equal.preserves, Cert.MixerIdeal.Equal.claim,
  trivial, Cert.MlaPrepIdeal.Equal.claim⟩

end Cert.Proof

end
